-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4)
      ∧ r.2.mem ((c.tc : Thread Cert.Kernel26.nD Cert.Kernel26.τ).loc Cert.Kernel26.main_arg5) = m ((c.tc : Thread Cert.Kernel26.nD Cert.Kernel26.τ).loc Cert.Kernel26.main_arg5)
      ∧ r.2.mem ((c.tc : Thread Cert.Kernel26.nD Cert.Kernel26.τ).loc Cert.Kernel26.main_arg6) = m ((c.tc : Thread Cert.Kernel26.nD Cert.Kernel26.τ).loc Cert.Kernel26.main_arg6)
      ∧ r.2.mem ((c.tc : Thread Cert.Kernel26.nD Cert.Kernel26.τ).loc Cert.Kernel26.main_arg7) = m ((c.tc : Thread Cert.Kernel26.nD Cert.Kernel26.τ).loc Cert.Kernel26.main_arg7)
      ∧ r.2.mem ((c.tc : Thread Cert.Kernel26.nD Cert.Kernel26.τ).loc Cert.Kernel26.main_arg8) = m ((c.tc : Thread Cert.Kernel26.nD Cert.Kernel26.τ).loc Cert.Kernel26.main_arg8)
      ∧ r.2.mem ((c.tc : Thread Cert.Kernel26.nD Cert.Kernel26.τ).loc Cert.Kernel26.main_arg9) = m ((c.tc : Thread Cert.Kernel26.nD Cert.Kernel26.τ).loc Cert.Kernel26.main_arg9)
      ∧ r.2.mem ((c.tc : Thread Cert.Kernel26.nD Cert.Kernel26.τ).loc Cert.Kernel26.main_arg10) = m ((c.tc : Thread Cert.Kernel26.nD Cert.Kernel26.τ).loc Cert.Kernel26.main_arg10)
      ∧ r.2.mem ((c.tc : Thread Cert.Kernel26.nD Cert.Kernel26.τ).loc Cert.Kernel26.main_arg11) = m ((c.tc : Thread Cert.Kernel26.nD Cert.Kernel26.τ).loc Cert.Kernel26.main_arg11)
      ∧ r.2.mem ((c.tc : Thread Cert.Kernel26.nD Cert.Kernel26.τ).loc Cert.Kernel26.main_arg12) = m ((c.tc : Thread Cert.Kernel26.nD Cert.Kernel26.τ).loc Cert.Kernel26.main_arg12)
      ∧ r.2.mem ((c.tc : Thread Cert.Kernel26.nD Cert.Kernel26.τ).loc Cert.Kernel26.main_arg13) = m ((c.tc : Thread Cert.Kernel26.nD Cert.Kernel26.τ).loc Cert.Kernel26.main_arg13)
      ∧ r.2.mem ((c.tc : Thread Cert.Kernel26.nD Cert.Kernel26.τ).loc Cert.Kernel26.main_arg14) = m ((c.tc : Thread Cert.Kernel26.nD Cert.Kernel26.τ).loc Cert.Kernel26.main_arg14)
      ∧ r.2.mem ((c.tc : Thread Cert.Kernel26.nD Cert.Kernel26.τ).loc Cert.Kernel26.main_arg15) = m ((c.tc : Thread Cert.Kernel26.nD Cert.Kernel26.τ).loc Cert.Kernel26.main_arg15)
      ∧ r.2.mem ((c.tc : Thread Cert.Kernel26.nD Cert.Kernel26.τ).loc Cert.Kernel26.main_arg16) = m ((c.tc : Thread Cert.Kernel26.nD Cert.Kernel26.τ).loc Cert.Kernel26.main_arg16)
      ∧ r.2.mem ((c.tc : Thread Cert.Kernel26.nD Cert.Kernel26.τ).loc Cert.Kernel26.main_arg17) = m ((c.tc : Thread Cert.Kernel26.nD Cert.Kernel26.τ).loc Cert.Kernel26.main_arg17)
      ∧ r.2.mem ((c.tc : Thread Cert.Kernel26.nD Cert.Kernel26.τ).loc Cert.Kernel26.main_arg18) = m ((c.tc : Thread Cert.Kernel26.nD Cert.Kernel26.τ).loc Cert.Kernel26.main_arg18)
      ∧ r.2.mem ((c.tc : Thread Cert.Kernel26.nD Cert.Kernel26.τ).loc Cert.Kernel26.main_arg19) = m ((c.tc : Thread Cert.Kernel26.nD Cert.Kernel26.τ).loc Cert.Kernel26.main_arg19)
      ∧ r.2.mem ((c.tc : Thread Cert.Kernel26.nD Cert.Kernel26.τ).loc Cert.Kernel26.main_arg20) = m ((c.tc : Thread Cert.Kernel26.nD Cert.Kernel26.τ).loc Cert.Kernel26.main_arg20)
      ∧ r.2.mem ((c.tc : Thread Cert.Kernel26.nD Cert.Kernel26.τ).loc Cert.Kernel26.main_arg21) = m ((c.tc : Thread Cert.Kernel26.nD Cert.Kernel26.τ).loc Cert.Kernel26.main_arg21)
      ∧ r.2.mem ((c.tc : Thread Cert.Kernel26.nD Cert.Kernel26.τ).loc Cert.Kernel26.main_arg22) = m ((c.tc : Thread Cert.Kernel26.nD Cert.Kernel26.τ).loc Cert.Kernel26.main_arg22)
      ∧ r.2.mem ((c.tc : Thread Cert.Kernel26.nD Cert.Kernel26.τ).loc Cert.Kernel26.main_arg23) = m ((c.tc : Thread Cert.Kernel26.nD Cert.Kernel26.τ).loc Cert.Kernel26.main_arg23)
      ∧ r.2.mem ((c.tc : Thread Cert.Kernel26.nD Cert.Kernel26.τ).loc Cert.Kernel26.main_arg24) = m ((c.tc : Thread Cert.Kernel26.nD Cert.Kernel26.τ).loc Cert.Kernel26.main_arg24)
      ∧ r.2.mem ((c.tc : Thread Cert.Kernel26.nD Cert.Kernel26.τ).loc Cert.Kernel26.main_arg25) = m ((c.tc : Thread Cert.Kernel26.nD Cert.Kernel26.τ).loc Cert.Kernel26.main_arg25)
      ∧ r.2.mem ((c.tc : Thread Cert.Kernel26.nD Cert.Kernel26.τ).loc Cert.Kernel26.main_arg26) = m ((c.tc : Thread Cert.Kernel26.nD Cert.Kernel26.τ).loc Cert.Kernel26.main_arg26)
      ∧ r.2.mem ((c.tc : Thread Cert.Kernel26.nD Cert.Kernel26.τ).loc Cert.Kernel26.main_arg27) = m ((c.tc : Thread Cert.Kernel26.nD Cert.Kernel26.τ).loc Cert.Kernel26.main_arg27)
      ∧ r.2.mem ((c.tc : Thread Cert.Kernel26.nD Cert.Kernel26.τ).loc Cert.Kernel26.main_arg28) = m ((c.tc : Thread Cert.Kernel26.nD Cert.Kernel26.τ).loc Cert.Kernel26.main_arg28)
      ∧ r.2.mem ((c.tc : Thread Cert.Kernel26.nD Cert.Kernel26.τ).loc Cert.Kernel26.main_arg29) = m ((c.tc : Thread Cert.Kernel26.nD Cert.Kernel26.τ).loc Cert.Kernel26.main_arg29)
      ∧ r.2.mem ((c.tc : Thread Cert.Kernel26.nD Cert.Kernel26.τ).loc Cert.Kernel26.main_arg30) = m ((c.tc : Thread Cert.Kernel26.nD Cert.Kernel26.τ).loc Cert.Kernel26.main_arg30)
      ∧ r.2.mem ((c.tc : Thread Cert.Kernel26.nD Cert.Kernel26.τ).loc Cert.Kernel26.main_arg31) = m ((c.tc : Thread Cert.Kernel26.nD Cert.Kernel26.τ).loc Cert.Kernel26.main_arg31)
      ∧ r.2.mem ((c.tc : Thread Cert.Kernel26.nD Cert.Kernel26.τ).loc Cert.Kernel26.main_arg32) = m ((c.tc : Thread Cert.Kernel26.nD Cert.Kernel26.τ).loc Cert.Kernel26.main_arg32)
      ∧ r.2.mem ((c.tc : Thread Cert.Kernel26.nD Cert.Kernel26.τ).loc Cert.Kernel26.main_arg33) = m ((c.tc : Thread Cert.Kernel26.nD Cert.Kernel26.τ).loc Cert.Kernel26.main_arg33)
      ∧ r.2.mem ((c.tc : Thread Cert.Kernel26.nD Cert.Kernel26.τ).loc Cert.Kernel26.main_arg34) = m ((c.tc : Thread Cert.Kernel26.nD Cert.Kernel26.τ).loc Cert.Kernel26.main_arg34)
      ∧ r.2.mem ((c.tc : Thread Cert.Kernel26.nD Cert.Kernel26.τ).loc Cert.Kernel26.main_arg35) = m ((c.tc : Thread Cert.Kernel26.nD Cert.Kernel26.τ).loc Cert.Kernel26.main_arg35)
      ∧ r.2.mem ((c.tc : Thread Cert.Kernel26.nD Cert.Kernel26.τ).loc Cert.Kernel26.main_arg36) = m ((c.tc : Thread Cert.Kernel26.nD Cert.Kernel26.τ).loc Cert.Kernel26.main_arg36)
      ∧ r.2.mem ((c.tc : Thread Cert.Kernel26.nD Cert.Kernel26.τ).loc Cert.Kernel26.main_arg37) = m ((c.tc : Thread Cert.Kernel26.nD Cert.Kernel26.τ).loc Cert.Kernel26.main_arg37)
      ∧ r.2.mem ((c.tc : Thread Cert.Kernel26.nD Cert.Kernel26.τ).loc Cert.Kernel26.main_arg38) = m ((c.tc : Thread Cert.Kernel26.nD Cert.Kernel26.τ).loc Cert.Kernel26.main_arg38)
      ∧ r.2.mem ((c.tc : Thread Cert.Kernel26.nD Cert.Kernel26.τ).loc Cert.Kernel26.main_arg39) = m ((c.tc : Thread Cert.Kernel26.nD Cert.Kernel26.τ).loc Cert.Kernel26.main_arg39)
      ∧ r.2.mem ((c.tc : Thread Cert.Kernel26.nD Cert.Kernel26.τ).loc Cert.Kernel26.main_arg40) = m ((c.tc : Thread Cert.Kernel26.nD Cert.Kernel26.τ).loc Cert.Kernel26.main_arg40)
      ∧ r.2.mem ((c.tc : Thread Cert.Kernel26.nD Cert.Kernel26.τ).loc Cert.Kernel26.main_arg41) = m ((c.tc : Thread Cert.Kernel26.nD Cert.Kernel26.τ).loc Cert.Kernel26.main_arg41)
      ∧ r.2.mem ((c.tc : Thread Cert.Kernel26.nD Cert.Kernel26.τ).loc Cert.Kernel26.main_arg42) = m ((c.tc : Thread Cert.Kernel26.nD Cert.Kernel26.τ).loc Cert.Kernel26.main_arg42)
      ∧ r.2.mem ((c.tc : Thread Cert.Kernel26.nD Cert.Kernel26.τ).loc Cert.Kernel26.main_arg43) = m ((c.tc : Thread Cert.Kernel26.nD Cert.Kernel26.τ).loc Cert.Kernel26.main_arg43)
      ∧ r.2.mem ((c.tc : Thread Cert.Kernel26.nD Cert.Kernel26.τ).loc Cert.Kernel26.main_arg44) = m ((c.tc : Thread Cert.Kernel26.nD Cert.Kernel26.τ).loc Cert.Kernel26.main_arg44)
      ∧ r.2.mem ((c.tc : Thread Cert.Kernel26.nD Cert.Kernel26.τ).loc Cert.Kernel26.main_arg45) = m ((c.tc : Thread Cert.Kernel26.nD Cert.Kernel26.τ).loc Cert.Kernel26.main_arg45)
      ∧ r.2.mem ((c.tc : Thread Cert.Kernel26.nD Cert.Kernel26.τ).loc Cert.Kernel26.main_arg46) = m ((c.tc : Thread Cert.Kernel26.nD Cert.Kernel26.τ).loc Cert.Kernel26.main_arg46)
      ∧ r.2.mem ((c.tc : Thread Cert.Kernel26.nD Cert.Kernel26.τ).loc Cert.Kernel26.main_arg47) = m ((c.tc : Thread Cert.Kernel26.nD Cert.Kernel26.τ).loc Cert.Kernel26.main_arg47)
      ∧ r.2.mem ((c.tc : Thread Cert.Kernel26.nD Cert.Kernel26.τ).loc Cert.Kernel26.main_arg48) = m ((c.tc : Thread Cert.Kernel26.nD Cert.Kernel26.τ).loc Cert.Kernel26.main_arg48)
      ∧ r.2.mem ((c.tc : Thread Cert.Kernel26.nD Cert.Kernel26.τ).loc Cert.Kernel26.main_arg49) = m ((c.tc : Thread Cert.Kernel26.nD Cert.Kernel26.τ).loc Cert.Kernel26.main_arg49)
      ∧ r.2.mem ((c.tc : Thread Cert.Kernel26.nD Cert.Kernel26.τ).loc Cert.Kernel26.main_arg50) = m ((c.tc : Thread Cert.Kernel26.nD Cert.Kernel26.τ).loc Cert.Kernel26.main_arg50)
      ∧ r.2.mem ((c.tc : Thread Cert.Kernel26.nD Cert.Kernel26.τ).loc Cert.Kernel26.main_arg51) = m ((c.tc : Thread Cert.Kernel26.nD Cert.Kernel26.τ).loc Cert.Kernel26.main_arg51)
      ∧ r.2.mem ((c.tc : Thread Cert.Kernel26.nD Cert.Kernel26.τ).loc Cert.Kernel26.main_arg52) = m ((c.tc : Thread Cert.Kernel26.nD Cert.Kernel26.τ).loc Cert.Kernel26.main_arg52)
      ∧ r.2.mem ((c.tc : Thread Cert.Kernel26.nD Cert.Kernel26.τ).loc Cert.Kernel26.main_arg53) = m ((c.tc : Thread Cert.Kernel26.nD Cert.Kernel26.τ).loc Cert.Kernel26.main_arg53)
      ∧ r.2.mem ((c.tc : Thread Cert.Kernel26.nD Cert.Kernel26.τ).loc Cert.Kernel26.main_arg54) = m ((c.tc : Thread Cert.Kernel26.nD Cert.Kernel26.τ).loc Cert.Kernel26.main_arg54)
      ∧ r.2.mem ((c.tc : Thread Cert.Kernel26.nD Cert.Kernel26.τ).loc Cert.Kernel26.main_arg55) = m ((c.tc : Thread Cert.Kernel26.nD Cert.Kernel26.τ).loc Cert.Kernel26.main_arg55)
      ∧ r.2.mem ((c.tc : Thread Cert.Kernel26.nD Cert.Kernel26.τ).loc Cert.Kernel26.main_arg56) = m ((c.tc : Thread Cert.Kernel26.nD Cert.Kernel26.τ).loc Cert.Kernel26.main_arg56)
      ∧ r.2.mem ((c.tc : Thread Cert.Kernel26.nD Cert.Kernel26.τ).loc Cert.Kernel26.main_arg57) = m ((c.tc : Thread Cert.Kernel26.nD Cert.Kernel26.τ).loc Cert.Kernel26.main_arg57)
      ∧ r.2.mem ((c.tc : Thread Cert.Kernel26.nD Cert.Kernel26.τ).loc Cert.Kernel26.main_arg58) = m ((c.tc : Thread Cert.Kernel26.nD Cert.Kernel26.τ).loc Cert.Kernel26.main_arg58)
      ∧ r.2.mem ((c.tc : Thread Cert.Kernel26.nD Cert.Kernel26.τ).loc Cert.Kernel26.main_arg59) = m ((c.tc : Thread Cert.Kernel26.nD Cert.Kernel26.τ).loc Cert.Kernel26.main_arg59)
      ∧ r.2.mem ((c.tc : Thread Cert.Kernel26.nD Cert.Kernel26.τ).loc Cert.Kernel26.main_arg60) = m ((c.tc : Thread Cert.Kernel26.nD Cert.Kernel26.τ).loc Cert.Kernel26.main_arg60)
      ∧ r.2.mem ((c.tc : Thread Cert.Kernel26.nD Cert.Kernel26.τ).loc Cert.Kernel26.main_arg61) = m ((c.tc : Thread Cert.Kernel26.nD Cert.Kernel26.τ).loc Cert.Kernel26.main_arg61)
      ∧ r.2.mem ((c.tc : Thread Cert.Kernel26.nD Cert.Kernel26.τ).loc Cert.Kernel26.main_arg62) = m ((c.tc : Thread Cert.Kernel26.nD Cert.Kernel26.τ).loc Cert.Kernel26.main_arg62)
      ∧ r.2.mem ((c.tc : Thread Cert.Kernel26.nD Cert.Kernel26.τ).loc Cert.Kernel26.main_arg63) = m ((c.tc : Thread Cert.Kernel26.nD Cert.Kernel26.τ).loc Cert.Kernel26.main_arg63)
      ∧ r.2.mem ((c.tc : Thread Cert.Kernel26.nD Cert.Kernel26.τ).loc Cert.Kernel26.main_arg64) = m ((c.tc : Thread Cert.Kernel26.nD Cert.Kernel26.τ).loc Cert.Kernel26.main_arg64)
      ∧ r.2.mem ((c.tc : Thread Cert.Kernel26.nD Cert.Kernel26.τ).loc Cert.Kernel26.main_arg65) = m ((c.tc : Thread Cert.Kernel26.nD Cert.Kernel26.τ).loc Cert.Kernel26.main_arg65)
      ∧ r.2.mem ((c.tc : Thread Cert.Kernel26.nD Cert.Kernel26.τ).loc Cert.Kernel26.main_arg66) = m ((c.tc : Thread Cert.Kernel26.nD Cert.Kernel26.τ).loc Cert.Kernel26.main_arg66)
      ∧ r.2.mem ((c.tc : Thread Cert.Kernel26.nD Cert.Kernel26.τ).loc Cert.Kernel26.main_arg67) = m ((c.tc : Thread Cert.Kernel26.nD Cert.Kernel26.τ).loc Cert.Kernel26.main_arg67))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
      ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5)
      ∧ r.2.mem ((c.tc : Thread Cert.Kernel26Ideal.nD Cert.Kernel26Ideal.τ).loc Cert.Kernel26Ideal.main_arg6) = m ((c.tc : Thread Cert.Kernel26Ideal.nD Cert.Kernel26Ideal.τ).loc Cert.Kernel26Ideal.main_arg6)
      ∧ r.2.mem ((c.tc : Thread Cert.Kernel26Ideal.nD Cert.Kernel26Ideal.τ).loc Cert.Kernel26Ideal.main_arg7) = m ((c.tc : Thread Cert.Kernel26Ideal.nD Cert.Kernel26Ideal.τ).loc Cert.Kernel26Ideal.main_arg7)
      ∧ r.2.mem ((c.tc : Thread Cert.Kernel26Ideal.nD Cert.Kernel26Ideal.τ).loc Cert.Kernel26Ideal.main_arg8) = m ((c.tc : Thread Cert.Kernel26Ideal.nD Cert.Kernel26Ideal.τ).loc Cert.Kernel26Ideal.main_arg8)
      ∧ r.2.mem ((c.tc : Thread Cert.Kernel26Ideal.nD Cert.Kernel26Ideal.τ).loc Cert.Kernel26Ideal.main_arg9) = m ((c.tc : Thread Cert.Kernel26Ideal.nD Cert.Kernel26Ideal.τ).loc Cert.Kernel26Ideal.main_arg9)
      ∧ r.2.mem ((c.tc : Thread Cert.Kernel26Ideal.nD Cert.Kernel26Ideal.τ).loc Cert.Kernel26Ideal.main_arg10) = m ((c.tc : Thread Cert.Kernel26Ideal.nD Cert.Kernel26Ideal.τ).loc Cert.Kernel26Ideal.main_arg10)
      ∧ r.2.mem ((c.tc : Thread Cert.Kernel26Ideal.nD Cert.Kernel26Ideal.τ).loc Cert.Kernel26Ideal.main_arg11) = m ((c.tc : Thread Cert.Kernel26Ideal.nD Cert.Kernel26Ideal.τ).loc Cert.Kernel26Ideal.main_arg11)
      ∧ r.2.mem ((c.tc : Thread Cert.Kernel26Ideal.nD Cert.Kernel26Ideal.τ).loc Cert.Kernel26Ideal.main_arg12) = m ((c.tc : Thread Cert.Kernel26Ideal.nD Cert.Kernel26Ideal.τ).loc Cert.Kernel26Ideal.main_arg12)
      ∧ r.2.mem ((c.tc : Thread Cert.Kernel26Ideal.nD Cert.Kernel26Ideal.τ).loc Cert.Kernel26Ideal.main_arg13) = m ((c.tc : Thread Cert.Kernel26Ideal.nD Cert.Kernel26Ideal.τ).loc Cert.Kernel26Ideal.main_arg13)
      ∧ r.2.mem ((c.tc : Thread Cert.Kernel26Ideal.nD Cert.Kernel26Ideal.τ).loc Cert.Kernel26Ideal.main_arg14) = m ((c.tc : Thread Cert.Kernel26Ideal.nD Cert.Kernel26Ideal.τ).loc Cert.Kernel26Ideal.main_arg14)
      ∧ r.2.mem ((c.tc : Thread Cert.Kernel26Ideal.nD Cert.Kernel26Ideal.τ).loc Cert.Kernel26Ideal.main_arg15) = m ((c.tc : Thread Cert.Kernel26Ideal.nD Cert.Kernel26Ideal.τ).loc Cert.Kernel26Ideal.main_arg15)
      ∧ r.2.mem ((c.tc : Thread Cert.Kernel26Ideal.nD Cert.Kernel26Ideal.τ).loc Cert.Kernel26Ideal.main_arg16) = m ((c.tc : Thread Cert.Kernel26Ideal.nD Cert.Kernel26Ideal.τ).loc Cert.Kernel26Ideal.main_arg16)
      ∧ r.2.mem ((c.tc : Thread Cert.Kernel26Ideal.nD Cert.Kernel26Ideal.τ).loc Cert.Kernel26Ideal.main_arg17) = m ((c.tc : Thread Cert.Kernel26Ideal.nD Cert.Kernel26Ideal.τ).loc Cert.Kernel26Ideal.main_arg17)
      ∧ r.2.mem ((c.tc : Thread Cert.Kernel26Ideal.nD Cert.Kernel26Ideal.τ).loc Cert.Kernel26Ideal.main_arg18) = m ((c.tc : Thread Cert.Kernel26Ideal.nD Cert.Kernel26Ideal.τ).loc Cert.Kernel26Ideal.main_arg18)
      ∧ r.2.mem ((c.tc : Thread Cert.Kernel26Ideal.nD Cert.Kernel26Ideal.τ).loc Cert.Kernel26Ideal.main_arg19) = m ((c.tc : Thread Cert.Kernel26Ideal.nD Cert.Kernel26Ideal.τ).loc Cert.Kernel26Ideal.main_arg19)
      ∧ r.2.mem ((c.tc : Thread Cert.Kernel26Ideal.nD Cert.Kernel26Ideal.τ).loc Cert.Kernel26Ideal.main_arg20) = m ((c.tc : Thread Cert.Kernel26Ideal.nD Cert.Kernel26Ideal.τ).loc Cert.Kernel26Ideal.main_arg20)
      ∧ r.2.mem ((c.tc : Thread Cert.Kernel26Ideal.nD Cert.Kernel26Ideal.τ).loc Cert.Kernel26Ideal.main_arg21) = m ((c.tc : Thread Cert.Kernel26Ideal.nD Cert.Kernel26Ideal.τ).loc Cert.Kernel26Ideal.main_arg21)
      ∧ r.2.mem ((c.tc : Thread Cert.Kernel26Ideal.nD Cert.Kernel26Ideal.τ).loc Cert.Kernel26Ideal.main_arg22) = m ((c.tc : Thread Cert.Kernel26Ideal.nD Cert.Kernel26Ideal.τ).loc Cert.Kernel26Ideal.main_arg22)
      ∧ r.2.mem ((c.tc : Thread Cert.Kernel26Ideal.nD Cert.Kernel26Ideal.τ).loc Cert.Kernel26Ideal.main_arg23) = m ((c.tc : Thread Cert.Kernel26Ideal.nD Cert.Kernel26Ideal.τ).loc Cert.Kernel26Ideal.main_arg23)
      ∧ r.2.mem ((c.tc : Thread Cert.Kernel26Ideal.nD Cert.Kernel26Ideal.τ).loc Cert.Kernel26Ideal.main_arg24) = m ((c.tc : Thread Cert.Kernel26Ideal.nD Cert.Kernel26Ideal.τ).loc Cert.Kernel26Ideal.main_arg24)
      ∧ r.2.mem ((c.tc : Thread Cert.Kernel26Ideal.nD Cert.Kernel26Ideal.τ).loc Cert.Kernel26Ideal.main_arg25) = m ((c.tc : Thread Cert.Kernel26Ideal.nD Cert.Kernel26Ideal.τ).loc Cert.Kernel26Ideal.main_arg25)
      ∧ r.2.mem ((c.tc : Thread Cert.Kernel26Ideal.nD Cert.Kernel26Ideal.τ).loc Cert.Kernel26Ideal.main_arg26) = m ((c.tc : Thread Cert.Kernel26Ideal.nD Cert.Kernel26Ideal.τ).loc Cert.Kernel26Ideal.main_arg26)
      ∧ r.2.mem ((c.tc : Thread Cert.Kernel26Ideal.nD Cert.Kernel26Ideal.τ).loc Cert.Kernel26Ideal.main_arg27) = m ((c.tc : Thread Cert.Kernel26Ideal.nD Cert.Kernel26Ideal.τ).loc Cert.Kernel26Ideal.main_arg27)
      ∧ r.2.mem ((c.tc : Thread Cert.Kernel26Ideal.nD Cert.Kernel26Ideal.τ).loc Cert.Kernel26Ideal.main_arg28) = m ((c.tc : Thread Cert.Kernel26Ideal.nD Cert.Kernel26Ideal.τ).loc Cert.Kernel26Ideal.main_arg28)
      ∧ r.2.mem ((c.tc : Thread Cert.Kernel26Ideal.nD Cert.Kernel26Ideal.τ).loc Cert.Kernel26Ideal.main_arg29) = m ((c.tc : Thread Cert.Kernel26Ideal.nD Cert.Kernel26Ideal.τ).loc Cert.Kernel26Ideal.main_arg29)
      ∧ r.2.mem ((c.tc : Thread Cert.Kernel26Ideal.nD Cert.Kernel26Ideal.τ).loc Cert.Kernel26Ideal.main_arg30) = m ((c.tc : Thread Cert.Kernel26Ideal.nD Cert.Kernel26Ideal.τ).loc Cert.Kernel26Ideal.main_arg30)
      ∧ r.2.mem ((c.tc : Thread Cert.Kernel26Ideal.nD Cert.Kernel26Ideal.τ).loc Cert.Kernel26Ideal.main_arg31) = m ((c.tc : Thread Cert.Kernel26Ideal.nD Cert.Kernel26Ideal.τ).loc Cert.Kernel26Ideal.main_arg31)
      ∧ r.2.mem ((c.tc : Thread Cert.Kernel26Ideal.nD Cert.Kernel26Ideal.τ).loc Cert.Kernel26Ideal.main_arg32) = m ((c.tc : Thread Cert.Kernel26Ideal.nD Cert.Kernel26Ideal.τ).loc Cert.Kernel26Ideal.main_arg32)
      ∧ r.2.mem ((c.tc : Thread Cert.Kernel26Ideal.nD Cert.Kernel26Ideal.τ).loc Cert.Kernel26Ideal.main_arg33) = m ((c.tc : Thread Cert.Kernel26Ideal.nD Cert.Kernel26Ideal.τ).loc Cert.Kernel26Ideal.main_arg33)
      ∧ r.2.mem ((c.tc : Thread Cert.Kernel26Ideal.nD Cert.Kernel26Ideal.τ).loc Cert.Kernel26Ideal.main_arg34) = m ((c.tc : Thread Cert.Kernel26Ideal.nD Cert.Kernel26Ideal.τ).loc Cert.Kernel26Ideal.main_arg34)
      ∧ r.2.mem ((c.tc : Thread Cert.Kernel26Ideal.nD Cert.Kernel26Ideal.τ).loc Cert.Kernel26Ideal.main_arg35) = m ((c.tc : Thread Cert.Kernel26Ideal.nD Cert.Kernel26Ideal.τ).loc Cert.Kernel26Ideal.main_arg35)
      ∧ r.2.mem ((c.tc : Thread Cert.Kernel26Ideal.nD Cert.Kernel26Ideal.τ).loc Cert.Kernel26Ideal.main_arg36) = m ((c.tc : Thread Cert.Kernel26Ideal.nD Cert.Kernel26Ideal.τ).loc Cert.Kernel26Ideal.main_arg36)
      ∧ r.2.mem ((c.tc : Thread Cert.Kernel26Ideal.nD Cert.Kernel26Ideal.τ).loc Cert.Kernel26Ideal.main_arg37) = m ((c.tc : Thread Cert.Kernel26Ideal.nD Cert.Kernel26Ideal.τ).loc Cert.Kernel26Ideal.main_arg37)
      ∧ r.2.mem ((c.tc : Thread Cert.Kernel26Ideal.nD Cert.Kernel26Ideal.τ).loc Cert.Kernel26Ideal.main_arg38) = m ((c.tc : Thread Cert.Kernel26Ideal.nD Cert.Kernel26Ideal.τ).loc Cert.Kernel26Ideal.main_arg38)
      ∧ r.2.mem ((c.tc : Thread Cert.Kernel26Ideal.nD Cert.Kernel26Ideal.τ).loc Cert.Kernel26Ideal.main_arg39) = m ((c.tc : Thread Cert.Kernel26Ideal.nD Cert.Kernel26Ideal.τ).loc Cert.Kernel26Ideal.main_arg39)
      ∧ r.2.mem ((c.tc : Thread Cert.Kernel26Ideal.nD Cert.Kernel26Ideal.τ).loc Cert.Kernel26Ideal.main_arg40) = m ((c.tc : Thread Cert.Kernel26Ideal.nD Cert.Kernel26Ideal.τ).loc Cert.Kernel26Ideal.main_arg40)
      ∧ r.2.mem ((c.tc : Thread Cert.Kernel26Ideal.nD Cert.Kernel26Ideal.τ).loc Cert.Kernel26Ideal.main_arg41) = m ((c.tc : Thread Cert.Kernel26Ideal.nD Cert.Kernel26Ideal.τ).loc Cert.Kernel26Ideal.main_arg41)
      ∧ r.2.mem ((c.tc : Thread Cert.Kernel26Ideal.nD Cert.Kernel26Ideal.τ).loc Cert.Kernel26Ideal.main_arg42) = m ((c.tc : Thread Cert.Kernel26Ideal.nD Cert.Kernel26Ideal.τ).loc Cert.Kernel26Ideal.main_arg42)
      ∧ r.2.mem ((c.tc : Thread Cert.Kernel26Ideal.nD Cert.Kernel26Ideal.τ).loc Cert.Kernel26Ideal.main_arg43) = m ((c.tc : Thread Cert.Kernel26Ideal.nD Cert.Kernel26Ideal.τ).loc Cert.Kernel26Ideal.main_arg43)
      ∧ r.2.mem ((c.tc : Thread Cert.Kernel26Ideal.nD Cert.Kernel26Ideal.τ).loc Cert.Kernel26Ideal.main_arg44) = m ((c.tc : Thread Cert.Kernel26Ideal.nD Cert.Kernel26Ideal.τ).loc Cert.Kernel26Ideal.main_arg44)
      ∧ r.2.mem ((c.tc : Thread Cert.Kernel26Ideal.nD Cert.Kernel26Ideal.τ).loc Cert.Kernel26Ideal.main_arg45) = m ((c.tc : Thread Cert.Kernel26Ideal.nD Cert.Kernel26Ideal.τ).loc Cert.Kernel26Ideal.main_arg45)
      ∧ r.2.mem ((c.tc : Thread Cert.Kernel26Ideal.nD Cert.Kernel26Ideal.τ).loc Cert.Kernel26Ideal.main_arg46) = m ((c.tc : Thread Cert.Kernel26Ideal.nD Cert.Kernel26Ideal.τ).loc Cert.Kernel26Ideal.main_arg46)
      ∧ r.2.mem ((c.tc : Thread Cert.Kernel26Ideal.nD Cert.Kernel26Ideal.τ).loc Cert.Kernel26Ideal.main_arg47) = m ((c.tc : Thread Cert.Kernel26Ideal.nD Cert.Kernel26Ideal.τ).loc Cert.Kernel26Ideal.main_arg47)
      ∧ r.2.mem ((c.tc : Thread Cert.Kernel26Ideal.nD Cert.Kernel26Ideal.τ).loc Cert.Kernel26Ideal.main_arg48) = m ((c.tc : Thread Cert.Kernel26Ideal.nD Cert.Kernel26Ideal.τ).loc Cert.Kernel26Ideal.main_arg48)
      ∧ r.2.mem ((c.tc : Thread Cert.Kernel26Ideal.nD Cert.Kernel26Ideal.τ).loc Cert.Kernel26Ideal.main_arg49) = m ((c.tc : Thread Cert.Kernel26Ideal.nD Cert.Kernel26Ideal.τ).loc Cert.Kernel26Ideal.main_arg49)
      ∧ r.2.mem ((c.tc : Thread Cert.Kernel26Ideal.nD Cert.Kernel26Ideal.τ).loc Cert.Kernel26Ideal.main_arg50) = m ((c.tc : Thread Cert.Kernel26Ideal.nD Cert.Kernel26Ideal.τ).loc Cert.Kernel26Ideal.main_arg50)
      ∧ r.2.mem ((c.tc : Thread Cert.Kernel26Ideal.nD Cert.Kernel26Ideal.τ).loc Cert.Kernel26Ideal.main_arg51) = m ((c.tc : Thread Cert.Kernel26Ideal.nD Cert.Kernel26Ideal.τ).loc Cert.Kernel26Ideal.main_arg51)
      ∧ r.2.mem ((c.tc : Thread Cert.Kernel26Ideal.nD Cert.Kernel26Ideal.τ).loc Cert.Kernel26Ideal.main_arg52) = m ((c.tc : Thread Cert.Kernel26Ideal.nD Cert.Kernel26Ideal.τ).loc Cert.Kernel26Ideal.main_arg52)
      ∧ r.2.mem ((c.tc : Thread Cert.Kernel26Ideal.nD Cert.Kernel26Ideal.τ).loc Cert.Kernel26Ideal.main_arg53) = m ((c.tc : Thread Cert.Kernel26Ideal.nD Cert.Kernel26Ideal.τ).loc Cert.Kernel26Ideal.main_arg53)
      ∧ r.2.mem ((c.tc : Thread Cert.Kernel26Ideal.nD Cert.Kernel26Ideal.τ).loc Cert.Kernel26Ideal.main_arg54) = m ((c.tc : Thread Cert.Kernel26Ideal.nD Cert.Kernel26Ideal.τ).loc Cert.Kernel26Ideal.main_arg54)
      ∧ r.2.mem ((c.tc : Thread Cert.Kernel26Ideal.nD Cert.Kernel26Ideal.τ).loc Cert.Kernel26Ideal.main_arg55) = m ((c.tc : Thread Cert.Kernel26Ideal.nD Cert.Kernel26Ideal.τ).loc Cert.Kernel26Ideal.main_arg55)
      ∧ r.2.mem ((c.tc : Thread Cert.Kernel26Ideal.nD Cert.Kernel26Ideal.τ).loc Cert.Kernel26Ideal.main_arg56) = m ((c.tc : Thread Cert.Kernel26Ideal.nD Cert.Kernel26Ideal.τ).loc Cert.Kernel26Ideal.main_arg56)
      ∧ r.2.mem ((c.tc : Thread Cert.Kernel26Ideal.nD Cert.Kernel26Ideal.τ).loc Cert.Kernel26Ideal.main_arg57) = m ((c.tc : Thread Cert.Kernel26Ideal.nD Cert.Kernel26Ideal.τ).loc Cert.Kernel26Ideal.main_arg57)
      ∧ r.2.mem ((c.tc : Thread Cert.Kernel26Ideal.nD Cert.Kernel26Ideal.τ).loc Cert.Kernel26Ideal.main_arg58) = m ((c.tc : Thread Cert.Kernel26Ideal.nD Cert.Kernel26Ideal.τ).loc Cert.Kernel26Ideal.main_arg58)
      ∧ r.2.mem ((c.tc : Thread Cert.Kernel26Ideal.nD Cert.Kernel26Ideal.τ).loc Cert.Kernel26Ideal.main_arg59) = m ((c.tc : Thread Cert.Kernel26Ideal.nD Cert.Kernel26Ideal.τ).loc Cert.Kernel26Ideal.main_arg59)
      ∧ r.2.mem ((c.tc : Thread Cert.Kernel26Ideal.nD Cert.Kernel26Ideal.τ).loc Cert.Kernel26Ideal.main_arg60) = m ((c.tc : Thread Cert.Kernel26Ideal.nD Cert.Kernel26Ideal.τ).loc Cert.Kernel26Ideal.main_arg60)
      ∧ r.2.mem ((c.tc : Thread Cert.Kernel26Ideal.nD Cert.Kernel26Ideal.τ).loc Cert.Kernel26Ideal.main_arg61) = m ((c.tc : Thread Cert.Kernel26Ideal.nD Cert.Kernel26Ideal.τ).loc Cert.Kernel26Ideal.main_arg61)
      ∧ r.2.mem ((c.tc : Thread Cert.Kernel26Ideal.nD Cert.Kernel26Ideal.τ).loc Cert.Kernel26Ideal.main_arg62) = m ((c.tc : Thread Cert.Kernel26Ideal.nD Cert.Kernel26Ideal.τ).loc Cert.Kernel26Ideal.main_arg62)
      ∧ r.2.mem ((c.tc : Thread Cert.Kernel26Ideal.nD Cert.Kernel26Ideal.τ).loc Cert.Kernel26Ideal.main_arg63) = m ((c.tc : Thread Cert.Kernel26Ideal.nD Cert.Kernel26Ideal.τ).loc Cert.Kernel26Ideal.main_arg63)
      ∧ r.2.mem ((c.tc : Thread Cert.Kernel26Ideal.nD Cert.Kernel26Ideal.τ).loc Cert.Kernel26Ideal.main_arg64) = m ((c.tc : Thread Cert.Kernel26Ideal.nD Cert.Kernel26Ideal.τ).loc Cert.Kernel26Ideal.main_arg64)
      ∧ r.2.mem ((c.tc : Thread Cert.Kernel26Ideal.nD Cert.Kernel26Ideal.τ).loc Cert.Kernel26Ideal.main_arg65) = m ((c.tc : Thread Cert.Kernel26Ideal.nD Cert.Kernel26Ideal.τ).loc Cert.Kernel26Ideal.main_arg65)
      ∧ r.2.mem ((c.tc : Thread Cert.Kernel26Ideal.nD Cert.Kernel26Ideal.τ).loc Cert.Kernel26Ideal.main_arg66) = m ((c.tc : Thread Cert.Kernel26Ideal.nD Cert.Kernel26Ideal.τ).loc Cert.Kernel26Ideal.main_arg66)
      ∧ r.2.mem ((c.tc : Thread Cert.Kernel26Ideal.nD Cert.Kernel26Ideal.τ).loc Cert.Kernel26Ideal.main_arg67) = m ((c.tc : Thread Cert.Kernel26Ideal.nD Cert.Kernel26Ideal.τ).loc Cert.Kernel26Ideal.main_arg67))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4)
      ∧ r.2.mem ((c.tc : Thread Cert.Reference26Ideal.nD Cert.Reference26Ideal.τ).loc Cert.Reference26Ideal.main_arg5) = m ((c.tc : Thread Cert.Reference26Ideal.nD Cert.Reference26Ideal.τ).loc Cert.Reference26Ideal.main_arg5)
      ∧ r.2.mem ((c.tc : Thread Cert.Reference26Ideal.nD Cert.Reference26Ideal.τ).loc Cert.Reference26Ideal.main_arg6) = m ((c.tc : Thread Cert.Reference26Ideal.nD Cert.Reference26Ideal.τ).loc Cert.Reference26Ideal.main_arg6)
      ∧ r.2.mem ((c.tc : Thread Cert.Reference26Ideal.nD Cert.Reference26Ideal.τ).loc Cert.Reference26Ideal.main_arg7) = m ((c.tc : Thread Cert.Reference26Ideal.nD Cert.Reference26Ideal.τ).loc Cert.Reference26Ideal.main_arg7)
      ∧ r.2.mem ((c.tc : Thread Cert.Reference26Ideal.nD Cert.Reference26Ideal.τ).loc Cert.Reference26Ideal.main_arg8) = m ((c.tc : Thread Cert.Reference26Ideal.nD Cert.Reference26Ideal.τ).loc Cert.Reference26Ideal.main_arg8)
      ∧ r.2.mem ((c.tc : Thread Cert.Reference26Ideal.nD Cert.Reference26Ideal.τ).loc Cert.Reference26Ideal.main_arg9) = m ((c.tc : Thread Cert.Reference26Ideal.nD Cert.Reference26Ideal.τ).loc Cert.Reference26Ideal.main_arg9)
      ∧ r.2.mem ((c.tc : Thread Cert.Reference26Ideal.nD Cert.Reference26Ideal.τ).loc Cert.Reference26Ideal.main_arg10) = m ((c.tc : Thread Cert.Reference26Ideal.nD Cert.Reference26Ideal.τ).loc Cert.Reference26Ideal.main_arg10)
      ∧ r.2.mem ((c.tc : Thread Cert.Reference26Ideal.nD Cert.Reference26Ideal.τ).loc Cert.Reference26Ideal.main_arg11) = m ((c.tc : Thread Cert.Reference26Ideal.nD Cert.Reference26Ideal.τ).loc Cert.Reference26Ideal.main_arg11)
      ∧ r.2.mem ((c.tc : Thread Cert.Reference26Ideal.nD Cert.Reference26Ideal.τ).loc Cert.Reference26Ideal.main_arg12) = m ((c.tc : Thread Cert.Reference26Ideal.nD Cert.Reference26Ideal.τ).loc Cert.Reference26Ideal.main_arg12)
      ∧ r.2.mem ((c.tc : Thread Cert.Reference26Ideal.nD Cert.Reference26Ideal.τ).loc Cert.Reference26Ideal.main_arg13) = m ((c.tc : Thread Cert.Reference26Ideal.nD Cert.Reference26Ideal.τ).loc Cert.Reference26Ideal.main_arg13)
      ∧ r.2.mem ((c.tc : Thread Cert.Reference26Ideal.nD Cert.Reference26Ideal.τ).loc Cert.Reference26Ideal.main_arg14) = m ((c.tc : Thread Cert.Reference26Ideal.nD Cert.Reference26Ideal.τ).loc Cert.Reference26Ideal.main_arg14)
      ∧ r.2.mem ((c.tc : Thread Cert.Reference26Ideal.nD Cert.Reference26Ideal.τ).loc Cert.Reference26Ideal.main_arg15) = m ((c.tc : Thread Cert.Reference26Ideal.nD Cert.Reference26Ideal.τ).loc Cert.Reference26Ideal.main_arg15)
      ∧ r.2.mem ((c.tc : Thread Cert.Reference26Ideal.nD Cert.Reference26Ideal.τ).loc Cert.Reference26Ideal.main_arg16) = m ((c.tc : Thread Cert.Reference26Ideal.nD Cert.Reference26Ideal.τ).loc Cert.Reference26Ideal.main_arg16)
      ∧ r.2.mem ((c.tc : Thread Cert.Reference26Ideal.nD Cert.Reference26Ideal.τ).loc Cert.Reference26Ideal.main_arg17) = m ((c.tc : Thread Cert.Reference26Ideal.nD Cert.Reference26Ideal.τ).loc Cert.Reference26Ideal.main_arg17)
      ∧ r.2.mem ((c.tc : Thread Cert.Reference26Ideal.nD Cert.Reference26Ideal.τ).loc Cert.Reference26Ideal.main_arg18) = m ((c.tc : Thread Cert.Reference26Ideal.nD Cert.Reference26Ideal.τ).loc Cert.Reference26Ideal.main_arg18)
      ∧ r.2.mem ((c.tc : Thread Cert.Reference26Ideal.nD Cert.Reference26Ideal.τ).loc Cert.Reference26Ideal.main_arg19) = m ((c.tc : Thread Cert.Reference26Ideal.nD Cert.Reference26Ideal.τ).loc Cert.Reference26Ideal.main_arg19)
      ∧ r.2.mem ((c.tc : Thread Cert.Reference26Ideal.nD Cert.Reference26Ideal.τ).loc Cert.Reference26Ideal.main_arg20) = m ((c.tc : Thread Cert.Reference26Ideal.nD Cert.Reference26Ideal.τ).loc Cert.Reference26Ideal.main_arg20)
      ∧ r.2.mem ((c.tc : Thread Cert.Reference26Ideal.nD Cert.Reference26Ideal.τ).loc Cert.Reference26Ideal.main_arg21) = m ((c.tc : Thread Cert.Reference26Ideal.nD Cert.Reference26Ideal.τ).loc Cert.Reference26Ideal.main_arg21)
      ∧ r.2.mem ((c.tc : Thread Cert.Reference26Ideal.nD Cert.Reference26Ideal.τ).loc Cert.Reference26Ideal.main_arg22) = m ((c.tc : Thread Cert.Reference26Ideal.nD Cert.Reference26Ideal.τ).loc Cert.Reference26Ideal.main_arg22)
      ∧ r.2.mem ((c.tc : Thread Cert.Reference26Ideal.nD Cert.Reference26Ideal.τ).loc Cert.Reference26Ideal.main_arg23) = m ((c.tc : Thread Cert.Reference26Ideal.nD Cert.Reference26Ideal.τ).loc Cert.Reference26Ideal.main_arg23)
      ∧ r.2.mem ((c.tc : Thread Cert.Reference26Ideal.nD Cert.Reference26Ideal.τ).loc Cert.Reference26Ideal.main_arg24) = m ((c.tc : Thread Cert.Reference26Ideal.nD Cert.Reference26Ideal.τ).loc Cert.Reference26Ideal.main_arg24)
      ∧ r.2.mem ((c.tc : Thread Cert.Reference26Ideal.nD Cert.Reference26Ideal.τ).loc Cert.Reference26Ideal.main_arg25) = m ((c.tc : Thread Cert.Reference26Ideal.nD Cert.Reference26Ideal.τ).loc Cert.Reference26Ideal.main_arg25)
      ∧ r.2.mem ((c.tc : Thread Cert.Reference26Ideal.nD Cert.Reference26Ideal.τ).loc Cert.Reference26Ideal.main_arg26) = m ((c.tc : Thread Cert.Reference26Ideal.nD Cert.Reference26Ideal.τ).loc Cert.Reference26Ideal.main_arg26)
      ∧ r.2.mem ((c.tc : Thread Cert.Reference26Ideal.nD Cert.Reference26Ideal.τ).loc Cert.Reference26Ideal.main_arg27) = m ((c.tc : Thread Cert.Reference26Ideal.nD Cert.Reference26Ideal.τ).loc Cert.Reference26Ideal.main_arg27)
      ∧ r.2.mem ((c.tc : Thread Cert.Reference26Ideal.nD Cert.Reference26Ideal.τ).loc Cert.Reference26Ideal.main_arg28) = m ((c.tc : Thread Cert.Reference26Ideal.nD Cert.Reference26Ideal.τ).loc Cert.Reference26Ideal.main_arg28)
      ∧ r.2.mem ((c.tc : Thread Cert.Reference26Ideal.nD Cert.Reference26Ideal.τ).loc Cert.Reference26Ideal.main_arg29) = m ((c.tc : Thread Cert.Reference26Ideal.nD Cert.Reference26Ideal.τ).loc Cert.Reference26Ideal.main_arg29)
      ∧ r.2.mem ((c.tc : Thread Cert.Reference26Ideal.nD Cert.Reference26Ideal.τ).loc Cert.Reference26Ideal.main_arg30) = m ((c.tc : Thread Cert.Reference26Ideal.nD Cert.Reference26Ideal.τ).loc Cert.Reference26Ideal.main_arg30)
      ∧ r.2.mem ((c.tc : Thread Cert.Reference26Ideal.nD Cert.Reference26Ideal.τ).loc Cert.Reference26Ideal.main_arg31) = m ((c.tc : Thread Cert.Reference26Ideal.nD Cert.Reference26Ideal.τ).loc Cert.Reference26Ideal.main_arg31)
      ∧ r.2.mem ((c.tc : Thread Cert.Reference26Ideal.nD Cert.Reference26Ideal.τ).loc Cert.Reference26Ideal.main_arg32) = m ((c.tc : Thread Cert.Reference26Ideal.nD Cert.Reference26Ideal.τ).loc Cert.Reference26Ideal.main_arg32)
      ∧ r.2.mem ((c.tc : Thread Cert.Reference26Ideal.nD Cert.Reference26Ideal.τ).loc Cert.Reference26Ideal.main_arg33) = m ((c.tc : Thread Cert.Reference26Ideal.nD Cert.Reference26Ideal.τ).loc Cert.Reference26Ideal.main_arg33)
      ∧ r.2.mem ((c.tc : Thread Cert.Reference26Ideal.nD Cert.Reference26Ideal.τ).loc Cert.Reference26Ideal.main_arg34) = m ((c.tc : Thread Cert.Reference26Ideal.nD Cert.Reference26Ideal.τ).loc Cert.Reference26Ideal.main_arg34)
      ∧ r.2.mem ((c.tc : Thread Cert.Reference26Ideal.nD Cert.Reference26Ideal.τ).loc Cert.Reference26Ideal.main_arg35) = m ((c.tc : Thread Cert.Reference26Ideal.nD Cert.Reference26Ideal.τ).loc Cert.Reference26Ideal.main_arg35)
      ∧ r.2.mem ((c.tc : Thread Cert.Reference26Ideal.nD Cert.Reference26Ideal.τ).loc Cert.Reference26Ideal.main_arg36) = m ((c.tc : Thread Cert.Reference26Ideal.nD Cert.Reference26Ideal.τ).loc Cert.Reference26Ideal.main_arg36)
      ∧ r.2.mem ((c.tc : Thread Cert.Reference26Ideal.nD Cert.Reference26Ideal.τ).loc Cert.Reference26Ideal.main_arg37) = m ((c.tc : Thread Cert.Reference26Ideal.nD Cert.Reference26Ideal.τ).loc Cert.Reference26Ideal.main_arg37)
      ∧ r.2.mem ((c.tc : Thread Cert.Reference26Ideal.nD Cert.Reference26Ideal.τ).loc Cert.Reference26Ideal.main_arg38) = m ((c.tc : Thread Cert.Reference26Ideal.nD Cert.Reference26Ideal.τ).loc Cert.Reference26Ideal.main_arg38)
      ∧ r.2.mem ((c.tc : Thread Cert.Reference26Ideal.nD Cert.Reference26Ideal.τ).loc Cert.Reference26Ideal.main_arg39) = m ((c.tc : Thread Cert.Reference26Ideal.nD Cert.Reference26Ideal.τ).loc Cert.Reference26Ideal.main_arg39)
      ∧ r.2.mem ((c.tc : Thread Cert.Reference26Ideal.nD Cert.Reference26Ideal.τ).loc Cert.Reference26Ideal.main_arg40) = m ((c.tc : Thread Cert.Reference26Ideal.nD Cert.Reference26Ideal.τ).loc Cert.Reference26Ideal.main_arg40)
      ∧ r.2.mem ((c.tc : Thread Cert.Reference26Ideal.nD Cert.Reference26Ideal.τ).loc Cert.Reference26Ideal.main_arg41) = m ((c.tc : Thread Cert.Reference26Ideal.nD Cert.Reference26Ideal.τ).loc Cert.Reference26Ideal.main_arg41)
      ∧ r.2.mem ((c.tc : Thread Cert.Reference26Ideal.nD Cert.Reference26Ideal.τ).loc Cert.Reference26Ideal.main_arg42) = m ((c.tc : Thread Cert.Reference26Ideal.nD Cert.Reference26Ideal.τ).loc Cert.Reference26Ideal.main_arg42)
      ∧ r.2.mem ((c.tc : Thread Cert.Reference26Ideal.nD Cert.Reference26Ideal.τ).loc Cert.Reference26Ideal.main_arg43) = m ((c.tc : Thread Cert.Reference26Ideal.nD Cert.Reference26Ideal.τ).loc Cert.Reference26Ideal.main_arg43)
      ∧ r.2.mem ((c.tc : Thread Cert.Reference26Ideal.nD Cert.Reference26Ideal.τ).loc Cert.Reference26Ideal.main_arg44) = m ((c.tc : Thread Cert.Reference26Ideal.nD Cert.Reference26Ideal.τ).loc Cert.Reference26Ideal.main_arg44)
      ∧ r.2.mem ((c.tc : Thread Cert.Reference26Ideal.nD Cert.Reference26Ideal.τ).loc Cert.Reference26Ideal.main_arg45) = m ((c.tc : Thread Cert.Reference26Ideal.nD Cert.Reference26Ideal.τ).loc Cert.Reference26Ideal.main_arg45)
      ∧ r.2.mem ((c.tc : Thread Cert.Reference26Ideal.nD Cert.Reference26Ideal.τ).loc Cert.Reference26Ideal.main_arg46) = m ((c.tc : Thread Cert.Reference26Ideal.nD Cert.Reference26Ideal.τ).loc Cert.Reference26Ideal.main_arg46)
      ∧ r.2.mem ((c.tc : Thread Cert.Reference26Ideal.nD Cert.Reference26Ideal.τ).loc Cert.Reference26Ideal.main_arg47) = m ((c.tc : Thread Cert.Reference26Ideal.nD Cert.Reference26Ideal.τ).loc Cert.Reference26Ideal.main_arg47)
      ∧ r.2.mem ((c.tc : Thread Cert.Reference26Ideal.nD Cert.Reference26Ideal.τ).loc Cert.Reference26Ideal.main_arg48) = m ((c.tc : Thread Cert.Reference26Ideal.nD Cert.Reference26Ideal.τ).loc Cert.Reference26Ideal.main_arg48)
      ∧ r.2.mem ((c.tc : Thread Cert.Reference26Ideal.nD Cert.Reference26Ideal.τ).loc Cert.Reference26Ideal.main_arg49) = m ((c.tc : Thread Cert.Reference26Ideal.nD Cert.Reference26Ideal.τ).loc Cert.Reference26Ideal.main_arg49)
      ∧ r.2.mem ((c.tc : Thread Cert.Reference26Ideal.nD Cert.Reference26Ideal.τ).loc Cert.Reference26Ideal.main_arg50) = m ((c.tc : Thread Cert.Reference26Ideal.nD Cert.Reference26Ideal.τ).loc Cert.Reference26Ideal.main_arg50)
      ∧ r.2.mem ((c.tc : Thread Cert.Reference26Ideal.nD Cert.Reference26Ideal.τ).loc Cert.Reference26Ideal.main_arg51) = m ((c.tc : Thread Cert.Reference26Ideal.nD Cert.Reference26Ideal.τ).loc Cert.Reference26Ideal.main_arg51)
      ∧ r.2.mem ((c.tc : Thread Cert.Reference26Ideal.nD Cert.Reference26Ideal.τ).loc Cert.Reference26Ideal.main_arg52) = m ((c.tc : Thread Cert.Reference26Ideal.nD Cert.Reference26Ideal.τ).loc Cert.Reference26Ideal.main_arg52)
      ∧ r.2.mem ((c.tc : Thread Cert.Reference26Ideal.nD Cert.Reference26Ideal.τ).loc Cert.Reference26Ideal.main_arg53) = m ((c.tc : Thread Cert.Reference26Ideal.nD Cert.Reference26Ideal.τ).loc Cert.Reference26Ideal.main_arg53)
      ∧ r.2.mem ((c.tc : Thread Cert.Reference26Ideal.nD Cert.Reference26Ideal.τ).loc Cert.Reference26Ideal.main_arg54) = m ((c.tc : Thread Cert.Reference26Ideal.nD Cert.Reference26Ideal.τ).loc Cert.Reference26Ideal.main_arg54)
      ∧ r.2.mem ((c.tc : Thread Cert.Reference26Ideal.nD Cert.Reference26Ideal.τ).loc Cert.Reference26Ideal.main_arg55) = m ((c.tc : Thread Cert.Reference26Ideal.nD Cert.Reference26Ideal.τ).loc Cert.Reference26Ideal.main_arg55)
      ∧ r.2.mem ((c.tc : Thread Cert.Reference26Ideal.nD Cert.Reference26Ideal.τ).loc Cert.Reference26Ideal.main_arg56) = m ((c.tc : Thread Cert.Reference26Ideal.nD Cert.Reference26Ideal.τ).loc Cert.Reference26Ideal.main_arg56)
      ∧ r.2.mem ((c.tc : Thread Cert.Reference26Ideal.nD Cert.Reference26Ideal.τ).loc Cert.Reference26Ideal.main_arg57) = m ((c.tc : Thread Cert.Reference26Ideal.nD Cert.Reference26Ideal.τ).loc Cert.Reference26Ideal.main_arg57)
      ∧ r.2.mem ((c.tc : Thread Cert.Reference26Ideal.nD Cert.Reference26Ideal.τ).loc Cert.Reference26Ideal.main_arg58) = m ((c.tc : Thread Cert.Reference26Ideal.nD Cert.Reference26Ideal.τ).loc Cert.Reference26Ideal.main_arg58)
      ∧ r.2.mem ((c.tc : Thread Cert.Reference26Ideal.nD Cert.Reference26Ideal.τ).loc Cert.Reference26Ideal.main_arg59) = m ((c.tc : Thread Cert.Reference26Ideal.nD Cert.Reference26Ideal.τ).loc Cert.Reference26Ideal.main_arg59)
      ∧ r.2.mem ((c.tc : Thread Cert.Reference26Ideal.nD Cert.Reference26Ideal.τ).loc Cert.Reference26Ideal.main_arg60) = m ((c.tc : Thread Cert.Reference26Ideal.nD Cert.Reference26Ideal.τ).loc Cert.Reference26Ideal.main_arg60)
      ∧ r.2.mem ((c.tc : Thread Cert.Reference26Ideal.nD Cert.Reference26Ideal.τ).loc Cert.Reference26Ideal.main_arg61) = m ((c.tc : Thread Cert.Reference26Ideal.nD Cert.Reference26Ideal.τ).loc Cert.Reference26Ideal.main_arg61)
      ∧ r.2.mem ((c.tc : Thread Cert.Reference26Ideal.nD Cert.Reference26Ideal.τ).loc Cert.Reference26Ideal.main_arg62) = m ((c.tc : Thread Cert.Reference26Ideal.nD Cert.Reference26Ideal.τ).loc Cert.Reference26Ideal.main_arg62)
      ∧ r.2.mem ((c.tc : Thread Cert.Reference26Ideal.nD Cert.Reference26Ideal.τ).loc Cert.Reference26Ideal.main_arg63) = m ((c.tc : Thread Cert.Reference26Ideal.nD Cert.Reference26Ideal.τ).loc Cert.Reference26Ideal.main_arg63)
      ∧ r.2.mem ((c.tc : Thread Cert.Reference26Ideal.nD Cert.Reference26Ideal.τ).loc Cert.Reference26Ideal.main_arg64) = m ((c.tc : Thread Cert.Reference26Ideal.nD Cert.Reference26Ideal.τ).loc Cert.Reference26Ideal.main_arg64)
      ∧ r.2.mem ((c.tc : Thread Cert.Reference26Ideal.nD Cert.Reference26Ideal.τ).loc Cert.Reference26Ideal.main_arg65) = m ((c.tc : Thread Cert.Reference26Ideal.nD Cert.Reference26Ideal.τ).loc Cert.Reference26Ideal.main_arg65)
      ∧ r.2.mem ((c.tc : Thread Cert.Reference26Ideal.nD Cert.Reference26Ideal.τ).loc Cert.Reference26Ideal.main_arg66) = m ((c.tc : Thread Cert.Reference26Ideal.nD Cert.Reference26Ideal.τ).loc Cert.Reference26Ideal.main_arg66)
      ∧ r.2.mem ((c.tc : Thread Cert.Reference26Ideal.nD Cert.Reference26Ideal.τ).loc Cert.Reference26Ideal.main_arg67) = m ((c.tc : Thread Cert.Reference26Ideal.nD Cert.Reference26Ideal.τ).loc Cert.Reference26Ideal.main_arg67))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3)
      ∧ r.2.mem ((c.tc : Thread Cert.Kernel31.nD Cert.Kernel31.τ).loc Cert.Kernel31.main_arg4) = m ((c.tc : Thread Cert.Kernel31.nD Cert.Kernel31.τ).loc Cert.Kernel31.main_arg4)
      ∧ r.2.mem ((c.tc : Thread Cert.Kernel31.nD Cert.Kernel31.τ).loc Cert.Kernel31.main_arg5) = m ((c.tc : Thread Cert.Kernel31.nD Cert.Kernel31.τ).loc Cert.Kernel31.main_arg5)
      ∧ r.2.mem ((c.tc : Thread Cert.Kernel31.nD Cert.Kernel31.τ).loc Cert.Kernel31.main_arg6) = m ((c.tc : Thread Cert.Kernel31.nD Cert.Kernel31.τ).loc Cert.Kernel31.main_arg6)
      ∧ r.2.mem ((c.tc : Thread Cert.Kernel31.nD Cert.Kernel31.τ).loc Cert.Kernel31.main_arg7) = m ((c.tc : Thread Cert.Kernel31.nD Cert.Kernel31.τ).loc Cert.Kernel31.main_arg7)
      ∧ r.2.mem ((c.tc : Thread Cert.Kernel31.nD Cert.Kernel31.τ).loc Cert.Kernel31.main_arg8) = m ((c.tc : Thread Cert.Kernel31.nD Cert.Kernel31.τ).loc Cert.Kernel31.main_arg8)
      ∧ r.2.mem ((c.tc : Thread Cert.Kernel31.nD Cert.Kernel31.τ).loc Cert.Kernel31.main_arg9) = m ((c.tc : Thread Cert.Kernel31.nD Cert.Kernel31.τ).loc Cert.Kernel31.main_arg9)
      ∧ r.2.mem ((c.tc : Thread Cert.Kernel31.nD Cert.Kernel31.τ).loc Cert.Kernel31.main_arg10) = m ((c.tc : Thread Cert.Kernel31.nD Cert.Kernel31.τ).loc Cert.Kernel31.main_arg10)
      ∧ r.2.mem ((c.tc : Thread Cert.Kernel31.nD Cert.Kernel31.τ).loc Cert.Kernel31.main_arg11) = m ((c.tc : Thread Cert.Kernel31.nD Cert.Kernel31.τ).loc Cert.Kernel31.main_arg11)
      ∧ r.2.mem ((c.tc : Thread Cert.Kernel31.nD Cert.Kernel31.τ).loc Cert.Kernel31.main_arg12) = m ((c.tc : Thread Cert.Kernel31.nD Cert.Kernel31.τ).loc Cert.Kernel31.main_arg12)
      ∧ r.2.mem ((c.tc : Thread Cert.Kernel31.nD Cert.Kernel31.τ).loc Cert.Kernel31.main_arg13) = m ((c.tc : Thread Cert.Kernel31.nD Cert.Kernel31.τ).loc Cert.Kernel31.main_arg13)
      ∧ r.2.mem ((c.tc : Thread Cert.Kernel31.nD Cert.Kernel31.τ).loc Cert.Kernel31.main_arg14) = m ((c.tc : Thread Cert.Kernel31.nD Cert.Kernel31.τ).loc Cert.Kernel31.main_arg14)
      ∧ r.2.mem ((c.tc : Thread Cert.Kernel31.nD Cert.Kernel31.τ).loc Cert.Kernel31.main_arg15) = m ((c.tc : Thread Cert.Kernel31.nD Cert.Kernel31.τ).loc Cert.Kernel31.main_arg15)
      ∧ r.2.mem ((c.tc : Thread Cert.Kernel31.nD Cert.Kernel31.τ).loc Cert.Kernel31.main_arg16) = m ((c.tc : Thread Cert.Kernel31.nD Cert.Kernel31.τ).loc Cert.Kernel31.main_arg16))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
      ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
      ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5)
      ∧ r.2.mem ((c.tc : Thread Cert.Kernel31Ideal.nD Cert.Kernel31Ideal.τ).loc Cert.Kernel31Ideal.main_arg6) = m ((c.tc : Thread Cert.Kernel31Ideal.nD Cert.Kernel31Ideal.τ).loc Cert.Kernel31Ideal.main_arg6)
      ∧ r.2.mem ((c.tc : Thread Cert.Kernel31Ideal.nD Cert.Kernel31Ideal.τ).loc Cert.Kernel31Ideal.main_arg7) = m ((c.tc : Thread Cert.Kernel31Ideal.nD Cert.Kernel31Ideal.τ).loc Cert.Kernel31Ideal.main_arg7)
      ∧ r.2.mem ((c.tc : Thread Cert.Kernel31Ideal.nD Cert.Kernel31Ideal.τ).loc Cert.Kernel31Ideal.main_arg8) = m ((c.tc : Thread Cert.Kernel31Ideal.nD Cert.Kernel31Ideal.τ).loc Cert.Kernel31Ideal.main_arg8)
      ∧ r.2.mem ((c.tc : Thread Cert.Kernel31Ideal.nD Cert.Kernel31Ideal.τ).loc Cert.Kernel31Ideal.main_arg9) = m ((c.tc : Thread Cert.Kernel31Ideal.nD Cert.Kernel31Ideal.τ).loc Cert.Kernel31Ideal.main_arg9)
      ∧ r.2.mem ((c.tc : Thread Cert.Kernel31Ideal.nD Cert.Kernel31Ideal.τ).loc Cert.Kernel31Ideal.main_arg10) = m ((c.tc : Thread Cert.Kernel31Ideal.nD Cert.Kernel31Ideal.τ).loc Cert.Kernel31Ideal.main_arg10)
      ∧ r.2.mem ((c.tc : Thread Cert.Kernel31Ideal.nD Cert.Kernel31Ideal.τ).loc Cert.Kernel31Ideal.main_arg11) = m ((c.tc : Thread Cert.Kernel31Ideal.nD Cert.Kernel31Ideal.τ).loc Cert.Kernel31Ideal.main_arg11)
      ∧ r.2.mem ((c.tc : Thread Cert.Kernel31Ideal.nD Cert.Kernel31Ideal.τ).loc Cert.Kernel31Ideal.main_arg12) = m ((c.tc : Thread Cert.Kernel31Ideal.nD Cert.Kernel31Ideal.τ).loc Cert.Kernel31Ideal.main_arg12)
      ∧ r.2.mem ((c.tc : Thread Cert.Kernel31Ideal.nD Cert.Kernel31Ideal.τ).loc Cert.Kernel31Ideal.main_arg13) = m ((c.tc : Thread Cert.Kernel31Ideal.nD Cert.Kernel31Ideal.τ).loc Cert.Kernel31Ideal.main_arg13)
      ∧ r.2.mem ((c.tc : Thread Cert.Kernel31Ideal.nD Cert.Kernel31Ideal.τ).loc Cert.Kernel31Ideal.main_arg14) = m ((c.tc : Thread Cert.Kernel31Ideal.nD Cert.Kernel31Ideal.τ).loc Cert.Kernel31Ideal.main_arg14)
      ∧ r.2.mem ((c.tc : Thread Cert.Kernel31Ideal.nD Cert.Kernel31Ideal.τ).loc Cert.Kernel31Ideal.main_arg15) = m ((c.tc : Thread Cert.Kernel31Ideal.nD Cert.Kernel31Ideal.τ).loc Cert.Kernel31Ideal.main_arg15)
      ∧ r.2.mem ((c.tc : Thread Cert.Kernel31Ideal.nD Cert.Kernel31Ideal.τ).loc Cert.Kernel31Ideal.main_arg16) = m ((c.tc : Thread Cert.Kernel31Ideal.nD Cert.Kernel31Ideal.τ).loc Cert.Kernel31Ideal.main_arg16))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4)
      ∧ r.2.mem ((c.tc : Thread Cert.Reference31Ideal.nD Cert.Reference31Ideal.τ).loc Cert.Reference31Ideal.main_arg5) = m ((c.tc : Thread Cert.Reference31Ideal.nD Cert.Reference31Ideal.τ).loc Cert.Reference31Ideal.main_arg5)
      ∧ r.2.mem ((c.tc : Thread Cert.Reference31Ideal.nD Cert.Reference31Ideal.τ).loc Cert.Reference31Ideal.main_arg6) = m ((c.tc : Thread Cert.Reference31Ideal.nD Cert.Reference31Ideal.τ).loc Cert.Reference31Ideal.main_arg6)
      ∧ r.2.mem ((c.tc : Thread Cert.Reference31Ideal.nD Cert.Reference31Ideal.τ).loc Cert.Reference31Ideal.main_arg7) = m ((c.tc : Thread Cert.Reference31Ideal.nD Cert.Reference31Ideal.τ).loc Cert.Reference31Ideal.main_arg7)
      ∧ r.2.mem ((c.tc : Thread Cert.Reference31Ideal.nD Cert.Reference31Ideal.τ).loc Cert.Reference31Ideal.main_arg8) = m ((c.tc : Thread Cert.Reference31Ideal.nD Cert.Reference31Ideal.τ).loc Cert.Reference31Ideal.main_arg8)
      ∧ r.2.mem ((c.tc : Thread Cert.Reference31Ideal.nD Cert.Reference31Ideal.τ).loc Cert.Reference31Ideal.main_arg9) = m ((c.tc : Thread Cert.Reference31Ideal.nD Cert.Reference31Ideal.τ).loc Cert.Reference31Ideal.main_arg9)
      ∧ r.2.mem ((c.tc : Thread Cert.Reference31Ideal.nD Cert.Reference31Ideal.τ).loc Cert.Reference31Ideal.main_arg10) = m ((c.tc : Thread Cert.Reference31Ideal.nD Cert.Reference31Ideal.τ).loc Cert.Reference31Ideal.main_arg10)
      ∧ r.2.mem ((c.tc : Thread Cert.Reference31Ideal.nD Cert.Reference31Ideal.τ).loc Cert.Reference31Ideal.main_arg11) = m ((c.tc : Thread Cert.Reference31Ideal.nD Cert.Reference31Ideal.τ).loc Cert.Reference31Ideal.main_arg11)
      ∧ r.2.mem ((c.tc : Thread Cert.Reference31Ideal.nD Cert.Reference31Ideal.τ).loc Cert.Reference31Ideal.main_arg12) = m ((c.tc : Thread Cert.Reference31Ideal.nD Cert.Reference31Ideal.τ).loc Cert.Reference31Ideal.main_arg12)
      ∧ r.2.mem ((c.tc : Thread Cert.Reference31Ideal.nD Cert.Reference31Ideal.τ).loc Cert.Reference31Ideal.main_arg13) = m ((c.tc : Thread Cert.Reference31Ideal.nD Cert.Reference31Ideal.τ).loc Cert.Reference31Ideal.main_arg13)
      ∧ r.2.mem ((c.tc : Thread Cert.Reference31Ideal.nD Cert.Reference31Ideal.τ).loc Cert.Reference31Ideal.main_arg14) = m ((c.tc : Thread Cert.Reference31Ideal.nD Cert.Reference31Ideal.τ).loc Cert.Reference31Ideal.main_arg14)
      ∧ r.2.mem ((c.tc : Thread Cert.Reference31Ideal.nD Cert.Reference31Ideal.τ).loc Cert.Reference31Ideal.main_arg15) = m ((c.tc : Thread Cert.Reference31Ideal.nD Cert.Reference31Ideal.τ).loc Cert.Reference31Ideal.main_arg15)
      ∧ r.2.mem ((c.tc : Thread Cert.Reference31Ideal.nD Cert.Reference31Ideal.τ).loc Cert.Reference31Ideal.main_arg16) = m ((c.tc : Thread Cert.Reference31Ideal.nD Cert.Reference31Ideal.τ).loc Cert.Reference31Ideal.main_arg16))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def preserves_Kernel_KernelIdeal : Prop :=
  IdealRules.named_const.Statement Cert.KernelIdeal.κ "mask" .f32 0xF149F2CA#32 ⊥

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v1) = v0 c
          ∧ r.2.mem ((c.tc : Thread Cert.Reference2Ideal.nD Cert.Reference2Ideal.τ).loc Cert.Reference2Ideal.main_v4) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_v15) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v5_0)) (v1 : (c : Dev Cert.Kernel7Ideal.nD) → Buf (Elt Ideal) ((c.tc : Thread Cert.Kernel7Ideal.nD Cert.Kernel7Ideal.τ).loc Cert.Kernel7Ideal.main_v5_1)) (v2 : (c : Dev Cert.Kernel7Ideal.nD) → Buf (Elt Ideal) ((c.tc : Thread Cert.Kernel7Ideal.nD Cert.Kernel7Ideal.τ).loc Cert.Kernel7Ideal.main_v5_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5_0) = v0 c
          ∧ r.2.mem ((c.tc : Thread Cert.Kernel7Ideal.nD Cert.Kernel7Ideal.τ).loc Cert.Kernel7Ideal.main_v5_1) = v1 c
          ∧ r.2.mem ((c.tc : Thread Cert.Kernel7Ideal.nD Cert.Kernel7Ideal.τ).loc Cert.Kernel7Ideal.main_v5_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v38) = v0 c
          ∧ r.2.mem ((c.tc : Thread Cert.Reference7Ideal.nD Cert.Reference7Ideal.τ).loc Cert.Reference7Ideal.main_v39) = v1 c
          ∧ r.2.mem ((c.tc : Thread Cert.Reference7Ideal.nD Cert.Reference7Ideal.τ).loc Cert.Reference7Ideal.main_v40) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v3_0)) (v1 : (c : Dev Cert.Kernel14Ideal.nD) → Buf (Elt Ideal) ((c.tc : Thread Cert.Kernel14Ideal.nD Cert.Kernel14Ideal.τ).loc Cert.Kernel14Ideal.main_v3_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3_0) = v0 c
          ∧ r.2.mem ((c.tc : Thread Cert.Kernel14Ideal.nD Cert.Kernel14Ideal.τ).loc Cert.Kernel14Ideal.main_v3_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_v15) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v4_0)) (v1 : (c : Dev Cert.Kernel15Ideal.nD) → Buf (Elt Ideal) ((c.tc : Thread Cert.Kernel15Ideal.nD Cert.Kernel15Ideal.τ).loc Cert.Kernel15Ideal.main_v4_1)) (v2 : (c : Dev Cert.Kernel15Ideal.nD) → Buf (Elt Ideal) ((c.tc : Thread Cert.Kernel15Ideal.nD Cert.Kernel15Ideal.τ).loc Cert.Kernel15Ideal.main_v4_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4_0) = v0 c
          ∧ r.2.mem ((c.tc : Thread Cert.Kernel15Ideal.nD Cert.Kernel15Ideal.τ).loc Cert.Kernel15Ideal.main_v4_1) = v1 c
          ∧ r.2.mem ((c.tc : Thread Cert.Kernel15Ideal.nD Cert.Kernel15Ideal.τ).loc Cert.Kernel15Ideal.main_v4_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v24) = v0 c
          ∧ r.2.mem ((c.tc : Thread Cert.Reference15Ideal.nD Cert.Reference15Ideal.τ).loc Cert.Reference15Ideal.main_v25) = v1 c
          ∧ r.2.mem ((c.tc : Thread Cert.Reference15Ideal.nD Cert.Reference15Ideal.τ).loc Cert.Reference15Ideal.main_v26) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v4_0)) (v1 : (c : Dev Cert.Kernel16Ideal.nD) → Buf (Elt Ideal) ((c.tc : Thread Cert.Kernel16Ideal.nD Cert.Kernel16Ideal.τ).loc Cert.Kernel16Ideal.main_v4_1)) (v2 : (c : Dev Cert.Kernel16Ideal.nD) → Buf (Elt Ideal) ((c.tc : Thread Cert.Kernel16Ideal.nD Cert.Kernel16Ideal.τ).loc Cert.Kernel16Ideal.main_v4_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v4_0) = v0 c
          ∧ r.2.mem ((c.tc : Thread Cert.Kernel16Ideal.nD Cert.Kernel16Ideal.τ).loc Cert.Kernel16Ideal.main_v4_1) = v1 c
          ∧ r.2.mem ((c.tc : Thread Cert.Kernel16Ideal.nD Cert.Kernel16Ideal.τ).loc Cert.Kernel16Ideal.main_v4_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v24) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v26) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v4_0)) (v1 : (c : Dev Cert.Kernel17Ideal.nD) → Buf (Elt Ideal) ((c.tc : Thread Cert.Kernel17Ideal.nD Cert.Kernel17Ideal.τ).loc Cert.Kernel17Ideal.main_v4_1)) (v2 : (c : Dev Cert.Kernel17Ideal.nD) → Buf (Elt Ideal) ((c.tc : Thread Cert.Kernel17Ideal.nD Cert.Kernel17Ideal.τ).loc Cert.Kernel17Ideal.main_v4_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v4_0) = v0 c
          ∧ r.2.mem ((c.tc : Thread Cert.Kernel17Ideal.nD Cert.Kernel17Ideal.τ).loc Cert.Kernel17Ideal.main_v4_1) = v1 c
          ∧ r.2.mem ((c.tc : Thread Cert.Kernel17Ideal.nD Cert.Kernel17Ideal.τ).loc Cert.Kernel17Ideal.main_v4_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v24) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v26) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v4_0)) (v1 : (c : Dev Cert.Kernel18Ideal.nD) → Buf (Elt Ideal) ((c.tc : Thread Cert.Kernel18Ideal.nD Cert.Kernel18Ideal.τ).loc Cert.Kernel18Ideal.main_v4_1)) (v2 : (c : Dev Cert.Kernel18Ideal.nD) → Buf (Elt Ideal) ((c.tc : Thread Cert.Kernel18Ideal.nD Cert.Kernel18Ideal.τ).loc Cert.Kernel18Ideal.main_v4_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4_0) = v0 c
          ∧ r.2.mem ((c.tc : Thread Cert.Kernel18Ideal.nD Cert.Kernel18Ideal.τ).loc Cert.Kernel18Ideal.main_v4_1) = v1 c
          ∧ r.2.mem ((c.tc : Thread Cert.Kernel18Ideal.nD Cert.Kernel18Ideal.τ).loc Cert.Kernel18Ideal.main_v4_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v24) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v26) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v4_0)) (v1 : (c : Dev Cert.Kernel19Ideal.nD) → Buf (Elt Ideal) ((c.tc : Thread Cert.Kernel19Ideal.nD Cert.Kernel19Ideal.τ).loc Cert.Kernel19Ideal.main_v4_1)) (v2 : (c : Dev Cert.Kernel19Ideal.nD) → Buf (Elt Ideal) ((c.tc : Thread Cert.Kernel19Ideal.nD Cert.Kernel19Ideal.τ).loc Cert.Kernel19Ideal.main_v4_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v4_0) = v0 c
          ∧ r.2.mem ((c.tc : Thread Cert.Kernel19Ideal.nD Cert.Kernel19Ideal.τ).loc Cert.Kernel19Ideal.main_v4_1) = v1 c
          ∧ r.2.mem ((c.tc : Thread Cert.Kernel19Ideal.nD Cert.Kernel19Ideal.τ).loc Cert.Kernel19Ideal.main_v4_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v24) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v26) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v4_0)) (v1 : (c : Dev Cert.Kernel20Ideal.nD) → Buf (Elt Ideal) ((c.tc : Thread Cert.Kernel20Ideal.nD Cert.Kernel20Ideal.τ).loc Cert.Kernel20Ideal.main_v4_1)) (v2 : (c : Dev Cert.Kernel20Ideal.nD) → Buf (Elt Ideal) ((c.tc : Thread Cert.Kernel20Ideal.nD Cert.Kernel20Ideal.τ).loc Cert.Kernel20Ideal.main_v4_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v4_0) = v0 c
          ∧ r.2.mem ((c.tc : Thread Cert.Kernel20Ideal.nD Cert.Kernel20Ideal.τ).loc Cert.Kernel20Ideal.main_v4_1) = v1 c
          ∧ r.2.mem ((c.tc : Thread Cert.Kernel20Ideal.nD Cert.Kernel20Ideal.τ).loc Cert.Kernel20Ideal.main_v4_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v24) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v26) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v4_0)) (v1 : (c : Dev Cert.Kernel21Ideal.nD) → Buf (Elt Ideal) ((c.tc : Thread Cert.Kernel21Ideal.nD Cert.Kernel21Ideal.τ).loc Cert.Kernel21Ideal.main_v4_1)) (v2 : (c : Dev Cert.Kernel21Ideal.nD) → Buf (Elt Ideal) ((c.tc : Thread Cert.Kernel21Ideal.nD Cert.Kernel21Ideal.τ).loc Cert.Kernel21Ideal.main_v4_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v4_0) = v0 c
          ∧ r.2.mem ((c.tc : Thread Cert.Kernel21Ideal.nD Cert.Kernel21Ideal.τ).loc Cert.Kernel21Ideal.main_v4_1) = v1 c
          ∧ r.2.mem ((c.tc : Thread Cert.Kernel21Ideal.nD Cert.Kernel21Ideal.τ).loc Cert.Kernel21Ideal.main_v4_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v24) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_v26) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v4)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v4) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v1) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v4) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v3_0)) (v1 : (c : Dev Cert.Kernel24Ideal.nD) → Buf (Elt Ideal) ((c.tc : Thread Cert.Kernel24Ideal.nD Cert.Kernel24Ideal.τ).loc Cert.Kernel24Ideal.main_v3_1)) (v2 : (c : Dev Cert.Kernel24Ideal.nD) → Buf (Elt Ideal) ((c.tc : Thread Cert.Kernel24Ideal.nD Cert.Kernel24Ideal.τ).loc Cert.Kernel24Ideal.main_v3_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v3_0) = v0 c
          ∧ r.2.mem ((c.tc : Thread Cert.Kernel24Ideal.nD Cert.Kernel24Ideal.τ).loc Cert.Kernel24Ideal.main_v3_1) = v1 c
          ∧ r.2.mem ((c.tc : Thread Cert.Kernel24Ideal.nD Cert.Kernel24Ideal.τ).loc Cert.Kernel24Ideal.main_v3_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v38) = v0 c
          ∧ r.2.mem ((c.tc : Thread Cert.Reference24Ideal.nD Cert.Reference24Ideal.τ).loc Cert.Reference24Ideal.main_v39) = v1 c
          ∧ r.2.mem ((c.tc : Thread Cert.Reference24Ideal.nD Cert.Reference24Ideal.τ).loc Cert.Reference24Ideal.main_v40) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)) →
    ∃ (v0 : (c : Dev Cert.Kernel25Ideal.nD) → Buf (Elt Ideal) ((c.tc : Thread Cert.Kernel25Ideal.nD Cert.Kernel25Ideal.τ).loc Cert.Kernel25Ideal.main_v3_0)) (v1 : (c : Dev Cert.Kernel25Ideal.nD) → Buf (Elt Ideal) ((c.tc : Thread Cert.Kernel25Ideal.nD Cert.Kernel25Ideal.τ).loc Cert.Kernel25Ideal.main_v3_1)) (v2 : (c : Dev Cert.Kernel25Ideal.nD) → Buf (Elt Ideal) ((c.tc : Thread Cert.Kernel25Ideal.nD Cert.Kernel25Ideal.τ).loc Cert.Kernel25Ideal.main_v3_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v3_0) = v0 c
          ∧ r.2.mem ((c.tc : Thread Cert.Kernel25Ideal.nD Cert.Kernel25Ideal.τ).loc Cert.Kernel25Ideal.main_v3_1) = v1 c
          ∧ r.2.mem ((c.tc : Thread Cert.Kernel25Ideal.nD Cert.Kernel25Ideal.τ).loc Cert.Kernel25Ideal.main_v3_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v38) = v0 c
          ∧ r.2.mem ((c.tc : Thread Cert.Reference25Ideal.nD Cert.Reference25Ideal.τ).loc Cert.Reference25Ideal.main_v39) = v1 c
          ∧ r.2.mem ((c.tc : Thread Cert.Reference25Ideal.nD Cert.Reference25Ideal.τ).loc Cert.Reference25Ideal.main_v40) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)
      ∧ m' ((c.tc : Thread Cert.Reference26Ideal.nD Cert.Reference26Ideal.τ).loc Cert.Reference26Ideal.main_arg5) = m ((c.tc : Thread Cert.Kernel26Ideal.nD Cert.Kernel26Ideal.τ).loc Cert.Kernel26Ideal.main_arg5)
      ∧ m' ((c.tc : Thread Cert.Reference26Ideal.nD Cert.Reference26Ideal.τ).loc Cert.Reference26Ideal.main_arg6) = m ((c.tc : Thread Cert.Kernel26Ideal.nD Cert.Kernel26Ideal.τ).loc Cert.Kernel26Ideal.main_arg6)
      ∧ m' ((c.tc : Thread Cert.Reference26Ideal.nD Cert.Reference26Ideal.τ).loc Cert.Reference26Ideal.main_arg7) = m ((c.tc : Thread Cert.Kernel26Ideal.nD Cert.Kernel26Ideal.τ).loc Cert.Kernel26Ideal.main_arg7)
      ∧ m' ((c.tc : Thread Cert.Reference26Ideal.nD Cert.Reference26Ideal.τ).loc Cert.Reference26Ideal.main_arg8) = m ((c.tc : Thread Cert.Kernel26Ideal.nD Cert.Kernel26Ideal.τ).loc Cert.Kernel26Ideal.main_arg8)
      ∧ m' ((c.tc : Thread Cert.Reference26Ideal.nD Cert.Reference26Ideal.τ).loc Cert.Reference26Ideal.main_arg9) = m ((c.tc : Thread Cert.Kernel26Ideal.nD Cert.Kernel26Ideal.τ).loc Cert.Kernel26Ideal.main_arg9)
      ∧ m' ((c.tc : Thread Cert.Reference26Ideal.nD Cert.Reference26Ideal.τ).loc Cert.Reference26Ideal.main_arg10) = m ((c.tc : Thread Cert.Kernel26Ideal.nD Cert.Kernel26Ideal.τ).loc Cert.Kernel26Ideal.main_arg10)
      ∧ m' ((c.tc : Thread Cert.Reference26Ideal.nD Cert.Reference26Ideal.τ).loc Cert.Reference26Ideal.main_arg11) = m ((c.tc : Thread Cert.Kernel26Ideal.nD Cert.Kernel26Ideal.τ).loc Cert.Kernel26Ideal.main_arg11)
      ∧ m' ((c.tc : Thread Cert.Reference26Ideal.nD Cert.Reference26Ideal.τ).loc Cert.Reference26Ideal.main_arg12) = m ((c.tc : Thread Cert.Kernel26Ideal.nD Cert.Kernel26Ideal.τ).loc Cert.Kernel26Ideal.main_arg12)
      ∧ m' ((c.tc : Thread Cert.Reference26Ideal.nD Cert.Reference26Ideal.τ).loc Cert.Reference26Ideal.main_arg13) = m ((c.tc : Thread Cert.Kernel26Ideal.nD Cert.Kernel26Ideal.τ).loc Cert.Kernel26Ideal.main_arg13)
      ∧ m' ((c.tc : Thread Cert.Reference26Ideal.nD Cert.Reference26Ideal.τ).loc Cert.Reference26Ideal.main_arg14) = m ((c.tc : Thread Cert.Kernel26Ideal.nD Cert.Kernel26Ideal.τ).loc Cert.Kernel26Ideal.main_arg14)
      ∧ m' ((c.tc : Thread Cert.Reference26Ideal.nD Cert.Reference26Ideal.τ).loc Cert.Reference26Ideal.main_arg15) = m ((c.tc : Thread Cert.Kernel26Ideal.nD Cert.Kernel26Ideal.τ).loc Cert.Kernel26Ideal.main_arg15)
      ∧ m' ((c.tc : Thread Cert.Reference26Ideal.nD Cert.Reference26Ideal.τ).loc Cert.Reference26Ideal.main_arg16) = m ((c.tc : Thread Cert.Kernel26Ideal.nD Cert.Kernel26Ideal.τ).loc Cert.Kernel26Ideal.main_arg16)
      ∧ m' ((c.tc : Thread Cert.Reference26Ideal.nD Cert.Reference26Ideal.τ).loc Cert.Reference26Ideal.main_arg17) = m ((c.tc : Thread Cert.Kernel26Ideal.nD Cert.Kernel26Ideal.τ).loc Cert.Kernel26Ideal.main_arg17)
      ∧ m' ((c.tc : Thread Cert.Reference26Ideal.nD Cert.Reference26Ideal.τ).loc Cert.Reference26Ideal.main_arg18) = m ((c.tc : Thread Cert.Kernel26Ideal.nD Cert.Kernel26Ideal.τ).loc Cert.Kernel26Ideal.main_arg18)
      ∧ m' ((c.tc : Thread Cert.Reference26Ideal.nD Cert.Reference26Ideal.τ).loc Cert.Reference26Ideal.main_arg19) = m ((c.tc : Thread Cert.Kernel26Ideal.nD Cert.Kernel26Ideal.τ).loc Cert.Kernel26Ideal.main_arg19)
      ∧ m' ((c.tc : Thread Cert.Reference26Ideal.nD Cert.Reference26Ideal.τ).loc Cert.Reference26Ideal.main_arg20) = m ((c.tc : Thread Cert.Kernel26Ideal.nD Cert.Kernel26Ideal.τ).loc Cert.Kernel26Ideal.main_arg20)
      ∧ m' ((c.tc : Thread Cert.Reference26Ideal.nD Cert.Reference26Ideal.τ).loc Cert.Reference26Ideal.main_arg21) = m ((c.tc : Thread Cert.Kernel26Ideal.nD Cert.Kernel26Ideal.τ).loc Cert.Kernel26Ideal.main_arg21)
      ∧ m' ((c.tc : Thread Cert.Reference26Ideal.nD Cert.Reference26Ideal.τ).loc Cert.Reference26Ideal.main_arg22) = m ((c.tc : Thread Cert.Kernel26Ideal.nD Cert.Kernel26Ideal.τ).loc Cert.Kernel26Ideal.main_arg22)
      ∧ m' ((c.tc : Thread Cert.Reference26Ideal.nD Cert.Reference26Ideal.τ).loc Cert.Reference26Ideal.main_arg23) = m ((c.tc : Thread Cert.Kernel26Ideal.nD Cert.Kernel26Ideal.τ).loc Cert.Kernel26Ideal.main_arg23)
      ∧ m' ((c.tc : Thread Cert.Reference26Ideal.nD Cert.Reference26Ideal.τ).loc Cert.Reference26Ideal.main_arg24) = m ((c.tc : Thread Cert.Kernel26Ideal.nD Cert.Kernel26Ideal.τ).loc Cert.Kernel26Ideal.main_arg24)
      ∧ m' ((c.tc : Thread Cert.Reference26Ideal.nD Cert.Reference26Ideal.τ).loc Cert.Reference26Ideal.main_arg25) = m ((c.tc : Thread Cert.Kernel26Ideal.nD Cert.Kernel26Ideal.τ).loc Cert.Kernel26Ideal.main_arg25)
      ∧ m' ((c.tc : Thread Cert.Reference26Ideal.nD Cert.Reference26Ideal.τ).loc Cert.Reference26Ideal.main_arg26) = m ((c.tc : Thread Cert.Kernel26Ideal.nD Cert.Kernel26Ideal.τ).loc Cert.Kernel26Ideal.main_arg26)
      ∧ m' ((c.tc : Thread Cert.Reference26Ideal.nD Cert.Reference26Ideal.τ).loc Cert.Reference26Ideal.main_arg27) = m ((c.tc : Thread Cert.Kernel26Ideal.nD Cert.Kernel26Ideal.τ).loc Cert.Kernel26Ideal.main_arg27)
      ∧ m' ((c.tc : Thread Cert.Reference26Ideal.nD Cert.Reference26Ideal.τ).loc Cert.Reference26Ideal.main_arg28) = m ((c.tc : Thread Cert.Kernel26Ideal.nD Cert.Kernel26Ideal.τ).loc Cert.Kernel26Ideal.main_arg28)
      ∧ m' ((c.tc : Thread Cert.Reference26Ideal.nD Cert.Reference26Ideal.τ).loc Cert.Reference26Ideal.main_arg29) = m ((c.tc : Thread Cert.Kernel26Ideal.nD Cert.Kernel26Ideal.τ).loc Cert.Kernel26Ideal.main_arg29)
      ∧ m' ((c.tc : Thread Cert.Reference26Ideal.nD Cert.Reference26Ideal.τ).loc Cert.Reference26Ideal.main_arg30) = m ((c.tc : Thread Cert.Kernel26Ideal.nD Cert.Kernel26Ideal.τ).loc Cert.Kernel26Ideal.main_arg30)
      ∧ m' ((c.tc : Thread Cert.Reference26Ideal.nD Cert.Reference26Ideal.τ).loc Cert.Reference26Ideal.main_arg31) = m ((c.tc : Thread Cert.Kernel26Ideal.nD Cert.Kernel26Ideal.τ).loc Cert.Kernel26Ideal.main_arg31)
      ∧ m' ((c.tc : Thread Cert.Reference26Ideal.nD Cert.Reference26Ideal.τ).loc Cert.Reference26Ideal.main_arg32) = m ((c.tc : Thread Cert.Kernel26Ideal.nD Cert.Kernel26Ideal.τ).loc Cert.Kernel26Ideal.main_arg32)
      ∧ m' ((c.tc : Thread Cert.Reference26Ideal.nD Cert.Reference26Ideal.τ).loc Cert.Reference26Ideal.main_arg33) = m ((c.tc : Thread Cert.Kernel26Ideal.nD Cert.Kernel26Ideal.τ).loc Cert.Kernel26Ideal.main_arg33)
      ∧ m' ((c.tc : Thread Cert.Reference26Ideal.nD Cert.Reference26Ideal.τ).loc Cert.Reference26Ideal.main_arg34) = m ((c.tc : Thread Cert.Kernel26Ideal.nD Cert.Kernel26Ideal.τ).loc Cert.Kernel26Ideal.main_arg34)
      ∧ m' ((c.tc : Thread Cert.Reference26Ideal.nD Cert.Reference26Ideal.τ).loc Cert.Reference26Ideal.main_arg35) = m ((c.tc : Thread Cert.Kernel26Ideal.nD Cert.Kernel26Ideal.τ).loc Cert.Kernel26Ideal.main_arg35)
      ∧ m' ((c.tc : Thread Cert.Reference26Ideal.nD Cert.Reference26Ideal.τ).loc Cert.Reference26Ideal.main_arg36) = m ((c.tc : Thread Cert.Kernel26Ideal.nD Cert.Kernel26Ideal.τ).loc Cert.Kernel26Ideal.main_arg36)
      ∧ m' ((c.tc : Thread Cert.Reference26Ideal.nD Cert.Reference26Ideal.τ).loc Cert.Reference26Ideal.main_arg37) = m ((c.tc : Thread Cert.Kernel26Ideal.nD Cert.Kernel26Ideal.τ).loc Cert.Kernel26Ideal.main_arg37)
      ∧ m' ((c.tc : Thread Cert.Reference26Ideal.nD Cert.Reference26Ideal.τ).loc Cert.Reference26Ideal.main_arg38) = m ((c.tc : Thread Cert.Kernel26Ideal.nD Cert.Kernel26Ideal.τ).loc Cert.Kernel26Ideal.main_arg38)
      ∧ m' ((c.tc : Thread Cert.Reference26Ideal.nD Cert.Reference26Ideal.τ).loc Cert.Reference26Ideal.main_arg39) = m ((c.tc : Thread Cert.Kernel26Ideal.nD Cert.Kernel26Ideal.τ).loc Cert.Kernel26Ideal.main_arg39)
      ∧ m' ((c.tc : Thread Cert.Reference26Ideal.nD Cert.Reference26Ideal.τ).loc Cert.Reference26Ideal.main_arg40) = m ((c.tc : Thread Cert.Kernel26Ideal.nD Cert.Kernel26Ideal.τ).loc Cert.Kernel26Ideal.main_arg40)
      ∧ m' ((c.tc : Thread Cert.Reference26Ideal.nD Cert.Reference26Ideal.τ).loc Cert.Reference26Ideal.main_arg41) = m ((c.tc : Thread Cert.Kernel26Ideal.nD Cert.Kernel26Ideal.τ).loc Cert.Kernel26Ideal.main_arg41)
      ∧ m' ((c.tc : Thread Cert.Reference26Ideal.nD Cert.Reference26Ideal.τ).loc Cert.Reference26Ideal.main_arg42) = m ((c.tc : Thread Cert.Kernel26Ideal.nD Cert.Kernel26Ideal.τ).loc Cert.Kernel26Ideal.main_arg42)
      ∧ m' ((c.tc : Thread Cert.Reference26Ideal.nD Cert.Reference26Ideal.τ).loc Cert.Reference26Ideal.main_arg43) = m ((c.tc : Thread Cert.Kernel26Ideal.nD Cert.Kernel26Ideal.τ).loc Cert.Kernel26Ideal.main_arg43)
      ∧ m' ((c.tc : Thread Cert.Reference26Ideal.nD Cert.Reference26Ideal.τ).loc Cert.Reference26Ideal.main_arg44) = m ((c.tc : Thread Cert.Kernel26Ideal.nD Cert.Kernel26Ideal.τ).loc Cert.Kernel26Ideal.main_arg44)
      ∧ m' ((c.tc : Thread Cert.Reference26Ideal.nD Cert.Reference26Ideal.τ).loc Cert.Reference26Ideal.main_arg45) = m ((c.tc : Thread Cert.Kernel26Ideal.nD Cert.Kernel26Ideal.τ).loc Cert.Kernel26Ideal.main_arg45)
      ∧ m' ((c.tc : Thread Cert.Reference26Ideal.nD Cert.Reference26Ideal.τ).loc Cert.Reference26Ideal.main_arg46) = m ((c.tc : Thread Cert.Kernel26Ideal.nD Cert.Kernel26Ideal.τ).loc Cert.Kernel26Ideal.main_arg46)
      ∧ m' ((c.tc : Thread Cert.Reference26Ideal.nD Cert.Reference26Ideal.τ).loc Cert.Reference26Ideal.main_arg47) = m ((c.tc : Thread Cert.Kernel26Ideal.nD Cert.Kernel26Ideal.τ).loc Cert.Kernel26Ideal.main_arg47)
      ∧ m' ((c.tc : Thread Cert.Reference26Ideal.nD Cert.Reference26Ideal.τ).loc Cert.Reference26Ideal.main_arg48) = m ((c.tc : Thread Cert.Kernel26Ideal.nD Cert.Kernel26Ideal.τ).loc Cert.Kernel26Ideal.main_arg48)
      ∧ m' ((c.tc : Thread Cert.Reference26Ideal.nD Cert.Reference26Ideal.τ).loc Cert.Reference26Ideal.main_arg49) = m ((c.tc : Thread Cert.Kernel26Ideal.nD Cert.Kernel26Ideal.τ).loc Cert.Kernel26Ideal.main_arg49)
      ∧ m' ((c.tc : Thread Cert.Reference26Ideal.nD Cert.Reference26Ideal.τ).loc Cert.Reference26Ideal.main_arg50) = m ((c.tc : Thread Cert.Kernel26Ideal.nD Cert.Kernel26Ideal.τ).loc Cert.Kernel26Ideal.main_arg50)
      ∧ m' ((c.tc : Thread Cert.Reference26Ideal.nD Cert.Reference26Ideal.τ).loc Cert.Reference26Ideal.main_arg51) = m ((c.tc : Thread Cert.Kernel26Ideal.nD Cert.Kernel26Ideal.τ).loc Cert.Kernel26Ideal.main_arg51)
      ∧ m' ((c.tc : Thread Cert.Reference26Ideal.nD Cert.Reference26Ideal.τ).loc Cert.Reference26Ideal.main_arg52) = m ((c.tc : Thread Cert.Kernel26Ideal.nD Cert.Kernel26Ideal.τ).loc Cert.Kernel26Ideal.main_arg52)
      ∧ m' ((c.tc : Thread Cert.Reference26Ideal.nD Cert.Reference26Ideal.τ).loc Cert.Reference26Ideal.main_arg53) = m ((c.tc : Thread Cert.Kernel26Ideal.nD Cert.Kernel26Ideal.τ).loc Cert.Kernel26Ideal.main_arg53)
      ∧ m' ((c.tc : Thread Cert.Reference26Ideal.nD Cert.Reference26Ideal.τ).loc Cert.Reference26Ideal.main_arg54) = m ((c.tc : Thread Cert.Kernel26Ideal.nD Cert.Kernel26Ideal.τ).loc Cert.Kernel26Ideal.main_arg54)
      ∧ m' ((c.tc : Thread Cert.Reference26Ideal.nD Cert.Reference26Ideal.τ).loc Cert.Reference26Ideal.main_arg55) = m ((c.tc : Thread Cert.Kernel26Ideal.nD Cert.Kernel26Ideal.τ).loc Cert.Kernel26Ideal.main_arg55)
      ∧ m' ((c.tc : Thread Cert.Reference26Ideal.nD Cert.Reference26Ideal.τ).loc Cert.Reference26Ideal.main_arg56) = m ((c.tc : Thread Cert.Kernel26Ideal.nD Cert.Kernel26Ideal.τ).loc Cert.Kernel26Ideal.main_arg56)
      ∧ m' ((c.tc : Thread Cert.Reference26Ideal.nD Cert.Reference26Ideal.τ).loc Cert.Reference26Ideal.main_arg57) = m ((c.tc : Thread Cert.Kernel26Ideal.nD Cert.Kernel26Ideal.τ).loc Cert.Kernel26Ideal.main_arg57)
      ∧ m' ((c.tc : Thread Cert.Reference26Ideal.nD Cert.Reference26Ideal.τ).loc Cert.Reference26Ideal.main_arg58) = m ((c.tc : Thread Cert.Kernel26Ideal.nD Cert.Kernel26Ideal.τ).loc Cert.Kernel26Ideal.main_arg58)
      ∧ m' ((c.tc : Thread Cert.Reference26Ideal.nD Cert.Reference26Ideal.τ).loc Cert.Reference26Ideal.main_arg59) = m ((c.tc : Thread Cert.Kernel26Ideal.nD Cert.Kernel26Ideal.τ).loc Cert.Kernel26Ideal.main_arg59)
      ∧ m' ((c.tc : Thread Cert.Reference26Ideal.nD Cert.Reference26Ideal.τ).loc Cert.Reference26Ideal.main_arg60) = m ((c.tc : Thread Cert.Kernel26Ideal.nD Cert.Kernel26Ideal.τ).loc Cert.Kernel26Ideal.main_arg60)
      ∧ m' ((c.tc : Thread Cert.Reference26Ideal.nD Cert.Reference26Ideal.τ).loc Cert.Reference26Ideal.main_arg61) = m ((c.tc : Thread Cert.Kernel26Ideal.nD Cert.Kernel26Ideal.τ).loc Cert.Kernel26Ideal.main_arg61)
      ∧ m' ((c.tc : Thread Cert.Reference26Ideal.nD Cert.Reference26Ideal.τ).loc Cert.Reference26Ideal.main_arg62) = m ((c.tc : Thread Cert.Kernel26Ideal.nD Cert.Kernel26Ideal.τ).loc Cert.Kernel26Ideal.main_arg62)
      ∧ m' ((c.tc : Thread Cert.Reference26Ideal.nD Cert.Reference26Ideal.τ).loc Cert.Reference26Ideal.main_arg63) = m ((c.tc : Thread Cert.Kernel26Ideal.nD Cert.Kernel26Ideal.τ).loc Cert.Kernel26Ideal.main_arg63)
      ∧ m' ((c.tc : Thread Cert.Reference26Ideal.nD Cert.Reference26Ideal.τ).loc Cert.Reference26Ideal.main_arg64) = m ((c.tc : Thread Cert.Kernel26Ideal.nD Cert.Kernel26Ideal.τ).loc Cert.Kernel26Ideal.main_arg64)
      ∧ m' ((c.tc : Thread Cert.Reference26Ideal.nD Cert.Reference26Ideal.τ).loc Cert.Reference26Ideal.main_arg65) = m ((c.tc : Thread Cert.Kernel26Ideal.nD Cert.Kernel26Ideal.τ).loc Cert.Kernel26Ideal.main_arg65)
      ∧ m' ((c.tc : Thread Cert.Reference26Ideal.nD Cert.Reference26Ideal.τ).loc Cert.Reference26Ideal.main_arg66) = m ((c.tc : Thread Cert.Kernel26Ideal.nD Cert.Kernel26Ideal.τ).loc Cert.Kernel26Ideal.main_arg66)
      ∧ m' ((c.tc : Thread Cert.Reference26Ideal.nD Cert.Reference26Ideal.τ).loc Cert.Reference26Ideal.main_arg67) = m ((c.tc : Thread Cert.Kernel26Ideal.nD Cert.Kernel26Ideal.τ).loc Cert.Kernel26Ideal.main_arg67)) →
    ∃ (v0 : (c : Dev Cert.Kernel26Ideal.nD) → Buf (Elt Ideal) ((c.tc : Thread Cert.Kernel26Ideal.nD Cert.Kernel26Ideal.τ).loc Cert.Kernel26Ideal.main_v91)) (v1 : (c : Dev Cert.Kernel26Ideal.nD) → Buf (Elt Ideal) ((c.tc : Thread Cert.Kernel26Ideal.nD Cert.Kernel26Ideal.τ).loc Cert.Kernel26Ideal.main_v93)) (v2 : (c : Dev Cert.Kernel26Ideal.nD) → Buf (Elt Ideal) ((c.tc : Thread Cert.Kernel26Ideal.nD Cert.Kernel26Ideal.τ).loc Cert.Kernel26Ideal.main_v95)) (v3 : (c : Dev Cert.Kernel26Ideal.nD) → Buf (Elt Ideal) ((c.tc : Thread Cert.Kernel26Ideal.nD Cert.Kernel26Ideal.τ).loc Cert.Kernel26Ideal.main_v97)) (v4 : (c : Dev Cert.Kernel26Ideal.nD) → Buf (Elt Ideal) ((c.tc : Thread Cert.Kernel26Ideal.nD Cert.Kernel26Ideal.τ).loc Cert.Kernel26Ideal.main_v99)) (v5 : (c : Dev Cert.Kernel26Ideal.nD) → Buf (Elt Ideal) ((c.tc : Thread Cert.Kernel26Ideal.nD Cert.Kernel26Ideal.τ).loc Cert.Kernel26Ideal.main_v101)) (v6 : (c : Dev Cert.Kernel26Ideal.nD) → Buf (Elt Ideal) ((c.tc : Thread Cert.Kernel26Ideal.nD Cert.Kernel26Ideal.τ).loc Cert.Kernel26Ideal.main_v103)) (v7 : (c : Dev Cert.Kernel26Ideal.nD) → Buf (Elt Ideal) ((c.tc : Thread Cert.Kernel26Ideal.nD Cert.Kernel26Ideal.τ).loc Cert.Kernel26Ideal.main_v105)) (v8 : (c : Dev Cert.Kernel26Ideal.nD) → Buf (Elt Ideal) ((c.tc : Thread Cert.Kernel26Ideal.nD Cert.Kernel26Ideal.τ).loc Cert.Kernel26Ideal.main_v107)) (v9 : (c : Dev Cert.Kernel26Ideal.nD) → Buf (Elt Ideal) ((c.tc : Thread Cert.Kernel26Ideal.nD Cert.Kernel26Ideal.τ).loc Cert.Kernel26Ideal.main_v109)) (v10 : (c : Dev Cert.Kernel26Ideal.nD) → Buf (Elt Ideal) ((c.tc : Thread Cert.Kernel26Ideal.nD Cert.Kernel26Ideal.τ).loc Cert.Kernel26Ideal.main_v111)) (v11 : (c : Dev Cert.Kernel26Ideal.nD) → Buf (Elt Ideal) ((c.tc : Thread Cert.Kernel26Ideal.nD Cert.Kernel26Ideal.τ).loc Cert.Kernel26Ideal.main_v113)) (v12 : (c : Dev Cert.Kernel26Ideal.nD) → Buf (Elt Ideal) ((c.tc : Thread Cert.Kernel26Ideal.nD Cert.Kernel26Ideal.τ).loc Cert.Kernel26Ideal.main_v115)) (v13 : (c : Dev Cert.Kernel26Ideal.nD) → Buf (Elt Ideal) ((c.tc : Thread Cert.Kernel26Ideal.nD Cert.Kernel26Ideal.τ).loc Cert.Kernel26Ideal.main_v117)) (v14 : (c : Dev Cert.Kernel26Ideal.nD) → Buf (Elt Ideal) ((c.tc : Thread Cert.Kernel26Ideal.nD Cert.Kernel26Ideal.τ).loc Cert.Kernel26Ideal.main_v119)) (v15 : (c : Dev Cert.Kernel26Ideal.nD) → Buf (Elt Ideal) ((c.tc : Thread Cert.Kernel26Ideal.nD Cert.Kernel26Ideal.τ).loc Cert.Kernel26Ideal.main_v121)) (v16 : (c : Dev Cert.Kernel26Ideal.nD) → Buf (Elt Ideal) ((c.tc : Thread Cert.Kernel26Ideal.nD Cert.Kernel26Ideal.τ).loc Cert.Kernel26Ideal.main_v123)) (v17 : (c : Dev Cert.Kernel26Ideal.nD) → Buf (Elt Ideal) ((c.tc : Thread Cert.Kernel26Ideal.nD Cert.Kernel26Ideal.τ).loc Cert.Kernel26Ideal.main_v126)) (v18 : (c : Dev Cert.Kernel26Ideal.nD) → Buf (Elt Ideal) ((c.tc : Thread Cert.Kernel26Ideal.nD Cert.Kernel26Ideal.τ).loc Cert.Kernel26Ideal.main_v128)) (v19 : (c : Dev Cert.Kernel26Ideal.nD) → Buf (Elt Ideal) ((c.tc : Thread Cert.Kernel26Ideal.nD Cert.Kernel26Ideal.τ).loc Cert.Kernel26Ideal.main_v130)) (v20 : (c : Dev Cert.Kernel26Ideal.nD) → Buf (Elt Ideal) ((c.tc : Thread Cert.Kernel26Ideal.nD Cert.Kernel26Ideal.τ).loc Cert.Kernel26Ideal.main_v132)) (v21 : (c : Dev Cert.Kernel26Ideal.nD) → Buf (Elt Ideal) ((c.tc : Thread Cert.Kernel26Ideal.nD Cert.Kernel26Ideal.τ).loc Cert.Kernel26Ideal.main_v134)) (v22 : (c : Dev Cert.Kernel26Ideal.nD) → Buf (Elt Ideal) ((c.tc : Thread Cert.Kernel26Ideal.nD Cert.Kernel26Ideal.τ).loc Cert.Kernel26Ideal.main_v136)) (v23 : (c : Dev Cert.Kernel26Ideal.nD) → Buf (Elt Ideal) ((c.tc : Thread Cert.Kernel26Ideal.nD Cert.Kernel26Ideal.τ).loc Cert.Kernel26Ideal.main_v138)) (v24 : (c : Dev Cert.Kernel26Ideal.nD) → Buf (Elt Ideal) ((c.tc : Thread Cert.Kernel26Ideal.nD Cert.Kernel26Ideal.τ).loc Cert.Kernel26Ideal.main_v140)) (v25 : (c : Dev Cert.Kernel26Ideal.nD) → Buf (Elt Ideal) ((c.tc : Thread Cert.Kernel26Ideal.nD Cert.Kernel26Ideal.τ).loc Cert.Kernel26Ideal.main_v142)) (v26 : (c : Dev Cert.Kernel26Ideal.nD) → Buf (Elt Ideal) ((c.tc : Thread Cert.Kernel26Ideal.nD Cert.Kernel26Ideal.τ).loc Cert.Kernel26Ideal.main_v144)) (v27 : (c : Dev Cert.Kernel26Ideal.nD) → Buf (Elt Ideal) ((c.tc : Thread Cert.Kernel26Ideal.nD Cert.Kernel26Ideal.τ).loc Cert.Kernel26Ideal.main_v146)) (v28 : (c : Dev Cert.Kernel26Ideal.nD) → Buf (Elt Ideal) ((c.tc : Thread Cert.Kernel26Ideal.nD Cert.Kernel26Ideal.τ).loc Cert.Kernel26Ideal.main_v148)) (v29 : (c : Dev Cert.Kernel26Ideal.nD) → Buf (Elt Ideal) ((c.tc : Thread Cert.Kernel26Ideal.nD Cert.Kernel26Ideal.τ).loc Cert.Kernel26Ideal.main_v150)) (v30 : (c : Dev Cert.Kernel26Ideal.nD) → Buf (Elt Ideal) ((c.tc : Thread Cert.Kernel26Ideal.nD Cert.Kernel26Ideal.τ).loc Cert.Kernel26Ideal.main_v152)) (v31 : (c : Dev Cert.Kernel26Ideal.nD) → Buf (Elt Ideal) ((c.tc : Thread Cert.Kernel26Ideal.nD Cert.Kernel26Ideal.τ).loc Cert.Kernel26Ideal.main_v154)) (v32 : (c : Dev Cert.Kernel26Ideal.nD) → Buf (Elt Ideal) ((c.tc : Thread Cert.Kernel26Ideal.nD Cert.Kernel26Ideal.τ).loc Cert.Kernel26Ideal.main_v156)) (v33 : (c : Dev Cert.Kernel26Ideal.nD) → Buf (Elt Ideal) ((c.tc : Thread Cert.Kernel26Ideal.nD Cert.Kernel26Ideal.τ).loc Cert.Kernel26Ideal.main_v158)) (v34 : (c : Dev Cert.Kernel26Ideal.nD) → Buf (Elt Ideal) ((c.tc : Thread Cert.Kernel26Ideal.nD Cert.Kernel26Ideal.τ).loc Cert.Kernel26Ideal.main_v161)) (v35 : (c : Dev Cert.Kernel26Ideal.nD) → Buf (Elt Ideal) ((c.tc : Thread Cert.Kernel26Ideal.nD Cert.Kernel26Ideal.τ).loc Cert.Kernel26Ideal.main_v163)) (v36 : (c : Dev Cert.Kernel26Ideal.nD) → Buf (Elt Ideal) ((c.tc : Thread Cert.Kernel26Ideal.nD Cert.Kernel26Ideal.τ).loc Cert.Kernel26Ideal.main_v165)) (v37 : (c : Dev Cert.Kernel26Ideal.nD) → Buf (Elt Ideal) ((c.tc : Thread Cert.Kernel26Ideal.nD Cert.Kernel26Ideal.τ).loc Cert.Kernel26Ideal.main_v167)) (v38 : (c : Dev Cert.Kernel26Ideal.nD) → Buf (Elt Ideal) ((c.tc : Thread Cert.Kernel26Ideal.nD Cert.Kernel26Ideal.τ).loc Cert.Kernel26Ideal.main_v169)) (v39 : (c : Dev Cert.Kernel26Ideal.nD) → Buf (Elt Ideal) ((c.tc : Thread Cert.Kernel26Ideal.nD Cert.Kernel26Ideal.τ).loc Cert.Kernel26Ideal.main_v171)) (v40 : (c : Dev Cert.Kernel26Ideal.nD) → Buf (Elt Ideal) ((c.tc : Thread Cert.Kernel26Ideal.nD Cert.Kernel26Ideal.τ).loc Cert.Kernel26Ideal.main_v173)) (v41 : (c : Dev Cert.Kernel26Ideal.nD) → Buf (Elt Ideal) ((c.tc : Thread Cert.Kernel26Ideal.nD Cert.Kernel26Ideal.τ).loc Cert.Kernel26Ideal.main_v175)) (v42 : (c : Dev Cert.Kernel26Ideal.nD) → Buf (Elt Ideal) ((c.tc : Thread Cert.Kernel26Ideal.nD Cert.Kernel26Ideal.τ).loc Cert.Kernel26Ideal.main_v177)) (v43 : (c : Dev Cert.Kernel26Ideal.nD) → Buf (Elt Ideal) ((c.tc : Thread Cert.Kernel26Ideal.nD Cert.Kernel26Ideal.τ).loc Cert.Kernel26Ideal.main_v179)) (v44 : (c : Dev Cert.Kernel26Ideal.nD) → Buf (Elt Ideal) ((c.tc : Thread Cert.Kernel26Ideal.nD Cert.Kernel26Ideal.τ).loc Cert.Kernel26Ideal.main_v181)) (v45 : (c : Dev Cert.Kernel26Ideal.nD) → Buf (Elt Ideal) ((c.tc : Thread Cert.Kernel26Ideal.nD Cert.Kernel26Ideal.τ).loc Cert.Kernel26Ideal.main_v183)) (v46 : (c : Dev Cert.Kernel26Ideal.nD) → Buf (Elt Ideal) ((c.tc : Thread Cert.Kernel26Ideal.nD Cert.Kernel26Ideal.τ).loc Cert.Kernel26Ideal.main_v185)) (v47 : (c : Dev Cert.Kernel26Ideal.nD) → Buf (Elt Ideal) ((c.tc : Thread Cert.Kernel26Ideal.nD Cert.Kernel26Ideal.τ).loc Cert.Kernel26Ideal.main_v187)) (v48 : (c : Dev Cert.Kernel26Ideal.nD) → Buf (Elt Ideal) ((c.tc : Thread Cert.Kernel26Ideal.nD Cert.Kernel26Ideal.τ).loc Cert.Kernel26Ideal.main_v189)) (v49 : (c : Dev Cert.Kernel26Ideal.nD) → Buf (Elt Ideal) ((c.tc : Thread Cert.Kernel26Ideal.nD Cert.Kernel26Ideal.τ).loc Cert.Kernel26Ideal.main_v191)) (v50 : (c : Dev Cert.Kernel26Ideal.nD) → Buf (Elt Ideal) ((c.tc : Thread Cert.Kernel26Ideal.nD Cert.Kernel26Ideal.τ).loc Cert.Kernel26Ideal.main_v193)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v91) = v0 c
          ∧ r.2.mem ((c.tc : Thread Cert.Kernel26Ideal.nD Cert.Kernel26Ideal.τ).loc Cert.Kernel26Ideal.main_v93) = v1 c
          ∧ r.2.mem ((c.tc : Thread Cert.Kernel26Ideal.nD Cert.Kernel26Ideal.τ).loc Cert.Kernel26Ideal.main_v95) = v2 c
          ∧ r.2.mem ((c.tc : Thread Cert.Kernel26Ideal.nD Cert.Kernel26Ideal.τ).loc Cert.Kernel26Ideal.main_v97) = v3 c
          ∧ r.2.mem ((c.tc : Thread Cert.Kernel26Ideal.nD Cert.Kernel26Ideal.τ).loc Cert.Kernel26Ideal.main_v99) = v4 c
          ∧ r.2.mem ((c.tc : Thread Cert.Kernel26Ideal.nD Cert.Kernel26Ideal.τ).loc Cert.Kernel26Ideal.main_v101) = v5 c
          ∧ r.2.mem ((c.tc : Thread Cert.Kernel26Ideal.nD Cert.Kernel26Ideal.τ).loc Cert.Kernel26Ideal.main_v103) = v6 c
          ∧ r.2.mem ((c.tc : Thread Cert.Kernel26Ideal.nD Cert.Kernel26Ideal.τ).loc Cert.Kernel26Ideal.main_v105) = v7 c
          ∧ r.2.mem ((c.tc : Thread Cert.Kernel26Ideal.nD Cert.Kernel26Ideal.τ).loc Cert.Kernel26Ideal.main_v107) = v8 c
          ∧ r.2.mem ((c.tc : Thread Cert.Kernel26Ideal.nD Cert.Kernel26Ideal.τ).loc Cert.Kernel26Ideal.main_v109) = v9 c
          ∧ r.2.mem ((c.tc : Thread Cert.Kernel26Ideal.nD Cert.Kernel26Ideal.τ).loc Cert.Kernel26Ideal.main_v111) = v10 c
          ∧ r.2.mem ((c.tc : Thread Cert.Kernel26Ideal.nD Cert.Kernel26Ideal.τ).loc Cert.Kernel26Ideal.main_v113) = v11 c
          ∧ r.2.mem ((c.tc : Thread Cert.Kernel26Ideal.nD Cert.Kernel26Ideal.τ).loc Cert.Kernel26Ideal.main_v115) = v12 c
          ∧ r.2.mem ((c.tc : Thread Cert.Kernel26Ideal.nD Cert.Kernel26Ideal.τ).loc Cert.Kernel26Ideal.main_v117) = v13 c
          ∧ r.2.mem ((c.tc : Thread Cert.Kernel26Ideal.nD Cert.Kernel26Ideal.τ).loc Cert.Kernel26Ideal.main_v119) = v14 c
          ∧ r.2.mem ((c.tc : Thread Cert.Kernel26Ideal.nD Cert.Kernel26Ideal.τ).loc Cert.Kernel26Ideal.main_v121) = v15 c
          ∧ r.2.mem ((c.tc : Thread Cert.Kernel26Ideal.nD Cert.Kernel26Ideal.τ).loc Cert.Kernel26Ideal.main_v123) = v16 c
          ∧ r.2.mem ((c.tc : Thread Cert.Kernel26Ideal.nD Cert.Kernel26Ideal.τ).loc Cert.Kernel26Ideal.main_v126) = v17 c
          ∧ r.2.mem ((c.tc : Thread Cert.Kernel26Ideal.nD Cert.Kernel26Ideal.τ).loc Cert.Kernel26Ideal.main_v128) = v18 c
          ∧ r.2.mem ((c.tc : Thread Cert.Kernel26Ideal.nD Cert.Kernel26Ideal.τ).loc Cert.Kernel26Ideal.main_v130) = v19 c
          ∧ r.2.mem ((c.tc : Thread Cert.Kernel26Ideal.nD Cert.Kernel26Ideal.τ).loc Cert.Kernel26Ideal.main_v132) = v20 c
          ∧ r.2.mem ((c.tc : Thread Cert.Kernel26Ideal.nD Cert.Kernel26Ideal.τ).loc Cert.Kernel26Ideal.main_v134) = v21 c
          ∧ r.2.mem ((c.tc : Thread Cert.Kernel26Ideal.nD Cert.Kernel26Ideal.τ).loc Cert.Kernel26Ideal.main_v136) = v22 c
          ∧ r.2.mem ((c.tc : Thread Cert.Kernel26Ideal.nD Cert.Kernel26Ideal.τ).loc Cert.Kernel26Ideal.main_v138) = v23 c
          ∧ r.2.mem ((c.tc : Thread Cert.Kernel26Ideal.nD Cert.Kernel26Ideal.τ).loc Cert.Kernel26Ideal.main_v140) = v24 c
          ∧ r.2.mem ((c.tc : Thread Cert.Kernel26Ideal.nD Cert.Kernel26Ideal.τ).loc Cert.Kernel26Ideal.main_v142) = v25 c
          ∧ r.2.mem ((c.tc : Thread Cert.Kernel26Ideal.nD Cert.Kernel26Ideal.τ).loc Cert.Kernel26Ideal.main_v144) = v26 c
          ∧ r.2.mem ((c.tc : Thread Cert.Kernel26Ideal.nD Cert.Kernel26Ideal.τ).loc Cert.Kernel26Ideal.main_v146) = v27 c
          ∧ r.2.mem ((c.tc : Thread Cert.Kernel26Ideal.nD Cert.Kernel26Ideal.τ).loc Cert.Kernel26Ideal.main_v148) = v28 c
          ∧ r.2.mem ((c.tc : Thread Cert.Kernel26Ideal.nD Cert.Kernel26Ideal.τ).loc Cert.Kernel26Ideal.main_v150) = v29 c
          ∧ r.2.mem ((c.tc : Thread Cert.Kernel26Ideal.nD Cert.Kernel26Ideal.τ).loc Cert.Kernel26Ideal.main_v152) = v30 c
          ∧ r.2.mem ((c.tc : Thread Cert.Kernel26Ideal.nD Cert.Kernel26Ideal.τ).loc Cert.Kernel26Ideal.main_v154) = v31 c
          ∧ r.2.mem ((c.tc : Thread Cert.Kernel26Ideal.nD Cert.Kernel26Ideal.τ).loc Cert.Kernel26Ideal.main_v156) = v32 c
          ∧ r.2.mem ((c.tc : Thread Cert.Kernel26Ideal.nD Cert.Kernel26Ideal.τ).loc Cert.Kernel26Ideal.main_v158) = v33 c
          ∧ r.2.mem ((c.tc : Thread Cert.Kernel26Ideal.nD Cert.Kernel26Ideal.τ).loc Cert.Kernel26Ideal.main_v161) = v34 c
          ∧ r.2.mem ((c.tc : Thread Cert.Kernel26Ideal.nD Cert.Kernel26Ideal.τ).loc Cert.Kernel26Ideal.main_v163) = v35 c
          ∧ r.2.mem ((c.tc : Thread Cert.Kernel26Ideal.nD Cert.Kernel26Ideal.τ).loc Cert.Kernel26Ideal.main_v165) = v36 c
          ∧ r.2.mem ((c.tc : Thread Cert.Kernel26Ideal.nD Cert.Kernel26Ideal.τ).loc Cert.Kernel26Ideal.main_v167) = v37 c
          ∧ r.2.mem ((c.tc : Thread Cert.Kernel26Ideal.nD Cert.Kernel26Ideal.τ).loc Cert.Kernel26Ideal.main_v169) = v38 c
          ∧ r.2.mem ((c.tc : Thread Cert.Kernel26Ideal.nD Cert.Kernel26Ideal.τ).loc Cert.Kernel26Ideal.main_v171) = v39 c
          ∧ r.2.mem ((c.tc : Thread Cert.Kernel26Ideal.nD Cert.Kernel26Ideal.τ).loc Cert.Kernel26Ideal.main_v173) = v40 c
          ∧ r.2.mem ((c.tc : Thread Cert.Kernel26Ideal.nD Cert.Kernel26Ideal.τ).loc Cert.Kernel26Ideal.main_v175) = v41 c
          ∧ r.2.mem ((c.tc : Thread Cert.Kernel26Ideal.nD Cert.Kernel26Ideal.τ).loc Cert.Kernel26Ideal.main_v177) = v42 c
          ∧ r.2.mem ((c.tc : Thread Cert.Kernel26Ideal.nD Cert.Kernel26Ideal.τ).loc Cert.Kernel26Ideal.main_v179) = v43 c
          ∧ r.2.mem ((c.tc : Thread Cert.Kernel26Ideal.nD Cert.Kernel26Ideal.τ).loc Cert.Kernel26Ideal.main_v181) = v44 c
          ∧ r.2.mem ((c.tc : Thread Cert.Kernel26Ideal.nD Cert.Kernel26Ideal.τ).loc Cert.Kernel26Ideal.main_v183) = v45 c
          ∧ r.2.mem ((c.tc : Thread Cert.Kernel26Ideal.nD Cert.Kernel26Ideal.τ).loc Cert.Kernel26Ideal.main_v185) = v46 c
          ∧ r.2.mem ((c.tc : Thread Cert.Kernel26Ideal.nD Cert.Kernel26Ideal.τ).loc Cert.Kernel26Ideal.main_v187) = v47 c
          ∧ r.2.mem ((c.tc : Thread Cert.Kernel26Ideal.nD Cert.Kernel26Ideal.τ).loc Cert.Kernel26Ideal.main_v189) = v48 c
          ∧ r.2.mem ((c.tc : Thread Cert.Kernel26Ideal.nD Cert.Kernel26Ideal.τ).loc Cert.Kernel26Ideal.main_v191) = v49 c
          ∧ r.2.mem ((c.tc : Thread Cert.Kernel26Ideal.nD Cert.Kernel26Ideal.τ).loc Cert.Kernel26Ideal.main_v193) = v50 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
          ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5)
          ∧ r.2.mem ((c.tc : Thread Cert.Kernel26Ideal.nD Cert.Kernel26Ideal.τ).loc Cert.Kernel26Ideal.main_arg6) = m ((c.tc : Thread Cert.Kernel26Ideal.nD Cert.Kernel26Ideal.τ).loc Cert.Kernel26Ideal.main_arg6)
          ∧ r.2.mem ((c.tc : Thread Cert.Kernel26Ideal.nD Cert.Kernel26Ideal.τ).loc Cert.Kernel26Ideal.main_arg7) = m ((c.tc : Thread Cert.Kernel26Ideal.nD Cert.Kernel26Ideal.τ).loc Cert.Kernel26Ideal.main_arg7)
          ∧ r.2.mem ((c.tc : Thread Cert.Kernel26Ideal.nD Cert.Kernel26Ideal.τ).loc Cert.Kernel26Ideal.main_arg8) = m ((c.tc : Thread Cert.Kernel26Ideal.nD Cert.Kernel26Ideal.τ).loc Cert.Kernel26Ideal.main_arg8)
          ∧ r.2.mem ((c.tc : Thread Cert.Kernel26Ideal.nD Cert.Kernel26Ideal.τ).loc Cert.Kernel26Ideal.main_arg9) = m ((c.tc : Thread Cert.Kernel26Ideal.nD Cert.Kernel26Ideal.τ).loc Cert.Kernel26Ideal.main_arg9)
          ∧ r.2.mem ((c.tc : Thread Cert.Kernel26Ideal.nD Cert.Kernel26Ideal.τ).loc Cert.Kernel26Ideal.main_arg10) = m ((c.tc : Thread Cert.Kernel26Ideal.nD Cert.Kernel26Ideal.τ).loc Cert.Kernel26Ideal.main_arg10)
          ∧ r.2.mem ((c.tc : Thread Cert.Kernel26Ideal.nD Cert.Kernel26Ideal.τ).loc Cert.Kernel26Ideal.main_arg11) = m ((c.tc : Thread Cert.Kernel26Ideal.nD Cert.Kernel26Ideal.τ).loc Cert.Kernel26Ideal.main_arg11)
          ∧ r.2.mem ((c.tc : Thread Cert.Kernel26Ideal.nD Cert.Kernel26Ideal.τ).loc Cert.Kernel26Ideal.main_arg12) = m ((c.tc : Thread Cert.Kernel26Ideal.nD Cert.Kernel26Ideal.τ).loc Cert.Kernel26Ideal.main_arg12)
          ∧ r.2.mem ((c.tc : Thread Cert.Kernel26Ideal.nD Cert.Kernel26Ideal.τ).loc Cert.Kernel26Ideal.main_arg13) = m ((c.tc : Thread Cert.Kernel26Ideal.nD Cert.Kernel26Ideal.τ).loc Cert.Kernel26Ideal.main_arg13)
          ∧ r.2.mem ((c.tc : Thread Cert.Kernel26Ideal.nD Cert.Kernel26Ideal.τ).loc Cert.Kernel26Ideal.main_arg14) = m ((c.tc : Thread Cert.Kernel26Ideal.nD Cert.Kernel26Ideal.τ).loc Cert.Kernel26Ideal.main_arg14)
          ∧ r.2.mem ((c.tc : Thread Cert.Kernel26Ideal.nD Cert.Kernel26Ideal.τ).loc Cert.Kernel26Ideal.main_arg15) = m ((c.tc : Thread Cert.Kernel26Ideal.nD Cert.Kernel26Ideal.τ).loc Cert.Kernel26Ideal.main_arg15)
          ∧ r.2.mem ((c.tc : Thread Cert.Kernel26Ideal.nD Cert.Kernel26Ideal.τ).loc Cert.Kernel26Ideal.main_arg16) = m ((c.tc : Thread Cert.Kernel26Ideal.nD Cert.Kernel26Ideal.τ).loc Cert.Kernel26Ideal.main_arg16)
          ∧ r.2.mem ((c.tc : Thread Cert.Kernel26Ideal.nD Cert.Kernel26Ideal.τ).loc Cert.Kernel26Ideal.main_arg17) = m ((c.tc : Thread Cert.Kernel26Ideal.nD Cert.Kernel26Ideal.τ).loc Cert.Kernel26Ideal.main_arg17)
          ∧ r.2.mem ((c.tc : Thread Cert.Kernel26Ideal.nD Cert.Kernel26Ideal.τ).loc Cert.Kernel26Ideal.main_arg18) = m ((c.tc : Thread Cert.Kernel26Ideal.nD Cert.Kernel26Ideal.τ).loc Cert.Kernel26Ideal.main_arg18)
          ∧ r.2.mem ((c.tc : Thread Cert.Kernel26Ideal.nD Cert.Kernel26Ideal.τ).loc Cert.Kernel26Ideal.main_arg19) = m ((c.tc : Thread Cert.Kernel26Ideal.nD Cert.Kernel26Ideal.τ).loc Cert.Kernel26Ideal.main_arg19)
          ∧ r.2.mem ((c.tc : Thread Cert.Kernel26Ideal.nD Cert.Kernel26Ideal.τ).loc Cert.Kernel26Ideal.main_arg20) = m ((c.tc : Thread Cert.Kernel26Ideal.nD Cert.Kernel26Ideal.τ).loc Cert.Kernel26Ideal.main_arg20)
          ∧ r.2.mem ((c.tc : Thread Cert.Kernel26Ideal.nD Cert.Kernel26Ideal.τ).loc Cert.Kernel26Ideal.main_arg21) = m ((c.tc : Thread Cert.Kernel26Ideal.nD Cert.Kernel26Ideal.τ).loc Cert.Kernel26Ideal.main_arg21)
          ∧ r.2.mem ((c.tc : Thread Cert.Kernel26Ideal.nD Cert.Kernel26Ideal.τ).loc Cert.Kernel26Ideal.main_arg22) = m ((c.tc : Thread Cert.Kernel26Ideal.nD Cert.Kernel26Ideal.τ).loc Cert.Kernel26Ideal.main_arg22)
          ∧ r.2.mem ((c.tc : Thread Cert.Kernel26Ideal.nD Cert.Kernel26Ideal.τ).loc Cert.Kernel26Ideal.main_arg23) = m ((c.tc : Thread Cert.Kernel26Ideal.nD Cert.Kernel26Ideal.τ).loc Cert.Kernel26Ideal.main_arg23)
          ∧ r.2.mem ((c.tc : Thread Cert.Kernel26Ideal.nD Cert.Kernel26Ideal.τ).loc Cert.Kernel26Ideal.main_arg24) = m ((c.tc : Thread Cert.Kernel26Ideal.nD Cert.Kernel26Ideal.τ).loc Cert.Kernel26Ideal.main_arg24)
          ∧ r.2.mem ((c.tc : Thread Cert.Kernel26Ideal.nD Cert.Kernel26Ideal.τ).loc Cert.Kernel26Ideal.main_arg25) = m ((c.tc : Thread Cert.Kernel26Ideal.nD Cert.Kernel26Ideal.τ).loc Cert.Kernel26Ideal.main_arg25)
          ∧ r.2.mem ((c.tc : Thread Cert.Kernel26Ideal.nD Cert.Kernel26Ideal.τ).loc Cert.Kernel26Ideal.main_arg26) = m ((c.tc : Thread Cert.Kernel26Ideal.nD Cert.Kernel26Ideal.τ).loc Cert.Kernel26Ideal.main_arg26)
          ∧ r.2.mem ((c.tc : Thread Cert.Kernel26Ideal.nD Cert.Kernel26Ideal.τ).loc Cert.Kernel26Ideal.main_arg27) = m ((c.tc : Thread Cert.Kernel26Ideal.nD Cert.Kernel26Ideal.τ).loc Cert.Kernel26Ideal.main_arg27)
          ∧ r.2.mem ((c.tc : Thread Cert.Kernel26Ideal.nD Cert.Kernel26Ideal.τ).loc Cert.Kernel26Ideal.main_arg28) = m ((c.tc : Thread Cert.Kernel26Ideal.nD Cert.Kernel26Ideal.τ).loc Cert.Kernel26Ideal.main_arg28)
          ∧ r.2.mem ((c.tc : Thread Cert.Kernel26Ideal.nD Cert.Kernel26Ideal.τ).loc Cert.Kernel26Ideal.main_arg29) = m ((c.tc : Thread Cert.Kernel26Ideal.nD Cert.Kernel26Ideal.τ).loc Cert.Kernel26Ideal.main_arg29)
          ∧ r.2.mem ((c.tc : Thread Cert.Kernel26Ideal.nD Cert.Kernel26Ideal.τ).loc Cert.Kernel26Ideal.main_arg30) = m ((c.tc : Thread Cert.Kernel26Ideal.nD Cert.Kernel26Ideal.τ).loc Cert.Kernel26Ideal.main_arg30)
          ∧ r.2.mem ((c.tc : Thread Cert.Kernel26Ideal.nD Cert.Kernel26Ideal.τ).loc Cert.Kernel26Ideal.main_arg31) = m ((c.tc : Thread Cert.Kernel26Ideal.nD Cert.Kernel26Ideal.τ).loc Cert.Kernel26Ideal.main_arg31)
          ∧ r.2.mem ((c.tc : Thread Cert.Kernel26Ideal.nD Cert.Kernel26Ideal.τ).loc Cert.Kernel26Ideal.main_arg32) = m ((c.tc : Thread Cert.Kernel26Ideal.nD Cert.Kernel26Ideal.τ).loc Cert.Kernel26Ideal.main_arg32)
          ∧ r.2.mem ((c.tc : Thread Cert.Kernel26Ideal.nD Cert.Kernel26Ideal.τ).loc Cert.Kernel26Ideal.main_arg33) = m ((c.tc : Thread Cert.Kernel26Ideal.nD Cert.Kernel26Ideal.τ).loc Cert.Kernel26Ideal.main_arg33)
          ∧ r.2.mem ((c.tc : Thread Cert.Kernel26Ideal.nD Cert.Kernel26Ideal.τ).loc Cert.Kernel26Ideal.main_arg34) = m ((c.tc : Thread Cert.Kernel26Ideal.nD Cert.Kernel26Ideal.τ).loc Cert.Kernel26Ideal.main_arg34)
          ∧ r.2.mem ((c.tc : Thread Cert.Kernel26Ideal.nD Cert.Kernel26Ideal.τ).loc Cert.Kernel26Ideal.main_arg35) = m ((c.tc : Thread Cert.Kernel26Ideal.nD Cert.Kernel26Ideal.τ).loc Cert.Kernel26Ideal.main_arg35)
          ∧ r.2.mem ((c.tc : Thread Cert.Kernel26Ideal.nD Cert.Kernel26Ideal.τ).loc Cert.Kernel26Ideal.main_arg36) = m ((c.tc : Thread Cert.Kernel26Ideal.nD Cert.Kernel26Ideal.τ).loc Cert.Kernel26Ideal.main_arg36)
          ∧ r.2.mem ((c.tc : Thread Cert.Kernel26Ideal.nD Cert.Kernel26Ideal.τ).loc Cert.Kernel26Ideal.main_arg37) = m ((c.tc : Thread Cert.Kernel26Ideal.nD Cert.Kernel26Ideal.τ).loc Cert.Kernel26Ideal.main_arg37)
          ∧ r.2.mem ((c.tc : Thread Cert.Kernel26Ideal.nD Cert.Kernel26Ideal.τ).loc Cert.Kernel26Ideal.main_arg38) = m ((c.tc : Thread Cert.Kernel26Ideal.nD Cert.Kernel26Ideal.τ).loc Cert.Kernel26Ideal.main_arg38)
          ∧ r.2.mem ((c.tc : Thread Cert.Kernel26Ideal.nD Cert.Kernel26Ideal.τ).loc Cert.Kernel26Ideal.main_arg39) = m ((c.tc : Thread Cert.Kernel26Ideal.nD Cert.Kernel26Ideal.τ).loc Cert.Kernel26Ideal.main_arg39)
          ∧ r.2.mem ((c.tc : Thread Cert.Kernel26Ideal.nD Cert.Kernel26Ideal.τ).loc Cert.Kernel26Ideal.main_arg40) = m ((c.tc : Thread Cert.Kernel26Ideal.nD Cert.Kernel26Ideal.τ).loc Cert.Kernel26Ideal.main_arg40)
          ∧ r.2.mem ((c.tc : Thread Cert.Kernel26Ideal.nD Cert.Kernel26Ideal.τ).loc Cert.Kernel26Ideal.main_arg41) = m ((c.tc : Thread Cert.Kernel26Ideal.nD Cert.Kernel26Ideal.τ).loc Cert.Kernel26Ideal.main_arg41)
          ∧ r.2.mem ((c.tc : Thread Cert.Kernel26Ideal.nD Cert.Kernel26Ideal.τ).loc Cert.Kernel26Ideal.main_arg42) = m ((c.tc : Thread Cert.Kernel26Ideal.nD Cert.Kernel26Ideal.τ).loc Cert.Kernel26Ideal.main_arg42)
          ∧ r.2.mem ((c.tc : Thread Cert.Kernel26Ideal.nD Cert.Kernel26Ideal.τ).loc Cert.Kernel26Ideal.main_arg43) = m ((c.tc : Thread Cert.Kernel26Ideal.nD Cert.Kernel26Ideal.τ).loc Cert.Kernel26Ideal.main_arg43)
          ∧ r.2.mem ((c.tc : Thread Cert.Kernel26Ideal.nD Cert.Kernel26Ideal.τ).loc Cert.Kernel26Ideal.main_arg44) = m ((c.tc : Thread Cert.Kernel26Ideal.nD Cert.Kernel26Ideal.τ).loc Cert.Kernel26Ideal.main_arg44)
          ∧ r.2.mem ((c.tc : Thread Cert.Kernel26Ideal.nD Cert.Kernel26Ideal.τ).loc Cert.Kernel26Ideal.main_arg45) = m ((c.tc : Thread Cert.Kernel26Ideal.nD Cert.Kernel26Ideal.τ).loc Cert.Kernel26Ideal.main_arg45)
          ∧ r.2.mem ((c.tc : Thread Cert.Kernel26Ideal.nD Cert.Kernel26Ideal.τ).loc Cert.Kernel26Ideal.main_arg46) = m ((c.tc : Thread Cert.Kernel26Ideal.nD Cert.Kernel26Ideal.τ).loc Cert.Kernel26Ideal.main_arg46)
          ∧ r.2.mem ((c.tc : Thread Cert.Kernel26Ideal.nD Cert.Kernel26Ideal.τ).loc Cert.Kernel26Ideal.main_arg47) = m ((c.tc : Thread Cert.Kernel26Ideal.nD Cert.Kernel26Ideal.τ).loc Cert.Kernel26Ideal.main_arg47)
          ∧ r.2.mem ((c.tc : Thread Cert.Kernel26Ideal.nD Cert.Kernel26Ideal.τ).loc Cert.Kernel26Ideal.main_arg48) = m ((c.tc : Thread Cert.Kernel26Ideal.nD Cert.Kernel26Ideal.τ).loc Cert.Kernel26Ideal.main_arg48)
          ∧ r.2.mem ((c.tc : Thread Cert.Kernel26Ideal.nD Cert.Kernel26Ideal.τ).loc Cert.Kernel26Ideal.main_arg49) = m ((c.tc : Thread Cert.Kernel26Ideal.nD Cert.Kernel26Ideal.τ).loc Cert.Kernel26Ideal.main_arg49)
          ∧ r.2.mem ((c.tc : Thread Cert.Kernel26Ideal.nD Cert.Kernel26Ideal.τ).loc Cert.Kernel26Ideal.main_arg50) = m ((c.tc : Thread Cert.Kernel26Ideal.nD Cert.Kernel26Ideal.τ).loc Cert.Kernel26Ideal.main_arg50)
          ∧ r.2.mem ((c.tc : Thread Cert.Kernel26Ideal.nD Cert.Kernel26Ideal.τ).loc Cert.Kernel26Ideal.main_arg51) = m ((c.tc : Thread Cert.Kernel26Ideal.nD Cert.Kernel26Ideal.τ).loc Cert.Kernel26Ideal.main_arg51)
          ∧ r.2.mem ((c.tc : Thread Cert.Kernel26Ideal.nD Cert.Kernel26Ideal.τ).loc Cert.Kernel26Ideal.main_arg52) = m ((c.tc : Thread Cert.Kernel26Ideal.nD Cert.Kernel26Ideal.τ).loc Cert.Kernel26Ideal.main_arg52)
          ∧ r.2.mem ((c.tc : Thread Cert.Kernel26Ideal.nD Cert.Kernel26Ideal.τ).loc Cert.Kernel26Ideal.main_arg53) = m ((c.tc : Thread Cert.Kernel26Ideal.nD Cert.Kernel26Ideal.τ).loc Cert.Kernel26Ideal.main_arg53)
          ∧ r.2.mem ((c.tc : Thread Cert.Kernel26Ideal.nD Cert.Kernel26Ideal.τ).loc Cert.Kernel26Ideal.main_arg54) = m ((c.tc : Thread Cert.Kernel26Ideal.nD Cert.Kernel26Ideal.τ).loc Cert.Kernel26Ideal.main_arg54)
          ∧ r.2.mem ((c.tc : Thread Cert.Kernel26Ideal.nD Cert.Kernel26Ideal.τ).loc Cert.Kernel26Ideal.main_arg55) = m ((c.tc : Thread Cert.Kernel26Ideal.nD Cert.Kernel26Ideal.τ).loc Cert.Kernel26Ideal.main_arg55)
          ∧ r.2.mem ((c.tc : Thread Cert.Kernel26Ideal.nD Cert.Kernel26Ideal.τ).loc Cert.Kernel26Ideal.main_arg56) = m ((c.tc : Thread Cert.Kernel26Ideal.nD Cert.Kernel26Ideal.τ).loc Cert.Kernel26Ideal.main_arg56)
          ∧ r.2.mem ((c.tc : Thread Cert.Kernel26Ideal.nD Cert.Kernel26Ideal.τ).loc Cert.Kernel26Ideal.main_arg57) = m ((c.tc : Thread Cert.Kernel26Ideal.nD Cert.Kernel26Ideal.τ).loc Cert.Kernel26Ideal.main_arg57)
          ∧ r.2.mem ((c.tc : Thread Cert.Kernel26Ideal.nD Cert.Kernel26Ideal.τ).loc Cert.Kernel26Ideal.main_arg58) = m ((c.tc : Thread Cert.Kernel26Ideal.nD Cert.Kernel26Ideal.τ).loc Cert.Kernel26Ideal.main_arg58)
          ∧ r.2.mem ((c.tc : Thread Cert.Kernel26Ideal.nD Cert.Kernel26Ideal.τ).loc Cert.Kernel26Ideal.main_arg59) = m ((c.tc : Thread Cert.Kernel26Ideal.nD Cert.Kernel26Ideal.τ).loc Cert.Kernel26Ideal.main_arg59)
          ∧ r.2.mem ((c.tc : Thread Cert.Kernel26Ideal.nD Cert.Kernel26Ideal.τ).loc Cert.Kernel26Ideal.main_arg60) = m ((c.tc : Thread Cert.Kernel26Ideal.nD Cert.Kernel26Ideal.τ).loc Cert.Kernel26Ideal.main_arg60)
          ∧ r.2.mem ((c.tc : Thread Cert.Kernel26Ideal.nD Cert.Kernel26Ideal.τ).loc Cert.Kernel26Ideal.main_arg61) = m ((c.tc : Thread Cert.Kernel26Ideal.nD Cert.Kernel26Ideal.τ).loc Cert.Kernel26Ideal.main_arg61)
          ∧ r.2.mem ((c.tc : Thread Cert.Kernel26Ideal.nD Cert.Kernel26Ideal.τ).loc Cert.Kernel26Ideal.main_arg62) = m ((c.tc : Thread Cert.Kernel26Ideal.nD Cert.Kernel26Ideal.τ).loc Cert.Kernel26Ideal.main_arg62)
          ∧ r.2.mem ((c.tc : Thread Cert.Kernel26Ideal.nD Cert.Kernel26Ideal.τ).loc Cert.Kernel26Ideal.main_arg63) = m ((c.tc : Thread Cert.Kernel26Ideal.nD Cert.Kernel26Ideal.τ).loc Cert.Kernel26Ideal.main_arg63)
          ∧ r.2.mem ((c.tc : Thread Cert.Kernel26Ideal.nD Cert.Kernel26Ideal.τ).loc Cert.Kernel26Ideal.main_arg64) = m ((c.tc : Thread Cert.Kernel26Ideal.nD Cert.Kernel26Ideal.τ).loc Cert.Kernel26Ideal.main_arg64)
          ∧ r.2.mem ((c.tc : Thread Cert.Kernel26Ideal.nD Cert.Kernel26Ideal.τ).loc Cert.Kernel26Ideal.main_arg65) = m ((c.tc : Thread Cert.Kernel26Ideal.nD Cert.Kernel26Ideal.τ).loc Cert.Kernel26Ideal.main_arg65)
          ∧ r.2.mem ((c.tc : Thread Cert.Kernel26Ideal.nD Cert.Kernel26Ideal.τ).loc Cert.Kernel26Ideal.main_arg66) = m ((c.tc : Thread Cert.Kernel26Ideal.nD Cert.Kernel26Ideal.τ).loc Cert.Kernel26Ideal.main_arg66)
          ∧ r.2.mem ((c.tc : Thread Cert.Kernel26Ideal.nD Cert.Kernel26Ideal.τ).loc Cert.Kernel26Ideal.main_arg67) = m ((c.tc : Thread Cert.Kernel26Ideal.nD Cert.Kernel26Ideal.τ).loc Cert.Kernel26Ideal.main_arg67))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v23) = v0 c
          ∧ r.2.mem ((c.tc : Thread Cert.Reference26Ideal.nD Cert.Reference26Ideal.τ).loc Cert.Reference26Ideal.main_v47) = v1 c
          ∧ r.2.mem ((c.tc : Thread Cert.Reference26Ideal.nD Cert.Reference26Ideal.τ).loc Cert.Reference26Ideal.main_v71) = v2 c
          ∧ r.2.mem ((c.tc : Thread Cert.Reference26Ideal.nD Cert.Reference26Ideal.τ).loc Cert.Reference26Ideal.main_v95) = v3 c
          ∧ r.2.mem ((c.tc : Thread Cert.Reference26Ideal.nD Cert.Reference26Ideal.τ).loc Cert.Reference26Ideal.main_v119) = v4 c
          ∧ r.2.mem ((c.tc : Thread Cert.Reference26Ideal.nD Cert.Reference26Ideal.τ).loc Cert.Reference26Ideal.main_v143) = v5 c
          ∧ r.2.mem ((c.tc : Thread Cert.Reference26Ideal.nD Cert.Reference26Ideal.τ).loc Cert.Reference26Ideal.main_v167) = v6 c
          ∧ r.2.mem ((c.tc : Thread Cert.Reference26Ideal.nD Cert.Reference26Ideal.τ).loc Cert.Reference26Ideal.main_v191) = v7 c
          ∧ r.2.mem ((c.tc : Thread Cert.Reference26Ideal.nD Cert.Reference26Ideal.τ).loc Cert.Reference26Ideal.main_v215) = v8 c
          ∧ r.2.mem ((c.tc : Thread Cert.Reference26Ideal.nD Cert.Reference26Ideal.τ).loc Cert.Reference26Ideal.main_v239) = v9 c
          ∧ r.2.mem ((c.tc : Thread Cert.Reference26Ideal.nD Cert.Reference26Ideal.τ).loc Cert.Reference26Ideal.main_v263) = v10 c
          ∧ r.2.mem ((c.tc : Thread Cert.Reference26Ideal.nD Cert.Reference26Ideal.τ).loc Cert.Reference26Ideal.main_v287) = v11 c
          ∧ r.2.mem ((c.tc : Thread Cert.Reference26Ideal.nD Cert.Reference26Ideal.τ).loc Cert.Reference26Ideal.main_v311) = v12 c
          ∧ r.2.mem ((c.tc : Thread Cert.Reference26Ideal.nD Cert.Reference26Ideal.τ).loc Cert.Reference26Ideal.main_v335) = v13 c
          ∧ r.2.mem ((c.tc : Thread Cert.Reference26Ideal.nD Cert.Reference26Ideal.τ).loc Cert.Reference26Ideal.main_v359) = v14 c
          ∧ r.2.mem ((c.tc : Thread Cert.Reference26Ideal.nD Cert.Reference26Ideal.τ).loc Cert.Reference26Ideal.main_v383) = v15 c
          ∧ r.2.mem ((c.tc : Thread Cert.Reference26Ideal.nD Cert.Reference26Ideal.τ).loc Cert.Reference26Ideal.main_v407) = v16 c
          ∧ r.2.mem ((c.tc : Thread Cert.Reference26Ideal.nD Cert.Reference26Ideal.τ).loc Cert.Reference26Ideal.main_v4) = v17 c
          ∧ r.2.mem ((c.tc : Thread Cert.Reference26Ideal.nD Cert.Reference26Ideal.τ).loc Cert.Reference26Ideal.main_v28) = v18 c
          ∧ r.2.mem ((c.tc : Thread Cert.Reference26Ideal.nD Cert.Reference26Ideal.τ).loc Cert.Reference26Ideal.main_v52) = v19 c
          ∧ r.2.mem ((c.tc : Thread Cert.Reference26Ideal.nD Cert.Reference26Ideal.τ).loc Cert.Reference26Ideal.main_v76) = v20 c
          ∧ r.2.mem ((c.tc : Thread Cert.Reference26Ideal.nD Cert.Reference26Ideal.τ).loc Cert.Reference26Ideal.main_v100) = v21 c
          ∧ r.2.mem ((c.tc : Thread Cert.Reference26Ideal.nD Cert.Reference26Ideal.τ).loc Cert.Reference26Ideal.main_v124) = v22 c
          ∧ r.2.mem ((c.tc : Thread Cert.Reference26Ideal.nD Cert.Reference26Ideal.τ).loc Cert.Reference26Ideal.main_v148) = v23 c
          ∧ r.2.mem ((c.tc : Thread Cert.Reference26Ideal.nD Cert.Reference26Ideal.τ).loc Cert.Reference26Ideal.main_v172) = v24 c
          ∧ r.2.mem ((c.tc : Thread Cert.Reference26Ideal.nD Cert.Reference26Ideal.τ).loc Cert.Reference26Ideal.main_v196) = v25 c
          ∧ r.2.mem ((c.tc : Thread Cert.Reference26Ideal.nD Cert.Reference26Ideal.τ).loc Cert.Reference26Ideal.main_v220) = v26 c
          ∧ r.2.mem ((c.tc : Thread Cert.Reference26Ideal.nD Cert.Reference26Ideal.τ).loc Cert.Reference26Ideal.main_v244) = v27 c
          ∧ r.2.mem ((c.tc : Thread Cert.Reference26Ideal.nD Cert.Reference26Ideal.τ).loc Cert.Reference26Ideal.main_v268) = v28 c
          ∧ r.2.mem ((c.tc : Thread Cert.Reference26Ideal.nD Cert.Reference26Ideal.τ).loc Cert.Reference26Ideal.main_v292) = v29 c
          ∧ r.2.mem ((c.tc : Thread Cert.Reference26Ideal.nD Cert.Reference26Ideal.τ).loc Cert.Reference26Ideal.main_v316) = v30 c
          ∧ r.2.mem ((c.tc : Thread Cert.Reference26Ideal.nD Cert.Reference26Ideal.τ).loc Cert.Reference26Ideal.main_v340) = v31 c
          ∧ r.2.mem ((c.tc : Thread Cert.Reference26Ideal.nD Cert.Reference26Ideal.τ).loc Cert.Reference26Ideal.main_v364) = v32 c
          ∧ r.2.mem ((c.tc : Thread Cert.Reference26Ideal.nD Cert.Reference26Ideal.τ).loc Cert.Reference26Ideal.main_v388) = v33 c
          ∧ r.2.mem ((c.tc : Thread Cert.Reference26Ideal.nD Cert.Reference26Ideal.τ).loc Cert.Reference26Ideal.main_v10) = v34 c
          ∧ r.2.mem ((c.tc : Thread Cert.Reference26Ideal.nD Cert.Reference26Ideal.τ).loc Cert.Reference26Ideal.main_v34) = v35 c
          ∧ r.2.mem ((c.tc : Thread Cert.Reference26Ideal.nD Cert.Reference26Ideal.τ).loc Cert.Reference26Ideal.main_v58) = v36 c
          ∧ r.2.mem ((c.tc : Thread Cert.Reference26Ideal.nD Cert.Reference26Ideal.τ).loc Cert.Reference26Ideal.main_v82) = v37 c
          ∧ r.2.mem ((c.tc : Thread Cert.Reference26Ideal.nD Cert.Reference26Ideal.τ).loc Cert.Reference26Ideal.main_v106) = v38 c
          ∧ r.2.mem ((c.tc : Thread Cert.Reference26Ideal.nD Cert.Reference26Ideal.τ).loc Cert.Reference26Ideal.main_v130) = v39 c
          ∧ r.2.mem ((c.tc : Thread Cert.Reference26Ideal.nD Cert.Reference26Ideal.τ).loc Cert.Reference26Ideal.main_v154) = v40 c
          ∧ r.2.mem ((c.tc : Thread Cert.Reference26Ideal.nD Cert.Reference26Ideal.τ).loc Cert.Reference26Ideal.main_v178) = v41 c
          ∧ r.2.mem ((c.tc : Thread Cert.Reference26Ideal.nD Cert.Reference26Ideal.τ).loc Cert.Reference26Ideal.main_v202) = v42 c
          ∧ r.2.mem ((c.tc : Thread Cert.Reference26Ideal.nD Cert.Reference26Ideal.τ).loc Cert.Reference26Ideal.main_v226) = v43 c
          ∧ r.2.mem ((c.tc : Thread Cert.Reference26Ideal.nD Cert.Reference26Ideal.τ).loc Cert.Reference26Ideal.main_v250) = v44 c
          ∧ r.2.mem ((c.tc : Thread Cert.Reference26Ideal.nD Cert.Reference26Ideal.τ).loc Cert.Reference26Ideal.main_v274) = v45 c
          ∧ r.2.mem ((c.tc : Thread Cert.Reference26Ideal.nD Cert.Reference26Ideal.τ).loc Cert.Reference26Ideal.main_v298) = v46 c
          ∧ r.2.mem ((c.tc : Thread Cert.Reference26Ideal.nD Cert.Reference26Ideal.τ).loc Cert.Reference26Ideal.main_v322) = v47 c
          ∧ r.2.mem ((c.tc : Thread Cert.Reference26Ideal.nD Cert.Reference26Ideal.τ).loc Cert.Reference26Ideal.main_v346) = v48 c
          ∧ r.2.mem ((c.tc : Thread Cert.Reference26Ideal.nD Cert.Reference26Ideal.τ).loc Cert.Reference26Ideal.main_v370) = v49 c
          ∧ r.2.mem ((c.tc : Thread Cert.Reference26Ideal.nD Cert.Reference26Ideal.τ).loc Cert.Reference26Ideal.main_v394) = v50 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4)
          ∧ r.2.mem ((c.tc : Thread Cert.Reference26Ideal.nD Cert.Reference26Ideal.τ).loc Cert.Reference26Ideal.main_arg5) = m' ((c.tc : Thread Cert.Reference26Ideal.nD Cert.Reference26Ideal.τ).loc Cert.Reference26Ideal.main_arg5)
          ∧ r.2.mem ((c.tc : Thread Cert.Reference26Ideal.nD Cert.Reference26Ideal.τ).loc Cert.Reference26Ideal.main_arg6) = m' ((c.tc : Thread Cert.Reference26Ideal.nD Cert.Reference26Ideal.τ).loc Cert.Reference26Ideal.main_arg6)
          ∧ r.2.mem ((c.tc : Thread Cert.Reference26Ideal.nD Cert.Reference26Ideal.τ).loc Cert.Reference26Ideal.main_arg7) = m' ((c.tc : Thread Cert.Reference26Ideal.nD Cert.Reference26Ideal.τ).loc Cert.Reference26Ideal.main_arg7)
          ∧ r.2.mem ((c.tc : Thread Cert.Reference26Ideal.nD Cert.Reference26Ideal.τ).loc Cert.Reference26Ideal.main_arg8) = m' ((c.tc : Thread Cert.Reference26Ideal.nD Cert.Reference26Ideal.τ).loc Cert.Reference26Ideal.main_arg8)
          ∧ r.2.mem ((c.tc : Thread Cert.Reference26Ideal.nD Cert.Reference26Ideal.τ).loc Cert.Reference26Ideal.main_arg9) = m' ((c.tc : Thread Cert.Reference26Ideal.nD Cert.Reference26Ideal.τ).loc Cert.Reference26Ideal.main_arg9)
          ∧ r.2.mem ((c.tc : Thread Cert.Reference26Ideal.nD Cert.Reference26Ideal.τ).loc Cert.Reference26Ideal.main_arg10) = m' ((c.tc : Thread Cert.Reference26Ideal.nD Cert.Reference26Ideal.τ).loc Cert.Reference26Ideal.main_arg10)
          ∧ r.2.mem ((c.tc : Thread Cert.Reference26Ideal.nD Cert.Reference26Ideal.τ).loc Cert.Reference26Ideal.main_arg11) = m' ((c.tc : Thread Cert.Reference26Ideal.nD Cert.Reference26Ideal.τ).loc Cert.Reference26Ideal.main_arg11)
          ∧ r.2.mem ((c.tc : Thread Cert.Reference26Ideal.nD Cert.Reference26Ideal.τ).loc Cert.Reference26Ideal.main_arg12) = m' ((c.tc : Thread Cert.Reference26Ideal.nD Cert.Reference26Ideal.τ).loc Cert.Reference26Ideal.main_arg12)
          ∧ r.2.mem ((c.tc : Thread Cert.Reference26Ideal.nD Cert.Reference26Ideal.τ).loc Cert.Reference26Ideal.main_arg13) = m' ((c.tc : Thread Cert.Reference26Ideal.nD Cert.Reference26Ideal.τ).loc Cert.Reference26Ideal.main_arg13)
          ∧ r.2.mem ((c.tc : Thread Cert.Reference26Ideal.nD Cert.Reference26Ideal.τ).loc Cert.Reference26Ideal.main_arg14) = m' ((c.tc : Thread Cert.Reference26Ideal.nD Cert.Reference26Ideal.τ).loc Cert.Reference26Ideal.main_arg14)
          ∧ r.2.mem ((c.tc : Thread Cert.Reference26Ideal.nD Cert.Reference26Ideal.τ).loc Cert.Reference26Ideal.main_arg15) = m' ((c.tc : Thread Cert.Reference26Ideal.nD Cert.Reference26Ideal.τ).loc Cert.Reference26Ideal.main_arg15)
          ∧ r.2.mem ((c.tc : Thread Cert.Reference26Ideal.nD Cert.Reference26Ideal.τ).loc Cert.Reference26Ideal.main_arg16) = m' ((c.tc : Thread Cert.Reference26Ideal.nD Cert.Reference26Ideal.τ).loc Cert.Reference26Ideal.main_arg16)
          ∧ r.2.mem ((c.tc : Thread Cert.Reference26Ideal.nD Cert.Reference26Ideal.τ).loc Cert.Reference26Ideal.main_arg17) = m' ((c.tc : Thread Cert.Reference26Ideal.nD Cert.Reference26Ideal.τ).loc Cert.Reference26Ideal.main_arg17)
          ∧ r.2.mem ((c.tc : Thread Cert.Reference26Ideal.nD Cert.Reference26Ideal.τ).loc Cert.Reference26Ideal.main_arg18) = m' ((c.tc : Thread Cert.Reference26Ideal.nD Cert.Reference26Ideal.τ).loc Cert.Reference26Ideal.main_arg18)
          ∧ r.2.mem ((c.tc : Thread Cert.Reference26Ideal.nD Cert.Reference26Ideal.τ).loc Cert.Reference26Ideal.main_arg19) = m' ((c.tc : Thread Cert.Reference26Ideal.nD Cert.Reference26Ideal.τ).loc Cert.Reference26Ideal.main_arg19)
          ∧ r.2.mem ((c.tc : Thread Cert.Reference26Ideal.nD Cert.Reference26Ideal.τ).loc Cert.Reference26Ideal.main_arg20) = m' ((c.tc : Thread Cert.Reference26Ideal.nD Cert.Reference26Ideal.τ).loc Cert.Reference26Ideal.main_arg20)
          ∧ r.2.mem ((c.tc : Thread Cert.Reference26Ideal.nD Cert.Reference26Ideal.τ).loc Cert.Reference26Ideal.main_arg21) = m' ((c.tc : Thread Cert.Reference26Ideal.nD Cert.Reference26Ideal.τ).loc Cert.Reference26Ideal.main_arg21)
          ∧ r.2.mem ((c.tc : Thread Cert.Reference26Ideal.nD Cert.Reference26Ideal.τ).loc Cert.Reference26Ideal.main_arg22) = m' ((c.tc : Thread Cert.Reference26Ideal.nD Cert.Reference26Ideal.τ).loc Cert.Reference26Ideal.main_arg22)
          ∧ r.2.mem ((c.tc : Thread Cert.Reference26Ideal.nD Cert.Reference26Ideal.τ).loc Cert.Reference26Ideal.main_arg23) = m' ((c.tc : Thread Cert.Reference26Ideal.nD Cert.Reference26Ideal.τ).loc Cert.Reference26Ideal.main_arg23)
          ∧ r.2.mem ((c.tc : Thread Cert.Reference26Ideal.nD Cert.Reference26Ideal.τ).loc Cert.Reference26Ideal.main_arg24) = m' ((c.tc : Thread Cert.Reference26Ideal.nD Cert.Reference26Ideal.τ).loc Cert.Reference26Ideal.main_arg24)
          ∧ r.2.mem ((c.tc : Thread Cert.Reference26Ideal.nD Cert.Reference26Ideal.τ).loc Cert.Reference26Ideal.main_arg25) = m' ((c.tc : Thread Cert.Reference26Ideal.nD Cert.Reference26Ideal.τ).loc Cert.Reference26Ideal.main_arg25)
          ∧ r.2.mem ((c.tc : Thread Cert.Reference26Ideal.nD Cert.Reference26Ideal.τ).loc Cert.Reference26Ideal.main_arg26) = m' ((c.tc : Thread Cert.Reference26Ideal.nD Cert.Reference26Ideal.τ).loc Cert.Reference26Ideal.main_arg26)
          ∧ r.2.mem ((c.tc : Thread Cert.Reference26Ideal.nD Cert.Reference26Ideal.τ).loc Cert.Reference26Ideal.main_arg27) = m' ((c.tc : Thread Cert.Reference26Ideal.nD Cert.Reference26Ideal.τ).loc Cert.Reference26Ideal.main_arg27)
          ∧ r.2.mem ((c.tc : Thread Cert.Reference26Ideal.nD Cert.Reference26Ideal.τ).loc Cert.Reference26Ideal.main_arg28) = m' ((c.tc : Thread Cert.Reference26Ideal.nD Cert.Reference26Ideal.τ).loc Cert.Reference26Ideal.main_arg28)
          ∧ r.2.mem ((c.tc : Thread Cert.Reference26Ideal.nD Cert.Reference26Ideal.τ).loc Cert.Reference26Ideal.main_arg29) = m' ((c.tc : Thread Cert.Reference26Ideal.nD Cert.Reference26Ideal.τ).loc Cert.Reference26Ideal.main_arg29)
          ∧ r.2.mem ((c.tc : Thread Cert.Reference26Ideal.nD Cert.Reference26Ideal.τ).loc Cert.Reference26Ideal.main_arg30) = m' ((c.tc : Thread Cert.Reference26Ideal.nD Cert.Reference26Ideal.τ).loc Cert.Reference26Ideal.main_arg30)
          ∧ r.2.mem ((c.tc : Thread Cert.Reference26Ideal.nD Cert.Reference26Ideal.τ).loc Cert.Reference26Ideal.main_arg31) = m' ((c.tc : Thread Cert.Reference26Ideal.nD Cert.Reference26Ideal.τ).loc Cert.Reference26Ideal.main_arg31)
          ∧ r.2.mem ((c.tc : Thread Cert.Reference26Ideal.nD Cert.Reference26Ideal.τ).loc Cert.Reference26Ideal.main_arg32) = m' ((c.tc : Thread Cert.Reference26Ideal.nD Cert.Reference26Ideal.τ).loc Cert.Reference26Ideal.main_arg32)
          ∧ r.2.mem ((c.tc : Thread Cert.Reference26Ideal.nD Cert.Reference26Ideal.τ).loc Cert.Reference26Ideal.main_arg33) = m' ((c.tc : Thread Cert.Reference26Ideal.nD Cert.Reference26Ideal.τ).loc Cert.Reference26Ideal.main_arg33)
          ∧ r.2.mem ((c.tc : Thread Cert.Reference26Ideal.nD Cert.Reference26Ideal.τ).loc Cert.Reference26Ideal.main_arg34) = m' ((c.tc : Thread Cert.Reference26Ideal.nD Cert.Reference26Ideal.τ).loc Cert.Reference26Ideal.main_arg34)
          ∧ r.2.mem ((c.tc : Thread Cert.Reference26Ideal.nD Cert.Reference26Ideal.τ).loc Cert.Reference26Ideal.main_arg35) = m' ((c.tc : Thread Cert.Reference26Ideal.nD Cert.Reference26Ideal.τ).loc Cert.Reference26Ideal.main_arg35)
          ∧ r.2.mem ((c.tc : Thread Cert.Reference26Ideal.nD Cert.Reference26Ideal.τ).loc Cert.Reference26Ideal.main_arg36) = m' ((c.tc : Thread Cert.Reference26Ideal.nD Cert.Reference26Ideal.τ).loc Cert.Reference26Ideal.main_arg36)
          ∧ r.2.mem ((c.tc : Thread Cert.Reference26Ideal.nD Cert.Reference26Ideal.τ).loc Cert.Reference26Ideal.main_arg37) = m' ((c.tc : Thread Cert.Reference26Ideal.nD Cert.Reference26Ideal.τ).loc Cert.Reference26Ideal.main_arg37)
          ∧ r.2.mem ((c.tc : Thread Cert.Reference26Ideal.nD Cert.Reference26Ideal.τ).loc Cert.Reference26Ideal.main_arg38) = m' ((c.tc : Thread Cert.Reference26Ideal.nD Cert.Reference26Ideal.τ).loc Cert.Reference26Ideal.main_arg38)
          ∧ r.2.mem ((c.tc : Thread Cert.Reference26Ideal.nD Cert.Reference26Ideal.τ).loc Cert.Reference26Ideal.main_arg39) = m' ((c.tc : Thread Cert.Reference26Ideal.nD Cert.Reference26Ideal.τ).loc Cert.Reference26Ideal.main_arg39)
          ∧ r.2.mem ((c.tc : Thread Cert.Reference26Ideal.nD Cert.Reference26Ideal.τ).loc Cert.Reference26Ideal.main_arg40) = m' ((c.tc : Thread Cert.Reference26Ideal.nD Cert.Reference26Ideal.τ).loc Cert.Reference26Ideal.main_arg40)
          ∧ r.2.mem ((c.tc : Thread Cert.Reference26Ideal.nD Cert.Reference26Ideal.τ).loc Cert.Reference26Ideal.main_arg41) = m' ((c.tc : Thread Cert.Reference26Ideal.nD Cert.Reference26Ideal.τ).loc Cert.Reference26Ideal.main_arg41)
          ∧ r.2.mem ((c.tc : Thread Cert.Reference26Ideal.nD Cert.Reference26Ideal.τ).loc Cert.Reference26Ideal.main_arg42) = m' ((c.tc : Thread Cert.Reference26Ideal.nD Cert.Reference26Ideal.τ).loc Cert.Reference26Ideal.main_arg42)
          ∧ r.2.mem ((c.tc : Thread Cert.Reference26Ideal.nD Cert.Reference26Ideal.τ).loc Cert.Reference26Ideal.main_arg43) = m' ((c.tc : Thread Cert.Reference26Ideal.nD Cert.Reference26Ideal.τ).loc Cert.Reference26Ideal.main_arg43)
          ∧ r.2.mem ((c.tc : Thread Cert.Reference26Ideal.nD Cert.Reference26Ideal.τ).loc Cert.Reference26Ideal.main_arg44) = m' ((c.tc : Thread Cert.Reference26Ideal.nD Cert.Reference26Ideal.τ).loc Cert.Reference26Ideal.main_arg44)
          ∧ r.2.mem ((c.tc : Thread Cert.Reference26Ideal.nD Cert.Reference26Ideal.τ).loc Cert.Reference26Ideal.main_arg45) = m' ((c.tc : Thread Cert.Reference26Ideal.nD Cert.Reference26Ideal.τ).loc Cert.Reference26Ideal.main_arg45)
          ∧ r.2.mem ((c.tc : Thread Cert.Reference26Ideal.nD Cert.Reference26Ideal.τ).loc Cert.Reference26Ideal.main_arg46) = m' ((c.tc : Thread Cert.Reference26Ideal.nD Cert.Reference26Ideal.τ).loc Cert.Reference26Ideal.main_arg46)
          ∧ r.2.mem ((c.tc : Thread Cert.Reference26Ideal.nD Cert.Reference26Ideal.τ).loc Cert.Reference26Ideal.main_arg47) = m' ((c.tc : Thread Cert.Reference26Ideal.nD Cert.Reference26Ideal.τ).loc Cert.Reference26Ideal.main_arg47)
          ∧ r.2.mem ((c.tc : Thread Cert.Reference26Ideal.nD Cert.Reference26Ideal.τ).loc Cert.Reference26Ideal.main_arg48) = m' ((c.tc : Thread Cert.Reference26Ideal.nD Cert.Reference26Ideal.τ).loc Cert.Reference26Ideal.main_arg48)
          ∧ r.2.mem ((c.tc : Thread Cert.Reference26Ideal.nD Cert.Reference26Ideal.τ).loc Cert.Reference26Ideal.main_arg49) = m' ((c.tc : Thread Cert.Reference26Ideal.nD Cert.Reference26Ideal.τ).loc Cert.Reference26Ideal.main_arg49)
          ∧ r.2.mem ((c.tc : Thread Cert.Reference26Ideal.nD Cert.Reference26Ideal.τ).loc Cert.Reference26Ideal.main_arg50) = m' ((c.tc : Thread Cert.Reference26Ideal.nD Cert.Reference26Ideal.τ).loc Cert.Reference26Ideal.main_arg50)
          ∧ r.2.mem ((c.tc : Thread Cert.Reference26Ideal.nD Cert.Reference26Ideal.τ).loc Cert.Reference26Ideal.main_arg51) = m' ((c.tc : Thread Cert.Reference26Ideal.nD Cert.Reference26Ideal.τ).loc Cert.Reference26Ideal.main_arg51)
          ∧ r.2.mem ((c.tc : Thread Cert.Reference26Ideal.nD Cert.Reference26Ideal.τ).loc Cert.Reference26Ideal.main_arg52) = m' ((c.tc : Thread Cert.Reference26Ideal.nD Cert.Reference26Ideal.τ).loc Cert.Reference26Ideal.main_arg52)
          ∧ r.2.mem ((c.tc : Thread Cert.Reference26Ideal.nD Cert.Reference26Ideal.τ).loc Cert.Reference26Ideal.main_arg53) = m' ((c.tc : Thread Cert.Reference26Ideal.nD Cert.Reference26Ideal.τ).loc Cert.Reference26Ideal.main_arg53)
          ∧ r.2.mem ((c.tc : Thread Cert.Reference26Ideal.nD Cert.Reference26Ideal.τ).loc Cert.Reference26Ideal.main_arg54) = m' ((c.tc : Thread Cert.Reference26Ideal.nD Cert.Reference26Ideal.τ).loc Cert.Reference26Ideal.main_arg54)
          ∧ r.2.mem ((c.tc : Thread Cert.Reference26Ideal.nD Cert.Reference26Ideal.τ).loc Cert.Reference26Ideal.main_arg55) = m' ((c.tc : Thread Cert.Reference26Ideal.nD Cert.Reference26Ideal.τ).loc Cert.Reference26Ideal.main_arg55)
          ∧ r.2.mem ((c.tc : Thread Cert.Reference26Ideal.nD Cert.Reference26Ideal.τ).loc Cert.Reference26Ideal.main_arg56) = m' ((c.tc : Thread Cert.Reference26Ideal.nD Cert.Reference26Ideal.τ).loc Cert.Reference26Ideal.main_arg56)
          ∧ r.2.mem ((c.tc : Thread Cert.Reference26Ideal.nD Cert.Reference26Ideal.τ).loc Cert.Reference26Ideal.main_arg57) = m' ((c.tc : Thread Cert.Reference26Ideal.nD Cert.Reference26Ideal.τ).loc Cert.Reference26Ideal.main_arg57)
          ∧ r.2.mem ((c.tc : Thread Cert.Reference26Ideal.nD Cert.Reference26Ideal.τ).loc Cert.Reference26Ideal.main_arg58) = m' ((c.tc : Thread Cert.Reference26Ideal.nD Cert.Reference26Ideal.τ).loc Cert.Reference26Ideal.main_arg58)
          ∧ r.2.mem ((c.tc : Thread Cert.Reference26Ideal.nD Cert.Reference26Ideal.τ).loc Cert.Reference26Ideal.main_arg59) = m' ((c.tc : Thread Cert.Reference26Ideal.nD Cert.Reference26Ideal.τ).loc Cert.Reference26Ideal.main_arg59)
          ∧ r.2.mem ((c.tc : Thread Cert.Reference26Ideal.nD Cert.Reference26Ideal.τ).loc Cert.Reference26Ideal.main_arg60) = m' ((c.tc : Thread Cert.Reference26Ideal.nD Cert.Reference26Ideal.τ).loc Cert.Reference26Ideal.main_arg60)
          ∧ r.2.mem ((c.tc : Thread Cert.Reference26Ideal.nD Cert.Reference26Ideal.τ).loc Cert.Reference26Ideal.main_arg61) = m' ((c.tc : Thread Cert.Reference26Ideal.nD Cert.Reference26Ideal.τ).loc Cert.Reference26Ideal.main_arg61)
          ∧ r.2.mem ((c.tc : Thread Cert.Reference26Ideal.nD Cert.Reference26Ideal.τ).loc Cert.Reference26Ideal.main_arg62) = m' ((c.tc : Thread Cert.Reference26Ideal.nD Cert.Reference26Ideal.τ).loc Cert.Reference26Ideal.main_arg62)
          ∧ r.2.mem ((c.tc : Thread Cert.Reference26Ideal.nD Cert.Reference26Ideal.τ).loc Cert.Reference26Ideal.main_arg63) = m' ((c.tc : Thread Cert.Reference26Ideal.nD Cert.Reference26Ideal.τ).loc Cert.Reference26Ideal.main_arg63)
          ∧ r.2.mem ((c.tc : Thread Cert.Reference26Ideal.nD Cert.Reference26Ideal.τ).loc Cert.Reference26Ideal.main_arg64) = m' ((c.tc : Thread Cert.Reference26Ideal.nD Cert.Reference26Ideal.τ).loc Cert.Reference26Ideal.main_arg64)
          ∧ r.2.mem ((c.tc : Thread Cert.Reference26Ideal.nD Cert.Reference26Ideal.τ).loc Cert.Reference26Ideal.main_arg65) = m' ((c.tc : Thread Cert.Reference26Ideal.nD Cert.Reference26Ideal.τ).loc Cert.Reference26Ideal.main_arg65)
          ∧ r.2.mem ((c.tc : Thread Cert.Reference26Ideal.nD Cert.Reference26Ideal.τ).loc Cert.Reference26Ideal.main_arg66) = m' ((c.tc : Thread Cert.Reference26Ideal.nD Cert.Reference26Ideal.τ).loc Cert.Reference26Ideal.main_arg66)
          ∧ r.2.mem ((c.tc : Thread Cert.Reference26Ideal.nD Cert.Reference26Ideal.τ).loc Cert.Reference26Ideal.main_arg67) = m' ((c.tc : Thread Cert.Reference26Ideal.nD Cert.Reference26Ideal.τ).loc Cert.Reference26Ideal.main_arg67))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v3_0)) (v1 : (c : Dev Cert.Kernel27Ideal.nD) → Buf (Elt Ideal) ((c.tc : Thread Cert.Kernel27Ideal.nD Cert.Kernel27Ideal.τ).loc Cert.Kernel27Ideal.main_v3_1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v3_0) = v0 c
          ∧ r.2.mem ((c.tc : Thread Cert.Kernel27Ideal.nD Cert.Kernel27Ideal.τ).loc Cert.Kernel27Ideal.main_v3_1) = v1 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v0) = v0 c
          ∧ r.2.mem ((c.tc : Thread Cert.Reference27Ideal.nD Cert.Reference27Ideal.τ).loc Cert.Reference27Ideal.main_v24) = v1 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v1)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v1) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v13) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v1_0)) (v1 : (c : Dev Cert.Kernel29Ideal.nD) → Buf (Elt Ideal) ((c.tc : Thread Cert.Kernel29Ideal.nD Cert.Kernel29Ideal.τ).loc Cert.Kernel29Ideal.main_v1_1)) (v2 : (c : Dev Cert.Kernel29Ideal.nD) → Buf (Elt Ideal) ((c.tc : Thread Cert.Kernel29Ideal.nD Cert.Kernel29Ideal.τ).loc Cert.Kernel29Ideal.main_v1_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v1_0) = v0 c
          ∧ r.2.mem ((c.tc : Thread Cert.Kernel29Ideal.nD Cert.Kernel29Ideal.τ).loc Cert.Kernel29Ideal.main_v1_1) = v1 c
          ∧ r.2.mem ((c.tc : Thread Cert.Kernel29Ideal.nD Cert.Kernel29Ideal.τ).loc Cert.Kernel29Ideal.main_v1_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v33) = v0 c
          ∧ r.2.mem ((c.tc : Thread Cert.Reference29Ideal.nD Cert.Reference29Ideal.τ).loc Cert.Reference29Ideal.main_v28) = v1 c
          ∧ r.2.mem ((c.tc : Thread Cert.Reference29Ideal.nD Cert.Reference29Ideal.τ).loc Cert.Reference29Ideal.main_v34) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v4)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v4) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v14) = v0 c
          ∧ r.2.mem ((c.tc : Thread Cert.Reference30Ideal.nD Cert.Reference30Ideal.τ).loc Cert.Reference30Ideal.main_v15) = v1 c
          ∧ r.2.mem ((c.tc : Thread Cert.Reference30Ideal.nD Cert.Reference30Ideal.τ).loc Cert.Reference30Ideal.main_v8) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)
      ∧ m' ((c.tc : Thread Cert.Reference31Ideal.nD Cert.Reference31Ideal.τ).loc Cert.Reference31Ideal.main_arg4) = m ((c.tc : Thread Cert.Kernel31Ideal.nD Cert.Kernel31Ideal.τ).loc Cert.Kernel31Ideal.main_arg4)
      ∧ m' ((c.tc : Thread Cert.Reference31Ideal.nD Cert.Reference31Ideal.τ).loc Cert.Reference31Ideal.main_arg5) = m ((c.tc : Thread Cert.Kernel31Ideal.nD Cert.Kernel31Ideal.τ).loc Cert.Kernel31Ideal.main_arg5)
      ∧ m' ((c.tc : Thread Cert.Reference31Ideal.nD Cert.Reference31Ideal.τ).loc Cert.Reference31Ideal.main_arg6) = m ((c.tc : Thread Cert.Kernel31Ideal.nD Cert.Kernel31Ideal.τ).loc Cert.Kernel31Ideal.main_arg6)
      ∧ m' ((c.tc : Thread Cert.Reference31Ideal.nD Cert.Reference31Ideal.τ).loc Cert.Reference31Ideal.main_arg7) = m ((c.tc : Thread Cert.Kernel31Ideal.nD Cert.Kernel31Ideal.τ).loc Cert.Kernel31Ideal.main_arg7)
      ∧ m' ((c.tc : Thread Cert.Reference31Ideal.nD Cert.Reference31Ideal.τ).loc Cert.Reference31Ideal.main_arg8) = m ((c.tc : Thread Cert.Kernel31Ideal.nD Cert.Kernel31Ideal.τ).loc Cert.Kernel31Ideal.main_arg8)
      ∧ m' ((c.tc : Thread Cert.Reference31Ideal.nD Cert.Reference31Ideal.τ).loc Cert.Reference31Ideal.main_arg9) = m ((c.tc : Thread Cert.Kernel31Ideal.nD Cert.Kernel31Ideal.τ).loc Cert.Kernel31Ideal.main_arg9)
      ∧ m' ((c.tc : Thread Cert.Reference31Ideal.nD Cert.Reference31Ideal.τ).loc Cert.Reference31Ideal.main_arg10) = m ((c.tc : Thread Cert.Kernel31Ideal.nD Cert.Kernel31Ideal.τ).loc Cert.Kernel31Ideal.main_arg10)
      ∧ m' ((c.tc : Thread Cert.Reference31Ideal.nD Cert.Reference31Ideal.τ).loc Cert.Reference31Ideal.main_arg11) = m ((c.tc : Thread Cert.Kernel31Ideal.nD Cert.Kernel31Ideal.τ).loc Cert.Kernel31Ideal.main_arg11)
      ∧ m' ((c.tc : Thread Cert.Reference31Ideal.nD Cert.Reference31Ideal.τ).loc Cert.Reference31Ideal.main_arg12) = m ((c.tc : Thread Cert.Kernel31Ideal.nD Cert.Kernel31Ideal.τ).loc Cert.Kernel31Ideal.main_arg12)
      ∧ m' ((c.tc : Thread Cert.Reference31Ideal.nD Cert.Reference31Ideal.τ).loc Cert.Reference31Ideal.main_arg13) = m ((c.tc : Thread Cert.Kernel31Ideal.nD Cert.Kernel31Ideal.τ).loc Cert.Kernel31Ideal.main_arg13)
      ∧ m' ((c.tc : Thread Cert.Reference31Ideal.nD Cert.Reference31Ideal.τ).loc Cert.Reference31Ideal.main_arg14) = m ((c.tc : Thread Cert.Kernel31Ideal.nD Cert.Kernel31Ideal.τ).loc Cert.Kernel31Ideal.main_arg14)
      ∧ m' ((c.tc : Thread Cert.Reference31Ideal.nD Cert.Reference31Ideal.τ).loc Cert.Reference31Ideal.main_arg15) = m ((c.tc : Thread Cert.Kernel31Ideal.nD Cert.Kernel31Ideal.τ).loc Cert.Kernel31Ideal.main_arg15)
      ∧ m' ((c.tc : Thread Cert.Reference31Ideal.nD Cert.Reference31Ideal.τ).loc Cert.Reference31Ideal.main_arg16) = m ((c.tc : Thread Cert.Kernel31Ideal.nD Cert.Kernel31Ideal.τ).loc Cert.Kernel31Ideal.main_arg16)) →
    ∃ (v0 : (c : Dev Cert.Kernel31Ideal.nD) → Buf (Elt Ideal) ((c.tc : Thread Cert.Kernel31Ideal.nD Cert.Kernel31Ideal.τ).loc Cert.Kernel31Ideal.main_v25)) (v1 : (c : Dev Cert.Kernel31Ideal.nD) → Buf (Elt Ideal) ((c.tc : Thread Cert.Kernel31Ideal.nD Cert.Kernel31Ideal.τ).loc Cert.Kernel31Ideal.main_v27)) (v2 : (c : Dev Cert.Kernel31Ideal.nD) → Buf (Elt Ideal) ((c.tc : Thread Cert.Kernel31Ideal.nD Cert.Kernel31Ideal.τ).loc Cert.Kernel31Ideal.main_v29)) (v3 : (c : Dev Cert.Kernel31Ideal.nD) → Buf (Elt Ideal) ((c.tc : Thread Cert.Kernel31Ideal.nD Cert.Kernel31Ideal.τ).loc Cert.Kernel31Ideal.main_v31)) (v4 : (c : Dev Cert.Kernel31Ideal.nD) → Buf (Elt Ideal) ((c.tc : Thread Cert.Kernel31Ideal.nD Cert.Kernel31Ideal.τ).loc Cert.Kernel31Ideal.main_v33)) (v5 : (c : Dev Cert.Kernel31Ideal.nD) → Buf (Elt Ideal) ((c.tc : Thread Cert.Kernel31Ideal.nD Cert.Kernel31Ideal.τ).loc Cert.Kernel31Ideal.main_v35)) (v6 : (c : Dev Cert.Kernel31Ideal.nD) → Buf (Elt Ideal) ((c.tc : Thread Cert.Kernel31Ideal.nD Cert.Kernel31Ideal.τ).loc Cert.Kernel31Ideal.main_v37)) (v7 : (c : Dev Cert.Kernel31Ideal.nD) → Buf (Elt Ideal) ((c.tc : Thread Cert.Kernel31Ideal.nD Cert.Kernel31Ideal.τ).loc Cert.Kernel31Ideal.main_v39)) (v8 : (c : Dev Cert.Kernel31Ideal.nD) → Buf (Elt Ideal) ((c.tc : Thread Cert.Kernel31Ideal.nD Cert.Kernel31Ideal.τ).loc Cert.Kernel31Ideal.main_v41)) (v9 : (c : Dev Cert.Kernel31Ideal.nD) → Buf (Elt Ideal) ((c.tc : Thread Cert.Kernel31Ideal.nD Cert.Kernel31Ideal.τ).loc Cert.Kernel31Ideal.main_v43)) (v10 : (c : Dev Cert.Kernel31Ideal.nD) → Buf (Elt Ideal) ((c.tc : Thread Cert.Kernel31Ideal.nD Cert.Kernel31Ideal.τ).loc Cert.Kernel31Ideal.main_v45)) (v11 : (c : Dev Cert.Kernel31Ideal.nD) → Buf (Elt Ideal) ((c.tc : Thread Cert.Kernel31Ideal.nD Cert.Kernel31Ideal.τ).loc Cert.Kernel31Ideal.main_v47)) (v12 : (c : Dev Cert.Kernel31Ideal.nD) → Buf (Elt Ideal) ((c.tc : Thread Cert.Kernel31Ideal.nD Cert.Kernel31Ideal.τ).loc Cert.Kernel31Ideal.main_v49)) (v13 : (c : Dev Cert.Kernel31Ideal.nD) → Buf (Elt Ideal) ((c.tc : Thread Cert.Kernel31Ideal.nD Cert.Kernel31Ideal.τ).loc Cert.Kernel31Ideal.main_v51)) (v14 : (c : Dev Cert.Kernel31Ideal.nD) → Buf (Elt Ideal) ((c.tc : Thread Cert.Kernel31Ideal.nD Cert.Kernel31Ideal.τ).loc Cert.Kernel31Ideal.main_v53)) (v15 : (c : Dev Cert.Kernel31Ideal.nD) → Buf (Elt Ideal) ((c.tc : Thread Cert.Kernel31Ideal.nD Cert.Kernel31Ideal.τ).loc Cert.Kernel31Ideal.main_v55)) (v16 : (c : Dev Cert.Kernel31Ideal.nD) → Buf (Elt Ideal) ((c.tc : Thread Cert.Kernel31Ideal.nD Cert.Kernel31Ideal.τ).loc Cert.Kernel31Ideal.main_v57)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v25) = v0 c
          ∧ r.2.mem ((c.tc : Thread Cert.Kernel31Ideal.nD Cert.Kernel31Ideal.τ).loc Cert.Kernel31Ideal.main_v27) = v1 c
          ∧ r.2.mem ((c.tc : Thread Cert.Kernel31Ideal.nD Cert.Kernel31Ideal.τ).loc Cert.Kernel31Ideal.main_v29) = v2 c
          ∧ r.2.mem ((c.tc : Thread Cert.Kernel31Ideal.nD Cert.Kernel31Ideal.τ).loc Cert.Kernel31Ideal.main_v31) = v3 c
          ∧ r.2.mem ((c.tc : Thread Cert.Kernel31Ideal.nD Cert.Kernel31Ideal.τ).loc Cert.Kernel31Ideal.main_v33) = v4 c
          ∧ r.2.mem ((c.tc : Thread Cert.Kernel31Ideal.nD Cert.Kernel31Ideal.τ).loc Cert.Kernel31Ideal.main_v35) = v5 c
          ∧ r.2.mem ((c.tc : Thread Cert.Kernel31Ideal.nD Cert.Kernel31Ideal.τ).loc Cert.Kernel31Ideal.main_v37) = v6 c
          ∧ r.2.mem ((c.tc : Thread Cert.Kernel31Ideal.nD Cert.Kernel31Ideal.τ).loc Cert.Kernel31Ideal.main_v39) = v7 c
          ∧ r.2.mem ((c.tc : Thread Cert.Kernel31Ideal.nD Cert.Kernel31Ideal.τ).loc Cert.Kernel31Ideal.main_v41) = v8 c
          ∧ r.2.mem ((c.tc : Thread Cert.Kernel31Ideal.nD Cert.Kernel31Ideal.τ).loc Cert.Kernel31Ideal.main_v43) = v9 c
          ∧ r.2.mem ((c.tc : Thread Cert.Kernel31Ideal.nD Cert.Kernel31Ideal.τ).loc Cert.Kernel31Ideal.main_v45) = v10 c
          ∧ r.2.mem ((c.tc : Thread Cert.Kernel31Ideal.nD Cert.Kernel31Ideal.τ).loc Cert.Kernel31Ideal.main_v47) = v11 c
          ∧ r.2.mem ((c.tc : Thread Cert.Kernel31Ideal.nD Cert.Kernel31Ideal.τ).loc Cert.Kernel31Ideal.main_v49) = v12 c
          ∧ r.2.mem ((c.tc : Thread Cert.Kernel31Ideal.nD Cert.Kernel31Ideal.τ).loc Cert.Kernel31Ideal.main_v51) = v13 c
          ∧ r.2.mem ((c.tc : Thread Cert.Kernel31Ideal.nD Cert.Kernel31Ideal.τ).loc Cert.Kernel31Ideal.main_v53) = v14 c
          ∧ r.2.mem ((c.tc : Thread Cert.Kernel31Ideal.nD Cert.Kernel31Ideal.τ).loc Cert.Kernel31Ideal.main_v55) = v15 c
          ∧ r.2.mem ((c.tc : Thread Cert.Kernel31Ideal.nD Cert.Kernel31Ideal.τ).loc Cert.Kernel31Ideal.main_v57) = v16 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
          ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
          ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5)
          ∧ r.2.mem ((c.tc : Thread Cert.Kernel31Ideal.nD Cert.Kernel31Ideal.τ).loc Cert.Kernel31Ideal.main_arg6) = m ((c.tc : Thread Cert.Kernel31Ideal.nD Cert.Kernel31Ideal.τ).loc Cert.Kernel31Ideal.main_arg6)
          ∧ r.2.mem ((c.tc : Thread Cert.Kernel31Ideal.nD Cert.Kernel31Ideal.τ).loc Cert.Kernel31Ideal.main_arg7) = m ((c.tc : Thread Cert.Kernel31Ideal.nD Cert.Kernel31Ideal.τ).loc Cert.Kernel31Ideal.main_arg7)
          ∧ r.2.mem ((c.tc : Thread Cert.Kernel31Ideal.nD Cert.Kernel31Ideal.τ).loc Cert.Kernel31Ideal.main_arg8) = m ((c.tc : Thread Cert.Kernel31Ideal.nD Cert.Kernel31Ideal.τ).loc Cert.Kernel31Ideal.main_arg8)
          ∧ r.2.mem ((c.tc : Thread Cert.Kernel31Ideal.nD Cert.Kernel31Ideal.τ).loc Cert.Kernel31Ideal.main_arg9) = m ((c.tc : Thread Cert.Kernel31Ideal.nD Cert.Kernel31Ideal.τ).loc Cert.Kernel31Ideal.main_arg9)
          ∧ r.2.mem ((c.tc : Thread Cert.Kernel31Ideal.nD Cert.Kernel31Ideal.τ).loc Cert.Kernel31Ideal.main_arg10) = m ((c.tc : Thread Cert.Kernel31Ideal.nD Cert.Kernel31Ideal.τ).loc Cert.Kernel31Ideal.main_arg10)
          ∧ r.2.mem ((c.tc : Thread Cert.Kernel31Ideal.nD Cert.Kernel31Ideal.τ).loc Cert.Kernel31Ideal.main_arg11) = m ((c.tc : Thread Cert.Kernel31Ideal.nD Cert.Kernel31Ideal.τ).loc Cert.Kernel31Ideal.main_arg11)
          ∧ r.2.mem ((c.tc : Thread Cert.Kernel31Ideal.nD Cert.Kernel31Ideal.τ).loc Cert.Kernel31Ideal.main_arg12) = m ((c.tc : Thread Cert.Kernel31Ideal.nD Cert.Kernel31Ideal.τ).loc Cert.Kernel31Ideal.main_arg12)
          ∧ r.2.mem ((c.tc : Thread Cert.Kernel31Ideal.nD Cert.Kernel31Ideal.τ).loc Cert.Kernel31Ideal.main_arg13) = m ((c.tc : Thread Cert.Kernel31Ideal.nD Cert.Kernel31Ideal.τ).loc Cert.Kernel31Ideal.main_arg13)
          ∧ r.2.mem ((c.tc : Thread Cert.Kernel31Ideal.nD Cert.Kernel31Ideal.τ).loc Cert.Kernel31Ideal.main_arg14) = m ((c.tc : Thread Cert.Kernel31Ideal.nD Cert.Kernel31Ideal.τ).loc Cert.Kernel31Ideal.main_arg14)
          ∧ r.2.mem ((c.tc : Thread Cert.Kernel31Ideal.nD Cert.Kernel31Ideal.τ).loc Cert.Kernel31Ideal.main_arg15) = m ((c.tc : Thread Cert.Kernel31Ideal.nD Cert.Kernel31Ideal.τ).loc Cert.Kernel31Ideal.main_arg15)
          ∧ r.2.mem ((c.tc : Thread Cert.Kernel31Ideal.nD Cert.Kernel31Ideal.τ).loc Cert.Kernel31Ideal.main_arg16) = m ((c.tc : Thread Cert.Kernel31Ideal.nD Cert.Kernel31Ideal.τ).loc Cert.Kernel31Ideal.main_arg16))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v0) = v0 c
          ∧ r.2.mem ((c.tc : Thread Cert.Reference31Ideal.nD Cert.Reference31Ideal.τ).loc Cert.Reference31Ideal.main_v1) = v1 c
          ∧ r.2.mem ((c.tc : Thread Cert.Reference31Ideal.nD Cert.Reference31Ideal.τ).loc Cert.Reference31Ideal.main_v2) = v2 c
          ∧ r.2.mem ((c.tc : Thread Cert.Reference31Ideal.nD Cert.Reference31Ideal.τ).loc Cert.Reference31Ideal.main_v3) = v3 c
          ∧ r.2.mem ((c.tc : Thread Cert.Reference31Ideal.nD Cert.Reference31Ideal.τ).loc Cert.Reference31Ideal.main_v4) = v4 c
          ∧ r.2.mem ((c.tc : Thread Cert.Reference31Ideal.nD Cert.Reference31Ideal.τ).loc Cert.Reference31Ideal.main_v5) = v5 c
          ∧ r.2.mem ((c.tc : Thread Cert.Reference31Ideal.nD Cert.Reference31Ideal.τ).loc Cert.Reference31Ideal.main_v6) = v6 c
          ∧ r.2.mem ((c.tc : Thread Cert.Reference31Ideal.nD Cert.Reference31Ideal.τ).loc Cert.Reference31Ideal.main_v7) = v7 c
          ∧ r.2.mem ((c.tc : Thread Cert.Reference31Ideal.nD Cert.Reference31Ideal.τ).loc Cert.Reference31Ideal.main_v8) = v8 c
          ∧ r.2.mem ((c.tc : Thread Cert.Reference31Ideal.nD Cert.Reference31Ideal.τ).loc Cert.Reference31Ideal.main_v9) = v9 c
          ∧ r.2.mem ((c.tc : Thread Cert.Reference31Ideal.nD Cert.Reference31Ideal.τ).loc Cert.Reference31Ideal.main_v10) = v10 c
          ∧ r.2.mem ((c.tc : Thread Cert.Reference31Ideal.nD Cert.Reference31Ideal.τ).loc Cert.Reference31Ideal.main_v11) = v11 c
          ∧ r.2.mem ((c.tc : Thread Cert.Reference31Ideal.nD Cert.Reference31Ideal.τ).loc Cert.Reference31Ideal.main_v12) = v12 c
          ∧ r.2.mem ((c.tc : Thread Cert.Reference31Ideal.nD Cert.Reference31Ideal.τ).loc Cert.Reference31Ideal.main_v13) = v13 c
          ∧ r.2.mem ((c.tc : Thread Cert.Reference31Ideal.nD Cert.Reference31Ideal.τ).loc Cert.Reference31Ideal.main_v14) = v14 c
          ∧ r.2.mem ((c.tc : Thread Cert.Reference31Ideal.nD Cert.Reference31Ideal.τ).loc Cert.Reference31Ideal.main_v15) = v15 c
          ∧ r.2.mem ((c.tc : Thread Cert.Reference31Ideal.nD Cert.Reference31Ideal.τ).loc Cert.Reference31Ideal.main_v16) = v16 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3)
          ∧ r.2.mem ((c.tc : Thread Cert.Reference31Ideal.nD Cert.Reference31Ideal.τ).loc Cert.Reference31Ideal.main_arg4) = m' ((c.tc : Thread Cert.Reference31Ideal.nD Cert.Reference31Ideal.τ).loc Cert.Reference31Ideal.main_arg4)
          ∧ r.2.mem ((c.tc : Thread Cert.Reference31Ideal.nD Cert.Reference31Ideal.τ).loc Cert.Reference31Ideal.main_arg5) = m' ((c.tc : Thread Cert.Reference31Ideal.nD Cert.Reference31Ideal.τ).loc Cert.Reference31Ideal.main_arg5)
          ∧ r.2.mem ((c.tc : Thread Cert.Reference31Ideal.nD Cert.Reference31Ideal.τ).loc Cert.Reference31Ideal.main_arg6) = m' ((c.tc : Thread Cert.Reference31Ideal.nD Cert.Reference31Ideal.τ).loc Cert.Reference31Ideal.main_arg6)
          ∧ r.2.mem ((c.tc : Thread Cert.Reference31Ideal.nD Cert.Reference31Ideal.τ).loc Cert.Reference31Ideal.main_arg7) = m' ((c.tc : Thread Cert.Reference31Ideal.nD Cert.Reference31Ideal.τ).loc Cert.Reference31Ideal.main_arg7)
          ∧ r.2.mem ((c.tc : Thread Cert.Reference31Ideal.nD Cert.Reference31Ideal.τ).loc Cert.Reference31Ideal.main_arg8) = m' ((c.tc : Thread Cert.Reference31Ideal.nD Cert.Reference31Ideal.τ).loc Cert.Reference31Ideal.main_arg8)
          ∧ r.2.mem ((c.tc : Thread Cert.Reference31Ideal.nD Cert.Reference31Ideal.τ).loc Cert.Reference31Ideal.main_arg9) = m' ((c.tc : Thread Cert.Reference31Ideal.nD Cert.Reference31Ideal.τ).loc Cert.Reference31Ideal.main_arg9)
          ∧ r.2.mem ((c.tc : Thread Cert.Reference31Ideal.nD Cert.Reference31Ideal.τ).loc Cert.Reference31Ideal.main_arg10) = m' ((c.tc : Thread Cert.Reference31Ideal.nD Cert.Reference31Ideal.τ).loc Cert.Reference31Ideal.main_arg10)
          ∧ r.2.mem ((c.tc : Thread Cert.Reference31Ideal.nD Cert.Reference31Ideal.τ).loc Cert.Reference31Ideal.main_arg11) = m' ((c.tc : Thread Cert.Reference31Ideal.nD Cert.Reference31Ideal.τ).loc Cert.Reference31Ideal.main_arg11)
          ∧ r.2.mem ((c.tc : Thread Cert.Reference31Ideal.nD Cert.Reference31Ideal.τ).loc Cert.Reference31Ideal.main_arg12) = m' ((c.tc : Thread Cert.Reference31Ideal.nD Cert.Reference31Ideal.τ).loc Cert.Reference31Ideal.main_arg12)
          ∧ r.2.mem ((c.tc : Thread Cert.Reference31Ideal.nD Cert.Reference31Ideal.τ).loc Cert.Reference31Ideal.main_arg13) = m' ((c.tc : Thread Cert.Reference31Ideal.nD Cert.Reference31Ideal.τ).loc Cert.Reference31Ideal.main_arg13)
          ∧ r.2.mem ((c.tc : Thread Cert.Reference31Ideal.nD Cert.Reference31Ideal.τ).loc Cert.Reference31Ideal.main_arg14) = m' ((c.tc : Thread Cert.Reference31Ideal.nD Cert.Reference31Ideal.τ).loc Cert.Reference31Ideal.main_arg14)
          ∧ r.2.mem ((c.tc : Thread Cert.Reference31Ideal.nD Cert.Reference31Ideal.τ).loc Cert.Reference31Ideal.main_arg15) = m' ((c.tc : Thread Cert.Reference31Ideal.nD Cert.Reference31Ideal.τ).loc Cert.Reference31Ideal.main_arg15)
          ∧ r.2.mem ((c.tc : Thread Cert.Reference31Ideal.nD Cert.Reference31Ideal.τ).loc Cert.Reference31Ideal.main_arg16) = m' ((c.tc : Thread Cert.Reference31Ideal.nD Cert.Reference31Ideal.τ).loc Cert.Reference31Ideal.main_arg16))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)) →
    ∃ (v0 : (c : Dev Cert.Kernel32Ideal.nD) → Buf (Elt Ideal) ((c.tc : Thread Cert.Kernel32Ideal.nD Cert.Kernel32Ideal.τ).loc Cert.Kernel32Ideal.main_v1)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v1) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v0) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)) →
    ∃ (v0 : (c : Dev Cert.Kernel33Ideal.nD) → Buf (Elt Ideal) ((c.tc : Thread Cert.Kernel33Ideal.nD Cert.Kernel33Ideal.τ).loc Cert.Kernel33Ideal.main_v6)) (v1 : (c : Dev Cert.Kernel33Ideal.nD) → Buf (Elt Ideal) ((c.tc : Thread Cert.Kernel33Ideal.nD Cert.Kernel33Ideal.τ).loc Cert.Kernel33Ideal.main_v7)) (v2 : (c : Dev Cert.Kernel33Ideal.nD) → Buf (Elt Ideal) ((c.tc : Thread Cert.Kernel33Ideal.nD Cert.Kernel33Ideal.τ).loc Cert.Kernel33Ideal.main_v9)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v6) = v0 c
          ∧ r.2.mem ((c.tc : Thread Cert.Kernel33Ideal.nD Cert.Kernel33Ideal.τ).loc Cert.Kernel33Ideal.main_v7) = v1 c
          ∧ r.2.mem ((c.tc : Thread Cert.Kernel33Ideal.nD Cert.Kernel33Ideal.τ).loc Cert.Kernel33Ideal.main_v9) = v2 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v0) = v0 c
          ∧ r.2.mem ((c.tc : Thread Cert.Reference33Ideal.nD Cert.Reference33Ideal.τ).loc Cert.Reference33Ideal.main_v1) = v1 c
          ∧ r.2.mem ((c.tc : Thread Cert.Reference33Ideal.nD Cert.Reference33Ideal.τ).loc Cert.Reference33Ideal.main_v2) = v2 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)) →
    ∃ (v0 : (c : Dev Cert.Kernel34Ideal.nD) → Buf (Elt Ideal) ((c.tc : Thread Cert.Kernel34Ideal.nD Cert.Kernel34Ideal.τ).loc Cert.Kernel34Ideal.main_v6)) (v1 : (c : Dev Cert.Kernel34Ideal.nD) → Buf (Elt Ideal) ((c.tc : Thread Cert.Kernel34Ideal.nD Cert.Kernel34Ideal.τ).loc Cert.Kernel34Ideal.main_v8)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v6) = v0 c
          ∧ r.2.mem ((c.tc : Thread Cert.Kernel34Ideal.nD Cert.Kernel34Ideal.τ).loc Cert.Kernel34Ideal.main_v8) = v1 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v0) = v0 c
          ∧ r.2.mem ((c.tc : Thread Cert.Reference34Ideal.nD Cert.Reference34Ideal.τ).loc Cert.Reference34Ideal.main_v1) = v1 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
-- ==== Kernel.lean ====
abbrev S4096x2560 : Shape := ⟨2, ![4096, 2560]⟩
abbrev S64 : Shape := ⟨1, ![64]⟩
abbrev S32 : Shape := ⟨1, ![32]⟩
abbrev S4096x2048 : Shape := ⟨2, ![4096, 2048]⟩
abbrev S_ : Shape := ⟨0, ![]⟩
abbrev S1x64 : Shape := ⟨2, ![1, 64]⟩
abbrev S4096x256 : Shape := ⟨2, ![4096, 256]⟩
abbrev S32x128 : Shape := ⟨2, ![32, 128]⟩
abbrev S128x2048 : Shape := ⟨2, ![128, 2048]⟩
abbrev S128x256 : Shape := ⟨2, ![128, 256]⟩
abbrev S256x256 : Shape := ⟨2, ![256, 256]⟩
abbrev S1024x256 : Shape := ⟨2, ![1024, 256]⟩
abbrev S256x64 : Shape := ⟨2, ![256, 64]⟩
abbrev S256 : Shape := ⟨1, ![256]⟩
abbrev S256x1 : Shape := ⟨2, ![256, 1]⟩
abbrev S128x512 : Shape := ⟨2, ![128, 512]⟩
abbrev S128x64 : Shape := ⟨2, ![128, 64]⟩
abbrev S1024x64 : Shape := ⟨2, ![1024, 64]⟩
abbrev S1024 : Shape := ⟨1, ![1024]⟩
abbrev S1024x1 : Shape := ⟨2, ![1024, 1]⟩
abbrev S1 : Shape := ⟨1, ![1]⟩
abbrev S128x1 : Shape := ⟨2, ![128, 1]⟩
abbrev S1x128 : Shape := ⟨2, ![1, 128]⟩
abbrev S1x128x1 : Shape := ⟨3, ![1, 128, 1]⟩
abbrev S1x1x1 : Shape := ⟨3, ![1, 1, 1]⟩

abbrev nBuf : Space → Nat
  | .hbm => 29
  | .vmem => 27
  | .smem => 2
  | _ => 0

abbrev bufTy : (tb : Table) → Fin (tcTables nBuf tb) → BufTy
  | .hbm, ⟨0, _⟩ => ⟨S4096x2560, .f32⟩
  | .hbm, ⟨1, _⟩ => ⟨S64, .f32⟩
  | .hbm, ⟨2, _⟩ => ⟨S64, .f32⟩
  | .hbm, ⟨3, _⟩ => ⟨S32, .f32⟩
  | .hbm, ⟨4, _⟩ => ⟨S4096x2048, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S1x64, .f32⟩
  | .hbm, ⟨20, _⟩ => ⟨S1x64, .f32⟩
  | .hbm, ⟨21, _⟩ => ⟨S4096x2048, .bf16⟩
  | .hbm, ⟨22, _⟩ => ⟨S4096x256, .bf16⟩
  | .hbm, ⟨23, _⟩ => ⟨S4096x256, .bf16⟩
  | .hbm, ⟨24, _⟩ => ⟨S4096x256, .bf16⟩
  | .hbm, ⟨25, _⟩ => ⟨S4096x256, .bf16⟩
  | .hbm, ⟨26, _⟩ => ⟨S32x128, .f32⟩
  | .hbm, ⟨27, _⟩ => ⟨S1x64, .f32⟩
  | .hbm, ⟨28, _⟩ => ⟨S1x64, .f32⟩
  | .local _ .vmem, ⟨0, _⟩ => ⟨S128x2048, .f32⟩
  | .local _ .vmem, ⟨1, _⟩ => ⟨S128x2048, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S1x64, .f32⟩
  | .local _ .vmem, ⟨11, _⟩ => ⟨S1x64, .f32⟩
  | .local _ .vmem, ⟨12, _⟩ => ⟨S128x2048, .f32⟩
  | .local _ .vmem, ⟨13, _⟩ => ⟨S128x2048, .f32⟩
  | .local _ .vmem, ⟨14, _⟩ => ⟨S128x2048, .bf16⟩
  | .local _ .vmem, ⟨15, _⟩ => ⟨S128x2048, .bf16⟩
  | .local _ .vmem, ⟨16, _⟩ => ⟨S128x256, .bf16⟩
  | .local _ .vmem, ⟨17, _⟩ => ⟨S128x256, .bf16⟩
  | .local _ .vmem, ⟨18, _⟩ => ⟨S128x256, .bf16⟩
  | .local _ .vmem, ⟨19, _⟩ => ⟨S128x256, .bf16⟩
  | .local _ .vmem, ⟨20, _⟩ => ⟨S128x256, .bf16⟩
  | .local _ .vmem, ⟨21, _⟩ => ⟨S128x256, .bf16⟩
  | .local _ .vmem, ⟨22, _⟩ => ⟨S128x256, .bf16⟩
  | .local _ .vmem, ⟨23, _⟩ => ⟨S128x256, .bf16⟩
  | .local _ .vmem, ⟨24, _⟩ => ⟨S32x128, .f32⟩
  | .local _ .vmem, ⟨25, _⟩ => ⟨S1x64, .f32⟩
  | .local _ .vmem, ⟨26, _⟩ => ⟨S1x64, .f32⟩
  | .local _ .smem, ⟨0, _⟩ => ⟨S32, .f32⟩
  | .local _ .smem, ⟨1, _⟩ => ⟨S32, .f32⟩
  | _, _ => ⟨S4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v12_3 : Ref sig .tc := ⟨.hbm, 24, rfl⟩
abbrev main_v12_4 : Ref sig .tc := ⟨.hbm, 25, rfl⟩
abbrev main_v12_5 : Ref sig .tc := ⟨.hbm, 26, rfl⟩
abbrev main_v12_6 : Ref sig .tc := ⟨.hbm, 27, rfl⟩
abbrev main_v12_7 : Ref sig .tc := ⟨.hbm, 28, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem16_0 : DmaSem sig := 27
abbrev cc0_sem17_0 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  ![v1.toNat, c8_i32.toNat]

def cc0_transform_5 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c9_i32 : BitVec 32 := 9#32
  let c0_i32_0 : BitVec 32 := 0#32
  ![v1.toNat, c9_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S32x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S4096x2560 : Shape := ⟨2, ![4096, 2560]⟩
abbrev S64 : Shape := ⟨1, ![64]⟩
abbrev S32 : Shape := ⟨1, ![32]⟩
abbrev S4096x2048 : Shape := ⟨2, ![4096, 2048]⟩
abbrev S4096x256 : Shape := ⟨2, ![4096, 256]⟩
abbrev S_ : Shape := ⟨0, ![]⟩
abbrev S4224x256 : Shape := ⟨2, ![4224, 256]⟩
abbrev S1x4096x32x64 : Shape := ⟨4, ![1, 4096, 32, 64]⟩
abbrev S1x4096x32 : Shape := ⟨3, ![1, 4096, 32]⟩
abbrev S1x4096x32x1 : Shape := ⟨4, ![1, 4096, 32, 1]⟩
abbrev S1x1x1x64 : Shape := ⟨4, ![1, 1, 1, 64]⟩
abbrev S1x32x128x4x8x64 : Shape := ⟨6, ![1, 32, 128, 4, 8, 64]⟩
abbrev S1x32x128x4x64 : Shape := ⟨5, ![1, 32, 128, 4, 64]⟩
abbrev S1x32x256x4x64 : Shape := ⟨5, ![1, 32, 256, 4, 64]⟩
abbrev S1x32x256x4 : Shape := ⟨4, ![1, 32, 256, 4]⟩
abbrev S1x32x256x4x1 : Shape := ⟨5, ![1, 32, 256, 4, 1]⟩
abbrev S1x1x1x1x64 : Shape := ⟨5, ![1, 1, 1, 1, 64]⟩
abbrev S1x32x4x256x128x8 : Shape := ⟨6, ![1, 32, 4, 256, 128, 8]⟩
abbrev S1x32x4x8x128x256 : Shape := ⟨6, ![1, 32, 4, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S4x8 : Shape := ⟨2, ![4, 8]⟩
abbrev S4x8x1x1 : Shape := ⟨4, ![4, 8, 1, 1]⟩
abbrev S1x1x128x256 : Shape := ⟨4, ![1, 1, 128, 256]⟩
abbrev S4x8x128x256 : Shape := ⟨4, ![4, 8, 128, 256]⟩
abbrev S1x32x1x1x128x256 : Shape := ⟨6, ![1, 32, 1, 1, 128, 256]⟩
abbrev S1x1x4x8x128x256 : Shape := ⟨6, ![1, 1, 4, 8, 128, 256]⟩
abbrev S1x1x4x8x1x1 : Shape := ⟨6, ![1, 1, 4, 8, 1, 1]⟩
abbrev S1x32x4x8x128x1 : Shape := ⟨6, ![1, 32, 4, 8, 128, 1]⟩
abbrev S1x32x4x8x128x257 : Shape := ⟨6, ![1, 32, 4, 8, 128, 257]⟩
abbrev S1x32x4x8x128 : Shape := ⟨5, ![1, 32, 4, 8, 128]⟩
abbrev S1x32x4x64x8x128 : Shape := ⟨6, ![1, 32, 4, 64, 8, 128]⟩
abbrev S1x32x4x64x256 : Shape := ⟨5, ![1, 32, 4, 64, 256]⟩
abbrev S32x4x8x128 : Shape := ⟨4, ![32, 4, 8, 128]⟩
abbrev S1x32x4x128x8x64 : Shape := ⟨6, ![1, 32, 4, 128, 8, 64]⟩
abbrev S1x32x4x256x64 : Shape := ⟨5, ![1, 32, 4, 256, 64]⟩
abbrev S1x64 : Shape := ⟨2, ![1, 64]⟩
abbrev S32x256x4 : Shape := ⟨3, ![32, 256, 4]⟩
abbrev S4096x32 : Shape := ⟨2, ![4096, 32]⟩
abbrev S32x128 : Shape := ⟨2, ![32, 128]⟩

abbrev nBuf : Space → Nat
  | .hbm => 298
  | .vmem => 0
  | .smem => 0
  | _ => 0

abbrev hbmTy0_0 (i : Nat) : BufTy := match i % 128 with
  | 0 => ⟨S4096x2560, .f32⟩
  | 1 => ⟨S64, .f32⟩
  | 2 => ⟨S64, .f32⟩
  | 3 => ⟨S32, .f32⟩
  | 4 => ⟨S4096x2048, .f32⟩
  | 5 => ⟨S4096x2048, .f32⟩
  | 6 => ⟨S4096x256, .f32⟩
  | 7 => ⟨S4096x256, .f32⟩
  | 8 => ⟨S_, .i32⟩
  | 9 => ⟨S_, .f32⟩
  | 10 => ⟨S4224x256, .f32⟩
  | 11 => ⟨S4096x256, .f32⟩
  | 12 => ⟨S_, .i32⟩
  | 13 => ⟨S_, .f32⟩
  | 14 => ⟨S4224x256, .f32⟩
  | 15 => ⟨S4096x256, .f32⟩
  | 16 => ⟨S1x4096x32x64, .f32⟩
  | 17 => ⟨S1x4096x32x64, .f32⟩
  | 18 => ⟨S_, .f32⟩
  | 19 => ⟨S1x4096x32, .f32⟩
  | 20 => ⟨S1x4096x32x1, .f32⟩
  | 21 => ⟨S_, .f32⟩
  | 22 => ⟨S1x4096x32x1, .f32⟩
  | 23 => ⟨S1x4096x32x1, .f32⟩
  | 24 => ⟨S_, .f32⟩
  | 25 => ⟨S1x4096x32x1, .f32⟩
  | 26 => ⟨S1x4096x32x1, .f32⟩
  | 27 => ⟨S1x4096x32x1, .f32⟩
  | 28 => ⟨S1x4096x32x1, .f32⟩
  | 29 => ⟨S_, .f32⟩
  | 30 => ⟨S1x4096x32x1, .f32⟩
  | 31 => ⟨S1x4096x32x1, .f32⟩
  | 32 => ⟨S1x4096x32x64, .f32⟩
  | 33 => ⟨S1x4096x32x64, .f32⟩
  | 34 => ⟨S1x1x1x64, .f32⟩
  | 35 => ⟨S1x4096x32x64, .f32⟩
  | 36 => ⟨S1x4096x32x64, .f32⟩
  | 37 => ⟨S1x32x128x4x8x64, .f32⟩
  | 38 => ⟨S1x32x128x4x64, .f32⟩
  | 39 => ⟨S1x32x128x4x64, .f32⟩
  | 40 => ⟨S1x32x256x4x64, .f32⟩
  | 41 => ⟨S1x32x256x4x64, .f32⟩
  | 42 => ⟨S_, .f32⟩
  | 43 => ⟨S1x32x256x4, .f32⟩
  | 44 => ⟨S1x32x256x4x1, .f32⟩
  | 45 => ⟨S_, .f32⟩
  | 46 => ⟨S1x32x256x4x1, .f32⟩
  | 47 => ⟨S1x32x256x4x1, .f32⟩
  | 48 => ⟨S_, .f32⟩
  | 49 => ⟨S1x32x256x4x1, .f32⟩
  | 50 => ⟨S1x32x256x4x1, .f32⟩
  | 51 => ⟨S1x32x256x4x1, .f32⟩
  | 52 => ⟨S1x32x256x4x1, .f32⟩
  | 53 => ⟨S_, .f32⟩
  | 54 => ⟨S1x32x256x4x1, .f32⟩
  | 55 => ⟨S1x32x256x4x1, .f32⟩
  | 56 => ⟨S1x32x256x4x64, .f32⟩
  | 57 => ⟨S1x32x256x4x64, .f32⟩
  | 58 => ⟨S1x1x1x1x64, .f32⟩
  | 59 => ⟨S1x32x256x4x64, .f32⟩
  | 60 => ⟨S1x32x256x4x64, .f32⟩
  | 61 => ⟨S1x32x128x4x64, .f32⟩
  | 62 => ⟨S1x32x128x4x64, .f32⟩
  | 63 => ⟨S1x32x256x4x64, .f32⟩
  | 64 => ⟨S1x32x4x256x128x8, .f32⟩
  | 65 => ⟨S1x32x4x8x128x256, .f32⟩
  | 66 => ⟨S_, .f32⟩
  | 67 => ⟨S1x32x4x8x128x256, .f32⟩
  | 68 => ⟨S1x32x4x8x128x256, .f32⟩
  | 69 => ⟨S128, .i32⟩
  | 70 => ⟨S128x1, .i32⟩
  | 71 => ⟨S_, .i32⟩
  | 72 => ⟨S128x1, .i32⟩
  | 73 => ⟨S128x1, .i32⟩
  | 74 => ⟨S256, .i32⟩
  | 75 => ⟨S1x256, .i32⟩
  | 76 => ⟨S128x256, .i32⟩
  | 77 => ⟨S128x256, .i32⟩
  | 78 => ⟨S128x256, .i32⟩
  | 79 => ⟨S_, .i32⟩
  | 80 => ⟨S128x256, .i32⟩
  | 81 => ⟨S128x256, .i1⟩
  | 82 => ⟨S_, .i32⟩
  | 83 => ⟨S128x256, .i32⟩
  | 84 => ⟨S128x256, .i1⟩
  | 85 => ⟨S128x256, .i1⟩
  | 86 => ⟨S32, .i32⟩
  | 87 => ⟨S32x1, .i32⟩
  | 88 => ⟨S_, .i32⟩
  | 89 => ⟨S32x1, .i32⟩
  | 90 => ⟨S32x1, .i32⟩
  | 91 => ⟨S_, .i32⟩
  | 92 => ⟨S32x1, .i32⟩
  | 93 => ⟨S32x1, .i32⟩
  | 94 => ⟨S256, .i32⟩
  | 95 => ⟨S1x256, .i32⟩
  | 96 => ⟨S32x256, .i32⟩
  | 97 => ⟨S32x256, .i32⟩
  | 98 => ⟨S32x256, .i32⟩
  | 99 => ⟨S1x128x256, .i1⟩
  | 100 => ⟨S_, .i32⟩
  | 101 => ⟨S32x256, .i32⟩
  | 102 => ⟨S32x256, .i1⟩
  | 103 => ⟨S32x1x256, .i1⟩
  | 104 => ⟨S32x128x256, .i1⟩
  | 105 => ⟨S32x128x256, .i1⟩
  | 106 => ⟨S32x128x256, .i1⟩
  | 107 => ⟨S32, .f32⟩
  | 108 => ⟨S_, .f32⟩
  | 109 => ⟨S32, .f32⟩
  | 110 => ⟨S32, .f32⟩
  | 111 => ⟨S_, .f32⟩
  | 112 => ⟨S32, .f32⟩
  | 113 => ⟨S32, .f32⟩
  | 114 => ⟨S_, .f32⟩
  | 115 => ⟨S32, .f32⟩
  | 116 => ⟨S32, .f32⟩
  | 117 => ⟨S_, .f32⟩
  | 118 => ⟨S32, .f32⟩
  | 119 => ⟨S32, .f32⟩
  | 120 => ⟨S32, .f32⟩
  | 121 => ⟨S4x8, .f32⟩
  | 122 => ⟨S4x8x1x1, .f32⟩
  | 123 => ⟨S4x8x1x1, .f32⟩
  | 124 => ⟨S128x256, .f32⟩
  | 125 => ⟨S1x1x128x256, .f32⟩
  | 126 => ⟨S4x8x128x256, .f32⟩
  | 127 => ⟨S4x8x128x256, .f32⟩
  | _ => ⟨S4096x2560, .f32⟩

abbrev hbmTy0_1 (i : Nat) : BufTy := match i % 128 with
  | 0 => ⟨S4x8x128x256, .f32⟩
  | 1 => ⟨S1x32x1x1x128x256, .i1⟩
  | 2 => ⟨S1x1x4x8x128x256, .f32⟩
  | 3 => ⟨S1x32x4x8x128x256, .f32⟩
  | 4 => ⟨S1x32x4x8x128x256, .f32⟩
  | 5 => ⟨S_, .f32⟩
  | 6 => ⟨S_, .f32⟩
  | 7 => ⟨S1x32x4x8x128x256, .i1⟩
  | 8 => ⟨S1x32x4x8x128x256, .f32⟩
  | 9 => ⟨S1x32x4x8x128x256, .f32⟩
  | 10 => ⟨S_, .f32⟩
  | 11 => ⟨S1x32x4x8x128x256, .f32⟩
  | 12 => ⟨S4x8, .f32⟩
  | 13 => ⟨S1x1x4x8x1x1, .f32⟩
  | 14 => ⟨S1x32x4x8x128x1, .f32⟩
  | 15 => ⟨S1x32x4x8x128x257, .f32⟩
  | 16 => ⟨S_, .f32⟩
  | 17 => ⟨S1x32x4x8x128, .f32⟩
  | 18 => ⟨S1x32x4x8x128x1, .f32⟩
  | 19 => ⟨S1x32x4x8x128x257, .f32⟩
  | 20 => ⟨S1x32x4x8x128x257, .i1⟩
  | 21 => ⟨S1x32x4x8x128x257, .f32⟩
  | 22 => ⟨S_, .f32⟩
  | 23 => ⟨S1x32x4x8x128, .f32⟩
  | 24 => ⟨S_, .f32⟩
  | 25 => ⟨S1x32x4x8x128, .f32⟩
  | 26 => ⟨S1x32x4x8x128, .f32⟩
  | 27 => ⟨S_, .f32⟩
  | 28 => ⟨S1x32x4x8x128, .f32⟩
  | 29 => ⟨S1x32x4x8x128, .i1⟩
  | 30 => ⟨S_, .f32⟩
  | 31 => ⟨S1x32x4x8x128, .f32⟩
  | 32 => ⟨S1x32x4x8x128, .i1⟩
  | 33 => ⟨S_, .f32⟩
  | 34 => ⟨S1x32x4x8x128, .f32⟩
  | 35 => ⟨S_, .f32⟩
  | 36 => ⟨S1x32x4x8x128, .f32⟩
  | 37 => ⟨S_, .f32⟩
  | 38 => ⟨S1x32x4x8x128, .f32⟩
  | 39 => ⟨S1x32x4x8x128, .f32⟩
  | 40 => ⟨S1x32x4x8x128, .f32⟩
  | 41 => ⟨S1x32x4x8x128x1, .f32⟩
  | 42 => ⟨S1x32x4x8x128x257, .f32⟩
  | 43 => ⟨S1x32x4x8x128x257, .f32⟩
  | 44 => ⟨S1x32x4x8x128x257, .f32⟩
  | 45 => ⟨S_, .f32⟩
  | 46 => ⟨S1x32x4x8x128, .f32⟩
  | 47 => ⟨S1x32x4x8x128x1, .f32⟩
  | 48 => ⟨S1x32x4x8x128x257, .f32⟩
  | 49 => ⟨S1x32x4x8x128x257, .f32⟩
  | 50 => ⟨S1x32x4x8x128x1, .f32⟩
  | 51 => ⟨S_, .f32⟩
  | 52 => ⟨S1x32x4x8x128x1, .f32⟩
  | 53 => ⟨S1x32x4x8x128x1, .f32⟩
  | 54 => ⟨S1x32x4x8x128x256, .f32⟩
  | 55 => ⟨S1x32x4x64x8x128, .f32⟩
  | 56 => ⟨S1x32x128x4x8x64, .f32⟩
  | 57 => ⟨S4096x2048, .f32⟩
  | 58 => ⟨S1x32x128x4x8x64, .f32⟩
  | 59 => ⟨S1x32x4x64x8x128, .f32⟩
  | 60 => ⟨S1x32x4x8x128x256, .f32⟩
  | 61 => ⟨S1x32x4x64x256, .f32⟩
  | 62 => ⟨S1x32x256x4x64, .f32⟩
  | 63 => ⟨S_, .f32⟩
  | 64 => ⟨S1x32x4x8x128x257, .f32⟩
  | 65 => ⟨S1x32x4x8x128x257, .f32⟩
  | 66 => ⟨S1x32x4x8x128x257, .f32⟩
  | 67 => ⟨S1x32x4x8x128x257, .f32⟩
  | 68 => ⟨S_, .f32⟩
  | 69 => ⟨S1x32x4x8x128, .f32⟩
  | 70 => ⟨S1x32x4x8x128x1, .f32⟩
  | 71 => ⟨S1x32x4x8x128x1, .f32⟩
  | 72 => ⟨S1x32x4x8x128x257, .f32⟩
  | 73 => ⟨S1x32x4x8x128x257, .f32⟩
  | 74 => ⟨S_, .f32⟩
  | 75 => ⟨S32x4x8x128, .f32⟩
  | 76 => ⟨S1x32x4x8x128, .f32⟩
  | 77 => ⟨S1x32x4x8x128x257, .f32⟩
  | 78 => ⟨S1x32x4x8x128x257, .f32⟩
  | 79 => ⟨S1x32x4x8x128x257, .f32⟩
  | 80 => ⟨S1x32x4x8x128x256, .f32⟩
  | 81 => ⟨S1x32x4x8x128x1, .f32⟩
  | 82 => ⟨S_, .f32⟩
  | 83 => ⟨S4x8, .f32⟩
  | 84 => ⟨S1x1x4x8x1x1, .f32⟩
  | 85 => ⟨S_, .f32⟩
  | 86 => ⟨S4x8, .f32⟩
  | 87 => ⟨S32, .f32⟩
  | 88 => ⟨S_, .f32⟩
  | 89 => ⟨S1x32x4x8x128x256, .f32⟩
  | 90 => ⟨S1x32x4x8x128x256, .f32⟩
  | 91 => ⟨S_, .f32⟩
  | 92 => ⟨S1x32x4x8x128x256, .f32⟩
  | 93 => ⟨S1x32x4x8x128x256, .f32⟩
  | 94 => ⟨S1x32x4x256x128x8, .f32⟩
  | 95 => ⟨S1x32x4x128x8x64, .f32⟩
  | 96 => ⟨S1x32x128x4x8x64, .f32⟩
  | 97 => ⟨S1x32x4x256x64, .f32⟩
  | 98 => ⟨S1x32x256x4x64, .f32⟩
  | 99 => ⟨S1x32x128x4x64, .f32⟩
  | 100 => ⟨S1x32x128x4x64, .f32⟩
  | 101 => ⟨S4096x256, .f32⟩
  | 102 => ⟨S4096x256, .f32⟩
  | 103 => ⟨S1x32x256x4x64, .f32⟩
  | 104 => ⟨S_, .f32⟩
  | 105 => ⟨S1x64, .f32⟩
  | 106 => ⟨S1x1x1x1x64, .f32⟩
  | 107 => ⟨S1x32x256x4x64, .f32⟩
  | 108 => ⟨S1x32x256x4x64, .f32⟩
  | 109 => ⟨S_, .f32⟩
  | 110 => ⟨S64, .f32⟩
  | 111 => ⟨S1x32x256x4x64, .f32⟩
  | 112 => ⟨S_, .f32⟩
  | 113 => ⟨S1x32x256x4, .f32⟩
  | 114 => ⟨S1x32x256x4x1, .f32⟩
  | 115 => ⟨S1x32x256x4x64, .f32⟩
  | 116 => ⟨S1x32x256x4x64, .f32⟩
  | 117 => ⟨S1x32x256x4x1, .f32⟩
  | 118 => ⟨S_, .f32⟩
  | 119 => ⟨S1x32x256x4x1, .f32⟩
  | 120 => ⟨S1x32x256x4x1, .f32⟩
  | 121 => ⟨S_, .f32⟩
  | 122 => ⟨S32x256x4, .f32⟩
  | 123 => ⟨S1x32x256x4, .f32⟩
  | 124 => ⟨S1x32x256x4x64, .f32⟩
  | 125 => ⟨S1x32x256x4x64, .f32⟩
  | 126 => ⟨S1x32x256x4x64, .f32⟩
  | 127 => ⟨S1x32x256x4x64, .f32⟩
  | _ => ⟨S4096x2560, .f32⟩

abbrev hbmTy0_2 (i : Nat) : BufTy := match i % 128 with
  | 0 => ⟨S1x32x256x4x64, .f32⟩
  | 1 => ⟨S1x32x128x4x64, .f32⟩
  | 2 => ⟨S1x32x128x4x64, .f32⟩
  | 3 => ⟨S4096x256, .f32⟩
  | 4 => ⟨S4096x256, .f32⟩
  | 5 => ⟨S1x4096x32x64, .f32⟩
  | 6 => ⟨S1x4096x32x64, .f32⟩
  | 7 => ⟨S_, .f32⟩
  | 8 => ⟨S1x64, .f32⟩
  | 9 => ⟨S1x1x1x64, .f32⟩
  | 10 => ⟨S1x4096x32x64, .f32⟩
  | 11 => ⟨S1x4096x32x64, .f32⟩
  | 12 => ⟨S_, .f32⟩
  | 13 => ⟨S64, .f32⟩
  | 14 => ⟨S1x4096x32x64, .f32⟩
  | 15 => ⟨S_, .f32⟩
  | 16 => ⟨S1x4096x32, .f32⟩
  | 17 => ⟨S1x4096x32x1, .f32⟩
  | 18 => ⟨S1x4096x32x64, .f32⟩
  | 19 => ⟨S1x4096x32x64, .f32⟩
  | 20 => ⟨S1x4096x32x1, .f32⟩
  | 21 => ⟨S_, .f32⟩
  | 22 => ⟨S1x4096x32x1, .f32⟩
  | 23 => ⟨S1x4096x32x1, .f32⟩
  | 24 => ⟨S_, .f32⟩
  | 25 => ⟨S4096x32, .f32⟩
  | 26 => ⟨S1x4096x32, .f32⟩
  | 27 => ⟨S1x4096x32x64, .f32⟩
  | 28 => ⟨S1x4096x32x64, .f32⟩
  | 29 => ⟨S1x4096x32x64, .f32⟩
  | 30 => ⟨S1x4096x32x64, .f32⟩
  | 31 => ⟨S1x4096x32x64, .f32⟩
  | 32 => ⟨S4096x2048, .f32⟩
  | 33 => ⟨S4096x2048, .bf16⟩
  | 34 => ⟨S4096x256, .bf16⟩
  | 35 => ⟨S4096x256, .bf16⟩
  | 36 => ⟨S4096x256, .bf16⟩
  | 37 => ⟨S4096x256, .bf16⟩
  | 38 => ⟨S32x1, .f32⟩
  | 39 => ⟨S32x128, .f32⟩
  | 40 => ⟨S1x64, .f32⟩
  | 41 => ⟨S1x64, .f32⟩
  | _ => ⟨S4096x2560, .f32⟩

abbrev hbmTy (i : Nat) : BufTy := match i / 128 with
  | 0 => hbmTy0_0 i
  | 1 => hbmTy0_1 i
  | 2 => hbmTy0_2 i
  | _ => ⟨S4096x2560, .f32⟩

abbrev bufTy : (tb : Table) → Fin (tcTables nBuf tb) → BufTy
  | .hbm, ⟨i, _⟩ => hbmTy i
  | _, _ => ⟨S4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_8 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c_9 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_c_10 : Ref sig .tc := ⟨.hbm, 79, rfl⟩
abbrev main_v60 : Ref sig .tc := ⟨.hbm, 80, rfl⟩
abbrev main_v61 : Ref sig .tc := ⟨.hbm, 81, rfl⟩
abbrev main_c_11 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_c_12 : Ref sig .tc := ⟨.hbm, 88, rfl⟩
abbrev main_v67 : Ref sig .tc := ⟨.hbm, 89, rfl⟩
abbrev main_v68 : Ref sig .tc := ⟨.hbm, 90, rfl⟩
abbrev main_c_13 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_c_14 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_15 : Ref sig .tc := ⟨.hbm, 108, rfl⟩
abbrev main_v84 : Ref sig .tc := ⟨.hbm, 109, rfl⟩
abbrev main_v85 : Ref sig .tc := ⟨.hbm, 110, rfl⟩
abbrev main_cst_16 : Ref sig .tc := ⟨.hbm, 111, rfl⟩
abbrev main_v86 : Ref sig .tc := ⟨.hbm, 112, rfl⟩
abbrev main_v87 : Ref sig .tc := ⟨.hbm, 113, rfl⟩
abbrev main_cst_17 : Ref sig .tc := ⟨.hbm, 114, rfl⟩
abbrev main_v88 : Ref sig .tc := ⟨.hbm, 115, rfl⟩
abbrev main_v89 : Ref sig .tc := ⟨.hbm, 116, rfl⟩
abbrev main_cst_18 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_cst_19 : Ref sig .tc := ⟨.hbm, 133, rfl⟩
abbrev main_call2_v0 : Ref sig .tc := ⟨.hbm, 134, rfl⟩
abbrev main_v105_1 : Ref sig .tc := ⟨.hbm, 135, rfl⟩
abbrev main_call2_v2 : Ref sig .tc := ⟨.hbm, 136, rfl⟩
abbrev main_v105_0 : Ref sig .tc := ⟨.hbm, 137, rfl⟩
abbrev main_call2_cst : Ref sig .tc := ⟨.hbm, 138, rfl⟩
abbrev main_v105_2 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_cst_20 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_cst_21 : Ref sig .tc := ⟨.hbm, 150, rfl⟩
abbrev main_v115 : Ref sig .tc := ⟨.hbm, 151, rfl⟩
abbrev main_cst_22 : Ref sig .tc := ⟨.hbm, 152, rfl⟩
abbrev main_v116 : Ref sig .tc := ⟨.hbm, 153, rfl⟩
abbrev main_v117 : Ref sig .tc := ⟨.hbm, 154, rfl⟩
abbrev main_cst_23 : Ref sig .tc := ⟨.hbm, 155, rfl⟩
abbrev main_v118 : Ref sig .tc := ⟨.hbm, 156, rfl⟩
abbrev main_v119 : Ref sig .tc := ⟨.hbm, 157, rfl⟩
abbrev main_cst_24 : Ref sig .tc := ⟨.hbm, 158, rfl⟩
abbrev main_v120 : Ref sig .tc := ⟨.hbm, 159, rfl⟩
abbrev main_v121 : Ref sig .tc := ⟨.hbm, 160, rfl⟩
abbrev main_cst_25 : Ref sig .tc := ⟨.hbm, 161, rfl⟩
abbrev main_v122 : Ref sig .tc := ⟨.hbm, 162, rfl⟩
abbrev main_cst_26 : Ref sig .tc := ⟨.hbm, 163, rfl⟩
abbrev main_v123 : Ref sig .tc := ⟨.hbm, 164, rfl⟩
abbrev main_cst_27 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_cst_28 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_cst_29 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_cst_30 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_cst_31 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_cst_32 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_cst_33 : Ref sig .tc := ⟨.hbm, 210, rfl⟩
abbrev main_v163 : Ref sig .tc := ⟨.hbm, 211, rfl⟩
abbrev main_v164 : Ref sig .tc := ⟨.hbm, 212, rfl⟩
abbrev main_cst_34 : Ref sig .tc := ⟨.hbm, 213, rfl⟩
abbrev main_v165 : Ref sig .tc := ⟨.hbm, 214, rfl⟩
abbrev main_v166 : Ref sig .tc := ⟨.hbm, 215, rfl⟩
abbrev main_call3_cst : Ref sig .tc := ⟨.hbm, 216, rfl⟩
abbrev main_call3_v0 : Ref sig .tc := ⟨.hbm, 217, rfl⟩
abbrev main_v167 : Ref sig .tc := ⟨.hbm, 218, rfl⟩
abbrev main_cst_35 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_cst_36 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_cst_37 : Ref sig .tc := ⟨.hbm, 237, rfl⟩
abbrev main_v184 : Ref sig .tc := ⟨.hbm, 238, rfl⟩
abbrev main_v185 : Ref sig .tc := ⟨.hbm, 239, rfl⟩
abbrev main_cst_38 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_cst_39 : Ref sig .tc := ⟨.hbm, 246, rfl⟩
abbrev main_v191 : Ref sig .tc := ⟨.hbm, 247, rfl⟩
abbrev main_v192 : Ref sig .tc := ⟨.hbm, 248, rfl⟩
abbrev main_cst_40 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_v200 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_cst_41 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_cst_42 : Ref sig .tc := ⟨.hbm, 268, rfl⟩
abbrev main_v210 : Ref sig .tc := ⟨.hbm, 269, rfl⟩
abbrev main_v211 : Ref sig .tc := ⟨.hbm, 270, rfl⟩
abbrev main_cst_43 : Ref sig .tc := ⟨.hbm, 271, rfl⟩
abbrev main_v212 : Ref sig .tc := ⟨.hbm, 272, rfl⟩
abbrev main_v213 : Ref sig .tc := ⟨.hbm, 273, rfl⟩
abbrev main_v214 : Ref sig .tc := ⟨.hbm, 274, rfl⟩
abbrev main_v215 : Ref sig .tc := ⟨.hbm, 275, rfl⟩
abbrev main_v216 : Ref sig .tc := ⟨.hbm, 276, rfl⟩
abbrev main_cst_44 : Ref sig .tc := ⟨.hbm, 277, rfl⟩
abbrev main_v217 : Ref sig .tc := ⟨.hbm, 278, rfl⟩
abbrev main_v218 : Ref sig .tc := ⟨.hbm, 279, rfl⟩
abbrev main_cst_45 : Ref sig .tc := ⟨.hbm, 280, rfl⟩
abbrev main_v219 : Ref sig .tc := ⟨.hbm, 281, rfl⟩
abbrev main_v220 : Ref sig .tc := ⟨.hbm, 282, rfl⟩
abbrev main_v221 : Ref sig .tc := ⟨.hbm, 283, rfl⟩
abbrev main_v222 : Ref sig .tc := ⟨.hbm, 284, rfl⟩
abbrev main_v223 : Ref sig .tc := ⟨.hbm, 285, rfl⟩
abbrev main_v224 : Ref sig .tc := ⟨.hbm, 286, rfl⟩
abbrev main_v225 : Ref sig .tc := ⟨.hbm, 287, rfl⟩
abbrev main_v226 : Ref sig .tc := ⟨.hbm, 288, rfl⟩
abbrev main_v227 : Ref sig .tc := ⟨.hbm, 289, rfl⟩
abbrev main_v228 : Ref sig .tc := ⟨.hbm, 290, rfl⟩
abbrev main_v229 : Ref sig .tc := ⟨.hbm, 291, rfl⟩
abbrev main_v230 : Ref sig .tc := ⟨.hbm, 292, rfl⟩
abbrev main_v231 : Ref sig .tc := ⟨.hbm, 293, rfl⟩
abbrev main_v232 : Ref sig .tc := ⟨.hbm, 294, rfl⟩
abbrev main_v233 : Ref sig .tc := ⟨.hbm, 295, rfl⟩
abbrev main_v234 : Ref sig .tc := ⟨.hbm, 296, rfl⟩
abbrev main_v235 : Ref sig .tc := ⟨.hbm, 297, rfl⟩

abbrev nD : Nat := 1
abbrev τ : Topo := Topo.v7x

variable {F : FTy → Type} [FloatOps F]
-- ==== Kernel2.lean ====
abbrev S4096x2048 : Shape := ⟨2, ![4096, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x2048, .bf16⟩
  | .hbm, ⟨3, _⟩ => ⟨S2048x8192, .bf16⟩
  | .hbm, ⟨4, _⟩ => ⟨S2048x8x1024, .bf16⟩
  | .hbm, ⟨5, _⟩ => ⟨S8x2048x1024, .bf16⟩
  | .hbm, ⟨6, _⟩ => ⟨S4096x8192, .bf16⟩
  | .hbm, ⟨7, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x8192, .f32⟩
  | .hbm, ⟨3, _⟩ => ⟨S4096x8192, .bf16⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S4096x8192, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel3.lean ====
abbrev S4096x2048 : Shape := ⟨2, ![4096, 2048]⟩
abbrev S8192x2048 : Shape := ⟨2, ![8192, 2048]⟩
abbrev S4096x8192 : Shape := ⟨2, ![4096, 8192]⟩
abbrev S8x1024x2048 : Shape := ⟨3, ![8, 1024, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S8192x2048, .f32⟩
  | .hbm, ⟨2, _⟩ => ⟨S4096x8192, .f32⟩
  | .hbm, ⟨3, _⟩ => ⟨S4096x2048, .bf16⟩
  | .hbm, ⟨4, _⟩ => ⟨S8192x2048, .bf16⟩
  | .hbm, ⟨5, _⟩ => ⟨S8x1024x2048, .bf16⟩
  | .hbm, ⟨6, _⟩ => ⟨S4096x8192, .bf16⟩
  | .hbm, ⟨7, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S4096x2048 : Shape := ⟨2, ![4096, 2048]⟩
abbrev S8192x2048 : Shape := ⟨2, ![8192, 2048]⟩
abbrev S4096x8192 : Shape := ⟨2, ![4096, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S8192x2048, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .i1⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x2048, .f32⟩
  | .hbm, ⟨16, _⟩ => ⟨S4096x8192, .f32⟩
  | .hbm, ⟨17, _⟩ => ⟨S4096x8192, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S4096x8192, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Kernel4.lean ====
abbrev S4096x8192 : Shape := ⟨2, ![4096, 8192]⟩
abbrev S4096x2048 : Shape := ⟨2, ![4096, 2048]⟩
abbrev S8x1024x2048 : Shape := ⟨3, ![8, 1024, 2048]⟩
abbrev S4096x512 : Shape := ⟨2, ![4096, 512]⟩
abbrev S4096x1024 : Shape := ⟨2, ![4096, 1024]⟩
abbrev S1x512x1024 : Shape := ⟨3, ![1, 512, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x8192, .f32⟩
  | .hbm, ⟨1, _⟩ => ⟨S4096x2048, .f32⟩
  | .hbm, ⟨2, _⟩ => ⟨S4096x8192, .bf16⟩
  | .hbm, ⟨3, _⟩ => ⟨S4096x2048, .bf16⟩
  | .hbm, ⟨4, _⟩ => ⟨S8x1024x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S1x512x1024, .bf16⟩
  | .local _ .vmem, ⟨5, _⟩ => ⟨S1x512x1024, .bf16⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩
abbrev S8x1024x2048 : Shape := ⟨3, ![8, 1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x2048, .f32⟩
  | .hbm, ⟨2, _⟩ => ⟨S_, .f32⟩
  | .hbm, ⟨3, _⟩ => ⟨S8192x2048, .f32⟩
  | .hbm, ⟨4, _⟩ => ⟨S4096x2048, .f32⟩
  | .hbm, ⟨5, _⟩ => ⟨S2048x8192, .f32⟩
  | .hbm, ⟨6, _⟩ => ⟨S8192x2048, .f32⟩
  | .hbm, ⟨7, _⟩ => ⟨S8x1024x2048, .f32⟩
  | .hbm, ⟨8, _⟩ => ⟨S8x1024x2048, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S4096x2048 : Shape := ⟨2, ![4096, 2048]⟩
abbrev S4096x8192 : Shape := ⟨2, ![4096, 8192]⟩
abbrev S8x2048x1024 : Shape := ⟨3, ![8, 2048, 1024]⟩
abbrev S4096x512 : Shape := ⟨2, ![4096, 512]⟩
abbrev S4096x1024 : Shape := ⟨2, ![4096, 1024]⟩
abbrev S1x512x1024 : Shape := ⟨3, ![1, 512, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x8192, .f32⟩
  | .hbm, ⟨2, _⟩ => ⟨S4096x2048, .bf16⟩
  | .hbm, ⟨3, _⟩ => ⟨S4096x8192, .bf16⟩
  | .hbm, ⟨4, _⟩ => ⟨S8x2048x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S1x512x1024, .bf16⟩
  | .local _ .vmem, ⟨5, _⟩ => ⟨S1x512x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩
abbrev S2048x8x1024 : Shape := ⟨3, ![2048, 8, 1024]⟩
abbrev S8x2048x1024 : Shape := ⟨3, ![8, 2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x8192, .f32⟩
  | .hbm, ⟨2, _⟩ => ⟨S_, .f32⟩
  | .hbm, ⟨3, _⟩ => ⟨S2048x8192, .f32⟩
  | .hbm, ⟨4, _⟩ => ⟨S4096x8192, .f32⟩
  | .hbm, ⟨5, _⟩ => ⟨S8192x2048, .f32⟩
  | .hbm, ⟨6, _⟩ => ⟨S2048x8192, .f32⟩
  | .hbm, ⟨7, _⟩ => ⟨S2048x8x1024, .f32⟩
  | .hbm, ⟨8, _⟩ => ⟨S8x2048x1024, .f32⟩
  | .hbm, ⟨9, _⟩ => ⟨S8x2048x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x8192 : Shape := ⟨2, ![4096, 8192]⟩
abbrev S8192x2048 : Shape := ⟨2, ![8192, 2048]⟩
abbrev S4096x2048 : Shape := ⟨2, ![4096, 2048]⟩
abbrev S2048 : Shape := ⟨1, ![2048]⟩
abbrev S8x1024x2048 : Shape := ⟨3, ![8, 1024, 2048]⟩
abbrev S4x2048x2048 : Shape := ⟨3, ![4, 2048, 2048]⟩
abbrev S1x2048 : Shape := ⟨2, ![1, 2048]⟩
abbrev S512x2048 : Shape := ⟨2, ![512, 2048]⟩
abbrev S1x2048x2048 : Shape := ⟨3, ![1, 2048, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 11
  | .vmem => 12
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .f32⟩
  | .hbm, ⟨3, _⟩ => ⟨S2048, .f32⟩
  | .hbm, ⟨4, _⟩ => ⟨S4096x8192, .bf16⟩
  | .hbm, ⟨5, _⟩ => ⟨S8192x2048, .bf16⟩
  | .hbm, ⟨6, _⟩ => ⟨S8x1024x2048, .bf16⟩
  | .hbm, ⟨7, _⟩ => ⟨S4x2048x2048, .bf16⟩
  | .hbm, ⟨8, _⟩ => ⟨S1x2048, .f32⟩
  | .hbm, ⟨9, _⟩ => ⟨S4096x2048, .f32⟩
  | .hbm, ⟨10, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S512x2048, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference6Ideal.lean ====
abbrev S4096x8192 : Shape := ⟨2, ![4096, 8192]⟩
abbrev S8192x2048 : Shape := ⟨2, ![8192, 2048]⟩
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .f32⟩
  | .hbm, ⟨3, _⟩ => ⟨S2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x2048, .f32⟩
  | .hbm, ⟨18, _⟩ => ⟨S4096x2048, .f32⟩
  | .hbm, ⟨19, _⟩ => ⟨S1x2048, .f32⟩
  | .hbm, ⟨20, _⟩ => ⟨S4096x2048, .f32⟩
  | .hbm, ⟨21, _⟩ => ⟨S4096x2048, .f32⟩
  | .hbm, ⟨22, _⟩ => ⟨S4096x2048, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel7.lean ====
abbrev S4096x8192 : Shape := ⟨2, ![4096, 8192]⟩
abbrev S2048x8192 : Shape := ⟨2, ![2048, 8192]⟩
abbrev S4096x2048 : Shape := ⟨2, ![4096, 2048]⟩
abbrev S2048 : Shape := ⟨1, ![2048]⟩
abbrev S2048x8x1024 : Shape := ⟨3, ![2048, 8, 1024]⟩
abbrev S8x2048x1024 : Shape := ⟨3, ![8, 2048, 1024]⟩
abbrev S1x2048 : Shape := ⟨2, ![1, 2048]⟩
abbrev S256x2048 : Shape := ⟨2, ![256, 2048]⟩
abbrev S1x2048x1024 : Shape := ⟨3, ![1, 2048, 1024]⟩
abbrev S2048x1024 : Shape := ⟨2, ![2048, 1024]⟩
abbrev S256x1024 : Shape := ⟨2, ![256, 1024]⟩
abbrev S256 : Shape := ⟨1, ![256]⟩
abbrev S256x1 : Shape := ⟨2, ![256, 1]⟩

abbrev nBuf : Space → Nat
  | .hbm => 13
  | .vmem => 17
  | .smem => 0
  | _ => 0

abbrev bufTy : (tb : Table) → Fin (tcTables nBuf tb) → BufTy
  | .hbm, ⟨0, _⟩ => ⟨S4096x8192, .f32⟩
  | .hbm, ⟨1, _⟩ => ⟨S2048x8192, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S4096x8192, .bf16⟩
  | .hbm, ⟨6, _⟩ => ⟨S2048x8192, .bf16⟩
  | .hbm, ⟨7, _⟩ => ⟨S2048x8x1024, .bf16⟩
  | .hbm, ⟨8, _⟩ => ⟨S8x2048x1024, .bf16⟩
  | .hbm, ⟨9, _⟩ => ⟨S1x2048, .f32⟩
  | .hbm, ⟨10, _⟩ => ⟨S4096x2048, .f32⟩
  | .hbm, ⟨11, _⟩ => ⟨S4096x2048, .bf16⟩
  | .hbm, ⟨12, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | .local _ .vmem, ⟨15, _⟩ => ⟨S1x2048, .f32⟩
  | .local _ .vmem, ⟨16, _⟩ => ⟨S256x2048, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨3, ![16, 1, 4], ![false, false, false]⟩

def k0_cond3 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_11 : BitVec 32 := 0#32
  let v19 : BitVec 1 := Scalar.cmpi .ne v18 c0_i32_11
  v19

def k0_cond4 (i : grid0.Coords) : BitVec 1 :=
  let arg0 : BitVec 32 := BitVec.ofNat 32 (i 0).val
  let c0_i32_30 : BitVec 32 := 0#32
  let v54 : BitVec 1 := Scalar.cmpi .eq arg0 c0_i32_30
  let v55 : BitVec 32 := Scalar.extui v54
  let c0_i32_31 : BitVec 32 := 0#32
  let v56 : BitVec 1 := Scalar.cmpi .ne v55 c0_i32_31
  v56

def k0_cond5 (i : grid0.Coords) : BitVec 1 :=
  let arg0 : BitVec 32 := BitVec.ofNat 32 (i 0).val
  let c0_i32_32 : BitVec 32 := 0#32
  let v57 : BitVec 1 := Scalar.cmpi .sgt arg0 c0_i32_32
  let v58 : BitVec 32 := Scalar.extui v57
  let c0_i32_33 : BitVec 32 := 0#32
  let v59 : BitVec 1 := Scalar.cmpi .ne v58 c0_i32_33
  v59

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]
-- ==== Reference7Ideal.lean ====
abbrev S4096x8192 : Shape := ⟨2, ![4096, 8192]⟩
abbrev S2048x8192 : Shape := ⟨2, ![2048, 8192]⟩
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S2048x8192, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x8192, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S2048, .f32⟩
  | .hbm, ⟨35, _⟩ => ⟨S4096x2048, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .bf16⟩
  | .hbm, ⟨54, _⟩ => ⟨S1x2048, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel8.lean ====
abbrev S4096x2048 : Shape := ⟨2, ![4096, 2048]⟩
abbrev S4096x5120 : Shape := ⟨2, ![4096, 5120]⟩
abbrev S2048x5120 : Shape := ⟨2, ![2048, 5120]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x5120, .f32⟩
  | .hbm, ⟨2, _⟩ => ⟨S4096x2048, .bf16⟩
  | .hbm, ⟨3, _⟩ => ⟨S4096x5120, .bf16⟩
  | .hbm, ⟨4, _⟩ => ⟨S2048x5120, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S4096x5120 : Shape := ⟨2, ![4096, 5120]⟩
abbrev S_ : Shape := ⟨0, ![]⟩
abbrev S2048x5120 : Shape := ⟨2, ![2048, 5120]⟩
abbrev S5120x2048 : Shape := ⟨2, ![5120, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x5120, .f32⟩
  | .hbm, ⟨2, _⟩ => ⟨S_, .f32⟩
  | .hbm, ⟨3, _⟩ => ⟨S2048x5120, .f32⟩
  | .hbm, ⟨4, _⟩ => ⟨S4096x5120, .f32⟩
  | .hbm, ⟨5, _⟩ => ⟨S5120x2048, .f32⟩
  | .hbm, ⟨6, _⟩ => ⟨S2048x5120, .f32⟩
  | .hbm, ⟨7, _⟩ => ⟨S2048x5120, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S4096x2048 : Shape := ⟨2, ![4096, 2048]⟩
abbrev S2048x2048 : Shape := ⟨2, ![2048, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S4096x2048, .bf16⟩
  | .hbm, ⟨4, _⟩ => ⟨S2048x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S4096x2048 : Shape := ⟨2, ![4096, 2048]⟩
abbrev S4096x2560 : Shape := ⟨2, ![4096, 2560]⟩
abbrev S2048x2560 : Shape := ⟨2, ![2048, 2560]⟩
abbrev S4096x512 : Shape := ⟨2, ![4096, 512]⟩
abbrev S4096x1280 : Shape := ⟨2, ![4096, 1280]⟩
abbrev S512x1280 : Shape := ⟨2, ![512, 1280]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x2560, .f32⟩
  | .hbm, ⟨2, _⟩ => ⟨S4096x2048, .bf16⟩
  | .hbm, ⟨3, _⟩ => ⟨S4096x2560, .bf16⟩
  | .hbm, ⟨4, _⟩ => ⟨S2048x2560, .bf16⟩
  | .local _ .vmem, ⟨0, _⟩ => ⟨S4096x512, .bf16⟩
  | .local _ .vmem, ⟨1, _⟩ => ⟨S4096x512, .bf16⟩
  | .local _ .vmem, ⟨2, _⟩ => ⟨S4096x1280, .bf16⟩
  | .local _ .vmem, ⟨3, _⟩ => ⟨S4096x1280, .bf16⟩
  | .local _ .vmem, ⟨4, _⟩ => ⟨S512x1280, .bf16⟩
  | .local _ .vmem, ⟨5, _⟩ => ⟨S512x1280, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S4096x2560 : Shape := ⟨2, ![4096, 2560]⟩
abbrev S_ : Shape := ⟨0, ![]⟩
abbrev S2048x2560 : Shape := ⟨2, ![2048, 2560]⟩
abbrev S2560x2048 : Shape := ⟨2, ![2560, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2560, .f32⟩
  | .hbm, ⟨2, _⟩ => ⟨S_, .f32⟩
  | .hbm, ⟨3, _⟩ => ⟨S2048x2560, .f32⟩
  | .hbm, ⟨4, _⟩ => ⟨S4096x2560, .f32⟩
  | .hbm, ⟨5, _⟩ => ⟨S2560x2048, .f32⟩
  | .hbm, ⟨6, _⟩ => ⟨S2048x2560, .f32⟩
  | .hbm, ⟨7, _⟩ => ⟨S2048x2560, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S4096x2048 : Shape := ⟨2, ![4096, 2048]⟩
abbrev S2048x2048 : Shape := ⟨2, ![2048, 2048]⟩
abbrev S512x2048 : Shape := ⟨2, ![512, 2048]⟩

abbrev nBuf : Space → Nat
  | .hbm => 5
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S2048x2048, .bf16⟩
  | .hbm, ⟨4, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel12.lean ====
abbrev S4096x2048 : Shape := ⟨2, ![4096, 2048]⟩
abbrev S2048x5120 : Shape := ⟨2, ![2048, 5120]⟩
abbrev S4096x5120 : Shape := ⟨2, ![4096, 5120]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x5120, .f32⟩
  | .hbm, ⟨2, _⟩ => ⟨S4096x2048, .bf16⟩
  | .hbm, ⟨3, _⟩ => ⟨S2048x5120, .bf16⟩
  | .hbm, ⟨4, _⟩ => ⟨S4096x5120, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2048 : Shape := ⟨2, ![4096, 2048]⟩
abbrev S2048x5120 : Shape := ⟨2, ![2048, 5120]⟩
abbrev S4096x5120 : Shape := ⟨2, ![4096, 5120]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x5120, .f32⟩
  | .hbm, ⟨2, _⟩ => ⟨S4096x5120, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel13.lean ====
abbrev S4096x2048 : Shape := ⟨2, ![4096, 2048]⟩
abbrev S2048x2560 : Shape := ⟨2, ![2048, 2560]⟩
abbrev S4096x2560 : Shape := ⟨2, ![4096, 2560]⟩
abbrev S1024x2048 : Shape := ⟨2, ![1024, 2048]⟩
abbrev S2048x1280 : Shape := ⟨2, ![2048, 1280]⟩
abbrev S1024x1280 : Shape := ⟨2, ![1024, 1280]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2560, .f32⟩
  | .hbm, ⟨2, _⟩ => ⟨S4096x2048, .bf16⟩
  | .hbm, ⟨3, _⟩ => ⟨S2048x2560, .bf16⟩
  | .hbm, ⟨4, _⟩ => ⟨S4096x2560, .f32⟩
  | .local _ .vmem, ⟨0, _⟩ => ⟨S1024x2048, .bf16⟩
  | .local _ .vmem, ⟨1, _⟩ => ⟨S1024x2048, .bf16⟩
  | .local _ .vmem, ⟨2, _⟩ => ⟨S2048x1280, .bf16⟩
  | .local _ .vmem, ⟨3, _⟩ => ⟨S2048x1280, .bf16⟩
  | .local _ .vmem, ⟨4, _⟩ => ⟨S1024x1280, .f32⟩
  | .local _ .vmem, ⟨5, _⟩ => ⟨S1024x1280, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x2048 : Shape := ⟨2, ![4096, 2048]⟩
abbrev S2048x2560 : Shape := ⟨2, ![2048, 2560]⟩
abbrev S4096x2560 : Shape := ⟨2, ![4096, 2560]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2560, .f32⟩
  | .hbm, ⟨2, _⟩ => ⟨S4096x2560, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel14.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S2048, .f32⟩
  | .hbm, ⟨4, _⟩ => ⟨S4096x2048, .bf16⟩
  | .hbm, ⟨5, _⟩ => ⟨S2048x2048, .bf16⟩
  | .hbm, ⟨6, _⟩ => ⟨S1x2048, .f32⟩
  | .hbm, ⟨7, _⟩ => ⟨S4096x2048, .f32⟩
  | .hbm, ⟨8, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference14Ideal.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x2048, .f32⟩
  | .hbm, ⟨18, _⟩ => ⟨S4096x2048, .f32⟩
  | .hbm, ⟨19, _⟩ => ⟨S1x2048, .f32⟩
  | .hbm, ⟨20, _⟩ => ⟨S4096x2048, .f32⟩
  | .hbm, ⟨21, _⟩ => ⟨S4096x2048, .f32⟩
  | .hbm, ⟨22, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel15.lean ====
abbrev S4x2048x1024 : Shape := ⟨3, ![4, 2048, 1024]⟩
abbrev S8192x1024 : Shape := ⟨2, ![8192, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x2048x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S4x2048x1024 : Shape := ⟨3, ![4, 2048, 1024]⟩
abbrev S_ : Shape := ⟨0, ![]⟩
abbrev S8192x1024 : Shape := ⟨2, ![8192, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x2048x1024, .f32⟩
  | .hbm, ⟨4, _⟩ => ⟨S_, .f32⟩
  | .hbm, ⟨5, _⟩ => ⟨S4x2048x1024, .f32⟩
  | .hbm, ⟨6, _⟩ => ⟨S4x2048x1024, .f32⟩
  | .hbm, ⟨7, _⟩ => ⟨S_, .f32⟩
  | .hbm, ⟨8, _⟩ => ⟨S4x2048x1024, .f32⟩
  | .hbm, ⟨9, _⟩ => ⟨S4x2048x1024, .f32⟩
  | .hbm, ⟨10, _⟩ => ⟨S4x2048x1024, .f32⟩
  | .hbm, ⟨11, _⟩ => ⟨S_, .f32⟩
  | .hbm, ⟨12, _⟩ => ⟨S4x2048x1024, .f32⟩
  | .hbm, ⟨13, _⟩ => ⟨S4x2048x1024, .f32⟩
  | .hbm, ⟨14, _⟩ => ⟨S4x2048x1024, .f32⟩
  | .hbm, ⟨15, _⟩ => ⟨S_, .f32⟩
  | .hbm, ⟨16, _⟩ => ⟨S4x2048x1024, .f32⟩
  | .hbm, ⟨17, _⟩ => ⟨S4x2048x1024, .f32⟩
  | .hbm, ⟨18, _⟩ => ⟨S4x2048x1024, .f32⟩
  | .hbm, ⟨19, _⟩ => ⟨S_, .f32⟩
  | .hbm, ⟨20, _⟩ => ⟨S4x2048x1024, .f32⟩
  | .hbm, ⟨21, _⟩ => ⟨S4x2048x1024, .f32⟩
  | .hbm, ⟨22, _⟩ => ⟨S_, .f32⟩
  | .hbm, ⟨23, _⟩ => ⟨S4x2048x1024, .f32⟩
  | .hbm, ⟨24, _⟩ => ⟨S4x2048x1024, .f32⟩
  | .hbm, ⟨25, _⟩ => ⟨S4x2048x1024, .f32⟩
  | .hbm, ⟨26, _⟩ => ⟨S_, .f32⟩
  | .hbm, ⟨27, _⟩ => ⟨S4x2048x1024, .f32⟩
  | .hbm, ⟨28, _⟩ => ⟨S4x2048x1024, .f32⟩
  | .hbm, ⟨29, _⟩ => ⟨S4x2048x1024, .f32⟩
  | .hbm, ⟨30, _⟩ => ⟨S_, .f32⟩
  | .hbm, ⟨31, _⟩ => ⟨S4x2048x1024, .f32⟩
  | .hbm, ⟨32, _⟩ => ⟨S4x2048x1024, .f32⟩
  | .hbm, ⟨33, _⟩ => ⟨S4x2048x1024, .f32⟩
  | .hbm, ⟨34, _⟩ => ⟨S_, .f32⟩
  | .hbm, ⟨35, _⟩ => ⟨S4x2048x1024, .f32⟩
  | .hbm, ⟨36, _⟩ => ⟨S4x2048x1024, .f32⟩
  | .hbm, ⟨37, _⟩ => ⟨S8192x1024, .f32⟩
  | .hbm, ⟨38, _⟩ => ⟨S8192x1024, .f32⟩
  | .hbm, ⟨39, _⟩ => ⟨S8192x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel16.lean ====
abbrev S4x1024x2048 : Shape := ⟨3, ![4, 1024, 2048]⟩
abbrev S4096x2048 : Shape := ⟨2, ![4096, 2048]⟩
abbrev S256x2048 : Shape := ⟨2, ![256, 2048]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x2048, .f32⟩
  | .hbm, ⟨1, _⟩ => ⟨S4x1024x2048, .f32⟩
  | .hbm, ⟨2, _⟩ => ⟨S4x1024x2048, .f32⟩
  | .hbm, ⟨3, _⟩ => ⟨S4x1024x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S4x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference16Ideal.lean ====
abbrev S4x1024x2048 : Shape := ⟨3, ![4, 1024, 2048]⟩
abbrev S_ : Shape := ⟨0, ![]⟩
abbrev S4096x2048 : Shape := ⟨2, ![4096, 2048]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x2048, .f32⟩
  | .hbm, ⟨1, _⟩ => ⟨S4x1024x2048, .f32⟩
  | .hbm, ⟨2, _⟩ => ⟨S4x1024x2048, .f32⟩
  | .hbm, ⟨3, _⟩ => ⟨S4x1024x2048, .f32⟩
  | .hbm, ⟨4, _⟩ => ⟨S_, .f32⟩
  | .hbm, ⟨5, _⟩ => ⟨S4x1024x2048, .f32⟩
  | .hbm, ⟨6, _⟩ => ⟨S4x1024x2048, .f32⟩
  | .hbm, ⟨7, _⟩ => ⟨S_, .f32⟩
  | .hbm, ⟨8, _⟩ => ⟨S4x1024x2048, .f32⟩
  | .hbm, ⟨9, _⟩ => ⟨S4x1024x2048, .f32⟩
  | .hbm, ⟨10, _⟩ => ⟨S4x1024x2048, .f32⟩
  | .hbm, ⟨11, _⟩ => ⟨S_, .f32⟩
  | .hbm, ⟨12, _⟩ => ⟨S4x1024x2048, .f32⟩
  | .hbm, ⟨13, _⟩ => ⟨S4x1024x2048, .f32⟩
  | .hbm, ⟨14, _⟩ => ⟨S4x1024x2048, .f32⟩
  | .hbm, ⟨15, _⟩ => ⟨S_, .f32⟩
  | .hbm, ⟨16, _⟩ => ⟨S4x1024x2048, .f32⟩
  | .hbm, ⟨17, _⟩ => ⟨S4x1024x2048, .f32⟩
  | .hbm, ⟨18, _⟩ => ⟨S4x1024x2048, .f32⟩
  | .hbm, ⟨19, _⟩ => ⟨S_, .f32⟩
  | .hbm, ⟨20, _⟩ => ⟨S4x1024x2048, .f32⟩
  | .hbm, ⟨21, _⟩ => ⟨S4x1024x2048, .f32⟩
  | .hbm, ⟨22, _⟩ => ⟨S_, .f32⟩
  | .hbm, ⟨23, _⟩ => ⟨S4x1024x2048, .f32⟩
  | .hbm, ⟨24, _⟩ => ⟨S4x1024x2048, .f32⟩
  | .hbm, ⟨25, _⟩ => ⟨S4x1024x2048, .f32⟩
  | .hbm, ⟨26, _⟩ => ⟨S_, .f32⟩
  | .hbm, ⟨27, _⟩ => ⟨S4x1024x2048, .f32⟩
  | .hbm, ⟨28, _⟩ => ⟨S4x1024x2048, .f32⟩
  | .hbm, ⟨29, _⟩ => ⟨S4x1024x2048, .f32⟩
  | .hbm, ⟨30, _⟩ => ⟨S_, .f32⟩
  | .hbm, ⟨31, _⟩ => ⟨S4x1024x2048, .f32⟩
  | .hbm, ⟨32, _⟩ => ⟨S4x1024x2048, .f32⟩
  | .hbm, ⟨33, _⟩ => ⟨S4x1024x2048, .f32⟩
  | .hbm, ⟨34, _⟩ => ⟨S_, .f32⟩
  | .hbm, ⟨35, _⟩ => ⟨S4x1024x2048, .f32⟩
  | .hbm, ⟨36, _⟩ => ⟨S4x1024x2048, .f32⟩
  | .hbm, ⟨37, _⟩ => ⟨S4096x2048, .f32⟩
  | .hbm, ⟨38, _⟩ => ⟨S4096x2048, .f32⟩
  | .hbm, ⟨39, _⟩ => ⟨S4096x2048, .f32⟩
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel17.lean ====
abbrev S2x2048x640 : Shape := ⟨3, ![2, 2048, 640]⟩
abbrev S4096x640 : Shape := ⟨2, ![4096, 640]⟩
abbrev S256x640 : Shape := ⟨2, ![256, 640]⟩

abbrev nBuf : Space → Nat
  | .hbm => 11
  | .vmem => 14
  | .smem => 0
  | _ => 0

abbrev bufTy : (tb : Table) → Fin (tcTables nBuf tb) → BufTy
  | .hbm, ⟨0, _⟩ => ⟨S2x2048x640, .f32⟩
  | .hbm, ⟨1, _⟩ => ⟨S2x2048x640, .f32⟩
  | .hbm, ⟨2, _⟩ => ⟨S2x2048x640, .f32⟩
  | .hbm, ⟨3, _⟩ => ⟨S2x2048x640, .f32⟩
  | .hbm, ⟨4, _⟩ => ⟨S4096x640, .f32⟩
  | .hbm, ⟨5, _⟩ => ⟨S4096x640, .f32⟩
  | .hbm, ⟨6, _⟩ => ⟨S4096x640, .f32⟩
  | .hbm, ⟨7, _⟩ => ⟨S4096x640, .f32⟩
  | .hbm, ⟨8, _⟩ => ⟨S4096x640, .f32⟩
  | .hbm, ⟨9, _⟩ => ⟨S4096x640, .f32⟩
  | .hbm, ⟨10, _⟩ => ⟨S4096x640, .f32⟩
  | .local _ .vmem, ⟨0, _⟩ => ⟨S256x640, .f32⟩
  | .local _ .vmem, ⟨1, _⟩ => ⟨S256x640, .f32⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S256x640, .f32⟩
  | .local _ .vmem, ⟨7, _⟩ => ⟨S256x640, .f32⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | _, _ => ⟨S2x2048x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S2x2048x640 : Shape := ⟨3, ![2, 2048, 640]⟩
abbrev S_ : Shape := ⟨0, ![]⟩
abbrev S4096x640 : Shape := ⟨2, ![4096, 640]⟩

abbrev nBuf : Space → Nat
  | .hbm => 40
  | .vmem => 0
  | .smem => 0
  | _ => 0

abbrev bufTy : (tb : Table) → Fin (tcTables nBuf tb) → BufTy
  | .hbm, ⟨0, _⟩ => ⟨S2x2048x640, .f32⟩
  | .hbm, ⟨1, _⟩ => ⟨S2x2048x640, .f32⟩
  | .hbm, ⟨2, _⟩ => ⟨S2x2048x640, .f32⟩
  | .hbm, ⟨3, _⟩ => ⟨S2x2048x640, .f32⟩
  | .hbm, ⟨4, _⟩ => ⟨S_, .f32⟩
  | .hbm, ⟨5, _⟩ => ⟨S2x2048x640, .f32⟩
  | .hbm, ⟨6, _⟩ => ⟨S2x2048x640, .f32⟩
  | .hbm, ⟨7, _⟩ => ⟨S_, .f32⟩
  | .hbm, ⟨8, _⟩ => ⟨S2x2048x640, .f32⟩
  | .hbm, ⟨9, _⟩ => ⟨S2x2048x640, .f32⟩
  | .hbm, ⟨10, _⟩ => ⟨S2x2048x640, .f32⟩
  | .hbm, ⟨11, _⟩ => ⟨S_, .f32⟩
  | .hbm, ⟨12, _⟩ => ⟨S2x2048x640, .f32⟩
  | .hbm, ⟨13, _⟩ => ⟨S2x2048x640, .f32⟩
  | .hbm, ⟨14, _⟩ => ⟨S2x2048x640, .f32⟩
  | .hbm, ⟨15, _⟩ => ⟨S_, .f32⟩
  | .hbm, ⟨16, _⟩ => ⟨S2x2048x640, .f32⟩
  | .hbm, ⟨17, _⟩ => ⟨S2x2048x640, .f32⟩
  | .hbm, ⟨18, _⟩ => ⟨S2x2048x640, .f32⟩
  | .hbm, ⟨19, _⟩ => ⟨S_, .f32⟩
  | .hbm, ⟨20, _⟩ => ⟨S2x2048x640, .f32⟩
  | .hbm, ⟨21, _⟩ => ⟨S2x2048x640, .f32⟩
  | .hbm, ⟨22, _⟩ => ⟨S_, .f32⟩
  | .hbm, ⟨23, _⟩ => ⟨S2x2048x640, .f32⟩
  | .hbm, ⟨24, _⟩ => ⟨S2x2048x640, .f32⟩
  | .hbm, ⟨25, _⟩ => ⟨S2x2048x640, .f32⟩
  | .hbm, ⟨26, _⟩ => ⟨S_, .f32⟩
  | .hbm, ⟨27, _⟩ => ⟨S2x2048x640, .f32⟩
  | .hbm, ⟨28, _⟩ => ⟨S2x2048x640, .f32⟩
  | .hbm, ⟨29, _⟩ => ⟨S2x2048x640, .f32⟩
  | .hbm, ⟨30, _⟩ => ⟨S_, .f32⟩
  | .hbm, ⟨31, _⟩ => ⟨S2x2048x640, .f32⟩
  | .hbm, ⟨32, _⟩ => ⟨S2x2048x640, .f32⟩
  | .hbm, ⟨33, _⟩ => ⟨S2x2048x640, .f32⟩
  | .hbm, ⟨34, _⟩ => ⟨S_, .f32⟩
  | .hbm, ⟨35, _⟩ => ⟨S2x2048x640, .f32⟩
  | .hbm, ⟨36, _⟩ => ⟨S2x2048x640, .f32⟩
  | .hbm, ⟨37, _⟩ => ⟨S4096x640, .f32⟩
  | .hbm, ⟨38, _⟩ => ⟨S4096x640, .f32⟩
  | .hbm, ⟨39, _⟩ => ⟨S4096x640, .f32⟩
  | _, _ => ⟨S2x2048x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel18.lean ====
abbrev S2x256x2048 : Shape := ⟨3, ![2, 256, 2048]⟩
abbrev S512x2048 : Shape := ⟨2, ![512, 2048]⟩
abbrev S256x2048 : Shape := ⟨2, ![256, 2048]⟩

abbrev nBuf : Space → Nat
  | .hbm => 11
  | .vmem => 14
  | .smem => 0
  | _ => 0

abbrev bufTy : (tb : Table) → Fin (tcTables nBuf tb) → BufTy
  | .hbm, ⟨0, _⟩ => ⟨S2x256x2048, .f32⟩
  | .hbm, ⟨1, _⟩ => ⟨S2x256x2048, .f32⟩
  | .hbm, ⟨2, _⟩ => ⟨S2x256x2048, .f32⟩
  | .hbm, ⟨3, _⟩ => ⟨S2x256x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .hbm, ⟨9, _⟩ => ⟨S512x2048, .f32⟩
  | .hbm, ⟨10, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference18Ideal.lean ====
abbrev S2x256x2048 : Shape := ⟨3, ![2, 256, 2048]⟩
abbrev S_ : Shape := ⟨0, ![]⟩
abbrev S512x2048 : Shape := ⟨2, ![512, 2048]⟩

abbrev nBuf : Space → Nat
  | .hbm => 40
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S2x256x2048, .f32⟩
  | .hbm, ⟨2, _⟩ => ⟨S2x256x2048, .f32⟩
  | .hbm, ⟨3, _⟩ => ⟨S2x256x2048, .f32⟩
  | .hbm, ⟨4, _⟩ => ⟨S_, .f32⟩
  | .hbm, ⟨5, _⟩ => ⟨S2x256x2048, .f32⟩
  | .hbm, ⟨6, _⟩ => ⟨S2x256x2048, .f32⟩
  | .hbm, ⟨7, _⟩ => ⟨S_, .f32⟩
  | .hbm, ⟨8, _⟩ => ⟨S2x256x2048, .f32⟩
  | .hbm, ⟨9, _⟩ => ⟨S2x256x2048, .f32⟩
  | .hbm, ⟨10, _⟩ => ⟨S2x256x2048, .f32⟩
  | .hbm, ⟨11, _⟩ => ⟨S_, .f32⟩
  | .hbm, ⟨12, _⟩ => ⟨S2x256x2048, .f32⟩
  | .hbm, ⟨13, _⟩ => ⟨S2x256x2048, .f32⟩
  | .hbm, ⟨14, _⟩ => ⟨S2x256x2048, .f32⟩
  | .hbm, ⟨15, _⟩ => ⟨S_, .f32⟩
  | .hbm, ⟨16, _⟩ => ⟨S2x256x2048, .f32⟩
  | .hbm, ⟨17, _⟩ => ⟨S2x256x2048, .f32⟩
  | .hbm, ⟨18, _⟩ => ⟨S2x256x2048, .f32⟩
  | .hbm, ⟨19, _⟩ => ⟨S_, .f32⟩
  | .hbm, ⟨20, _⟩ => ⟨S2x256x2048, .f32⟩
  | .hbm, ⟨21, _⟩ => ⟨S2x256x2048, .f32⟩
  | .hbm, ⟨22, _⟩ => ⟨S_, .f32⟩
  | .hbm, ⟨23, _⟩ => ⟨S2x256x2048, .f32⟩
  | .hbm, ⟨24, _⟩ => ⟨S2x256x2048, .f32⟩
  | .hbm, ⟨25, _⟩ => ⟨S2x256x2048, .f32⟩
  | .hbm, ⟨26, _⟩ => ⟨S_, .f32⟩
  | .hbm, ⟨27, _⟩ => ⟨S2x256x2048, .f32⟩
  | .hbm, ⟨28, _⟩ => ⟨S2x256x2048, .f32⟩
  | .hbm, ⟨29, _⟩ => ⟨S2x256x2048, .f32⟩
  | .hbm, ⟨30, _⟩ => ⟨S_, .f32⟩
  | .hbm, ⟨31, _⟩ => ⟨S2x256x2048, .f32⟩
  | .hbm, ⟨32, _⟩ => ⟨S2x256x2048, .f32⟩
  | .hbm, ⟨33, _⟩ => ⟨S2x256x2048, .f32⟩
  | .hbm, ⟨34, _⟩ => ⟨S_, .f32⟩
  | .hbm, ⟨35, _⟩ => ⟨S2x256x2048, .f32⟩
  | .hbm, ⟨36, _⟩ => ⟨S2x256x2048, .f32⟩
  | .hbm, ⟨37, _⟩ => ⟨S512x2048, .f32⟩
  | .hbm, ⟨38, _⟩ => ⟨S512x2048, .f32⟩
  | .hbm, ⟨39, _⟩ => ⟨S512x2048, .f32⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel19.lean ====
abbrev S2x2048x320 : Shape := ⟨3, ![2, 2048, 320]⟩
abbrev S4096x320 : Shape := ⟨2, ![4096, 320]⟩
abbrev S256x320 : Shape := ⟨2, ![256, 320]⟩

abbrev nBuf : Space → Nat
  | .hbm => 11
  | .vmem => 14
  | .smem => 0
  | _ => 0

abbrev bufTy : (tb : Table) → Fin (tcTables nBuf tb) → BufTy
  | .hbm, ⟨0, _⟩ => ⟨S2x2048x320, .f32⟩
  | .hbm, ⟨1, _⟩ => ⟨S2x2048x320, .f32⟩
  | .hbm, ⟨2, _⟩ => ⟨S2x2048x320, .f32⟩
  | .hbm, ⟨3, _⟩ => ⟨S2x2048x320, .f32⟩
  | .hbm, ⟨4, _⟩ => ⟨S4096x320, .f32⟩
  | .hbm, ⟨5, _⟩ => ⟨S4096x320, .f32⟩
  | .hbm, ⟨6, _⟩ => ⟨S4096x320, .f32⟩
  | .hbm, ⟨7, _⟩ => ⟨S4096x320, .f32⟩
  | .hbm, ⟨8, _⟩ => ⟨S4096x320, .f32⟩
  | .hbm, ⟨9, _⟩ => ⟨S4096x320, .f32⟩
  | .hbm, ⟨10, _⟩ => ⟨S4096x320, .f32⟩
  | .local _ .vmem, ⟨0, _⟩ => ⟨S256x320, .f32⟩
  | .local _ .vmem, ⟨1, _⟩ => ⟨S256x320, .f32⟩
  | .local _ .vmem, ⟨2, _⟩ => ⟨S256x320, .f32⟩
  | .local _ .vmem, ⟨3, _⟩ => ⟨S256x320, .f32⟩
  | .local _ .vmem, ⟨4, _⟩ => ⟨S256x320, .f32⟩
  | .local _ .vmem, ⟨5, _⟩ => ⟨S256x320, .f32⟩
  | .local _ .vmem, ⟨6, _⟩ => ⟨S256x320, .f32⟩
  | .local _ .vmem, ⟨7, _⟩ => ⟨S256x320, .f32⟩
  | .local _ .vmem, ⟨8, _⟩ => ⟨S256x320, .f32⟩
  | .local _ .vmem, ⟨9, _⟩ => ⟨S256x320, .f32⟩
  | .local _ .vmem, ⟨10, _⟩ => ⟨S256x320, .f32⟩
  | .local _ .vmem, ⟨11, _⟩ => ⟨S256x320, .f32⟩
  | .local _ .vmem, ⟨12, _⟩ => ⟨S256x320, .f32⟩
  | .local _ .vmem, ⟨13, _⟩ => ⟨S256x320, .f32⟩
  | _, _ => ⟨S2x2048x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x320 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x320 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x320 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x320 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference19Ideal.lean ====
abbrev S2x2048x320 : Shape := ⟨3, ![2, 2048, 320]⟩
abbrev S_ : Shape := ⟨0, ![]⟩
abbrev S4096x320 : Shape := ⟨2, ![4096, 320]⟩

abbrev nBuf : Space → Nat
  | .hbm => 40
  | .vmem => 0
  | .smem => 0
  | _ => 0

abbrev bufTy : (tb : Table) → Fin (tcTables nBuf tb) → BufTy
  | .hbm, ⟨0, _⟩ => ⟨S2x2048x320, .f32⟩
  | .hbm, ⟨1, _⟩ => ⟨S2x2048x320, .f32⟩
  | .hbm, ⟨2, _⟩ => ⟨S2x2048x320, .f32⟩
  | .hbm, ⟨3, _⟩ => ⟨S2x2048x320, .f32⟩
  | .hbm, ⟨4, _⟩ => ⟨S_, .f32⟩
  | .hbm, ⟨5, _⟩ => ⟨S2x2048x320, .f32⟩
  | .hbm, ⟨6, _⟩ => ⟨S2x2048x320, .f32⟩
  | .hbm, ⟨7, _⟩ => ⟨S_, .f32⟩
  | .hbm, ⟨8, _⟩ => ⟨S2x2048x320, .f32⟩
  | .hbm, ⟨9, _⟩ => ⟨S2x2048x320, .f32⟩
  | .hbm, ⟨10, _⟩ => ⟨S2x2048x320, .f32⟩
  | .hbm, ⟨11, _⟩ => ⟨S_, .f32⟩
  | .hbm, ⟨12, _⟩ => ⟨S2x2048x320, .f32⟩
  | .hbm, ⟨13, _⟩ => ⟨S2x2048x320, .f32⟩
  | .hbm, ⟨14, _⟩ => ⟨S2x2048x320, .f32⟩
  | .hbm, ⟨15, _⟩ => ⟨S_, .f32⟩
  | .hbm, ⟨16, _⟩ => ⟨S2x2048x320, .f32⟩
  | .hbm, ⟨17, _⟩ => ⟨S2x2048x320, .f32⟩
  | .hbm, ⟨18, _⟩ => ⟨S2x2048x320, .f32⟩
  | .hbm, ⟨19, _⟩ => ⟨S_, .f32⟩
  | .hbm, ⟨20, _⟩ => ⟨S2x2048x320, .f32⟩
  | .hbm, ⟨21, _⟩ => ⟨S2x2048x320, .f32⟩
  | .hbm, ⟨22, _⟩ => ⟨S_, .f32⟩
  | .hbm, ⟨23, _⟩ => ⟨S2x2048x320, .f32⟩
  | .hbm, ⟨24, _⟩ => ⟨S2x2048x320, .f32⟩
  | .hbm, ⟨25, _⟩ => ⟨S2x2048x320, .f32⟩
  | .hbm, ⟨26, _⟩ => ⟨S_, .f32⟩
  | .hbm, ⟨27, _⟩ => ⟨S2x2048x320, .f32⟩
  | .hbm, ⟨28, _⟩ => ⟨S2x2048x320, .f32⟩
  | .hbm, ⟨29, _⟩ => ⟨S2x2048x320, .f32⟩
  | .hbm, ⟨30, _⟩ => ⟨S_, .f32⟩
  | .hbm, ⟨31, _⟩ => ⟨S2x2048x320, .f32⟩
  | .hbm, ⟨32, _⟩ => ⟨S2x2048x320, .f32⟩
  | .hbm, ⟨33, _⟩ => ⟨S2x2048x320, .f32⟩
  | .hbm, ⟨34, _⟩ => ⟨S_, .f32⟩
  | .hbm, ⟨35, _⟩ => ⟨S2x2048x320, .f32⟩
  | .hbm, ⟨36, _⟩ => ⟨S2x2048x320, .f32⟩
  | .hbm, ⟨37, _⟩ => ⟨S4096x320, .f32⟩
  | .hbm, ⟨38, _⟩ => ⟨S4096x320, .f32⟩
  | .hbm, ⟨39, _⟩ => ⟨S4096x320, .f32⟩
  | _, _ => ⟨S2x2048x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel20.lean ====
abbrev S2x256x2048 : Shape := ⟨3, ![2, 256, 2048]⟩
abbrev S512x2048 : Shape := ⟨2, ![512, 2048]⟩
abbrev S256x2048 : Shape := ⟨2, ![256, 2048]⟩

abbrev nBuf : Space → Nat
  | .hbm => 11
  | .vmem => 14
  | .smem => 0
  | _ => 0

abbrev bufTy : (tb : Table) → Fin (tcTables nBuf tb) → BufTy
  | .hbm, ⟨0, _⟩ => ⟨S2x256x2048, .f32⟩
  | .hbm, ⟨1, _⟩ => ⟨S2x256x2048, .f32⟩
  | .hbm, ⟨2, _⟩ => ⟨S2x256x2048, .f32⟩
  | .hbm, ⟨3, _⟩ => ⟨S2x256x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .hbm, ⟨9, _⟩ => ⟨S512x2048, .f32⟩
  | .hbm, ⟨10, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference20Ideal.lean ====
abbrev S2x256x2048 : Shape := ⟨3, ![2, 256, 2048]⟩
abbrev S_ : Shape := ⟨0, ![]⟩
abbrev S512x2048 : Shape := ⟨2, ![512, 2048]⟩

abbrev nBuf : Space → Nat
  | .hbm => 40
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S2x256x2048, .f32⟩
  | .hbm, ⟨2, _⟩ => ⟨S2x256x2048, .f32⟩
  | .hbm, ⟨3, _⟩ => ⟨S2x256x2048, .f32⟩
  | .hbm, ⟨4, _⟩ => ⟨S_, .f32⟩
  | .hbm, ⟨5, _⟩ => ⟨S2x256x2048, .f32⟩
  | .hbm, ⟨6, _⟩ => ⟨S2x256x2048, .f32⟩
  | .hbm, ⟨7, _⟩ => ⟨S_, .f32⟩
  | .hbm, ⟨8, _⟩ => ⟨S2x256x2048, .f32⟩
  | .hbm, ⟨9, _⟩ => ⟨S2x256x2048, .f32⟩
  | .hbm, ⟨10, _⟩ => ⟨S2x256x2048, .f32⟩
  | .hbm, ⟨11, _⟩ => ⟨S_, .f32⟩
  | .hbm, ⟨12, _⟩ => ⟨S2x256x2048, .f32⟩
  | .hbm, ⟨13, _⟩ => ⟨S2x256x2048, .f32⟩
  | .hbm, ⟨14, _⟩ => ⟨S2x256x2048, .f32⟩
  | .hbm, ⟨15, _⟩ => ⟨S_, .f32⟩
  | .hbm, ⟨16, _⟩ => ⟨S2x256x2048, .f32⟩
  | .hbm, ⟨17, _⟩ => ⟨S2x256x2048, .f32⟩
  | .hbm, ⟨18, _⟩ => ⟨S2x256x2048, .f32⟩
  | .hbm, ⟨19, _⟩ => ⟨S_, .f32⟩
  | .hbm, ⟨20, _⟩ => ⟨S2x256x2048, .f32⟩
  | .hbm, ⟨21, _⟩ => ⟨S2x256x2048, .f32⟩
  | .hbm, ⟨22, _⟩ => ⟨S_, .f32⟩
  | .hbm, ⟨23, _⟩ => ⟨S2x256x2048, .f32⟩
  | .hbm, ⟨24, _⟩ => ⟨S2x256x2048, .f32⟩
  | .hbm, ⟨25, _⟩ => ⟨S2x256x2048, .f32⟩
  | .hbm, ⟨26, _⟩ => ⟨S_, .f32⟩
  | .hbm, ⟨27, _⟩ => ⟨S2x256x2048, .f32⟩
  | .hbm, ⟨28, _⟩ => ⟨S2x256x2048, .f32⟩
  | .hbm, ⟨29, _⟩ => ⟨S2x256x2048, .f32⟩
  | .hbm, ⟨30, _⟩ => ⟨S_, .f32⟩
  | .hbm, ⟨31, _⟩ => ⟨S2x256x2048, .f32⟩
  | .hbm, ⟨32, _⟩ => ⟨S2x256x2048, .f32⟩
  | .hbm, ⟨33, _⟩ => ⟨S2x256x2048, .f32⟩
  | .hbm, ⟨34, _⟩ => ⟨S_, .f32⟩
  | .hbm, ⟨35, _⟩ => ⟨S2x256x2048, .f32⟩
  | .hbm, ⟨36, _⟩ => ⟨S2x256x2048, .f32⟩
  | .hbm, ⟨37, _⟩ => ⟨S512x2048, .f32⟩
  | .hbm, ⟨38, _⟩ => ⟨S512x2048, .f32⟩
  | .hbm, ⟨39, _⟩ => ⟨S512x2048, .f32⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel21.lean ====
abbrev S2x1024x128 : Shape := ⟨3, ![2, 1024, 128]⟩
abbrev S2048x128 : Shape := ⟨2, ![2048, 128]⟩
abbrev S256x128 : Shape := ⟨2, ![256, 128]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x128, .f32⟩
  | .hbm, ⟨1, _⟩ => ⟨S2x1024x128, .f32⟩
  | .hbm, ⟨2, _⟩ => ⟨S2x1024x128, .f32⟩
  | .hbm, ⟨3, _⟩ => ⟨S2x1024x128, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S2048x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S2x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference21Ideal.lean ====
abbrev S2x1024x128 : Shape := ⟨3, ![2, 1024, 128]⟩
abbrev S_ : Shape := ⟨0, ![]⟩
abbrev S2048x128 : Shape := ⟨2, ![2048, 128]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x128, .f32⟩
  | .hbm, ⟨1, _⟩ => ⟨S2x1024x128, .f32⟩
  | .hbm, ⟨2, _⟩ => ⟨S2x1024x128, .f32⟩
  | .hbm, ⟨3, _⟩ => ⟨S2x1024x128, .f32⟩
  | .hbm, ⟨4, _⟩ => ⟨S_, .f32⟩
  | .hbm, ⟨5, _⟩ => ⟨S2x1024x128, .f32⟩
  | .hbm, ⟨6, _⟩ => ⟨S2x1024x128, .f32⟩
  | .hbm, ⟨7, _⟩ => ⟨S_, .f32⟩
  | .hbm, ⟨8, _⟩ => ⟨S2x1024x128, .f32⟩
  | .hbm, ⟨9, _⟩ => ⟨S2x1024x128, .f32⟩
  | .hbm, ⟨10, _⟩ => ⟨S2x1024x128, .f32⟩
  | .hbm, ⟨11, _⟩ => ⟨S_, .f32⟩
  | .hbm, ⟨12, _⟩ => ⟨S2x1024x128, .f32⟩
  | .hbm, ⟨13, _⟩ => ⟨S2x1024x128, .f32⟩
  | .hbm, ⟨14, _⟩ => ⟨S2x1024x128, .f32⟩
  | .hbm, ⟨15, _⟩ => ⟨S_, .f32⟩
  | .hbm, ⟨16, _⟩ => ⟨S2x1024x128, .f32⟩
  | .hbm, ⟨17, _⟩ => ⟨S2x1024x128, .f32⟩
  | .hbm, ⟨18, _⟩ => ⟨S2x1024x128, .f32⟩
  | .hbm, ⟨19, _⟩ => ⟨S_, .f32⟩
  | .hbm, ⟨20, _⟩ => ⟨S2x1024x128, .f32⟩
  | .hbm, ⟨21, _⟩ => ⟨S2x1024x128, .f32⟩
  | .hbm, ⟨22, _⟩ => ⟨S_, .f32⟩
  | .hbm, ⟨23, _⟩ => ⟨S2x1024x128, .f32⟩
  | .hbm, ⟨24, _⟩ => ⟨S2x1024x128, .f32⟩
  | .hbm, ⟨25, _⟩ => ⟨S2x1024x128, .f32⟩
  | .hbm, ⟨26, _⟩ => ⟨S_, .f32⟩
  | .hbm, ⟨27, _⟩ => ⟨S2x1024x128, .f32⟩
  | .hbm, ⟨28, _⟩ => ⟨S2x1024x128, .f32⟩
  | .hbm, ⟨29, _⟩ => ⟨S2x1024x128, .f32⟩
  | .hbm, ⟨30, _⟩ => ⟨S_, .f32⟩
  | .hbm, ⟨31, _⟩ => ⟨S2x1024x128, .f32⟩
  | .hbm, ⟨32, _⟩ => ⟨S2x1024x128, .f32⟩
  | .hbm, ⟨33, _⟩ => ⟨S2x1024x128, .f32⟩
  | .hbm, ⟨34, _⟩ => ⟨S_, .f32⟩
  | .hbm, ⟨35, _⟩ => ⟨S2x1024x128, .f32⟩
  | .hbm, ⟨36, _⟩ => ⟨S2x1024x128, .f32⟩
  | .hbm, ⟨37, _⟩ => ⟨S2048x128, .f32⟩
  | .hbm, ⟨38, _⟩ => ⟨S2048x128, .f32⟩
  | .hbm, ⟨39, _⟩ => ⟨S2048x128, .f32⟩
  | _, _ => ⟨S2x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel22.lean ====
abbrev S4096x8192 : Shape := ⟨2, ![4096, 8192]⟩
abbrev S8192x2048 : Shape := ⟨2, ![8192, 2048]⟩
abbrev S4096x2048 : Shape := ⟨2, ![4096, 2048]⟩
abbrev S8x1024x2048 : Shape := ⟨3, ![8, 1024, 2048]⟩
abbrev S4x2048x2048 : Shape := ⟨3, ![4, 2048, 2048]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 8
  | .vmem => 9
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .f32⟩
  | .hbm, ⟨3, _⟩ => ⟨S4096x8192, .bf16⟩
  | .hbm, ⟨4, _⟩ => ⟨S8192x2048, .bf16⟩
  | .hbm, ⟨5, _⟩ => ⟨S8x1024x2048, .bf16⟩
  | .hbm, ⟨6, _⟩ => ⟨S4x2048x2048, .bf16⟩
  | .hbm, ⟨7, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference22Ideal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .f32⟩
  | .hbm, ⟨3, _⟩ => ⟨S4096x2048, .f32⟩
  | .hbm, ⟨4, _⟩ => ⟨S4096x2048, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel23.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel24.lean ====
abbrev S4096x5120 : Shape := ⟨2, ![4096, 5120]⟩
abbrev S2048x5120 : Shape := ⟨2, ![2048, 5120]⟩
abbrev S4096x2048 : Shape := ⟨2, ![4096, 2048]⟩
abbrev S2048 : Shape := ⟨1, ![2048]⟩
abbrev S1x2048 : Shape := ⟨2, ![1, 2048]⟩
abbrev S256x2560 : Shape := ⟨2, ![256, 2560]⟩
abbrev S2048x2560 : Shape := ⟨2, ![2048, 2560]⟩
abbrev S256x2048 : Shape := ⟨2, ![256, 2048]⟩
abbrev S256 : Shape := ⟨1, ![256]⟩
abbrev S256x1 : Shape := ⟨2, ![256, 1]⟩

abbrev nBuf : Space → Nat
  | .hbm => 11
  | .vmem => 15
  | .smem => 0
  | _ => 0

abbrev bufTy : (tb : Table) → Fin (tcTables nBuf tb) → BufTy
  | .hbm, ⟨0, _⟩ => ⟨S4096x5120, .f32⟩
  | .hbm, ⟨1, _⟩ => ⟨S2048x5120, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S4096x5120, .bf16⟩
  | .hbm, ⟨6, _⟩ => ⟨S2048x5120, .bf16⟩
  | .hbm, ⟨7, _⟩ => ⟨S1x2048, .f32⟩
  | .hbm, ⟨8, _⟩ => ⟨S4096x2048, .f32⟩
  | .hbm, ⟨9, _⟩ => ⟨S4096x2048, .bf16⟩
  | .hbm, ⟨10, _⟩ => ⟨S1x2048, .f32⟩
  | .local _ .vmem, ⟨0, _⟩ => ⟨S256x2560, .bf16⟩
  | .local _ .vmem, ⟨1, _⟩ => ⟨S256x2560, .bf16⟩
  | .local _ .vmem, ⟨2, _⟩ => ⟨S2048x2560, .bf16⟩
  | .local _ .vmem, ⟨3, _⟩ => ⟨S2048x2560, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S1x2048, .f32⟩
  | .local _ .vmem, ⟨14, _⟩ => ⟨S256x2048, .f32⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def k0_cond4 (i : grid0.Coords) : BitVec 1 :=
  let arg0 : BitVec 32 := BitVec.ofNat 32 (i 0).val
  let c0_i32_25 : BitVec 32 := 0#32
  let v48 : BitVec 1 := Scalar.cmpi .eq arg0 c0_i32_25
  let v49 : BitVec 32 := Scalar.extui v48
  let c0_i32_26 : BitVec 32 := 0#32
  let v50 : BitVec 1 := Scalar.cmpi .ne v49 c0_i32_26
  v50

def k0_cond5 (i : grid0.Coords) : BitVec 1 :=
  let arg0 : BitVec 32 := BitVec.ofNat 32 (i 0).val
  let c0_i32_27 : BitVec 32 := 0#32
  let v51 : BitVec 1 := Scalar.cmpi .sgt arg0 c0_i32_27
  let v52 : BitVec 32 := Scalar.extui v51
  let c0_i32_28 : BitVec 32 := 0#32
  let v53 : BitVec 1 := Scalar.cmpi .ne v52 c0_i32_28
  v53

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S256x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== Reference24Ideal.lean ====
abbrev S4096x5120 : Shape := ⟨2, ![4096, 5120]⟩
abbrev S2048x5120 : Shape := ⟨2, ![2048, 5120]⟩
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S4096x5120, .f32⟩
  | .hbm, ⟨1, _⟩ => ⟨S2048x5120, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x5120, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S2048, .f32⟩
  | .hbm, ⟨35, _⟩ => ⟨S4096x2048, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .bf16⟩
  | .hbm, ⟨54, _⟩ => ⟨S1x2048, .f32⟩
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel25.lean ====
abbrev S4096x2560 : Shape := ⟨2, ![4096, 2560]⟩
abbrev S2048x2560 : Shape := ⟨2, ![2048, 2560]⟩
abbrev S4096x2048 : Shape := ⟨2, ![4096, 2048]⟩
abbrev S2048 : Shape := ⟨1, ![2048]⟩
abbrev S1x2048 : Shape := ⟨2, ![1, 2048]⟩
abbrev S256x1280 : Shape := ⟨2, ![256, 1280]⟩
abbrev S2048x1280 : Shape := ⟨2, ![2048, 1280]⟩
abbrev S256x2048 : Shape := ⟨2, ![256, 2048]⟩
abbrev S256 : Shape := ⟨1, ![256]⟩
abbrev S256x1 : Shape := ⟨2, ![256, 1]⟩

abbrev nBuf : Space → Nat
  | .hbm => 11
  | .vmem => 15
  | .smem => 0
  | _ => 0

abbrev bufTy : (tb : Table) → Fin (tcTables nBuf tb) → BufTy
  | .hbm, ⟨0, _⟩ => ⟨S4096x2560, .f32⟩
  | .hbm, ⟨1, _⟩ => ⟨S2048x2560, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S4096x2560, .bf16⟩
  | .hbm, ⟨6, _⟩ => ⟨S2048x2560, .bf16⟩
  | .hbm, ⟨7, _⟩ => ⟨S1x2048, .f32⟩
  | .hbm, ⟨8, _⟩ => ⟨S4096x2048, .f32⟩
  | .hbm, ⟨9, _⟩ => ⟨S4096x2048, .bf16⟩
  | .hbm, ⟨10, _⟩ => ⟨S1x2048, .f32⟩
  | .local _ .vmem, ⟨0, _⟩ => ⟨S256x1280, .bf16⟩
  | .local _ .vmem, ⟨1, _⟩ => ⟨S256x1280, .bf16⟩
  | .local _ .vmem, ⟨2, _⟩ => ⟨S2048x1280, .bf16⟩
  | .local _ .vmem, ⟨3, _⟩ => ⟨S2048x1280, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S1x2048, .f32⟩
  | .local _ .vmem, ⟨14, _⟩ => ⟨S256x2048, .f32⟩
  | _, _ => ⟨S4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def k0_cond4 (i : grid0.Coords) : BitVec 1 :=
  let arg0 : BitVec 32 := BitVec.ofNat 32 (i 0).val
  let c0_i32_25 : BitVec 32 := 0#32
  let v48 : BitVec 1 := Scalar.cmpi .eq arg0 c0_i32_25
  let v49 : BitVec 32 := Scalar.extui v48
  let c0_i32_26 : BitVec 32 := 0#32
  let v50 : BitVec 1 := Scalar.cmpi .ne v49 c0_i32_26
  v50

def k0_cond5 (i : grid0.Coords) : BitVec 1 :=
  let arg0 : BitVec 32 := BitVec.ofNat 32 (i 0).val
  let c0_i32_27 : BitVec 32 := 0#32
  let v51 : BitVec 1 := Scalar.cmpi .sgt arg0 c0_i32_27
  let v52 : BitVec 32 := Scalar.extui v51
  let c0_i32_28 : BitVec 32 := 0#32
  let v53 : BitVec 1 := Scalar.cmpi .ne v52 c0_i32_28
  v53

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S256x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== Reference25Ideal.lean ====
abbrev S4096x2560 : Shape := ⟨2, ![4096, 2560]⟩
abbrev S2048x2560 : Shape := ⟨2, ![2048, 2560]⟩
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S4096x2560, .f32⟩
  | .hbm, ⟨1, _⟩ => ⟨S2048x2560, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2560, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S2048, .f32⟩
  | .hbm, ⟨35, _⟩ => ⟨S4096x2048, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .bf16⟩
  | .hbm, ⟨54, _⟩ => ⟨S1x2048, .f32⟩
  | _, _ => ⟨S4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel26.lean ====
abbrev S2x2048 : Shape := ⟨2, ![2, 2048]⟩
abbrev S2x64x64 : Shape := ⟨3, ![2, 64, 64]⟩
abbrev S2x64 : Shape := ⟨2, ![2, 64]⟩
abbrev S2x64x64x16 : Shape := ⟨4, ![2, 64, 64, 16]⟩
abbrev S2x64x16x64 : Shape := ⟨4, ![2, 64, 16, 64]⟩
abbrev S2x64x16 : Shape := ⟨3, ![2, 64, 16]⟩
abbrev S2x1024 : Shape := ⟨2, ![2, 1024]⟩
abbrev S2x128 : Shape := ⟨2, ![2, 128]⟩
abbrev S2x256 : Shape := ⟨2, ![2, 256]⟩
abbrev S2x32 : Shape := ⟨2, ![2, 32]⟩
abbrev S4x2048 : Shape := ⟨2, ![4, 2048]⟩
abbrev S4096 : Shape := ⟨1, ![4096]⟩
abbrev S8192 : Shape := ⟨1, ![8192]⟩
abbrev S128 : Shape := ⟨1, ![128]⟩
abbrev S131072 : Shape := ⟨1, ![131072]⟩
abbrev S2048 : Shape := ⟨1, ![2048]⟩
abbrev S256 : Shape := ⟨1, ![256]⟩
abbrev S512 : Shape := ⟨1, ![512]⟩
abbrev S64 : Shape := ⟨1, ![64]⟩
abbrev S_ : Shape := ⟨0, ![]⟩
abbrev S552192 : Shape := ⟨1, ![552192]⟩
abbrev S560384 : Shape := ⟨1, ![560384]⟩
abbrev S589824 : Shape := ⟨1, ![589824]⟩
abbrev S4608x128 : Shape := ⟨2, ![4608, 128]⟩
abbrev S256x128 : Shape := ⟨2, ![256, 128]⟩

abbrev nBuf : Space → Nat
  | .hbm => 272
  | .vmem => 14
  | .smem => 0
  | _ => 0

abbrev hbmTy0_0 (i : Nat) : BufTy := match i % 128 with
  | 0 => ⟨S2x2048, .f32⟩
  | 1 => ⟨S2x64x64, .f32⟩
  | 2 => ⟨S2x64x64, .f32⟩
  | 3 => ⟨S2x64, .f32⟩
  | 4 => ⟨S2x64x64x16, .f32⟩
  | 5 => ⟨S2x64x64x16, .f32⟩
  | 6 => ⟨S2x64x16x64, .f32⟩
  | 7 => ⟨S2x64x16x64, .f32⟩
  | 8 => ⟨S2x64x16, .f32⟩
  | 9 => ⟨S2x1024, .f32⟩
  | 10 => ⟨S2x1024, .f32⟩
  | 11 => ⟨S2x128, .f32⟩
  | 12 => ⟨S2x256, .f32⟩
  | 13 => ⟨S2x64, .f32⟩
  | 14 => ⟨S2x64, .f32⟩
  | 15 => ⟨S2x32, .f32⟩
  | 16 => ⟨S4x2048, .f32⟩
  | 17 => ⟨S2x2048, .f32⟩
  | 18 => ⟨S2x64x64, .f32⟩
  | 19 => ⟨S2x64x64, .f32⟩
  | 20 => ⟨S2x64, .f32⟩
  | 21 => ⟨S2x64x64x16, .f32⟩
  | 22 => ⟨S2x64x64x16, .f32⟩
  | 23 => ⟨S2x64x16x64, .f32⟩
  | 24 => ⟨S2x64x16x64, .f32⟩
  | 25 => ⟨S2x64x16, .f32⟩
  | 26 => ⟨S2x1024, .f32⟩
  | 27 => ⟨S2x1024, .f32⟩
  | 28 => ⟨S2x128, .f32⟩
  | 29 => ⟨S2x256, .f32⟩
  | 30 => ⟨S2x64, .f32⟩
  | 31 => ⟨S2x64, .f32⟩
  | 32 => ⟨S2x32, .f32⟩
  | 33 => ⟨S4x2048, .f32⟩
  | 34 => ⟨S2x2048, .f32⟩
  | 35 => ⟨S2x64x64, .f32⟩
  | 36 => ⟨S2x64x64, .f32⟩
  | 37 => ⟨S2x64, .f32⟩
  | 38 => ⟨S2x64x64x16, .f32⟩
  | 39 => ⟨S2x64x64x16, .f32⟩
  | 40 => ⟨S2x64x16x64, .f32⟩
  | 41 => ⟨S2x64x16x64, .f32⟩
  | 42 => ⟨S2x64x16, .f32⟩
  | 43 => ⟨S2x1024, .f32⟩
  | 44 => ⟨S2x1024, .f32⟩
  | 45 => ⟨S2x128, .f32⟩
  | 46 => ⟨S2x256, .f32⟩
  | 47 => ⟨S2x64, .f32⟩
  | 48 => ⟨S2x64, .f32⟩
  | 49 => ⟨S2x32, .f32⟩
  | 50 => ⟨S4x2048, .f32⟩
  | 51 => ⟨S2x2048, .f32⟩
  | 52 => ⟨S2x64x64, .f32⟩
  | 53 => ⟨S2x64x64, .f32⟩
  | 54 => ⟨S2x64, .f32⟩
  | 55 => ⟨S2x64x64x16, .f32⟩
  | 56 => ⟨S2x64x64x16, .f32⟩
  | 57 => ⟨S2x64x16x64, .f32⟩
  | 58 => ⟨S2x64x16x64, .f32⟩
  | 59 => ⟨S2x64x16, .f32⟩
  | 60 => ⟨S2x1024, .f32⟩
  | 61 => ⟨S2x1024, .f32⟩
  | 62 => ⟨S2x128, .f32⟩
  | 63 => ⟨S2x256, .f32⟩
  | 64 => ⟨S2x64, .f32⟩
  | 65 => ⟨S2x64, .f32⟩
  | 66 => ⟨S2x32, .f32⟩
  | 67 => ⟨S4x2048, .f32⟩
  | 68 => ⟨S4096, .f32⟩
  | 69 => ⟨S8192, .f32⟩
  | 70 => ⟨S8192, .f32⟩
  | 71 => ⟨S128, .f32⟩
  | 72 => ⟨S131072, .f32⟩
  | 73 => ⟨S131072, .f32⟩
  | 74 => ⟨S131072, .f32⟩
  | 75 => ⟨S131072, .f32⟩
  | 76 => ⟨S2048, .f32⟩
  | 77 => ⟨S2048, .f32⟩
  | 78 => ⟨S2048, .f32⟩
  | 79 => ⟨S256, .f32⟩
  | 80 => ⟨S512, .f32⟩
  | 81 => ⟨S128, .f32⟩
  | 82 => ⟨S128, .f32⟩
  | 83 => ⟨S64, .f32⟩
  | 84 => ⟨S_, .f32⟩
  | 85 => ⟨S128, .f32⟩
  | 86 => ⟨S8192, .f32⟩
  | 87 => ⟨S552192, .f32⟩
  | 88 => ⟨S560384, .f32⟩
  | 89 => ⟨S_, .f32⟩
  | 90 => ⟨S589824, .f32⟩
  | 91 => ⟨S4608x128, .f32⟩
  | 92 => ⟨S4096, .f32⟩
  | 93 => ⟨S8192, .f32⟩
  | 94 => ⟨S8192, .f32⟩
  | 95 => ⟨S128, .f32⟩
  | 96 => ⟨S131072, .f32⟩
  | 97 => ⟨S131072, .f32⟩
  | 98 => ⟨S131072, .f32⟩
  | 99 => ⟨S131072, .f32⟩
  | 100 => ⟨S2048, .f32⟩
  | 101 => ⟨S2048, .f32⟩
  | 102 => ⟨S2048, .f32⟩
  | 103 => ⟨S256, .f32⟩
  | 104 => ⟨S512, .f32⟩
  | 105 => ⟨S128, .f32⟩
  | 106 => ⟨S128, .f32⟩
  | 107 => ⟨S64, .f32⟩
  | 108 => ⟨S_, .f32⟩
  | 109 => ⟨S128, .f32⟩
  | 110 => ⟨S8192, .f32⟩
  | 111 => ⟨S552192, .f32⟩
  | 112 => ⟨S560384, .f32⟩
  | 113 => ⟨S_, .f32⟩
  | 114 => ⟨S589824, .f32⟩
  | 115 => ⟨S4608x128, .f32⟩
  | 116 => ⟨S4096, .f32⟩
  | 117 => ⟨S8192, .f32⟩
  | 118 => ⟨S8192, .f32⟩
  | 119 => ⟨S128, .f32⟩
  | 120 => ⟨S131072, .f32⟩
  | 121 => ⟨S131072, .f32⟩
  | 122 => ⟨S131072, .f32⟩
  | 123 => ⟨S131072, .f32⟩
  | 124 => ⟨S2048, .f32⟩
  | 125 => ⟨S2048, .f32⟩
  | 126 => ⟨S2048, .f32⟩
  | 127 => ⟨S256, .f32⟩
  | _ => ⟨S2x2048, .f32⟩

abbrev hbmTy0_1 (i : Nat) : BufTy := match i % 128 with
  | 0 => ⟨S512, .f32⟩
  | 1 => ⟨S128, .f32⟩
  | 2 => ⟨S128, .f32⟩
  | 3 => ⟨S64, .f32⟩
  | 4 => ⟨S_, .f32⟩
  | 5 => ⟨S128, .f32⟩
  | 6 => ⟨S8192, .f32⟩
  | 7 => ⟨S552192, .f32⟩
  | 8 => ⟨S560384, .f32⟩
  | 9 => ⟨S_, .f32⟩
  | 10 => ⟨S589824, .f32⟩
  | 11 => ⟨S4608x128, .f32⟩
  | 12 => ⟨S4096, .f32⟩
  | 13 => ⟨S8192, .f32⟩
  | 14 => ⟨S8192, .f32⟩
  | 15 => ⟨S128, .f32⟩
  | 16 => ⟨S131072, .f32⟩
  | 17 => ⟨S131072, .f32⟩
  | 18 => ⟨S131072, .f32⟩
  | 19 => ⟨S131072, .f32⟩
  | 20 => ⟨S2048, .f32⟩
  | 21 => ⟨S2048, .f32⟩
  | 22 => ⟨S2048, .f32⟩
  | 23 => ⟨S256, .f32⟩
  | 24 => ⟨S512, .f32⟩
  | 25 => ⟨S128, .f32⟩
  | 26 => ⟨S128, .f32⟩
  | 27 => ⟨S64, .f32⟩
  | 28 => ⟨S_, .f32⟩
  | 29 => ⟨S128, .f32⟩
  | 30 => ⟨S8192, .f32⟩
  | 31 => ⟨S552192, .f32⟩
  | 32 => ⟨S560384, .f32⟩
  | 33 => ⟨S_, .f32⟩
  | 34 => ⟨S589824, .f32⟩
  | 35 => ⟨S4608x128, .f32⟩
  | 36 => ⟨S4608x128, .f32⟩
  | 37 => ⟨S4608x128, .f32⟩
  | 38 => ⟨S4608x128, .f32⟩
  | 39 => ⟨S589824, .f32⟩
  | 40 => ⟨S4096, .f32⟩
  | 41 => ⟨S2x2048, .f32⟩
  | 42 => ⟨S8192, .f32⟩
  | 43 => ⟨S2x64x64, .f32⟩
  | 44 => ⟨S8192, .f32⟩
  | 45 => ⟨S2x64x64, .f32⟩
  | 46 => ⟨S128, .f32⟩
  | 47 => ⟨S2x64, .f32⟩
  | 48 => ⟨S131072, .f32⟩
  | 49 => ⟨S2x64x64x16, .f32⟩
  | 50 => ⟨S131072, .f32⟩
  | 51 => ⟨S2x64x64x16, .f32⟩
  | 52 => ⟨S131072, .f32⟩
  | 53 => ⟨S2x64x16x64, .f32⟩
  | 54 => ⟨S131072, .f32⟩
  | 55 => ⟨S2x64x16x64, .f32⟩
  | 56 => ⟨S2048, .f32⟩
  | 57 => ⟨S2x64x16, .f32⟩
  | 58 => ⟨S2048, .f32⟩
  | 59 => ⟨S2x1024, .f32⟩
  | 60 => ⟨S2048, .f32⟩
  | 61 => ⟨S2x1024, .f32⟩
  | 62 => ⟨S256, .f32⟩
  | 63 => ⟨S2x128, .f32⟩
  | 64 => ⟨S512, .f32⟩
  | 65 => ⟨S2x256, .f32⟩
  | 66 => ⟨S128, .f32⟩
  | 67 => ⟨S2x64, .f32⟩
  | 68 => ⟨S128, .f32⟩
  | 69 => ⟨S2x64, .f32⟩
  | 70 => ⟨S64, .f32⟩
  | 71 => ⟨S2x32, .f32⟩
  | 72 => ⟨S8192, .f32⟩
  | 73 => ⟨S4x2048, .f32⟩
  | 74 => ⟨S589824, .f32⟩
  | 75 => ⟨S4096, .f32⟩
  | 76 => ⟨S2x2048, .f32⟩
  | 77 => ⟨S8192, .f32⟩
  | 78 => ⟨S2x64x64, .f32⟩
  | 79 => ⟨S8192, .f32⟩
  | 80 => ⟨S2x64x64, .f32⟩
  | 81 => ⟨S128, .f32⟩
  | 82 => ⟨S2x64, .f32⟩
  | 83 => ⟨S131072, .f32⟩
  | 84 => ⟨S2x64x64x16, .f32⟩
  | 85 => ⟨S131072, .f32⟩
  | 86 => ⟨S2x64x64x16, .f32⟩
  | 87 => ⟨S131072, .f32⟩
  | 88 => ⟨S2x64x16x64, .f32⟩
  | 89 => ⟨S131072, .f32⟩
  | 90 => ⟨S2x64x16x64, .f32⟩
  | 91 => ⟨S2048, .f32⟩
  | 92 => ⟨S2x64x16, .f32⟩
  | 93 => ⟨S2048, .f32⟩
  | 94 => ⟨S2x1024, .f32⟩
  | 95 => ⟨S2048, .f32⟩
  | 96 => ⟨S2x1024, .f32⟩
  | 97 => ⟨S256, .f32⟩
  | 98 => ⟨S2x128, .f32⟩
  | 99 => ⟨S512, .f32⟩
  | 100 => ⟨S2x256, .f32⟩
  | 101 => ⟨S128, .f32⟩
  | 102 => ⟨S2x64, .f32⟩
  | 103 => ⟨S128, .f32⟩
  | 104 => ⟨S2x64, .f32⟩
  | 105 => ⟨S64, .f32⟩
  | 106 => ⟨S2x32, .f32⟩
  | 107 => ⟨S8192, .f32⟩
  | 108 => ⟨S4x2048, .f32⟩
  | 109 => ⟨S589824, .f32⟩
  | 110 => ⟨S4096, .f32⟩
  | 111 => ⟨S2x2048, .f32⟩
  | 112 => ⟨S8192, .f32⟩
  | 113 => ⟨S2x64x64, .f32⟩
  | 114 => ⟨S8192, .f32⟩
  | 115 => ⟨S2x64x64, .f32⟩
  | 116 => ⟨S128, .f32⟩
  | 117 => ⟨S2x64, .f32⟩
  | 118 => ⟨S131072, .f32⟩
  | 119 => ⟨S2x64x64x16, .f32⟩
  | 120 => ⟨S131072, .f32⟩
  | 121 => ⟨S2x64x64x16, .f32⟩
  | 122 => ⟨S131072, .f32⟩
  | 123 => ⟨S2x64x16x64, .f32⟩
  | 124 => ⟨S131072, .f32⟩
  | 125 => ⟨S2x64x16x64, .f32⟩
  | 126 => ⟨S2048, .f32⟩
  | 127 => ⟨S2x64x16, .f32⟩
  | _ => ⟨S2x2048, .f32⟩

abbrev hbmTy0_2 (i : Nat) : BufTy := match i % 128 with
  | 0 => ⟨S2048, .f32⟩
  | 1 => ⟨S2x1024, .f32⟩
  | 2 => ⟨S2048, .f32⟩
  | 3 => ⟨S2x1024, .f32⟩
  | 4 => ⟨S256, .f32⟩
  | 5 => ⟨S2x128, .f32⟩
  | 6 => ⟨S512, .f32⟩
  | 7 => ⟨S2x256, .f32⟩
  | 8 => ⟨S128, .f32⟩
  | 9 => ⟨S2x64, .f32⟩
  | 10 => ⟨S128, .f32⟩
  | 11 => ⟨S2x64, .f32⟩
  | 12 => ⟨S64, .f32⟩
  | 13 => ⟨S2x32, .f32⟩
  | 14 => ⟨S8192, .f32⟩
  | 15 => ⟨S4x2048, .f32⟩
  | _ => ⟨S2x2048, .f32⟩

abbrev hbmTy (i : Nat) : BufTy := match i / 128 with
  | 0 => hbmTy0_0 i
  | 1 => hbmTy0_1 i
  | 2 => hbmTy0_2 i
  | _ => ⟨S2x2048, .f32⟩

abbrev bufTy : (tb : Table) → Fin (tcTables nBuf tb) → BufTy
  | .hbm, ⟨i, _⟩ => hbmTy i
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_arg61 : Ref sig .tc := ⟨.hbm, 61, rfl⟩
abbrev main_arg62 : Ref sig .tc := ⟨.hbm, 62, rfl⟩
abbrev main_arg63 : Ref sig .tc := ⟨.hbm, 63, rfl⟩
abbrev main_arg64 : Ref sig .tc := ⟨.hbm, 64, rfl⟩
abbrev main_arg65 : Ref sig .tc := ⟨.hbm, 65, rfl⟩
abbrev main_arg66 : Ref sig .tc := ⟨.hbm, 66, rfl⟩
abbrev main_arg67 : Ref sig .tc := ⟨.hbm, 67, rfl⟩
abbrev main_v0 : Ref sig .tc := ⟨.hbm, 68, rfl⟩
abbrev main_v1 : Ref sig .tc := ⟨.hbm, 69, rfl⟩
abbrev main_v2 : Ref sig .tc := ⟨.hbm, 70, rfl⟩
abbrev main_v3 : Ref sig .tc := ⟨.hbm, 71, rfl⟩
abbrev main_v4 : Ref sig .tc := ⟨.hbm, 72, rfl⟩
abbrev main_v5 : Ref sig .tc := ⟨.hbm, 73, rfl⟩
abbrev main_v6 : Ref sig .tc := ⟨.hbm, 74, rfl⟩
abbrev main_v7 : Ref sig .tc := ⟨.hbm, 75, rfl⟩
abbrev main_v8 : Ref sig .tc := ⟨.hbm, 76, rfl⟩
abbrev main_v9 : Ref sig .tc := ⟨.hbm, 77, rfl⟩
abbrev main_v10 : Ref sig .tc := ⟨.hbm, 78, rfl⟩
abbrev main_v11 : Ref sig .tc := ⟨.hbm, 79, rfl⟩
abbrev main_v12 : Ref sig .tc := ⟨.hbm, 80, rfl⟩
abbrev main_v13 : Ref sig .tc := ⟨.hbm, 81, rfl⟩
abbrev main_v14 : Ref sig .tc := ⟨.hbm, 82, rfl⟩
abbrev main_v15 : Ref sig .tc := ⟨.hbm, 83, rfl⟩
abbrev main_cst : Ref sig .tc := ⟨.hbm, 84, rfl⟩
abbrev main_v16 : Ref sig .tc := ⟨.hbm, 85, rfl⟩
abbrev main_v17 : Ref sig .tc := ⟨.hbm, 86, rfl⟩
abbrev main_v18 : Ref sig .tc := ⟨.hbm, 87, rfl⟩
abbrev main_v19 : Ref sig .tc := ⟨.hbm, 88, rfl⟩
abbrev main_cst_0 : Ref sig .tc := ⟨.hbm, 89, rfl⟩
abbrev main_v20 : Ref sig .tc := ⟨.hbm, 90, rfl⟩
abbrev main_v21 : Ref sig .tc := ⟨.hbm, 91, rfl⟩
abbrev main_v22 : Ref sig .tc := ⟨.hbm, 92, rfl⟩
abbrev main_v23 : Ref sig .tc := ⟨.hbm, 93, rfl⟩
abbrev main_v24 : Ref sig .tc := ⟨.hbm, 94, rfl⟩
abbrev main_v25 : Ref sig .tc := ⟨.hbm, 95, rfl⟩
abbrev main_v26 : Ref sig .tc := ⟨.hbm, 96, rfl⟩
abbrev main_v27 : Ref sig .tc := ⟨.hbm, 97, rfl⟩
abbrev main_v28 : Ref sig .tc := ⟨.hbm, 98, rfl⟩
abbrev main_v29 : Ref sig .tc := ⟨.hbm, 99, rfl⟩
abbrev main_v30 : Ref sig .tc := ⟨.hbm, 100, rfl⟩
abbrev main_v31 : Ref sig .tc := ⟨.hbm, 101, rfl⟩
abbrev main_v32 : Ref sig .tc := ⟨.hbm, 102, rfl⟩
abbrev main_v33 : Ref sig .tc := ⟨.hbm, 103, rfl⟩
abbrev main_v34 : Ref sig .tc := ⟨.hbm, 104, rfl⟩
abbrev main_v35 : Ref sig .tc := ⟨.hbm, 105, rfl⟩
abbrev main_v36 : Ref sig .tc := ⟨.hbm, 106, rfl⟩
abbrev main_v37 : Ref sig .tc := ⟨.hbm, 107, rfl⟩
abbrev main_cst_1 : Ref sig .tc := ⟨.hbm, 108, rfl⟩
abbrev main_v38 : Ref sig .tc := ⟨.hbm, 109, rfl⟩
abbrev main_v39 : Ref sig .tc := ⟨.hbm, 110, rfl⟩
abbrev main_v40 : Ref sig .tc := ⟨.hbm, 111, rfl⟩
abbrev main_v41 : Ref sig .tc := ⟨.hbm, 112, rfl⟩
abbrev main_cst_2 : Ref sig .tc := ⟨.hbm, 113, rfl⟩
abbrev main_v42 : Ref sig .tc := ⟨.hbm, 114, rfl⟩
abbrev main_v43 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_v47 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_cst_3 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_cst_4 : Ref sig .tc := ⟨.hbm, 137, rfl⟩
abbrev main_v64 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩
abbrev main_v81 : Ref sig .tc := ⟨.hbm, 155, rfl⟩
abbrev main_cst_5 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_cst_6 : Ref sig .tc := ⟨.hbm, 161, rfl⟩
abbrev main_v86 : Ref sig .tc := ⟨.hbm, 162, rfl⟩
abbrev main_v87 : Ref sig .tc := ⟨.hbm, 163, rfl⟩
abbrev main_v88_0 : Ref sig .tc := ⟨.hbm, 164, rfl⟩
abbrev main_v88_1 : Ref sig .tc := ⟨.hbm, 165, rfl⟩
abbrev main_v88_2 : Ref sig .tc := ⟨.hbm, 166, rfl⟩
abbrev main_v89 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_v112 : Ref sig .tc := ⟨.hbm, 190, rfl⟩
abbrev main_v113 : Ref sig .tc := ⟨.hbm, 191, rfl⟩
abbrev main_v114 : Ref sig .tc := ⟨.hbm, 192, rfl⟩
abbrev main_v115 : Ref sig .tc := ⟨.hbm, 193, rfl⟩
abbrev main_v116 : Ref sig .tc := ⟨.hbm, 194, rfl⟩
abbrev main_v117 : Ref sig .tc := ⟨.hbm, 195, rfl⟩
abbrev main_v118 : Ref sig .tc := ⟨.hbm, 196, rfl⟩
abbrev main_v119 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_v151 : Ref sig .tc := ⟨.hbm, 229, rfl⟩
abbrev main_v152 : Ref sig .tc := ⟨.hbm, 230, rfl⟩
abbrev main_v153 : Ref sig .tc := ⟨.hbm, 231, rfl⟩
abbrev main_v154 : Ref sig .tc := ⟨.hbm, 232, rfl⟩
abbrev main_v155 : Ref sig .tc := ⟨.hbm, 233, rfl⟩
abbrev main_v156 : Ref sig .tc := ⟨.hbm, 234, rfl⟩
abbrev main_v157 : Ref sig .tc := ⟨.hbm, 235, rfl⟩
abbrev main_v158 : Ref sig .tc := ⟨.hbm, 236, rfl⟩
abbrev main_v159 : Ref sig .tc := ⟨.hbm, 237, rfl⟩
abbrev main_v160 : Ref sig .tc := ⟨.hbm, 238, rfl⟩
abbrev main_v161 : Ref sig .tc := ⟨.hbm, 239, rfl⟩
abbrev main_v162 : Ref sig .tc := ⟨.hbm, 240, rfl⟩
abbrev main_v163 : Ref sig .tc := ⟨.hbm, 241, rfl⟩
abbrev main_v164 : Ref sig .tc := ⟨.hbm, 242, rfl⟩
abbrev main_v165 : Ref sig .tc := ⟨.hbm, 243, rfl⟩
abbrev main_v166 : Ref sig .tc := ⟨.hbm, 244, rfl⟩
abbrev main_v167 : Ref sig .tc := ⟨.hbm, 245, rfl⟩
abbrev main_v168 : Ref sig .tc := ⟨.hbm, 246, rfl⟩
abbrev main_v169 : Ref sig .tc := ⟨.hbm, 247, rfl⟩
abbrev main_v170 : Ref sig .tc := ⟨.hbm, 248, rfl⟩
abbrev main_v171 : Ref sig .tc := ⟨.hbm, 249, rfl⟩
abbrev main_v172 : Ref sig .tc := ⟨.hbm, 250, rfl⟩
abbrev main_v173 : Ref sig .tc := ⟨.hbm, 251, rfl⟩
abbrev main_v174 : Ref sig .tc := ⟨.hbm, 252, rfl⟩
abbrev main_v175 : Ref sig .tc := ⟨.hbm, 253, rfl⟩
abbrev main_v176 : Ref sig .tc := ⟨.hbm, 254, rfl⟩
abbrev main_v177 : Ref sig .tc := ⟨.hbm, 255, rfl⟩
abbrev main_v178 : Ref sig .tc := ⟨.hbm, 256, rfl⟩
abbrev main_v179 : Ref sig .tc := ⟨.hbm, 257, rfl⟩
abbrev main_v180 : Ref sig .tc := ⟨.hbm, 258, rfl⟩
abbrev main_v181 : Ref sig .tc := ⟨.hbm, 259, rfl⟩
abbrev main_v182 : Ref sig .tc := ⟨.hbm, 260, rfl⟩
abbrev main_v183 : Ref sig .tc := ⟨.hbm, 261, rfl⟩
abbrev main_v184 : Ref sig .tc := ⟨.hbm, 262, rfl⟩
abbrev main_v185 : Ref sig .tc := ⟨.hbm, 263, rfl⟩
abbrev main_v186 : Ref sig .tc := ⟨.hbm, 264, rfl⟩
abbrev main_v187 : Ref sig .tc := ⟨.hbm, 265, rfl⟩
abbrev main_v188 : Ref sig .tc := ⟨.hbm, 266, rfl⟩
abbrev main_v189 : Ref sig .tc := ⟨.hbm, 267, rfl⟩
abbrev main_v190 : Ref sig .tc := ⟨.hbm, 268, rfl⟩
abbrev main_v191 : Ref sig .tc := ⟨.hbm, 269, rfl⟩
abbrev main_v192 : Ref sig .tc := ⟨.hbm, 270, rfl⟩
abbrev main_v193 : Ref sig .tc := ⟨.hbm, 271, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference26Ideal.lean ====
abbrev S2x2048 : Shape := ⟨2, ![2, 2048]⟩
abbrev S2x64x64 : Shape := ⟨3, ![2, 64, 64]⟩
abbrev S2x64 : Shape := ⟨2, ![2, 64]⟩
abbrev S2x64x64x16 : Shape := ⟨4, ![2, 64, 64, 16]⟩
abbrev S2x64x16x64 : Shape := ⟨4, ![2, 64, 16, 64]⟩
abbrev S2x64x16 : Shape := ⟨3, ![2, 64, 16]⟩
abbrev S2x1024 : Shape := ⟨2, ![2, 1024]⟩
abbrev S2x128 : Shape := ⟨2, ![2, 128]⟩
abbrev S2x256 : Shape := ⟨2, ![2, 256]⟩
abbrev S2x32 : Shape := ⟨2, ![2, 32]⟩
abbrev S4x2048 : Shape := ⟨2, ![4, 2048]⟩
abbrev S_ : Shape := ⟨0, ![]⟩

abbrev nBuf : Space → Nat
  | .hbm => 629
  | .vmem => 0
  | .smem => 0
  | _ => 0

abbrev hbmTy0_0 (i : Nat) : BufTy := match i % 128 with
  | 0 => ⟨S2x2048, .f32⟩
  | 1 => ⟨S2x64x64, .f32⟩
  | 2 => ⟨S2x64x64, .f32⟩
  | 3 => ⟨S2x64, .f32⟩
  | 4 => ⟨S2x64x64x16, .f32⟩
  | 5 => ⟨S2x64x64x16, .f32⟩
  | 6 => ⟨S2x64x16x64, .f32⟩
  | 7 => ⟨S2x64x16x64, .f32⟩
  | 8 => ⟨S2x64x16, .f32⟩
  | 9 => ⟨S2x1024, .f32⟩
  | 10 => ⟨S2x1024, .f32⟩
  | 11 => ⟨S2x128, .f32⟩
  | 12 => ⟨S2x256, .f32⟩
  | 13 => ⟨S2x64, .f32⟩
  | 14 => ⟨S2x64, .f32⟩
  | 15 => ⟨S2x32, .f32⟩
  | 16 => ⟨S4x2048, .f32⟩
  | 17 => ⟨S2x2048, .f32⟩
  | 18 => ⟨S2x64x64, .f32⟩
  | 19 => ⟨S2x64x64, .f32⟩
  | 20 => ⟨S2x64, .f32⟩
  | 21 => ⟨S2x64x64x16, .f32⟩
  | 22 => ⟨S2x64x64x16, .f32⟩
  | 23 => ⟨S2x64x16x64, .f32⟩
  | 24 => ⟨S2x64x16x64, .f32⟩
  | 25 => ⟨S2x64x16, .f32⟩
  | 26 => ⟨S2x1024, .f32⟩
  | 27 => ⟨S2x1024, .f32⟩
  | 28 => ⟨S2x128, .f32⟩
  | 29 => ⟨S2x256, .f32⟩
  | 30 => ⟨S2x64, .f32⟩
  | 31 => ⟨S2x64, .f32⟩
  | 32 => ⟨S2x32, .f32⟩
  | 33 => ⟨S4x2048, .f32⟩
  | 34 => ⟨S2x2048, .f32⟩
  | 35 => ⟨S2x64x64, .f32⟩
  | 36 => ⟨S2x64x64, .f32⟩
  | 37 => ⟨S2x64, .f32⟩
  | 38 => ⟨S2x64x64x16, .f32⟩
  | 39 => ⟨S2x64x64x16, .f32⟩
  | 40 => ⟨S2x64x16x64, .f32⟩
  | 41 => ⟨S2x64x16x64, .f32⟩
  | 42 => ⟨S2x64x16, .f32⟩
  | 43 => ⟨S2x1024, .f32⟩
  | 44 => ⟨S2x1024, .f32⟩
  | 45 => ⟨S2x128, .f32⟩
  | 46 => ⟨S2x256, .f32⟩
  | 47 => ⟨S2x64, .f32⟩
  | 48 => ⟨S2x64, .f32⟩
  | 49 => ⟨S2x32, .f32⟩
  | 50 => ⟨S4x2048, .f32⟩
  | 51 => ⟨S2x2048, .f32⟩
  | 52 => ⟨S2x64x64, .f32⟩
  | 53 => ⟨S2x64x64, .f32⟩
  | 54 => ⟨S2x64, .f32⟩
  | 55 => ⟨S2x64x64x16, .f32⟩
  | 56 => ⟨S2x64x64x16, .f32⟩
  | 57 => ⟨S2x64x16x64, .f32⟩
  | 58 => ⟨S2x64x16x64, .f32⟩
  | 59 => ⟨S2x64x16, .f32⟩
  | 60 => ⟨S2x1024, .f32⟩
  | 61 => ⟨S2x1024, .f32⟩
  | 62 => ⟨S2x128, .f32⟩
  | 63 => ⟨S2x256, .f32⟩
  | 64 => ⟨S2x64, .f32⟩
  | 65 => ⟨S2x64, .f32⟩
  | 66 => ⟨S2x32, .f32⟩
  | 67 => ⟨S4x2048, .f32⟩
  | 68 => ⟨S_, .f32⟩
  | 69 => ⟨S2x2048, .f32⟩
  | 70 => ⟨S2x2048, .f32⟩
  | 71 => ⟨S_, .f32⟩
  | 72 => ⟨S2x2048, .f32⟩
  | 73 => ⟨S2x2048, .f32⟩
  | 74 => ⟨S2x2048, .f32⟩
  | 75 => ⟨S_, .f32⟩
  | 76 => ⟨S2x2048, .f32⟩
  | 77 => ⟨S2x2048, .f32⟩
  | 78 => ⟨S2x2048, .f32⟩
  | 79 => ⟨S_, .f32⟩
  | 80 => ⟨S2x2048, .f32⟩
  | 81 => ⟨S2x2048, .f32⟩
  | 82 => ⟨S2x2048, .f32⟩
  | 83 => ⟨S_, .f32⟩
  | 84 => ⟨S2x2048, .f32⟩
  | 85 => ⟨S2x2048, .f32⟩
  | 86 => ⟨S_, .f32⟩
  | 87 => ⟨S2x2048, .f32⟩
  | 88 => ⟨S2x2048, .f32⟩
  | 89 => ⟨S2x2048, .f32⟩
  | 90 => ⟨S_, .f32⟩
  | 91 => ⟨S2x2048, .f32⟩
  | 92 => ⟨S2x2048, .f32⟩
  | 93 => ⟨S2x2048, .f32⟩
  | 94 => ⟨S_, .f32⟩
  | 95 => ⟨S2x2048, .f32⟩
  | 96 => ⟨S2x2048, .f32⟩
  | 97 => ⟨S2x2048, .f32⟩
  | 98 => ⟨S_, .f32⟩
  | 99 => ⟨S2x2048, .f32⟩
  | 100 => ⟨S2x2048, .f32⟩
  | 101 => ⟨S_, .f32⟩
  | 102 => ⟨S2x64x64, .f32⟩
  | 103 => ⟨S2x64x64, .f32⟩
  | 104 => ⟨S_, .f32⟩
  | 105 => ⟨S2x64x64, .f32⟩
  | 106 => ⟨S2x64x64, .f32⟩
  | 107 => ⟨S2x64x64, .f32⟩
  | 108 => ⟨S_, .f32⟩
  | 109 => ⟨S2x64x64, .f32⟩
  | 110 => ⟨S2x64x64, .f32⟩
  | 111 => ⟨S2x64x64, .f32⟩
  | 112 => ⟨S_, .f32⟩
  | 113 => ⟨S2x64x64, .f32⟩
  | 114 => ⟨S2x64x64, .f32⟩
  | 115 => ⟨S2x64x64, .f32⟩
  | 116 => ⟨S_, .f32⟩
  | 117 => ⟨S2x64x64, .f32⟩
  | 118 => ⟨S2x64x64, .f32⟩
  | 119 => ⟨S_, .f32⟩
  | 120 => ⟨S2x64x64, .f32⟩
  | 121 => ⟨S2x64x64, .f32⟩
  | 122 => ⟨S2x64x64, .f32⟩
  | 123 => ⟨S_, .f32⟩
  | 124 => ⟨S2x64x64, .f32⟩
  | 125 => ⟨S2x64x64, .f32⟩
  | 126 => ⟨S2x64x64, .f32⟩
  | 127 => ⟨S_, .f32⟩
  | _ => ⟨S2x2048, .f32⟩

abbrev hbmTy0_1 (i : Nat) : BufTy := match i % 128 with
  | 0 => ⟨S2x64x64, .f32⟩
  | 1 => ⟨S2x64x64, .f32⟩
  | 2 => ⟨S2x64x64, .f32⟩
  | 3 => ⟨S_, .f32⟩
  | 4 => ⟨S2x64x64, .f32⟩
  | 5 => ⟨S2x64x64, .f32⟩
  | 6 => ⟨S_, .f32⟩
  | 7 => ⟨S2x64x64, .f32⟩
  | 8 => ⟨S2x64x64, .f32⟩
  | 9 => ⟨S_, .f32⟩
  | 10 => ⟨S2x64x64, .f32⟩
  | 11 => ⟨S2x64x64, .f32⟩
  | 12 => ⟨S2x64x64, .f32⟩
  | 13 => ⟨S_, .f32⟩
  | 14 => ⟨S2x64x64, .f32⟩
  | 15 => ⟨S2x64x64, .f32⟩
  | 16 => ⟨S2x64x64, .f32⟩
  | 17 => ⟨S_, .f32⟩
  | 18 => ⟨S2x64x64, .f32⟩
  | 19 => ⟨S2x64x64, .f32⟩
  | 20 => ⟨S2x64x64, .f32⟩
  | 21 => ⟨S_, .f32⟩
  | 22 => ⟨S2x64x64, .f32⟩
  | 23 => ⟨S2x64x64, .f32⟩
  | 24 => ⟨S_, .f32⟩
  | 25 => ⟨S2x64x64, .f32⟩
  | 26 => ⟨S2x64x64, .f32⟩
  | 27 => ⟨S2x64x64, .f32⟩
  | 28 => ⟨S_, .f32⟩
  | 29 => ⟨S2x64x64, .f32⟩
  | 30 => ⟨S2x64x64, .f32⟩
  | 31 => ⟨S2x64x64, .f32⟩
  | 32 => ⟨S_, .f32⟩
  | 33 => ⟨S2x64x64, .f32⟩
  | 34 => ⟨S2x64x64, .f32⟩
  | 35 => ⟨S2x64x64, .f32⟩
  | 36 => ⟨S_, .f32⟩
  | 37 => ⟨S2x64x64, .f32⟩
  | 38 => ⟨S2x64x64, .f32⟩
  | 39 => ⟨S_, .f32⟩
  | 40 => ⟨S2x64, .f32⟩
  | 41 => ⟨S2x64, .f32⟩
  | 42 => ⟨S_, .f32⟩
  | 43 => ⟨S2x64, .f32⟩
  | 44 => ⟨S2x64, .f32⟩
  | 45 => ⟨S2x64, .f32⟩
  | 46 => ⟨S_, .f32⟩
  | 47 => ⟨S2x64, .f32⟩
  | 48 => ⟨S2x64, .f32⟩
  | 49 => ⟨S2x64, .f32⟩
  | 50 => ⟨S_, .f32⟩
  | 51 => ⟨S2x64, .f32⟩
  | 52 => ⟨S2x64, .f32⟩
  | 53 => ⟨S2x64, .f32⟩
  | 54 => ⟨S_, .f32⟩
  | 55 => ⟨S2x64, .f32⟩
  | 56 => ⟨S2x64, .f32⟩
  | 57 => ⟨S_, .f32⟩
  | 58 => ⟨S2x64, .f32⟩
  | 59 => ⟨S2x64, .f32⟩
  | 60 => ⟨S2x64, .f32⟩
  | 61 => ⟨S_, .f32⟩
  | 62 => ⟨S2x64, .f32⟩
  | 63 => ⟨S2x64, .f32⟩
  | 64 => ⟨S2x64, .f32⟩
  | 65 => ⟨S_, .f32⟩
  | 66 => ⟨S2x64, .f32⟩
  | 67 => ⟨S2x64, .f32⟩
  | 68 => ⟨S2x64, .f32⟩
  | 69 => ⟨S_, .f32⟩
  | 70 => ⟨S2x64, .f32⟩
  | 71 => ⟨S2x64, .f32⟩
  | 72 => ⟨S_, .f32⟩
  | 73 => ⟨S2x64x64x16, .f32⟩
  | 74 => ⟨S2x64x64x16, .f32⟩
  | 75 => ⟨S_, .f32⟩
  | 76 => ⟨S2x64x64x16, .f32⟩
  | 77 => ⟨S2x64x64x16, .f32⟩
  | 78 => ⟨S2x64x64x16, .f32⟩
  | 79 => ⟨S_, .f32⟩
  | 80 => ⟨S2x64x64x16, .f32⟩
  | 81 => ⟨S2x64x64x16, .f32⟩
  | 82 => ⟨S2x64x64x16, .f32⟩
  | 83 => ⟨S_, .f32⟩
  | 84 => ⟨S2x64x64x16, .f32⟩
  | 85 => ⟨S2x64x64x16, .f32⟩
  | 86 => ⟨S2x64x64x16, .f32⟩
  | 87 => ⟨S_, .f32⟩
  | 88 => ⟨S2x64x64x16, .f32⟩
  | 89 => ⟨S2x64x64x16, .f32⟩
  | 90 => ⟨S_, .f32⟩
  | 91 => ⟨S2x64x64x16, .f32⟩
  | 92 => ⟨S2x64x64x16, .f32⟩
  | 93 => ⟨S2x64x64x16, .f32⟩
  | 94 => ⟨S_, .f32⟩
  | 95 => ⟨S2x64x64x16, .f32⟩
  | 96 => ⟨S2x64x64x16, .f32⟩
  | 97 => ⟨S2x64x64x16, .f32⟩
  | 98 => ⟨S_, .f32⟩
  | 99 => ⟨S2x64x64x16, .f32⟩
  | 100 => ⟨S2x64x64x16, .f32⟩
  | 101 => ⟨S2x64x64x16, .f32⟩
  | 102 => ⟨S_, .f32⟩
  | 103 => ⟨S2x64x64x16, .f32⟩
  | 104 => ⟨S2x64x64x16, .f32⟩
  | 105 => ⟨S_, .f32⟩
  | 106 => ⟨S2x64x64x16, .f32⟩
  | 107 => ⟨S2x64x64x16, .f32⟩
  | 108 => ⟨S_, .f32⟩
  | 109 => ⟨S2x64x64x16, .f32⟩
  | 110 => ⟨S2x64x64x16, .f32⟩
  | 111 => ⟨S2x64x64x16, .f32⟩
  | 112 => ⟨S_, .f32⟩
  | 113 => ⟨S2x64x64x16, .f32⟩
  | 114 => ⟨S2x64x64x16, .f32⟩
  | 115 => ⟨S2x64x64x16, .f32⟩
  | 116 => ⟨S_, .f32⟩
  | 117 => ⟨S2x64x64x16, .f32⟩
  | 118 => ⟨S2x64x64x16, .f32⟩
  | 119 => ⟨S2x64x64x16, .f32⟩
  | 120 => ⟨S_, .f32⟩
  | 121 => ⟨S2x64x64x16, .f32⟩
  | 122 => ⟨S2x64x64x16, .f32⟩
  | 123 => ⟨S_, .f32⟩
  | 124 => ⟨S2x64x64x16, .f32⟩
  | 125 => ⟨S2x64x64x16, .f32⟩
  | 126 => ⟨S2x64x64x16, .f32⟩
  | 127 => ⟨S_, .f32⟩
  | _ => ⟨S2x2048, .f32⟩

abbrev hbmTy0_2 (i : Nat) : BufTy := match i % 128 with
  | 0 => ⟨S2x64x64x16, .f32⟩
  | 1 => ⟨S2x64x64x16, .f32⟩
  | 2 => ⟨S2x64x64x16, .f32⟩
  | 3 => ⟨S_, .f32⟩
  | 4 => ⟨S2x64x64x16, .f32⟩
  | 5 => ⟨S2x64x64x16, .f32⟩
  | 6 => ⟨S2x64x64x16, .f32⟩
  | 7 => ⟨S_, .f32⟩
  | 8 => ⟨S2x64x64x16, .f32⟩
  | 9 => ⟨S2x64x64x16, .f32⟩
  | 10 => ⟨S_, .f32⟩
  | 11 => ⟨S2x64x16x64, .f32⟩
  | 12 => ⟨S2x64x16x64, .f32⟩
  | 13 => ⟨S_, .f32⟩
  | 14 => ⟨S2x64x16x64, .f32⟩
  | 15 => ⟨S2x64x16x64, .f32⟩
  | 16 => ⟨S2x64x16x64, .f32⟩
  | 17 => ⟨S_, .f32⟩
  | 18 => ⟨S2x64x16x64, .f32⟩
  | 19 => ⟨S2x64x16x64, .f32⟩
  | 20 => ⟨S2x64x16x64, .f32⟩
  | 21 => ⟨S_, .f32⟩
  | 22 => ⟨S2x64x16x64, .f32⟩
  | 23 => ⟨S2x64x16x64, .f32⟩
  | 24 => ⟨S2x64x16x64, .f32⟩
  | 25 => ⟨S_, .f32⟩
  | 26 => ⟨S2x64x16x64, .f32⟩
  | 27 => ⟨S2x64x16x64, .f32⟩
  | 28 => ⟨S_, .f32⟩
  | 29 => ⟨S2x64x16x64, .f32⟩
  | 30 => ⟨S2x64x16x64, .f32⟩
  | 31 => ⟨S2x64x16x64, .f32⟩
  | 32 => ⟨S_, .f32⟩
  | 33 => ⟨S2x64x16x64, .f32⟩
  | 34 => ⟨S2x64x16x64, .f32⟩
  | 35 => ⟨S2x64x16x64, .f32⟩
  | 36 => ⟨S_, .f32⟩
  | 37 => ⟨S2x64x16x64, .f32⟩
  | 38 => ⟨S2x64x16x64, .f32⟩
  | 39 => ⟨S2x64x16x64, .f32⟩
  | 40 => ⟨S_, .f32⟩
  | 41 => ⟨S2x64x16x64, .f32⟩
  | 42 => ⟨S2x64x16x64, .f32⟩
  | 43 => ⟨S_, .f32⟩
  | 44 => ⟨S2x64x16x64, .f32⟩
  | 45 => ⟨S2x64x16x64, .f32⟩
  | 46 => ⟨S_, .f32⟩
  | 47 => ⟨S2x64x16x64, .f32⟩
  | 48 => ⟨S2x64x16x64, .f32⟩
  | 49 => ⟨S2x64x16x64, .f32⟩
  | 50 => ⟨S_, .f32⟩
  | 51 => ⟨S2x64x16x64, .f32⟩
  | 52 => ⟨S2x64x16x64, .f32⟩
  | 53 => ⟨S2x64x16x64, .f32⟩
  | 54 => ⟨S_, .f32⟩
  | 55 => ⟨S2x64x16x64, .f32⟩
  | 56 => ⟨S2x64x16x64, .f32⟩
  | 57 => ⟨S2x64x16x64, .f32⟩
  | 58 => ⟨S_, .f32⟩
  | 59 => ⟨S2x64x16x64, .f32⟩
  | 60 => ⟨S2x64x16x64, .f32⟩
  | 61 => ⟨S_, .f32⟩
  | 62 => ⟨S2x64x16x64, .f32⟩
  | 63 => ⟨S2x64x16x64, .f32⟩
  | 64 => ⟨S2x64x16x64, .f32⟩
  | 65 => ⟨S_, .f32⟩
  | 66 => ⟨S2x64x16x64, .f32⟩
  | 67 => ⟨S2x64x16x64, .f32⟩
  | 68 => ⟨S2x64x16x64, .f32⟩
  | 69 => ⟨S_, .f32⟩
  | 70 => ⟨S2x64x16x64, .f32⟩
  | 71 => ⟨S2x64x16x64, .f32⟩
  | 72 => ⟨S2x64x16x64, .f32⟩
  | 73 => ⟨S_, .f32⟩
  | 74 => ⟨S2x64x16x64, .f32⟩
  | 75 => ⟨S2x64x16x64, .f32⟩
  | 76 => ⟨S_, .f32⟩
  | 77 => ⟨S2x64x16, .f32⟩
  | 78 => ⟨S2x64x16, .f32⟩
  | 79 => ⟨S_, .f32⟩
  | 80 => ⟨S2x64x16, .f32⟩
  | 81 => ⟨S2x64x16, .f32⟩
  | 82 => ⟨S2x64x16, .f32⟩
  | 83 => ⟨S_, .f32⟩
  | 84 => ⟨S2x64x16, .f32⟩
  | 85 => ⟨S2x64x16, .f32⟩
  | 86 => ⟨S2x64x16, .f32⟩
  | 87 => ⟨S_, .f32⟩
  | 88 => ⟨S2x64x16, .f32⟩
  | 89 => ⟨S2x64x16, .f32⟩
  | 90 => ⟨S2x64x16, .f32⟩
  | 91 => ⟨S_, .f32⟩
  | 92 => ⟨S2x64x16, .f32⟩
  | 93 => ⟨S2x64x16, .f32⟩
  | 94 => ⟨S_, .f32⟩
  | 95 => ⟨S2x64x16, .f32⟩
  | 96 => ⟨S2x64x16, .f32⟩
  | 97 => ⟨S2x64x16, .f32⟩
  | 98 => ⟨S_, .f32⟩
  | 99 => ⟨S2x64x16, .f32⟩
  | 100 => ⟨S2x64x16, .f32⟩
  | 101 => ⟨S2x64x16, .f32⟩
  | 102 => ⟨S_, .f32⟩
  | 103 => ⟨S2x64x16, .f32⟩
  | 104 => ⟨S2x64x16, .f32⟩
  | 105 => ⟨S2x64x16, .f32⟩
  | 106 => ⟨S_, .f32⟩
  | 107 => ⟨S2x64x16, .f32⟩
  | 108 => ⟨S2x64x16, .f32⟩
  | 109 => ⟨S_, .f32⟩
  | 110 => ⟨S2x1024, .f32⟩
  | 111 => ⟨S2x1024, .f32⟩
  | 112 => ⟨S_, .f32⟩
  | 113 => ⟨S2x1024, .f32⟩
  | 114 => ⟨S2x1024, .f32⟩
  | 115 => ⟨S2x1024, .f32⟩
  | 116 => ⟨S_, .f32⟩
  | 117 => ⟨S2x1024, .f32⟩
  | 118 => ⟨S2x1024, .f32⟩
  | 119 => ⟨S2x1024, .f32⟩
  | 120 => ⟨S_, .f32⟩
  | 121 => ⟨S2x1024, .f32⟩
  | 122 => ⟨S2x1024, .f32⟩
  | 123 => ⟨S2x1024, .f32⟩
  | 124 => ⟨S_, .f32⟩
  | 125 => ⟨S2x1024, .f32⟩
  | 126 => ⟨S2x1024, .f32⟩
  | 127 => ⟨S_, .f32⟩
  | _ => ⟨S2x2048, .f32⟩

abbrev hbmTy0_3 (i : Nat) : BufTy := match i % 128 with
  | 0 => ⟨S2x1024, .f32⟩
  | 1 => ⟨S2x1024, .f32⟩
  | 2 => ⟨S2x1024, .f32⟩
  | 3 => ⟨S_, .f32⟩
  | 4 => ⟨S2x1024, .f32⟩
  | 5 => ⟨S2x1024, .f32⟩
  | 6 => ⟨S2x1024, .f32⟩
  | 7 => ⟨S_, .f32⟩
  | 8 => ⟨S2x1024, .f32⟩
  | 9 => ⟨S2x1024, .f32⟩
  | 10 => ⟨S2x1024, .f32⟩
  | 11 => ⟨S_, .f32⟩
  | 12 => ⟨S2x1024, .f32⟩
  | 13 => ⟨S2x1024, .f32⟩
  | 14 => ⟨S_, .f32⟩
  | 15 => ⟨S2x1024, .f32⟩
  | 16 => ⟨S2x1024, .f32⟩
  | 17 => ⟨S_, .f32⟩
  | 18 => ⟨S2x1024, .f32⟩
  | 19 => ⟨S2x1024, .f32⟩
  | 20 => ⟨S2x1024, .f32⟩
  | 21 => ⟨S_, .f32⟩
  | 22 => ⟨S2x1024, .f32⟩
  | 23 => ⟨S2x1024, .f32⟩
  | 24 => ⟨S2x1024, .f32⟩
  | 25 => ⟨S_, .f32⟩
  | 26 => ⟨S2x1024, .f32⟩
  | 27 => ⟨S2x1024, .f32⟩
  | 28 => ⟨S2x1024, .f32⟩
  | 29 => ⟨S_, .f32⟩
  | 30 => ⟨S2x1024, .f32⟩
  | 31 => ⟨S2x1024, .f32⟩
  | 32 => ⟨S_, .f32⟩
  | 33 => ⟨S2x1024, .f32⟩
  | 34 => ⟨S2x1024, .f32⟩
  | 35 => ⟨S2x1024, .f32⟩
  | 36 => ⟨S_, .f32⟩
  | 37 => ⟨S2x1024, .f32⟩
  | 38 => ⟨S2x1024, .f32⟩
  | 39 => ⟨S2x1024, .f32⟩
  | 40 => ⟨S_, .f32⟩
  | 41 => ⟨S2x1024, .f32⟩
  | 42 => ⟨S2x1024, .f32⟩
  | 43 => ⟨S2x1024, .f32⟩
  | 44 => ⟨S_, .f32⟩
  | 45 => ⟨S2x1024, .f32⟩
  | 46 => ⟨S2x1024, .f32⟩
  | 47 => ⟨S_, .f32⟩
  | 48 => ⟨S2x128, .f32⟩
  | 49 => ⟨S2x128, .f32⟩
  | 50 => ⟨S_, .f32⟩
  | 51 => ⟨S2x128, .f32⟩
  | 52 => ⟨S2x128, .f32⟩
  | 53 => ⟨S2x128, .f32⟩
  | 54 => ⟨S_, .f32⟩
  | 55 => ⟨S2x128, .f32⟩
  | 56 => ⟨S2x128, .f32⟩
  | 57 => ⟨S2x128, .f32⟩
  | 58 => ⟨S_, .f32⟩
  | 59 => ⟨S2x128, .f32⟩
  | 60 => ⟨S2x128, .f32⟩
  | 61 => ⟨S2x128, .f32⟩
  | 62 => ⟨S_, .f32⟩
  | 63 => ⟨S2x128, .f32⟩
  | 64 => ⟨S2x128, .f32⟩
  | 65 => ⟨S_, .f32⟩
  | 66 => ⟨S2x128, .f32⟩
  | 67 => ⟨S2x128, .f32⟩
  | 68 => ⟨S2x128, .f32⟩
  | 69 => ⟨S_, .f32⟩
  | 70 => ⟨S2x128, .f32⟩
  | 71 => ⟨S2x128, .f32⟩
  | 72 => ⟨S2x128, .f32⟩
  | 73 => ⟨S_, .f32⟩
  | 74 => ⟨S2x128, .f32⟩
  | 75 => ⟨S2x128, .f32⟩
  | 76 => ⟨S2x128, .f32⟩
  | 77 => ⟨S_, .f32⟩
  | 78 => ⟨S2x128, .f32⟩
  | 79 => ⟨S2x128, .f32⟩
  | 80 => ⟨S_, .f32⟩
  | 81 => ⟨S2x256, .f32⟩
  | 82 => ⟨S2x256, .f32⟩
  | 83 => ⟨S_, .f32⟩
  | 84 => ⟨S2x256, .f32⟩
  | 85 => ⟨S2x256, .f32⟩
  | 86 => ⟨S2x256, .f32⟩
  | 87 => ⟨S_, .f32⟩
  | 88 => ⟨S2x256, .f32⟩
  | 89 => ⟨S2x256, .f32⟩
  | 90 => ⟨S2x256, .f32⟩
  | 91 => ⟨S_, .f32⟩
  | 92 => ⟨S2x256, .f32⟩
  | 93 => ⟨S2x256, .f32⟩
  | 94 => ⟨S2x256, .f32⟩
  | 95 => ⟨S_, .f32⟩
  | 96 => ⟨S2x256, .f32⟩
  | 97 => ⟨S2x256, .f32⟩
  | 98 => ⟨S_, .f32⟩
  | 99 => ⟨S2x256, .f32⟩
  | 100 => ⟨S2x256, .f32⟩
  | 101 => ⟨S2x256, .f32⟩
  | 102 => ⟨S_, .f32⟩
  | 103 => ⟨S2x256, .f32⟩
  | 104 => ⟨S2x256, .f32⟩
  | 105 => ⟨S2x256, .f32⟩
  | 106 => ⟨S_, .f32⟩
  | 107 => ⟨S2x256, .f32⟩
  | 108 => ⟨S2x256, .f32⟩
  | 109 => ⟨S2x256, .f32⟩
  | 110 => ⟨S_, .f32⟩
  | 111 => ⟨S2x256, .f32⟩
  | 112 => ⟨S2x256, .f32⟩
  | 113 => ⟨S_, .f32⟩
  | 114 => ⟨S2x64, .f32⟩
  | 115 => ⟨S2x64, .f32⟩
  | 116 => ⟨S_, .f32⟩
  | 117 => ⟨S2x64, .f32⟩
  | 118 => ⟨S2x64, .f32⟩
  | 119 => ⟨S2x64, .f32⟩
  | 120 => ⟨S_, .f32⟩
  | 121 => ⟨S2x64, .f32⟩
  | 122 => ⟨S2x64, .f32⟩
  | 123 => ⟨S2x64, .f32⟩
  | 124 => ⟨S_, .f32⟩
  | 125 => ⟨S2x64, .f32⟩
  | 126 => ⟨S2x64, .f32⟩
  | 127 => ⟨S2x64, .f32⟩
  | _ => ⟨S2x2048, .f32⟩

abbrev hbmTy0_4 (i : Nat) : BufTy := match i % 128 with
  | 0 => ⟨S_, .f32⟩
  | 1 => ⟨S2x64, .f32⟩
  | 2 => ⟨S2x64, .f32⟩
  | 3 => ⟨S_, .f32⟩
  | 4 => ⟨S2x64, .f32⟩
  | 5 => ⟨S2x64, .f32⟩
  | 6 => ⟨S2x64, .f32⟩
  | 7 => ⟨S_, .f32⟩
  | 8 => ⟨S2x64, .f32⟩
  | 9 => ⟨S2x64, .f32⟩
  | 10 => ⟨S2x64, .f32⟩
  | 11 => ⟨S_, .f32⟩
  | 12 => ⟨S2x64, .f32⟩
  | 13 => ⟨S2x64, .f32⟩
  | 14 => ⟨S2x64, .f32⟩
  | 15 => ⟨S_, .f32⟩
  | 16 => ⟨S2x64, .f32⟩
  | 17 => ⟨S2x64, .f32⟩
  | 18 => ⟨S_, .f32⟩
  | 19 => ⟨S2x64, .f32⟩
  | 20 => ⟨S2x64, .f32⟩
  | 21 => ⟨S_, .f32⟩
  | 22 => ⟨S2x64, .f32⟩
  | 23 => ⟨S2x64, .f32⟩
  | 24 => ⟨S2x64, .f32⟩
  | 25 => ⟨S_, .f32⟩
  | 26 => ⟨S2x64, .f32⟩
  | 27 => ⟨S2x64, .f32⟩
  | 28 => ⟨S2x64, .f32⟩
  | 29 => ⟨S_, .f32⟩
  | 30 => ⟨S2x64, .f32⟩
  | 31 => ⟨S2x64, .f32⟩
  | 32 => ⟨S2x64, .f32⟩
  | 33 => ⟨S_, .f32⟩
  | 34 => ⟨S2x64, .f32⟩
  | 35 => ⟨S2x64, .f32⟩
  | 36 => ⟨S_, .f32⟩
  | 37 => ⟨S2x64, .f32⟩
  | 38 => ⟨S2x64, .f32⟩
  | 39 => ⟨S2x64, .f32⟩
  | 40 => ⟨S_, .f32⟩
  | 41 => ⟨S2x64, .f32⟩
  | 42 => ⟨S2x64, .f32⟩
  | 43 => ⟨S2x64, .f32⟩
  | 44 => ⟨S_, .f32⟩
  | 45 => ⟨S2x64, .f32⟩
  | 46 => ⟨S2x64, .f32⟩
  | 47 => ⟨S2x64, .f32⟩
  | 48 => ⟨S_, .f32⟩
  | 49 => ⟨S2x64, .f32⟩
  | 50 => ⟨S2x64, .f32⟩
  | 51 => ⟨S_, .f32⟩
  | 52 => ⟨S2x32, .f32⟩
  | 53 => ⟨S2x32, .f32⟩
  | 54 => ⟨S_, .f32⟩
  | 55 => ⟨S2x32, .f32⟩
  | 56 => ⟨S2x32, .f32⟩
  | 57 => ⟨S2x32, .f32⟩
  | 58 => ⟨S_, .f32⟩
  | 59 => ⟨S2x32, .f32⟩
  | 60 => ⟨S2x32, .f32⟩
  | 61 => ⟨S2x32, .f32⟩
  | 62 => ⟨S_, .f32⟩
  | 63 => ⟨S2x32, .f32⟩
  | 64 => ⟨S2x32, .f32⟩
  | 65 => ⟨S2x32, .f32⟩
  | 66 => ⟨S_, .f32⟩
  | 67 => ⟨S2x32, .f32⟩
  | 68 => ⟨S2x32, .f32⟩
  | 69 => ⟨S_, .f32⟩
  | 70 => ⟨S2x32, .f32⟩
  | 71 => ⟨S2x32, .f32⟩
  | 72 => ⟨S2x32, .f32⟩
  | 73 => ⟨S_, .f32⟩
  | 74 => ⟨S2x32, .f32⟩
  | 75 => ⟨S2x32, .f32⟩
  | 76 => ⟨S2x32, .f32⟩
  | 77 => ⟨S_, .f32⟩
  | 78 => ⟨S2x32, .f32⟩
  | 79 => ⟨S2x32, .f32⟩
  | 80 => ⟨S2x32, .f32⟩
  | 81 => ⟨S_, .f32⟩
  | 82 => ⟨S2x32, .f32⟩
  | 83 => ⟨S2x32, .f32⟩
  | 84 => ⟨S_, .f32⟩
  | 85 => ⟨S4x2048, .f32⟩
  | 86 => ⟨S4x2048, .f32⟩
  | 87 => ⟨S_, .f32⟩
  | 88 => ⟨S4x2048, .f32⟩
  | 89 => ⟨S4x2048, .f32⟩
  | 90 => ⟨S4x2048, .f32⟩
  | 91 => ⟨S_, .f32⟩
  | 92 => ⟨S4x2048, .f32⟩
  | 93 => ⟨S4x2048, .f32⟩
  | 94 => ⟨S4x2048, .f32⟩
  | 95 => ⟨S_, .f32⟩
  | 96 => ⟨S4x2048, .f32⟩
  | 97 => ⟨S4x2048, .f32⟩
  | 98 => ⟨S4x2048, .f32⟩
  | 99 => ⟨S_, .f32⟩
  | 100 => ⟨S4x2048, .f32⟩
  | 101 => ⟨S4x2048, .f32⟩
  | 102 => ⟨S_, .f32⟩
  | 103 => ⟨S4x2048, .f32⟩
  | 104 => ⟨S4x2048, .f32⟩
  | 105 => ⟨S4x2048, .f32⟩
  | 106 => ⟨S_, .f32⟩
  | 107 => ⟨S4x2048, .f32⟩
  | 108 => ⟨S4x2048, .f32⟩
  | 109 => ⟨S4x2048, .f32⟩
  | 110 => ⟨S_, .f32⟩
  | 111 => ⟨S4x2048, .f32⟩
  | 112 => ⟨S4x2048, .f32⟩
  | 113 => ⟨S4x2048, .f32⟩
  | 114 => ⟨S_, .f32⟩
  | 115 => ⟨S4x2048, .f32⟩
  | 116 => ⟨S4x2048, .f32⟩
  | _ => ⟨S2x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2x2048, .f32⟩

abbrev bufTy : (tb : Table) → Fin (tcTables nBuf tb) → BufTy
  | .hbm, ⟨i, _⟩ => hbmTy i
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_arg61 : Ref sig .tc := ⟨.hbm, 61, rfl⟩
abbrev main_arg62 : Ref sig .tc := ⟨.hbm, 62, rfl⟩
abbrev main_arg63 : Ref sig .tc := ⟨.hbm, 63, rfl⟩
abbrev main_arg64 : Ref sig .tc := ⟨.hbm, 64, rfl⟩
abbrev main_arg65 : Ref sig .tc := ⟨.hbm, 65, rfl⟩
abbrev main_arg66 : Ref sig .tc := ⟨.hbm, 66, rfl⟩
abbrev main_arg67 : Ref sig .tc := ⟨.hbm, 67, rfl⟩
abbrev main_cst : Ref sig .tc := ⟨.hbm, 68, rfl⟩
abbrev main_v0 : Ref sig .tc := ⟨.hbm, 69, rfl⟩
abbrev main_v1 : Ref sig .tc := ⟨.hbm, 70, rfl⟩
abbrev main_cst_0 : Ref sig .tc := ⟨.hbm, 71, rfl⟩
abbrev main_v2 : Ref sig .tc := ⟨.hbm, 72, rfl⟩
abbrev main_v3 : Ref sig .tc := ⟨.hbm, 73, rfl⟩
abbrev main_v4 : Ref sig .tc := ⟨.hbm, 74, rfl⟩
abbrev main_cst_1 : Ref sig .tc := ⟨.hbm, 75, rfl⟩
abbrev main_v5 : Ref sig .tc := ⟨.hbm, 76, rfl⟩
abbrev main_v6 : Ref sig .tc := ⟨.hbm, 77, rfl⟩
abbrev main_v7 : Ref sig .tc := ⟨.hbm, 78, rfl⟩
abbrev main_cst_2 : Ref sig .tc := ⟨.hbm, 79, rfl⟩
abbrev main_v8 : Ref sig .tc := ⟨.hbm, 80, rfl⟩
abbrev main_v9 : Ref sig .tc := ⟨.hbm, 81, rfl⟩
abbrev main_v10 : Ref sig .tc := ⟨.hbm, 82, rfl⟩
abbrev main_cst_3 : Ref sig .tc := ⟨.hbm, 83, rfl⟩
abbrev main_v11 : Ref sig .tc := ⟨.hbm, 84, rfl⟩
abbrev main_v12 : Ref sig .tc := ⟨.hbm, 85, rfl⟩
abbrev main_cst_4 : Ref sig .tc := ⟨.hbm, 86, rfl⟩
abbrev main_v13 : Ref sig .tc := ⟨.hbm, 87, rfl⟩
abbrev main_v14 : Ref sig .tc := ⟨.hbm, 88, rfl⟩
abbrev main_v15 : Ref sig .tc := ⟨.hbm, 89, rfl⟩
abbrev main_cst_5 : Ref sig .tc := ⟨.hbm, 90, rfl⟩
abbrev main_v16 : Ref sig .tc := ⟨.hbm, 91, rfl⟩
abbrev main_v17 : Ref sig .tc := ⟨.hbm, 92, rfl⟩
abbrev main_v18 : Ref sig .tc := ⟨.hbm, 93, rfl⟩
abbrev main_cst_6 : Ref sig .tc := ⟨.hbm, 94, rfl⟩
abbrev main_v19 : Ref sig .tc := ⟨.hbm, 95, rfl⟩
abbrev main_v20 : Ref sig .tc := ⟨.hbm, 96, rfl⟩
abbrev main_v21 : Ref sig .tc := ⟨.hbm, 97, rfl⟩
abbrev main_cst_7 : Ref sig .tc := ⟨.hbm, 98, rfl⟩
abbrev main_v22 : Ref sig .tc := ⟨.hbm, 99, rfl⟩
abbrev main_v23 : Ref sig .tc := ⟨.hbm, 100, rfl⟩
abbrev main_cst_8 : Ref sig .tc := ⟨.hbm, 101, rfl⟩
abbrev main_v24 : Ref sig .tc := ⟨.hbm, 102, rfl⟩
abbrev main_v25 : Ref sig .tc := ⟨.hbm, 103, rfl⟩
abbrev main_cst_9 : Ref sig .tc := ⟨.hbm, 104, rfl⟩
abbrev main_v26 : Ref sig .tc := ⟨.hbm, 105, rfl⟩
abbrev main_v27 : Ref sig .tc := ⟨.hbm, 106, rfl⟩
abbrev main_v28 : Ref sig .tc := ⟨.hbm, 107, rfl⟩
abbrev main_cst_10 : Ref sig .tc := ⟨.hbm, 108, rfl⟩
abbrev main_v29 : Ref sig .tc := ⟨.hbm, 109, rfl⟩
abbrev main_v30 : Ref sig .tc := ⟨.hbm, 110, rfl⟩
abbrev main_v31 : Ref sig .tc := ⟨.hbm, 111, rfl⟩
abbrev main_cst_11 : Ref sig .tc := ⟨.hbm, 112, rfl⟩
abbrev main_v32 : Ref sig .tc := ⟨.hbm, 113, rfl⟩
abbrev main_v33 : Ref sig .tc := ⟨.hbm, 114, rfl⟩
abbrev main_v34 : Ref sig .tc := ⟨.hbm, 115, rfl⟩
abbrev main_cst_12 : Ref sig .tc := ⟨.hbm, 116, rfl⟩
abbrev main_v35 : Ref sig .tc := ⟨.hbm, 117, rfl⟩
abbrev main_v36 : Ref sig .tc := ⟨.hbm, 118, rfl⟩
abbrev main_cst_13 : Ref sig .tc := ⟨.hbm, 119, rfl⟩
abbrev main_v37 : Ref sig .tc := ⟨.hbm, 120, rfl⟩
abbrev main_v38 : Ref sig .tc := ⟨.hbm, 121, rfl⟩
abbrev main_v39 : Ref sig .tc := ⟨.hbm, 122, rfl⟩
abbrev main_cst_14 : Ref sig .tc := ⟨.hbm, 123, rfl⟩
abbrev main_v40 : Ref sig .tc := ⟨.hbm, 124, rfl⟩
abbrev main_v41 : Ref sig .tc := ⟨.hbm, 125, rfl⟩
abbrev main_v42 : Ref sig .tc := ⟨.hbm, 126, rfl⟩
abbrev main_cst_15 : Ref sig .tc := ⟨.hbm, 127, rfl⟩
abbrev main_v43 : Ref sig .tc := ⟨.hbm, 128, rfl⟩
abbrev main_v44 : Ref sig .tc := ⟨.hbm, 129, rfl⟩
abbrev main_v45 : Ref sig .tc := ⟨.hbm, 130, rfl⟩
abbrev main_cst_16 : Ref sig .tc := ⟨.hbm, 131, rfl⟩
abbrev main_v46 : Ref sig .tc := ⟨.hbm, 132, rfl⟩
abbrev main_v47 : Ref sig .tc := ⟨.hbm, 133, rfl⟩
abbrev main_cst_17 : Ref sig .tc := ⟨.hbm, 134, rfl⟩
abbrev main_v48 : Ref sig .tc := ⟨.hbm, 135, rfl⟩
abbrev main_v49 : Ref sig .tc := ⟨.hbm, 136, rfl⟩
abbrev main_cst_18 : Ref sig .tc := ⟨.hbm, 137, rfl⟩
abbrev main_v50 : Ref sig .tc := ⟨.hbm, 138, rfl⟩
abbrev main_v51 : Ref sig .tc := ⟨.hbm, 139, rfl⟩
abbrev main_v52 : Ref sig .tc := ⟨.hbm, 140, rfl⟩
abbrev main_cst_19 : Ref sig .tc := ⟨.hbm, 141, rfl⟩
abbrev main_v53 : Ref sig .tc := ⟨.hbm, 142, rfl⟩
abbrev main_v54 : Ref sig .tc := ⟨.hbm, 143, rfl⟩
abbrev main_v55 : Ref sig .tc := ⟨.hbm, 144, rfl⟩
abbrev main_cst_20 : Ref sig .tc := ⟨.hbm, 145, rfl⟩
abbrev main_v56 : Ref sig .tc := ⟨.hbm, 146, rfl⟩
abbrev main_v57 : Ref sig .tc := ⟨.hbm, 147, rfl⟩
abbrev main_v58 : Ref sig .tc := ⟨.hbm, 148, rfl⟩
abbrev main_cst_21 : Ref sig .tc := ⟨.hbm, 149, rfl⟩
abbrev main_v59 : Ref sig .tc := ⟨.hbm, 150, rfl⟩
abbrev main_v60 : Ref sig .tc := ⟨.hbm, 151, rfl⟩
abbrev main_cst_22 : Ref sig .tc := ⟨.hbm, 152, rfl⟩
abbrev main_v61 : Ref sig .tc := ⟨.hbm, 153, rfl⟩
abbrev main_v62 : Ref sig .tc := ⟨.hbm, 154, rfl⟩
abbrev main_v63 : Ref sig .tc := ⟨.hbm, 155, rfl⟩
abbrev main_cst_23 : Ref sig .tc := ⟨.hbm, 156, rfl⟩
abbrev main_v64 : Ref sig .tc := ⟨.hbm, 157, rfl⟩
abbrev main_v65 : Ref sig .tc := ⟨.hbm, 158, rfl⟩
abbrev main_v66 : Ref sig .tc := ⟨.hbm, 159, rfl⟩
abbrev main_cst_24 : Ref sig .tc := ⟨.hbm, 160, rfl⟩
abbrev main_v67 : Ref sig .tc := ⟨.hbm, 161, rfl⟩
abbrev main_v68 : Ref sig .tc := ⟨.hbm, 162, rfl⟩
abbrev main_v69 : Ref sig .tc := ⟨.hbm, 163, rfl⟩
abbrev main_cst_25 : Ref sig .tc := ⟨.hbm, 164, rfl⟩
abbrev main_v70 : Ref sig .tc := ⟨.hbm, 165, rfl⟩
abbrev main_v71 : Ref sig .tc := ⟨.hbm, 166, rfl⟩
abbrev main_cst_26 : Ref sig .tc := ⟨.hbm, 167, rfl⟩
abbrev main_v72 : Ref sig .tc := ⟨.hbm, 168, rfl⟩
abbrev main_v73 : Ref sig .tc := ⟨.hbm, 169, rfl⟩
abbrev main_cst_27 : Ref sig .tc := ⟨.hbm, 170, rfl⟩
abbrev main_v74 : Ref sig .tc := ⟨.hbm, 171, rfl⟩
abbrev main_v75 : Ref sig .tc := ⟨.hbm, 172, rfl⟩
abbrev main_v76 : Ref sig .tc := ⟨.hbm, 173, rfl⟩
abbrev main_cst_28 : Ref sig .tc := ⟨.hbm, 174, rfl⟩
abbrev main_v77 : Ref sig .tc := ⟨.hbm, 175, rfl⟩
abbrev main_v78 : Ref sig .tc := ⟨.hbm, 176, rfl⟩
abbrev main_v79 : Ref sig .tc := ⟨.hbm, 177, rfl⟩
abbrev main_cst_29 : Ref sig .tc := ⟨.hbm, 178, rfl⟩
abbrev main_v80 : Ref sig .tc := ⟨.hbm, 179, rfl⟩
abbrev main_v81 : Ref sig .tc := ⟨.hbm, 180, rfl⟩
abbrev main_v82 : Ref sig .tc := ⟨.hbm, 181, rfl⟩
abbrev main_cst_30 : Ref sig .tc := ⟨.hbm, 182, rfl⟩
abbrev main_v83 : Ref sig .tc := ⟨.hbm, 183, rfl⟩
abbrev main_v84 : Ref sig .tc := ⟨.hbm, 184, rfl⟩
abbrev main_cst_31 : Ref sig .tc := ⟨.hbm, 185, rfl⟩
abbrev main_v85 : Ref sig .tc := ⟨.hbm, 186, rfl⟩
abbrev main_v86 : Ref sig .tc := ⟨.hbm, 187, rfl⟩
abbrev main_v87 : Ref sig .tc := ⟨.hbm, 188, rfl⟩
abbrev main_cst_32 : Ref sig .tc := ⟨.hbm, 189, rfl⟩
abbrev main_v88 : Ref sig .tc := ⟨.hbm, 190, rfl⟩
abbrev main_v89 : Ref sig .tc := ⟨.hbm, 191, rfl⟩
abbrev main_v90 : Ref sig .tc := ⟨.hbm, 192, rfl⟩
abbrev main_cst_33 : Ref sig .tc := ⟨.hbm, 193, rfl⟩
abbrev main_v91 : Ref sig .tc := ⟨.hbm, 194, rfl⟩
abbrev main_v92 : Ref sig .tc := ⟨.hbm, 195, rfl⟩
abbrev main_v93 : Ref sig .tc := ⟨.hbm, 196, rfl⟩
abbrev main_cst_34 : Ref sig .tc := ⟨.hbm, 197, rfl⟩
abbrev main_v94 : Ref sig .tc := ⟨.hbm, 198, rfl⟩
abbrev main_v95 : Ref sig .tc := ⟨.hbm, 199, rfl⟩
abbrev main_cst_35 : Ref sig .tc := ⟨.hbm, 200, rfl⟩
abbrev main_v96 : Ref sig .tc := ⟨.hbm, 201, rfl⟩
abbrev main_v97 : Ref sig .tc := ⟨.hbm, 202, rfl⟩
abbrev main_cst_36 : Ref sig .tc := ⟨.hbm, 203, rfl⟩
abbrev main_v98 : Ref sig .tc := ⟨.hbm, 204, rfl⟩
abbrev main_v99 : Ref sig .tc := ⟨.hbm, 205, rfl⟩
abbrev main_v100 : Ref sig .tc := ⟨.hbm, 206, rfl⟩
abbrev main_cst_37 : Ref sig .tc := ⟨.hbm, 207, rfl⟩
abbrev main_v101 : Ref sig .tc := ⟨.hbm, 208, rfl⟩
abbrev main_v102 : Ref sig .tc := ⟨.hbm, 209, rfl⟩
abbrev main_v103 : Ref sig .tc := ⟨.hbm, 210, rfl⟩
abbrev main_cst_38 : Ref sig .tc := ⟨.hbm, 211, rfl⟩
abbrev main_v104 : Ref sig .tc := ⟨.hbm, 212, rfl⟩
abbrev main_v105 : Ref sig .tc := ⟨.hbm, 213, rfl⟩
abbrev main_v106 : Ref sig .tc := ⟨.hbm, 214, rfl⟩
abbrev main_cst_39 : Ref sig .tc := ⟨.hbm, 215, rfl⟩
abbrev main_v107 : Ref sig .tc := ⟨.hbm, 216, rfl⟩
abbrev main_v108 : Ref sig .tc := ⟨.hbm, 217, rfl⟩
abbrev main_cst_40 : Ref sig .tc := ⟨.hbm, 218, rfl⟩
abbrev main_v109 : Ref sig .tc := ⟨.hbm, 219, rfl⟩
abbrev main_v110 : Ref sig .tc := ⟨.hbm, 220, rfl⟩
abbrev main_v111 : Ref sig .tc := ⟨.hbm, 221, rfl⟩
abbrev main_cst_41 : Ref sig .tc := ⟨.hbm, 222, rfl⟩
abbrev main_v112 : Ref sig .tc := ⟨.hbm, 223, rfl⟩
abbrev main_v113 : Ref sig .tc := ⟨.hbm, 224, rfl⟩
abbrev main_v114 : Ref sig .tc := ⟨.hbm, 225, rfl⟩
abbrev main_cst_42 : Ref sig .tc := ⟨.hbm, 226, rfl⟩
abbrev main_v115 : Ref sig .tc := ⟨.hbm, 227, rfl⟩
abbrev main_v116 : Ref sig .tc := ⟨.hbm, 228, rfl⟩
abbrev main_v117 : Ref sig .tc := ⟨.hbm, 229, rfl⟩
abbrev main_cst_43 : Ref sig .tc := ⟨.hbm, 230, rfl⟩
abbrev main_v118 : Ref sig .tc := ⟨.hbm, 231, rfl⟩
abbrev main_v119 : Ref sig .tc := ⟨.hbm, 232, rfl⟩
abbrev main_cst_44 : Ref sig .tc := ⟨.hbm, 233, rfl⟩
abbrev main_v120 : Ref sig .tc := ⟨.hbm, 234, rfl⟩
abbrev main_v121 : Ref sig .tc := ⟨.hbm, 235, rfl⟩
abbrev main_cst_45 : Ref sig .tc := ⟨.hbm, 236, rfl⟩
abbrev main_v122 : Ref sig .tc := ⟨.hbm, 237, rfl⟩
abbrev main_v123 : Ref sig .tc := ⟨.hbm, 238, rfl⟩
abbrev main_v124 : Ref sig .tc := ⟨.hbm, 239, rfl⟩
abbrev main_cst_46 : Ref sig .tc := ⟨.hbm, 240, rfl⟩
abbrev main_v125 : Ref sig .tc := ⟨.hbm, 241, rfl⟩
abbrev main_v126 : Ref sig .tc := ⟨.hbm, 242, rfl⟩
abbrev main_v127 : Ref sig .tc := ⟨.hbm, 243, rfl⟩
abbrev main_cst_47 : Ref sig .tc := ⟨.hbm, 244, rfl⟩
abbrev main_v128 : Ref sig .tc := ⟨.hbm, 245, rfl⟩
abbrev main_v129 : Ref sig .tc := ⟨.hbm, 246, rfl⟩
abbrev main_v130 : Ref sig .tc := ⟨.hbm, 247, rfl⟩
abbrev main_cst_48 : Ref sig .tc := ⟨.hbm, 248, rfl⟩
abbrev main_v131 : Ref sig .tc := ⟨.hbm, 249, rfl⟩
abbrev main_v132 : Ref sig .tc := ⟨.hbm, 250, rfl⟩
abbrev main_cst_49 : Ref sig .tc := ⟨.hbm, 251, rfl⟩
abbrev main_v133 : Ref sig .tc := ⟨.hbm, 252, rfl⟩
abbrev main_v134 : Ref sig .tc := ⟨.hbm, 253, rfl⟩
abbrev main_v135 : Ref sig .tc := ⟨.hbm, 254, rfl⟩
abbrev main_cst_50 : Ref sig .tc := ⟨.hbm, 255, rfl⟩
abbrev main_v136 : Ref sig .tc := ⟨.hbm, 256, rfl⟩
abbrev main_v137 : Ref sig .tc := ⟨.hbm, 257, rfl⟩
abbrev main_v138 : Ref sig .tc := ⟨.hbm, 258, rfl⟩
abbrev main_cst_51 : Ref sig .tc := ⟨.hbm, 259, rfl⟩
abbrev main_v139 : Ref sig .tc := ⟨.hbm, 260, rfl⟩
abbrev main_v140 : Ref sig .tc := ⟨.hbm, 261, rfl⟩
abbrev main_v141 : Ref sig .tc := ⟨.hbm, 262, rfl⟩
abbrev main_cst_52 : Ref sig .tc := ⟨.hbm, 263, rfl⟩
abbrev main_v142 : Ref sig .tc := ⟨.hbm, 264, rfl⟩
abbrev main_v143 : Ref sig .tc := ⟨.hbm, 265, rfl⟩
abbrev main_cst_53 : Ref sig .tc := ⟨.hbm, 266, rfl⟩
abbrev main_v144 : Ref sig .tc := ⟨.hbm, 267, rfl⟩
abbrev main_v145 : Ref sig .tc := ⟨.hbm, 268, rfl⟩
abbrev main_cst_54 : Ref sig .tc := ⟨.hbm, 269, rfl⟩
abbrev main_v146 : Ref sig .tc := ⟨.hbm, 270, rfl⟩
abbrev main_v147 : Ref sig .tc := ⟨.hbm, 271, rfl⟩
abbrev main_v148 : Ref sig .tc := ⟨.hbm, 272, rfl⟩
abbrev main_cst_55 : Ref sig .tc := ⟨.hbm, 273, rfl⟩
abbrev main_v149 : Ref sig .tc := ⟨.hbm, 274, rfl⟩
abbrev main_v150 : Ref sig .tc := ⟨.hbm, 275, rfl⟩
abbrev main_v151 : Ref sig .tc := ⟨.hbm, 276, rfl⟩
abbrev main_cst_56 : Ref sig .tc := ⟨.hbm, 277, rfl⟩
abbrev main_v152 : Ref sig .tc := ⟨.hbm, 278, rfl⟩
abbrev main_v153 : Ref sig .tc := ⟨.hbm, 279, rfl⟩
abbrev main_v154 : Ref sig .tc := ⟨.hbm, 280, rfl⟩
abbrev main_cst_57 : Ref sig .tc := ⟨.hbm, 281, rfl⟩
abbrev main_v155 : Ref sig .tc := ⟨.hbm, 282, rfl⟩
abbrev main_v156 : Ref sig .tc := ⟨.hbm, 283, rfl⟩
abbrev main_cst_58 : Ref sig .tc := ⟨.hbm, 284, rfl⟩
abbrev main_v157 : Ref sig .tc := ⟨.hbm, 285, rfl⟩
abbrev main_v158 : Ref sig .tc := ⟨.hbm, 286, rfl⟩
abbrev main_v159 : Ref sig .tc := ⟨.hbm, 287, rfl⟩
abbrev main_cst_59 : Ref sig .tc := ⟨.hbm, 288, rfl⟩
abbrev main_v160 : Ref sig .tc := ⟨.hbm, 289, rfl⟩
abbrev main_v161 : Ref sig .tc := ⟨.hbm, 290, rfl⟩
abbrev main_v162 : Ref sig .tc := ⟨.hbm, 291, rfl⟩
abbrev main_cst_60 : Ref sig .tc := ⟨.hbm, 292, rfl⟩
abbrev main_v163 : Ref sig .tc := ⟨.hbm, 293, rfl⟩
abbrev main_v164 : Ref sig .tc := ⟨.hbm, 294, rfl⟩
abbrev main_v165 : Ref sig .tc := ⟨.hbm, 295, rfl⟩
abbrev main_cst_61 : Ref sig .tc := ⟨.hbm, 296, rfl⟩
abbrev main_v166 : Ref sig .tc := ⟨.hbm, 297, rfl⟩
abbrev main_v167 : Ref sig .tc := ⟨.hbm, 298, rfl⟩
abbrev main_cst_62 : Ref sig .tc := ⟨.hbm, 299, rfl⟩
abbrev main_v168 : Ref sig .tc := ⟨.hbm, 300, rfl⟩
abbrev main_v169 : Ref sig .tc := ⟨.hbm, 301, rfl⟩
abbrev main_cst_63 : Ref sig .tc := ⟨.hbm, 302, rfl⟩
abbrev main_v170 : Ref sig .tc := ⟨.hbm, 303, rfl⟩
abbrev main_v171 : Ref sig .tc := ⟨.hbm, 304, rfl⟩
abbrev main_v172 : Ref sig .tc := ⟨.hbm, 305, rfl⟩
abbrev main_cst_64 : Ref sig .tc := ⟨.hbm, 306, rfl⟩
abbrev main_v173 : Ref sig .tc := ⟨.hbm, 307, rfl⟩
abbrev main_v174 : Ref sig .tc := ⟨.hbm, 308, rfl⟩
abbrev main_v175 : Ref sig .tc := ⟨.hbm, 309, rfl⟩
abbrev main_cst_65 : Ref sig .tc := ⟨.hbm, 310, rfl⟩
abbrev main_v176 : Ref sig .tc := ⟨.hbm, 311, rfl⟩
abbrev main_v177 : Ref sig .tc := ⟨.hbm, 312, rfl⟩
abbrev main_v178 : Ref sig .tc := ⟨.hbm, 313, rfl⟩
abbrev main_cst_66 : Ref sig .tc := ⟨.hbm, 314, rfl⟩
abbrev main_v179 : Ref sig .tc := ⟨.hbm, 315, rfl⟩
abbrev main_v180 : Ref sig .tc := ⟨.hbm, 316, rfl⟩
abbrev main_cst_67 : Ref sig .tc := ⟨.hbm, 317, rfl⟩
abbrev main_v181 : Ref sig .tc := ⟨.hbm, 318, rfl⟩
abbrev main_v182 : Ref sig .tc := ⟨.hbm, 319, rfl⟩
abbrev main_v183 : Ref sig .tc := ⟨.hbm, 320, rfl⟩
abbrev main_cst_68 : Ref sig .tc := ⟨.hbm, 321, rfl⟩
abbrev main_v184 : Ref sig .tc := ⟨.hbm, 322, rfl⟩
abbrev main_v185 : Ref sig .tc := ⟨.hbm, 323, rfl⟩
abbrev main_v186 : Ref sig .tc := ⟨.hbm, 324, rfl⟩
abbrev main_cst_69 : Ref sig .tc := ⟨.hbm, 325, rfl⟩
abbrev main_v187 : Ref sig .tc := ⟨.hbm, 326, rfl⟩
abbrev main_v188 : Ref sig .tc := ⟨.hbm, 327, rfl⟩
abbrev main_v189 : Ref sig .tc := ⟨.hbm, 328, rfl⟩
abbrev main_cst_70 : Ref sig .tc := ⟨.hbm, 329, rfl⟩
abbrev main_v190 : Ref sig .tc := ⟨.hbm, 330, rfl⟩
abbrev main_v191 : Ref sig .tc := ⟨.hbm, 331, rfl⟩
abbrev main_cst_71 : Ref sig .tc := ⟨.hbm, 332, rfl⟩
abbrev main_v192 : Ref sig .tc := ⟨.hbm, 333, rfl⟩
abbrev main_v193 : Ref sig .tc := ⟨.hbm, 334, rfl⟩
abbrev main_cst_72 : Ref sig .tc := ⟨.hbm, 335, rfl⟩
abbrev main_v194 : Ref sig .tc := ⟨.hbm, 336, rfl⟩
abbrev main_v195 : Ref sig .tc := ⟨.hbm, 337, rfl⟩
abbrev main_v196 : Ref sig .tc := ⟨.hbm, 338, rfl⟩
abbrev main_cst_73 : Ref sig .tc := ⟨.hbm, 339, rfl⟩
abbrev main_v197 : Ref sig .tc := ⟨.hbm, 340, rfl⟩
abbrev main_v198 : Ref sig .tc := ⟨.hbm, 341, rfl⟩
abbrev main_v199 : Ref sig .tc := ⟨.hbm, 342, rfl⟩
abbrev main_cst_74 : Ref sig .tc := ⟨.hbm, 343, rfl⟩
abbrev main_v200 : Ref sig .tc := ⟨.hbm, 344, rfl⟩
abbrev main_v201 : Ref sig .tc := ⟨.hbm, 345, rfl⟩
abbrev main_v202 : Ref sig .tc := ⟨.hbm, 346, rfl⟩
abbrev main_cst_75 : Ref sig .tc := ⟨.hbm, 347, rfl⟩
abbrev main_v203 : Ref sig .tc := ⟨.hbm, 348, rfl⟩
abbrev main_v204 : Ref sig .tc := ⟨.hbm, 349, rfl⟩
abbrev main_cst_76 : Ref sig .tc := ⟨.hbm, 350, rfl⟩
abbrev main_v205 : Ref sig .tc := ⟨.hbm, 351, rfl⟩
abbrev main_v206 : Ref sig .tc := ⟨.hbm, 352, rfl⟩
abbrev main_v207 : Ref sig .tc := ⟨.hbm, 353, rfl⟩
abbrev main_cst_77 : Ref sig .tc := ⟨.hbm, 354, rfl⟩
abbrev main_v208 : Ref sig .tc := ⟨.hbm, 355, rfl⟩
abbrev main_v209 : Ref sig .tc := ⟨.hbm, 356, rfl⟩
abbrev main_v210 : Ref sig .tc := ⟨.hbm, 357, rfl⟩
abbrev main_cst_78 : Ref sig .tc := ⟨.hbm, 358, rfl⟩
abbrev main_v211 : Ref sig .tc := ⟨.hbm, 359, rfl⟩
abbrev main_v212 : Ref sig .tc := ⟨.hbm, 360, rfl⟩
abbrev main_v213 : Ref sig .tc := ⟨.hbm, 361, rfl⟩
abbrev main_cst_79 : Ref sig .tc := ⟨.hbm, 362, rfl⟩
abbrev main_v214 : Ref sig .tc := ⟨.hbm, 363, rfl⟩
abbrev main_v215 : Ref sig .tc := ⟨.hbm, 364, rfl⟩
abbrev main_cst_80 : Ref sig .tc := ⟨.hbm, 365, rfl⟩
abbrev main_v216 : Ref sig .tc := ⟨.hbm, 366, rfl⟩
abbrev main_v217 : Ref sig .tc := ⟨.hbm, 367, rfl⟩
abbrev main_cst_81 : Ref sig .tc := ⟨.hbm, 368, rfl⟩
abbrev main_v218 : Ref sig .tc := ⟨.hbm, 369, rfl⟩
abbrev main_v219 : Ref sig .tc := ⟨.hbm, 370, rfl⟩
abbrev main_v220 : Ref sig .tc := ⟨.hbm, 371, rfl⟩
abbrev main_cst_82 : Ref sig .tc := ⟨.hbm, 372, rfl⟩
abbrev main_v221 : Ref sig .tc := ⟨.hbm, 373, rfl⟩
abbrev main_v222 : Ref sig .tc := ⟨.hbm, 374, rfl⟩
abbrev main_v223 : Ref sig .tc := ⟨.hbm, 375, rfl⟩
abbrev main_cst_83 : Ref sig .tc := ⟨.hbm, 376, rfl⟩
abbrev main_v224 : Ref sig .tc := ⟨.hbm, 377, rfl⟩
abbrev main_v225 : Ref sig .tc := ⟨.hbm, 378, rfl⟩
abbrev main_v226 : Ref sig .tc := ⟨.hbm, 379, rfl⟩
abbrev main_cst_84 : Ref sig .tc := ⟨.hbm, 380, rfl⟩
abbrev main_v227 : Ref sig .tc := ⟨.hbm, 381, rfl⟩
abbrev main_v228 : Ref sig .tc := ⟨.hbm, 382, rfl⟩
abbrev main_cst_85 : Ref sig .tc := ⟨.hbm, 383, rfl⟩
abbrev main_v229 : Ref sig .tc := ⟨.hbm, 384, rfl⟩
abbrev main_v230 : Ref sig .tc := ⟨.hbm, 385, rfl⟩
abbrev main_v231 : Ref sig .tc := ⟨.hbm, 386, rfl⟩
abbrev main_cst_86 : Ref sig .tc := ⟨.hbm, 387, rfl⟩
abbrev main_v232 : Ref sig .tc := ⟨.hbm, 388, rfl⟩
abbrev main_v233 : Ref sig .tc := ⟨.hbm, 389, rfl⟩
abbrev main_v234 : Ref sig .tc := ⟨.hbm, 390, rfl⟩
abbrev main_cst_87 : Ref sig .tc := ⟨.hbm, 391, rfl⟩
abbrev main_v235 : Ref sig .tc := ⟨.hbm, 392, rfl⟩
abbrev main_v236 : Ref sig .tc := ⟨.hbm, 393, rfl⟩
abbrev main_v237 : Ref sig .tc := ⟨.hbm, 394, rfl⟩
abbrev main_cst_88 : Ref sig .tc := ⟨.hbm, 395, rfl⟩
abbrev main_v238 : Ref sig .tc := ⟨.hbm, 396, rfl⟩
abbrev main_v239 : Ref sig .tc := ⟨.hbm, 397, rfl⟩
abbrev main_cst_89 : Ref sig .tc := ⟨.hbm, 398, rfl⟩
abbrev main_v240 : Ref sig .tc := ⟨.hbm, 399, rfl⟩
abbrev main_v241 : Ref sig .tc := ⟨.hbm, 400, rfl⟩
abbrev main_cst_90 : Ref sig .tc := ⟨.hbm, 401, rfl⟩
abbrev main_v242 : Ref sig .tc := ⟨.hbm, 402, rfl⟩
abbrev main_v243 : Ref sig .tc := ⟨.hbm, 403, rfl⟩
abbrev main_v244 : Ref sig .tc := ⟨.hbm, 404, rfl⟩
abbrev main_cst_91 : Ref sig .tc := ⟨.hbm, 405, rfl⟩
abbrev main_v245 : Ref sig .tc := ⟨.hbm, 406, rfl⟩
abbrev main_v246 : Ref sig .tc := ⟨.hbm, 407, rfl⟩
abbrev main_v247 : Ref sig .tc := ⟨.hbm, 408, rfl⟩
abbrev main_cst_92 : Ref sig .tc := ⟨.hbm, 409, rfl⟩
abbrev main_v248 : Ref sig .tc := ⟨.hbm, 410, rfl⟩
abbrev main_v249 : Ref sig .tc := ⟨.hbm, 411, rfl⟩
abbrev main_v250 : Ref sig .tc := ⟨.hbm, 412, rfl⟩
abbrev main_cst_93 : Ref sig .tc := ⟨.hbm, 413, rfl⟩
abbrev main_v251 : Ref sig .tc := ⟨.hbm, 414, rfl⟩
abbrev main_v252 : Ref sig .tc := ⟨.hbm, 415, rfl⟩
abbrev main_cst_94 : Ref sig .tc := ⟨.hbm, 416, rfl⟩
abbrev main_v253 : Ref sig .tc := ⟨.hbm, 417, rfl⟩
abbrev main_v254 : Ref sig .tc := ⟨.hbm, 418, rfl⟩
abbrev main_v255 : Ref sig .tc := ⟨.hbm, 419, rfl⟩
abbrev main_cst_95 : Ref sig .tc := ⟨.hbm, 420, rfl⟩
abbrev main_v256 : Ref sig .tc := ⟨.hbm, 421, rfl⟩
abbrev main_v257 : Ref sig .tc := ⟨.hbm, 422, rfl⟩
abbrev main_v258 : Ref sig .tc := ⟨.hbm, 423, rfl⟩
abbrev main_cst_96 : Ref sig .tc := ⟨.hbm, 424, rfl⟩
abbrev main_v259 : Ref sig .tc := ⟨.hbm, 425, rfl⟩
abbrev main_v260 : Ref sig .tc := ⟨.hbm, 426, rfl⟩
abbrev main_v261 : Ref sig .tc := ⟨.hbm, 427, rfl⟩
abbrev main_cst_97 : Ref sig .tc := ⟨.hbm, 428, rfl⟩
abbrev main_v262 : Ref sig .tc := ⟨.hbm, 429, rfl⟩
abbrev main_v263 : Ref sig .tc := ⟨.hbm, 430, rfl⟩
abbrev main_cst_98 : Ref sig .tc := ⟨.hbm, 431, rfl⟩
abbrev main_v264 : Ref sig .tc := ⟨.hbm, 432, rfl⟩
abbrev main_v265 : Ref sig .tc := ⟨.hbm, 433, rfl⟩
abbrev main_cst_99 : Ref sig .tc := ⟨.hbm, 434, rfl⟩
abbrev main_v266 : Ref sig .tc := ⟨.hbm, 435, rfl⟩
abbrev main_v267 : Ref sig .tc := ⟨.hbm, 436, rfl⟩
abbrev main_v268 : Ref sig .tc := ⟨.hbm, 437, rfl⟩
abbrev main_cst_100 : Ref sig .tc := ⟨.hbm, 438, rfl⟩
abbrev main_v269 : Ref sig .tc := ⟨.hbm, 439, rfl⟩
abbrev main_v270 : Ref sig .tc := ⟨.hbm, 440, rfl⟩
abbrev main_v271 : Ref sig .tc := ⟨.hbm, 441, rfl⟩
abbrev main_cst_101 : Ref sig .tc := ⟨.hbm, 442, rfl⟩
abbrev main_v272 : Ref sig .tc := ⟨.hbm, 443, rfl⟩
abbrev main_v273 : Ref sig .tc := ⟨.hbm, 444, rfl⟩
abbrev main_v274 : Ref sig .tc := ⟨.hbm, 445, rfl⟩
abbrev main_cst_102 : Ref sig .tc := ⟨.hbm, 446, rfl⟩
abbrev main_v275 : Ref sig .tc := ⟨.hbm, 447, rfl⟩
abbrev main_v276 : Ref sig .tc := ⟨.hbm, 448, rfl⟩
abbrev main_cst_103 : Ref sig .tc := ⟨.hbm, 449, rfl⟩
abbrev main_v277 : Ref sig .tc := ⟨.hbm, 450, rfl⟩
abbrev main_v278 : Ref sig .tc := ⟨.hbm, 451, rfl⟩
abbrev main_v279 : Ref sig .tc := ⟨.hbm, 452, rfl⟩
abbrev main_cst_104 : Ref sig .tc := ⟨.hbm, 453, rfl⟩
abbrev main_v280 : Ref sig .tc := ⟨.hbm, 454, rfl⟩
abbrev main_v281 : Ref sig .tc := ⟨.hbm, 455, rfl⟩
abbrev main_v282 : Ref sig .tc := ⟨.hbm, 456, rfl⟩
abbrev main_cst_105 : Ref sig .tc := ⟨.hbm, 457, rfl⟩
abbrev main_v283 : Ref sig .tc := ⟨.hbm, 458, rfl⟩
abbrev main_v284 : Ref sig .tc := ⟨.hbm, 459, rfl⟩
abbrev main_v285 : Ref sig .tc := ⟨.hbm, 460, rfl⟩
abbrev main_cst_106 : Ref sig .tc := ⟨.hbm, 461, rfl⟩
abbrev main_v286 : Ref sig .tc := ⟨.hbm, 462, rfl⟩
abbrev main_v287 : Ref sig .tc := ⟨.hbm, 463, rfl⟩
abbrev main_cst_107 : Ref sig .tc := ⟨.hbm, 464, rfl⟩
abbrev main_v288 : Ref sig .tc := ⟨.hbm, 465, rfl⟩
abbrev main_v289 : Ref sig .tc := ⟨.hbm, 466, rfl⟩
abbrev main_cst_108 : Ref sig .tc := ⟨.hbm, 467, rfl⟩
abbrev main_v290 : Ref sig .tc := ⟨.hbm, 468, rfl⟩
abbrev main_v291 : Ref sig .tc := ⟨.hbm, 469, rfl⟩
abbrev main_v292 : Ref sig .tc := ⟨.hbm, 470, rfl⟩
abbrev main_cst_109 : Ref sig .tc := ⟨.hbm, 471, rfl⟩
abbrev main_v293 : Ref sig .tc := ⟨.hbm, 472, rfl⟩
abbrev main_v294 : Ref sig .tc := ⟨.hbm, 473, rfl⟩
abbrev main_v295 : Ref sig .tc := ⟨.hbm, 474, rfl⟩
abbrev main_cst_110 : Ref sig .tc := ⟨.hbm, 475, rfl⟩
abbrev main_v296 : Ref sig .tc := ⟨.hbm, 476, rfl⟩
abbrev main_v297 : Ref sig .tc := ⟨.hbm, 477, rfl⟩
abbrev main_v298 : Ref sig .tc := ⟨.hbm, 478, rfl⟩
abbrev main_cst_111 : Ref sig .tc := ⟨.hbm, 479, rfl⟩
abbrev main_v299 : Ref sig .tc := ⟨.hbm, 480, rfl⟩
abbrev main_v300 : Ref sig .tc := ⟨.hbm, 481, rfl⟩
abbrev main_cst_112 : Ref sig .tc := ⟨.hbm, 482, rfl⟩
abbrev main_v301 : Ref sig .tc := ⟨.hbm, 483, rfl⟩
abbrev main_v302 : Ref sig .tc := ⟨.hbm, 484, rfl⟩
abbrev main_v303 : Ref sig .tc := ⟨.hbm, 485, rfl⟩
abbrev main_cst_113 : Ref sig .tc := ⟨.hbm, 486, rfl⟩
abbrev main_v304 : Ref sig .tc := ⟨.hbm, 487, rfl⟩
abbrev main_v305 : Ref sig .tc := ⟨.hbm, 488, rfl⟩
abbrev main_v306 : Ref sig .tc := ⟨.hbm, 489, rfl⟩
abbrev main_cst_114 : Ref sig .tc := ⟨.hbm, 490, rfl⟩
abbrev main_v307 : Ref sig .tc := ⟨.hbm, 491, rfl⟩
abbrev main_v308 : Ref sig .tc := ⟨.hbm, 492, rfl⟩
abbrev main_v309 : Ref sig .tc := ⟨.hbm, 493, rfl⟩
abbrev main_cst_115 : Ref sig .tc := ⟨.hbm, 494, rfl⟩
abbrev main_v310 : Ref sig .tc := ⟨.hbm, 495, rfl⟩
abbrev main_v311 : Ref sig .tc := ⟨.hbm, 496, rfl⟩
abbrev main_cst_116 : Ref sig .tc := ⟨.hbm, 497, rfl⟩
abbrev main_v312 : Ref sig .tc := ⟨.hbm, 498, rfl⟩
abbrev main_v313 : Ref sig .tc := ⟨.hbm, 499, rfl⟩
abbrev main_cst_117 : Ref sig .tc := ⟨.hbm, 500, rfl⟩
abbrev main_v314 : Ref sig .tc := ⟨.hbm, 501, rfl⟩
abbrev main_v315 : Ref sig .tc := ⟨.hbm, 502, rfl⟩
abbrev main_v316 : Ref sig .tc := ⟨.hbm, 503, rfl⟩
abbrev main_cst_118 : Ref sig .tc := ⟨.hbm, 504, rfl⟩
abbrev main_v317 : Ref sig .tc := ⟨.hbm, 505, rfl⟩
abbrev main_v318 : Ref sig .tc := ⟨.hbm, 506, rfl⟩
abbrev main_v319 : Ref sig .tc := ⟨.hbm, 507, rfl⟩
abbrev main_cst_119 : Ref sig .tc := ⟨.hbm, 508, rfl⟩
abbrev main_v320 : Ref sig .tc := ⟨.hbm, 509, rfl⟩
abbrev main_v321 : Ref sig .tc := ⟨.hbm, 510, rfl⟩
abbrev main_v322 : Ref sig .tc := ⟨.hbm, 511, rfl⟩
abbrev main_cst_120 : Ref sig .tc := ⟨.hbm, 512, rfl⟩
abbrev main_v323 : Ref sig .tc := ⟨.hbm, 513, rfl⟩
abbrev main_v324 : Ref sig .tc := ⟨.hbm, 514, rfl⟩
abbrev main_cst_121 : Ref sig .tc := ⟨.hbm, 515, rfl⟩
abbrev main_v325 : Ref sig .tc := ⟨.hbm, 516, rfl⟩
abbrev main_v326 : Ref sig .tc := ⟨.hbm, 517, rfl⟩
abbrev main_v327 : Ref sig .tc := ⟨.hbm, 518, rfl⟩
abbrev main_cst_122 : Ref sig .tc := ⟨.hbm, 519, rfl⟩
abbrev main_v328 : Ref sig .tc := ⟨.hbm, 520, rfl⟩
abbrev main_v329 : Ref sig .tc := ⟨.hbm, 521, rfl⟩
abbrev main_v330 : Ref sig .tc := ⟨.hbm, 522, rfl⟩
abbrev main_cst_123 : Ref sig .tc := ⟨.hbm, 523, rfl⟩
abbrev main_v331 : Ref sig .tc := ⟨.hbm, 524, rfl⟩
abbrev main_v332 : Ref sig .tc := ⟨.hbm, 525, rfl⟩
abbrev main_v333 : Ref sig .tc := ⟨.hbm, 526, rfl⟩
abbrev main_cst_124 : Ref sig .tc := ⟨.hbm, 527, rfl⟩
abbrev main_v334 : Ref sig .tc := ⟨.hbm, 528, rfl⟩
abbrev main_v335 : Ref sig .tc := ⟨.hbm, 529, rfl⟩
abbrev main_cst_125 : Ref sig .tc := ⟨.hbm, 530, rfl⟩
abbrev main_v336 : Ref sig .tc := ⟨.hbm, 531, rfl⟩
abbrev main_v337 : Ref sig .tc := ⟨.hbm, 532, rfl⟩
abbrev main_cst_126 : Ref sig .tc := ⟨.hbm, 533, rfl⟩
abbrev main_v338 : Ref sig .tc := ⟨.hbm, 534, rfl⟩
abbrev main_v339 : Ref sig .tc := ⟨.hbm, 535, rfl⟩
abbrev main_v340 : Ref sig .tc := ⟨.hbm, 536, rfl⟩
abbrev main_cst_127 : Ref sig .tc := ⟨.hbm, 537, rfl⟩
abbrev main_v341 : Ref sig .tc := ⟨.hbm, 538, rfl⟩
abbrev main_v342 : Ref sig .tc := ⟨.hbm, 539, rfl⟩
abbrev main_v343 : Ref sig .tc := ⟨.hbm, 540, rfl⟩
abbrev main_cst_128 : Ref sig .tc := ⟨.hbm, 541, rfl⟩
abbrev main_v344 : Ref sig .tc := ⟨.hbm, 542, rfl⟩
abbrev main_v345 : Ref sig .tc := ⟨.hbm, 543, rfl⟩
abbrev main_v346 : Ref sig .tc := ⟨.hbm, 544, rfl⟩
abbrev main_cst_129 : Ref sig .tc := ⟨.hbm, 545, rfl⟩
abbrev main_v347 : Ref sig .tc := ⟨.hbm, 546, rfl⟩
abbrev main_v348 : Ref sig .tc := ⟨.hbm, 547, rfl⟩
abbrev main_cst_130 : Ref sig .tc := ⟨.hbm, 548, rfl⟩
abbrev main_v349 : Ref sig .tc := ⟨.hbm, 549, rfl⟩
abbrev main_v350 : Ref sig .tc := ⟨.hbm, 550, rfl⟩
abbrev main_v351 : Ref sig .tc := ⟨.hbm, 551, rfl⟩
abbrev main_cst_131 : Ref sig .tc := ⟨.hbm, 552, rfl⟩
abbrev main_v352 : Ref sig .tc := ⟨.hbm, 553, rfl⟩
abbrev main_v353 : Ref sig .tc := ⟨.hbm, 554, rfl⟩
abbrev main_v354 : Ref sig .tc := ⟨.hbm, 555, rfl⟩
abbrev main_cst_132 : Ref sig .tc := ⟨.hbm, 556, rfl⟩
abbrev main_v355 : Ref sig .tc := ⟨.hbm, 557, rfl⟩
abbrev main_v356 : Ref sig .tc := ⟨.hbm, 558, rfl⟩
abbrev main_v357 : Ref sig .tc := ⟨.hbm, 559, rfl⟩
abbrev main_cst_133 : Ref sig .tc := ⟨.hbm, 560, rfl⟩
abbrev main_v358 : Ref sig .tc := ⟨.hbm, 561, rfl⟩
abbrev main_v359 : Ref sig .tc := ⟨.hbm, 562, rfl⟩
abbrev main_cst_134 : Ref sig .tc := ⟨.hbm, 563, rfl⟩
abbrev main_v360 : Ref sig .tc := ⟨.hbm, 564, rfl⟩
abbrev main_v361 : Ref sig .tc := ⟨.hbm, 565, rfl⟩
abbrev main_cst_135 : Ref sig .tc := ⟨.hbm, 566, rfl⟩
abbrev main_v362 : Ref sig .tc := ⟨.hbm, 567, rfl⟩
abbrev main_v363 : Ref sig .tc := ⟨.hbm, 568, rfl⟩
abbrev main_v364 : Ref sig .tc := ⟨.hbm, 569, rfl⟩
abbrev main_cst_136 : Ref sig .tc := ⟨.hbm, 570, rfl⟩
abbrev main_v365 : Ref sig .tc := ⟨.hbm, 571, rfl⟩
abbrev main_v366 : Ref sig .tc := ⟨.hbm, 572, rfl⟩
abbrev main_v367 : Ref sig .tc := ⟨.hbm, 573, rfl⟩
abbrev main_cst_137 : Ref sig .tc := ⟨.hbm, 574, rfl⟩
abbrev main_v368 : Ref sig .tc := ⟨.hbm, 575, rfl⟩
abbrev main_v369 : Ref sig .tc := ⟨.hbm, 576, rfl⟩
abbrev main_v370 : Ref sig .tc := ⟨.hbm, 577, rfl⟩
abbrev main_cst_138 : Ref sig .tc := ⟨.hbm, 578, rfl⟩
abbrev main_v371 : Ref sig .tc := ⟨.hbm, 579, rfl⟩
abbrev main_v372 : Ref sig .tc := ⟨.hbm, 580, rfl⟩
abbrev main_cst_139 : Ref sig .tc := ⟨.hbm, 581, rfl⟩
abbrev main_v373 : Ref sig .tc := ⟨.hbm, 582, rfl⟩
abbrev main_v374 : Ref sig .tc := ⟨.hbm, 583, rfl⟩
abbrev main_v375 : Ref sig .tc := ⟨.hbm, 584, rfl⟩
abbrev main_cst_140 : Ref sig .tc := ⟨.hbm, 585, rfl⟩
abbrev main_v376 : Ref sig .tc := ⟨.hbm, 586, rfl⟩
abbrev main_v377 : Ref sig .tc := ⟨.hbm, 587, rfl⟩
abbrev main_v378 : Ref sig .tc := ⟨.hbm, 588, rfl⟩
abbrev main_cst_141 : Ref sig .tc := ⟨.hbm, 589, rfl⟩
abbrev main_v379 : Ref sig .tc := ⟨.hbm, 590, rfl⟩
abbrev main_v380 : Ref sig .tc := ⟨.hbm, 591, rfl⟩
abbrev main_v381 : Ref sig .tc := ⟨.hbm, 592, rfl⟩
abbrev main_cst_142 : Ref sig .tc := ⟨.hbm, 593, rfl⟩
abbrev main_v382 : Ref sig .tc := ⟨.hbm, 594, rfl⟩
abbrev main_v383 : Ref sig .tc := ⟨.hbm, 595, rfl⟩
abbrev main_cst_143 : Ref sig .tc := ⟨.hbm, 596, rfl⟩
abbrev main_v384 : Ref sig .tc := ⟨.hbm, 597, rfl⟩
abbrev main_v385 : Ref sig .tc := ⟨.hbm, 598, rfl⟩
abbrev main_cst_144 : Ref sig .tc := ⟨.hbm, 599, rfl⟩
abbrev main_v386 : Ref sig .tc := ⟨.hbm, 600, rfl⟩
abbrev main_v387 : Ref sig .tc := ⟨.hbm, 601, rfl⟩
abbrev main_v388 : Ref sig .tc := ⟨.hbm, 602, rfl⟩
abbrev main_cst_145 : Ref sig .tc := ⟨.hbm, 603, rfl⟩
abbrev main_v389 : Ref sig .tc := ⟨.hbm, 604, rfl⟩
abbrev main_v390 : Ref sig .tc := ⟨.hbm, 605, rfl⟩
abbrev main_v391 : Ref sig .tc := ⟨.hbm, 606, rfl⟩
abbrev main_cst_146 : Ref sig .tc := ⟨.hbm, 607, rfl⟩
abbrev main_v392 : Ref sig .tc := ⟨.hbm, 608, rfl⟩
abbrev main_v393 : Ref sig .tc := ⟨.hbm, 609, rfl⟩
abbrev main_v394 : Ref sig .tc := ⟨.hbm, 610, rfl⟩
abbrev main_cst_147 : Ref sig .tc := ⟨.hbm, 611, rfl⟩
abbrev main_v395 : Ref sig .tc := ⟨.hbm, 612, rfl⟩
abbrev main_v396 : Ref sig .tc := ⟨.hbm, 613, rfl⟩
abbrev main_cst_148 : Ref sig .tc := ⟨.hbm, 614, rfl⟩
abbrev main_v397 : Ref sig .tc := ⟨.hbm, 615, rfl⟩
abbrev main_v398 : Ref sig .tc := ⟨.hbm, 616, rfl⟩
abbrev main_v399 : Ref sig .tc := ⟨.hbm, 617, rfl⟩
abbrev main_cst_149 : Ref sig .tc := ⟨.hbm, 618, rfl⟩
abbrev main_v400 : Ref sig .tc := ⟨.hbm, 619, rfl⟩
abbrev main_v401 : Ref sig .tc := ⟨.hbm, 620, rfl⟩
abbrev main_v402 : Ref sig .tc := ⟨.hbm, 621, rfl⟩
abbrev main_cst_150 : Ref sig .tc := ⟨.hbm, 622, rfl⟩
abbrev main_v403 : Ref sig .tc := ⟨.hbm, 623, rfl⟩
abbrev main_v404 : Ref sig .tc := ⟨.hbm, 624, rfl⟩
abbrev main_v405 : Ref sig .tc := ⟨.hbm, 625, rfl⟩
abbrev main_cst_151 : Ref sig .tc := ⟨.hbm, 626, rfl⟩
abbrev main_v406 : Ref sig .tc := ⟨.hbm, 627, rfl⟩
abbrev main_v407 : Ref sig .tc := ⟨.hbm, 628, rfl⟩

abbrev nD : Nat := 1
abbrev τ : Topo := Topo.v7x

variable {F : FTy → Type} [FloatOps F]
-- ==== Kernel27.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩

abbrev nBuf : Space → Nat
  | .hbm => 9
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .bf16⟩
  | .hbm, ⟨5, _⟩ => ⟨S1024x1024, .bf16⟩
  | .hbm, ⟨6, _⟩ => ⟨S1x1024, .f32⟩
  | .hbm, ⟨7, _⟩ => ⟨S4096x1024, .f32⟩
  | .hbm, ⟨8, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference27Ideal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Kernel28.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference28Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel29.lean ====
abbrev S4096x2048 : Shape := ⟨2, ![4096, 2048]⟩
abbrev S4096x1024 : Shape := ⟨2, ![4096, 1024]⟩
abbrev S1024 : Shape := ⟨1, ![1024]⟩
abbrev S1x1024 : Shape := ⟨2, ![1, 1024]⟩
abbrev S256x2048 : Shape := ⟨2, ![256, 2048]⟩
abbrev S256x1024 : Shape := ⟨2, ![256, 1024]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S4096x1024, .bf16⟩
  | .hbm, ⟨6, _⟩ => ⟨S4096x1024, .f32⟩
  | .hbm, ⟨7, _⟩ => ⟨S1x1024, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .bf16⟩
  | .local _ .vmem, ⟨8, _⟩ => ⟨S256x1024, .bf16⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let v40 : BitVec 32 := Scalar.extui v39
  let c0_i32_19 : BitVec 32 := 0#32
  let v41 : BitVec 1 := Scalar.cmpi .ne v40 c0_i32_19
  v41

def k0_cond2 (i : grid0.Coords) : BitVec 1 :=
  let arg0 : BitVec 32 := BitVec.ofNat 32 (i 0).val
  let c0_i32_20 : BitVec 32 := 0#32
  let v42 : BitVec 1 := Scalar.cmpi .sgt arg0 c0_i32_20
  let v43 : BitVec 32 := Scalar.extui v42
  let c0_i32_21 : BitVec 32 := 0#32
  let v44 : BitVec 1 := Scalar.cmpi .ne v43 c0_i32_21
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference29Ideal.lean ====
abbrev S4096x2048 : Shape := ⟨2, ![4096, 2048]⟩
abbrev S4096x1024 : Shape := ⟨2, ![4096, 1024]⟩
abbrev S1024 : Shape := ⟨1, ![1024]⟩
abbrev S_ : Shape := ⟨0, ![]⟩
abbrev S1x1024 : Shape := ⟨2, ![1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S_, .f32⟩
  | .hbm, ⟨45, _⟩ => ⟨S1024, .f32⟩
  | .hbm, ⟨46, _⟩ => ⟨S4096x1024, .bf16⟩
  | .hbm, ⟨47, _⟩ => ⟨S1x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Kernel30.lean ====
abbrev S4096x2048 : Shape := ⟨2, ![4096, 2048]⟩
abbrev S1x128 : Shape := ⟨2, ![1, 128]⟩
abbrev S256x2048 : Shape := ⟨2, ![256, 2048]⟩
abbrev S1x256x2048 : Shape := ⟨3, ![1, 256, 2048]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 11
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .bf16⟩
  | .hbm, ⟨4, _⟩ => ⟨S1x128, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S1x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v18 : BitVec 1 := Scalar.cmpi .eq arg0 c0_i32
  let v19 : BitVec 32 := Scalar.extui v18
  let c0_i32_10 : BitVec 32 := 0#32
  let v20 : BitVec 1 := Scalar.cmpi .ne v19 c0_i32_10
  v20

def k0_cond2 (i : grid0.Coords) : BitVec 1 :=
  let arg0 : BitVec 32 := BitVec.ofNat 32 (i 0).val
  let c0_i32_11 : BitVec 32 := 0#32
  let v21 : BitVec 1 := Scalar.cmpi .sgt arg0 c0_i32_11
  let v22 : BitVec 32 := Scalar.extui v21
  let c0_i32_12 : BitVec 32 := 0#32
  let v23 : BitVec 1 := Scalar.cmpi .ne v22 c0_i32_12
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference30Ideal.lean ====
abbrev S4096x2048 : Shape := ⟨2, ![4096, 2048]⟩
abbrev S_ : Shape := ⟨0, ![]⟩
abbrev S4096 : Shape := ⟨1, ![4096]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x2048, .f32⟩
  | .hbm, ⟨24, _⟩ => ⟨S4096x2048, .f32⟩
  | .hbm, ⟨25, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel31.lean ====
abbrev S8x2x2048 : Shape := ⟨3, ![8, 2, 2048]⟩
abbrev S8x2x64x64 : Shape := ⟨4, ![8, 2, 64, 64]⟩
abbrev S8x2x64 : Shape := ⟨3, ![8, 2, 64]⟩
abbrev S8x2x64x64x16 : Shape := ⟨5, ![8, 2, 64, 64, 16]⟩
abbrev S8x2x64x16x64 : Shape := ⟨5, ![8, 2, 64, 16, 64]⟩
abbrev S8x2x64x16 : Shape := ⟨4, ![8, 2, 64, 16]⟩
abbrev S8x2x1024 : Shape := ⟨3, ![8, 2, 1024]⟩
abbrev S8x2x128 : Shape := ⟨3, ![8, 2, 128]⟩
abbrev S8x2x32 : Shape := ⟨3, ![8, 2, 32]⟩
abbrev S8x4x2048 : Shape := ⟨3, ![8, 4, 2048]⟩
abbrev S8x4096 : Shape := ⟨2, ![8, 4096]⟩
abbrev S8x8192 : Shape := ⟨2, ![8, 8192]⟩
abbrev S8x128 : Shape := ⟨2, ![8, 128]⟩
abbrev S8x131072 : Shape := ⟨2, ![8, 131072]⟩
abbrev S8x2048 : Shape := ⟨2, ![8, 2048]⟩
abbrev S8x256 : Shape := ⟨2, ![8, 256]⟩
abbrev S8x64 : Shape := ⟨2, ![8, 64]⟩
abbrev S_ : Shape := ⟨0, ![]⟩
abbrev S8x555776 : Shape := ⟨2, ![8, 555776]⟩
abbrev S8x563968 : Shape := ⟨2, ![8, 563968]⟩
abbrev S8x589824 : Shape := ⟨2, ![8, 589824]⟩
abbrev S8x4608x128 : Shape := ⟨3, ![8, 4608, 128]⟩
abbrev S4608x128 : Shape := ⟨2, ![4608, 128]⟩
abbrev S8x512x128 : Shape := ⟨3, ![8, 512, 128]⟩
abbrev S512x128 : Shape := ⟨2, ![512, 128]⟩
abbrev S1x512x128 : Shape := ⟨3, ![1, 512, 128]⟩
abbrev S589824 : Shape := ⟨1, ![589824]⟩
abbrev S4096 : Shape := ⟨1, ![4096]⟩
abbrev S2x2048 : Shape := ⟨2, ![2, 2048]⟩
abbrev S8192 : Shape := ⟨1, ![8192]⟩
abbrev S2x64x64 : Shape := ⟨3, ![2, 64, 64]⟩
abbrev S128 : Shape := ⟨1, ![128]⟩
abbrev S2x64 : Shape := ⟨2, ![2, 64]⟩
abbrev S131072 : Shape := ⟨1, ![131072]⟩
abbrev S2x64x64x16 : Shape := ⟨4, ![2, 64, 64, 16]⟩
abbrev S2x64x16x64 : Shape := ⟨4, ![2, 64, 16, 64]⟩
abbrev S2048 : Shape := ⟨1, ![2048]⟩
abbrev S2x64x16 : Shape := ⟨3, ![2, 64, 16]⟩
abbrev S2x1024 : Shape := ⟨2, ![2, 1024]⟩
abbrev S256 : Shape := ⟨1, ![256]⟩
abbrev S2x128 : Shape := ⟨2, ![2, 128]⟩
abbrev S64 : Shape := ⟨1, ![64]⟩
abbrev S2x32 : Shape := ⟨2, ![2, 32]⟩
abbrev S4x2048 : Shape := ⟨2, ![4, 2048]⟩

abbrev nBuf : Space → Nat
  | .hbm => 77
  | .vmem => 4
  | .smem => 0
  | _ => 0

abbrev bufTy : (tb : Table) → Fin (tcTables nBuf tb) → BufTy
  | .hbm, ⟨0, _⟩ => ⟨S8x2x2048, .f32⟩
  | .hbm, ⟨1, _⟩ => ⟨S8x2x64x64, .f32⟩
  | .hbm, ⟨2, _⟩ => ⟨S8x2x64x64, .f32⟩
  | .hbm, ⟨3, _⟩ => ⟨S8x2x64, .f32⟩
  | .hbm, ⟨4, _⟩ => ⟨S8x2x64x64x16, .f32⟩
  | .hbm, ⟨5, _⟩ => ⟨S8x2x64x64x16, .f32⟩
  | .hbm, ⟨6, _⟩ => ⟨S8x2x64x16x64, .f32⟩
  | .hbm, ⟨7, _⟩ => ⟨S8x2x64x16x64, .f32⟩
  | .hbm, ⟨8, _⟩ => ⟨S8x2x64x16, .f32⟩
  | .hbm, ⟨9, _⟩ => ⟨S8x2x1024, .f32⟩
  | .hbm, ⟨10, _⟩ => ⟨S8x2x1024, .f32⟩
  | .hbm, ⟨11, _⟩ => ⟨S8x2x128, .f32⟩
  | .hbm, ⟨12, _⟩ => ⟨S8x2x2048, .f32⟩
  | .hbm, ⟨13, _⟩ => ⟨S8x2x64, .f32⟩
  | .hbm, ⟨14, _⟩ => ⟨S8x2x64, .f32⟩
  | .hbm, ⟨15, _⟩ => ⟨S8x2x32, .f32⟩
  | .hbm, ⟨16, _⟩ => ⟨S8x4x2048, .f32⟩
  | .hbm, ⟨17, _⟩ => ⟨S8x4096, .f32⟩
  | .hbm, ⟨18, _⟩ => ⟨S8x8192, .f32⟩
  | .hbm, ⟨19, _⟩ => ⟨S8x8192, .f32⟩
  | .hbm, ⟨20, _⟩ => ⟨S8x128, .f32⟩
  | .hbm, ⟨21, _⟩ => ⟨S8x131072, .f32⟩
  | .hbm, ⟨22, _⟩ => ⟨S8x131072, .f32⟩
  | .hbm, ⟨23, _⟩ => ⟨S8x131072, .f32⟩
  | .hbm, ⟨24, _⟩ => ⟨S8x131072, .f32⟩
  | .hbm, ⟨25, _⟩ => ⟨S8x2048, .f32⟩
  | .hbm, ⟨26, _⟩ => ⟨S8x2048, .f32⟩
  | .hbm, ⟨27, _⟩ => ⟨S8x2048, .f32⟩
  | .hbm, ⟨28, _⟩ => ⟨S8x256, .f32⟩
  | .hbm, ⟨29, _⟩ => ⟨S8x4096, .f32⟩
  | .hbm, ⟨30, _⟩ => ⟨S8x128, .f32⟩
  | .hbm, ⟨31, _⟩ => ⟨S8x128, .f32⟩
  | .hbm, ⟨32, _⟩ => ⟨S8x64, .f32⟩
  | .hbm, ⟨33, _⟩ => ⟨S_, .f32⟩
  | .hbm, ⟨34, _⟩ => ⟨S8x128, .f32⟩
  | .hbm, ⟨35, _⟩ => ⟨S8x8192, .f32⟩
  | .hbm, ⟨36, _⟩ => ⟨S8x555776, .f32⟩
  | .hbm, ⟨37, _⟩ => ⟨S8x563968, .f32⟩
  | .hbm, ⟨38, _⟩ => ⟨S_, .f32⟩
  | .hbm, ⟨39, _⟩ => ⟨S8x589824, .f32⟩
  | .hbm, ⟨40, _⟩ => ⟨S8x4608x128, .f32⟩
  | .hbm, ⟨41, _⟩ => ⟨S4608x128, .f32⟩
  | .hbm, ⟨42, _⟩ => ⟨S589824, .f32⟩
  | .hbm, ⟨43, _⟩ => ⟨S4096, .f32⟩
  | .hbm, ⟨44, _⟩ => ⟨S2x2048, .f32⟩
  | .hbm, ⟨45, _⟩ => ⟨S8192, .f32⟩
  | .hbm, ⟨46, _⟩ => ⟨S2x64x64, .f32⟩
  | .hbm, ⟨47, _⟩ => ⟨S8192, .f32⟩
  | .hbm, ⟨48, _⟩ => ⟨S2x64x64, .f32⟩
  | .hbm, ⟨49, _⟩ => ⟨S128, .f32⟩
  | .hbm, ⟨50, _⟩ => ⟨S2x64, .f32⟩
  | .hbm, ⟨51, _⟩ => ⟨S131072, .f32⟩
  | .hbm, ⟨52, _⟩ => ⟨S2x64x64x16, .f32⟩
  | .hbm, ⟨53, _⟩ => ⟨S131072, .f32⟩
  | .hbm, ⟨54, _⟩ => ⟨S2x64x64x16, .f32⟩
  | .hbm, ⟨55, _⟩ => ⟨S131072, .f32⟩
  | .hbm, ⟨56, _⟩ => ⟨S2x64x16x64, .f32⟩
  | .hbm, ⟨57, _⟩ => ⟨S131072, .f32⟩
  | .hbm, ⟨58, _⟩ => ⟨S2x64x16x64, .f32⟩
  | .hbm, ⟨59, _⟩ => ⟨S2048, .f32⟩
  | .hbm, ⟨60, _⟩ => ⟨S2x64x16, .f32⟩
  | .hbm, ⟨61, _⟩ => ⟨S2048, .f32⟩
  | .hbm, ⟨62, _⟩ => ⟨S2x1024, .f32⟩
  | .hbm, ⟨63, _⟩ => ⟨S2048, .f32⟩
  | .hbm, ⟨64, _⟩ => ⟨S2x1024, .f32⟩
  | .hbm, ⟨65, _⟩ => ⟨S256, .f32⟩
  | .hbm, ⟨66, _⟩ => ⟨S2x128, .f32⟩
  | .hbm, ⟨67, _⟩ => ⟨S4096, .f32⟩
  | .hbm, ⟨68, _⟩ => ⟨S2x2048, .f32⟩
  | .hbm, ⟨69, _⟩ => ⟨S128, .f32⟩
  | .hbm, ⟨70, _⟩ => ⟨S2x64, .f32⟩
  | .hbm, ⟨71, _⟩ => ⟨S128, .f32⟩
  | .hbm, ⟨72, _⟩ => ⟨S2x64, .f32⟩
  | .hbm, ⟨73, _⟩ => ⟨S64, .f32⟩
  | .hbm, ⟨74, _⟩ => ⟨S2x32, .f32⟩
  | .hbm, ⟨75, _⟩ => ⟨S8192, .f32⟩
  | .hbm, ⟨76, _⟩ => ⟨S4x2048, .f32⟩
  | .local _ .vmem, ⟨0, _⟩ => ⟨S8x512x128, .f32⟩
  | .local _ .vmem, ⟨1, _⟩ => ⟨S8x512x128, .f32⟩
  | .local _ .vmem, ⟨2, _⟩ => ⟨S512x128, .f32⟩
  | .local _ .vmem, ⟨3, _⟩ => ⟨S512x128, .f32⟩
  | _, _ => ⟨S8x2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_0 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![9], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference31Ideal.lean ====
abbrev S8x2x2048 : Shape := ⟨3, ![8, 2, 2048]⟩
abbrev S8x2x64x64 : Shape := ⟨4, ![8, 2, 64, 64]⟩
abbrev S8x2x64 : Shape := ⟨3, ![8, 2, 64]⟩
abbrev S8x2x64x64x16 : Shape := ⟨5, ![8, 2, 64, 64, 16]⟩
abbrev S8x2x64x16x64 : Shape := ⟨5, ![8, 2, 64, 16, 64]⟩
abbrev S8x2x64x16 : Shape := ⟨4, ![8, 2, 64, 16]⟩
abbrev S8x2x1024 : Shape := ⟨3, ![8, 2, 1024]⟩
abbrev S8x2x128 : Shape := ⟨3, ![8, 2, 128]⟩
abbrev S8x2x32 : Shape := ⟨3, ![8, 2, 32]⟩
abbrev S8x4x2048 : Shape := ⟨3, ![8, 4, 2048]⟩
abbrev S_ : Shape := ⟨0, ![]⟩
abbrev S2x2048 : Shape := ⟨2, ![2, 2048]⟩
abbrev S2x64x64 : Shape := ⟨3, ![2, 64, 64]⟩
abbrev S2x64 : Shape := ⟨2, ![2, 64]⟩
abbrev S2x64x64x16 : Shape := ⟨4, ![2, 64, 64, 16]⟩
abbrev S2x64x16x64 : Shape := ⟨4, ![2, 64, 16, 64]⟩
abbrev S2x64x16 : Shape := ⟨3, ![2, 64, 16]⟩
abbrev S2x1024 : Shape := ⟨2, ![2, 1024]⟩
abbrev S2x128 : Shape := ⟨2, ![2, 128]⟩
abbrev S2x32 : Shape := ⟨2, ![2, 32]⟩
abbrev S4x2048 : Shape := ⟨2, ![4, 2048]⟩

abbrev nBuf : Space → Nat
  | .hbm => 51
  | .vmem => 0
  | .smem => 0
  | _ => 0

abbrev bufTy : (tb : Table) → Fin (tcTables nBuf tb) → BufTy
  | .hbm, ⟨0, _⟩ => ⟨S8x2x2048, .f32⟩
  | .hbm, ⟨1, _⟩ => ⟨S8x2x64x64, .f32⟩
  | .hbm, ⟨2, _⟩ => ⟨S8x2x64x64, .f32⟩
  | .hbm, ⟨3, _⟩ => ⟨S8x2x64, .f32⟩
  | .hbm, ⟨4, _⟩ => ⟨S8x2x64x64x16, .f32⟩
  | .hbm, ⟨5, _⟩ => ⟨S8x2x64x64x16, .f32⟩
  | .hbm, ⟨6, _⟩ => ⟨S8x2x64x16x64, .f32⟩
  | .hbm, ⟨7, _⟩ => ⟨S8x2x64x16x64, .f32⟩
  | .hbm, ⟨8, _⟩ => ⟨S8x2x64x16, .f32⟩
  | .hbm, ⟨9, _⟩ => ⟨S8x2x1024, .f32⟩
  | .hbm, ⟨10, _⟩ => ⟨S8x2x1024, .f32⟩
  | .hbm, ⟨11, _⟩ => ⟨S8x2x128, .f32⟩
  | .hbm, ⟨12, _⟩ => ⟨S8x2x2048, .f32⟩
  | .hbm, ⟨13, _⟩ => ⟨S8x2x64, .f32⟩
  | .hbm, ⟨14, _⟩ => ⟨S8x2x64, .f32⟩
  | .hbm, ⟨15, _⟩ => ⟨S8x2x32, .f32⟩
  | .hbm, ⟨16, _⟩ => ⟨S8x4x2048, .f32⟩
  | .hbm, ⟨17, _⟩ => ⟨S_, .f32⟩
  | .hbm, ⟨18, _⟩ => ⟨S2x2048, .f32⟩
  | .hbm, ⟨19, _⟩ => ⟨S_, .f32⟩
  | .hbm, ⟨20, _⟩ => ⟨S2x64x64, .f32⟩
  | .hbm, ⟨21, _⟩ => ⟨S_, .f32⟩
  | .hbm, ⟨22, _⟩ => ⟨S2x64x64, .f32⟩
  | .hbm, ⟨23, _⟩ => ⟨S_, .f32⟩
  | .hbm, ⟨24, _⟩ => ⟨S2x64, .f32⟩
  | .hbm, ⟨25, _⟩ => ⟨S_, .f32⟩
  | .hbm, ⟨26, _⟩ => ⟨S2x64x64x16, .f32⟩
  | .hbm, ⟨27, _⟩ => ⟨S_, .f32⟩
  | .hbm, ⟨28, _⟩ => ⟨S2x64x64x16, .f32⟩
  | .hbm, ⟨29, _⟩ => ⟨S_, .f32⟩
  | .hbm, ⟨30, _⟩ => ⟨S2x64x16x64, .f32⟩
  | .hbm, ⟨31, _⟩ => ⟨S_, .f32⟩
  | .hbm, ⟨32, _⟩ => ⟨S2x64x16x64, .f32⟩
  | .hbm, ⟨33, _⟩ => ⟨S_, .f32⟩
  | .hbm, ⟨34, _⟩ => ⟨S2x64x16, .f32⟩
  | .hbm, ⟨35, _⟩ => ⟨S_, .f32⟩
  | .hbm, ⟨36, _⟩ => ⟨S2x1024, .f32⟩
  | .hbm, ⟨37, _⟩ => ⟨S_, .f32⟩
  | .hbm, ⟨38, _⟩ => ⟨S2x1024, .f32⟩
  | .hbm, ⟨39, _⟩ => ⟨S_, .f32⟩
  | .hbm, ⟨40, _⟩ => ⟨S2x128, .f32⟩
  | .hbm, ⟨41, _⟩ => ⟨S_, .f32⟩
  | .hbm, ⟨42, _⟩ => ⟨S2x2048, .f32⟩
  | .hbm, ⟨43, _⟩ => ⟨S_, .f32⟩
  | .hbm, ⟨44, _⟩ => ⟨S2x64, .f32⟩
  | .hbm, ⟨45, _⟩ => ⟨S_, .f32⟩
  | .hbm, ⟨46, _⟩ => ⟨S2x64, .f32⟩
  | .hbm, ⟨47, _⟩ => ⟨S_, .f32⟩
  | .hbm, ⟨48, _⟩ => ⟨S2x32, .f32⟩
  | .hbm, ⟨49, _⟩ => ⟨S_, .f32⟩
  | .hbm, ⟨50, _⟩ => ⟨S4x2048, .f32⟩
  | _, _ => ⟨S8x2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_cst_1 : Ref sig .tc := ⟨.hbm, 21, rfl⟩
abbrev main_v2 : Ref sig .tc := ⟨.hbm, 22, rfl⟩
abbrev main_cst_2 : Ref sig .tc := ⟨.hbm, 23, rfl⟩
abbrev main_v3 : Ref sig .tc := ⟨.hbm, 24, rfl⟩
abbrev main_cst_3 : Ref sig .tc := ⟨.hbm, 25, rfl⟩
abbrev main_v4 : Ref sig .tc := ⟨.hbm, 26, rfl⟩
abbrev main_cst_4 : Ref sig .tc := ⟨.hbm, 27, rfl⟩
abbrev main_v5 : Ref sig .tc := ⟨.hbm, 28, rfl⟩
abbrev main_cst_5 : Ref sig .tc := ⟨.hbm, 29, rfl⟩
abbrev main_v6 : Ref sig .tc := ⟨.hbm, 30, rfl⟩
abbrev main_cst_6 : Ref sig .tc := ⟨.hbm, 31, rfl⟩
abbrev main_v7 : Ref sig .tc := ⟨.hbm, 32, rfl⟩
abbrev main_cst_7 : Ref sig .tc := ⟨.hbm, 33, rfl⟩
abbrev main_v8 : Ref sig .tc := ⟨.hbm, 34, rfl⟩
abbrev main_cst_8 : Ref sig .tc := ⟨.hbm, 35, rfl⟩
abbrev main_v9 : Ref sig .tc := ⟨.hbm, 36, rfl⟩
abbrev main_cst_9 : Ref sig .tc := ⟨.hbm, 37, rfl⟩
abbrev main_v10 : Ref sig .tc := ⟨.hbm, 38, rfl⟩
abbrev main_cst_10 : Ref sig .tc := ⟨.hbm, 39, rfl⟩
abbrev main_v11 : Ref sig .tc := ⟨.hbm, 40, rfl⟩
abbrev main_cst_11 : Ref sig .tc := ⟨.hbm, 41, rfl⟩
abbrev main_v12 : Ref sig .tc := ⟨.hbm, 42, rfl⟩
abbrev main_cst_12 : Ref sig .tc := ⟨.hbm, 43, rfl⟩
abbrev main_v13 : Ref sig .tc := ⟨.hbm, 44, rfl⟩
abbrev main_cst_13 : Ref sig .tc := ⟨.hbm, 45, rfl⟩
abbrev main_v14 : Ref sig .tc := ⟨.hbm, 46, rfl⟩
abbrev main_cst_14 : Ref sig .tc := ⟨.hbm, 47, rfl⟩
abbrev main_v15 : Ref sig .tc := ⟨.hbm, 48, rfl⟩
abbrev main_cst_15 : Ref sig .tc := ⟨.hbm, 49, rfl⟩
abbrev main_v16 : Ref sig .tc := ⟨.hbm, 50, rfl⟩

abbrev nD : Nat := 1
abbrev τ : Topo := Topo.v7x

variable {F : FTy → Type} [FloatOps F]
-- ==== Kernel32.lean ====
abbrev S4x2048x1024 : Shape := ⟨3, ![4, 2048, 1024]⟩
abbrev S2048x1024 : Shape := ⟨2, ![2048, 1024]⟩
abbrev S4x512x1024 : Shape := ⟨3, ![4, 512, 1024]⟩
abbrev S512x1024 : Shape := ⟨2, ![512, 1024]⟩
abbrev S1x512x1024 : Shape := ⟨3, ![1, 512, 1024]⟩

abbrev nBuf : Space → Nat
  | .hbm => 3
  | .vmem => 4
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .bf16⟩
  | .hbm, ⟨2, _⟩ => ⟨S2048x1024, .f32⟩
  | .local _ .vmem, ⟨0, _⟩ => ⟨S4x512x1024, .bf16⟩
  | .local _ .vmem, ⟨1, _⟩ => ⟨S4x512x1024, .bf16⟩
  | .local _ .vmem, ⟨2, _⟩ => ⟨S512x1024, .f32⟩
  | .local _ .vmem, ⟨3, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference32Ideal.lean ====
abbrev S4x2048x1024 : Shape := ⟨3, ![4, 2048, 1024]⟩
abbrev S_ : Shape := ⟨0, ![]⟩
abbrev S2048x1024 : Shape := ⟨2, ![2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S_, .f32⟩
  | .hbm, ⟨2, _⟩ => ⟨S2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel33.lean ====
abbrev S4x2048x640 : Shape := ⟨3, ![4, 2048, 640]⟩
abbrev S4x128x1024 : Shape := ⟨3, ![4, 128, 1024]⟩
abbrev S4x256x2048 : Shape := ⟨3, ![4, 256, 2048]⟩
abbrev S4x1280x1024 : Shape := ⟨3, ![4, 1280, 1024]⟩
abbrev S4x512x1024 : Shape := ⟨3, ![4, 512, 1024]⟩
abbrev S4x1920x1024 : Shape := ⟨3, ![4, 1920, 1024]⟩
abbrev S1920x1024 : Shape := ⟨2, ![1920, 1024]⟩
abbrev S4x480x1024 : Shape := ⟨3, ![4, 480, 1024]⟩
abbrev S480x1024 : Shape := ⟨2, ![480, 1024]⟩
abbrev S1x480x1024 : Shape := ⟨3, ![1, 480, 1024]⟩
abbrev S1280x1024 : Shape := ⟨2, ![1280, 1024]⟩
abbrev S2048x640 : Shape := ⟨2, ![2048, 640]⟩
abbrev S128x1024 : Shape := ⟨2, ![128, 1024]⟩
abbrev S512x1024 : Shape := ⟨2, ![512, 1024]⟩
abbrev S256x2048 : Shape := ⟨2, ![256, 2048]⟩

abbrev nBuf : Space → Nat
  | .hbm => 13
  | .vmem => 4
  | .smem => 0
  | _ => 0

abbrev bufTy : (tb : Table) → Fin (tcTables nBuf tb) → BufTy
  | .hbm, ⟨0, _⟩ => ⟨S4x2048x640, .f32⟩
  | .hbm, ⟨1, _⟩ => ⟨S4x128x1024, .f32⟩
  | .hbm, ⟨2, _⟩ => ⟨S4x256x2048, .f32⟩
  | .hbm, ⟨3, _⟩ => ⟨S4x1280x1024, .f32⟩
  | .hbm, ⟨4, _⟩ => ⟨S4x512x1024, .f32⟩
  | .hbm, ⟨5, _⟩ => ⟨S4x1920x1024, .f32⟩
  | .hbm, ⟨6, _⟩ => ⟨S4x1920x1024, .bf16⟩
  | .hbm, ⟨7, _⟩ => ⟨S1920x1024, .f32⟩
  | .hbm, ⟨8, _⟩ => ⟨S1280x1024, .f32⟩
  | .hbm, ⟨9, _⟩ => ⟨S2048x640, .f32⟩
  | .hbm, ⟨10, _⟩ => ⟨S128x1024, .f32⟩
  | .hbm, ⟨11, _⟩ => ⟨S512x1024, .f32⟩
  | .hbm, ⟨12, _⟩ => ⟨S256x2048, .f32⟩
  | .local _ .vmem, ⟨0, _⟩ => ⟨S4x480x1024, .bf16⟩
  | .local _ .vmem, ⟨1, _⟩ => ⟨S4x480x1024, .bf16⟩
  | .local _ .vmem, ⟨2, _⟩ => ⟨S480x1024, .f32⟩
  | .local _ .vmem, ⟨3, _⟩ => ⟨S480x1024, .f32⟩
  | _, _ => ⟨S4x2048x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x480x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S480x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference33Ideal.lean ====
abbrev S4x2048x640 : Shape := ⟨3, ![4, 2048, 640]⟩
abbrev S4x128x1024 : Shape := ⟨3, ![4, 128, 1024]⟩
abbrev S4x256x2048 : Shape := ⟨3, ![4, 256, 2048]⟩
abbrev S_ : Shape := ⟨0, ![]⟩
abbrev S2048x640 : Shape := ⟨2, ![2048, 640]⟩
abbrev S128x1024 : Shape := ⟨2, ![128, 1024]⟩
abbrev S256x2048 : Shape := ⟨2, ![256, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x640, .f32⟩
  | .hbm, ⟨1, _⟩ => ⟨S4x128x1024, .f32⟩
  | .hbm, ⟨2, _⟩ => ⟨S4x256x2048, .f32⟩
  | .hbm, ⟨3, _⟩ => ⟨S_, .f32⟩
  | .hbm, ⟨4, _⟩ => ⟨S2048x640, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S256x2048, .f32⟩
  | _, _ => ⟨S4x2048x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩

abbrev nD : Nat := 1
abbrev τ : Topo := Topo.v7x

variable {F : FTy → Type} [FloatOps F]
-- ==== Kernel34.lean ====
abbrev S4x2048x320 : Shape := ⟨3, ![4, 2048, 320]⟩
abbrev S4x256x2048 : Shape := ⟨3, ![4, 256, 2048]⟩
abbrev S4x640x1024 : Shape := ⟨3, ![4, 640, 1024]⟩
abbrev S4x512x1024 : Shape := ⟨3, ![4, 512, 1024]⟩
abbrev S4x1152x1024 : Shape := ⟨3, ![4, 1152, 1024]⟩
abbrev S1152x1024 : Shape := ⟨2, ![1152, 1024]⟩
abbrev S4x384x1024 : Shape := ⟨3, ![4, 384, 1024]⟩
abbrev S384x1024 : Shape := ⟨2, ![384, 1024]⟩
abbrev S1x384x1024 : Shape := ⟨3, ![1, 384, 1024]⟩
abbrev S640x1024 : Shape := ⟨2, ![640, 1024]⟩
abbrev S2048x320 : Shape := ⟨2, ![2048, 320]⟩
abbrev S512x1024 : Shape := ⟨2, ![512, 1024]⟩
abbrev S256x2048 : Shape := ⟨2, ![256, 2048]⟩

abbrev nBuf : Space → Nat
  | .hbm => 11
  | .vmem => 4
  | .smem => 0
  | _ => 0

abbrev bufTy : (tb : Table) → Fin (tcTables nBuf tb) → BufTy
  | .hbm, ⟨0, _⟩ => ⟨S4x2048x320, .f32⟩
  | .hbm, ⟨1, _⟩ => ⟨S4x256x2048, .f32⟩
  | .hbm, ⟨2, _⟩ => ⟨S4x640x1024, .f32⟩
  | .hbm, ⟨3, _⟩ => ⟨S4x512x1024, .f32⟩
  | .hbm, ⟨4, _⟩ => ⟨S4x1152x1024, .f32⟩
  | .hbm, ⟨5, _⟩ => ⟨S4x1152x1024, .bf16⟩
  | .hbm, ⟨6, _⟩ => ⟨S1152x1024, .f32⟩
  | .hbm, ⟨7, _⟩ => ⟨S640x1024, .f32⟩
  | .hbm, ⟨8, _⟩ => ⟨S2048x320, .f32⟩
  | .hbm, ⟨9, _⟩ => ⟨S512x1024, .f32⟩
  | .hbm, ⟨10, _⟩ => ⟨S256x2048, .f32⟩
  | .local _ .vmem, ⟨0, _⟩ => ⟨S4x384x1024, .bf16⟩
  | .local _ .vmem, ⟨1, _⟩ => ⟨S4x384x1024, .bf16⟩
  | .local _ .vmem, ⟨2, _⟩ => ⟨S384x1024, .f32⟩
  | .local _ .vmem, ⟨3, _⟩ => ⟨S384x1024, .f32⟩
  | _, _ => ⟨S4x2048x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference34Ideal.lean ====
abbrev S4x2048x320 : Shape := ⟨3, ![4, 2048, 320]⟩
abbrev S4x256x2048 : Shape := ⟨3, ![4, 256, 2048]⟩
abbrev S_ : Shape := ⟨0, ![]⟩
abbrev S2048x320 : Shape := ⟨2, ![2048, 320]⟩
abbrev S256x2048 : Shape := ⟨2, ![256, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4x2048x320, .f32⟩
  | .hbm, ⟨1, _⟩ => ⟨S4x256x2048, .f32⟩
  | .hbm, ⟨2, _⟩ => ⟨S_, .f32⟩
  | .hbm, ⟨3, _⟩ => ⟨S2048x320, .f32⟩
  | .hbm, ⟨4, _⟩ => ⟨S_, .f32⟩
  | .hbm, ⟨5, _⟩ => ⟨S256x2048, .f32⟩
  | _, _ => ⟨S4x2048x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== Proof.RefFrames.lean ====
/- The references' frames: each is a program of host operations, which ends with its arguments unchanged. -/
module

public import proofs.«01_k».proof.Defs
public import proofs.«01_k».proof.Proof.Gen.ReferenceIdeal
public import proofs.«01_k».proof.Proof.Gen.Reference2Ideal
public import proofs.«01_k».proof.Proof.Gen.Reference3Ideal
public import proofs.«01_k».proof.Proof.Gen.Reference4Ideal
public import proofs.«01_k».proof.Proof.Gen.Reference5Ideal
public import proofs.«01_k».proof.Proof.Gen.Reference6Ideal
public import proofs.«01_k».proof.Proof.Gen.Reference7Ideal
public import proofs.«01_k».proof.Proof.Gen.Reference8Ideal
public import proofs.«01_k».proof.Proof.Gen.Reference9Ideal
public import proofs.«01_k».proof.Proof.Gen.Reference10Ideal
public import proofs.«01_k».proof.Proof.Gen.Reference11Ideal
public import proofs.«01_k».proof.Proof.Gen.Reference12Ideal
public import proofs.«01_k».proof.Proof.Gen.Reference13Ideal
public import proofs.«01_k».proof.Proof.Gen.Reference14Ideal
public import proofs.«01_k».proof.Proof.Gen.Reference15Ideal
public import proofs.«01_k».proof.Proof.Gen.Reference16Ideal
public import proofs.«01_k».proof.Proof.Gen.Reference17Ideal
public import proofs.«01_k».proof.Proof.Gen.Reference18Ideal
public import proofs.«01_k».proof.Proof.Gen.Reference19Ideal
public import proofs.«01_k».proof.Proof.Gen.Reference20Ideal
public import proofs.«01_k».proof.Proof.Gen.Reference21Ideal
public import proofs.«01_k».proof.Proof.Gen.Reference22Ideal
public import proofs.«01_k».proof.Proof.Gen.Reference23Ideal
public import proofs.«01_k».proof.Proof.Gen.Reference24Ideal
public import proofs.«01_k».proof.Proof.Gen.Reference25Ideal
public import proofs.«01_k».proof.Proof.Gen.Reference27Ideal
public import proofs.«01_k».proof.Proof.Gen.Reference28Ideal
public import proofs.«01_k».proof.Proof.Gen.Reference29Ideal
public import proofs.«01_k».proof.Proof.Gen.Reference30Ideal
public import proofs.«01_k».proof.Proof.Gen.Reference31Ideal
public import proofs.«01_k».proof.Proof.Gen.Reference32Ideal
public import proofs.«01_k».proof.Proof.Gen.Reference33Ideal
public import proofs.«01_k».proof.Proof.Gen.Reference34Ideal
public import Idealize.ShloMosaic.Lib.Claim
public import Idealize.ShloMosaic.Lib.Quiescent

@[expose] public section

set_option maxRecDepth 16384

noncomputable section

namespace Cert.Proof

open Idealize.ShloMosaic Idealize.SL.Sem

/-- The reference of the attention's gradient runs and leaves its arguments unchanged. -/
theorem frame_ReferenceIdeal : Cert.quiescent_ReferenceIdeal (hReferenceIdeal := Cert.ReferenceIdeal.Gen.facts) := by
  intro m g _
  hlo_run
  · simp only [and_self, implies_true]
  · exact sem_eq_zero_of_no_sems (sig := Cert.ReferenceIdeal.sig) (by decide) _

/-- The reference of the up projection runs and leaves its arguments unchanged. -/
theorem frame_Reference2Ideal : Cert.quiescent_Reference2Ideal (hReference2Ideal := Cert.Reference2Ideal.Gen.facts) := by
  intro m g _
  hlo_run
  · simp only [and_self, implies_true]
  · exact sem_eq_zero_of_no_sems (sig := Cert.Reference2Ideal.sig) (by decide) _

/-- The reference of the gradient at the up projection's output runs and leaves its arguments unchanged. -/
theorem frame_Reference3Ideal : Cert.quiescent_Reference3Ideal (hReference3Ideal := Cert.Reference3Ideal.Gen.facts) := by
  intro m g _
  hlo_run
  · simp only [and_self, implies_true]
  · exact sem_eq_zero_of_no_sems (sig := Cert.Reference3Ideal.sig) (by decide) _

/-- The reference of the gradient of the down projection's weight runs and leaves its arguments unchanged. -/
theorem frame_Reference4Ideal : Cert.quiescent_Reference4Ideal (hReference4Ideal := Cert.Reference4Ideal.Gen.facts) := by
  intro m g _
  hlo_run
  · simp only [and_self, implies_true]
  · exact sem_eq_zero_of_no_sems (sig := Cert.Reference4Ideal.sig) (by decide) _

/-- The reference of the gradient of the up projection's weight runs and leaves its arguments unchanged. -/
theorem frame_Reference5Ideal : Cert.quiescent_Reference5Ideal (hReference5Ideal := Cert.Reference5Ideal.Gen.facts) := by
  intro m g _
  hlo_run
  · simp only [and_self, implies_true]
  · exact sem_eq_zero_of_no_sems (sig := Cert.Reference5Ideal.sig) (by decide) _

/-- The reference of the down projection runs and leaves its arguments unchanged. -/
theorem frame_Reference6Ideal : Cert.quiescent_Reference6Ideal (hReference6Ideal := Cert.Reference6Ideal.Gen.facts) := by
  intro m g _
  hlo_run
  · simp only [and_self, implies_true]
  · exact sem_eq_zero_of_no_sems (sig := Cert.Reference6Ideal.sig) (by decide) _

/-- The reference of the gradient at the hidden state before the up projection runs and leaves its arguments unchanged. -/
theorem frame_Reference7Ideal : Cert.quiescent_Reference7Ideal (hReference7Ideal := Cert.Reference7Ideal.Gen.facts) := by
  intro m g _
  hlo_run
  · simp only [and_self, implies_true]
  · exact sem_eq_zero_of_no_sems (sig := Cert.Reference7Ideal.sig) (by decide) _

/-- The reference of the gradient of the even layers' input weight runs and leaves its arguments unchanged. -/
theorem frame_Reference8Ideal : Cert.quiescent_Reference8Ideal (hReference8Ideal := Cert.Reference8Ideal.Gen.facts) := by
  intro m g _
  hlo_run
  · simp only [and_self, implies_true]
  · exact sem_eq_zero_of_no_sems (sig := Cert.Reference8Ideal.sig) (by decide) _

/-- The reference of the gradient of the output weight runs and leaves its arguments unchanged. -/
theorem frame_Reference9Ideal : Cert.quiescent_Reference9Ideal (hReference9Ideal := Cert.Reference9Ideal.Gen.facts) := by
  intro m g _
  hlo_run
  · simp only [and_self, implies_true]
  · exact sem_eq_zero_of_no_sems (sig := Cert.Reference9Ideal.sig) (by decide) _

/-- The reference of the gradient of the query, key and value weight runs and leaves its arguments unchanged. -/
theorem frame_Reference10Ideal : Cert.quiescent_Reference10Ideal (hReference10Ideal := Cert.Reference10Ideal.Gen.facts) := by
  intro m g _
  hlo_run
  · simp only [and_self, implies_true]
  · exact sem_eq_zero_of_no_sems (sig := Cert.Reference10Ideal.sig) (by decide) _

/-- The reference of the gradient at the output projection's input runs and leaves its arguments unchanged. -/
theorem frame_Reference11Ideal : Cert.quiescent_Reference11Ideal (hReference11Ideal := Cert.Reference11Ideal.Gen.facts) := by
  intro m g _
  hlo_run
  · simp only [and_self, implies_true]
  · exact sem_eq_zero_of_no_sems (sig := Cert.Reference11Ideal.sig) (by decide) _

/-- The reference of the even layers' input projection runs and leaves its arguments unchanged. -/
theorem frame_Reference12Ideal : Cert.quiescent_Reference12Ideal (hReference12Ideal := Cert.Reference12Ideal.Gen.facts) := by
  intro m g _
  hlo_run
  · simp only [and_self, implies_true]
  · exact sem_eq_zero_of_no_sems (sig := Cert.Reference12Ideal.sig) (by decide) _

/-- The reference of the query, key and value projection runs and leaves its arguments unchanged. -/
theorem frame_Reference13Ideal : Cert.quiescent_Reference13Ideal (hReference13Ideal := Cert.Reference13Ideal.Gen.facts) := by
  intro m g _
  hlo_run
  · simp only [and_self, implies_true]
  · exact sem_eq_zero_of_no_sems (sig := Cert.Reference13Ideal.sig) (by decide) _

/-- The reference of the output projection runs and leaves its arguments unchanged. -/
theorem frame_Reference14Ideal : Cert.quiescent_Reference14Ideal (hReference14Ideal := Cert.Reference14Ideal.Gen.facts) := by
  intro m g _
  hlo_run
  · simp only [and_self, implies_true]
  · exact sem_eq_zero_of_no_sems (sig := Cert.Reference14Ideal.sig) (by decide) _

/-- The reference of the optimiser's step of the up projection's weight runs and leaves its arguments unchanged. -/
theorem frame_Reference15Ideal : Cert.quiescent_Reference15Ideal (hReference15Ideal := Cert.Reference15Ideal.Gen.facts) := by
  intro m g _
  hlo_run
  · simp only [and_self, implies_true]
  · exact sem_eq_zero_of_no_sems (sig := Cert.Reference15Ideal.sig) (by decide) _

/-- The reference of the optimiser's step of the down projection's weight runs and leaves its arguments unchanged. -/
theorem frame_Reference16Ideal : Cert.quiescent_Reference16Ideal (hReference16Ideal := Cert.Reference16Ideal.Gen.facts) := by
  intro m g _
  hlo_run
  · simp only [and_self, implies_true]
  · exact sem_eq_zero_of_no_sems (sig := Cert.Reference16Ideal.sig) (by decide) _

/-- The reference of the optimiser's step of the even layers' input weight runs and leaves its arguments unchanged. -/
theorem frame_Reference17Ideal : Cert.quiescent_Reference17Ideal (hReference17Ideal := Cert.Reference17Ideal.Gen.facts) := by
  intro m g _
  hlo_run
  · simp only [and_self, implies_true]
  · exact sem_eq_zero_of_no_sems (sig := Cert.Reference17Ideal.sig) (by decide) _

/-- The reference of the optimiser's step of the even layers' output weight runs and leaves its arguments unchanged. -/
theorem frame_Reference18Ideal : Cert.quiescent_Reference18Ideal (hReference18Ideal := Cert.Reference18Ideal.Gen.facts) := by
  intro m g _
  hlo_run
  · simp only [and_self, implies_true]
  · exact sem_eq_zero_of_no_sems (sig := Cert.Reference18Ideal.sig) (by decide) _

/-- The reference of the optimiser's step of the query, key and value weight runs and leaves its arguments unchanged. -/
theorem frame_Reference19Ideal : Cert.quiescent_Reference19Ideal (hReference19Ideal := Cert.Reference19Ideal.Gen.facts) := by
  intro m g _
  hlo_run
  · simp only [and_self, implies_true]
  · exact sem_eq_zero_of_no_sems (sig := Cert.Reference19Ideal.sig) (by decide) _

/-- The reference of the optimiser's step of the odd layers' output weight runs and leaves its arguments unchanged. -/
theorem frame_Reference20Ideal : Cert.quiescent_Reference20Ideal (hReference20Ideal := Cert.Reference20Ideal.Gen.facts) := by
  intro m g _
  hlo_run
  · simp only [and_self, implies_true]
  · exact sem_eq_zero_of_no_sems (sig := Cert.Reference20Ideal.sig) (by decide) _

/-- The reference of the optimiser's step of the gate's weight runs and leaves its arguments unchanged. -/
theorem frame_Reference21Ideal : Cert.quiescent_Reference21Ideal (hReference21Ideal := Cert.Reference21Ideal.Gen.facts) := by
  intro m g _
  hlo_run
  · simp only [and_self, implies_true]
  · exact sem_eq_zero_of_no_sems (sig := Cert.Reference21Ideal.sig) (by decide) _

/-- The reference of the last layer's down projection runs and leaves its arguments unchanged. -/
theorem frame_Reference22Ideal : Cert.quiescent_Reference22Ideal (hReference22Ideal := Cert.Reference22Ideal.Gen.facts) := by
  intro m g _
  hlo_run
  · simp only [and_self, implies_true]
  · exact sem_eq_zero_of_no_sems (sig := Cert.Reference22Ideal.sig) (by decide) _

/-- The reference of the gradient of the gate's weight runs and leaves its arguments unchanged. -/
theorem frame_Reference23Ideal : Cert.quiescent_Reference23Ideal (hReference23Ideal := Cert.Reference23Ideal.Gen.facts) := by
  intro m g _
  hlo_run
  · simp only [and_self, implies_true]
  · exact sem_eq_zero_of_no_sems (sig := Cert.Reference23Ideal.sig) (by decide) _

/-- The reference of the gradient at the hidden state before the even layers' input projection runs and leaves its arguments unchanged. -/
theorem frame_Reference24Ideal : Cert.quiescent_Reference24Ideal (hReference24Ideal := Cert.Reference24Ideal.Gen.facts) := by
  intro m g _
  hlo_run
  · simp only [and_self, implies_true]
  · exact sem_eq_zero_of_no_sems (sig := Cert.Reference24Ideal.sig) (by decide) _

/-- The reference of the gradient at the hidden state before the query, key and value projection runs and leaves its arguments unchanged. -/
theorem frame_Reference25Ideal : Cert.quiescent_Reference25Ideal (hReference25Ideal := Cert.Reference25Ideal.Gen.facts) := by
  intro m g _
  hlo_run
  · simp only [and_self, implies_true]
  · exact sem_eq_zero_of_no_sems (sig := Cert.Reference25Ideal.sig) (by decide) _

/-- The reference of the gate's product runs and leaves its arguments unchanged. -/
theorem frame_Reference27Ideal : Cert.quiescent_Reference27Ideal (hReference27Ideal := Cert.Reference27Ideal.Gen.facts) := by
  intro m g _
  hlo_run
  · simp only [and_self, implies_true]
  · exact sem_eq_zero_of_no_sems (sig := Cert.Reference27Ideal.sig) (by decide) _

/-- The reference of the first layer's norm runs and leaves its arguments unchanged. -/
theorem frame_Reference28Ideal : Cert.quiescent_Reference28Ideal (hReference28Ideal := Cert.Reference28Ideal.Gen.facts) := by
  intro m g _
  hlo_run
  · simp only [and_self, implies_true]
  · exact sem_eq_zero_of_no_sems (sig := Cert.Reference28Ideal.sig) (by decide) _

/-- The reference of the gradient at the gate runs and leaves its arguments unchanged. -/
theorem frame_Reference29Ideal : Cert.quiescent_Reference29Ideal (hReference29Ideal := Cert.Reference29Ideal.Gen.facts) := by
  intro m g _
  hlo_run
  · simp only [and_self, implies_true]
  · exact sem_eq_zero_of_no_sems (sig := Cert.Reference29Ideal.sig) (by decide) _

/-- The reference of the loss and its gradient runs and leaves its arguments unchanged. -/
theorem frame_Reference30Ideal : Cert.quiescent_Reference30Ideal (hReference30Ideal := Cert.Reference30Ideal.Gen.facts) := by
  intro m g _
  hlo_run
  · simp only [and_self, implies_true]
  · exact sem_eq_zero_of_no_sems (sig := Cert.Reference30Ideal.sig) (by decide) _

/-- The reference of the sum of the small weights' gradients over the devices runs and leaves its arguments unchanged. -/
theorem frame_Reference31Ideal : Cert.quiescent_Reference31Ideal (hReference31Ideal := Cert.Reference31Ideal.Gen.facts) := by
  intro m g _
  hlo_run
  · simp only [and_self, implies_true]
  · exact sem_eq_zero_of_no_sems (sig := Cert.Reference31Ideal.sig) (by decide) _

/-- The reference of the sum of the multilayer perceptron's gradients over the chips runs and leaves its arguments unchanged. -/
theorem frame_Reference32Ideal : Cert.quiescent_Reference32Ideal (hReference32Ideal := Cert.Reference32Ideal.Gen.facts) := by
  intro m g _
  hlo_run
  · simp only [and_self, implies_true]
  · exact sem_eq_zero_of_no_sems (sig := Cert.Reference32Ideal.sig) (by decide) _

/-- The reference of the sum of the even layers' gradients over the chips runs and leaves its arguments unchanged. -/
theorem frame_Reference33Ideal : Cert.quiescent_Reference33Ideal (hReference33Ideal := Cert.Reference33Ideal.Gen.facts) := by
  intro m g _
  hlo_run
  · simp only [and_self, implies_true]
  · exact sem_eq_zero_of_no_sems (sig := Cert.Reference33Ideal.sig) (by decide) _

/-- The reference of the sum of the odd layers' gradients over the chips runs and leaves its arguments unchanged. -/
theorem frame_Reference34Ideal : Cert.quiescent_Reference34Ideal (hReference34Ideal := Cert.Reference34Ideal.Gen.facts) := by
  intro m g _
  hlo_run
  · simp only [and_self, implies_true]
  · exact sem_eq_zero_of_no_sems (sig := Cert.Reference34Ideal.sig) (by decide) _

end Cert.Proof

end
-- ==== Proof.RefFrame26.lean ====
/- The frame of the reference of the optimiser's step of the small weights. -/
module

public import proofs.«01_k».proof.Defs
public import proofs.«01_k».proof.Proof.Gen.Reference26Ideal
public import Idealize.ShloMosaic.Lib.Claim
public import Idealize.ShloMosaic.Lib.Quiescent

@[expose] public section

set_option maxRecDepth 65536

noncomputable section

namespace Cert.Proof

open Idealize.ShloMosaic Idealize.SL.Sem

set_option maxHeartbeats 2000000 in
/-- The reference of the optimiser's step of the small weights runs and leaves its arguments unchanged. -/
theorem frame_Reference26Ideal : Cert.quiescent_Reference26Ideal (hReference26Ideal := Cert.Reference26Ideal.Gen.facts) := by
  intro m g _
  hlo_run
  · simp only [and_self, implies_true]
  · exact sem_eq_zero_of_no_sems (sig := Cert.Reference26Ideal.sig) (by decide) _

end Cert.Proof

end
-- ==== Proof.Up.lean ====
/- The forward product of the channel mixer (`Kernel2`): both result arrays of the call are the reference's terms of
   the arguments, `xn · w_up` and the square of its positive part, index by index. -/
module

public import proofs.«01_k».proof.Proof.Gen.Kernel2Ideal.Frame
public import proofs.«01_k».proof.Proof.Gen.Reference2Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen

variable (m : (ℓ : Loc nD τ sig) → Buf (Elt Ideal) ℓ)

/-- The block every window stages at grid point `t`: rows `t / 8`, columns `t % 8`. -/
theorem idx : ∀ t : Fin cfg0.N, win0_0.index t = ![t.val / 8, 0] ∧ win0_1.index t = ![t.val % 8, 0, 0]
    ∧ win0_2.index t = ![t.val / 8, t.val % 8] ∧ win0_3.index t = ![t.val / 8, t.val % 8] :=
  (by decide +kernel : ∀ t : Fin grid0.N, _)

/-- The reference's product. -/
abbrev UP (X : FVec Ideal S4096x2048 .f32) (W : FVec Ideal S2048x8192 .f32) : FVec Ideal S4096x8192 .bf16 :=
  truncf .bf16 (Host.dotGeneral (F := Ideal) Cert.Reference2Ideal.dot_S4096x2048_S2048x8192_S4096x8192_1_0_0_1_n_n none X W)
    Cert.Reference2Ideal.Gen.bitsLt_bf16_f32

/-- The square of the reference's product where it is positive, zero elsewhere. -/
abbrev ACT (X : FVec Ideal S4096x2048 .f32) (W : FVec Ideal S2048x8192 .f32) : FVec Ideal S4096x8192 .bf16 :=
  truncf .bf16 (mulf
    (maximumf (Host.dotGeneral (F := Ideal) Cert.Reference2Ideal.dot_S4096x2048_S2048x8192_S4096x8192_1_0_0_1_n_n none X W)
      (broadcastInDim Cert.Reference2Ideal.S4096x8192 ![] Cert.Reference2Ideal.Gen.bcast_S_S4096x8192 (constant Cert.Reference2Ideal.S_ .f32 0x00000000#32)))
    (maximumf (Host.dotGeneral (F := Ideal) Cert.Reference2Ideal.dot_S4096x2048_S2048x8192_S4096x8192_1_0_0_1_n_n none X W)
      (broadcastInDim Cert.Reference2Ideal.S4096x8192 ![] Cert.Reference2Ideal.Gen.bcast_S_S4096x8192 (constant Cert.Reference2Ideal.S_ .f32 0x00000000#32))))
    Cert.Reference2Ideal.Gen.bitsLt_bf16_f32

/-- What grid point `t` stores for the product at block index `y` is the product at the array index `y` sits at. -/
theorem point_up (c : Dev nD) (t : Fin cfg0.N) (y) : k0_pay2 (iblk m c 0 t) (iblk m c 1 t) y
    = UP (m ((c : Thread nD τ).loc main_arg0)) (m ((c : Thread nD τ).loc main_arg1)) (((cfg0.win 2).blk t).view.emb y) := by
  pointwise [k0_pay2, k0_pay1, UP]
  blk_point [iblk, V, idx t]

/-- The same for the squared positive part. -/
theorem point_act (c : Dev nD) (t : Fin cfg0.N) (y) : k0_pay3 (iblk m c 0 t) (iblk m c 1 t) y
    = ACT (m ((c : Thread nD τ).loc main_arg0)) (m ((c : Thread nD τ).loc main_arg1)) (((cfg0.win 3).blk t).view.emb y) := by
  pointwise [k0_pay3, k0_pay1, ACT]
  blk_point [iblk, V, idx t]

/-- The first result array after the call is the reference's product. -/
theorem final_up (c : Dev nD) : (dats m 0 c).arrAt 2 (cfgs 0).N
    = UP (m ((c : Thread nD τ).loc main_arg0)) (m ((c : Thread nD τ).loc main_arg1)) := by
  refine (dats m 0 c).arrAt_eq_of_covers 2 _ (by decide +kernel) fun t _ y => ?_
  blk_simp
  rw [after0_2]; frame_out
  exact point_up m c t y

/-- The second result array after the call is the squared positive part. -/
theorem final_act (c : Dev nD) : (dats m 0 c).arrAt 3 (cfgs 0).N
    = ACT (m ((c : Thread nD τ).loc main_arg0)) (m ((c : Thread nD τ).loc main_arg1)) := by
  refine (dats m 0 c).arrAt_eq_of_covers 3 _ (by decide +kernel) fun t _ y => ?_
  blk_simp
  rw [after0_3]; frame_out
  exact point_act m c t y

end Cert.Kernel2Ideal.Value

end
-- ==== Proof.ClaimUp.lean ====
/- The value claim of the up projection: its kernel and its reference end with equal results. -/
module

public import proofs.«01_k».proof.Defs
public import proofs.«01_k».proof.Proof.Up
public import Idealize.ShloMosaic.Lib.Claim

@[expose] public section

set_option maxRecDepth 16384

noncomputable section

namespace Cert.Proof

open Idealize.ShloMosaic Idealize.SL.Sem

/-- The up projection: over the extended reals the kernel computes what its reference computes. -/
theorem algebraic2 : Cert.algebraic_Kernel2Ideal_Reference2Ideal (hKernel2Ideal := Cert.Kernel2Ideal.Gen.facts)
    (hReference2Ideal := Cert.Reference2Ideal.Gen.facts) := by
  pair_intro
  · run_from Cert.Kernel2Ideal.Gen.run_main m g
  · hlo_run
    · exact (Cert.Kernel2Ideal.Value.final_up m c).symm
    · exact (Cert.Kernel2Ideal.Value.final_act m c).symm

end Cert.Proof

end
-- ==== Proof.Dact.lean ====
/- The gradient of the channel mixer's hidden layer (`Kernel3`): the result array of the call is the reference's
   term of the arguments, `(dh · w_downᵀ) · 2 · relu(up)` where `up` is positive and zero elsewhere. -/
module

public import proofs.«01_k».proof.Proof.Gen.Kernel3Ideal.Frame
public import proofs.«01_k».proof.Proof.Gen.Reference3Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel3Ideal.Value

open Cert.Kernel3Ideal Cert.Kernel3Ideal.Gen

variable (m : (ℓ : Loc nD τ sig) → Buf (Elt Ideal) ℓ)

/-- The block every window stages at grid point `t`: rows `t / 8`, columns `t % 8`. -/
theorem idx : ∀ t : Fin cfg0.N, win0_0.index t = ![t.val / 8, 0] ∧ win0_1.index t = ![t.val % 8, 0, 0]
    ∧ win0_2.index t = ![t.val / 8, t.val % 8] ∧ win0_3.index t = ![t.val / 8, t.val % 8] :=
  (by decide +kernel : ∀ t : Fin grid0.N, _)

/-- The reference's gradient: the product, scaled, kept where the hidden layer is positive. -/
abbrev DACT (D : FVec Ideal S4096x2048 .f32) (W : FVec Ideal S8192x2048 .f32) (U : FVec Ideal S4096x8192 .f32) :
    FVec Ideal S4096x8192 .bf16 :=
  truncf .bf16 (select
    (cmpf .ogt U (broadcastInDim Cert.Reference3Ideal.S4096x8192 ![] Cert.Reference3Ideal.Gen.bcast_S_S4096x8192 (constant Cert.Reference3Ideal.S_ .f32 0x00000000#32)))
    (mulf (Host.dotGeneral (F := Ideal) Cert.Reference3Ideal.dot_S4096x2048_S8192x2048_S4096x8192_1_1_0_0_n_n none D W)
      (mulf (broadcastInDim Cert.Reference3Ideal.S4096x8192 ![] Cert.Reference3Ideal.Gen.bcast_S_S4096x8192 (constant Cert.Reference3Ideal.S_ .f32 0x40000000#32))
        (maximumf U (broadcastInDim Cert.Reference3Ideal.S4096x8192 ![] Cert.Reference3Ideal.Gen.bcast_S_S4096x8192 (constant Cert.Reference3Ideal.S_ .f32 0x00000000#32)))))
    (broadcastInDim Cert.Reference3Ideal.S4096x8192 ![] Cert.Reference3Ideal.Gen.bcast_S_S4096x8192 (constant Cert.Reference3Ideal.S_ .f32 0x00000000#32)))
    Cert.Reference3Ideal.Gen.bitsLt_bf16_f32

/-- The kernel's form of the same gradient, which leaves the positive part to make the zeros. -/
abbrev DACTK (D : FVec Ideal S4096x2048 .f32) (W : FVec Ideal S8192x2048 .f32) (U : FVec Ideal S4096x8192 .f32) :
    FVec Ideal S4096x8192 .bf16 :=
  truncf .bf16
    (mulf (Host.dotGeneral (F := Ideal) Cert.Reference3Ideal.dot_S4096x2048_S8192x2048_S4096x8192_1_1_0_0_n_n none D W)
      (mulf (broadcastInDim Cert.Reference3Ideal.S4096x8192 ![] Cert.Reference3Ideal.Gen.bcast_S_S4096x8192 (constant Cert.Reference3Ideal.S_ .f32 0x40000000#32))
        (maximumf U (broadcastInDim Cert.Reference3Ideal.S4096x8192 ![] Cert.Reference3Ideal.Gen.bcast_S_S4096x8192 (constant Cert.Reference3Ideal.S_ .f32 0x00000000#32)))))
    Cert.Reference3Ideal.Gen.bitsLt_bf16_f32

/-- Choosing zero where `u` is not positive changes nothing of a product with `max u 0`. -/
theorem select_relu (u d e : EReal) : (if 0 < u then d * (e * max u 0) else 0) = d * (e * max u 0) := by
  split_ifs with h
  · rfl
  · rw [max_eq_right (not_lt.mp h), mul_zero, mul_zero]

/-- So the two forms are one array. -/
theorem forms (D : FVec Ideal S4096x2048 .f32) (W : FVec Ideal S8192x2048 .f32) (U : FVec Ideal S4096x8192 .f32) :
    DACTK D W U = DACT D W U := by
  funext j
  pointwise [DACTK, DACT]
  exact (select_relu _ _ _).symm

/-- What grid point `t` stores at block index `y` is the gradient at the array index `y` sits at. -/
theorem point (c : Dev nD) (t : Fin cfg0.N) (y) : k0_pay1 (iblk m c 0 t) (iblk m c 1 t) (iblk m c 2 t) y
    = DACTK (m ((c : Thread nD τ).loc main_arg0)) (m ((c : Thread nD τ).loc main_arg1)) (m ((c : Thread nD τ).loc main_arg2))
        (((cfg0.win 3).blk t).view.emb y) := by
  pointwise [k0_pay1, DACTK]
  blk_point [iblk, V, idx t]

/-- The result array after the call is the reference's gradient. -/
theorem final (c : Dev nD) : (dats m 0 c).arrAt 3 (cfgs 0).N
    = DACT (m ((c : Thread nD τ).loc main_arg0)) (m ((c : Thread nD τ).loc main_arg1)) (m ((c : Thread nD τ).loc main_arg2)) := by
  rw [← forms]
  refine (dats m 0 c).arrAt_eq_of_covers 3 _ (by decide +kernel) fun t _ y => ?_
  blk_simp
  rw [after0_3]; frame_out
  exact point m c t y

end Cert.Kernel3Ideal.Value

end
-- ==== Proof.ClaimDact.lean ====
/- The value claim of the gradient at the up projection's output: its kernel and its reference end with equal results. -/
module

public import proofs.«01_k».proof.Defs
public import proofs.«01_k».proof.Proof.Dact
public import Idealize.ShloMosaic.Lib.Claim

@[expose] public section

set_option maxRecDepth 16384

noncomputable section

namespace Cert.Proof

open Idealize.ShloMosaic Idealize.SL.Sem

/-- The gradient at the up projection's output: over the extended reals the kernel computes what its reference computes. -/
theorem algebraic3 : Cert.algebraic_Kernel3Ideal_Reference3Ideal (hKernel3Ideal := Cert.Kernel3Ideal.Gen.facts)
    (hReference3Ideal := Cert.Reference3Ideal.Gen.facts) := by
  pair_intro
  · run_from Cert.Kernel3Ideal.Gen.run_main m g
  · hlo_run
    exact (Cert.Kernel3Ideal.Value.final m c).symm

end Cert.Proof

end
-- ==== Proof.DwDown.lean ====
/- The gradient of the channel mixer's second weight (`Kernel4`): the result array of the call is the reference's
   `actᵀ · dh`, its rows in eight blocks. -/
module

public import proofs.«01_k».proof.Proof.Gen.Kernel4Ideal.Frame
public import proofs.«01_k».proof.Proof.Gen.Reference4Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel4Ideal.Value

open Cert.Kernel4Ideal Cert.Kernel4Ideal.Gen

variable (m : (ℓ : Loc nD τ sig) → Buf (Elt Ideal) ℓ)

/-- The block every window stages at grid point `t`. -/
theorem idx : ∀ t : Fin cfg0.N, win0_0.index t = ![0, t.val / 2] ∧ win0_1.index t = ![0, t.val % 2]
    ∧ win0_2.index t = ![t.val / 4, t.val / 2 % 2, t.val % 2] :=
  (by decide +kernel : ∀ t : Fin grid0.N, _)

/-- The reference's gradient of the second weight. -/
abbrev DW (A : FVec Ideal S4096x8192 .f32) (D : FVec Ideal S4096x2048 .f32) : FVec Ideal S8x1024x2048 .bf16 :=
  truncf .bf16 (shapeCast Cert.Reference4Ideal.S8x1024x2048 (transpose Cert.Reference4Ideal.S8192x2048 [1, 0]
    (Host.dotGeneral (F := Ideal) Cert.Reference4Ideal.dot_S4096x2048_S4096x8192_S2048x8192_0_0_1_1_n_n none D A)
    Cert.Reference4Ideal.Gen.transposes_S2048x8192_S8192x2048_1_0) Cert.Reference4Ideal.Gen.shapeCasts_S8192x2048_S8x1024x2048)
    Cert.Reference4Ideal.Gen.bitsLt_bf16_f32

/-- What grid point `t` stores at block index `y` is the gradient at the array index `y` sits at. -/
theorem point (c : Dev nD) (t : Fin cfg0.N) (y) : k0_pay1 (iblk m c 0 t) (iblk m c 1 t) y
    = DW (m ((c : Thread nD τ).loc main_arg0)) (m ((c : Thread nD τ).loc main_arg1)) (((cfg0.win 2).blk t).view.emb y) := by
  pointwise [k0_pay1, DW]
  refine Finset.sum_congr rfl fun x _ => (mul_comm _ _).trans ?_
  blk_point [iblk, V, idx t]

/-- The result array after the call is the reference's gradient. -/
theorem final (c : Dev nD) : (dats m 0 c).arrAt 2 (cfgs 0).N
    = DW (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel4Ideal.Value

end
-- ==== Proof.ClaimDwDown.lean ====
/- The value claim of the gradient of the down projection's weight: its kernel and its reference end with equal results. -/
module

public import proofs.«01_k».proof.Defs
public import proofs.«01_k».proof.Proof.DwDown
public import Idealize.ShloMosaic.Lib.Claim

@[expose] public section

set_option maxRecDepth 16384

noncomputable section

namespace Cert.Proof

open Idealize.ShloMosaic Idealize.SL.Sem

/-- The gradient of the down projection's weight: over the extended reals the kernel computes what its reference computes. -/
theorem algebraic4 : Cert.algebraic_Kernel4Ideal_Reference4Ideal (hKernel4Ideal := Cert.Kernel4Ideal.Gen.facts)
    (hReference4Ideal := Cert.Reference4Ideal.Gen.facts) := by
  pair_intro
  · run_from Cert.Kernel4Ideal.Gen.run_main m g
  · hlo_run
    exact (Cert.Kernel4Ideal.Value.final m c).symm

end Cert.Proof

end
-- ==== Proof.DwUp.lean ====
/- The gradient of the channel mixer's first weight (`Kernel5`): the result array of the call is the reference's
   `xnᵀ · dup`, its columns in eight blocks. -/
module

public import proofs.«01_k».proof.Proof.Gen.Kernel5Ideal.Frame
public import proofs.«01_k».proof.Proof.Gen.Reference5Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel5Ideal.Value

open Cert.Kernel5Ideal Cert.Kernel5Ideal.Gen

variable (m : (ℓ : Loc nD τ sig) → Buf (Elt Ideal) ℓ)

/-- The block every window stages at grid point `t`. -/
theorem idx : ∀ t : Fin cfg0.N, win0_0.index t = ![0, t.val / 8] ∧ win0_1.index t = ![0, t.val % 8]
    ∧ win0_2.index t = ![t.val % 8, t.val / 8, 0] :=
  (by decide +kernel : ∀ t : Fin grid0.N, _)

/-- The reference's gradient of the first weight. -/
abbrev DW (X : FVec Ideal S4096x2048 .f32) (D : FVec Ideal S4096x8192 .f32) : FVec Ideal S8x2048x1024 .bf16 :=
  truncf .bf16 (transpose Cert.Reference5Ideal.S8x2048x1024 [1, 0, 2] (shapeCast Cert.Reference5Ideal.S2048x8x1024
    (transpose Cert.Reference5Ideal.S2048x8192 [1, 0]
      (Host.dotGeneral (F := Ideal) Cert.Reference5Ideal.dot_S4096x8192_S4096x2048_S8192x2048_0_0_1_1_n_n none D X)
      Cert.Reference5Ideal.Gen.transposes_S8192x2048_S2048x8192_1_0) Cert.Reference5Ideal.Gen.shapeCasts_S2048x8192_S2048x8x1024)
    Cert.Reference5Ideal.Gen.transposes_S2048x8x1024_S8x2048x1024_1_0_2)
    Cert.Reference5Ideal.Gen.bitsLt_bf16_f32

/-- What grid point `t` stores at block index `y` is the gradient at the array index `y` sits at. -/
theorem point (c : Dev nD) (t : Fin cfg0.N) (y) : k0_pay1 (iblk m c 0 t) (iblk m c 1 t) y
    = DW (m ((c : Thread nD τ).loc main_arg0)) (m ((c : Thread nD τ).loc main_arg1)) (((cfg0.win 2).blk t).view.emb y) := by
  pointwise [k0_pay1, DW]
  refine Finset.sum_congr rfl fun x _ => (mul_comm _ _).trans ?_
  blk_point [iblk, V, idx t]

/-- The result array after the call is the reference's gradient. -/
theorem final (c : Dev nD) : (dats m 0 c).arrAt 2 (cfgs 0).N
    = DW (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel5Ideal.Value

end
-- ==== Proof.ClaimDwUp.lean ====
/- The value claim of the gradient of the up projection's weight: its kernel and its reference end with equal results. -/
module

public import proofs.«01_k».proof.Defs
public import proofs.«01_k».proof.Proof.DwUp
public import Idealize.ShloMosaic.Lib.Claim

@[expose] public section

set_option maxRecDepth 16384

noncomputable section

namespace Cert.Proof

open Idealize.ShloMosaic Idealize.SL.Sem

/-- The gradient of the up projection's weight: over the extended reals the kernel computes what its reference computes. -/
theorem algebraic5 : Cert.algebraic_Kernel5Ideal_Reference5Ideal (hKernel5Ideal := Cert.Kernel5Ideal.Gen.facts)
    (hReference5Ideal := Cert.Reference5Ideal.Gen.facts) := by
  pair_intro
  · run_from Cert.Kernel5Ideal.Gen.run_main m g
  · hlo_run
    exact (Cert.Kernel5Ideal.Value.final m c).symm

end Cert.Proof

end
-- ==== Proof.Down.lean ====
/- The second forward product of the channel mixer (`Kernel6`): both result arrays of the call are the reference's terms of
   the arguments, the residual stream with `act · w_down` added and its normalised rows. The call walks the contraction in
   four parts of 2048, adding each into a scratch buffer. -/
module

public import proofs.«01_k».proof.Proof.Gen.Kernel6Ideal.Frame
public import proofs.«01_k».proof.Proof.Gen.Reference6Ideal
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel6Ideal.Value

open Cert.Kernel6Ideal Cert.Kernel6Ideal.Gen

variable (m : (ℓ : Loc nD τ sig) → Buf (Elt Ideal) ℓ)

/-- The block every window stages at grid point `t`: rows `t / 4`, part `t % 4` of the contraction. -/
theorem idx : ∀ t : Fin cfg0.N, win0_0.index t = ![t.val / 4, t.val % 4] ∧ win0_1.index t = ![t.val % 4, 0, 0]
    ∧ win0_2.index t = ![t.val / 4, 0] ∧ win0_3.index t = ![0, 0]
    ∧ win0_4.index t = ![t.val / 4, 0] ∧ win0_5.index t = ![t.val / 4, 0] :=
  (by decide +kernel : ∀ t : Fin grid0.N, _)

/-- The reference's product. -/
abbrev DOT (X : FVec Ideal S4096x8192 .f32) (W : FVec Ideal S8192x2048 .f32) : FVec Ideal S4096x2048 .f32 :=
  Host.dotGeneral (F := Ideal) Cert.Reference6Ideal.dot_S4096x8192_S8192x2048_S4096x2048_1_0_0_1_n_n none X W

/-- The residual stream after the product is added. -/
abbrev OUT (X : FVec Ideal S4096x8192 .f32) (W : FVec Ideal S8192x2048 .f32) (H : FVec Ideal S4096x2048 .f32) :
    FVec Ideal S4096x2048 .f32 := addf H (DOT X W)

/-- The normalised rows of an array, times a gain. -/
abbrev NORM (Y : FVec Ideal S4096x2048 .f32) (G : FVec Ideal S2048 .f32) : FVec Ideal S4096x2048 .bf16 :=
  truncf .bf16 (mulf (mulf Y (broadcastInDim Cert.Reference6Ideal.S4096x2048 ![0, 1]
      Cert.Reference6Ideal.Gen.bcast_S4096x1_S4096x2048_0_1 (Host.rsqrt (addf (Host.divf
    (broadcastInDim Cert.Reference6Ideal.S4096x1 ![0] Cert.Reference6Ideal.Gen.bcast_S4096_S4096x1_0
      (Host.reduceAdd (mulf Y Y) (constant Cert.Reference6Ideal.S_ .f32 0x00000000#32)
        Cert.Reference6Ideal.Gen.reducesTo_S4096x2048_S4096_d1 Cert.Reference6Ideal.Gen.h_S_))
    (broadcastInDim Cert.Reference6Ideal.S4096x1 ![] Cert.Reference6Ideal.Gen.bcast_S_S4096x1
      (constant Cert.Reference6Ideal.S_ .f32 0x45000000#32)))
    (broadcastInDim Cert.Reference6Ideal.S4096x1 ![] Cert.Reference6Ideal.Gen.bcast_S_S4096x1
      (constant Cert.Reference6Ideal.S_ .f32 0x358637BD#32))))))
    (broadcastInDim Cert.Reference6Ideal.S4096x2048 ![0, 1] Cert.Reference6Ideal.Gen.bcast_S1x2048_S4096x2048_0_1
      (broadcastInDim Cert.Reference6Ideal.S1x2048 ![1] Cert.Reference6Ideal.Gen.bcast_S2048_S1x2048_1 G)))
    Cert.Reference6Ideal.Gen.bitsLt_bf16_f32

/-- The part of the product one grid point computes. -/
theorem pay_first (x0 : FVec Ideal S512x2048 .bf16) (x1 : FVec Ideal S1x2048x2048 .bf16) (j) :
    k0_pay2 (F := Ideal) x0 x1 j = 0 + ∑ k : Fin 2048, x0 (ix2 (j 0) k) * x1 (ix3 0 k (j 1)) := by
  pointwise [k0_pay2, k0_pay1]

/-- A later grid point adds its part to what the scratch buffer holds. -/
theorem pay_step (x0 : FVec Ideal S512x2048 .bf16) (x1 : FVec Ideal S1x2048x2048 .bf16) (acc : FVec Ideal S512x2048 .f32) (j) :
    k0_pay3 (F := Ideal) x0 x1 acc j = acc j + ∑ k : Fin 2048, x0 (ix2 (j 0) k) * x1 (ix3 0 k (j 1)) := by
  pointwise [k0_pay3, k0_pay1]

/-- The reference's product, as one sum. -/
theorem dot_sum (X : FVec Ideal S4096x8192 .f32) (W : FVec Ideal S8192x2048 .f32) (j) :
    DOT X W j = ∑ l : Fin 8192, X (ix2 (j 0) l) * W (ix2 l (j 1)) := by
  pointwise [DOT]

/-- What the last point of a run stores in the first result's block: the scratch buffer's contents and the residual block. -/
theorem out4 (c : Dev nD) (t : Fin cfg0.N) (h : t.val % 4 = 3) :
    (outsAt0 m c t.val t.isLt).1 = k0_pay4 (outsAt0 m c t.val t.isLt).2.2 (iblk m c 2 t) := by
  rw [outsAt0_C m c t (by omega) (by omega) h]
  frame_out

/-- What it stores in the second result's block. -/
theorem out5 (c : Dev nD) (t : Fin cfg0.N) (h : t.val % 4 = 3) :
    (outsAt0 m c t.val t.isLt).2.1 = k0_pay5 (outsAt0 m c t.val t.isLt).2.2 (iblk m c 2 t) (iblk m c 3 t) := by
  rw [outsAt0_C m c t (by omega) (by omega) h]
  frame_out

/-- What the first point of a run leaves in the scratch buffer. -/
theorem scr_first (c : Dev nD) (t : Fin cfg0.N) (h : t.val % 4 = 0) :
    (outsAt0 m c t.val t.isLt).2.2 = k0_pay2 (iblk m c 0 t) (iblk m c 1 t) := by
  rw [outsAt0_A m c t h (by omega) (by omega)]
  frame_out

/-- What a later point leaves there. -/
theorem scr_step (c : Dev nD) (t : Fin cfg0.N) (h : ¬t.val % 4 = 0) :
    (outsAt0 m c t.val t.isLt).2.2 = k0_pay3 (iblk m c 0 t) (iblk m c 1 t)
      (outsAt0 m c (t.val - 1) (Nat.lt_of_le_of_lt (Nat.sub_le _ _) t.isLt)).2.2 := by
  by_cases h3 : t.val % 4 = 3
  · rw [outsAt0_C m c t h (by omega) h3]; frame_out; simp only [read_unread_whole]
  · rw [outsAt0_B m c t h (by omega) h3]; frame_out; simp only [read_unread_whole]

/-- One point's part of the product, at a place of the block. -/
abbrev part (c : Dev nD) (p : Fin cfg0.N) (j : S512x2048.Idx) : EReal :=
  ∑ k : Fin 2048, (show FVec Ideal S512x2048 .bf16 from iblk m c 0 p) (ix2 (j 0) k)
      * (show FVec Ideal S1x2048x2048 .bf16 from iblk m c 1 p) (ix3 0 k (j 1))

/-- The scratch buffer at the last point of a run is the sum of the four parts. -/
theorem scratch_sum (c : Dev nD) (t : Fin cfg0.N) (h : t.val % 4 = 3) (y : S512x2048.Idx) :
    (outsAt0 m c t.val t.isLt).2.2 y
      = 0 + ∑ s : Fin 4, part m c ⟨4 * (t.val / 4) + s.val, Pipeline.run_point_lt_of_flush t h s⟩ y :=
  Pipeline.eq_sum_fin_of_reset_step_apply_of_flush (fun n h => (outsAt0 m c n h).2.2) 4 (fun _ => 0) (part m c)
    (fun t h j => (congrFun (scr_first m c t h) j).trans (pay_first _ _ j))
    (fun t h j => (congrFun (scr_step m c t h) j).trans (pay_step _ _ _ j))
    t h y

/-- Eight blocks of rows, read at an index. -/
theorem cast8 (X : FVec Ideal S8192x2048 .bf16) (a : Fin 8) (k : Fin 1024) (j : Fin 2048) :
    shapeCast S8x1024x2048 X shapeCasts_S8192x2048_S8x1024x2048 (ix3 a k j) = X (ix2 ⟨a.val * 1024 + k.val, by omega⟩ j) := by
  pointwise

/-- Two neighbouring blocks taken as one, read at an index. -/
theorem cast4 (X : FVec Ideal S8x1024x2048 .bf16) (a : Fin 4) (k : Fin 2048) (j : Fin 2048) :
    shapeCast S4x2048x2048 X shapeCasts_S8x1024x2048_S4x2048x2048 (ix3 a k j)
      = X (ix3 ⟨a.val * 2 + k.val / 1024, by omega⟩ ⟨k.val % 1024, by omega⟩ j) :=
  congrArg X (Shape.reshapeEquiv_eq_of_vals _ _ _ _ _ (rowMajor_val3 _ 2097152 2048 (by decide +kernel) (by decide +kernel))
    (rowMajor_val3 _ 4194304 2048 (by decide +kernel) (by decide +kernel)) (by
      show (a.val * 2 + k.val / 1024) * 2097152 + k.val % 1024 * 2048 + j.val = a.val * 4194304 + k.val * 2048 + j.val
      omega))

/-- The weight operand when the call begins. -/
theorem entry_w (c : Dev nD) : V m c (Pipeline.arrRef spec0 1) = (shapeCast S4x2048x2048 (shapeCast S8x1024x2048
      (truncf (F := Ideal) .bf16 (m ((c : Thread nD τ).loc main_arg1) : FVec Ideal S8192x2048 .f32) bitsLt_bf16_f32)
      shapeCasts_S8192x2048_S8x1024x2048) shapeCasts_S8x1024x2048_S4x2048x2048 : FVec Ideal S4x2048x2048 .bf16) := by
  entry_read
  rfl

/-- A staged block of the weight, as a read of the operand. -/
theorem read_w (c : Dev nD) (p : Fin cfg0.N) (x : S1x2048x2048.Idx) : iblk m c 1 p x
    = (shapeCast S4x2048x2048 (shapeCast S8x1024x2048
      (truncf (F := Ideal) .bf16 (m ((c : Thread nD τ).loc main_arg1) : FVec Ideal S8192x2048 .f32) bitsLt_bf16_f32)
      shapeCasts_S8192x2048_S8x1024x2048) shapeCasts_S8x1024x2048_S4x2048x2048 : FVec Ideal S4x2048x2048 .bf16) (((cfg0.win 1).blk p).view.emb x) := by
  unfold iblk
  rw [View.read_apply, entry_w, cast_eq]

/-- A staged block of the weight, as a read of the argument. -/
theorem blk_w (c : Dev nD) (p : Fin cfg0.N) (k j : Fin 2048) (hl : p.val % 4 * 2048 + k.val < 8192) :
    iblk m c 1 p (ix3 0 k j)
      = (m ((c : Thread nD τ).loc main_arg1) : FVec Ideal S8192x2048 .f32) (ix2 ⟨p.val % 4 * 2048 + k.val, hl⟩ j) := by
  have e : ((cfg0.win 1).blk p).view.emb (ix3 0 k j) = ix3 ⟨p.val % 4, Nat.mod_lt _ (by decide)⟩ k j := by
    blk_ext [idx p]
  rw [read_w, e, cast4, cast8]
  refine congrArg (fun i : Fin 8192 => (m ((c : Thread nD τ).loc main_arg1) : FVec Ideal S8192x2048 .f32) (ix2 i j)) (Fin.ext ?_)
  show (p.val % 4 * 2 + k.val / 1024) * 1024 + k.val % 1024 = p.val % 4 * 2048 + k.val
  omega

/-- The array's row that row `r` of grid point `t`'s block is. -/
abbrev row (t : Fin cfg0.N) (r : Fin 512) : Fin 4096 :=
  ⟨t.val / 4 * 512 + r.val, by have : t.val < 32 := lt_of_lt_of_eq t.isLt N_0; omega⟩

/-- The scratch buffer at the last point of a run holds the product, at the array index its place has. -/
theorem scratch (c : Dev nD) (t : Fin cfg0.N) (h : t.val % 4 = 3) (y : S512x2048.Idx) :
    (outsAt0 m c t.val t.isLt).2.2 y
      = DOT (m ((c : Thread nD τ).loc main_arg0)) (m ((c : Thread nD τ).loc main_arg1))
          (ix2 (row t (y 0)) (y 1)) := by
  rw [scratch_sum m c t h y, zero_add, dot_sum]
  refine Fin.sum_mul_add_congr fun s k hl => ?_
  have hp : (⟨4 * (t.val / 4) + s.val, Pipeline.run_point_lt_of_flush t h s⟩ : Fin cfg0.N).val % 4 = s.val := by
    show (4 * (t.val / 4) + s.val) % 4 = s.val
    omega
  refine congrArg₂ (· * ·) ?_ ((blk_w m c _ k (y 1) (by rw [hp]; exact hl)).trans (by simp only [hp]; rfl))
  blk_point [iblk, V, idx t, idx ⟨_, Pipeline.run_point_lt_of_flush t h s⟩]

/-- The first result's block at the last point of a run. -/
theorem point_out (c : Dev nD) (t : Fin cfg0.N) (h : t.val % 4 = 3) (y : S512x2048.Idx) : (outsAt0 m c t.val t.isLt).1 y
    = OUT (m ((c : Thread nD τ).loc main_arg0)) (m ((c : Thread nD τ).loc main_arg1)) (m ((c : Thread nD τ).loc main_arg2))
          (ix2 (row t (y 0)) (y 1)) := by
  rw [out4 m c t h]
  show (outsAt0 m c t.val t.isLt).2.2 y + iblk m c 2 t y = _ + DOT _ _ _
  rw [scratch m c t h, add_comm]
  refine congrArg (· + _) ?_
  blk_point [iblk, V, idx t]

/-- The normalised row the kernel computes is the reference's, when the rows normalised are one. -/
theorem norm_row (A B : FVec Ideal S512x2048 .f32) (G1 : FVec Ideal S1x2048 .f32) (Y : FVec Ideal S4096x2048 .f32)
    (G : FVec Ideal S2048 .f32) (a : Fin 512) (b : Fin 2048) (r : Fin 4096)
    (hY : ∀ k : Fin 2048, A (ix2 a k) + B (ix2 a k) = Y (ix2 r k)) (hG : G1 (ix2 0 b) = G (ix1 b)) :
    k0_pay5 A B G1 (ix2 a b) = NORM Y G (ix2 r b) := by
  pointwise [k0_pay5, k0_pay4, NORM]
  simp only [hY, hG]

/-- The second result's block at the last point of a run. -/
theorem point_norm (c : Dev nD) (t : Fin cfg0.N) (h : t.val % 4 = 3) (y : S512x2048.Idx) :
    (outsAt0 m c t.val t.isLt).2.1 y
      = NORM (OUT (m ((c : Thread nD τ).loc main_arg0)) (m ((c : Thread nD τ).loc main_arg1)) (m ((c : Thread nD τ).loc main_arg2)))
          (m ((c : Thread nD τ).loc main_arg3)) (ix2 (row t (y 0)) (y 1)) := by
  have e : y = ix2 (y 0) (y 1) := by funext a; fin_cases a <;> rfl
  rw [out5 m c t h]
  conv_lhs => rw [e]
  refine norm_row _ _ _ _ _ _ _ _ (fun k => ?_) ?_
  · have := point_out m c t h (ix2 (y 0) k)
    rw [out4 m c t h] at this
    exact this
  · blk_point [iblk, V, idx t]

/-- The first result array after the call is the residual stream with the product added. -/
theorem final_out (c : Dev nD) : (dats m 0 c).arrAt 4 (cfgs 0).N
    = OUT (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4, point_out m c t ((flush0_4 t).mp hf)]
  blk_ext [idx t]

/-- The second result array after the call is its normalised rows. -/
theorem final_norm (c : Dev nD) : (dats m 0 c).arrAt 5 (cfgs 0).N
    = NORM (OUT (m ((c : Thread nD τ).loc main_arg0)) (m ((c : Thread nD τ).loc main_arg1)) (m ((c : Thread nD τ).loc main_arg2)))
        (m ((c : Thread nD τ).loc main_arg3)) := by
  refine (dats m 0 c).arrAt_eq_of_covers 5 _ (by decide +kernel) fun t hf y => ?_
  blk_simp
  rw [after0_5, point_norm m c t ((flush0_5 t).mp hf)]
  blk_ext [idx t]

end Cert.Kernel6Ideal.Value

end
-- ==== Proof.ClaimDown.lean ====
/- The value claim of the down projection: its kernel and its reference end with equal results. -/
module

public import proofs.«01_k».proof.Defs
public import proofs.«01_k».proof.Proof.Down
public import Idealize.ShloMosaic.Lib.Claim

@[expose] public section

set_option maxRecDepth 16384

noncomputable section

namespace Cert.Proof

open Idealize.ShloMosaic Idealize.SL.Sem

/-- The down projection: over the extended reals the kernel computes what its reference computes. -/
theorem algebraic6 : Cert.algebraic_Kernel6Ideal_Reference6Ideal (hKernel6Ideal := Cert.Kernel6Ideal.Gen.facts)
    (hReference6Ideal := Cert.Reference6Ideal.Gen.facts) := by
  pair_intro
  · run_from Cert.Kernel6Ideal.Gen.run_main m g
  · hlo_run
    · exact (Cert.Kernel6Ideal.Value.final_out m c).symm
    · exact (Cert.Kernel6Ideal.Value.final_norm m c).symm

end Cert.Proof

end
-- ==== Proof.RmsGrad.lean ====
/- One row of the gradient of a root-mean-square normalisation, over the extended reals: the form with one projection term the
   kernels compute is the form with two equal correction terms that differentiating the normalisation gives. No entry has to
   be finite. -/
module

public import Idealize.ShloMosaic.Lib.Pipeline.ValueKit

@[expose] public section

noncomputable section

open Idealize.ShloMosaic

namespace Cert.RmsGrad

/-- A real factor that is not negative moves into a sum. -/
theorem mul_sum {ι : Type} (s : Finset ι) (a : ℝ) (ha : 0 ≤ a) (f : ι → EReal) :
    (a : EReal) * ∑ k ∈ s, f k = ∑ k ∈ s, (a : EReal) * f k := by
  classical
  induction s using Finset.induction_on with
  | empty => simp
  | insert i s hi ih =>
    rw [Finset.sum_insert hi, Finset.sum_insert hi, ← ih]
    exact EReal.left_distrib_of_nonneg_of_ne_top (by exact_mod_cast ha) (EReal.coe_ne_top a) _ _

/-- A square is not negative. -/
theorem sq_nonneg (x : EReal) : 0 ≤ x * x := by
  induction x using EReal.rec with
  | bot => simp
  | coe r => rw [← EReal.coe_mul]; exact_mod_cast mul_self_nonneg r
  | top => simp

/-- Two equal corrections are the one projection term, with its sign. -/
theorem twice (κ : ℝ) (hκ : 0 < κ) (z : EReal) :
    ((-(1 / 2) * κ : ℝ) : EReal) * z + ((-(1 / 2) * κ : ℝ) : EReal) * z = -((κ : EReal) * z) := by
  induction z using EReal.rec with
  | bot =>
    rw [EReal.coe_mul_bot_of_neg (by linarith), EReal.coe_mul_bot_of_pos hκ]; simp
  | coe r => rw [← EReal.coe_mul, ← EReal.coe_mul, ← EReal.coe_add, ← EReal.coe_neg]; congr 1; ring
  | top =>
    rw [EReal.coe_mul_top_of_neg (by linarith), EReal.coe_mul_top_of_pos hκ]; simp

/-- The mean of the squares with a positive number added is positive. -/
theorem mean_pos {n : Nat} (h : Fin n → EReal) (N ε : ℝ) (hN : 0 < N) (hε : 0 < ε) :
    0 < Ideal.div (∑ k, h k * h k) (N : EReal) + (ε : EReal) := by
  rw [Ideal.div_coe hN.ne']
  have h1 : (0 : EReal) ≤ ∑ k, h k * h k := Finset.sum_nonneg fun k _ => sq_nonneg _
  have h2 : (0 : EReal) ≤ (∑ k, h k * h k) * ((1 / N : ℝ) : EReal) :=
    mul_nonneg h1 (by exact_mod_cast (by positivity : (0 : ℝ) ≤ 1 / N))
  have h3 : (0 : EReal) < (ε : EReal) := by exact_mod_cast hε
  calc (0 : EReal) < (ε : EReal) := h3
    _ = 0 + (ε : EReal) := (zero_add _).symm
    _ ≤ _ := add_le_add_left h2 _

/-- The two forms of one entry of the gradient's row. -/
theorem row {n : Nat} (h g : Fin n → EReal) (j : Fin n) (d v : EReal) (N : ℝ) (hN : 0 < N) (hv : 0 < v) :
    Ideal.rsqrt v * (g j - h j * Ideal.rsqrt v * Ideal.div (∑ k, g k * (h k * Ideal.rsqrt v)) (N : EReal)) + d
      = d + g j * Ideal.rsqrt v
        + h j * Ideal.div ((∑ k, h k * g k) * (((-(1 / 2) : ℝ) : EReal) * Ideal.div (Ideal.rsqrt v) v)) (N : EReal)
        + Ideal.div ((∑ k, h k * g k) * (((-(1 / 2) : ℝ) : EReal) * Ideal.div (Ideal.rsqrt v) v)) (N : EReal) * h j := by
  induction v using EReal.rec with
  | bot => exact absurd hv (by simp)
  | top =>
    have h0 : Ideal.div 0 (⊤ : EReal) = 0 := by simp [Ideal.div]
    rw [Ideal.rsqrt_top, h0, Ideal.div_coe hN.ne', Ideal.div_coe hN.ne']
    simp
  | coe v =>
    have hv' : 0 < v := by exact_mod_cast hv
    have hr : Ideal.rsqrt (v : EReal) = (((Real.sqrt v)⁻¹ : ℝ) : EReal) := by
      rw [Ideal.rsqrt_coe, if_neg (not_lt.mpr hv'.le), if_neg hv'.ne']
    have hs : 0 < Real.sqrt v := Real.sqrt_pos.mpr hv'
    have hρ : 0 < (Real.sqrt v)⁻¹ := inv_pos.mpr hs
    have hρ2 : 1 / v = (Real.sqrt v)⁻¹ * (Real.sqrt v)⁻¹ := by
      rw [← mul_inv, Real.mul_self_sqrt hv'.le, one_div]
    rw [hr, Ideal.div_coe hv'.ne', Ideal.div_coe hN.ne', Ideal.div_coe hN.ne', hρ2]
    generalize (Real.sqrt v)⁻¹ = ρ at hρ
    have hT : ∑ k, g k * (h k * (ρ : EReal)) = (ρ : EReal) * ∑ k, h k * g k := by
      rw [mul_sum _ _ hρ.le]
      refine Finset.sum_congr rfl fun k _ => ?_
      ac_rfl
    rw [hT]
    generalize (∑ k, h k * g k) = T
    have e1 : h j * (ρ : EReal) * ((ρ : EReal) * T * ((1 / N : ℝ) : EReal)) = ((ρ * ρ * (1 / N) : ℝ) : EReal) * (T * h j) := by
      simp only [EReal.coe_mul]; ac_rfl
    have e2 : T * (((-(1 / 2) : ℝ) : EReal) * ((ρ : EReal) * ((ρ * ρ : ℝ) : EReal))) * ((1 / N : ℝ) : EReal)
        = ((-(1 / 2) * (ρ * (ρ * ρ * (1 / N))) : ℝ) : EReal) * T := by
      simp only [EReal.coe_mul]; ac_rfl
    have e3 : h j * (((-(1 / 2) * (ρ * (ρ * ρ * (1 / N))) : ℝ) : EReal) * T)
        = ((-(1 / 2) * (ρ * (ρ * ρ * (1 / N))) : ℝ) : EReal) * (T * h j) := by ac_rfl
    have e4 : ((-(1 / 2) * (ρ * (ρ * ρ * (1 / N))) : ℝ) : EReal) * T * h j
        = ((-(1 / 2) * (ρ * (ρ * ρ * (1 / N))) : ℝ) : EReal) * (T * h j) := mul_assoc _ _ _
    rw [e1, e2, e3, e4, add_assoc (d + _), twice _ (by positivity), sub_eq_add_neg,
      EReal.left_distrib_of_nonneg_of_ne_top (by exact_mod_cast hρ.le) (EReal.coe_ne_top ρ), mul_neg, ← mul_assoc (ρ : EReal),
      ← EReal.coe_mul, add_comm _ d, mul_comm (ρ : EReal) (g j), add_assoc]

/-- The divisor of a mean over 2048 entries. -/
theorem lit_2048 : Ideal.ofBits .f32 0x45000000#32 = ((2048 : ℝ) : EReal) := by
  simp [Ideal.ofBits, Ideal.ieee, -EReal.coe_mul]; norm_num

/-- Minus one half. -/
theorem lit_half : Ideal.ofBits .f32 0xBF000000#32 = ((-(1 / 2) : ℝ) : EReal) := by
  simp [Ideal.ofBits, Ideal.ieee, -EReal.coe_mul]; norm_num

/-- The number added to a mean of squares is a positive real. -/
theorem lit_eps : ∃ ε : ℝ, 0 < ε ∧ Ideal.ofBits .f32 0x358637BD#32 = (ε : EReal) := by
  refine ⟨_, ?_, by simp [Ideal.ofBits, Ideal.ieee, -EReal.coe_mul]; rfl⟩
  norm_num

/-- The mean of 2048 squares with that number added is positive. -/
theorem mean_pos_lit (h : Fin 2048 → EReal) :
    0 < Ideal.div (∑ k, h k * h k) ((2048 : ℝ) : EReal) + Ideal.ofBits .f32 0x358637BD#32 := by
  obtain ⟨ε, hε, e⟩ := lit_eps
  rw [e]
  exact mean_pos h 2048 ε (by norm_num) hε

end Cert.RmsGrad

end
-- ==== Proof.DxnUp.lean ====
/- The gradient through the channel mixer's first product and its normalisation (`Kernel7`): the three result
   arrays of the call are the reference's terms of the arguments, the gradient of the rows before their normalisation (in
   both formats) and the gradient of the gain. The call walks the contraction in four parts, each in two halves that meet
   two blocks of the weight, adding each into a scratch buffer, and adds each block of rows into the gain's block. -/
module

public import proofs.«01_k».proof.Proof.Gen.Kernel7Ideal.Frame
public import proofs.«01_k».proof.Proof.Gen.Reference7Ideal
public import proofs.«01_k».proof.Proof.RmsGrad
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel7Ideal.Value

open Cert.Kernel7Ideal Cert.Kernel7Ideal.Gen

variable (m : (ℓ : Loc nD τ sig) → Buf (Elt Ideal) ℓ)

/-- The block every window stages at grid point `t`: rows `t / 4`, quarter `t % 4` of the contraction, as two blocks of the
    weight. -/
theorem idx : ∀ t : Fin cfg0.N, win0_0.index t = ![t.val / 4, t.val % 4] ∧ win0_1.index t = ![2 * (t.val % 4), 0, 0]
    ∧ win0_2.index t = ![2 * (t.val % 4) + 1, 0, 0]
    ∧ win0_3.index t = ![t.val / 4, 0] ∧ win0_4.index t = ![t.val / 4, 0] ∧ win0_5.index t = ![0, 0]
    ∧ win0_6.index t = ![t.val / 4, 0] ∧ win0_7.index t = ![t.val / 4, 0] ∧ win0_8.index t = ![0, 0] :=
  (by decide +kernel : ∀ t : Fin grid0.N, _)

/-- The reference's product with the transposed weight: the gradient of the normalised rows. -/
abbrev DOT (D : FVec Ideal S4096x8192 .f32) (W : FVec Ideal S2048x8192 .f32) : FVec Ideal S4096x2048 .f32 :=
  Host.dotGeneral (F := Ideal) Cert.Reference7Ideal.dot_S4096x8192_S2048x8192_S4096x2048_1_1_0_0_n_n none D W

/-- The mean of a row's squares, a small number added. -/
abbrev MS (H : FVec Ideal S4096x2048 .f32) : FVec Ideal Cert.Reference7Ideal.S4096x1 .f32 :=
  addf (Host.divf
    (broadcastInDim Cert.Reference7Ideal.S4096x1 ![0] Cert.Reference7Ideal.Gen.bcast_S4096_S4096x1_0
      (Host.reduceAdd (mulf H H) (constant Cert.Reference7Ideal.S_ .f32 0x00000000#32) Cert.Reference7Ideal.Gen.reducesTo_S4096x2048_S4096_d1 Cert.Reference7Ideal.Gen.h_S_))
    (broadcastInDim Cert.Reference7Ideal.S4096x1 ![] Cert.Reference7Ideal.Gen.bcast_S_S4096x1 (constant Cert.Reference7Ideal.S_ .f32 0x45000000#32)))
    (broadcastInDim Cert.Reference7Ideal.S4096x1 ![] Cert.Reference7Ideal.Gen.bcast_S_S4096x1 (constant Cert.Reference7Ideal.S_ .f32 0x358637BD#32))

/-- The rows divided by the root of that mean. -/
abbrev NRM (H : FVec Ideal S4096x2048 .f32) : FVec Ideal S4096x2048 .f32 :=
  mulf H (broadcastInDim Cert.Reference7Ideal.S4096x2048 ![0, 1] Cert.Reference7Ideal.Gen.bcast_S4096x1_S4096x2048_0_1 (Host.rsqrt (MS H)))

/-- The gradient of the normalised rows times the gain. -/
abbrev GX (X : FVec Ideal S4096x2048 .f32) (G : FVec Ideal S2048 .f32) : FVec Ideal S4096x2048 .f32 :=
  mulf X (broadcastInDim Cert.Reference7Ideal.S4096x2048 ![0, 1] Cert.Reference7Ideal.Gen.bcast_S1x2048_S4096x2048_0_1
    (broadcastInDim Cert.Reference7Ideal.S1x2048 ![1] Cert.Reference7Ideal.Gen.bcast_S2048_S1x2048_1 G))

/-- The factor of a row's correction: what the gradient owes to the mean of the squares. -/
abbrev CORR (X H : FVec Ideal S4096x2048 .f32) (G : FVec Ideal S2048 .f32) : FVec Ideal S4096x2048 .f32 :=
  broadcastInDim Cert.Reference7Ideal.S4096x2048 ![0] Cert.Reference7Ideal.Gen.bcast_S4096_S4096x2048_0
    (Host.reduceAdd (Host.divf (mulf
        (shapeCast Cert.Reference7Ideal.S4096x1 (Host.reduceAdd (mulf H (GX X G)) (constant Cert.Reference7Ideal.S_ .f32 0x00000000#32)
          Cert.Reference7Ideal.Gen.reducesTo_S4096x2048_S4096_d1 Cert.Reference7Ideal.Gen.h_S_) Cert.Reference7Ideal.Gen.shapeCasts_S4096_S4096x1)
        (mulf (broadcastInDim Cert.Reference7Ideal.S4096x1 ![] Cert.Reference7Ideal.Gen.bcast_S_S4096x1 (constant Cert.Reference7Ideal.S_ .f32 0xBF000000#32))
          (Host.divf (Host.rsqrt (MS H)) (MS H))))
      (broadcastInDim Cert.Reference7Ideal.S4096x1 ![] Cert.Reference7Ideal.Gen.bcast_S_S4096x1 (constant Cert.Reference7Ideal.S_ .f32 0x45000000#32)))
      (constant Cert.Reference7Ideal.S_ .f32 0x00000000#32) Cert.Reference7Ideal.Gen.reducesTo_S4096x1_S4096_d1 Cert.Reference7Ideal.Gen.h_S_)

/-- The gradient of the rows before the normalisation, from the gradient `X` after it, added to `D`. -/
abbrev DH (X H D : FVec Ideal S4096x2048 .f32) (G : FVec Ideal S2048 .f32) : FVec Ideal S4096x2048 .f32 :=
  addf (addf (addf D (mulf (GX X G) (broadcastInDim Cert.Reference7Ideal.S4096x2048 ![0, 1] Cert.Reference7Ideal.Gen.bcast_S4096x1_S4096x2048_0_1 (Host.rsqrt (MS H)))))
    (mulf H (CORR X H G))) (mulf (CORR X H G) H)

/-- The same, in the narrow format. -/
abbrev DHB (X H D : FVec Ideal S4096x2048 .f32) (G : FVec Ideal S2048 .f32) : FVec Ideal S4096x2048 .bf16 :=
  truncf .bf16 (DH X H D G) Cert.Reference7Ideal.Gen.bitsLt_bf16_f32

/-- The gradient of the gain. -/
abbrev DG (X H : FVec Ideal S4096x2048 .f32) : FVec Ideal S1x2048 .f32 :=
  shapeCast Cert.Reference7Ideal.S1x2048 (Host.reduceAdd
    (shapeCast Cert.Reference7Ideal.S1x2048 (Host.reduceAdd (mulf (NRM H) X) (constant Cert.Reference7Ideal.S_ .f32 0x00000000#32)
      Cert.Reference7Ideal.Gen.reducesTo_S4096x2048_S2048_d0 Cert.Reference7Ideal.Gen.h_S_) Cert.Reference7Ideal.Gen.shapeCasts_S2048_S1x2048)
    (constant Cert.Reference7Ideal.S_ .f32 0x00000000#32) Cert.Reference7Ideal.Gen.reducesTo_S1x2048_S2048_d0 Cert.Reference7Ideal.Gen.h_S_)
    Cert.Reference7Ideal.Gen.shapeCasts_S2048_S1x2048

/-- One entry of the gradient's row: what the kernel stores is the reference's, when the rows read are one. -/
theorem row_dx (A B C : FVec Ideal S256x2048 .f32) (G1 : FVec Ideal S1x2048 .f32) (X H D : FVec Ideal S4096x2048 .f32)
    (G : FVec Ideal S2048 .f32) (a : Fin 256) (b : Fin 2048) (r : Fin 4096)
    (hA : ∀ k : Fin 2048, A (ix2 a k) = X (ix2 r k)) (hB : ∀ k : Fin 2048, B (ix2 a k) = H (ix2 r k))
    (hC : C (ix2 a b) = D (ix2 r b)) (hG : ∀ k : Fin 2048, G1 (ix2 0 k) = G (ix1 k)) :
    k0_pay7 A B C G1 (ix2 a b) = DH X H D G (ix2 r b) := by
  pointwise [k0_pay7, k0_pay6, k0_pay5, DH, CORR, GX, MS]
  simp only [hA, hB, hC, hG, Fin.sum_univ_one, RmsGrad.lit_2048, RmsGrad.lit_half]
  exact RmsGrad.row (fun k => H (ix2 r k)) (fun k => X (ix2 r k) * G (ix1 k)) b _ _ 2048 (by norm_num)
    (RmsGrad.mean_pos_lit _)

/-- One entry of the gain's gradient before its sum over the rows. -/
abbrev TERM (X H : FVec Ideal S4096x2048 .f32) (r : Fin 4096) (b : Fin 2048) : EReal := NRM H (ix2 r b) * X (ix2 r b)

/-- The gain's gradient, as one sum over the rows. -/
theorem dg_sum (X H : FVec Ideal S4096x2048 .f32) (j) : DG X H j = ∑ r : Fin 4096, TERM X H r (j 1) := by
  pointwise [DG, TERM, NRM, MS]
  rw [Fin.sum_univ_one]

/-- The part of that sum one block of rows adds. -/
theorem dg_blk (A B : FVec Ideal S256x2048 .f32) (X H : FVec Ideal S4096x2048 .f32) (j : S1x2048.Idx) (r : Fin 256 → Fin 4096)
    (hA : ∀ a : Fin 256, A (ix2 a (j 1)) = X (ix2 (r a) (j 1))) (hB : ∀ (a : Fin 256) (k : Fin 2048), B (ix2 a k) = H (ix2 (r a) k)) :
    k0_pay8 (F := Ideal) A B j = ∑ a : Fin 256, TERM X H (r a) (j 1) := by
  pointwise [k0_pay8, k0_pay6, k0_pay5, TERM, NRM, MS]
  simp only [hA, hB]
  exact Finset.sum_congr rfl fun a _ => (mul_comm _ _).trans
    (congrArg₂ (· * ·) (congrArg₂ (· * ·) (hB a (j 1)) rfl) rfl)

/-- The part of the product one grid point computes. -/
theorem pay_first (x0 : FVec Ideal S256x2048 .bf16) (x1 x2 : FVec Ideal S1x2048x1024 .bf16) (j) :
    k0_pay2 (F := Ideal) x0 x1 x2 j = 0 + (∑ k : Fin 1024, x0 (ix2 (j 0) ⟨k.val, by omega⟩) * x1 (ix3 0 (j 1) k)
      + ∑ k : Fin 1024, x0 (ix2 (j 0) ⟨1024 + k.val, by omega⟩) * x2 (ix3 0 (j 1) k)) := by
  pointwise [k0_pay2, k0_pay1]

/-- A later grid point adds its part to what the scratch buffer holds. -/
theorem pay_step (x0 : FVec Ideal S256x2048 .bf16) (x1 x2 : FVec Ideal S1x2048x1024 .bf16) (acc : FVec Ideal S256x2048 .f32) (j) :
    k0_pay3 (F := Ideal) x0 x1 x2 acc j = acc j + (∑ k : Fin 1024, x0 (ix2 (j 0) ⟨k.val, by omega⟩) * x1 (ix3 0 (j 1) k)
      + ∑ k : Fin 1024, x0 (ix2 (j 0) ⟨1024 + k.val, by omega⟩) * x2 (ix3 0 (j 1) k)) := by
  pointwise [k0_pay3, k0_pay1]

/-- The reference's product, as one sum. -/
theorem dot_sum (X : FVec Ideal S4096x8192 .f32) (W : FVec Ideal S2048x8192 .f32) (j) :
    DOT X W j = ∑ l : Fin 8192, X (ix2 (j 0) l) * W (ix2 (j 1) l) := by
  pointwise [DOT]

/-- What the last point of a run stores in the first result's block. -/
theorem out6 (c : Dev nD) (t : Fin cfg0.N) (h : t.val % 4 = 3) :
    (outsAt0 m c t.val t.isLt).1 = k0_pay7 (outsAt0 m c t.val t.isLt).2.2.2 (iblk m c 3 t) (iblk m c 4 t) (iblk m c 5 t) := by
  by_cases h2 : t.val < 4
  · rw [outsAt0_C m c t (by omega) (by omega) h h2 (by omega)]; frame_out
  · rw [outsAt0_D m c t (by omega) (by omega) h h2 (by omega)]; frame_out

/-- What it stores in the second result's block. -/
theorem out7 (c : Dev nD) (t : Fin cfg0.N) (h : t.val % 4 = 3) :
    (outsAt0 m c t.val t.isLt).2.1 = k0_pay9 (outsAt0 m c t.val t.isLt).2.2.2 (iblk m c 3 t) (iblk m c 4 t) (iblk m c 5 t) := by
  by_cases h2 : t.val < 4
  · rw [outsAt0_C m c t (by omega) (by omega) h h2 (by omega)]; frame_out
  · rw [outsAt0_D m c t (by omega) (by omega) h h2 (by omega)]; frame_out

/-- What the last point of the first run stores in the gain's block. -/
theorem out8_first (c : Dev nD) (t : Fin cfg0.N) (h : t.val % 4 = 3) (h2 : t.val < 4) :
    (outsAt0 m c t.val t.isLt).2.2.1 = k0_pay8 (outsAt0 m c t.val t.isLt).2.2.2 (iblk m c 3 t) := by
  rw [outsAt0_C m c t (by omega) (by omega) h h2 (by omega)]; frame_out

/-- What the last point of a later run stores there: its part added to what is there. -/
theorem out8_step (c : Dev nD) (t : Fin cfg0.N) (h : t.val % 4 = 3) (h2 : ¬t.val < 4) :
    (outsAt0 m c t.val t.isLt).2.2.1 = k0_pay4 (k0_pay8 (outsAt0 m c t.val t.isLt).2.2.2 (iblk m c 3 t))
      (outsAt0 m c (t.val - 1) (Nat.lt_of_le_of_lt (Nat.sub_le _ _) t.isLt)).2.2.1 := by
  rw [outsAt0_D m c t (by omega) (by omega) h h2 (by omega)]; frame_out

/-- Another point leaves that block as it is. -/
theorem out8_keep (c : Dev nD) (t : Fin cfg0.N) (h : ¬t.val % 4 = 3) :
    (outsAt0 m c t.val t.isLt).2.2.1
      = (outsAt0 m c (t.val - 1) (Nat.lt_of_le_of_lt (Nat.sub_le _ _) t.isLt)).2.2.1 := by
  by_cases h0 : t.val % 4 = 0
  · rw [outsAt0_A m c t h0 (by omega) h]; rfl
  · rw [outsAt0_B m c t h0 (by omega) h]; rfl

/-- What the first point of a run leaves in the scratch buffer. -/
theorem scr_first (c : Dev nD) (t : Fin cfg0.N) (h : t.val % 4 = 0) :
    (outsAt0 m c t.val t.isLt).2.2.2 = k0_pay2 (iblk m c 0 t) (iblk m c 1 t) (iblk m c 2 t) := by
  rw [outsAt0_A m c t h (by omega) (by omega)]
  frame_out

/-- What a later point leaves there. -/
theorem scr_step (c : Dev nD) (t : Fin cfg0.N) (h : ¬t.val % 4 = 0) :
    (outsAt0 m c t.val t.isLt).2.2.2 = k0_pay3 (iblk m c 0 t) (iblk m c 1 t) (iblk m c 2 t)
      (outsAt0 m c (t.val - 1) (Nat.lt_of_le_of_lt (Nat.sub_le _ _) t.isLt)).2.2.2 := by
  by_cases h3 : t.val % 4 = 3
  · by_cases h2 : t.val < 4
    · rw [outsAt0_C m c t h (by omega) h3 h2 (by omega)]; frame_out; simp only [read_unread_whole]
    · rw [outsAt0_D m c t h (by omega) h3 h2 (by omega)]; frame_out; simp only [read_unread_whole]
  · rw [outsAt0_B m c t h (by omega) h3]; frame_out; simp only [read_unread_whole]

/-- One point's part of the product, at a place of the block. -/
abbrev part (c : Dev nD) (p : Fin cfg0.N) (j : S256x2048.Idx) : EReal :=
  (∑ k : Fin 1024, (show FVec Ideal S256x2048 .bf16 from iblk m c 0 p) (ix2 (j 0) ⟨k.val, by omega⟩)
      * (show FVec Ideal S1x2048x1024 .bf16 from iblk m c 1 p) (ix3 0 (j 1) k))
    + ∑ k : Fin 1024, (show FVec Ideal S256x2048 .bf16 from iblk m c 0 p) (ix2 (j 0) ⟨1024 + k.val, by omega⟩)
      * (show FVec Ideal S1x2048x1024 .bf16 from iblk m c 2 p) (ix3 0 (j 1) k)

/-- The scratch buffer at the last point of a run is the sum of the four parts. -/
theorem scratch_sum (c : Dev nD) (t : Fin cfg0.N) (h : t.val % 4 = 3) (y : S256x2048.Idx) :
    (outsAt0 m c t.val t.isLt).2.2.2 y
      = 0 + ∑ s : Fin 4, part m c ⟨4 * (t.val / 4) + s.val, Pipeline.run_point_lt_of_flush t h s⟩ y :=
  Pipeline.eq_sum_fin_of_reset_step_apply_of_flush (fun n h => (outsAt0 m c n h).2.2.2) 4 (fun _ => 0) (part m c)
    (fun t h j => (congrFun (scr_first m c t h) j).trans (pay_first _ _ _ j))
    (fun t h j => (congrFun (scr_step m c t h) j).trans (pay_step _ _ _ _ j))
    t h y

/-- The array's row that row `r` of grid point `t`'s block is. -/
abbrev row (t : Fin cfg0.N) (r : Fin 256) : Fin 4096 :=
  ⟨t.val / 4 * 256 + r.val, by have : t.val < 64 := lt_of_lt_of_eq t.isLt N_0; omega⟩

/-- A staged block of the left operand, at an index. -/
theorem blk_x (c : Dev nD) (t : Fin cfg0.N) (a : Fin 256) (k : Fin 2048) (s : Fin 4) (hs : t.val % 4 = s.val) :
    iblk m c 0 t (ix2 a k) = (m ((c : Thread nD τ).loc main_arg0) : FVec Ideal S4096x8192 .f32)
      (ix2 (row t a) ⟨s.val * 2048 + k.val, by omega⟩) := by
  blk_point [iblk, V, idx t, hs]

/-- The first staged block of the weight, at an index. -/
theorem blk_w0 (c : Dev nD) (t : Fin cfg0.N) (j : Fin 2048) (k : Fin 1024) (s : Fin 4) (hs : t.val % 4 = s.val) :
    iblk m c 1 t (ix3 0 j k) = (m ((c : Thread nD τ).loc main_arg1) : FVec Ideal S2048x8192 .f32)
      (ix2 j ⟨s.val * 2048 + k.val, by omega⟩) := by
  blk_point [iblk, V, idx t, hs]

/-- The second staged block of the weight, at an index. -/
theorem blk_w1 (c : Dev nD) (t : Fin cfg0.N) (j : Fin 2048) (k : Fin 1024) (s : Fin 4) (hs : t.val % 4 = s.val) :
    iblk m c 2 t (ix3 0 j k) = (m ((c : Thread nD τ).loc main_arg1) : FVec Ideal S2048x8192 .f32)
      (ix2 j ⟨s.val * 2048 + (1024 + k.val), by omega⟩) := by
  blk_point [iblk, V, idx t, hs]

/-- A sum over 2048 places is the sum over the first half and the sum over the second. -/
theorem halves (f : Fin 2048 → EReal) :
    (∑ k : Fin 1024, f ⟨k.val, by omega⟩) + ∑ k : Fin 1024, f ⟨1024 + k.val, by omega⟩ = ∑ k : Fin 2048, f k :=
  (Fin.sum_univ_add (a := 1024) (b := 1024) f).symm

/-- The scratch buffer at the last point of a run holds the product, at the array index its place has. -/
theorem scratch (c : Dev nD) (t : Fin cfg0.N) (h : t.val % 4 = 3) (y : S256x2048.Idx) :
    (outsAt0 m c t.val t.isLt).2.2.2 y = DOT (m ((c : Thread nD τ).loc main_arg0)) (m ((c : Thread nD τ).loc main_arg1)) (ix2 (row t (y 0)) (y 1)) := by
  rw [scratch_sum m c t h y, zero_add, dot_sum]
  refine Eq.trans ?_ (Fin.sum_mul_add_fin 4 2048 _)
  refine Finset.sum_congr rfl fun s _ => ?_
  have hp : (⟨4 * (t.val / 4) + s.val, Pipeline.run_point_lt_of_flush t h s⟩ : Fin cfg0.N).val % 4 = s.val := by
    show (4 * (t.val / 4) + s.val) % 4 = s.val
    omega
  have hr : row ⟨4 * (t.val / 4) + s.val, Pipeline.run_point_lt_of_flush t h s⟩ (y 0) = row t (y 0) := by
    refine Fin.ext ?_
    show (4 * (t.val / 4) + s.val) / 4 * 256 + (y 0).val = t.val / 4 * 256 + (y 0).val
    have : (4 * (t.val / 4) + s.val) / 4 = t.val / 4 := by omega
    rw [this]
  refine Eq.trans ?_ (halves _)
  refine congrArg₂ (· + ·) (Finset.sum_congr rfl fun k _ => ?_) (Finset.sum_congr rfl fun k _ => ?_)
  · exact congrArg₂ (· * ·) ((blk_x m c _ (y 0) ⟨k.val, by omega⟩ s hp).trans (by rw [hr]; rfl)) (blk_w0 m c _ (y 1) k s hp)
  · exact congrArg₂ (· * ·) ((blk_x m c _ (y 0) ⟨1024 + k.val, by omega⟩ s hp).trans (by rw [hr]; rfl)) (blk_w1 m c _ (y 1) k s hp)

/-- A staged block of the rows, at an index. -/
theorem blk_h (c : Dev nD) (t : Fin cfg0.N) (a : Fin 256) (k : Fin 2048) : iblk m c 3 t (ix2 a k)
    = ((m ((c : Thread nD τ).loc main_arg2)) : FVec Ideal S4096x2048 .f32) (ix2 (row t a) k) := by
  blk_point [iblk, V, idx t]

/-- A staged block of the gradient added, at an index. -/
theorem blk_d (c : Dev nD) (t : Fin cfg0.N) (a : Fin 256) (k : Fin 2048) : iblk m c 4 t (ix2 a k)
    = ((m ((c : Thread nD τ).loc main_arg3)) : FVec Ideal S4096x2048 .f32) (ix2 (row t a) k) := by
  blk_point [iblk, V, idx t]

/-- The staged gain, at an index. -/
theorem blk_g (c : Dev nD) (t : Fin cfg0.N) (k : Fin 2048) : iblk m c 5 t (ix2 0 k)
    = ((m ((c : Thread nD τ).loc main_arg4)) : FVec Ideal S2048 .f32) (ix1 k) := by
  blk_point [iblk, V, idx t]

/-- The first result's block at the last point of a run. -/
theorem point_dx (c : Dev nD) (t : Fin cfg0.N) (h : t.val % 4 = 3) (y : S256x2048.Idx) : (outsAt0 m c t.val t.isLt).1 y
    = DH (DOT (m ((c : Thread nD τ).loc main_arg0)) (m ((c : Thread nD τ).loc main_arg1))) (m ((c : Thread nD τ).loc main_arg2)) (m ((c : Thread nD τ).loc main_arg3)) (m ((c : Thread nD τ).loc main_arg4))
        (ix2 (row t (y 0)) (y 1)) := by
  have e : y = ix2 (y 0) (y 1) := by funext a; fin_cases a <;> rfl
  rw [out6 m c t h]
  conv_lhs => rw [e]
  exact row_dx _ _ _ _ _ _ _ _ _ _ _ (fun k => scratch m c t h (ix2 (y 0) k)) (fun k => blk_h m c t (y 0) k)
    (blk_d m c t (y 0) (y 1)) (fun k => blk_g m c t k)

/-- The second result's block at the last point of a run. -/
theorem point_dxb (c : Dev nD) (t : Fin cfg0.N) (h : t.val % 4 = 3) (y : S256x2048.Idx) : (outsAt0 m c t.val t.isLt).2.1 y
    = DHB (DOT (m ((c : Thread nD τ).loc main_arg0)) (m ((c : Thread nD τ).loc main_arg1))) (m ((c : Thread nD τ).loc main_arg2)) (m ((c : Thread nD τ).loc main_arg3)) (m ((c : Thread nD τ).loc main_arg4))
        (ix2 (row t (y 0)) (y 1)) := by
  have h1 := point_dx m c t h y
  rw [out6 m c t h] at h1
  rw [out7 m c t h]
  exact h1

/-- Two equal points leave the same in the gain's block. -/
theorem outs_congr (c : Dev nD) {n k : Nat} (e : n = k) (hn : n < cfg0.N) (hk : k < cfg0.N) :
    (outsAt0 m c n hn).2.2.1 = (outsAt0 m c k hk).2.2.1 := by
  subst e; rfl

/-- A later run's store in the gain's block is the sum of what is there and its part. -/
theorem pay_gain (x acc : FVec Ideal S1x2048 .f32) (j) : k0_pay4 (F := Ideal) x acc j = acc j + x j := by
  pointwise [k0_pay4]

/-- The part of the gain's gradient the last point of run `p` adds. -/
abbrev gpart (c : Dev nD) (p : Fin 16) (j : S1x2048.Idx) : EReal :=
  ∑ a : Fin 256, TERM (DOT (m ((c : Thread nD τ).loc main_arg0)) (m ((c : Thread nD τ).loc main_arg1))) (m ((c : Thread nD τ).loc main_arg2)) ⟨p.val * 256 + a.val, by omega⟩ (j 1)

/-- The last point of run `p` is a grid point. -/
theorem last_lt (p : Nat) (h : p < 16) : 4 * p + 3 < cfg0.N := by
  have : cfg0.N = 64 := N_0
  omega

/-- What the last point of run `p` computes for the gain. -/
theorem gain_blk (c : Dev nD) (p : Fin 16) (j : S1x2048.Idx) :
    k0_pay8 (F := Ideal) (outsAt0 m c (4 * p.val + 3) (last_lt p.val p.isLt)).2.2.2 (iblk m c 3 ⟨4 * p.val + 3, last_lt p.val p.isLt⟩) j
      = gpart m c p j := by
  have hp : (4 * p.val + 3) % 4 = 3 := by omega
  have hr : ∀ a : Fin 256, row ⟨4 * p.val + 3, last_lt p.val p.isLt⟩ a = ⟨p.val * 256 + a.val, by omega⟩ := fun a => by
    refine Fin.ext ?_
    show (4 * p.val + 3) / 4 * 256 + a.val = p.val * 256 + a.val
    have : (4 * p.val + 3) / 4 = p.val := by omega
    rw [this]
  refine dg_blk _ _ _ _ j (fun a => ⟨p.val * 256 + a.val, by omega⟩) (fun a => ?_) (fun a k => ?_)
  · exact (scratch m c ⟨4 * p.val + 3, last_lt p.val p.isLt⟩ hp (ix2 a (j 1))).trans (by rw [← hr a]; rfl)
  · exact (blk_h m c ⟨4 * p.val + 3, last_lt p.val p.isLt⟩ a k).trans (by rw [← hr a])

/-- The gain's block after run `p`. -/
def gacc (c : Dev nD) (n : Nat) (h : n < 16) : FVec Ideal S1x2048 .f32 := (outsAt0 m c (4 * n + 3) (last_lt n h)).2.2.1

/-- After the first run it is that run's part. -/
theorem gacc_first (c : Dev nD) (p : Fin 16) (h : p.val = 0) (j : S1x2048.Idx) :
    gacc m c p.val p.isLt j = 0 + gpart m c p j :=
  (congrFun (out8_first m c ⟨4 * p.val + 3, last_lt p.val p.isLt⟩ (by show (4 * p.val + 3) % 4 = 3; omega)
    (by show 4 * p.val + 3 < 4; omega)) j).trans ((gain_blk m c p j).trans (zero_add _).symm)

/-- After a later run it is the sum of what the run before left and that run's part. -/
theorem gacc_step (c : Dev nD) (p : Fin 16) (h : ¬p.val = 0) (j : S1x2048.Idx) :
    gacc m c p.val p.isLt j
      = gacc m c (p.val - 1) (Nat.lt_of_le_of_lt (Nat.sub_le _ _) p.isLt) j + gpart m c p j := by
  have lt : ∀ d, 4 * p.val + 3 - d < cfg0.N := fun d => Nat.lt_of_le_of_lt (Nat.sub_le _ _) (last_lt p.val p.isLt)
  have h1 := congrFun (out8_step m c ⟨4 * p.val + 3, last_lt p.val p.isLt⟩ (by show (4 * p.val + 3) % 4 = 3; omega)
    (by show ¬4 * p.val + 3 < 4; omega)) j
  have h2 := out8_keep m c ⟨4 * p.val + 3 - 1, lt 1⟩ (by show ¬(4 * p.val + 3 - 1) % 4 = 3; omega)
  have h3 := out8_keep m c ⟨4 * p.val + 3 - 2, lt 2⟩ (by show ¬(4 * p.val + 3 - 2) % 4 = 3; omega)
  have h4 := out8_keep m c ⟨4 * p.val + 3 - 3, lt 3⟩ (by show ¬(4 * p.val + 3 - 3) % 4 = 3; omega)
  have e4 := outs_congr m c (show 4 * p.val + 3 - 3 - 1 = 4 * (p.val - 1) + 3 by omega)
    (Nat.lt_of_le_of_lt (Nat.sub_le _ _) (lt 3)) (last_lt (p.val - 1) (Nat.lt_of_le_of_lt (Nat.sub_le _ _) p.isLt))
  have h5 := h2.trans (h3.trans (h4.trans e4))
  exact h1.trans ((pay_gain _ _ j).trans (congrArg₂ (· + ·) (congrFun h5 j) (gain_blk m c p j)))

/-- After the last run it is the sum of every run's part. -/
theorem gain_sum (c : Dev nD) (p : Fin 16) (hp : p.val + 1 = 16) (j : S1x2048.Idx) :
    gacc m c p.val p.isLt j = 0 + ∑ p : Fin 16, gpart m c p j :=
  Pipeline.eq_sum_fin_of_reset_step_apply_last (gacc m c) 16 (fun _ => 0) (gpart m c)
    (fun t h i => gacc_first m c t (by omega) i) (fun t h i => gacc_step m c t (fun e => h (by rw [e])) i) (le_refl 16) p hp j

/-- The gain's block at the last point of the grid. -/
theorem point_gain (c : Dev nD) (t : Fin cfg0.N) (h : t.val % 64 = 63) (y : S1x2048.Idx) : (outsAt0 m c t.val t.isLt).2.2.1 y
    = DG (DOT (m ((c : Thread nD τ).loc main_arg0)) (m ((c : Thread nD τ).loc main_arg1))) (m ((c : Thread nD τ).loc main_arg2)) y := by
  have hN : t.val < 64 := lt_of_lt_of_eq t.isLt N_0
  have hp : t.val / 4 < 16 := by omega
  have ht : t.val = 4 * (t.val / 4) + 3 := by omega
  refine (congrFun (outs_congr m c ht _ (last_lt (t.val / 4) hp)) y).trans ?_
  refine (gain_sum m c ⟨t.val / 4, hp⟩ (by show t.val / 4 + 1 = 16; omega) y).trans ?_
  rw [zero_add, dg_sum]
  exact Fin.sum_mul_add_congr fun s k hl => rfl

/-- The first result array after the call is the gradient of the rows. -/
theorem final_dx (c : Dev nD) : (dats m 0 c).arrAt 6 (cfgs 0).N
    = DH (DOT (m ((c : Thread nD τ).loc main_arg0)) (m ((c : Thread nD τ).loc main_arg1))) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6, point_dx m c t ((flush0_6 t).mp hf)]
  blk_ext [idx t]

/-- The second result array after the call is the same in the narrow format. -/
theorem final_dxb (c : Dev nD) : (dats m 0 c).arrAt 7 (cfgs 0).N
    = DHB (DOT (m ((c : Thread nD τ).loc main_arg0)) (m ((c : Thread nD τ).loc main_arg1))) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7, point_dxb m c t ((flush0_7 t).mp hf)]
  blk_ext [idx t]

/-- The third result array after the call is the gradient of the gain. -/
theorem final_gain (c : Dev nD) : (dats m 0 c).arrAt 8 (cfgs 0).N
    = DG (DOT (m ((c : Thread nD τ).loc main_arg0)) (m ((c : Thread nD τ).loc main_arg1))) (m ((c : Thread nD τ).loc main_arg2)) := by
  refine (dats m 0 c).arrAt_eq_of_covers 8 _ (by decide +kernel) fun t hf y => ?_
  blk_simp
  rw [after0_8, point_gain m c t ((flush0_8 t).mp hf)]
  blk_ext [idx t]

end Cert.Kernel7Ideal.Value

end
-- ==== Proof.ClaimDxnUp.lean ====
/- The value claim of the gradient at the hidden state before the up projection: its kernel and its reference end with equal results. -/
module

public import proofs.«01_k».proof.Defs
public import proofs.«01_k».proof.Proof.DxnUp
public import Idealize.ShloMosaic.Lib.Claim

@[expose] public section

set_option maxRecDepth 16384

noncomputable section

namespace Cert.Proof

open Idealize.ShloMosaic Idealize.SL.Sem

/-- The gradient at the hidden state before the up projection: over the extended reals the kernel computes what its reference computes. -/
theorem algebraic7 : Cert.algebraic_Kernel7Ideal_Reference7Ideal (hKernel7Ideal := Cert.Kernel7Ideal.Gen.facts)
    (hReference7Ideal := Cert.Reference7Ideal.Gen.facts) := by
  pair_intro
  · run_from Cert.Kernel7Ideal.Gen.run_main m g
  · hlo_run
    · exact (Cert.Kernel7Ideal.Value.final_dx m c).symm
    · exact (Cert.Kernel7Ideal.Value.final_dxb m c).symm
    · exact (Cert.Kernel7Ideal.Value.final_gain m c).symm

end Cert.Proof

end
-- ==== Proof.DwIn.lean ====
/- The gradient of the first layers' input projection (`Kernel8`): the result array of the call is the reference's
   `xnᵀ · dproj`. -/
module

public import proofs.«01_k».proof.Proof.Gen.Kernel8Ideal.Frame
public import proofs.«01_k».proof.Proof.Gen.Reference8Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel8Ideal.Value

open Cert.Kernel8Ideal Cert.Kernel8Ideal.Gen

variable (m : (ℓ : Loc nD τ sig) → Buf (Elt Ideal) ℓ)

/-- The block every window stages at grid point `t`. -/
theorem idx : ∀ t : Fin cfg0.N, win0_0.index t = ![0, t.val / 5] ∧ win0_1.index t = ![0, t.val % 5]
    ∧ win0_2.index t = ![t.val / 5, t.val % 5] :=
  (by decide +kernel : ∀ t : Fin grid0.N, _)

/-- The reference's gradient of the weight. -/
abbrev DW (X : FVec Ideal S4096x2048 .f32) (D : FVec Ideal S4096x5120 .f32) : FVec Ideal S2048x5120 .bf16 :=
  truncf .bf16 (transpose Cert.Reference8Ideal.S2048x5120 [1, 0]
    (Host.dotGeneral (F := Ideal) Cert.Reference8Ideal.dot_S4096x5120_S4096x2048_S5120x2048_0_0_1_1_n_n none D X)
    Cert.Reference8Ideal.Gen.transposes_S5120x2048_S2048x5120_1_0)
    Cert.Reference8Ideal.Gen.bitsLt_bf16_f32

/-- What grid point `t` stores at block index `y` is the reference's term at the array index `y` sits at. -/
theorem point (c : Dev nD) (t : Fin cfg0.N) (y) : k0_pay1 (iblk m c 0 t) (iblk m c 1 t) y
    = DW (m ((c : Thread nD τ).loc main_arg0)) (m ((c : Thread nD τ).loc main_arg1)) (((cfg0.win 2).blk t).view.emb y) := by
  pointwise [k0_pay1, DW]
  refine Finset.sum_congr rfl fun x _ => (mul_comm _ _).trans ?_
  blk_point [iblk, V, idx t]

/-- The result array after the call is the reference's term. -/
theorem final (c : Dev nD) : (dats m 0 c).arrAt 2 (cfgs 0).N
    = DW (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel8Ideal.Value

end
-- ==== Proof.ClaimDwIn.lean ====
/- The value claim of the gradient of the even layers' input weight: its kernel and its reference end with equal results. -/
module

public import proofs.«01_k».proof.Defs
public import proofs.«01_k».proof.Proof.DwIn
public import Idealize.ShloMosaic.Lib.Claim

@[expose] public section

set_option maxRecDepth 16384

noncomputable section

namespace Cert.Proof

open Idealize.ShloMosaic Idealize.SL.Sem

/-- The gradient of the even layers' input weight: over the extended reals the kernel computes what its reference computes. -/
theorem algebraic8 : Cert.algebraic_Kernel8Ideal_Reference8Ideal (hKernel8Ideal := Cert.Kernel8Ideal.Gen.facts)
    (hReference8Ideal := Cert.Reference8Ideal.Gen.facts) := by
  pair_intro
  · run_from Cert.Kernel8Ideal.Gen.run_main m g
  · hlo_run
    exact (Cert.Kernel8Ideal.Value.final m c).symm

end Cert.Proof

end
-- ==== Proof.DwOut.lean ====
/- The gradient of an output projection (`Kernel9`): the result array of the call is the reference's `yᵀ · dh`. -/
module

public import proofs.«01_k».proof.Proof.Gen.Kernel9Ideal.Frame
public import proofs.«01_k».proof.Proof.Gen.Reference9Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel9Ideal.Value

open Cert.Kernel9Ideal Cert.Kernel9Ideal.Gen

variable (m : (ℓ : Loc nD τ sig) → Buf (Elt Ideal) ℓ)

/-- The block every window stages at grid point `t`. -/
theorem idx : ∀ t : Fin cfg0.N, win0_0.index t = ![0, t.val / 2] ∧ win0_1.index t = ![0, t.val % 2]
    ∧ win0_2.index t = ![t.val / 2, t.val % 2] :=
  (by decide +kernel : ∀ t : Fin grid0.N, _)

/-- The reference's gradient of the weight. -/
abbrev DW (X : FVec Ideal S4096x2048 .f32) (D : FVec Ideal S4096x2048 .f32) : FVec Ideal S2048x2048 .bf16 :=
  truncf .bf16 (transpose Cert.Reference9Ideal.S2048x2048 [1, 0]
    (Host.dotGeneral (F := Ideal) Cert.Reference9Ideal.dot_S4096x2048_S4096x2048_S2048x2048_0_0_1_1_n_n none D X)
    Cert.Reference9Ideal.Gen.transposes_S2048x2048_S2048x2048_1_0)
    Cert.Reference9Ideal.Gen.bitsLt_bf16_f32

/-- What grid point `t` stores at block index `y` is the reference's term at the array index `y` sits at. -/
theorem point (c : Dev nD) (t : Fin cfg0.N) (y) : k0_pay1 (iblk m c 0 t) (iblk m c 1 t) y
    = DW (m ((c : Thread nD τ).loc main_arg0)) (m ((c : Thread nD τ).loc main_arg1)) (((cfg0.win 2).blk t).view.emb y) := by
  pointwise [k0_pay1, DW]
  refine Finset.sum_congr rfl fun x _ => (mul_comm _ _).trans ?_
  blk_point [iblk, V, idx t]

/-- The result array after the call is the reference's term. -/
theorem final (c : Dev nD) : (dats m 0 c).arrAt 2 (cfgs 0).N
    = DW (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel9Ideal.Value

end
-- ==== Proof.ClaimDwOut.lean ====
/- The value claim of the gradient of the output weight: its kernel and its reference end with equal results. -/
module

public import proofs.«01_k».proof.Defs
public import proofs.«01_k».proof.Proof.DwOut
public import Idealize.ShloMosaic.Lib.Claim

@[expose] public section

set_option maxRecDepth 16384

noncomputable section

namespace Cert.Proof

open Idealize.ShloMosaic Idealize.SL.Sem

/-- The gradient of the output weight: over the extended reals the kernel computes what its reference computes. -/
theorem algebraic9 : Cert.algebraic_Kernel9Ideal_Reference9Ideal (hKernel9Ideal := Cert.Kernel9Ideal.Gen.facts)
    (hReference9Ideal := Cert.Reference9Ideal.Gen.facts) := by
  pair_intro
  · run_from Cert.Kernel9Ideal.Gen.run_main m g
  · hlo_run
    exact (Cert.Kernel9Ideal.Value.final m c).symm

end Cert.Proof

end
-- ==== Proof.DwQkv.lean ====
/- The gradient of the attention layers' input projection (`Kernel10`): the result array of the call is the reference's
   `xnᵀ · dqkv`. -/
module

public import proofs.«01_k».proof.Proof.Gen.Kernel10Ideal.Frame
public import proofs.«01_k».proof.Proof.Gen.Reference10Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel10Ideal.Value

open Cert.Kernel10Ideal Cert.Kernel10Ideal.Gen

variable (m : (ℓ : Loc nD τ sig) → Buf (Elt Ideal) ℓ)

/-- The block every window stages at grid point `t`. -/
theorem idx : ∀ t : Fin cfg0.N, win0_0.index t = ![0, t.val / 2] ∧ win0_1.index t = ![0, t.val % 2]
    ∧ win0_2.index t = ![t.val / 2, t.val % 2] :=
  (by decide +kernel : ∀ t : Fin grid0.N, _)

/-- The reference's gradient of the weight. -/
abbrev DW (X : FVec Ideal S4096x2048 .f32) (D : FVec Ideal S4096x2560 .f32) : FVec Ideal S2048x2560 .bf16 :=
  truncf .bf16 (transpose Cert.Reference10Ideal.S2048x2560 [1, 0]
    (Host.dotGeneral (F := Ideal) Cert.Reference10Ideal.dot_S4096x2560_S4096x2048_S2560x2048_0_0_1_1_n_n none D X)
    Cert.Reference10Ideal.Gen.transposes_S2560x2048_S2048x2560_1_0)
    Cert.Reference10Ideal.Gen.bitsLt_bf16_f32

/-- What grid point `t` stores at block index `y` is the reference's term at the array index `y` sits at. -/
theorem point (c : Dev nD) (t : Fin cfg0.N) (y) : k0_pay1 (iblk m c 0 t) (iblk m c 1 t) y
    = DW (m ((c : Thread nD τ).loc main_arg0)) (m ((c : Thread nD τ).loc main_arg1)) (((cfg0.win 2).blk t).view.emb y) := by
  pointwise [k0_pay1, DW]
  refine Finset.sum_congr rfl fun x _ => (mul_comm _ _).trans ?_
  blk_point [iblk, V, idx t]

/-- The result array after the call is the reference's term. -/
theorem final (c : Dev nD) : (dats m 0 c).arrAt 2 (cfgs 0).N
    = DW (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel10Ideal.Value

end
-- ==== Proof.ClaimDwQkv.lean ====
/- The value claim of the gradient of the query, key and value weight: its kernel and its reference end with equal results. -/
module

public import proofs.«01_k».proof.Defs
public import proofs.«01_k».proof.Proof.DwQkv
public import Idealize.ShloMosaic.Lib.Claim

@[expose] public section

set_option maxRecDepth 16384

noncomputable section

namespace Cert.Proof

open Idealize.ShloMosaic Idealize.SL.Sem

/-- The gradient of the query, key and value weight: over the extended reals the kernel computes what its reference computes. -/
theorem algebraic10 : Cert.algebraic_Kernel10Ideal_Reference10Ideal (hKernel10Ideal := Cert.Kernel10Ideal.Gen.facts)
    (hReference10Ideal := Cert.Reference10Ideal.Gen.facts) := by
  pair_intro
  · run_from Cert.Kernel10Ideal.Gen.run_main m g
  · hlo_run
    exact (Cert.Kernel10Ideal.Value.final m c).symm

end Cert.Proof

end
-- ==== Proof.DyOut.lean ====
/- The gradient of an output projection's input (`Kernel11`): the result array of the call is the reference's `dh · wᵀ`. -/
module

public import proofs.«01_k».proof.Proof.Gen.Kernel11Ideal.Frame
public import proofs.«01_k».proof.Proof.Gen.Reference11Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel11Ideal.Value

open Cert.Kernel11Ideal Cert.Kernel11Ideal.Gen

variable (m : (ℓ : Loc nD τ sig) → Buf (Elt Ideal) ℓ)

/-- The block every window stages at grid point `t`. -/
theorem idx : ∀ t : Fin cfg0.N, win0_0.index t = ![t.val, 0] ∧ win0_1.index t = ![0, 0]
    ∧ win0_2.index t = ![t.val, 0] :=
  (by decide +kernel : ∀ t : Fin grid0.N, _)

/-- The reference's product with the transposed weight. -/
abbrev DY (D : FVec Ideal S4096x2048 .f32) (W : FVec Ideal S2048x2048 .f32) : FVec Ideal S4096x2048 .f32 :=
  Host.dotGeneral (F := Ideal) Cert.Reference11Ideal.dot_S4096x2048_S2048x2048_S4096x2048_1_1_0_0_n_n none D W

/-- What grid point `t` stores at block index `y` is the reference's term at the array index `y` sits at. -/
theorem point (c : Dev nD) (t : Fin cfg0.N) (y) : k0_pay1 (iblk m c 0 t) (iblk m c 1 t) y
    = DY (m ((c : Thread nD τ).loc main_arg0)) (m ((c : Thread nD τ).loc main_arg1)) (((cfg0.win 2).blk t).view.emb y) := by
  pointwise [k0_pay1, DY]
  blk_point [iblk, V, idx t]

/-- The result array after the call is the reference's term. -/
theorem final (c : Dev nD) : (dats m 0 c).arrAt 2 (cfgs 0).N
    = DY (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel11Ideal.Value

end
-- ==== Proof.ClaimDyOut.lean ====
/- The value claim of the gradient at the output projection's input: its kernel and its reference end with equal results. -/
module

public import proofs.«01_k».proof.Defs
public import proofs.«01_k».proof.Proof.DyOut
public import Idealize.ShloMosaic.Lib.Claim

@[expose] public section

set_option maxRecDepth 16384

noncomputable section

namespace Cert.Proof

open Idealize.ShloMosaic Idealize.SL.Sem

/-- The gradient at the output projection's input: over the extended reals the kernel computes what its reference computes. -/
theorem algebraic11 : Cert.algebraic_Kernel11Ideal_Reference11Ideal (hKernel11Ideal := Cert.Kernel11Ideal.Gen.facts)
    (hReference11Ideal := Cert.Reference11Ideal.Gen.facts) := by
  pair_intro
  · run_from Cert.Kernel11Ideal.Gen.run_main m g
  · hlo_run
    exact (Cert.Kernel11Ideal.Value.final m c).symm

end Cert.Proof

end
-- ==== Proof.WIn.lean ====
/- The first layers' input projection (`Kernel12`): the result array of the call is the reference's product `xn · w_in`. -/
module

public import proofs.«01_k».proof.Proof.Gen.Kernel12Ideal.Frame
public import proofs.«01_k».proof.Proof.Gen.Reference12Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel12Ideal.Value

open Cert.Kernel12Ideal Cert.Kernel12Ideal.Gen

variable (m : (ℓ : Loc nD τ sig) → Buf (Elt Ideal) ℓ)

/-- The block every window stages at grid point `t`. -/
theorem idx : ∀ t : Fin cfg0.N, win0_0.index t = ![t.val / 5, 0] ∧ win0_1.index t = ![0, t.val % 5]
    ∧ win0_2.index t = ![t.val / 5, t.val % 5] :=
  (by decide +kernel : ∀ t : Fin grid0.N, _)

/-- The reference's product. -/
abbrev DOT (X : FVec Ideal S4096x2048 .f32) (W : FVec Ideal S2048x5120 .f32) : FVec Ideal S4096x5120 .f32 :=
  Host.dotGeneral (F := Ideal) Cert.Reference12Ideal.dot_S4096x2048_S2048x5120_S4096x5120_1_0_0_1_n_n none X W

/-- What grid point `t` stores at block index `y` is the reference's term at the array index `y` sits at. -/
theorem point (c : Dev nD) (t : Fin cfg0.N) (y) : k0_pay1 (iblk m c 0 t) (iblk m c 1 t) y
    = DOT (m ((c : Thread nD τ).loc main_arg0)) (m ((c : Thread nD τ).loc main_arg1)) (((cfg0.win 2).blk t).view.emb y) := by
  pointwise [k0_pay1, DOT]
  blk_point [iblk, V, idx t]

/-- The result array after the call is the reference's term. -/
theorem final (c : Dev nD) : (dats m 0 c).arrAt 2 (cfgs 0).N
    = DOT (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel12Ideal.Value

end
-- ==== Proof.ClaimWIn.lean ====
/- The value claim of the even layers' input projection: its kernel and its reference end with equal results. -/
module

public import proofs.«01_k».proof.Defs
public import proofs.«01_k».proof.Proof.WIn
public import Idealize.ShloMosaic.Lib.Claim

@[expose] public section

set_option maxRecDepth 16384

noncomputable section

namespace Cert.Proof

open Idealize.ShloMosaic Idealize.SL.Sem

/-- The even layers' input projection: over the extended reals the kernel computes what its reference computes. -/
theorem algebraic12 : Cert.algebraic_Kernel12Ideal_Reference12Ideal (hKernel12Ideal := Cert.Kernel12Ideal.Gen.facts)
    (hReference12Ideal := Cert.Reference12Ideal.Gen.facts) := by
  pair_intro
  · run_from Cert.Kernel12Ideal.Gen.run_main m g
  · hlo_run
    exact (Cert.Kernel12Ideal.Value.final m c).symm

end Cert.Proof

end
-- ==== Proof.WQkv.lean ====
/- The attention layers' input projection (`Kernel13`): the result array of the call is the reference's product `xn · w_qkv`. -/
module

public import proofs.«01_k».proof.Proof.Gen.Kernel13Ideal.Frame
public import proofs.«01_k».proof.Proof.Gen.Reference13Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel13Ideal.Value

open Cert.Kernel13Ideal Cert.Kernel13Ideal.Gen

variable (m : (ℓ : Loc nD τ sig) → Buf (Elt Ideal) ℓ)

/-- The block every window stages at grid point `t`. -/
theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

/-- The reference's product. -/
abbrev DOT (X : FVec Ideal S4096x2048 .f32) (W : FVec Ideal S2048x2560 .f32) : FVec Ideal S4096x2560 .f32 :=
  Host.dotGeneral (F := Ideal) Cert.Reference13Ideal.dot_S4096x2048_S2048x2560_S4096x2560_1_0_0_1_n_n none X W

/-- What grid point `t` stores at block index `y` is the reference's term at the array index `y` sits at. -/
theorem point (c : Dev nD) (t : Fin cfg0.N) (y) : k0_pay1 (iblk m c 0 t) (iblk m c 1 t) y
    = DOT (m ((c : Thread nD τ).loc main_arg0)) (m ((c : Thread nD τ).loc main_arg1)) (((cfg0.win 2).blk t).view.emb y) := by
  pointwise [k0_pay1, DOT]
  blk_point [iblk, V, idx t]

/-- The result array after the call is the reference's term. -/
theorem final (c : Dev nD) : (dats m 0 c).arrAt 2 (cfgs 0).N
    = DOT (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel13Ideal.Value

end
-- ==== Proof.ClaimWQkv.lean ====
/- The value claim of the query, key and value projection: its kernel and its reference end with equal results. -/
module

public import proofs.«01_k».proof.Defs
public import proofs.«01_k».proof.Proof.WQkv
public import Idealize.ShloMosaic.Lib.Claim

@[expose] public section

set_option maxRecDepth 16384

noncomputable section

namespace Cert.Proof

open Idealize.ShloMosaic Idealize.SL.Sem

/-- The query, key and value projection: over the extended reals the kernel computes what its reference computes. -/
theorem algebraic13 : Cert.algebraic_Kernel13Ideal_Reference13Ideal (hKernel13Ideal := Cert.Kernel13Ideal.Gen.facts)
    (hReference13Ideal := Cert.Reference13Ideal.Gen.facts) := by
  pair_intro
  · run_from Cert.Kernel13Ideal.Gen.run_main m g
  · hlo_run
    exact (Cert.Kernel13Ideal.Value.final m c).symm

end Cert.Proof

end
-- ==== Proof.WOut.lean ====
/- An output projection (`Kernel14`): both result arrays of the call are the reference's terms of the arguments, the residual
   stream with `y · w_out` added and its normalised rows. -/
module

public import proofs.«01_k».proof.Proof.Gen.Kernel14Ideal.Frame
public import proofs.«01_k».proof.Proof.Gen.Reference14Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel14Ideal.Value

open Cert.Kernel14Ideal Cert.Kernel14Ideal.Gen

variable (m : (ℓ : Loc nD τ sig) → Buf (Elt Ideal) ℓ)

/-- The block every window stages at grid point `t`: rows `t`. -/
theorem idx : ∀ t : Fin cfg0.N, win0_0.index t = ![t.val, 0] ∧ win0_1.index t = ![0, 0]
    ∧ win0_2.index t = ![t.val, 0] ∧ win0_3.index t = ![0, 0]
    ∧ win0_4.index t = ![t.val, 0] ∧ win0_5.index t = ![t.val, 0] :=
  (by decide +kernel : ∀ t : Fin grid0.N, _)

/-- The residual stream after the product is added. -/
abbrev OUT (X : FVec Ideal S4096x2048 .f32) (W : FVec Ideal S2048x2048 .f32) (H : FVec Ideal S4096x2048 .f32) :
    FVec Ideal S4096x2048 .f32 :=
  addf H (Host.dotGeneral (F := Ideal) Cert.Reference14Ideal.dot_S4096x2048_S2048x2048_S4096x2048_1_0_0_1_n_n none X W)

/-- The normalised rows of an array, times a gain. -/
abbrev NORM (Y : FVec Ideal S4096x2048 .f32) (G : FVec Ideal S2048 .f32) : FVec Ideal S4096x2048 .bf16 :=
  truncf .bf16 (mulf (mulf Y (broadcastInDim Cert.Reference14Ideal.S4096x2048 ![0, 1]
      Cert.Reference14Ideal.Gen.bcast_S4096x1_S4096x2048_0_1 (Host.rsqrt (addf (Host.divf
    (broadcastInDim Cert.Reference14Ideal.S4096x1 ![0] Cert.Reference14Ideal.Gen.bcast_S4096_S4096x1_0
      (Host.reduceAdd (mulf Y Y) (constant Cert.Reference14Ideal.S_ .f32 0x00000000#32)
        Cert.Reference14Ideal.Gen.reducesTo_S4096x2048_S4096_d1 Cert.Reference14Ideal.Gen.h_S_))
    (broadcastInDim Cert.Reference14Ideal.S4096x1 ![] Cert.Reference14Ideal.Gen.bcast_S_S4096x1
      (constant Cert.Reference14Ideal.S_ .f32 0x45000000#32)))
    (broadcastInDim Cert.Reference14Ideal.S4096x1 ![] Cert.Reference14Ideal.Gen.bcast_S_S4096x1
      (constant Cert.Reference14Ideal.S_ .f32 0x358637BD#32))))))
    (broadcastInDim Cert.Reference14Ideal.S4096x2048 ![0, 1] Cert.Reference14Ideal.Gen.bcast_S1x2048_S4096x2048_0_1
      (broadcastInDim Cert.Reference14Ideal.S1x2048 ![1] Cert.Reference14Ideal.Gen.bcast_S2048_S1x2048_1 G)))
    Cert.Reference14Ideal.Gen.bitsLt_bf16_f32

/-- The array's row that row `r` of grid point `t`'s block is. -/
abbrev row (t : Fin cfg0.N) (r : Fin 512) : Fin 4096 :=
  ⟨t.val * 512 + r.val, by have : t.val < 8 := lt_of_lt_of_eq t.isLt N_0; omega⟩

/-- What grid point `t` stores for the first result. -/
theorem point_out (c : Dev nD) (t : Fin cfg0.N) (y : S512x2048.Idx) : k0_pay1 (iblk m c 0 t) (iblk m c 1 t) (iblk m c 2 t) y
    = OUT (m ((c : Thread nD τ).loc main_arg0)) (m ((c : Thread nD τ).loc main_arg1)) (m ((c : Thread nD τ).loc main_arg2))
        (ix2 (row t (y 0)) (y 1)) := by
  pointwise [k0_pay1, OUT]
  blk_point [iblk, V, idx t]

/-- The normalised row the kernel computes is the reference's, when the rows normalised are one. -/
theorem norm_row (X : FVec Ideal S512x2048 .bf16) (W : FVec Ideal S2048x2048 .bf16) (B : FVec Ideal S512x2048 .f32)
    (G1 : FVec Ideal S1x2048 .f32) (Y : FVec Ideal S4096x2048 .f32)
    (G : FVec Ideal S2048 .f32) (a : Fin 512) (b : Fin 2048) (r : Fin 4096)
    (hY : ∀ k : Fin 2048, k0_pay1 X W B (ix2 a k) = Y (ix2 r k)) (hG : G1 (ix2 0 b) = G (ix1 b)) :
    k0_pay2 X W B G1 (ix2 a b) = NORM Y G (ix2 r b) := by
  pointwise [k0_pay2, NORM]
  simp only [hY, hG]

/-- What grid point `t` stores for the second result. -/
theorem point_norm (c : Dev nD) (t : Fin cfg0.N) (y : S512x2048.Idx) :
    k0_pay2 (iblk m c 0 t) (iblk m c 1 t) (iblk m c 2 t) (iblk m c 3 t) y
      = NORM (OUT (m ((c : Thread nD τ).loc main_arg0)) (m ((c : Thread nD τ).loc main_arg1)) (m ((c : Thread nD τ).loc main_arg2)))
          (m ((c : Thread nD τ).loc main_arg3)) (ix2 (row t (y 0)) (y 1)) := by
  have e : y = ix2 (y 0) (y 1) := by funext a; fin_cases a <;> rfl
  conv_lhs => rw [e]
  refine norm_row _ _ _ _ _ _ _ _ _ (fun k => point_out m c t (ix2 (y 0) k)) ?_
  blk_point [iblk, V, idx t]

/-- The first result array after the call is the residual stream with the product added. -/
theorem final_out (c : Dev nD) : (dats m 0 c).arrAt 4 (cfgs 0).N
    = OUT (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  rw [point_out m c t y]
  blk_ext [idx t]

/-- The second result array after the call is its normalised rows. -/
theorem final_norm (c : Dev nD) : (dats m 0 c).arrAt 5 (cfgs 0).N
    = NORM (OUT (m ((c : Thread nD τ).loc main_arg0)) (m ((c : Thread nD τ).loc main_arg1)) (m ((c : Thread nD τ).loc main_arg2)))
        (m ((c : Thread nD τ).loc main_arg3)) := by
  refine (dats m 0 c).arrAt_eq_of_covers 5 _ (by decide +kernel) fun t _ y => ?_
  blk_simp
  rw [after0_5]; frame_out
  rw [point_norm m c t y]
  blk_ext [idx t]

end Cert.Kernel14Ideal.Value

end
-- ==== Proof.ClaimWOut.lean ====
/- The value claim of the output projection: its kernel and its reference end with equal results. -/
module

public import proofs.«01_k».proof.Defs
public import proofs.«01_k».proof.Proof.WOut
public import Idealize.ShloMosaic.Lib.Claim

@[expose] public section

set_option maxRecDepth 16384

noncomputable section

namespace Cert.Proof

open Idealize.ShloMosaic Idealize.SL.Sem

/-- The output projection: over the extended reals the kernel computes what its reference computes. -/
theorem algebraic14 : Cert.algebraic_Kernel14Ideal_Reference14Ideal (hKernel14Ideal := Cert.Kernel14Ideal.Gen.facts)
    (hReference14Ideal := Cert.Reference14Ideal.Gen.facts) := by
  pair_intro
  · run_from Cert.Kernel14Ideal.Gen.run_main m g
  · hlo_run
    · exact (Cert.Kernel14Ideal.Value.final_out m c).symm
    · exact (Cert.Kernel14Ideal.Value.final_norm m c).symm

end Cert.Proof

end
-- ==== Proof.AdamMlpUp.lean ====
/- The optimiser's step of the channel mixer's first weight (`Kernel15`): the three result arrays of the call, the change of
   the weight and its two new moments, are the reference's terms of the arguments. -/
module

public import proofs.«01_k».proof.Proof.Gen.Kernel15Ideal.Frame
public import proofs.«01_k».proof.Proof.Gen.Reference15Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel15Ideal.Value

open Cert.Kernel15Ideal Cert.Kernel15Ideal.Gen

variable (m : (ℓ : Loc nD τ sig) → Buf (Elt Ideal) ℓ)

/-- The block every window stages at grid point `t`: rows `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] :=
  (by decide +kernel : ∀ t : Fin grid0.N, _)

/-- The reference's new first moment. -/
abbrev MOM (G M : FVec Ideal S4x2048x1024 .f32) : FVec Ideal S4x2048x1024 .f32 :=
  addf (mulf (broadcastInDim Cert.Reference15Ideal.S4x2048x1024 ![] Cert.Reference15Ideal.Gen.bcast_S_S4x2048x1024 (constant Cert.Reference15Ideal.S_ .f32 0x3F666666#32)) M)
    (mulf (broadcastInDim Cert.Reference15Ideal.S4x2048x1024 ![] Cert.Reference15Ideal.Gen.bcast_S_S4x2048x1024 (constant Cert.Reference15Ideal.S_ .f32 0x3DCCCCCD#32)) G)

/-- The reference's new second moment. -/
abbrev VEL (G V : FVec Ideal S4x2048x1024 .f32) : FVec Ideal S4x2048x1024 .f32 :=
  addf (mulf (broadcastInDim Cert.Reference15Ideal.S4x2048x1024 ![] Cert.Reference15Ideal.Gen.bcast_S_S4x2048x1024 (constant Cert.Reference15Ideal.S_ .f32 0x3F7FBE77#32)) V)
    (mulf (broadcastInDim Cert.Reference15Ideal.S4x2048x1024 ![] Cert.Reference15Ideal.Gen.bcast_S_S4x2048x1024 (constant Cert.Reference15Ideal.S_ .f32 0x3A83126F#32)) (mulf G G))

/-- The reference's change of the weight. -/
abbrev DELTA (W G M V : FVec Ideal S4x2048x1024 .f32) : FVec Ideal S4x2048x1024 .f32 :=
  mulf (broadcastInDim Cert.Reference15Ideal.S4x2048x1024 ![] Cert.Reference15Ideal.Gen.bcast_S_S4x2048x1024 (constant Cert.Reference15Ideal.S_ .f32 0xBA83126F#32))
    (addf (Host.divf (Host.divf (MOM G M) (broadcastInDim Cert.Reference15Ideal.S4x2048x1024 ![] Cert.Reference15Ideal.Gen.bcast_S_S4x2048x1024 (constant Cert.Reference15Ideal.S_ .f32 0x3F26BD02#32)))
        (addf (Host.sqrt (Host.divf (VEL G V) (broadcastInDim Cert.Reference15Ideal.S4x2048x1024 ![] Cert.Reference15Ideal.Gen.bcast_S_S4x2048x1024 (constant Cert.Reference15Ideal.S_ .f32 0x3C231ACC#32))))
          (broadcastInDim Cert.Reference15Ideal.S4x2048x1024 ![] Cert.Reference15Ideal.Gen.bcast_S_S4x2048x1024 (constant Cert.Reference15Ideal.S_ .f32 0x322BCC77#32))))
      (mulf (broadcastInDim Cert.Reference15Ideal.S4x2048x1024 ![] Cert.Reference15Ideal.Gen.bcast_S_S4x2048x1024 (constant Cert.Reference15Ideal.S_ .f32 0x3C23D70A#32)) W))

/-- The index of the weight that block index `y` of grid point `t` stands for. -/
abbrev place (t : Fin cfg0.N) (y : S256x1024.Idx) : S4x2048x1024.Idx :=
  Shape.reshapeEquiv shapeCasts_S4x2048x1024_S8192x1024 (((cfg0.win 4).blk t).view.emb y)

/-- Operand 0 when the call begins. -/
theorem entry_0 (c : Dev nD) : V m c (Pipeline.arrRef spec0 0)
    = (shapeCast S8192x1024 ((m ((c : Thread nD τ).loc main_arg0)) : FVec Ideal S4x2048x1024 .f32) shapeCasts_S4x2048x1024_S8192x1024 : FVec Ideal S8192x1024 .f32) := by
  entry_read
  rfl

/-- A staged block of operand 0, as a read of the argument. -/
theorem blk_0 (c : Dev nD) (t : Fin cfg0.N) (y : S256x1024.Idx) : iblk m c 0 t y
    = ((m ((c : Thread nD τ).loc main_arg0)) : FVec Ideal S4x2048x1024 .f32) (place t y) := by
  have e : ((cfg0.win 0).blk t).view.emb y = ((cfg0.win 4).blk t).view.emb y := by blk_ext [idx t]
  unfold iblk
  rw [View.read_apply, entry_0, cast_eq, e]
  rfl

/-- Operand 1 when the call begins. -/
theorem entry_1 (c : Dev nD) : V m c (Pipeline.arrRef spec0 1)
    = (shapeCast S8192x1024 ((m ((c : Thread nD τ).loc main_arg1)) : FVec Ideal S4x2048x1024 .f32) shapeCasts_S4x2048x1024_S8192x1024 : FVec Ideal S8192x1024 .f32) := by
  entry_read
  rfl

/-- A staged block of operand 1, as a read of the argument. -/
theorem blk_1 (c : Dev nD) (t : Fin cfg0.N) (y : S256x1024.Idx) : iblk m c 1 t y
    = ((m ((c : Thread nD τ).loc main_arg1)) : FVec Ideal S4x2048x1024 .f32) (place t y) := by
  have e : ((cfg0.win 1).blk t).view.emb y = ((cfg0.win 4).blk t).view.emb y := by blk_ext [idx t]
  unfold iblk
  rw [View.read_apply, entry_1, cast_eq, e]
  rfl

/-- Operand 2 when the call begins. -/
theorem entry_2 (c : Dev nD) : V m c (Pipeline.arrRef spec0 2)
    = (shapeCast S8192x1024 ((m ((c : Thread nD τ).loc main_arg2)) : FVec Ideal S4x2048x1024 .f32) shapeCasts_S4x2048x1024_S8192x1024 : FVec Ideal S8192x1024 .f32) := by
  entry_read
  rfl

/-- A staged block of operand 2, as a read of the argument. -/
theorem blk_2 (c : Dev nD) (t : Fin cfg0.N) (y : S256x1024.Idx) : iblk m c 2 t y
    = ((m ((c : Thread nD τ).loc main_arg2)) : FVec Ideal S4x2048x1024 .f32) (place t y) := by
  have e : ((cfg0.win 2).blk t).view.emb y = ((cfg0.win 4).blk t).view.emb y := by blk_ext [idx t]
  unfold iblk
  rw [View.read_apply, entry_2, cast_eq, e]
  rfl

/-- Operand 3 when the call begins. -/
theorem entry_3 (c : Dev nD) : V m c (Pipeline.arrRef spec0 3)
    = (shapeCast S8192x1024 ((m ((c : Thread nD τ).loc main_arg3)) : FVec Ideal S4x2048x1024 .f32) shapeCasts_S4x2048x1024_S8192x1024 : FVec Ideal S8192x1024 .f32) := by
  entry_read
  rfl

/-- A staged block of operand 3, as a read of the argument. -/
theorem blk_3 (c : Dev nD) (t : Fin cfg0.N) (y : S256x1024.Idx) : iblk m c 3 t y
    = ((m ((c : Thread nD τ).loc main_arg3)) : FVec Ideal S4x2048x1024 .f32) (place t y) := by
  have e : ((cfg0.win 3).blk t).view.emb y = ((cfg0.win 4).blk t).view.emb y := by blk_ext [idx t]
  unfold iblk
  rw [View.read_apply, entry_3, cast_eq, e]
  rfl

/-- The payload stored for the new first moment, at an index where the blocks hold the arrays' entries. -/
theorem pay_m (x1 x2 : FVec Ideal S256x1024 .f32) (G M : FVec Ideal S4x2048x1024 .f32) (y : S256x1024.Idx) (j : S4x2048x1024.Idx)
    (h1 : x1 y = G j) (h2 : x2 y = M j) :
    k0_pay2 x1 x2 y = MOM G M j := by
  pointwise [k0_pay2, k0_pay1, MOM]
  simp only [h1, h2]

/-- What grid point `t` stores for the new first moment at block index `y`. -/
theorem point_m (c : Dev nD) (t : Fin cfg0.N) (y : S256x1024.Idx) : k0_pay2 (iblk m c 1 t) (iblk m c 2 t) y
    = MOM (m ((c : Thread nD τ).loc main_arg1)) (m ((c : Thread nD τ).loc main_arg2)) (place t y) :=
  pay_m _ _ _ _ y _ (blk_1 m c t y) (blk_2 m c t y)

/-- The payload stored for the new second moment, at an index where the blocks hold the arrays' entries. -/
theorem pay_v (x1 x3 : FVec Ideal S256x1024 .f32) (G V : FVec Ideal S4x2048x1024 .f32) (y : S256x1024.Idx) (j : S4x2048x1024.Idx)
    (h1 : x1 y = G j) (h3 : x3 y = V j) :
    k0_pay3 x1 x3 y = VEL G V j := by
  pointwise [k0_pay3, k0_pay1, VEL]
  simp only [h1, h3]

/-- What grid point `t` stores for the new second moment at block index `y`. -/
theorem point_v (c : Dev nD) (t : Fin cfg0.N) (y : S256x1024.Idx) : k0_pay3 (iblk m c 1 t) (iblk m c 3 t) y
    = VEL (m ((c : Thread nD τ).loc main_arg1)) (m ((c : Thread nD τ).loc main_arg3)) (place t y) :=
  pay_v _ _ _ _ y _ (blk_1 m c t y) (blk_3 m c t y)

/-- The payload stored for the change of the weight, at an index where the blocks hold the arrays' entries. -/
theorem pay_delta (x0 x1 x2 x3 : FVec Ideal S256x1024 .f32) (W G M V : FVec Ideal S4x2048x1024 .f32) (y : S256x1024.Idx) (j : S4x2048x1024.Idx)
    (h0 : x0 y = W j) (h1 : x1 y = G j) (h2 : x2 y = M j) (h3 : x3 y = V j) :
    k0_pay4 x0 x1 x2 x3 y = DELTA W G M V j := by
  pointwise [k0_pay4, k0_pay3, k0_pay2, k0_pay1, DELTA]
  simp only [h0, h1, h2, h3]

/-- What grid point `t` stores for the change of the weight at block index `y`. -/
theorem point_delta (c : Dev nD) (t : Fin cfg0.N) (y : S256x1024.Idx) : k0_pay4 (iblk m c 0 t) (iblk m c 1 t) (iblk m c 2 t) (iblk m c 3 t) y
    = DELTA (m ((c : Thread nD τ).loc main_arg0)) (m ((c : Thread nD τ).loc main_arg1)) (m ((c : Thread nD τ).loc main_arg2)) (m ((c : Thread nD τ).loc main_arg3)) (place t y) :=
  pay_delta _ _ _ _ _ _ _ _ y _ (blk_0 m c t y) (blk_1 m c t y) (blk_2 m c t y) (blk_3 m c t y)

/-- The array of the new first moment after the call is the reference's. -/
theorem final_m (c : Dev nD) : (dats m 0 c).arrAt 5 (cfgs 0).N
    = shapeCast Cert.Reference15Ideal.S8192x1024 (MOM (m ((c : Thread nD τ).loc main_arg1)) (m ((c : Thread nD τ).loc main_arg2))) Cert.Reference15Ideal.Gen.shapeCasts_S4x2048x1024_S8192x1024 := by
  refine (dats m 0 c).arrAt_eq_of_covers 5 _ (by decide +kernel) fun t _ y => ?_
  have e : ((cfg0.win 5).blk t).view.emb y = ((cfg0.win 4).blk t).view.emb y := by blk_ext [idx t]
  blk_simp
  rw [after0_5]; frame_out
  rw [point_m m c t y, e]
  rfl

/-- The array of the new second moment after the call is the reference's. -/
theorem final_v (c : Dev nD) : (dats m 0 c).arrAt 6 (cfgs 0).N
    = shapeCast Cert.Reference15Ideal.S8192x1024 (VEL (m ((c : Thread nD τ).loc main_arg1)) (m ((c : Thread nD τ).loc main_arg3))) Cert.Reference15Ideal.Gen.shapeCasts_S4x2048x1024_S8192x1024 := by
  refine (dats m 0 c).arrAt_eq_of_covers 6 _ (by decide +kernel) fun t _ y => ?_
  have e : ((cfg0.win 6).blk t).view.emb y = ((cfg0.win 4).blk t).view.emb y := by blk_ext [idx t]
  blk_simp
  rw [after0_6]; frame_out
  rw [point_v m c t y, e]
  rfl

/-- The array of the change of the weight after the call is the reference's. -/
theorem final_delta (c : Dev nD) : (dats m 0 c).arrAt 4 (cfgs 0).N
    = shapeCast Cert.Reference15Ideal.S8192x1024 (DELTA (m ((c : Thread nD τ).loc main_arg0)) (m ((c : Thread nD τ).loc main_arg1)) (m ((c : Thread nD τ).loc main_arg2)) (m ((c : Thread nD τ).loc main_arg3))) Cert.Reference15Ideal.Gen.shapeCasts_S4x2048x1024_S8192x1024 := by
  refine (dats m 0 c).arrAt_eq_of_covers 4 _ (by decide +kernel) fun t _ y => ?_
  have e : ((cfg0.win 4).blk t).view.emb y = ((cfg0.win 4).blk t).view.emb y := by blk_ext [idx t]
  blk_simp
  rw [after0_4]; frame_out
  rw [point_delta m c t y, e]
  rfl

end Cert.Kernel15Ideal.Value

end
-- ==== Proof.ClaimAdamMlpUp.lean ====
/- The value claim of the optimiser's step of the up projection's weight: its kernel and its reference end with equal results. -/
module

public import proofs.«01_k».proof.Defs
public import proofs.«01_k».proof.Proof.AdamMlpUp
public import Idealize.ShloMosaic.Lib.Claim

@[expose] public section

set_option maxRecDepth 16384

noncomputable section

namespace Cert.Proof

open Idealize.ShloMosaic Idealize.SL.Sem

/-- The optimiser's step of the up projection's weight: over the extended reals the kernel computes what its reference computes. -/
theorem algebraic15 : Cert.algebraic_Kernel15Ideal_Reference15Ideal (hKernel15Ideal := Cert.Kernel15Ideal.Gen.facts)
    (hReference15Ideal := Cert.Reference15Ideal.Gen.facts) := by
  pair_intro
  · run_from Cert.Kernel15Ideal.Gen.run_main m g
  · hlo_run
    · exact (Cert.Kernel15Ideal.Value.final_delta m c).symm
    · exact (Cert.Kernel15Ideal.Value.final_m m c).symm
    · exact (Cert.Kernel15Ideal.Value.final_v m c).symm

end Cert.Proof

end
-- ==== Proof.AdamMlpDown.lean ====
/- The optimiser's step of the channel mixer's second weight (`Kernel16`): the three result arrays of the call, the change of
   the weight and its two new moments, are the reference's terms of the arguments. -/
module

public import proofs.«01_k».proof.Proof.Gen.Kernel16Ideal.Frame
public import proofs.«01_k».proof.Proof.Gen.Reference16Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel16Ideal.Value

open Cert.Kernel16Ideal Cert.Kernel16Ideal.Gen

variable (m : (ℓ : Loc nD τ sig) → Buf (Elt Ideal) ℓ)

/-- The block every window stages at grid point `t`: rows `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] :=
  (by decide +kernel : ∀ t : Fin grid0.N, _)

/-- The reference's new first moment. -/
abbrev MOM (G M : FVec Ideal S4x1024x2048 .f32) : FVec Ideal S4x1024x2048 .f32 :=
  addf (mulf (broadcastInDim Cert.Reference16Ideal.S4x1024x2048 ![] Cert.Reference16Ideal.Gen.bcast_S_S4x1024x2048 (constant Cert.Reference16Ideal.S_ .f32 0x3F666666#32)) M)
    (mulf (broadcastInDim Cert.Reference16Ideal.S4x1024x2048 ![] Cert.Reference16Ideal.Gen.bcast_S_S4x1024x2048 (constant Cert.Reference16Ideal.S_ .f32 0x3DCCCCCD#32)) G)

/-- The reference's new second moment. -/
abbrev VEL (G V : FVec Ideal S4x1024x2048 .f32) : FVec Ideal S4x1024x2048 .f32 :=
  addf (mulf (broadcastInDim Cert.Reference16Ideal.S4x1024x2048 ![] Cert.Reference16Ideal.Gen.bcast_S_S4x1024x2048 (constant Cert.Reference16Ideal.S_ .f32 0x3F7FBE77#32)) V)
    (mulf (broadcastInDim Cert.Reference16Ideal.S4x1024x2048 ![] Cert.Reference16Ideal.Gen.bcast_S_S4x1024x2048 (constant Cert.Reference16Ideal.S_ .f32 0x3A83126F#32)) (mulf G G))

/-- The reference's change of the weight. -/
abbrev DELTA (W G M V : FVec Ideal S4x1024x2048 .f32) : FVec Ideal S4x1024x2048 .f32 :=
  mulf (broadcastInDim Cert.Reference16Ideal.S4x1024x2048 ![] Cert.Reference16Ideal.Gen.bcast_S_S4x1024x2048 (constant Cert.Reference16Ideal.S_ .f32 0xBA83126F#32))
    (addf (Host.divf (Host.divf (MOM G M) (broadcastInDim Cert.Reference16Ideal.S4x1024x2048 ![] Cert.Reference16Ideal.Gen.bcast_S_S4x1024x2048 (constant Cert.Reference16Ideal.S_ .f32 0x3F26BD02#32)))
        (addf (Host.sqrt (Host.divf (VEL G V) (broadcastInDim Cert.Reference16Ideal.S4x1024x2048 ![] Cert.Reference16Ideal.Gen.bcast_S_S4x1024x2048 (constant Cert.Reference16Ideal.S_ .f32 0x3C231ACC#32))))
          (broadcastInDim Cert.Reference16Ideal.S4x1024x2048 ![] Cert.Reference16Ideal.Gen.bcast_S_S4x1024x2048 (constant Cert.Reference16Ideal.S_ .f32 0x322BCC77#32))))
      (mulf (broadcastInDim Cert.Reference16Ideal.S4x1024x2048 ![] Cert.Reference16Ideal.Gen.bcast_S_S4x1024x2048 (constant Cert.Reference16Ideal.S_ .f32 0x3C23D70A#32)) W))

/-- The index of the weight that block index `y` of grid point `t` stands for. -/
abbrev place (t : Fin cfg0.N) (y : S256x2048.Idx) : S4x1024x2048.Idx :=
  Shape.reshapeEquiv shapeCasts_S4x1024x2048_S4096x2048 (((cfg0.win 4).blk t).view.emb y)

/-- Operand 0 when the call begins. -/
theorem entry_0 (c : Dev nD) : V m c (Pipeline.arrRef spec0 0)
    = (shapeCast S4096x2048 ((m ((c : Thread nD τ).loc main_arg0)) : FVec Ideal S4x1024x2048 .f32) shapeCasts_S4x1024x2048_S4096x2048 : FVec Ideal S4096x2048 .f32) := by
  entry_read
  rfl

/-- A staged block of operand 0, as a read of the argument. -/
theorem blk_0 (c : Dev nD) (t : Fin cfg0.N) (y : S256x2048.Idx) : iblk m c 0 t y
    = ((m ((c : Thread nD τ).loc main_arg0)) : FVec Ideal S4x1024x2048 .f32) (place t y) := by
  have e : ((cfg0.win 0).blk t).view.emb y = ((cfg0.win 4).blk t).view.emb y := by blk_ext [idx t]
  unfold iblk
  rw [View.read_apply, entry_0, cast_eq, e]
  rfl

/-- Operand 1 when the call begins. -/
theorem entry_1 (c : Dev nD) : V m c (Pipeline.arrRef spec0 1)
    = (shapeCast S4096x2048 ((m ((c : Thread nD τ).loc main_arg1)) : FVec Ideal S4x1024x2048 .f32) shapeCasts_S4x1024x2048_S4096x2048 : FVec Ideal S4096x2048 .f32) := by
  entry_read
  rfl

/-- A staged block of operand 1, as a read of the argument. -/
theorem blk_1 (c : Dev nD) (t : Fin cfg0.N) (y : S256x2048.Idx) : iblk m c 1 t y
    = ((m ((c : Thread nD τ).loc main_arg1)) : FVec Ideal S4x1024x2048 .f32) (place t y) := by
  have e : ((cfg0.win 1).blk t).view.emb y = ((cfg0.win 4).blk t).view.emb y := by blk_ext [idx t]
  unfold iblk
  rw [View.read_apply, entry_1, cast_eq, e]
  rfl

/-- Operand 2 when the call begins. -/
theorem entry_2 (c : Dev nD) : V m c (Pipeline.arrRef spec0 2)
    = (shapeCast S4096x2048 ((m ((c : Thread nD τ).loc main_arg2)) : FVec Ideal S4x1024x2048 .f32) shapeCasts_S4x1024x2048_S4096x2048 : FVec Ideal S4096x2048 .f32) := by
  entry_read
  rfl

/-- A staged block of operand 2, as a read of the argument. -/
theorem blk_2 (c : Dev nD) (t : Fin cfg0.N) (y : S256x2048.Idx) : iblk m c 2 t y
    = ((m ((c : Thread nD τ).loc main_arg2)) : FVec Ideal S4x1024x2048 .f32) (place t y) := by
  have e : ((cfg0.win 2).blk t).view.emb y = ((cfg0.win 4).blk t).view.emb y := by blk_ext [idx t]
  unfold iblk
  rw [View.read_apply, entry_2, cast_eq, e]
  rfl

/-- Operand 3 when the call begins. -/
theorem entry_3 (c : Dev nD) : V m c (Pipeline.arrRef spec0 3)
    = (shapeCast S4096x2048 ((m ((c : Thread nD τ).loc main_arg3)) : FVec Ideal S4x1024x2048 .f32) shapeCasts_S4x1024x2048_S4096x2048 : FVec Ideal S4096x2048 .f32) := by
  entry_read
  rfl

/-- A staged block of operand 3, as a read of the argument. -/
theorem blk_3 (c : Dev nD) (t : Fin cfg0.N) (y : S256x2048.Idx) : iblk m c 3 t y
    = ((m ((c : Thread nD τ).loc main_arg3)) : FVec Ideal S4x1024x2048 .f32) (place t y) := by
  have e : ((cfg0.win 3).blk t).view.emb y = ((cfg0.win 4).blk t).view.emb y := by blk_ext [idx t]
  unfold iblk
  rw [View.read_apply, entry_3, cast_eq, e]
  rfl

/-- The payload stored for the new first moment, at an index where the blocks hold the arrays' entries. -/
theorem pay_m (x1 x2 : FVec Ideal S256x2048 .f32) (G M : FVec Ideal S4x1024x2048 .f32) (y : S256x2048.Idx) (j : S4x1024x2048.Idx)
    (h1 : x1 y = G j) (h2 : x2 y = M j) :
    k0_pay2 x1 x2 y = MOM G M j := by
  pointwise [k0_pay2, k0_pay1, MOM]
  simp only [h1, h2]

/-- What grid point `t` stores for the new first moment at block index `y`. -/
theorem point_m (c : Dev nD) (t : Fin cfg0.N) (y : S256x2048.Idx) : k0_pay2 (iblk m c 1 t) (iblk m c 2 t) y
    = MOM (m ((c : Thread nD τ).loc main_arg1)) (m ((c : Thread nD τ).loc main_arg2)) (place t y) :=
  pay_m _ _ _ _ y _ (blk_1 m c t y) (blk_2 m c t y)

/-- The payload stored for the new second moment, at an index where the blocks hold the arrays' entries. -/
theorem pay_v (x1 x3 : FVec Ideal S256x2048 .f32) (G V : FVec Ideal S4x1024x2048 .f32) (y : S256x2048.Idx) (j : S4x1024x2048.Idx)
    (h1 : x1 y = G j) (h3 : x3 y = V j) :
    k0_pay3 x1 x3 y = VEL G V j := by
  pointwise [k0_pay3, k0_pay1, VEL]
  simp only [h1, h3]

/-- What grid point `t` stores for the new second moment at block index `y`. -/
theorem point_v (c : Dev nD) (t : Fin cfg0.N) (y : S256x2048.Idx) : k0_pay3 (iblk m c 1 t) (iblk m c 3 t) y
    = VEL (m ((c : Thread nD τ).loc main_arg1)) (m ((c : Thread nD τ).loc main_arg3)) (place t y) :=
  pay_v _ _ _ _ y _ (blk_1 m c t y) (blk_3 m c t y)

/-- The payload stored for the change of the weight, at an index where the blocks hold the arrays' entries. -/
theorem pay_delta (x0 x1 x2 x3 : FVec Ideal S256x2048 .f32) (W G M V : FVec Ideal S4x1024x2048 .f32) (y : S256x2048.Idx) (j : S4x1024x2048.Idx)
    (h0 : x0 y = W j) (h1 : x1 y = G j) (h2 : x2 y = M j) (h3 : x3 y = V j) :
    k0_pay4 x0 x1 x2 x3 y = DELTA W G M V j := by
  pointwise [k0_pay4, k0_pay3, k0_pay2, k0_pay1, DELTA]
  simp only [h0, h1, h2, h3]

/-- What grid point `t` stores for the change of the weight at block index `y`. -/
theorem point_delta (c : Dev nD) (t : Fin cfg0.N) (y : S256x2048.Idx) : k0_pay4 (iblk m c 0 t) (iblk m c 1 t) (iblk m c 2 t) (iblk m c 3 t) y
    = DELTA (m ((c : Thread nD τ).loc main_arg0)) (m ((c : Thread nD τ).loc main_arg1)) (m ((c : Thread nD τ).loc main_arg2)) (m ((c : Thread nD τ).loc main_arg3)) (place t y) :=
  pay_delta _ _ _ _ _ _ _ _ y _ (blk_0 m c t y) (blk_1 m c t y) (blk_2 m c t y) (blk_3 m c t y)

/-- The array of the new first moment after the call is the reference's. -/
theorem final_m (c : Dev nD) : (dats m 0 c).arrAt 5 (cfgs 0).N
    = shapeCast Cert.Reference16Ideal.S4096x2048 (MOM (m ((c : Thread nD τ).loc main_arg1)) (m ((c : Thread nD τ).loc main_arg2))) Cert.Reference16Ideal.Gen.shapeCasts_S4x1024x2048_S4096x2048 := by
  refine (dats m 0 c).arrAt_eq_of_covers 5 _ (by decide +kernel) fun t _ y => ?_
  have e : ((cfg0.win 5).blk t).view.emb y = ((cfg0.win 4).blk t).view.emb y := by blk_ext [idx t]
  blk_simp
  rw [after0_5]; frame_out
  rw [point_m m c t y, e]
  rfl

/-- The array of the new second moment after the call is the reference's. -/
theorem final_v (c : Dev nD) : (dats m 0 c).arrAt 6 (cfgs 0).N
    = shapeCast Cert.Reference16Ideal.S4096x2048 (VEL (m ((c : Thread nD τ).loc main_arg1)) (m ((c : Thread nD τ).loc main_arg3))) Cert.Reference16Ideal.Gen.shapeCasts_S4x1024x2048_S4096x2048 := by
  refine (dats m 0 c).arrAt_eq_of_covers 6 _ (by decide +kernel) fun t _ y => ?_
  have e : ((cfg0.win 6).blk t).view.emb y = ((cfg0.win 4).blk t).view.emb y := by blk_ext [idx t]
  blk_simp
  rw [after0_6]; frame_out
  rw [point_v m c t y, e]
  rfl

/-- The array of the change of the weight after the call is the reference's. -/
theorem final_delta (c : Dev nD) : (dats m 0 c).arrAt 4 (cfgs 0).N
    = shapeCast Cert.Reference16Ideal.S4096x2048 (DELTA (m ((c : Thread nD τ).loc main_arg0)) (m ((c : Thread nD τ).loc main_arg1)) (m ((c : Thread nD τ).loc main_arg2)) (m ((c : Thread nD τ).loc main_arg3))) Cert.Reference16Ideal.Gen.shapeCasts_S4x1024x2048_S4096x2048 := by
  refine (dats m 0 c).arrAt_eq_of_covers 4 _ (by decide +kernel) fun t _ y => ?_
  have e : ((cfg0.win 4).blk t).view.emb y = ((cfg0.win 4).blk t).view.emb y := by blk_ext [idx t]
  blk_simp
  rw [after0_4]; frame_out
  rw [point_delta m c t y, e]
  rfl

end Cert.Kernel16Ideal.Value

end
-- ==== Proof.ClaimAdamMlpDown.lean ====
/- The value claim of the optimiser's step of the down projection's weight: its kernel and its reference end with equal results. -/
module

public import proofs.«01_k».proof.Defs
public import proofs.«01_k».proof.Proof.AdamMlpDown
public import Idealize.ShloMosaic.Lib.Claim

@[expose] public section

set_option maxRecDepth 16384

noncomputable section

namespace Cert.Proof

open Idealize.ShloMosaic Idealize.SL.Sem

/-- The optimiser's step of the down projection's weight: over the extended reals the kernel computes what its reference computes. -/
theorem algebraic16 : Cert.algebraic_Kernel16Ideal_Reference16Ideal (hKernel16Ideal := Cert.Kernel16Ideal.Gen.facts)
    (hReference16Ideal := Cert.Reference16Ideal.Gen.facts) := by
  pair_intro
  · run_from Cert.Kernel16Ideal.Gen.run_main m g
  · hlo_run
    · exact (Cert.Kernel16Ideal.Value.final_delta m c).symm
    · exact (Cert.Kernel16Ideal.Value.final_m m c).symm
    · exact (Cert.Kernel16Ideal.Value.final_v m c).symm

end Cert.Proof

end
-- ==== Proof.AdamWIn.lean ====
/- The optimiser's step of the first layers' input projection (`Kernel17`): the three result arrays of the call, the change of
   the weight and its two new moments, are the reference's terms of the arguments. -/
module

public import proofs.«01_k».proof.Proof.Gen.Kernel17Ideal.Frame
public import proofs.«01_k».proof.Proof.Gen.Reference17Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel17Ideal.Value

open Cert.Kernel17Ideal Cert.Kernel17Ideal.Gen

variable (m : (ℓ : Loc nD τ sig) → Buf (Elt Ideal) ℓ)

/-- The block every window stages at grid point `t`: rows `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] :=
  (by decide +kernel : ∀ t : Fin grid0.N, _)

/-- The reference's new first moment. -/
abbrev MOM (G M : FVec Ideal S2x2048x640 .f32) : FVec Ideal S2x2048x640 .f32 :=
  addf (mulf (broadcastInDim Cert.Reference17Ideal.S2x2048x640 ![] Cert.Reference17Ideal.Gen.bcast_S_S2x2048x640 (constant Cert.Reference17Ideal.S_ .f32 0x3F666666#32)) M)
    (mulf (broadcastInDim Cert.Reference17Ideal.S2x2048x640 ![] Cert.Reference17Ideal.Gen.bcast_S_S2x2048x640 (constant Cert.Reference17Ideal.S_ .f32 0x3DCCCCCD#32)) G)

/-- The reference's new second moment. -/
abbrev VEL (G V : FVec Ideal S2x2048x640 .f32) : FVec Ideal S2x2048x640 .f32 :=
  addf (mulf (broadcastInDim Cert.Reference17Ideal.S2x2048x640 ![] Cert.Reference17Ideal.Gen.bcast_S_S2x2048x640 (constant Cert.Reference17Ideal.S_ .f32 0x3F7FBE77#32)) V)
    (mulf (broadcastInDim Cert.Reference17Ideal.S2x2048x640 ![] Cert.Reference17Ideal.Gen.bcast_S_S2x2048x640 (constant Cert.Reference17Ideal.S_ .f32 0x3A83126F#32)) (mulf G G))

/-- The reference's change of the weight. -/
abbrev DELTA (W G M V : FVec Ideal S2x2048x640 .f32) : FVec Ideal S2x2048x640 .f32 :=
  mulf (broadcastInDim Cert.Reference17Ideal.S2x2048x640 ![] Cert.Reference17Ideal.Gen.bcast_S_S2x2048x640 (constant Cert.Reference17Ideal.S_ .f32 0xBA83126F#32))
    (addf (Host.divf (Host.divf (MOM G M) (broadcastInDim Cert.Reference17Ideal.S2x2048x640 ![] Cert.Reference17Ideal.Gen.bcast_S_S2x2048x640 (constant Cert.Reference17Ideal.S_ .f32 0x3F26BD02#32)))
        (addf (Host.sqrt (Host.divf (VEL G V) (broadcastInDim Cert.Reference17Ideal.S2x2048x640 ![] Cert.Reference17Ideal.Gen.bcast_S_S2x2048x640 (constant Cert.Reference17Ideal.S_ .f32 0x3C231ACC#32))))
          (broadcastInDim Cert.Reference17Ideal.S2x2048x640 ![] Cert.Reference17Ideal.Gen.bcast_S_S2x2048x640 (constant Cert.Reference17Ideal.S_ .f32 0x322BCC77#32))))
      (mulf (broadcastInDim Cert.Reference17Ideal.S2x2048x640 ![] Cert.Reference17Ideal.Gen.bcast_S_S2x2048x640 (constant Cert.Reference17Ideal.S_ .f32 0x3C23D70A#32)) W))

/-- The index of the weight that block index `y` of grid point `t` stands for. -/
abbrev place (t : Fin cfg0.N) (y : S256x640.Idx) : S2x2048x640.Idx :=
  Shape.reshapeEquiv shapeCasts_S2x2048x640_S4096x640 (((cfg0.win 4).blk t).view.emb y)

/-- Operand 0 when the call begins. -/
theorem entry_0 (c : Dev nD) : V m c (Pipeline.arrRef spec0 0)
    = (shapeCast S4096x640 ((m ((c : Thread nD τ).loc main_arg0)) : FVec Ideal S2x2048x640 .f32) shapeCasts_S2x2048x640_S4096x640 : FVec Ideal S4096x640 .f32) := by
  entry_read
  rfl

/-- A staged block of operand 0, as a read of the argument. -/
theorem blk_0 (c : Dev nD) (t : Fin cfg0.N) (y : S256x640.Idx) : iblk m c 0 t y
    = ((m ((c : Thread nD τ).loc main_arg0)) : FVec Ideal S2x2048x640 .f32) (place t y) := by
  have e : ((cfg0.win 0).blk t).view.emb y = ((cfg0.win 4).blk t).view.emb y := by blk_ext [idx t]
  unfold iblk
  rw [View.read_apply, entry_0, cast_eq, e]
  rfl

/-- Operand 1 when the call begins. -/
theorem entry_1 (c : Dev nD) : V m c (Pipeline.arrRef spec0 1)
    = (shapeCast S4096x640 ((m ((c : Thread nD τ).loc main_arg1)) : FVec Ideal S2x2048x640 .f32) shapeCasts_S2x2048x640_S4096x640 : FVec Ideal S4096x640 .f32) := by
  entry_read
  rfl

/-- A staged block of operand 1, as a read of the argument. -/
theorem blk_1 (c : Dev nD) (t : Fin cfg0.N) (y : S256x640.Idx) : iblk m c 1 t y
    = ((m ((c : Thread nD τ).loc main_arg1)) : FVec Ideal S2x2048x640 .f32) (place t y) := by
  have e : ((cfg0.win 1).blk t).view.emb y = ((cfg0.win 4).blk t).view.emb y := by blk_ext [idx t]
  unfold iblk
  rw [View.read_apply, entry_1, cast_eq, e]
  rfl

/-- Operand 2 when the call begins. -/
theorem entry_2 (c : Dev nD) : V m c (Pipeline.arrRef spec0 2)
    = (shapeCast S4096x640 ((m ((c : Thread nD τ).loc main_arg2)) : FVec Ideal S2x2048x640 .f32) shapeCasts_S2x2048x640_S4096x640 : FVec Ideal S4096x640 .f32) := by
  entry_read
  rfl

/-- A staged block of operand 2, as a read of the argument. -/
theorem blk_2 (c : Dev nD) (t : Fin cfg0.N) (y : S256x640.Idx) : iblk m c 2 t y
    = ((m ((c : Thread nD τ).loc main_arg2)) : FVec Ideal S2x2048x640 .f32) (place t y) := by
  have e : ((cfg0.win 2).blk t).view.emb y = ((cfg0.win 4).blk t).view.emb y := by blk_ext [idx t]
  unfold iblk
  rw [View.read_apply, entry_2, cast_eq, e]
  rfl

/-- Operand 3 when the call begins. -/
theorem entry_3 (c : Dev nD) : V m c (Pipeline.arrRef spec0 3)
    = (shapeCast S4096x640 ((m ((c : Thread nD τ).loc main_arg3)) : FVec Ideal S2x2048x640 .f32) shapeCasts_S2x2048x640_S4096x640 : FVec Ideal S4096x640 .f32) := by
  entry_read
  rfl

/-- A staged block of operand 3, as a read of the argument. -/
theorem blk_3 (c : Dev nD) (t : Fin cfg0.N) (y : S256x640.Idx) : iblk m c 3 t y
    = ((m ((c : Thread nD τ).loc main_arg3)) : FVec Ideal S2x2048x640 .f32) (place t y) := by
  have e : ((cfg0.win 3).blk t).view.emb y = ((cfg0.win 4).blk t).view.emb y := by blk_ext [idx t]
  unfold iblk
  rw [View.read_apply, entry_3, cast_eq, e]
  rfl

/-- The payload stored for the new first moment, at an index where the blocks hold the arrays' entries. -/
theorem pay_m (x1 x2 : FVec Ideal S256x640 .f32) (G M : FVec Ideal S2x2048x640 .f32) (y : S256x640.Idx) (j : S2x2048x640.Idx)
    (h1 : x1 y = G j) (h2 : x2 y = M j) :
    k0_pay2 x1 x2 y = MOM G M j := by
  pointwise [k0_pay2, k0_pay1, MOM]
  simp only [h1, h2]

/-- What grid point `t` stores for the new first moment at block index `y`. -/
theorem point_m (c : Dev nD) (t : Fin cfg0.N) (y : S256x640.Idx) : k0_pay2 (iblk m c 1 t) (iblk m c 2 t) y
    = MOM (m ((c : Thread nD τ).loc main_arg1)) (m ((c : Thread nD τ).loc main_arg2)) (place t y) :=
  pay_m _ _ _ _ y _ (blk_1 m c t y) (blk_2 m c t y)

/-- The payload stored for the new second moment, at an index where the blocks hold the arrays' entries. -/
theorem pay_v (x1 x3 : FVec Ideal S256x640 .f32) (G V : FVec Ideal S2x2048x640 .f32) (y : S256x640.Idx) (j : S2x2048x640.Idx)
    (h1 : x1 y = G j) (h3 : x3 y = V j) :
    k0_pay3 x1 x3 y = VEL G V j := by
  pointwise [k0_pay3, k0_pay1, VEL]
  simp only [h1, h3]

/-- What grid point `t` stores for the new second moment at block index `y`. -/
theorem point_v (c : Dev nD) (t : Fin cfg0.N) (y : S256x640.Idx) : k0_pay3 (iblk m c 1 t) (iblk m c 3 t) y
    = VEL (m ((c : Thread nD τ).loc main_arg1)) (m ((c : Thread nD τ).loc main_arg3)) (place t y) :=
  pay_v _ _ _ _ y _ (blk_1 m c t y) (blk_3 m c t y)

/-- The payload stored for the change of the weight, at an index where the blocks hold the arrays' entries. -/
theorem pay_delta (x0 x1 x2 x3 : FVec Ideal S256x640 .f32) (W G M V : FVec Ideal S2x2048x640 .f32) (y : S256x640.Idx) (j : S2x2048x640.Idx)
    (h0 : x0 y = W j) (h1 : x1 y = G j) (h2 : x2 y = M j) (h3 : x3 y = V j) :
    k0_pay4 x0 x1 x2 x3 y = DELTA W G M V j := by
  pointwise [k0_pay4, k0_pay3, k0_pay2, k0_pay1, DELTA]
  simp only [h0, h1, h2, h3]

/-- What grid point `t` stores for the change of the weight at block index `y`. -/
theorem point_delta (c : Dev nD) (t : Fin cfg0.N) (y : S256x640.Idx) : k0_pay4 (iblk m c 0 t) (iblk m c 1 t) (iblk m c 2 t) (iblk m c 3 t) y
    = DELTA (m ((c : Thread nD τ).loc main_arg0)) (m ((c : Thread nD τ).loc main_arg1)) (m ((c : Thread nD τ).loc main_arg2)) (m ((c : Thread nD τ).loc main_arg3)) (place t y) :=
  pay_delta _ _ _ _ _ _ _ _ y _ (blk_0 m c t y) (blk_1 m c t y) (blk_2 m c t y) (blk_3 m c t y)

/-- The array of the new first moment after the call is the reference's. -/
theorem final_m (c : Dev nD) : (dats m 0 c).arrAt 5 (cfgs 0).N
    = shapeCast Cert.Reference17Ideal.S4096x640 (MOM (m ((c : Thread nD τ).loc main_arg1)) (m ((c : Thread nD τ).loc main_arg2))) Cert.Reference17Ideal.Gen.shapeCasts_S2x2048x640_S4096x640 := by
  refine (dats m 0 c).arrAt_eq_of_covers 5 _ (by decide +kernel) fun t _ y => ?_
  have e : ((cfg0.win 5).blk t).view.emb y = ((cfg0.win 4).blk t).view.emb y := by blk_ext [idx t]
  blk_simp
  rw [after0_5]; frame_out
  rw [point_m m c t y, e]
  rfl

/-- The array of the new second moment after the call is the reference's. -/
theorem final_v (c : Dev nD) : (dats m 0 c).arrAt 6 (cfgs 0).N
    = shapeCast Cert.Reference17Ideal.S4096x640 (VEL (m ((c : Thread nD τ).loc main_arg1)) (m ((c : Thread nD τ).loc main_arg3))) Cert.Reference17Ideal.Gen.shapeCasts_S2x2048x640_S4096x640 := by
  refine (dats m 0 c).arrAt_eq_of_covers 6 _ (by decide +kernel) fun t _ y => ?_
  have e : ((cfg0.win 6).blk t).view.emb y = ((cfg0.win 4).blk t).view.emb y := by blk_ext [idx t]
  blk_simp
  rw [after0_6]; frame_out
  rw [point_v m c t y, e]
  rfl

/-- The array of the change of the weight after the call is the reference's. -/
theorem final_delta (c : Dev nD) : (dats m 0 c).arrAt 4 (cfgs 0).N
    = shapeCast Cert.Reference17Ideal.S4096x640 (DELTA (m ((c : Thread nD τ).loc main_arg0)) (m ((c : Thread nD τ).loc main_arg1)) (m ((c : Thread nD τ).loc main_arg2)) (m ((c : Thread nD τ).loc main_arg3))) Cert.Reference17Ideal.Gen.shapeCasts_S2x2048x640_S4096x640 := by
  refine (dats m 0 c).arrAt_eq_of_covers 4 _ (by decide +kernel) fun t _ y => ?_
  have e : ((cfg0.win 4).blk t).view.emb y = ((cfg0.win 4).blk t).view.emb y := by blk_ext [idx t]
  blk_simp
  rw [after0_4]; frame_out
  rw [point_delta m c t y, e]
  rfl

end Cert.Kernel17Ideal.Value

end
-- ==== Proof.ClaimAdamWIn.lean ====
/- The value claim of the optimiser's step of the even layers' input weight: its kernel and its reference end with equal results. -/
module

public import proofs.«01_k».proof.Defs
public import proofs.«01_k».proof.Proof.AdamWIn
public import Idealize.ShloMosaic.Lib.Claim

@[expose] public section

set_option maxRecDepth 16384

noncomputable section

namespace Cert.Proof

open Idealize.ShloMosaic Idealize.SL.Sem

/-- The optimiser's step of the even layers' input weight: over the extended reals the kernel computes what its reference computes. -/
theorem algebraic17 : Cert.algebraic_Kernel17Ideal_Reference17Ideal (hKernel17Ideal := Cert.Kernel17Ideal.Gen.facts)
    (hReference17Ideal := Cert.Reference17Ideal.Gen.facts) := by
  pair_intro
  · run_from Cert.Kernel17Ideal.Gen.run_main m g
  · hlo_run
    · exact (Cert.Kernel17Ideal.Value.final_delta m c).symm
    · exact (Cert.Kernel17Ideal.Value.final_m m c).symm
    · exact (Cert.Kernel17Ideal.Value.final_v m c).symm

end Cert.Proof

end
-- ==== Proof.AdamEvenOut.lean ====
/- The optimiser's step of the first layers' output projection (`Kernel18`): the three result arrays of the call, the change of
   the weight and its two new moments, are the reference's terms of the arguments. -/
module

public import proofs.«01_k».proof.Proof.Gen.Kernel18Ideal.Frame
public import proofs.«01_k».proof.Proof.Gen.Reference18Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel18Ideal.Value

open Cert.Kernel18Ideal Cert.Kernel18Ideal.Gen

variable (m : (ℓ : Loc nD τ sig) → Buf (Elt Ideal) ℓ)

/-- The block every window stages at grid point `t`: rows `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] :=
  (by decide +kernel : ∀ t : Fin grid0.N, _)

/-- The reference's new first moment. -/
abbrev MOM (G M : FVec Ideal S2x256x2048 .f32) : FVec Ideal S2x256x2048 .f32 :=
  addf (mulf (broadcastInDim Cert.Reference18Ideal.S2x256x2048 ![] Cert.Reference18Ideal.Gen.bcast_S_S2x256x2048 (constant Cert.Reference18Ideal.S_ .f32 0x3F666666#32)) M)
    (mulf (broadcastInDim Cert.Reference18Ideal.S2x256x2048 ![] Cert.Reference18Ideal.Gen.bcast_S_S2x256x2048 (constant Cert.Reference18Ideal.S_ .f32 0x3DCCCCCD#32)) G)

/-- The reference's new second moment. -/
abbrev VEL (G V : FVec Ideal S2x256x2048 .f32) : FVec Ideal S2x256x2048 .f32 :=
  addf (mulf (broadcastInDim Cert.Reference18Ideal.S2x256x2048 ![] Cert.Reference18Ideal.Gen.bcast_S_S2x256x2048 (constant Cert.Reference18Ideal.S_ .f32 0x3F7FBE77#32)) V)
    (mulf (broadcastInDim Cert.Reference18Ideal.S2x256x2048 ![] Cert.Reference18Ideal.Gen.bcast_S_S2x256x2048 (constant Cert.Reference18Ideal.S_ .f32 0x3A83126F#32)) (mulf G G))

/-- The reference's change of the weight. -/
abbrev DELTA (W G M V : FVec Ideal S2x256x2048 .f32) : FVec Ideal S2x256x2048 .f32 :=
  mulf (broadcastInDim Cert.Reference18Ideal.S2x256x2048 ![] Cert.Reference18Ideal.Gen.bcast_S_S2x256x2048 (constant Cert.Reference18Ideal.S_ .f32 0xBA83126F#32))
    (addf (Host.divf (Host.divf (MOM G M) (broadcastInDim Cert.Reference18Ideal.S2x256x2048 ![] Cert.Reference18Ideal.Gen.bcast_S_S2x256x2048 (constant Cert.Reference18Ideal.S_ .f32 0x3F26BD02#32)))
        (addf (Host.sqrt (Host.divf (VEL G V) (broadcastInDim Cert.Reference18Ideal.S2x256x2048 ![] Cert.Reference18Ideal.Gen.bcast_S_S2x256x2048 (constant Cert.Reference18Ideal.S_ .f32 0x3C231ACC#32))))
          (broadcastInDim Cert.Reference18Ideal.S2x256x2048 ![] Cert.Reference18Ideal.Gen.bcast_S_S2x256x2048 (constant Cert.Reference18Ideal.S_ .f32 0x322BCC77#32))))
      (mulf (broadcastInDim Cert.Reference18Ideal.S2x256x2048 ![] Cert.Reference18Ideal.Gen.bcast_S_S2x256x2048 (constant Cert.Reference18Ideal.S_ .f32 0x3C23D70A#32)) W))

/-- The index of the weight that block index `y` of grid point `t` stands for. -/
abbrev place (t : Fin cfg0.N) (y : S256x2048.Idx) : S2x256x2048.Idx :=
  Shape.reshapeEquiv shapeCasts_S2x256x2048_S512x2048 (((cfg0.win 4).blk t).view.emb y)

/-- Operand 0 when the call begins. -/
theorem entry_0 (c : Dev nD) : V m c (Pipeline.arrRef spec0 0)
    = (shapeCast S512x2048 ((m ((c : Thread nD τ).loc main_arg0)) : FVec Ideal S2x256x2048 .f32) shapeCasts_S2x256x2048_S512x2048 : FVec Ideal S512x2048 .f32) := by
  entry_read
  rfl

/-- A staged block of operand 0, as a read of the argument. -/
theorem blk_0 (c : Dev nD) (t : Fin cfg0.N) (y : S256x2048.Idx) : iblk m c 0 t y
    = ((m ((c : Thread nD τ).loc main_arg0)) : FVec Ideal S2x256x2048 .f32) (place t y) := by
  have e : ((cfg0.win 0).blk t).view.emb y = ((cfg0.win 4).blk t).view.emb y := by blk_ext [idx t]
  unfold iblk
  rw [View.read_apply, entry_0, cast_eq, e]
  rfl

/-- Operand 1 when the call begins. -/
theorem entry_1 (c : Dev nD) : V m c (Pipeline.arrRef spec0 1)
    = (shapeCast S512x2048 ((m ((c : Thread nD τ).loc main_arg1)) : FVec Ideal S2x256x2048 .f32) shapeCasts_S2x256x2048_S512x2048 : FVec Ideal S512x2048 .f32) := by
  entry_read
  rfl

/-- A staged block of operand 1, as a read of the argument. -/
theorem blk_1 (c : Dev nD) (t : Fin cfg0.N) (y : S256x2048.Idx) : iblk m c 1 t y
    = ((m ((c : Thread nD τ).loc main_arg1)) : FVec Ideal S2x256x2048 .f32) (place t y) := by
  have e : ((cfg0.win 1).blk t).view.emb y = ((cfg0.win 4).blk t).view.emb y := by blk_ext [idx t]
  unfold iblk
  rw [View.read_apply, entry_1, cast_eq, e]
  rfl

/-- Operand 2 when the call begins. -/
theorem entry_2 (c : Dev nD) : V m c (Pipeline.arrRef spec0 2)
    = (shapeCast S512x2048 ((m ((c : Thread nD τ).loc main_arg2)) : FVec Ideal S2x256x2048 .f32) shapeCasts_S2x256x2048_S512x2048 : FVec Ideal S512x2048 .f32) := by
  entry_read
  rfl

/-- A staged block of operand 2, as a read of the argument. -/
theorem blk_2 (c : Dev nD) (t : Fin cfg0.N) (y : S256x2048.Idx) : iblk m c 2 t y
    = ((m ((c : Thread nD τ).loc main_arg2)) : FVec Ideal S2x256x2048 .f32) (place t y) := by
  have e : ((cfg0.win 2).blk t).view.emb y = ((cfg0.win 4).blk t).view.emb y := by blk_ext [idx t]
  unfold iblk
  rw [View.read_apply, entry_2, cast_eq, e]
  rfl

/-- Operand 3 when the call begins. -/
theorem entry_3 (c : Dev nD) : V m c (Pipeline.arrRef spec0 3)
    = (shapeCast S512x2048 ((m ((c : Thread nD τ).loc main_arg3)) : FVec Ideal S2x256x2048 .f32) shapeCasts_S2x256x2048_S512x2048 : FVec Ideal S512x2048 .f32) := by
  entry_read
  rfl

/-- A staged block of operand 3, as a read of the argument. -/
theorem blk_3 (c : Dev nD) (t : Fin cfg0.N) (y : S256x2048.Idx) : iblk m c 3 t y
    = ((m ((c : Thread nD τ).loc main_arg3)) : FVec Ideal S2x256x2048 .f32) (place t y) := by
  have e : ((cfg0.win 3).blk t).view.emb y = ((cfg0.win 4).blk t).view.emb y := by blk_ext [idx t]
  unfold iblk
  rw [View.read_apply, entry_3, cast_eq, e]
  rfl

/-- The payload stored for the new first moment, at an index where the blocks hold the arrays' entries. -/
theorem pay_m (x1 x2 : FVec Ideal S256x2048 .f32) (G M : FVec Ideal S2x256x2048 .f32) (y : S256x2048.Idx) (j : S2x256x2048.Idx)
    (h1 : x1 y = G j) (h2 : x2 y = M j) :
    k0_pay2 x1 x2 y = MOM G M j := by
  pointwise [k0_pay2, k0_pay1, MOM]
  simp only [h1, h2]

/-- What grid point `t` stores for the new first moment at block index `y`. -/
theorem point_m (c : Dev nD) (t : Fin cfg0.N) (y : S256x2048.Idx) : k0_pay2 (iblk m c 1 t) (iblk m c 2 t) y
    = MOM (m ((c : Thread nD τ).loc main_arg1)) (m ((c : Thread nD τ).loc main_arg2)) (place t y) :=
  pay_m _ _ _ _ y _ (blk_1 m c t y) (blk_2 m c t y)

/-- The payload stored for the new second moment, at an index where the blocks hold the arrays' entries. -/
theorem pay_v (x1 x3 : FVec Ideal S256x2048 .f32) (G V : FVec Ideal S2x256x2048 .f32) (y : S256x2048.Idx) (j : S2x256x2048.Idx)
    (h1 : x1 y = G j) (h3 : x3 y = V j) :
    k0_pay3 x1 x3 y = VEL G V j := by
  pointwise [k0_pay3, k0_pay1, VEL]
  simp only [h1, h3]

/-- What grid point `t` stores for the new second moment at block index `y`. -/
theorem point_v (c : Dev nD) (t : Fin cfg0.N) (y : S256x2048.Idx) : k0_pay3 (iblk m c 1 t) (iblk m c 3 t) y
    = VEL (m ((c : Thread nD τ).loc main_arg1)) (m ((c : Thread nD τ).loc main_arg3)) (place t y) :=
  pay_v _ _ _ _ y _ (blk_1 m c t y) (blk_3 m c t y)

/-- The payload stored for the change of the weight, at an index where the blocks hold the arrays' entries. -/
theorem pay_delta (x0 x1 x2 x3 : FVec Ideal S256x2048 .f32) (W G M V : FVec Ideal S2x256x2048 .f32) (y : S256x2048.Idx) (j : S2x256x2048.Idx)
    (h0 : x0 y = W j) (h1 : x1 y = G j) (h2 : x2 y = M j) (h3 : x3 y = V j) :
    k0_pay4 x0 x1 x2 x3 y = DELTA W G M V j := by
  pointwise [k0_pay4, k0_pay3, k0_pay2, k0_pay1, DELTA]
  simp only [h0, h1, h2, h3]

/-- What grid point `t` stores for the change of the weight at block index `y`. -/
theorem point_delta (c : Dev nD) (t : Fin cfg0.N) (y : S256x2048.Idx) : k0_pay4 (iblk m c 0 t) (iblk m c 1 t) (iblk m c 2 t) (iblk m c 3 t) y
    = DELTA (m ((c : Thread nD τ).loc main_arg0)) (m ((c : Thread nD τ).loc main_arg1)) (m ((c : Thread nD τ).loc main_arg2)) (m ((c : Thread nD τ).loc main_arg3)) (place t y) :=
  pay_delta _ _ _ _ _ _ _ _ y _ (blk_0 m c t y) (blk_1 m c t y) (blk_2 m c t y) (blk_3 m c t y)

/-- The array of the new first moment after the call is the reference's. -/
theorem final_m (c : Dev nD) : (dats m 0 c).arrAt 5 (cfgs 0).N
    = shapeCast Cert.Reference18Ideal.S512x2048 (MOM (m ((c : Thread nD τ).loc main_arg1)) (m ((c : Thread nD τ).loc main_arg2))) Cert.Reference18Ideal.Gen.shapeCasts_S2x256x2048_S512x2048 := by
  refine (dats m 0 c).arrAt_eq_of_covers 5 _ (by decide +kernel) fun t _ y => ?_
  have e : ((cfg0.win 5).blk t).view.emb y = ((cfg0.win 4).blk t).view.emb y := by blk_ext [idx t]
  blk_simp
  rw [after0_5]; frame_out
  rw [point_m m c t y, e]
  rfl

/-- The array of the new second moment after the call is the reference's. -/
theorem final_v (c : Dev nD) : (dats m 0 c).arrAt 6 (cfgs 0).N
    = shapeCast Cert.Reference18Ideal.S512x2048 (VEL (m ((c : Thread nD τ).loc main_arg1)) (m ((c : Thread nD τ).loc main_arg3))) Cert.Reference18Ideal.Gen.shapeCasts_S2x256x2048_S512x2048 := by
  refine (dats m 0 c).arrAt_eq_of_covers 6 _ (by decide +kernel) fun t _ y => ?_
  have e : ((cfg0.win 6).blk t).view.emb y = ((cfg0.win 4).blk t).view.emb y := by blk_ext [idx t]
  blk_simp
  rw [after0_6]; frame_out
  rw [point_v m c t y, e]
  rfl

/-- The array of the change of the weight after the call is the reference's. -/
theorem final_delta (c : Dev nD) : (dats m 0 c).arrAt 4 (cfgs 0).N
    = shapeCast Cert.Reference18Ideal.S512x2048 (DELTA (m ((c : Thread nD τ).loc main_arg0)) (m ((c : Thread nD τ).loc main_arg1)) (m ((c : Thread nD τ).loc main_arg2)) (m ((c : Thread nD τ).loc main_arg3))) Cert.Reference18Ideal.Gen.shapeCasts_S2x256x2048_S512x2048 := by
  refine (dats m 0 c).arrAt_eq_of_covers 4 _ (by decide +kernel) fun t _ y => ?_
  have e : ((cfg0.win 4).blk t).view.emb y = ((cfg0.win 4).blk t).view.emb y := by blk_ext [idx t]
  blk_simp
  rw [after0_4]; frame_out
  rw [point_delta m c t y, e]
  rfl

end Cert.Kernel18Ideal.Value

end
-- ==== Proof.ClaimAdamEvenOut.lean ====
/- The value claim of the optimiser's step of the even layers' output weight: its kernel and its reference end with equal results. -/
module

public import proofs.«01_k».proof.Defs
public import proofs.«01_k».proof.Proof.AdamEvenOut
public import Idealize.ShloMosaic.Lib.Claim

@[expose] public section

set_option maxRecDepth 16384

noncomputable section

namespace Cert.Proof

open Idealize.ShloMosaic Idealize.SL.Sem

/-- The optimiser's step of the even layers' output weight: over the extended reals the kernel computes what its reference computes. -/
theorem algebraic18 : Cert.algebraic_Kernel18Ideal_Reference18Ideal (hKernel18Ideal := Cert.Kernel18Ideal.Gen.facts)
    (hReference18Ideal := Cert.Reference18Ideal.Gen.facts) := by
  pair_intro
  · run_from Cert.Kernel18Ideal.Gen.run_main m g
  · hlo_run
    · exact (Cert.Kernel18Ideal.Value.final_delta m c).symm
    · exact (Cert.Kernel18Ideal.Value.final_m m c).symm
    · exact (Cert.Kernel18Ideal.Value.final_v m c).symm

end Cert.Proof

end
-- ==== Proof.AdamWQkv.lean ====
/- The optimiser's step of the attention layers' input projection (`Kernel19`): the three result arrays of the call, the change of
   the weight and its two new moments, are the reference's terms of the arguments. -/
module

public import proofs.«01_k».proof.Proof.Gen.Kernel19Ideal.Frame
public import proofs.«01_k».proof.Proof.Gen.Reference19Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel19Ideal.Value

open Cert.Kernel19Ideal Cert.Kernel19Ideal.Gen

variable (m : (ℓ : Loc nD τ sig) → Buf (Elt Ideal) ℓ)

/-- The block every window stages at grid point `t`: rows `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] :=
  (by decide +kernel : ∀ t : Fin grid0.N, _)

/-- The reference's new first moment. -/
abbrev MOM (G M : FVec Ideal S2x2048x320 .f32) : FVec Ideal S2x2048x320 .f32 :=
  addf (mulf (broadcastInDim Cert.Reference19Ideal.S2x2048x320 ![] Cert.Reference19Ideal.Gen.bcast_S_S2x2048x320 (constant Cert.Reference19Ideal.S_ .f32 0x3F666666#32)) M)
    (mulf (broadcastInDim Cert.Reference19Ideal.S2x2048x320 ![] Cert.Reference19Ideal.Gen.bcast_S_S2x2048x320 (constant Cert.Reference19Ideal.S_ .f32 0x3DCCCCCD#32)) G)

/-- The reference's new second moment. -/
abbrev VEL (G V : FVec Ideal S2x2048x320 .f32) : FVec Ideal S2x2048x320 .f32 :=
  addf (mulf (broadcastInDim Cert.Reference19Ideal.S2x2048x320 ![] Cert.Reference19Ideal.Gen.bcast_S_S2x2048x320 (constant Cert.Reference19Ideal.S_ .f32 0x3F7FBE77#32)) V)
    (mulf (broadcastInDim Cert.Reference19Ideal.S2x2048x320 ![] Cert.Reference19Ideal.Gen.bcast_S_S2x2048x320 (constant Cert.Reference19Ideal.S_ .f32 0x3A83126F#32)) (mulf G G))

/-- The reference's change of the weight. -/
abbrev DELTA (W G M V : FVec Ideal S2x2048x320 .f32) : FVec Ideal S2x2048x320 .f32 :=
  mulf (broadcastInDim Cert.Reference19Ideal.S2x2048x320 ![] Cert.Reference19Ideal.Gen.bcast_S_S2x2048x320 (constant Cert.Reference19Ideal.S_ .f32 0xBA83126F#32))
    (addf (Host.divf (Host.divf (MOM G M) (broadcastInDim Cert.Reference19Ideal.S2x2048x320 ![] Cert.Reference19Ideal.Gen.bcast_S_S2x2048x320 (constant Cert.Reference19Ideal.S_ .f32 0x3F26BD02#32)))
        (addf (Host.sqrt (Host.divf (VEL G V) (broadcastInDim Cert.Reference19Ideal.S2x2048x320 ![] Cert.Reference19Ideal.Gen.bcast_S_S2x2048x320 (constant Cert.Reference19Ideal.S_ .f32 0x3C231ACC#32))))
          (broadcastInDim Cert.Reference19Ideal.S2x2048x320 ![] Cert.Reference19Ideal.Gen.bcast_S_S2x2048x320 (constant Cert.Reference19Ideal.S_ .f32 0x322BCC77#32))))
      (mulf (broadcastInDim Cert.Reference19Ideal.S2x2048x320 ![] Cert.Reference19Ideal.Gen.bcast_S_S2x2048x320 (constant Cert.Reference19Ideal.S_ .f32 0x3C23D70A#32)) W))

/-- The index of the weight that block index `y` of grid point `t` stands for. -/
abbrev place (t : Fin cfg0.N) (y : S256x320.Idx) : S2x2048x320.Idx :=
  Shape.reshapeEquiv shapeCasts_S2x2048x320_S4096x320 (((cfg0.win 4).blk t).view.emb y)

/-- Operand 0 when the call begins. -/
theorem entry_0 (c : Dev nD) : V m c (Pipeline.arrRef spec0 0)
    = (shapeCast S4096x320 ((m ((c : Thread nD τ).loc main_arg0)) : FVec Ideal S2x2048x320 .f32) shapeCasts_S2x2048x320_S4096x320 : FVec Ideal S4096x320 .f32) := by
  entry_read
  rfl

/-- A staged block of operand 0, as a read of the argument. -/
theorem blk_0 (c : Dev nD) (t : Fin cfg0.N) (y : S256x320.Idx) : iblk m c 0 t y
    = ((m ((c : Thread nD τ).loc main_arg0)) : FVec Ideal S2x2048x320 .f32) (place t y) := by
  have e : ((cfg0.win 0).blk t).view.emb y = ((cfg0.win 4).blk t).view.emb y := by blk_ext [idx t]
  unfold iblk
  rw [View.read_apply, entry_0, cast_eq, e]
  rfl

/-- Operand 1 when the call begins. -/
theorem entry_1 (c : Dev nD) : V m c (Pipeline.arrRef spec0 1)
    = (shapeCast S4096x320 ((m ((c : Thread nD τ).loc main_arg1)) : FVec Ideal S2x2048x320 .f32) shapeCasts_S2x2048x320_S4096x320 : FVec Ideal S4096x320 .f32) := by
  entry_read
  rfl

/-- A staged block of operand 1, as a read of the argument. -/
theorem blk_1 (c : Dev nD) (t : Fin cfg0.N) (y : S256x320.Idx) : iblk m c 1 t y
    = ((m ((c : Thread nD τ).loc main_arg1)) : FVec Ideal S2x2048x320 .f32) (place t y) := by
  have e : ((cfg0.win 1).blk t).view.emb y = ((cfg0.win 4).blk t).view.emb y := by blk_ext [idx t]
  unfold iblk
  rw [View.read_apply, entry_1, cast_eq, e]
  rfl

/-- Operand 2 when the call begins. -/
theorem entry_2 (c : Dev nD) : V m c (Pipeline.arrRef spec0 2)
    = (shapeCast S4096x320 ((m ((c : Thread nD τ).loc main_arg2)) : FVec Ideal S2x2048x320 .f32) shapeCasts_S2x2048x320_S4096x320 : FVec Ideal S4096x320 .f32) := by
  entry_read
  rfl

/-- A staged block of operand 2, as a read of the argument. -/
theorem blk_2 (c : Dev nD) (t : Fin cfg0.N) (y : S256x320.Idx) : iblk m c 2 t y
    = ((m ((c : Thread nD τ).loc main_arg2)) : FVec Ideal S2x2048x320 .f32) (place t y) := by
  have e : ((cfg0.win 2).blk t).view.emb y = ((cfg0.win 4).blk t).view.emb y := by blk_ext [idx t]
  unfold iblk
  rw [View.read_apply, entry_2, cast_eq, e]
  rfl

/-- Operand 3 when the call begins. -/
theorem entry_3 (c : Dev nD) : V m c (Pipeline.arrRef spec0 3)
    = (shapeCast S4096x320 ((m ((c : Thread nD τ).loc main_arg3)) : FVec Ideal S2x2048x320 .f32) shapeCasts_S2x2048x320_S4096x320 : FVec Ideal S4096x320 .f32) := by
  entry_read
  rfl

/-- A staged block of operand 3, as a read of the argument. -/
theorem blk_3 (c : Dev nD) (t : Fin cfg0.N) (y : S256x320.Idx) : iblk m c 3 t y
    = ((m ((c : Thread nD τ).loc main_arg3)) : FVec Ideal S2x2048x320 .f32) (place t y) := by
  have e : ((cfg0.win 3).blk t).view.emb y = ((cfg0.win 4).blk t).view.emb y := by blk_ext [idx t]
  unfold iblk
  rw [View.read_apply, entry_3, cast_eq, e]
  rfl

/-- The payload stored for the new first moment, at an index where the blocks hold the arrays' entries. -/
theorem pay_m (x1 x2 : FVec Ideal S256x320 .f32) (G M : FVec Ideal S2x2048x320 .f32) (y : S256x320.Idx) (j : S2x2048x320.Idx)
    (h1 : x1 y = G j) (h2 : x2 y = M j) :
    k0_pay2 x1 x2 y = MOM G M j := by
  pointwise [k0_pay2, k0_pay1, MOM]
  simp only [h1, h2]

/-- What grid point `t` stores for the new first moment at block index `y`. -/
theorem point_m (c : Dev nD) (t : Fin cfg0.N) (y : S256x320.Idx) : k0_pay2 (iblk m c 1 t) (iblk m c 2 t) y
    = MOM (m ((c : Thread nD τ).loc main_arg1)) (m ((c : Thread nD τ).loc main_arg2)) (place t y) :=
  pay_m _ _ _ _ y _ (blk_1 m c t y) (blk_2 m c t y)

/-- The payload stored for the new second moment, at an index where the blocks hold the arrays' entries. -/
theorem pay_v (x1 x3 : FVec Ideal S256x320 .f32) (G V : FVec Ideal S2x2048x320 .f32) (y : S256x320.Idx) (j : S2x2048x320.Idx)
    (h1 : x1 y = G j) (h3 : x3 y = V j) :
    k0_pay3 x1 x3 y = VEL G V j := by
  pointwise [k0_pay3, k0_pay1, VEL]
  simp only [h1, h3]

/-- What grid point `t` stores for the new second moment at block index `y`. -/
theorem point_v (c : Dev nD) (t : Fin cfg0.N) (y : S256x320.Idx) : k0_pay3 (iblk m c 1 t) (iblk m c 3 t) y
    = VEL (m ((c : Thread nD τ).loc main_arg1)) (m ((c : Thread nD τ).loc main_arg3)) (place t y) :=
  pay_v _ _ _ _ y _ (blk_1 m c t y) (blk_3 m c t y)

/-- The payload stored for the change of the weight, at an index where the blocks hold the arrays' entries. -/
theorem pay_delta (x0 x1 x2 x3 : FVec Ideal S256x320 .f32) (W G M V : FVec Ideal S2x2048x320 .f32) (y : S256x320.Idx) (j : S2x2048x320.Idx)
    (h0 : x0 y = W j) (h1 : x1 y = G j) (h2 : x2 y = M j) (h3 : x3 y = V j) :
    k0_pay4 x0 x1 x2 x3 y = DELTA W G M V j := by
  pointwise [k0_pay4, k0_pay3, k0_pay2, k0_pay1, DELTA]
  simp only [h0, h1, h2, h3]

/-- What grid point `t` stores for the change of the weight at block index `y`. -/
theorem point_delta (c : Dev nD) (t : Fin cfg0.N) (y : S256x320.Idx) : k0_pay4 (iblk m c 0 t) (iblk m c 1 t) (iblk m c 2 t) (iblk m c 3 t) y
    = DELTA (m ((c : Thread nD τ).loc main_arg0)) (m ((c : Thread nD τ).loc main_arg1)) (m ((c : Thread nD τ).loc main_arg2)) (m ((c : Thread nD τ).loc main_arg3)) (place t y) :=
  pay_delta _ _ _ _ _ _ _ _ y _ (blk_0 m c t y) (blk_1 m c t y) (blk_2 m c t y) (blk_3 m c t y)

/-- The array of the new first moment after the call is the reference's. -/
theorem final_m (c : Dev nD) : (dats m 0 c).arrAt 5 (cfgs 0).N
    = shapeCast Cert.Reference19Ideal.S4096x320 (MOM (m ((c : Thread nD τ).loc main_arg1)) (m ((c : Thread nD τ).loc main_arg2))) Cert.Reference19Ideal.Gen.shapeCasts_S2x2048x320_S4096x320 := by
  refine (dats m 0 c).arrAt_eq_of_covers 5 _ (by decide +kernel) fun t _ y => ?_
  have e : ((cfg0.win 5).blk t).view.emb y = ((cfg0.win 4).blk t).view.emb y := by blk_ext [idx t]
  blk_simp
  rw [after0_5]; frame_out
  rw [point_m m c t y, e]
  rfl

/-- The array of the new second moment after the call is the reference's. -/
theorem final_v (c : Dev nD) : (dats m 0 c).arrAt 6 (cfgs 0).N
    = shapeCast Cert.Reference19Ideal.S4096x320 (VEL (m ((c : Thread nD τ).loc main_arg1)) (m ((c : Thread nD τ).loc main_arg3))) Cert.Reference19Ideal.Gen.shapeCasts_S2x2048x320_S4096x320 := by
  refine (dats m 0 c).arrAt_eq_of_covers 6 _ (by decide +kernel) fun t _ y => ?_
  have e : ((cfg0.win 6).blk t).view.emb y = ((cfg0.win 4).blk t).view.emb y := by blk_ext [idx t]
  blk_simp
  rw [after0_6]; frame_out
  rw [point_v m c t y, e]
  rfl

/-- The array of the change of the weight after the call is the reference's. -/
theorem final_delta (c : Dev nD) : (dats m 0 c).arrAt 4 (cfgs 0).N
    = shapeCast Cert.Reference19Ideal.S4096x320 (DELTA (m ((c : Thread nD τ).loc main_arg0)) (m ((c : Thread nD τ).loc main_arg1)) (m ((c : Thread nD τ).loc main_arg2)) (m ((c : Thread nD τ).loc main_arg3))) Cert.Reference19Ideal.Gen.shapeCasts_S2x2048x320_S4096x320 := by
  refine (dats m 0 c).arrAt_eq_of_covers 4 _ (by decide +kernel) fun t _ y => ?_
  have e : ((cfg0.win 4).blk t).view.emb y = ((cfg0.win 4).blk t).view.emb y := by blk_ext [idx t]
  blk_simp
  rw [after0_4]; frame_out
  rw [point_delta m c t y, e]
  rfl

end Cert.Kernel19Ideal.Value

end
-- ==== Proof.ClaimAdamWQkv.lean ====
/- The value claim of the optimiser's step of the query, key and value weight: its kernel and its reference end with equal results. -/
module

public import proofs.«01_k».proof.Defs
public import proofs.«01_k».proof.Proof.AdamWQkv
public import Idealize.ShloMosaic.Lib.Claim

@[expose] public section

set_option maxRecDepth 16384

noncomputable section

namespace Cert.Proof

open Idealize.ShloMosaic Idealize.SL.Sem

/-- The optimiser's step of the query, key and value weight: over the extended reals the kernel computes what its reference computes. -/
theorem algebraic19 : Cert.algebraic_Kernel19Ideal_Reference19Ideal (hKernel19Ideal := Cert.Kernel19Ideal.Gen.facts)
    (hReference19Ideal := Cert.Reference19Ideal.Gen.facts) := by
  pair_intro
  · run_from Cert.Kernel19Ideal.Gen.run_main m g
  · hlo_run
    · exact (Cert.Kernel19Ideal.Value.final_delta m c).symm
    · exact (Cert.Kernel19Ideal.Value.final_m m c).symm
    · exact (Cert.Kernel19Ideal.Value.final_v m c).symm

end Cert.Proof

end
-- ==== Proof.AdamOddOut.lean ====
/- The optimiser's step of the attention layers' output projection (`Kernel20`): the three result arrays of the call, the change of
   the weight and its two new moments, are the reference's terms of the arguments. -/
module

public import proofs.«01_k».proof.Proof.Gen.Kernel20Ideal.Frame
public import proofs.«01_k».proof.Proof.Gen.Reference20Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel20Ideal.Value

open Cert.Kernel20Ideal Cert.Kernel20Ideal.Gen

variable (m : (ℓ : Loc nD τ sig) → Buf (Elt Ideal) ℓ)

/-- The block every window stages at grid point `t`: rows `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] :=
  (by decide +kernel : ∀ t : Fin grid0.N, _)

/-- The reference's new first moment. -/
abbrev MOM (G M : FVec Ideal S2x256x2048 .f32) : FVec Ideal S2x256x2048 .f32 :=
  addf (mulf (broadcastInDim Cert.Reference20Ideal.S2x256x2048 ![] Cert.Reference20Ideal.Gen.bcast_S_S2x256x2048 (constant Cert.Reference20Ideal.S_ .f32 0x3F666666#32)) M)
    (mulf (broadcastInDim Cert.Reference20Ideal.S2x256x2048 ![] Cert.Reference20Ideal.Gen.bcast_S_S2x256x2048 (constant Cert.Reference20Ideal.S_ .f32 0x3DCCCCCD#32)) G)

/-- The reference's new second moment. -/
abbrev VEL (G V : FVec Ideal S2x256x2048 .f32) : FVec Ideal S2x256x2048 .f32 :=
  addf (mulf (broadcastInDim Cert.Reference20Ideal.S2x256x2048 ![] Cert.Reference20Ideal.Gen.bcast_S_S2x256x2048 (constant Cert.Reference20Ideal.S_ .f32 0x3F7FBE77#32)) V)
    (mulf (broadcastInDim Cert.Reference20Ideal.S2x256x2048 ![] Cert.Reference20Ideal.Gen.bcast_S_S2x256x2048 (constant Cert.Reference20Ideal.S_ .f32 0x3A83126F#32)) (mulf G G))

/-- The reference's change of the weight. -/
abbrev DELTA (W G M V : FVec Ideal S2x256x2048 .f32) : FVec Ideal S2x256x2048 .f32 :=
  mulf (broadcastInDim Cert.Reference20Ideal.S2x256x2048 ![] Cert.Reference20Ideal.Gen.bcast_S_S2x256x2048 (constant Cert.Reference20Ideal.S_ .f32 0xBA83126F#32))
    (addf (Host.divf (Host.divf (MOM G M) (broadcastInDim Cert.Reference20Ideal.S2x256x2048 ![] Cert.Reference20Ideal.Gen.bcast_S_S2x256x2048 (constant Cert.Reference20Ideal.S_ .f32 0x3F26BD02#32)))
        (addf (Host.sqrt (Host.divf (VEL G V) (broadcastInDim Cert.Reference20Ideal.S2x256x2048 ![] Cert.Reference20Ideal.Gen.bcast_S_S2x256x2048 (constant Cert.Reference20Ideal.S_ .f32 0x3C231ACC#32))))
          (broadcastInDim Cert.Reference20Ideal.S2x256x2048 ![] Cert.Reference20Ideal.Gen.bcast_S_S2x256x2048 (constant Cert.Reference20Ideal.S_ .f32 0x322BCC77#32))))
      (mulf (broadcastInDim Cert.Reference20Ideal.S2x256x2048 ![] Cert.Reference20Ideal.Gen.bcast_S_S2x256x2048 (constant Cert.Reference20Ideal.S_ .f32 0x3C23D70A#32)) W))

/-- The index of the weight that block index `y` of grid point `t` stands for. -/
abbrev place (t : Fin cfg0.N) (y : S256x2048.Idx) : S2x256x2048.Idx :=
  Shape.reshapeEquiv shapeCasts_S2x256x2048_S512x2048 (((cfg0.win 4).blk t).view.emb y)

/-- Operand 0 when the call begins. -/
theorem entry_0 (c : Dev nD) : V m c (Pipeline.arrRef spec0 0)
    = (shapeCast S512x2048 ((m ((c : Thread nD τ).loc main_arg0)) : FVec Ideal S2x256x2048 .f32) shapeCasts_S2x256x2048_S512x2048 : FVec Ideal S512x2048 .f32) := by
  entry_read
  rfl

/-- A staged block of operand 0, as a read of the argument. -/
theorem blk_0 (c : Dev nD) (t : Fin cfg0.N) (y : S256x2048.Idx) : iblk m c 0 t y
    = ((m ((c : Thread nD τ).loc main_arg0)) : FVec Ideal S2x256x2048 .f32) (place t y) := by
  have e : ((cfg0.win 0).blk t).view.emb y = ((cfg0.win 4).blk t).view.emb y := by blk_ext [idx t]
  unfold iblk
  rw [View.read_apply, entry_0, cast_eq, e]
  rfl

/-- Operand 1 when the call begins. -/
theorem entry_1 (c : Dev nD) : V m c (Pipeline.arrRef spec0 1)
    = (shapeCast S512x2048 ((m ((c : Thread nD τ).loc main_arg1)) : FVec Ideal S2x256x2048 .f32) shapeCasts_S2x256x2048_S512x2048 : FVec Ideal S512x2048 .f32) := by
  entry_read
  rfl

/-- A staged block of operand 1, as a read of the argument. -/
theorem blk_1 (c : Dev nD) (t : Fin cfg0.N) (y : S256x2048.Idx) : iblk m c 1 t y
    = ((m ((c : Thread nD τ).loc main_arg1)) : FVec Ideal S2x256x2048 .f32) (place t y) := by
  have e : ((cfg0.win 1).blk t).view.emb y = ((cfg0.win 4).blk t).view.emb y := by blk_ext [idx t]
  unfold iblk
  rw [View.read_apply, entry_1, cast_eq, e]
  rfl

/-- Operand 2 when the call begins. -/
theorem entry_2 (c : Dev nD) : V m c (Pipeline.arrRef spec0 2)
    = (shapeCast S512x2048 ((m ((c : Thread nD τ).loc main_arg2)) : FVec Ideal S2x256x2048 .f32) shapeCasts_S2x256x2048_S512x2048 : FVec Ideal S512x2048 .f32) := by
  entry_read
  rfl

/-- A staged block of operand 2, as a read of the argument. -/
theorem blk_2 (c : Dev nD) (t : Fin cfg0.N) (y : S256x2048.Idx) : iblk m c 2 t y
    = ((m ((c : Thread nD τ).loc main_arg2)) : FVec Ideal S2x256x2048 .f32) (place t y) := by
  have e : ((cfg0.win 2).blk t).view.emb y = ((cfg0.win 4).blk t).view.emb y := by blk_ext [idx t]
  unfold iblk
  rw [View.read_apply, entry_2, cast_eq, e]
  rfl

/-- Operand 3 when the call begins. -/
theorem entry_3 (c : Dev nD) : V m c (Pipeline.arrRef spec0 3)
    = (shapeCast S512x2048 ((m ((c : Thread nD τ).loc main_arg3)) : FVec Ideal S2x256x2048 .f32) shapeCasts_S2x256x2048_S512x2048 : FVec Ideal S512x2048 .f32) := by
  entry_read
  rfl

/-- A staged block of operand 3, as a read of the argument. -/
theorem blk_3 (c : Dev nD) (t : Fin cfg0.N) (y : S256x2048.Idx) : iblk m c 3 t y
    = ((m ((c : Thread nD τ).loc main_arg3)) : FVec Ideal S2x256x2048 .f32) (place t y) := by
  have e : ((cfg0.win 3).blk t).view.emb y = ((cfg0.win 4).blk t).view.emb y := by blk_ext [idx t]
  unfold iblk
  rw [View.read_apply, entry_3, cast_eq, e]
  rfl

/-- The payload stored for the new first moment, at an index where the blocks hold the arrays' entries. -/
theorem pay_m (x1 x2 : FVec Ideal S256x2048 .f32) (G M : FVec Ideal S2x256x2048 .f32) (y : S256x2048.Idx) (j : S2x256x2048.Idx)
    (h1 : x1 y = G j) (h2 : x2 y = M j) :
    k0_pay2 x1 x2 y = MOM G M j := by
  pointwise [k0_pay2, k0_pay1, MOM]
  simp only [h1, h2]

/-- What grid point `t` stores for the new first moment at block index `y`. -/
theorem point_m (c : Dev nD) (t : Fin cfg0.N) (y : S256x2048.Idx) : k0_pay2 (iblk m c 1 t) (iblk m c 2 t) y
    = MOM (m ((c : Thread nD τ).loc main_arg1)) (m ((c : Thread nD τ).loc main_arg2)) (place t y) :=
  pay_m _ _ _ _ y _ (blk_1 m c t y) (blk_2 m c t y)

/-- The payload stored for the new second moment, at an index where the blocks hold the arrays' entries. -/
theorem pay_v (x1 x3 : FVec Ideal S256x2048 .f32) (G V : FVec Ideal S2x256x2048 .f32) (y : S256x2048.Idx) (j : S2x256x2048.Idx)
    (h1 : x1 y = G j) (h3 : x3 y = V j) :
    k0_pay3 x1 x3 y = VEL G V j := by
  pointwise [k0_pay3, k0_pay1, VEL]
  simp only [h1, h3]

/-- What grid point `t` stores for the new second moment at block index `y`. -/
theorem point_v (c : Dev nD) (t : Fin cfg0.N) (y : S256x2048.Idx) : k0_pay3 (iblk m c 1 t) (iblk m c 3 t) y
    = VEL (m ((c : Thread nD τ).loc main_arg1)) (m ((c : Thread nD τ).loc main_arg3)) (place t y) :=
  pay_v _ _ _ _ y _ (blk_1 m c t y) (blk_3 m c t y)

/-- The payload stored for the change of the weight, at an index where the blocks hold the arrays' entries. -/
theorem pay_delta (x0 x1 x2 x3 : FVec Ideal S256x2048 .f32) (W G M V : FVec Ideal S2x256x2048 .f32) (y : S256x2048.Idx) (j : S2x256x2048.Idx)
    (h0 : x0 y = W j) (h1 : x1 y = G j) (h2 : x2 y = M j) (h3 : x3 y = V j) :
    k0_pay4 x0 x1 x2 x3 y = DELTA W G M V j := by
  pointwise [k0_pay4, k0_pay3, k0_pay2, k0_pay1, DELTA]
  simp only [h0, h1, h2, h3]

/-- What grid point `t` stores for the change of the weight at block index `y`. -/
theorem point_delta (c : Dev nD) (t : Fin cfg0.N) (y : S256x2048.Idx) : k0_pay4 (iblk m c 0 t) (iblk m c 1 t) (iblk m c 2 t) (iblk m c 3 t) y
    = DELTA (m ((c : Thread nD τ).loc main_arg0)) (m ((c : Thread nD τ).loc main_arg1)) (m ((c : Thread nD τ).loc main_arg2)) (m ((c : Thread nD τ).loc main_arg3)) (place t y) :=
  pay_delta _ _ _ _ _ _ _ _ y _ (blk_0 m c t y) (blk_1 m c t y) (blk_2 m c t y) (blk_3 m c t y)

/-- The array of the new first moment after the call is the reference's. -/
theorem final_m (c : Dev nD) : (dats m 0 c).arrAt 5 (cfgs 0).N
    = shapeCast Cert.Reference20Ideal.S512x2048 (MOM (m ((c : Thread nD τ).loc main_arg1)) (m ((c : Thread nD τ).loc main_arg2))) Cert.Reference20Ideal.Gen.shapeCasts_S2x256x2048_S512x2048 := by
  refine (dats m 0 c).arrAt_eq_of_covers 5 _ (by decide +kernel) fun t _ y => ?_
  have e : ((cfg0.win 5).blk t).view.emb y = ((cfg0.win 4).blk t).view.emb y := by blk_ext [idx t]
  blk_simp
  rw [after0_5]; frame_out
  rw [point_m m c t y, e]
  rfl

/-- The array of the new second moment after the call is the reference's. -/
theorem final_v (c : Dev nD) : (dats m 0 c).arrAt 6 (cfgs 0).N
    = shapeCast Cert.Reference20Ideal.S512x2048 (VEL (m ((c : Thread nD τ).loc main_arg1)) (m ((c : Thread nD τ).loc main_arg3))) Cert.Reference20Ideal.Gen.shapeCasts_S2x256x2048_S512x2048 := by
  refine (dats m 0 c).arrAt_eq_of_covers 6 _ (by decide +kernel) fun t _ y => ?_
  have e : ((cfg0.win 6).blk t).view.emb y = ((cfg0.win 4).blk t).view.emb y := by blk_ext [idx t]
  blk_simp
  rw [after0_6]; frame_out
  rw [point_v m c t y, e]
  rfl

/-- The array of the change of the weight after the call is the reference's. -/
theorem final_delta (c : Dev nD) : (dats m 0 c).arrAt 4 (cfgs 0).N
    = shapeCast Cert.Reference20Ideal.S512x2048 (DELTA (m ((c : Thread nD τ).loc main_arg0)) (m ((c : Thread nD τ).loc main_arg1)) (m ((c : Thread nD τ).loc main_arg2)) (m ((c : Thread nD τ).loc main_arg3))) Cert.Reference20Ideal.Gen.shapeCasts_S2x256x2048_S512x2048 := by
  refine (dats m 0 c).arrAt_eq_of_covers 4 _ (by decide +kernel) fun t _ y => ?_
  have e : ((cfg0.win 4).blk t).view.emb y = ((cfg0.win 4).blk t).view.emb y := by blk_ext [idx t]
  blk_simp
  rw [after0_4]; frame_out
  rw [point_delta m c t y, e]
  rfl

end Cert.Kernel20Ideal.Value

end
-- ==== Proof.ClaimAdamOddOut.lean ====
/- The value claim of the optimiser's step of the odd layers' output weight: its kernel and its reference end with equal results. -/
module

public import proofs.«01_k».proof.Defs
public import proofs.«01_k».proof.Proof.AdamOddOut
public import Idealize.ShloMosaic.Lib.Claim

@[expose] public section

set_option maxRecDepth 16384

noncomputable section

namespace Cert.Proof

open Idealize.ShloMosaic Idealize.SL.Sem

/-- The optimiser's step of the odd layers' output weight: over the extended reals the kernel computes what its reference computes. -/
theorem algebraic20 : Cert.algebraic_Kernel20Ideal_Reference20Ideal (hKernel20Ideal := Cert.Kernel20Ideal.Gen.facts)
    (hReference20Ideal := Cert.Reference20Ideal.Gen.facts) := by
  pair_intro
  · run_from Cert.Kernel20Ideal.Gen.run_main m g
  · hlo_run
    · exact (Cert.Kernel20Ideal.Value.final_delta m c).symm
    · exact (Cert.Kernel20Ideal.Value.final_m m c).symm
    · exact (Cert.Kernel20Ideal.Value.final_v m c).symm

end Cert.Proof

end
-- ==== Proof.AdamGlu.lean ====
/- The optimiser's step of the gate's weight (`Kernel21`): the three result arrays of the call, the change of
   the weight and its two new moments, are the reference's terms of the arguments. -/
module

public import proofs.«01_k».proof.Proof.Gen.Kernel21Ideal.Frame
public import proofs.«01_k».proof.Proof.Gen.Reference21Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel21Ideal.Value

open Cert.Kernel21Ideal Cert.Kernel21Ideal.Gen

variable (m : (ℓ : Loc nD τ sig) → Buf (Elt Ideal) ℓ)

/-- The block every window stages at grid point `t`: rows `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] :=
  (by decide +kernel : ∀ t : Fin grid0.N, _)

/-- The reference's new first moment. -/
abbrev MOM (G M : FVec Ideal S2x1024x128 .f32) : FVec Ideal S2x1024x128 .f32 :=
  addf (mulf (broadcastInDim Cert.Reference21Ideal.S2x1024x128 ![] Cert.Reference21Ideal.Gen.bcast_S_S2x1024x128 (constant Cert.Reference21Ideal.S_ .f32 0x3F666666#32)) M)
    (mulf (broadcastInDim Cert.Reference21Ideal.S2x1024x128 ![] Cert.Reference21Ideal.Gen.bcast_S_S2x1024x128 (constant Cert.Reference21Ideal.S_ .f32 0x3DCCCCCD#32)) G)

/-- The reference's new second moment. -/
abbrev VEL (G V : FVec Ideal S2x1024x128 .f32) : FVec Ideal S2x1024x128 .f32 :=
  addf (mulf (broadcastInDim Cert.Reference21Ideal.S2x1024x128 ![] Cert.Reference21Ideal.Gen.bcast_S_S2x1024x128 (constant Cert.Reference21Ideal.S_ .f32 0x3F7FBE77#32)) V)
    (mulf (broadcastInDim Cert.Reference21Ideal.S2x1024x128 ![] Cert.Reference21Ideal.Gen.bcast_S_S2x1024x128 (constant Cert.Reference21Ideal.S_ .f32 0x3A83126F#32)) (mulf G G))

/-- The reference's change of the weight. -/
abbrev DELTA (W G M V : FVec Ideal S2x1024x128 .f32) : FVec Ideal S2x1024x128 .f32 :=
  mulf (broadcastInDim Cert.Reference21Ideal.S2x1024x128 ![] Cert.Reference21Ideal.Gen.bcast_S_S2x1024x128 (constant Cert.Reference21Ideal.S_ .f32 0xBA83126F#32))
    (addf (Host.divf (Host.divf (MOM G M) (broadcastInDim Cert.Reference21Ideal.S2x1024x128 ![] Cert.Reference21Ideal.Gen.bcast_S_S2x1024x128 (constant Cert.Reference21Ideal.S_ .f32 0x3F26BD02#32)))
        (addf (Host.sqrt (Host.divf (VEL G V) (broadcastInDim Cert.Reference21Ideal.S2x1024x128 ![] Cert.Reference21Ideal.Gen.bcast_S_S2x1024x128 (constant Cert.Reference21Ideal.S_ .f32 0x3C231ACC#32))))
          (broadcastInDim Cert.Reference21Ideal.S2x1024x128 ![] Cert.Reference21Ideal.Gen.bcast_S_S2x1024x128 (constant Cert.Reference21Ideal.S_ .f32 0x322BCC77#32))))
      (mulf (broadcastInDim Cert.Reference21Ideal.S2x1024x128 ![] Cert.Reference21Ideal.Gen.bcast_S_S2x1024x128 (constant Cert.Reference21Ideal.S_ .f32 0x3C23D70A#32)) W))

/-- The index of the weight that block index `y` of grid point `t` stands for. -/
abbrev place (t : Fin cfg0.N) (y : S256x128.Idx) : S2x1024x128.Idx :=
  Shape.reshapeEquiv shapeCasts_S2x1024x128_S2048x128 (((cfg0.win 4).blk t).view.emb y)

/-- Operand 0 when the call begins. -/
theorem entry_0 (c : Dev nD) : V m c (Pipeline.arrRef spec0 0)
    = (shapeCast S2048x128 ((m ((c : Thread nD τ).loc main_arg0)) : FVec Ideal S2x1024x128 .f32) shapeCasts_S2x1024x128_S2048x128 : FVec Ideal S2048x128 .f32) := by
  entry_read
  rfl

/-- A staged block of operand 0, as a read of the argument. -/
theorem blk_0 (c : Dev nD) (t : Fin cfg0.N) (y : S256x128.Idx) : iblk m c 0 t y
    = ((m ((c : Thread nD τ).loc main_arg0)) : FVec Ideal S2x1024x128 .f32) (place t y) := by
  have e : ((cfg0.win 0).blk t).view.emb y = ((cfg0.win 4).blk t).view.emb y := by blk_ext [idx t]
  unfold iblk
  rw [View.read_apply, entry_0, cast_eq, e]
  rfl

/-- Operand 1 when the call begins. -/
theorem entry_1 (c : Dev nD) : V m c (Pipeline.arrRef spec0 1)
    = (shapeCast S2048x128 ((m ((c : Thread nD τ).loc main_arg1)) : FVec Ideal S2x1024x128 .f32) shapeCasts_S2x1024x128_S2048x128 : FVec Ideal S2048x128 .f32) := by
  entry_read
  rfl

/-- A staged block of operand 1, as a read of the argument. -/
theorem blk_1 (c : Dev nD) (t : Fin cfg0.N) (y : S256x128.Idx) : iblk m c 1 t y
    = ((m ((c : Thread nD τ).loc main_arg1)) : FVec Ideal S2x1024x128 .f32) (place t y) := by
  have e : ((cfg0.win 1).blk t).view.emb y = ((cfg0.win 4).blk t).view.emb y := by blk_ext [idx t]
  unfold iblk
  rw [View.read_apply, entry_1, cast_eq, e]
  rfl

/-- Operand 2 when the call begins. -/
theorem entry_2 (c : Dev nD) : V m c (Pipeline.arrRef spec0 2)
    = (shapeCast S2048x128 ((m ((c : Thread nD τ).loc main_arg2)) : FVec Ideal S2x1024x128 .f32) shapeCasts_S2x1024x128_S2048x128 : FVec Ideal S2048x128 .f32) := by
  entry_read
  rfl

/-- A staged block of operand 2, as a read of the argument. -/
theorem blk_2 (c : Dev nD) (t : Fin cfg0.N) (y : S256x128.Idx) : iblk m c 2 t y
    = ((m ((c : Thread nD τ).loc main_arg2)) : FVec Ideal S2x1024x128 .f32) (place t y) := by
  have e : ((cfg0.win 2).blk t).view.emb y = ((cfg0.win 4).blk t).view.emb y := by blk_ext [idx t]
  unfold iblk
  rw [View.read_apply, entry_2, cast_eq, e]
  rfl

/-- Operand 3 when the call begins. -/
theorem entry_3 (c : Dev nD) : V m c (Pipeline.arrRef spec0 3)
    = (shapeCast S2048x128 ((m ((c : Thread nD τ).loc main_arg3)) : FVec Ideal S2x1024x128 .f32) shapeCasts_S2x1024x128_S2048x128 : FVec Ideal S2048x128 .f32) := by
  entry_read
  rfl

/-- A staged block of operand 3, as a read of the argument. -/
theorem blk_3 (c : Dev nD) (t : Fin cfg0.N) (y : S256x128.Idx) : iblk m c 3 t y
    = ((m ((c : Thread nD τ).loc main_arg3)) : FVec Ideal S2x1024x128 .f32) (place t y) := by
  have e : ((cfg0.win 3).blk t).view.emb y = ((cfg0.win 4).blk t).view.emb y := by blk_ext [idx t]
  unfold iblk
  rw [View.read_apply, entry_3, cast_eq, e]
  rfl

/-- The payload stored for the new first moment, at an index where the blocks hold the arrays' entries. -/
theorem pay_m (x1 x2 : FVec Ideal S256x128 .f32) (G M : FVec Ideal S2x1024x128 .f32) (y : S256x128.Idx) (j : S2x1024x128.Idx)
    (h1 : x1 y = G j) (h2 : x2 y = M j) :
    k0_pay2 x1 x2 y = MOM G M j := by
  pointwise [k0_pay2, k0_pay1, MOM]
  simp only [h1, h2]

/-- What grid point `t` stores for the new first moment at block index `y`. -/
theorem point_m (c : Dev nD) (t : Fin cfg0.N) (y : S256x128.Idx) : k0_pay2 (iblk m c 1 t) (iblk m c 2 t) y
    = MOM (m ((c : Thread nD τ).loc main_arg1)) (m ((c : Thread nD τ).loc main_arg2)) (place t y) :=
  pay_m _ _ _ _ y _ (blk_1 m c t y) (blk_2 m c t y)

/-- The payload stored for the new second moment, at an index where the blocks hold the arrays' entries. -/
theorem pay_v (x1 x3 : FVec Ideal S256x128 .f32) (G V : FVec Ideal S2x1024x128 .f32) (y : S256x128.Idx) (j : S2x1024x128.Idx)
    (h1 : x1 y = G j) (h3 : x3 y = V j) :
    k0_pay3 x1 x3 y = VEL G V j := by
  pointwise [k0_pay3, k0_pay1, VEL]
  simp only [h1, h3]

/-- What grid point `t` stores for the new second moment at block index `y`. -/
theorem point_v (c : Dev nD) (t : Fin cfg0.N) (y : S256x128.Idx) : k0_pay3 (iblk m c 1 t) (iblk m c 3 t) y
    = VEL (m ((c : Thread nD τ).loc main_arg1)) (m ((c : Thread nD τ).loc main_arg3)) (place t y) :=
  pay_v _ _ _ _ y _ (blk_1 m c t y) (blk_3 m c t y)

/-- The payload stored for the change of the weight, at an index where the blocks hold the arrays' entries. -/
theorem pay_delta (x0 x1 x2 x3 : FVec Ideal S256x128 .f32) (W G M V : FVec Ideal S2x1024x128 .f32) (y : S256x128.Idx) (j : S2x1024x128.Idx)
    (h0 : x0 y = W j) (h1 : x1 y = G j) (h2 : x2 y = M j) (h3 : x3 y = V j) :
    k0_pay4 x0 x1 x2 x3 y = DELTA W G M V j := by
  pointwise [k0_pay4, k0_pay3, k0_pay2, k0_pay1, DELTA]
  simp only [h0, h1, h2, h3]

/-- What grid point `t` stores for the change of the weight at block index `y`. -/
theorem point_delta (c : Dev nD) (t : Fin cfg0.N) (y : S256x128.Idx) : k0_pay4 (iblk m c 0 t) (iblk m c 1 t) (iblk m c 2 t) (iblk m c 3 t) y
    = DELTA (m ((c : Thread nD τ).loc main_arg0)) (m ((c : Thread nD τ).loc main_arg1)) (m ((c : Thread nD τ).loc main_arg2)) (m ((c : Thread nD τ).loc main_arg3)) (place t y) :=
  pay_delta _ _ _ _ _ _ _ _ y _ (blk_0 m c t y) (blk_1 m c t y) (blk_2 m c t y) (blk_3 m c t y)

/-- The array of the new first moment after the call is the reference's. -/
theorem final_m (c : Dev nD) : (dats m 0 c).arrAt 5 (cfgs 0).N
    = shapeCast Cert.Reference21Ideal.S2048x128 (MOM (m ((c : Thread nD τ).loc main_arg1)) (m ((c : Thread nD τ).loc main_arg2))) Cert.Reference21Ideal.Gen.shapeCasts_S2x1024x128_S2048x128 := by
  refine (dats m 0 c).arrAt_eq_of_covers 5 _ (by decide +kernel) fun t _ y => ?_
  have e : ((cfg0.win 5).blk t).view.emb y = ((cfg0.win 4).blk t).view.emb y := by blk_ext [idx t]
  blk_simp
  rw [after0_5]; frame_out
  rw [point_m m c t y, e]
  rfl

/-- The array of the new second moment after the call is the reference's. -/
theorem final_v (c : Dev nD) : (dats m 0 c).arrAt 6 (cfgs 0).N
    = shapeCast Cert.Reference21Ideal.S2048x128 (VEL (m ((c : Thread nD τ).loc main_arg1)) (m ((c : Thread nD τ).loc main_arg3))) Cert.Reference21Ideal.Gen.shapeCasts_S2x1024x128_S2048x128 := by
  refine (dats m 0 c).arrAt_eq_of_covers 6 _ (by decide +kernel) fun t _ y => ?_
  have e : ((cfg0.win 6).blk t).view.emb y = ((cfg0.win 4).blk t).view.emb y := by blk_ext [idx t]
  blk_simp
  rw [after0_6]; frame_out
  rw [point_v m c t y, e]
  rfl

/-- The array of the change of the weight after the call is the reference's. -/
theorem final_delta (c : Dev nD) : (dats m 0 c).arrAt 4 (cfgs 0).N
    = shapeCast Cert.Reference21Ideal.S2048x128 (DELTA (m ((c : Thread nD τ).loc main_arg0)) (m ((c : Thread nD τ).loc main_arg1)) (m ((c : Thread nD τ).loc main_arg2)) (m ((c : Thread nD τ).loc main_arg3))) Cert.Reference21Ideal.Gen.shapeCasts_S2x1024x128_S2048x128 := by
  refine (dats m 0 c).arrAt_eq_of_covers 4 _ (by decide +kernel) fun t _ y => ?_
  have e : ((cfg0.win 4).blk t).view.emb y = ((cfg0.win 4).blk t).view.emb y := by blk_ext [idx t]
  blk_simp
  rw [after0_4]; frame_out
  rw [point_delta m c t y, e]
  rfl

end Cert.Kernel21Ideal.Value

end
-- ==== Proof.ClaimAdamGlu.lean ====
/- The value claim of the optimiser's step of the gate's weight: its kernel and its reference end with equal results. -/
module

public import proofs.«01_k».proof.Defs
public import proofs.«01_k».proof.Proof.AdamGlu
public import Idealize.ShloMosaic.Lib.Claim

@[expose] public section

set_option maxRecDepth 16384

noncomputable section

namespace Cert.Proof

open Idealize.ShloMosaic Idealize.SL.Sem

/-- The optimiser's step of the gate's weight: over the extended reals the kernel computes what its reference computes. -/
theorem algebraic21 : Cert.algebraic_Kernel21Ideal_Reference21Ideal (hKernel21Ideal := Cert.Kernel21Ideal.Gen.facts)
    (hReference21Ideal := Cert.Reference21Ideal.Gen.facts) := by
  pair_intro
  · run_from Cert.Kernel21Ideal.Gen.run_main m g
  · hlo_run
    · exact (Cert.Kernel21Ideal.Value.final_delta m c).symm
    · exact (Cert.Kernel21Ideal.Value.final_m m c).symm
    · exact (Cert.Kernel21Ideal.Value.final_v m c).symm

end Cert.Proof

end
-- ==== Proof.DownLast.lean ====
/- The channel mixer's second product at the last layer (`Kernel22`): the result array of the call is the reference's term of
   the arguments, the residual stream with `act · w_down` added. The call walks the contraction in four parts of 2048,
   adding each into a scratch buffer, for one half of the columns at a time. -/
module

public import proofs.«01_k».proof.Proof.Gen.Kernel22Ideal.Frame
public import proofs.«01_k».proof.Proof.Gen.Reference22Ideal
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel22Ideal.Value

open Cert.Kernel22Ideal Cert.Kernel22Ideal.Gen

variable (m : (ℓ : Loc nD τ sig) → Buf (Elt Ideal) ℓ)

/-- The block every window stages at grid point `t`: rows `t / 8`, half `t / 4 % 2` of the columns, part `t % 4` of the
    contraction. -/
theorem idx : ∀ t : Fin cfg0.N, win0_0.index t = ![t.val / 8, t.val % 4] ∧ win0_1.index t = ![t.val % 4, 0, t.val / 4 % 2]
    ∧ win0_2.index t = ![t.val / 8, t.val / 4 % 2] ∧ win0_3.index t = ![t.val / 8, t.val / 4 % 2] :=
  (by decide +kernel : ∀ t : Fin grid0.N, _)

/-- The reference's product. -/
abbrev DOT (X : FVec Ideal S4096x8192 .f32) (W : FVec Ideal S8192x2048 .f32) : FVec Ideal S4096x2048 .f32 :=
  Host.dotGeneral (F := Ideal) Cert.Reference22Ideal.dot_S4096x8192_S8192x2048_S4096x2048_1_0_0_1_n_n none X W

/-- The residual stream after the product is added. -/
abbrev OUT (X : FVec Ideal S4096x8192 .f32) (W : FVec Ideal S8192x2048 .f32) (H : FVec Ideal S4096x2048 .f32) :
    FVec Ideal S4096x2048 .f32 := addf H (DOT X W)

/-- The part of the product one grid point computes. -/
theorem pay_first (x0 : FVec Ideal S512x2048 .bf16) (x1 : FVec Ideal S1x2048x1024 .bf16) (j) :
    k0_pay2 (F := Ideal) x0 x1 j = 0 + ∑ k : Fin 2048, x0 (ix2 (j 0) k) * x1 (ix3 0 k (j 1)) := by
  pointwise [k0_pay2, k0_pay1]

/-- A later grid point adds its part to what the scratch buffer holds. -/
theorem pay_step (x0 : FVec Ideal S512x2048 .bf16) (x1 : FVec Ideal S1x2048x1024 .bf16) (acc : FVec Ideal S512x1024 .f32) (j) :
    k0_pay3 (F := Ideal) x0 x1 acc j = acc j + ∑ k : Fin 2048, x0 (ix2 (j 0) k) * x1 (ix3 0 k (j 1)) := by
  pointwise [k0_pay3, k0_pay1]

/-- The reference's product, as one sum. -/
theorem dot_sum (X : FVec Ideal S4096x8192 .f32) (W : FVec Ideal S8192x2048 .f32) (j) :
    DOT X W j = ∑ l : Fin 8192, X (ix2 (j 0) l) * W (ix2 l (j 1)) := by
  pointwise [DOT]

/-- What the last point of a run stores in the result's block: the scratch buffer's contents and the residual block. -/
theorem out3 (c : Dev nD) (t : Fin cfg0.N) (h : t.val % 4 = 3) :
    (outsAt0 m c t.val t.isLt).1 = k0_pay4 (outsAt0 m c t.val t.isLt).2 (iblk m c 2 t) := by
  rw [outsAt0_C m c t (by omega) (by omega) h]
  frame_out

/-- What the first point of a run leaves in the scratch buffer. -/
theorem scr_first (c : Dev nD) (t : Fin cfg0.N) (h : t.val % 4 = 0) :
    (outsAt0 m c t.val t.isLt).2 = k0_pay2 (iblk m c 0 t) (iblk m c 1 t) := by
  rw [outsAt0_A m c t h (by omega) (by omega)]
  frame_out

/-- What a later point leaves there. -/
theorem scr_step (c : Dev nD) (t : Fin cfg0.N) (h : ¬t.val % 4 = 0) :
    (outsAt0 m c t.val t.isLt).2 = k0_pay3 (iblk m c 0 t) (iblk m c 1 t)
      (outsAt0 m c (t.val - 1) (Nat.lt_of_le_of_lt (Nat.sub_le _ _) t.isLt)).2 := by
  by_cases h3 : t.val % 4 = 3
  · rw [outsAt0_C m c t h (by omega) h3]; frame_out; simp only [read_unread_whole]
  · rw [outsAt0_B m c t h (by omega) h3]; frame_out; simp only [read_unread_whole]

/-- One point's part of the product, at a place of the block. -/
abbrev part (c : Dev nD) (p : Fin cfg0.N) (j : S512x1024.Idx) : EReal :=
  ∑ k : Fin 2048, (show FVec Ideal S512x2048 .bf16 from iblk m c 0 p) (ix2 (j 0) k)
      * (show FVec Ideal S1x2048x1024 .bf16 from iblk m c 1 p) (ix3 0 k (j 1))

/-- The scratch buffer at the last point of a run is the sum of the four parts. -/
theorem scratch_sum (c : Dev nD) (t : Fin cfg0.N) (h : t.val % 4 = 3) (y : S512x1024.Idx) :
    (outsAt0 m c t.val t.isLt).2 y
      = 0 + ∑ s : Fin 4, part m c ⟨4 * (t.val / 4) + s.val, Pipeline.run_point_lt_of_flush t h s⟩ y :=
  Pipeline.eq_sum_fin_of_reset_step_apply_of_flush (fun n h => (outsAt0 m c n h).2) 4 (fun _ => 0) (part m c)
    (fun t h j => (congrFun (scr_first m c t h) j).trans (pay_first _ _ j))
    (fun t h j => (congrFun (scr_step m c t h) j).trans (pay_step _ _ _ j))
    t h y

/-- Eight blocks of rows, read at an index. -/
theorem cast8 (X : FVec Ideal S8192x2048 .bf16) (a : Fin 8) (k : Fin 1024) (j : Fin 2048) :
    shapeCast S8x1024x2048 X shapeCasts_S8192x2048_S8x1024x2048 (ix3 a k j) = X (ix2 ⟨a.val * 1024 + k.val, by omega⟩ j) := by
  pointwise

/-- Two neighbouring blocks taken as one, read at an index. -/
theorem cast4 (X : FVec Ideal S8x1024x2048 .bf16) (a : Fin 4) (k : Fin 2048) (j : Fin 2048) :
    shapeCast S4x2048x2048 X shapeCasts_S8x1024x2048_S4x2048x2048 (ix3 a k j)
      = X (ix3 ⟨a.val * 2 + k.val / 1024, by omega⟩ ⟨k.val % 1024, by omega⟩ j) :=
  congrArg X (Shape.reshapeEquiv_eq_of_vals _ _ _ _ _ (rowMajor_val3 _ 2097152 2048 (by decide +kernel) (by decide +kernel))
    (rowMajor_val3 _ 4194304 2048 (by decide +kernel) (by decide +kernel)) (by
      show (a.val * 2 + k.val / 1024) * 2097152 + k.val % 1024 * 2048 + j.val = a.val * 4194304 + k.val * 2048 + j.val
      omega))

/-- The weight operand when the call begins. -/
theorem entry_w (c : Dev nD) : V m c (Pipeline.arrRef spec0 1) = (shapeCast S4x2048x2048 (shapeCast S8x1024x2048
      (truncf (F := Ideal) .bf16 (m ((c : Thread nD τ).loc main_arg1) : FVec Ideal S8192x2048 .f32) bitsLt_bf16_f32)
      shapeCasts_S8192x2048_S8x1024x2048) shapeCasts_S8x1024x2048_S4x2048x2048 : FVec Ideal S4x2048x2048 .bf16) := by
  entry_read
  rfl

/-- A staged block of the weight, as a read of the operand. -/
theorem read_w (c : Dev nD) (p : Fin cfg0.N) (x : S1x2048x1024.Idx) : iblk m c 1 p x
    = (shapeCast S4x2048x2048 (shapeCast S8x1024x2048
      (truncf (F := Ideal) .bf16 (m ((c : Thread nD τ).loc main_arg1) : FVec Ideal S8192x2048 .f32) bitsLt_bf16_f32)
      shapeCasts_S8192x2048_S8x1024x2048) shapeCasts_S8x1024x2048_S4x2048x2048 : FVec Ideal S4x2048x2048 .bf16) (((cfg0.win 1).blk p).view.emb x) := by
  unfold iblk
  rw [View.read_apply, entry_w, cast_eq]

/-- The array's column that column `j` of grid point `t`'s block is. -/
abbrev col (t : Fin cfg0.N) (j : Fin 1024) : Fin 2048 :=
  ⟨t.val / 4 % 2 * 1024 + j.val, by omega⟩

/-- A staged block of the weight, as a read of the argument. -/
theorem blk_w (c : Dev nD) (p : Fin cfg0.N) (k : Fin 2048) (j : Fin 1024) (hl : p.val % 4 * 2048 + k.val < 8192) :
    iblk m c 1 p (ix3 0 k j)
      = (m ((c : Thread nD τ).loc main_arg1) : FVec Ideal S8192x2048 .f32) (ix2 ⟨p.val % 4 * 2048 + k.val, hl⟩ (col p j)) := by
  have e : ((cfg0.win 1).blk p).view.emb (ix3 0 k j) = ix3 ⟨p.val % 4, Nat.mod_lt _ (by decide)⟩ k (col p j) := by
    blk_ext [idx p]
  rw [read_w, e, cast4, cast8]
  refine congrArg (fun i : Fin 8192 => (m ((c : Thread nD τ).loc main_arg1) : FVec Ideal S8192x2048 .f32) (ix2 i (col p j))) (Fin.ext ?_)
  show (p.val % 4 * 2 + k.val / 1024) * 1024 + k.val % 1024 = p.val % 4 * 2048 + k.val
  omega

/-- The array's row that row `r` of grid point `t`'s block is. -/
abbrev row (t : Fin cfg0.N) (r : Fin 512) : Fin 4096 :=
  ⟨t.val / 8 * 512 + r.val, by have : t.val < 64 := lt_of_lt_of_eq t.isLt N_0; omega⟩

/-- The scratch buffer at the last point of a run holds the product, at the array index its place has. -/
theorem scratch (c : Dev nD) (t : Fin cfg0.N) (h : t.val % 4 = 3) (y : S512x1024.Idx) :
    (outsAt0 m c t.val t.isLt).2 y
      = DOT (m ((c : Thread nD τ).loc main_arg0)) (m ((c : Thread nD τ).loc main_arg1))
          (ix2 (row t (y 0)) (col t (y 1))) := by
  rw [scratch_sum m c t h y, zero_add, dot_sum]
  refine Fin.sum_mul_add_congr fun s k hl => ?_
  have hp : (⟨4 * (t.val / 4) + s.val, Pipeline.run_point_lt_of_flush t h s⟩ : Fin cfg0.N).val % 4 = s.val := by
    show (4 * (t.val / 4) + s.val) % 4 = s.val
    omega
  have hq : col (⟨4 * (t.val / 4) + s.val, Pipeline.run_point_lt_of_flush t h s⟩ : Fin cfg0.N) (y 1) = col t (y 1) := by
    refine Fin.ext ?_
    show (4 * (t.val / 4) + s.val) / 4 % 2 * 1024 + (y 1).val = t.val / 4 % 2 * 1024 + (y 1).val
    have : (4 * (t.val / 4) + s.val) / 4 = t.val / 4 := by omega
    rw [this]
  refine congrArg₂ (· * ·) ?_ ((blk_w m c _ k (y 1) (by rw [hp]; exact hl)).trans (by simp only [hp, hq]; rfl))
  blk_point [iblk, V, idx t, idx ⟨_, Pipeline.run_point_lt_of_flush t h s⟩]

/-- The result's block at the last point of a run. -/
theorem point_out (c : Dev nD) (t : Fin cfg0.N) (h : t.val % 4 = 3) (y : S512x1024.Idx) : (outsAt0 m c t.val t.isLt).1 y
    = OUT (m ((c : Thread nD τ).loc main_arg0)) (m ((c : Thread nD τ).loc main_arg1)) (m ((c : Thread nD τ).loc main_arg2))
          (ix2 (row t (y 0)) (col t (y 1))) := by
  rw [out3 m c t h]
  show (outsAt0 m c t.val t.isLt).2 y + iblk m c 2 t y = _ + DOT _ _ _
  rw [scratch m c t h, add_comm]
  refine congrArg (· + _) ?_
  blk_point [iblk, V, idx t]

/-- The result array after the call is the residual stream with the product added. -/
theorem final (c : Dev nD) : (dats m 0 c).arrAt 3 (cfgs 0).N
    = OUT (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, point_out m c t ((flush0_3 t).mp hf)]
  blk_ext [idx t]

end Cert.Kernel22Ideal.Value

end
-- ==== Proof.ClaimDownLast.lean ====
/- The value claim of the last layer's down projection: its kernel and its reference end with equal results. -/
module

public import proofs.«01_k».proof.Defs
public import proofs.«01_k».proof.Proof.DownLast
public import Idealize.ShloMosaic.Lib.Claim

@[expose] public section

set_option maxRecDepth 16384

noncomputable section

namespace Cert.Proof

open Idealize.ShloMosaic Idealize.SL.Sem

/-- The last layer's down projection: over the extended reals the kernel computes what its reference computes. -/
theorem algebraic22 : Cert.algebraic_Kernel22Ideal_Reference22Ideal (hKernel22Ideal := Cert.Kernel22Ideal.Gen.facts)
    (hReference22Ideal := Cert.Reference22Ideal.Gen.facts) := by
  pair_intro
  · run_from Cert.Kernel22Ideal.Gen.run_main m g
  · hlo_run
    exact (Cert.Kernel22Ideal.Value.final m c).symm

end Cert.Proof

end
-- ==== Proof.DwGlu.lean ====
/- The gradient of the gate's weight (`Kernel23`): the result array of the call is the reference's `xᵀ · d`. -/
module

public import proofs.«01_k».proof.Proof.Gen.Kernel23Ideal.Frame
public import proofs.«01_k».proof.Proof.Gen.Reference23Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel23Ideal.Value

open Cert.Kernel23Ideal Cert.Kernel23Ideal.Gen

variable (m : (ℓ : Loc nD τ sig) → Buf (Elt Ideal) ℓ)

/-- The block every window stages at grid point `t`. -/
theorem idx : ∀ t : Fin cfg0.N, win0_0.index t = ![0, t.val / 1] ∧ win0_1.index t = ![0, t.val % 1]
    ∧ win0_2.index t = ![t.val / 1, t.val % 1] :=
  (by decide +kernel : ∀ t : Fin grid0.N, _)

/-- The reference's gradient of the weight. -/
abbrev DW (X : FVec Ideal S4096x1024 .f32) (D : FVec Ideal S4096x1024 .f32) : FVec Ideal S1024x1024 .bf16 :=
  truncf .bf16 (transpose Cert.Reference23Ideal.S1024x1024 [1, 0]
    (Host.dotGeneral (F := Ideal) Cert.Reference23Ideal.dot_S4096x1024_S4096x1024_S1024x1024_0_0_1_1_n_n none D X)
    Cert.Reference23Ideal.Gen.transposes_S1024x1024_S1024x1024_1_0)
    Cert.Reference23Ideal.Gen.bitsLt_bf16_f32

/-- What grid point `t` stores at block index `y` is the reference's term at the array index `y` sits at. -/
theorem point (c : Dev nD) (t : Fin cfg0.N) (y) : k0_pay1 (iblk m c 0 t) (iblk m c 1 t) y
    = DW (m ((c : Thread nD τ).loc main_arg0)) (m ((c : Thread nD τ).loc main_arg1)) (((cfg0.win 2).blk t).view.emb y) := by
  pointwise [k0_pay1, DW]
  refine Finset.sum_congr rfl fun x _ => (mul_comm _ _).trans ?_
  blk_point [iblk, V, idx t]

/-- The result array after the call is the reference's term. -/
theorem final (c : Dev nD) : (dats m 0 c).arrAt 2 (cfgs 0).N
    = DW (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel23Ideal.Value

end
-- ==== Proof.ClaimDwGlu.lean ====
/- The value claim of the gradient of the gate's weight: its kernel and its reference end with equal results. -/
module

public import proofs.«01_k».proof.Defs
public import proofs.«01_k».proof.Proof.DwGlu
public import Idealize.ShloMosaic.Lib.Claim

@[expose] public section

set_option maxRecDepth 16384

noncomputable section

namespace Cert.Proof

open Idealize.ShloMosaic Idealize.SL.Sem

/-- The gradient of the gate's weight: over the extended reals the kernel computes what its reference computes. -/
theorem algebraic23 : Cert.algebraic_Kernel23Ideal_Reference23Ideal (hKernel23Ideal := Cert.Kernel23Ideal.Gen.facts)
    (hReference23Ideal := Cert.Reference23Ideal.Gen.facts) := by
  pair_intro
  · run_from Cert.Kernel23Ideal.Gen.run_main m g
  · hlo_run
    exact (Cert.Kernel23Ideal.Value.final m c).symm

end Cert.Proof

end
-- ==== Proof.DxnIn.lean ====
/- The gradient through the first layers' input projection and its normalisation (`Kernel24`): the three result
   arrays of the call are the reference's terms of the arguments, the gradient of the rows before their normalisation (in
   both formats) and the gradient of the gain. The call walks the contraction in two parts, adding each into a scratch
   buffer, and adds each block of rows into the gain's block. -/
module

public import proofs.«01_k».proof.Proof.Gen.Kernel24Ideal.Frame
public import proofs.«01_k».proof.Proof.Gen.Reference24Ideal
public import proofs.«01_k».proof.Proof.RmsGrad
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel24Ideal.Value

open Cert.Kernel24Ideal Cert.Kernel24Ideal.Gen

variable (m : (ℓ : Loc nD τ sig) → Buf (Elt Ideal) ℓ)

/-- The block every window stages at grid point `t`: rows `t / 2`, half `t % 2` of the contraction. -/
theorem idx : ∀ t : Fin cfg0.N, win0_0.index t = ![t.val / 2, t.val % 2] ∧ win0_1.index t = ![0, t.val % 2]
    ∧ win0_2.index t = ![t.val / 2, 0] ∧ win0_3.index t = ![t.val / 2, 0] ∧ win0_4.index t = ![0, 0]
    ∧ win0_5.index t = ![t.val / 2, 0] ∧ win0_6.index t = ![t.val / 2, 0] ∧ win0_7.index t = ![0, 0] :=
  (by decide +kernel : ∀ t : Fin grid0.N, _)

/-- The reference's product with the transposed weight: the gradient of the normalised rows. -/
abbrev DOT (D : FVec Ideal S4096x5120 .f32) (W : FVec Ideal S2048x5120 .f32) : FVec Ideal S4096x2048 .f32 :=
  Host.dotGeneral (F := Ideal) Cert.Reference24Ideal.dot_S4096x5120_S2048x5120_S4096x2048_1_1_0_0_n_n none D W

/-- The mean of a row's squares, a small number added. -/
abbrev MS (H : FVec Ideal S4096x2048 .f32) : FVec Ideal Cert.Reference24Ideal.S4096x1 .f32 :=
  addf (Host.divf
    (broadcastInDim Cert.Reference24Ideal.S4096x1 ![0] Cert.Reference24Ideal.Gen.bcast_S4096_S4096x1_0
      (Host.reduceAdd (mulf H H) (constant Cert.Reference24Ideal.S_ .f32 0x00000000#32) Cert.Reference24Ideal.Gen.reducesTo_S4096x2048_S4096_d1 Cert.Reference24Ideal.Gen.h_S_))
    (broadcastInDim Cert.Reference24Ideal.S4096x1 ![] Cert.Reference24Ideal.Gen.bcast_S_S4096x1 (constant Cert.Reference24Ideal.S_ .f32 0x45000000#32)))
    (broadcastInDim Cert.Reference24Ideal.S4096x1 ![] Cert.Reference24Ideal.Gen.bcast_S_S4096x1 (constant Cert.Reference24Ideal.S_ .f32 0x358637BD#32))

/-- The rows divided by the root of that mean. -/
abbrev NRM (H : FVec Ideal S4096x2048 .f32) : FVec Ideal S4096x2048 .f32 :=
  mulf H (broadcastInDim Cert.Reference24Ideal.S4096x2048 ![0, 1] Cert.Reference24Ideal.Gen.bcast_S4096x1_S4096x2048_0_1 (Host.rsqrt (MS H)))

/-- The gradient of the normalised rows times the gain. -/
abbrev GX (X : FVec Ideal S4096x2048 .f32) (G : FVec Ideal S2048 .f32) : FVec Ideal S4096x2048 .f32 :=
  mulf X (broadcastInDim Cert.Reference24Ideal.S4096x2048 ![0, 1] Cert.Reference24Ideal.Gen.bcast_S1x2048_S4096x2048_0_1
    (broadcastInDim Cert.Reference24Ideal.S1x2048 ![1] Cert.Reference24Ideal.Gen.bcast_S2048_S1x2048_1 G))

/-- The factor of a row's correction: what the gradient owes to the mean of the squares. -/
abbrev CORR (X H : FVec Ideal S4096x2048 .f32) (G : FVec Ideal S2048 .f32) : FVec Ideal S4096x2048 .f32 :=
  broadcastInDim Cert.Reference24Ideal.S4096x2048 ![0] Cert.Reference24Ideal.Gen.bcast_S4096_S4096x2048_0
    (Host.reduceAdd (Host.divf (mulf
        (shapeCast Cert.Reference24Ideal.S4096x1 (Host.reduceAdd (mulf H (GX X G)) (constant Cert.Reference24Ideal.S_ .f32 0x00000000#32)
          Cert.Reference24Ideal.Gen.reducesTo_S4096x2048_S4096_d1 Cert.Reference24Ideal.Gen.h_S_) Cert.Reference24Ideal.Gen.shapeCasts_S4096_S4096x1)
        (mulf (broadcastInDim Cert.Reference24Ideal.S4096x1 ![] Cert.Reference24Ideal.Gen.bcast_S_S4096x1 (constant Cert.Reference24Ideal.S_ .f32 0xBF000000#32))
          (Host.divf (Host.rsqrt (MS H)) (MS H))))
      (broadcastInDim Cert.Reference24Ideal.S4096x1 ![] Cert.Reference24Ideal.Gen.bcast_S_S4096x1 (constant Cert.Reference24Ideal.S_ .f32 0x45000000#32)))
      (constant Cert.Reference24Ideal.S_ .f32 0x00000000#32) Cert.Reference24Ideal.Gen.reducesTo_S4096x1_S4096_d1 Cert.Reference24Ideal.Gen.h_S_)

/-- The gradient of the rows before the normalisation, from the gradient `X` after it, added to `D`. -/
abbrev DH (X H D : FVec Ideal S4096x2048 .f32) (G : FVec Ideal S2048 .f32) : FVec Ideal S4096x2048 .f32 :=
  addf (addf (addf D (mulf (GX X G) (broadcastInDim Cert.Reference24Ideal.S4096x2048 ![0, 1] Cert.Reference24Ideal.Gen.bcast_S4096x1_S4096x2048_0_1 (Host.rsqrt (MS H)))))
    (mulf H (CORR X H G))) (mulf (CORR X H G) H)

/-- The same, in the narrow format. -/
abbrev DHB (X H D : FVec Ideal S4096x2048 .f32) (G : FVec Ideal S2048 .f32) : FVec Ideal S4096x2048 .bf16 :=
  truncf .bf16 (DH X H D G) Cert.Reference24Ideal.Gen.bitsLt_bf16_f32

/-- The gradient of the gain. -/
abbrev DG (X H : FVec Ideal S4096x2048 .f32) : FVec Ideal S1x2048 .f32 :=
  shapeCast Cert.Reference24Ideal.S1x2048 (Host.reduceAdd
    (shapeCast Cert.Reference24Ideal.S1x2048 (Host.reduceAdd (mulf (NRM H) X) (constant Cert.Reference24Ideal.S_ .f32 0x00000000#32)
      Cert.Reference24Ideal.Gen.reducesTo_S4096x2048_S2048_d0 Cert.Reference24Ideal.Gen.h_S_) Cert.Reference24Ideal.Gen.shapeCasts_S2048_S1x2048)
    (constant Cert.Reference24Ideal.S_ .f32 0x00000000#32) Cert.Reference24Ideal.Gen.reducesTo_S1x2048_S2048_d0 Cert.Reference24Ideal.Gen.h_S_)
    Cert.Reference24Ideal.Gen.shapeCasts_S2048_S1x2048

/-- One entry of the gradient's row: what the kernel stores is the reference's, when the rows read are one. -/
theorem row_dx (A B C : FVec Ideal S256x2048 .f32) (G1 : FVec Ideal S1x2048 .f32) (X H D : FVec Ideal S4096x2048 .f32)
    (G : FVec Ideal S2048 .f32) (a : Fin 256) (b : Fin 2048) (r : Fin 4096)
    (hA : ∀ k : Fin 2048, A (ix2 a k) = X (ix2 r k)) (hB : ∀ k : Fin 2048, B (ix2 a k) = H (ix2 r k))
    (hC : C (ix2 a b) = D (ix2 r b)) (hG : ∀ k : Fin 2048, G1 (ix2 0 k) = G (ix1 k)) :
    k0_pay7 A B C G1 (ix2 a b) = DH X H D G (ix2 r b) := by
  pointwise [k0_pay7, k0_pay6, k0_pay5, DH, CORR, GX, MS]
  simp only [hA, hB, hC, hG, Fin.sum_univ_one, RmsGrad.lit_2048, RmsGrad.lit_half]
  exact RmsGrad.row (fun k => H (ix2 r k)) (fun k => X (ix2 r k) * G (ix1 k)) b _ _ 2048 (by norm_num)
    (RmsGrad.mean_pos_lit _)

/-- One entry of the gain's gradient before its sum over the rows. -/
abbrev TERM (X H : FVec Ideal S4096x2048 .f32) (r : Fin 4096) (b : Fin 2048) : EReal := NRM H (ix2 r b) * X (ix2 r b)

/-- The gain's gradient, as one sum over the rows. -/
theorem dg_sum (X H : FVec Ideal S4096x2048 .f32) (j) : DG X H j = ∑ r : Fin 4096, TERM X H r (j 1) := by
  pointwise [DG, TERM, NRM, MS]
  rw [Fin.sum_univ_one]

/-- The part of that sum one block of rows adds. -/
theorem dg_blk (A B : FVec Ideal S256x2048 .f32) (X H : FVec Ideal S4096x2048 .f32) (j : S1x2048.Idx) (r : Fin 256 → Fin 4096)
    (hA : ∀ a : Fin 256, A (ix2 a (j 1)) = X (ix2 (r a) (j 1))) (hB : ∀ (a : Fin 256) (k : Fin 2048), B (ix2 a k) = H (ix2 (r a) k)) :
    k0_pay8 (F := Ideal) A B j = ∑ a : Fin 256, TERM X H (r a) (j 1) := by
  pointwise [k0_pay8, k0_pay6, k0_pay5, TERM, NRM, MS]
  simp only [hA, hB]
  exact Finset.sum_congr rfl fun a _ => (mul_comm _ _).trans
    (congrArg₂ (· * ·) (congrArg₂ (· * ·) (hB a (j 1)) rfl) rfl)

/-- The part of the product one grid point computes. -/
theorem pay_first (x0 : FVec Ideal S256x2560 .bf16) (x1 : FVec Ideal S2048x2560 .bf16) (j) :
    k0_pay2 (F := Ideal) x0 x1 j = 0 + ∑ k : Fin 2560, x0 (ix2 (j 0) k) * x1 (ix2 (j 1) k) := by
  pointwise [k0_pay2, k0_pay1]

/-- A later grid point adds its part to what the scratch buffer holds. -/
theorem pay_step (x0 : FVec Ideal S256x2560 .bf16) (x1 : FVec Ideal S2048x2560 .bf16) (acc : FVec Ideal S256x2048 .f32) (j) :
    k0_pay3 (F := Ideal) x0 x1 acc j = acc j + ∑ k : Fin 2560, x0 (ix2 (j 0) k) * x1 (ix2 (j 1) k) := by
  pointwise [k0_pay3, k0_pay1]

/-- The reference's product, as one sum. -/
theorem dot_sum (X : FVec Ideal S4096x5120 .f32) (W : FVec Ideal S2048x5120 .f32) (j) :
    DOT X W j = ∑ l : Fin 5120, X (ix2 (j 0) l) * W (ix2 (j 1) l) := by
  pointwise [DOT]

/-- What the last point of a run stores in the first result's block. -/
theorem out5 (c : Dev nD) (t : Fin cfg0.N) (h : t.val % 2 = 1) :
    (outsAt0 m c t.val t.isLt).1 = k0_pay7 (outsAt0 m c t.val t.isLt).2.2.2 (iblk m c 2 t) (iblk m c 3 t) (iblk m c 4 t) := by
  by_cases h2 : t.val < 2
  · rw [outsAt0_B m c t (by omega) h h h2 (by omega)]; frame_out
  · rw [outsAt0_C m c t (by omega) h h h2 (by omega)]; frame_out

/-- What it stores in the second result's block. -/
theorem out6 (c : Dev nD) (t : Fin cfg0.N) (h : t.val % 2 = 1) :
    (outsAt0 m c t.val t.isLt).2.1 = k0_pay9 (outsAt0 m c t.val t.isLt).2.2.2 (iblk m c 2 t) (iblk m c 3 t) (iblk m c 4 t) := by
  by_cases h2 : t.val < 2
  · rw [outsAt0_B m c t (by omega) h h h2 (by omega)]; frame_out
  · rw [outsAt0_C m c t (by omega) h h h2 (by omega)]; frame_out

/-- What the last point of the first run stores in the gain's block. -/
theorem out7_first (c : Dev nD) (t : Fin cfg0.N) (h : t.val % 2 = 1) (h2 : t.val < 2) :
    (outsAt0 m c t.val t.isLt).2.2.1 = k0_pay8 (outsAt0 m c t.val t.isLt).2.2.2 (iblk m c 2 t) := by
  rw [outsAt0_B m c t (by omega) h h h2 (by omega)]; frame_out

/-- What the last point of a later run stores there: its part added to what is there. -/
theorem out7_step (c : Dev nD) (t : Fin cfg0.N) (h : t.val % 2 = 1) (h2 : ¬t.val < 2) :
    (outsAt0 m c t.val t.isLt).2.2.1 = k0_pay4 (k0_pay8 (outsAt0 m c t.val t.isLt).2.2.2 (iblk m c 2 t))
      (outsAt0 m c (t.val - 1) (Nat.lt_of_le_of_lt (Nat.sub_le _ _) t.isLt)).2.2.1 := by
  rw [outsAt0_C m c t (by omega) h h h2 (by omega)]; frame_out

/-- Another point leaves that block as it is. -/
theorem out7_keep (c : Dev nD) (t : Fin cfg0.N) (h : ¬t.val % 2 = 1) :
    (outsAt0 m c t.val t.isLt).2.2.1
      = (outsAt0 m c (t.val - 1) (Nat.lt_of_le_of_lt (Nat.sub_le _ _) t.isLt)).2.2.1 := by
  rw [outsAt0_A m c t (by omega) h h]; rfl

/-- What the first point of a run leaves in the scratch buffer. -/
theorem scr_first (c : Dev nD) (t : Fin cfg0.N) (h : t.val % 2 = 0) :
    (outsAt0 m c t.val t.isLt).2.2.2 = k0_pay2 (iblk m c 0 t) (iblk m c 1 t) := by
  rw [outsAt0_A m c t h (by omega) (by omega)]
  frame_out

/-- What a later point leaves there. -/
theorem scr_step (c : Dev nD) (t : Fin cfg0.N) (h : ¬t.val % 2 = 0) :
    (outsAt0 m c t.val t.isLt).2.2.2 = k0_pay3 (iblk m c 0 t) (iblk m c 1 t)
      (outsAt0 m c (t.val - 1) (Nat.lt_of_le_of_lt (Nat.sub_le _ _) t.isLt)).2.2.2 := by
  by_cases h2 : t.val < 2
  · rw [outsAt0_B m c t h (by omega) (by omega) h2 (by omega)]; frame_out; simp only [read_unread_whole]
  · rw [outsAt0_C m c t h (by omega) (by omega) h2 (by omega)]; frame_out; simp only [read_unread_whole]

/-- One point's part of the product, at a place of the block. -/
abbrev part (c : Dev nD) (p : Fin cfg0.N) (j : S256x2048.Idx) : EReal :=
  ∑ k : Fin 2560, (show FVec Ideal S256x2560 .bf16 from iblk m c 0 p) (ix2 (j 0) k)
      * (show FVec Ideal S2048x2560 .bf16 from iblk m c 1 p) (ix2 (j 1) k)

/-- The scratch buffer at the last point of a run is the sum of the two parts. -/
theorem scratch_sum (c : Dev nD) (t : Fin cfg0.N) (h : t.val % 2 = 1) (y : S256x2048.Idx) :
    (outsAt0 m c t.val t.isLt).2.2.2 y
      = 0 + ∑ s : Fin 2, part m c ⟨2 * (t.val / 2) + s.val, Pipeline.run_point_lt_of_flush t h s⟩ y :=
  Pipeline.eq_sum_fin_of_reset_step_apply_of_flush (fun n h => (outsAt0 m c n h).2.2.2) 2 (fun _ => 0) (part m c)
    (fun t h j => (congrFun (scr_first m c t h) j).trans (pay_first _ _ j))
    (fun t h j => (congrFun (scr_step m c t h) j).trans (pay_step _ _ _ j))
    t h y

/-- The array's row that row `r` of grid point `t`'s block is. -/
abbrev row (t : Fin cfg0.N) (r : Fin 256) : Fin 4096 :=
  ⟨t.val / 2 * 256 + r.val, by have : t.val < 32 := lt_of_lt_of_eq t.isLt N_0; omega⟩

/-- The scratch buffer at the last point of a run holds the product, at the array index its place has. -/
theorem scratch (c : Dev nD) (t : Fin cfg0.N) (h : t.val % 2 = 1) (y : S256x2048.Idx) :
    (outsAt0 m c t.val t.isLt).2.2.2 y = DOT (m ((c : Thread nD τ).loc main_arg0)) (m ((c : Thread nD τ).loc main_arg1)) (ix2 (row t (y 0)) (y 1)) := by
  rw [scratch_sum m c t h y, zero_add, dot_sum]
  refine Fin.sum_mul_add_congr fun s k hl => ?_
  have hp : (⟨2 * (t.val / 2) + s.val, Pipeline.run_point_lt_of_flush t h s⟩ : Fin cfg0.N).val % 2 = s.val := by
    show (2 * (t.val / 2) + s.val) % 2 = s.val
    omega
  refine congrArg₂ (· * ·) ?_ ?_
  · blk_point [iblk, V, idx t, idx ⟨_, Pipeline.run_point_lt_of_flush t h s⟩]
  · blk_point [iblk, V, idx t, idx ⟨_, Pipeline.run_point_lt_of_flush t h s⟩]

/-- A staged block of the rows, at an index. -/
theorem blk_h (c : Dev nD) (t : Fin cfg0.N) (a : Fin 256) (k : Fin 2048) : iblk m c 2 t (ix2 a k)
    = ((m ((c : Thread nD τ).loc main_arg2)) : FVec Ideal S4096x2048 .f32) (ix2 (row t a) k) := by
  blk_point [iblk, V, idx t]

/-- A staged block of the gradient added, at an index. -/
theorem blk_d (c : Dev nD) (t : Fin cfg0.N) (a : Fin 256) (k : Fin 2048) : iblk m c 3 t (ix2 a k)
    = ((m ((c : Thread nD τ).loc main_arg3)) : FVec Ideal S4096x2048 .f32) (ix2 (row t a) k) := by
  blk_point [iblk, V, idx t]

/-- The staged gain, at an index. -/
theorem blk_g (c : Dev nD) (t : Fin cfg0.N) (k : Fin 2048) : iblk m c 4 t (ix2 0 k)
    = ((m ((c : Thread nD τ).loc main_arg4)) : FVec Ideal S2048 .f32) (ix1 k) := by
  blk_point [iblk, V, idx t]

/-- The first result's block at the last point of a run. -/
theorem point_dx (c : Dev nD) (t : Fin cfg0.N) (h : t.val % 2 = 1) (y : S256x2048.Idx) : (outsAt0 m c t.val t.isLt).1 y
    = DH (DOT (m ((c : Thread nD τ).loc main_arg0)) (m ((c : Thread nD τ).loc main_arg1))) (m ((c : Thread nD τ).loc main_arg2)) (m ((c : Thread nD τ).loc main_arg3)) (m ((c : Thread nD τ).loc main_arg4))
        (ix2 (row t (y 0)) (y 1)) := by
  have e : y = ix2 (y 0) (y 1) := by funext a; fin_cases a <;> rfl
  rw [out5 m c t h]
  conv_lhs => rw [e]
  exact row_dx _ _ _ _ _ _ _ _ _ _ _ (fun k => scratch m c t h (ix2 (y 0) k)) (fun k => blk_h m c t (y 0) k)
    (blk_d m c t (y 0) (y 1)) (fun k => blk_g m c t k)

/-- The second result's block at the last point of a run. -/
theorem point_dxb (c : Dev nD) (t : Fin cfg0.N) (h : t.val % 2 = 1) (y : S256x2048.Idx) : (outsAt0 m c t.val t.isLt).2.1 y
    = DHB (DOT (m ((c : Thread nD τ).loc main_arg0)) (m ((c : Thread nD τ).loc main_arg1))) (m ((c : Thread nD τ).loc main_arg2)) (m ((c : Thread nD τ).loc main_arg3)) (m ((c : Thread nD τ).loc main_arg4))
        (ix2 (row t (y 0)) (y 1)) := by
  have h1 := point_dx m c t h y
  rw [out5 m c t h] at h1
  rw [out6 m c t h]
  exact h1

/-- Two equal points leave the same in the gain's block. -/
theorem outs_congr (c : Dev nD) {n k : Nat} (e : n = k) (hn : n < cfg0.N) (hk : k < cfg0.N) :
    (outsAt0 m c n hn).2.2.1 = (outsAt0 m c k hk).2.2.1 := by
  subst e; rfl

/-- A later run's store in the gain's block is the sum of what is there and its part. -/
theorem pay_gain (x acc : FVec Ideal S1x2048 .f32) (j) : k0_pay4 (F := Ideal) x acc j = acc j + x j := by
  pointwise [k0_pay4]

/-- The part of the gain's gradient the last point of run `p` adds. -/
abbrev gpart (c : Dev nD) (p : Fin 16) (j : S1x2048.Idx) : EReal :=
  ∑ a : Fin 256, TERM (DOT (m ((c : Thread nD τ).loc main_arg0)) (m ((c : Thread nD τ).loc main_arg1))) (m ((c : Thread nD τ).loc main_arg2)) ⟨p.val * 256 + a.val, by omega⟩ (j 1)

/-- The last point of run `p` is a grid point. -/
theorem last_lt (p : Nat) (h : p < 16) : 2 * p + 1 < cfg0.N := by
  have : cfg0.N = 32 := N_0
  omega

/-- What the last point of run `p` computes for the gain. -/
theorem gain_blk (c : Dev nD) (p : Fin 16) (j : S1x2048.Idx) :
    k0_pay8 (F := Ideal) (outsAt0 m c (2 * p.val + 1) (last_lt p.val p.isLt)).2.2.2 (iblk m c 2 ⟨2 * p.val + 1, last_lt p.val p.isLt⟩) j
      = gpart m c p j := by
  have hp : (2 * p.val + 1) % 2 = 1 := by omega
  have hr : ∀ a : Fin 256, row ⟨2 * p.val + 1, last_lt p.val p.isLt⟩ a = ⟨p.val * 256 + a.val, by omega⟩ := fun a => by
    refine Fin.ext ?_
    show (2 * p.val + 1) / 2 * 256 + a.val = p.val * 256 + a.val
    have : (2 * p.val + 1) / 2 = p.val := by omega
    rw [this]
  refine dg_blk _ _ _ _ j (fun a => ⟨p.val * 256 + a.val, by omega⟩) (fun a => ?_) (fun a k => ?_)
  · exact (scratch m c ⟨2 * p.val + 1, last_lt p.val p.isLt⟩ hp (ix2 a (j 1))).trans (by rw [← hr a]; rfl)
  · exact (blk_h m c ⟨2 * p.val + 1, last_lt p.val p.isLt⟩ a k).trans (by rw [← hr a])

/-- The gain's block after run `p`. -/
def gacc (c : Dev nD) (n : Nat) (h : n < 16) : FVec Ideal S1x2048 .f32 := (outsAt0 m c (2 * n + 1) (last_lt n h)).2.2.1

/-- After the first run it is that run's part. -/
theorem gacc_first (c : Dev nD) (p : Fin 16) (h : p.val = 0) (j : S1x2048.Idx) :
    gacc m c p.val p.isLt j = 0 + gpart m c p j :=
  (congrFun (out7_first m c ⟨2 * p.val + 1, last_lt p.val p.isLt⟩ (by show (2 * p.val + 1) % 2 = 1; omega)
    (by show 2 * p.val + 1 < 2; omega)) j).trans ((gain_blk m c p j).trans (zero_add _).symm)

/-- After a later run it is the sum of what the run before left and that run's part. -/
theorem gacc_step (c : Dev nD) (p : Fin 16) (h : ¬p.val = 0) (j : S1x2048.Idx) :
    gacc m c p.val p.isLt j
      = gacc m c (p.val - 1) (Nat.lt_of_le_of_lt (Nat.sub_le _ _) p.isLt) j + gpart m c p j := by
  have e1 : 2 * p.val + 1 - 1 < cfg0.N := Nat.lt_of_le_of_lt (Nat.sub_le _ _) (last_lt p.val p.isLt)
  have e2 : 2 * p.val + 1 - 1 - 1 = 2 * (p.val - 1) + 1 := by omega
  have h1 := congrFun (out7_step m c ⟨2 * p.val + 1, last_lt p.val p.isLt⟩ (by show (2 * p.val + 1) % 2 = 1; omega)
    (by show ¬2 * p.val + 1 < 2; omega)) j
  have h2 := out7_keep m c ⟨2 * p.val + 1 - 1, e1⟩ (by show ¬(2 * p.val + 1 - 1) % 2 = 1; omega)
  have h3 := h2.trans (outs_congr m c e2 _ (last_lt (p.val - 1) (Nat.lt_of_le_of_lt (Nat.sub_le _ _) p.isLt)))
  exact h1.trans ((pay_gain _ _ j).trans (congrArg₂ (· + ·) (congrFun h3 j) (gain_blk m c p j)))

/-- After the last run it is the sum of every run's part. -/
theorem gain_sum (c : Dev nD) (p : Fin 16) (hp : p.val + 1 = 16) (j : S1x2048.Idx) :
    gacc m c p.val p.isLt j = 0 + ∑ p : Fin 16, gpart m c p j :=
  Pipeline.eq_sum_fin_of_reset_step_apply_last (gacc m c) 16 (fun _ => 0) (gpart m c)
    (fun t h i => gacc_first m c t (by omega) i) (fun t h i => gacc_step m c t (fun e => h (by rw [e])) i) (le_refl 16) p hp j

/-- The gain's block at the last point of the grid. -/
theorem point_gain (c : Dev nD) (t : Fin cfg0.N) (h : t.val % 32 = 31) (y : S1x2048.Idx) : (outsAt0 m c t.val t.isLt).2.2.1 y
    = DG (DOT (m ((c : Thread nD τ).loc main_arg0)) (m ((c : Thread nD τ).loc main_arg1))) (m ((c : Thread nD τ).loc main_arg2)) y := by
  have hN : t.val < 32 := lt_of_lt_of_eq t.isLt N_0
  have hp : t.val / 2 < 16 := by omega
  have ht : t.val = 2 * (t.val / 2) + 1 := by omega
  refine (congrFun (outs_congr m c ht _ (last_lt (t.val / 2) hp)) y).trans ?_
  refine (gain_sum m c ⟨t.val / 2, hp⟩ (by show t.val / 2 + 1 = 16; omega) y).trans ?_
  rw [zero_add, dg_sum]
  exact Fin.sum_mul_add_congr fun s k hl => rfl

/-- The first result array after the call is the gradient of the rows. -/
theorem final_dx (c : Dev nD) : (dats m 0 c).arrAt 5 (cfgs 0).N
    = DH (DOT (m ((c : Thread nD τ).loc main_arg0)) (m ((c : Thread nD τ).loc main_arg1))) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5, point_dx m c t ((flush0_5 t).mp hf)]
  blk_ext [idx t]

/-- The second result array after the call is the same in the narrow format. -/
theorem final_dxb (c : Dev nD) : (dats m 0 c).arrAt 6 (cfgs 0).N
    = DHB (DOT (m ((c : Thread nD τ).loc main_arg0)) (m ((c : Thread nD τ).loc main_arg1))) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6, point_dxb m c t ((flush0_6 t).mp hf)]
  blk_ext [idx t]

/-- The third result array after the call is the gradient of the gain. -/
theorem final_gain (c : Dev nD) : (dats m 0 c).arrAt 7 (cfgs 0).N
    = DG (DOT (m ((c : Thread nD τ).loc main_arg0)) (m ((c : Thread nD τ).loc main_arg1))) (m ((c : Thread nD τ).loc main_arg2)) := by
  refine (dats m 0 c).arrAt_eq_of_covers 7 _ (by decide +kernel) fun t hf y => ?_
  blk_simp
  rw [after0_7, point_gain m c t ((flush0_7 t).mp hf)]
  blk_ext [idx t]

end Cert.Kernel24Ideal.Value

end
-- ==== Proof.ClaimDxnIn.lean ====
/- The value claim of the gradient at the hidden state before the even layers' input projection: its kernel and its reference end with equal results. -/
module

public import proofs.«01_k».proof.Defs
public import proofs.«01_k».proof.Proof.DxnIn
public import Idealize.ShloMosaic.Lib.Claim

@[expose] public section

set_option maxRecDepth 16384

noncomputable section

namespace Cert.Proof

open Idealize.ShloMosaic Idealize.SL.Sem

/-- The gradient at the hidden state before the even layers' input projection: over the extended reals the kernel computes what its reference computes. -/
theorem algebraic24 : Cert.algebraic_Kernel24Ideal_Reference24Ideal (hKernel24Ideal := Cert.Kernel24Ideal.Gen.facts)
    (hReference24Ideal := Cert.Reference24Ideal.Gen.facts) := by
  pair_intro
  · run_from Cert.Kernel24Ideal.Gen.run_main m g
  · hlo_run
    · exact (Cert.Kernel24Ideal.Value.final_dx m c).symm
    · exact (Cert.Kernel24Ideal.Value.final_dxb m c).symm
    · exact (Cert.Kernel24Ideal.Value.final_gain m c).symm

end Cert.Proof

end
-- ==== Proof.DxnQkv.lean ====
/- The gradient through the attention layers' input projection and its normalisation (`Kernel25`): the three result
   arrays of the call are the reference's terms of the arguments, the gradient of the rows before their normalisation (in
   both formats) and the gradient of the gain. The call walks the contraction in two parts, adding each into a scratch
   buffer, and adds each block of rows into the gain's block. -/
module

public import proofs.«01_k».proof.Proof.Gen.Kernel25Ideal.Frame
public import proofs.«01_k».proof.Proof.Gen.Reference25Ideal
public import proofs.«01_k».proof.Proof.RmsGrad
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel25Ideal.Value

open Cert.Kernel25Ideal Cert.Kernel25Ideal.Gen

variable (m : (ℓ : Loc nD τ sig) → Buf (Elt Ideal) ℓ)

/-- The block every window stages at grid point `t`: rows `t / 2`, half `t % 2` of the contraction. -/
theorem idx : ∀ t : Fin cfg0.N, win0_0.index t = ![t.val / 2, t.val % 2] ∧ win0_1.index t = ![0, t.val % 2]
    ∧ win0_2.index t = ![t.val / 2, 0] ∧ win0_3.index t = ![t.val / 2, 0] ∧ win0_4.index t = ![0, 0]
    ∧ win0_5.index t = ![t.val / 2, 0] ∧ win0_6.index t = ![t.val / 2, 0] ∧ win0_7.index t = ![0, 0] :=
  (by decide +kernel : ∀ t : Fin grid0.N, _)

/-- The reference's product with the transposed weight: the gradient of the normalised rows. -/
abbrev DOT (D : FVec Ideal S4096x2560 .f32) (W : FVec Ideal S2048x2560 .f32) : FVec Ideal S4096x2048 .f32 :=
  Host.dotGeneral (F := Ideal) Cert.Reference25Ideal.dot_S4096x2560_S2048x2560_S4096x2048_1_1_0_0_n_n none D W

/-- The mean of a row's squares, a small number added. -/
abbrev MS (H : FVec Ideal S4096x2048 .f32) : FVec Ideal Cert.Reference25Ideal.S4096x1 .f32 :=
  addf (Host.divf
    (broadcastInDim Cert.Reference25Ideal.S4096x1 ![0] Cert.Reference25Ideal.Gen.bcast_S4096_S4096x1_0
      (Host.reduceAdd (mulf H H) (constant Cert.Reference25Ideal.S_ .f32 0x00000000#32) Cert.Reference25Ideal.Gen.reducesTo_S4096x2048_S4096_d1 Cert.Reference25Ideal.Gen.h_S_))
    (broadcastInDim Cert.Reference25Ideal.S4096x1 ![] Cert.Reference25Ideal.Gen.bcast_S_S4096x1 (constant Cert.Reference25Ideal.S_ .f32 0x45000000#32)))
    (broadcastInDim Cert.Reference25Ideal.S4096x1 ![] Cert.Reference25Ideal.Gen.bcast_S_S4096x1 (constant Cert.Reference25Ideal.S_ .f32 0x358637BD#32))

/-- The rows divided by the root of that mean. -/
abbrev NRM (H : FVec Ideal S4096x2048 .f32) : FVec Ideal S4096x2048 .f32 :=
  mulf H (broadcastInDim Cert.Reference25Ideal.S4096x2048 ![0, 1] Cert.Reference25Ideal.Gen.bcast_S4096x1_S4096x2048_0_1 (Host.rsqrt (MS H)))

/-- The gradient of the normalised rows times the gain. -/
abbrev GX (X : FVec Ideal S4096x2048 .f32) (G : FVec Ideal S2048 .f32) : FVec Ideal S4096x2048 .f32 :=
  mulf X (broadcastInDim Cert.Reference25Ideal.S4096x2048 ![0, 1] Cert.Reference25Ideal.Gen.bcast_S1x2048_S4096x2048_0_1
    (broadcastInDim Cert.Reference25Ideal.S1x2048 ![1] Cert.Reference25Ideal.Gen.bcast_S2048_S1x2048_1 G))

/-- The factor of a row's correction: what the gradient owes to the mean of the squares. -/
abbrev CORR (X H : FVec Ideal S4096x2048 .f32) (G : FVec Ideal S2048 .f32) : FVec Ideal S4096x2048 .f32 :=
  broadcastInDim Cert.Reference25Ideal.S4096x2048 ![0] Cert.Reference25Ideal.Gen.bcast_S4096_S4096x2048_0
    (Host.reduceAdd (Host.divf (mulf
        (shapeCast Cert.Reference25Ideal.S4096x1 (Host.reduceAdd (mulf H (GX X G)) (constant Cert.Reference25Ideal.S_ .f32 0x00000000#32)
          Cert.Reference25Ideal.Gen.reducesTo_S4096x2048_S4096_d1 Cert.Reference25Ideal.Gen.h_S_) Cert.Reference25Ideal.Gen.shapeCasts_S4096_S4096x1)
        (mulf (broadcastInDim Cert.Reference25Ideal.S4096x1 ![] Cert.Reference25Ideal.Gen.bcast_S_S4096x1 (constant Cert.Reference25Ideal.S_ .f32 0xBF000000#32))
          (Host.divf (Host.rsqrt (MS H)) (MS H))))
      (broadcastInDim Cert.Reference25Ideal.S4096x1 ![] Cert.Reference25Ideal.Gen.bcast_S_S4096x1 (constant Cert.Reference25Ideal.S_ .f32 0x45000000#32)))
      (constant Cert.Reference25Ideal.S_ .f32 0x00000000#32) Cert.Reference25Ideal.Gen.reducesTo_S4096x1_S4096_d1 Cert.Reference25Ideal.Gen.h_S_)

/-- The gradient of the rows before the normalisation, from the gradient `X` after it, added to `D`. -/
abbrev DH (X H D : FVec Ideal S4096x2048 .f32) (G : FVec Ideal S2048 .f32) : FVec Ideal S4096x2048 .f32 :=
  addf (addf (addf D (mulf (GX X G) (broadcastInDim Cert.Reference25Ideal.S4096x2048 ![0, 1] Cert.Reference25Ideal.Gen.bcast_S4096x1_S4096x2048_0_1 (Host.rsqrt (MS H)))))
    (mulf H (CORR X H G))) (mulf (CORR X H G) H)

/-- The same, in the narrow format. -/
abbrev DHB (X H D : FVec Ideal S4096x2048 .f32) (G : FVec Ideal S2048 .f32) : FVec Ideal S4096x2048 .bf16 :=
  truncf .bf16 (DH X H D G) Cert.Reference25Ideal.Gen.bitsLt_bf16_f32

/-- The gradient of the gain. -/
abbrev DG (X H : FVec Ideal S4096x2048 .f32) : FVec Ideal S1x2048 .f32 :=
  shapeCast Cert.Reference25Ideal.S1x2048 (Host.reduceAdd
    (shapeCast Cert.Reference25Ideal.S1x2048 (Host.reduceAdd (mulf (NRM H) X) (constant Cert.Reference25Ideal.S_ .f32 0x00000000#32)
      Cert.Reference25Ideal.Gen.reducesTo_S4096x2048_S2048_d0 Cert.Reference25Ideal.Gen.h_S_) Cert.Reference25Ideal.Gen.shapeCasts_S2048_S1x2048)
    (constant Cert.Reference25Ideal.S_ .f32 0x00000000#32) Cert.Reference25Ideal.Gen.reducesTo_S1x2048_S2048_d0 Cert.Reference25Ideal.Gen.h_S_)
    Cert.Reference25Ideal.Gen.shapeCasts_S2048_S1x2048

/-- One entry of the gradient's row: what the kernel stores is the reference's, when the rows read are one. -/
theorem row_dx (A B C : FVec Ideal S256x2048 .f32) (G1 : FVec Ideal S1x2048 .f32) (X H D : FVec Ideal S4096x2048 .f32)
    (G : FVec Ideal S2048 .f32) (a : Fin 256) (b : Fin 2048) (r : Fin 4096)
    (hA : ∀ k : Fin 2048, A (ix2 a k) = X (ix2 r k)) (hB : ∀ k : Fin 2048, B (ix2 a k) = H (ix2 r k))
    (hC : C (ix2 a b) = D (ix2 r b)) (hG : ∀ k : Fin 2048, G1 (ix2 0 k) = G (ix1 k)) :
    k0_pay7 A B C G1 (ix2 a b) = DH X H D G (ix2 r b) := by
  pointwise [k0_pay7, k0_pay6, k0_pay5, DH, CORR, GX, MS]
  simp only [hA, hB, hC, hG, Fin.sum_univ_one, RmsGrad.lit_2048, RmsGrad.lit_half]
  exact RmsGrad.row (fun k => H (ix2 r k)) (fun k => X (ix2 r k) * G (ix1 k)) b _ _ 2048 (by norm_num)
    (RmsGrad.mean_pos_lit _)

/-- One entry of the gain's gradient before its sum over the rows. -/
abbrev TERM (X H : FVec Ideal S4096x2048 .f32) (r : Fin 4096) (b : Fin 2048) : EReal := NRM H (ix2 r b) * X (ix2 r b)

/-- The gain's gradient, as one sum over the rows. -/
theorem dg_sum (X H : FVec Ideal S4096x2048 .f32) (j) : DG X H j = ∑ r : Fin 4096, TERM X H r (j 1) := by
  pointwise [DG, TERM, NRM, MS]
  rw [Fin.sum_univ_one]

/-- The part of that sum one block of rows adds. -/
theorem dg_blk (A B : FVec Ideal S256x2048 .f32) (X H : FVec Ideal S4096x2048 .f32) (j : S1x2048.Idx) (r : Fin 256 → Fin 4096)
    (hA : ∀ a : Fin 256, A (ix2 a (j 1)) = X (ix2 (r a) (j 1))) (hB : ∀ (a : Fin 256) (k : Fin 2048), B (ix2 a k) = H (ix2 (r a) k)) :
    k0_pay8 (F := Ideal) A B j = ∑ a : Fin 256, TERM X H (r a) (j 1) := by
  pointwise [k0_pay8, k0_pay6, k0_pay5, TERM, NRM, MS]
  simp only [hA, hB]
  exact Finset.sum_congr rfl fun a _ => (mul_comm _ _).trans
    (congrArg₂ (· * ·) (congrArg₂ (· * ·) (hB a (j 1)) rfl) rfl)

/-- The part of the product one grid point computes. -/
theorem pay_first (x0 : FVec Ideal S256x1280 .bf16) (x1 : FVec Ideal S2048x1280 .bf16) (j) :
    k0_pay2 (F := Ideal) x0 x1 j = 0 + ∑ k : Fin 1280, x0 (ix2 (j 0) k) * x1 (ix2 (j 1) k) := by
  pointwise [k0_pay2, k0_pay1]

/-- A later grid point adds its part to what the scratch buffer holds. -/
theorem pay_step (x0 : FVec Ideal S256x1280 .bf16) (x1 : FVec Ideal S2048x1280 .bf16) (acc : FVec Ideal S256x2048 .f32) (j) :
    k0_pay3 (F := Ideal) x0 x1 acc j = acc j + ∑ k : Fin 1280, x0 (ix2 (j 0) k) * x1 (ix2 (j 1) k) := by
  pointwise [k0_pay3, k0_pay1]

/-- The reference's product, as one sum. -/
theorem dot_sum (X : FVec Ideal S4096x2560 .f32) (W : FVec Ideal S2048x2560 .f32) (j) :
    DOT X W j = ∑ l : Fin 2560, X (ix2 (j 0) l) * W (ix2 (j 1) l) := by
  pointwise [DOT]

/-- What the last point of a run stores in the first result's block. -/
theorem out5 (c : Dev nD) (t : Fin cfg0.N) (h : t.val % 2 = 1) :
    (outsAt0 m c t.val t.isLt).1 = k0_pay7 (outsAt0 m c t.val t.isLt).2.2.2 (iblk m c 2 t) (iblk m c 3 t) (iblk m c 4 t) := by
  by_cases h2 : t.val < 2
  · rw [outsAt0_B m c t (by omega) h h h2 (by omega)]; frame_out
  · rw [outsAt0_C m c t (by omega) h h h2 (by omega)]; frame_out

/-- What it stores in the second result's block. -/
theorem out6 (c : Dev nD) (t : Fin cfg0.N) (h : t.val % 2 = 1) :
    (outsAt0 m c t.val t.isLt).2.1 = k0_pay9 (outsAt0 m c t.val t.isLt).2.2.2 (iblk m c 2 t) (iblk m c 3 t) (iblk m c 4 t) := by
  by_cases h2 : t.val < 2
  · rw [outsAt0_B m c t (by omega) h h h2 (by omega)]; frame_out
  · rw [outsAt0_C m c t (by omega) h h h2 (by omega)]; frame_out

/-- What the last point of the first run stores in the gain's block. -/
theorem out7_first (c : Dev nD) (t : Fin cfg0.N) (h : t.val % 2 = 1) (h2 : t.val < 2) :
    (outsAt0 m c t.val t.isLt).2.2.1 = k0_pay8 (outsAt0 m c t.val t.isLt).2.2.2 (iblk m c 2 t) := by
  rw [outsAt0_B m c t (by omega) h h h2 (by omega)]; frame_out

/-- What the last point of a later run stores there: its part added to what is there. -/
theorem out7_step (c : Dev nD) (t : Fin cfg0.N) (h : t.val % 2 = 1) (h2 : ¬t.val < 2) :
    (outsAt0 m c t.val t.isLt).2.2.1 = k0_pay4 (k0_pay8 (outsAt0 m c t.val t.isLt).2.2.2 (iblk m c 2 t))
      (outsAt0 m c (t.val - 1) (Nat.lt_of_le_of_lt (Nat.sub_le _ _) t.isLt)).2.2.1 := by
  rw [outsAt0_C m c t (by omega) h h h2 (by omega)]; frame_out

/-- Another point leaves that block as it is. -/
theorem out7_keep (c : Dev nD) (t : Fin cfg0.N) (h : ¬t.val % 2 = 1) :
    (outsAt0 m c t.val t.isLt).2.2.1
      = (outsAt0 m c (t.val - 1) (Nat.lt_of_le_of_lt (Nat.sub_le _ _) t.isLt)).2.2.1 := by
  rw [outsAt0_A m c t (by omega) h h]; rfl

/-- What the first point of a run leaves in the scratch buffer. -/
theorem scr_first (c : Dev nD) (t : Fin cfg0.N) (h : t.val % 2 = 0) :
    (outsAt0 m c t.val t.isLt).2.2.2 = k0_pay2 (iblk m c 0 t) (iblk m c 1 t) := by
  rw [outsAt0_A m c t h (by omega) (by omega)]
  frame_out

/-- What a later point leaves there. -/
theorem scr_step (c : Dev nD) (t : Fin cfg0.N) (h : ¬t.val % 2 = 0) :
    (outsAt0 m c t.val t.isLt).2.2.2 = k0_pay3 (iblk m c 0 t) (iblk m c 1 t)
      (outsAt0 m c (t.val - 1) (Nat.lt_of_le_of_lt (Nat.sub_le _ _) t.isLt)).2.2.2 := by
  by_cases h2 : t.val < 2
  · rw [outsAt0_B m c t h (by omega) (by omega) h2 (by omega)]; frame_out; simp only [read_unread_whole]
  · rw [outsAt0_C m c t h (by omega) (by omega) h2 (by omega)]; frame_out; simp only [read_unread_whole]

/-- One point's part of the product, at a place of the block. -/
abbrev part (c : Dev nD) (p : Fin cfg0.N) (j : S256x2048.Idx) : EReal :=
  ∑ k : Fin 1280, (show FVec Ideal S256x1280 .bf16 from iblk m c 0 p) (ix2 (j 0) k)
      * (show FVec Ideal S2048x1280 .bf16 from iblk m c 1 p) (ix2 (j 1) k)

/-- The scratch buffer at the last point of a run is the sum of the two parts. -/
theorem scratch_sum (c : Dev nD) (t : Fin cfg0.N) (h : t.val % 2 = 1) (y : S256x2048.Idx) :
    (outsAt0 m c t.val t.isLt).2.2.2 y
      = 0 + ∑ s : Fin 2, part m c ⟨2 * (t.val / 2) + s.val, Pipeline.run_point_lt_of_flush t h s⟩ y :=
  Pipeline.eq_sum_fin_of_reset_step_apply_of_flush (fun n h => (outsAt0 m c n h).2.2.2) 2 (fun _ => 0) (part m c)
    (fun t h j => (congrFun (scr_first m c t h) j).trans (pay_first _ _ j))
    (fun t h j => (congrFun (scr_step m c t h) j).trans (pay_step _ _ _ j))
    t h y

/-- The array's row that row `r` of grid point `t`'s block is. -/
abbrev row (t : Fin cfg0.N) (r : Fin 256) : Fin 4096 :=
  ⟨t.val / 2 * 256 + r.val, by have : t.val < 32 := lt_of_lt_of_eq t.isLt N_0; omega⟩

/-- The scratch buffer at the last point of a run holds the product, at the array index its place has. -/
theorem scratch (c : Dev nD) (t : Fin cfg0.N) (h : t.val % 2 = 1) (y : S256x2048.Idx) :
    (outsAt0 m c t.val t.isLt).2.2.2 y = DOT (m ((c : Thread nD τ).loc main_arg0)) (m ((c : Thread nD τ).loc main_arg1)) (ix2 (row t (y 0)) (y 1)) := by
  rw [scratch_sum m c t h y, zero_add, dot_sum]
  refine Fin.sum_mul_add_congr fun s k hl => ?_
  have hp : (⟨2 * (t.val / 2) + s.val, Pipeline.run_point_lt_of_flush t h s⟩ : Fin cfg0.N).val % 2 = s.val := by
    show (2 * (t.val / 2) + s.val) % 2 = s.val
    omega
  refine congrArg₂ (· * ·) ?_ ?_
  · blk_point [iblk, V, idx t, idx ⟨_, Pipeline.run_point_lt_of_flush t h s⟩]
  · blk_point [iblk, V, idx t, idx ⟨_, Pipeline.run_point_lt_of_flush t h s⟩]

/-- A staged block of the rows, at an index. -/
theorem blk_h (c : Dev nD) (t : Fin cfg0.N) (a : Fin 256) (k : Fin 2048) : iblk m c 2 t (ix2 a k)
    = ((m ((c : Thread nD τ).loc main_arg2)) : FVec Ideal S4096x2048 .f32) (ix2 (row t a) k) := by
  blk_point [iblk, V, idx t]

/-- A staged block of the gradient added, at an index. -/
theorem blk_d (c : Dev nD) (t : Fin cfg0.N) (a : Fin 256) (k : Fin 2048) : iblk m c 3 t (ix2 a k)
    = ((m ((c : Thread nD τ).loc main_arg3)) : FVec Ideal S4096x2048 .f32) (ix2 (row t a) k) := by
  blk_point [iblk, V, idx t]

/-- The staged gain, at an index. -/
theorem blk_g (c : Dev nD) (t : Fin cfg0.N) (k : Fin 2048) : iblk m c 4 t (ix2 0 k)
    = ((m ((c : Thread nD τ).loc main_arg4)) : FVec Ideal S2048 .f32) (ix1 k) := by
  blk_point [iblk, V, idx t]

/-- The first result's block at the last point of a run. -/
theorem point_dx (c : Dev nD) (t : Fin cfg0.N) (h : t.val % 2 = 1) (y : S256x2048.Idx) : (outsAt0 m c t.val t.isLt).1 y
    = DH (DOT (m ((c : Thread nD τ).loc main_arg0)) (m ((c : Thread nD τ).loc main_arg1))) (m ((c : Thread nD τ).loc main_arg2)) (m ((c : Thread nD τ).loc main_arg3)) (m ((c : Thread nD τ).loc main_arg4))
        (ix2 (row t (y 0)) (y 1)) := by
  have e : y = ix2 (y 0) (y 1) := by funext a; fin_cases a <;> rfl
  rw [out5 m c t h]
  conv_lhs => rw [e]
  exact row_dx _ _ _ _ _ _ _ _ _ _ _ (fun k => scratch m c t h (ix2 (y 0) k)) (fun k => blk_h m c t (y 0) k)
    (blk_d m c t (y 0) (y 1)) (fun k => blk_g m c t k)

/-- The second result's block at the last point of a run. -/
theorem point_dxb (c : Dev nD) (t : Fin cfg0.N) (h : t.val % 2 = 1) (y : S256x2048.Idx) : (outsAt0 m c t.val t.isLt).2.1 y
    = DHB (DOT (m ((c : Thread nD τ).loc main_arg0)) (m ((c : Thread nD τ).loc main_arg1))) (m ((c : Thread nD τ).loc main_arg2)) (m ((c : Thread nD τ).loc main_arg3)) (m ((c : Thread nD τ).loc main_arg4))
        (ix2 (row t (y 0)) (y 1)) := by
  have h1 := point_dx m c t h y
  rw [out5 m c t h] at h1
  rw [out6 m c t h]
  exact h1

/-- Two equal points leave the same in the gain's block. -/
theorem outs_congr (c : Dev nD) {n k : Nat} (e : n = k) (hn : n < cfg0.N) (hk : k < cfg0.N) :
    (outsAt0 m c n hn).2.2.1 = (outsAt0 m c k hk).2.2.1 := by
  subst e; rfl

/-- A later run's store in the gain's block is the sum of what is there and its part. -/
theorem pay_gain (x acc : FVec Ideal S1x2048 .f32) (j) : k0_pay4 (F := Ideal) x acc j = acc j + x j := by
  pointwise [k0_pay4]

/-- The part of the gain's gradient the last point of run `p` adds. -/
abbrev gpart (c : Dev nD) (p : Fin 16) (j : S1x2048.Idx) : EReal :=
  ∑ a : Fin 256, TERM (DOT (m ((c : Thread nD τ).loc main_arg0)) (m ((c : Thread nD τ).loc main_arg1))) (m ((c : Thread nD τ).loc main_arg2)) ⟨p.val * 256 + a.val, by omega⟩ (j 1)

/-- The last point of run `p` is a grid point. -/
theorem last_lt (p : Nat) (h : p < 16) : 2 * p + 1 < cfg0.N := by
  have : cfg0.N = 32 := N_0
  omega

/-- What the last point of run `p` computes for the gain. -/
theorem gain_blk (c : Dev nD) (p : Fin 16) (j : S1x2048.Idx) :
    k0_pay8 (F := Ideal) (outsAt0 m c (2 * p.val + 1) (last_lt p.val p.isLt)).2.2.2 (iblk m c 2 ⟨2 * p.val + 1, last_lt p.val p.isLt⟩) j
      = gpart m c p j := by
  have hp : (2 * p.val + 1) % 2 = 1 := by omega
  have hr : ∀ a : Fin 256, row ⟨2 * p.val + 1, last_lt p.val p.isLt⟩ a = ⟨p.val * 256 + a.val, by omega⟩ := fun a => by
    refine Fin.ext ?_
    show (2 * p.val + 1) / 2 * 256 + a.val = p.val * 256 + a.val
    have : (2 * p.val + 1) / 2 = p.val := by omega
    rw [this]
  refine dg_blk _ _ _ _ j (fun a => ⟨p.val * 256 + a.val, by omega⟩) (fun a => ?_) (fun a k => ?_)
  · exact (scratch m c ⟨2 * p.val + 1, last_lt p.val p.isLt⟩ hp (ix2 a (j 1))).trans (by rw [← hr a]; rfl)
  · exact (blk_h m c ⟨2 * p.val + 1, last_lt p.val p.isLt⟩ a k).trans (by rw [← hr a])

/-- The gain's block after run `p`. -/
def gacc (c : Dev nD) (n : Nat) (h : n < 16) : FVec Ideal S1x2048 .f32 := (outsAt0 m c (2 * n + 1) (last_lt n h)).2.2.1

/-- After the first run it is that run's part. -/
theorem gacc_first (c : Dev nD) (p : Fin 16) (h : p.val = 0) (j : S1x2048.Idx) :
    gacc m c p.val p.isLt j = 0 + gpart m c p j :=
  (congrFun (out7_first m c ⟨2 * p.val + 1, last_lt p.val p.isLt⟩ (by show (2 * p.val + 1) % 2 = 1; omega)
    (by show 2 * p.val + 1 < 2; omega)) j).trans ((gain_blk m c p j).trans (zero_add _).symm)

/-- After a later run it is the sum of what the run before left and that run's part. -/
theorem gacc_step (c : Dev nD) (p : Fin 16) (h : ¬p.val = 0) (j : S1x2048.Idx) :
    gacc m c p.val p.isLt j
      = gacc m c (p.val - 1) (Nat.lt_of_le_of_lt (Nat.sub_le _ _) p.isLt) j + gpart m c p j := by
  have e1 : 2 * p.val + 1 - 1 < cfg0.N := Nat.lt_of_le_of_lt (Nat.sub_le _ _) (last_lt p.val p.isLt)
  have e2 : 2 * p.val + 1 - 1 - 1 = 2 * (p.val - 1) + 1 := by omega
  have h1 := congrFun (out7_step m c ⟨2 * p.val + 1, last_lt p.val p.isLt⟩ (by show (2 * p.val + 1) % 2 = 1; omega)
    (by show ¬2 * p.val + 1 < 2; omega)) j
  have h2 := out7_keep m c ⟨2 * p.val + 1 - 1, e1⟩ (by show ¬(2 * p.val + 1 - 1) % 2 = 1; omega)
  have h3 := h2.trans (outs_congr m c e2 _ (last_lt (p.val - 1) (Nat.lt_of_le_of_lt (Nat.sub_le _ _) p.isLt)))
  exact h1.trans ((pay_gain _ _ j).trans (congrArg₂ (· + ·) (congrFun h3 j) (gain_blk m c p j)))

/-- After the last run it is the sum of every run's part. -/
theorem gain_sum (c : Dev nD) (p : Fin 16) (hp : p.val + 1 = 16) (j : S1x2048.Idx) :
    gacc m c p.val p.isLt j = 0 + ∑ p : Fin 16, gpart m c p j :=
  Pipeline.eq_sum_fin_of_reset_step_apply_last (gacc m c) 16 (fun _ => 0) (gpart m c)
    (fun t h i => gacc_first m c t (by omega) i) (fun t h i => gacc_step m c t (fun e => h (by rw [e])) i) (le_refl 16) p hp j

/-- The gain's block at the last point of the grid. -/
theorem point_gain (c : Dev nD) (t : Fin cfg0.N) (h : t.val % 32 = 31) (y : S1x2048.Idx) : (outsAt0 m c t.val t.isLt).2.2.1 y
    = DG (DOT (m ((c : Thread nD τ).loc main_arg0)) (m ((c : Thread nD τ).loc main_arg1))) (m ((c : Thread nD τ).loc main_arg2)) y := by
  have hN : t.val < 32 := lt_of_lt_of_eq t.isLt N_0
  have hp : t.val / 2 < 16 := by omega
  have ht : t.val = 2 * (t.val / 2) + 1 := by omega
  refine (congrFun (outs_congr m c ht _ (last_lt (t.val / 2) hp)) y).trans ?_
  refine (gain_sum m c ⟨t.val / 2, hp⟩ (by show t.val / 2 + 1 = 16; omega) y).trans ?_
  rw [zero_add, dg_sum]
  exact Fin.sum_mul_add_congr fun s k hl => rfl

/-- The first result array after the call is the gradient of the rows. -/
theorem final_dx (c : Dev nD) : (dats m 0 c).arrAt 5 (cfgs 0).N
    = DH (DOT (m ((c : Thread nD τ).loc main_arg0)) (m ((c : Thread nD τ).loc main_arg1))) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5, point_dx m c t ((flush0_5 t).mp hf)]
  blk_ext [idx t]

/-- The second result array after the call is the same in the narrow format. -/
theorem final_dxb (c : Dev nD) : (dats m 0 c).arrAt 6 (cfgs 0).N
    = DHB (DOT (m ((c : Thread nD τ).loc main_arg0)) (m ((c : Thread nD τ).loc main_arg1))) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6, point_dxb m c t ((flush0_6 t).mp hf)]
  blk_ext [idx t]

/-- The third result array after the call is the gradient of the gain. -/
theorem final_gain (c : Dev nD) : (dats m 0 c).arrAt 7 (cfgs 0).N
    = DG (DOT (m ((c : Thread nD τ).loc main_arg0)) (m ((c : Thread nD τ).loc main_arg1))) (m ((c : Thread nD τ).loc main_arg2)) := by
  refine (dats m 0 c).arrAt_eq_of_covers 7 _ (by decide +kernel) fun t hf y => ?_
  blk_simp
  rw [after0_7, point_gain m c t ((flush0_7 t).mp hf)]
  blk_ext [idx t]

end Cert.Kernel25Ideal.Value

end
-- ==== Proof.ClaimDxnQkv.lean ====
/- The value claim of the gradient at the hidden state before the query, key and value projection: its kernel and its reference end with equal results. -/
module

public import proofs.«01_k».proof.Defs
public import proofs.«01_k».proof.Proof.DxnQkv
public import Idealize.ShloMosaic.Lib.Claim

@[expose] public section

set_option maxRecDepth 16384

noncomputable section

namespace Cert.Proof

open Idealize.ShloMosaic Idealize.SL.Sem

/-- The gradient at the hidden state before the query, key and value projection: over the extended reals the kernel computes what its reference computes. -/
theorem algebraic25 : Cert.algebraic_Kernel25Ideal_Reference25Ideal (hKernel25Ideal := Cert.Kernel25Ideal.Gen.facts)
    (hReference25Ideal := Cert.Reference25Ideal.Gen.facts) := by
  pair_intro
  · run_from Cert.Kernel25Ideal.Gen.run_main m g
  · hlo_run
    · exact (Cert.Kernel25Ideal.Value.final_dx m c).symm
    · exact (Cert.Kernel25Ideal.Value.final_dxb m c).symm
    · exact (Cert.Kernel25Ideal.Value.final_gain m c).symm

end Cert.Proof

end
-- ==== Proof.AdamSmall.lean ====
/- The optimiser's step of the small weights (`Kernel26`). The call lays the seventeen arrays of each of its four operands one
   behind the other, as rows of 128, and takes the optimiser's step at every entry. Here: the operands, the three results
   entry by entry, and the place of each array in them. -/
module

public import proofs.«01_k».proof.Proof.Gen.Kernel26Ideal.Frame
public import proofs.«01_k».proof.Proof.Gen.Reference26Ideal
public import Idealize.ShloMosaic.Lib.Claim
public import Idealize.ShloMosaic.Lib.KernelVsHost
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel26Ideal.Value

open Cert.Kernel26Ideal Cert.Kernel26Ideal.Gen

variable (m : (ℓ : Loc nD τ sig) → Buf (Elt Ideal) ℓ)

/-- The block every window stages at grid point `t`: rows `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] :=
  (by decide +kernel : ∀ t : Fin grid0.N, _)

section Step

variable {s : Shape} (b : Cert.Reference26Ideal.S_.BroadcastsInDim s (![] : Fin 0 → Fin s.rank))

/-- The reference's new first moment. -/
abbrev MOM (G M : FVec Ideal s .f32) : FVec Ideal s .f32 :=
  addf (mulf (broadcastInDim s ![] b (constant Cert.Reference26Ideal.S_ .f32 0x3F666666#32)) M) (mulf (broadcastInDim s ![] b (constant Cert.Reference26Ideal.S_ .f32 0x3DCCCCCD#32)) G)

/-- The reference's new second moment. -/
abbrev VEL (G V : FVec Ideal s .f32) : FVec Ideal s .f32 :=
  addf (mulf (broadcastInDim s ![] b (constant Cert.Reference26Ideal.S_ .f32 0x3F7FBE77#32)) V)
    (mulf (broadcastInDim s ![] b (constant Cert.Reference26Ideal.S_ .f32 0x3A83126F#32)) (mulf G G))

/-- The reference's change of the weight. -/
abbrev DELTA (W G M V : FVec Ideal s .f32) : FVec Ideal s .f32 :=
  mulf (broadcastInDim s ![] b (constant Cert.Reference26Ideal.S_ .f32 0xBA83126F#32))
    (addf (Host.divf (Host.divf (MOM b G M) (broadcastInDim s ![] b (constant Cert.Reference26Ideal.S_ .f32 0x3F26BD02#32)))
        (addf (Host.sqrt (Host.divf (VEL b G V) (broadcastInDim s ![] b (constant Cert.Reference26Ideal.S_ .f32 0x3C231ACC#32))))
          (broadcastInDim s ![] b (constant Cert.Reference26Ideal.S_ .f32 0x322BCC77#32))))
      (mulf (broadcastInDim s ![] b (constant Cert.Reference26Ideal.S_ .f32 0x3C23D70A#32)) W))

/-- The payload stored for the new first moment, at an index where the blocks hold the arrays' entries. -/
theorem pay_m (x1 x2 : FVec Ideal S256x128 .f32) (G M : FVec Ideal s .f32) (y : S256x128.Idx) (j : s.Idx)
    (h1 : x1 y = G j) (h2 : x2 y = M j) :
    k0_pay2 x1 x2 y = MOM b G M j := by
  pointwise [k0_pay2, k0_pay1, MOM]
  simp only [h1, h2]

/-- The payload stored for the new second moment, at an index where the blocks hold the arrays' entries. -/
theorem pay_v (x1 x3 : FVec Ideal S256x128 .f32) (G V : FVec Ideal s .f32) (y : S256x128.Idx) (j : s.Idx)
    (h1 : x1 y = G j) (h3 : x3 y = V j) :
    k0_pay3 x1 x3 y = VEL b G V j := by
  pointwise [k0_pay3, k0_pay1, VEL]
  simp only [h1, h3]

/-- The payload stored for the change of the weight, at an index where the blocks hold the arrays' entries. -/
theorem pay_delta (x0 x1 x2 x3 : FVec Ideal S256x128 .f32) (W G M V : FVec Ideal s .f32) (y : S256x128.Idx) (j : s.Idx)
    (h0 : x0 y = W j) (h1 : x1 y = G j) (h2 : x2 y = M j) (h3 : x3 y = V j) :
    k0_pay4 x0 x1 x2 x3 y = DELTA b W G M V j := by
  pointwise [k0_pay4, k0_pay3, k0_pay2, k0_pay1, DELTA]
  simp only [h0, h1, h2, h3]

end Step

/-- The new first moment of laid out arrays, entry by entry. -/
abbrev MOMP (G M : FVec Ideal S4608x128 .f32) : FVec Ideal S4608x128 .f32 := fun i =>
  k0_pay2 (F := Ideal) (fun _ => G i) (fun _ => M i) (ix2 0 0)

/-- The new second moment of laid out arrays, entry by entry. -/
abbrev VELP (G V : FVec Ideal S4608x128 .f32) : FVec Ideal S4608x128 .f32 := fun i =>
  k0_pay3 (F := Ideal) (fun _ => G i) (fun _ => V i) (ix2 0 0)

/-- The change of the weights of laid out arrays, entry by entry. -/
abbrev DELTAP (W G M V : FVec Ideal S4608x128 .f32) : FVec Ideal S4608x128 .f32 := fun i =>
  k0_pay4 (F := Ideal) (fun _ => W i) (fun _ => G i) (fun _ => M i) (fun _ => V i) (ix2 0 0)

/-- The payload of the new first moment reads its blocks at one index. -/
theorem at_m (x1 x2 : FVec Ideal S256x128 .f32) (y : S256x128.Idx) (g u : EReal) (h1 : x1 y = g) (h2 : x2 y = u) :
    k0_pay2 x1 x2 y = k0_pay2 (F := Ideal) (fun _ => g) (fun _ => u) (ix2 0 0) := by
  pointwise [k0_pay2, k0_pay1]
  simp only [h1, h2]

/-- The payload of the new second moment reads its blocks at one index. -/
theorem at_v (x1 x3 : FVec Ideal S256x128 .f32) (y : S256x128.Idx) (g v : EReal) (h1 : x1 y = g) (h3 : x3 y = v) :
    k0_pay3 x1 x3 y = k0_pay3 (F := Ideal) (fun _ => g) (fun _ => v) (ix2 0 0) := by
  pointwise [k0_pay3, k0_pay1]
  simp only [h1, h3]

/-- The payload of the change of the weight reads its blocks at one index. -/
theorem at_delta (x0 x1 x2 x3 : FVec Ideal S256x128 .f32) (y : S256x128.Idx) (w g u v : EReal) (h0 : x0 y = w) (h1 : x1 y = g)
    (h2 : x2 y = u) (h3 : x3 y = v) :
    k0_pay4 x0 x1 x2 x3 y = k0_pay4 (F := Ideal) (fun _ => w) (fun _ => g) (fun _ => u) (fun _ => v) (ix2 0 0) := by
  pointwise [k0_pay4, k0_pay3, k0_pay2, k0_pay1]
  simp only [h0, h1, h2, h3]

section Pack

variable (X0 : FVec Ideal S2x2048 .f32)
  (X1 : FVec Ideal S2x64x64 .f32)
  (X2 : FVec Ideal S2x64x64 .f32)
  (X3 : FVec Ideal S2x64 .f32)
  (X4 : FVec Ideal S2x64x64x16 .f32)
  (X5 : FVec Ideal S2x64x64x16 .f32)
  (X6 : FVec Ideal S2x64x16x64 .f32)
  (X7 : FVec Ideal S2x64x16x64 .f32)
  (X8 : FVec Ideal S2x64x16 .f32)
  (X9 : FVec Ideal S2x1024 .f32)
  (X10 : FVec Ideal S2x1024 .f32)
  (X11 : FVec Ideal S2x128 .f32)
  (X12 : FVec Ideal S2x256 .f32)
  (X13 : FVec Ideal S2x64 .f32)
  (X14 : FVec Ideal S2x64 .f32)
  (X15 : FVec Ideal S2x32 .f32)
  (X16 : FVec Ideal S4x2048 .f32)

/-- The first sixteen arrays, each as one row. -/
abbrev PARTS : List ((s : Shape) × (s.Idx → EReal)) :=
  [⟨S4096, shapeCast S4096 X0 shapeCasts_S2x2048_S4096⟩,
    ⟨S8192, shapeCast S8192 X1 shapeCasts_S2x64x64_S8192⟩,
    ⟨S8192, shapeCast S8192 X2 shapeCasts_S2x64x64_S8192⟩,
    ⟨S128, shapeCast S128 X3 shapeCasts_S2x64_S128⟩,
    ⟨S131072, shapeCast S131072 X4 shapeCasts_S2x64x64x16_S131072⟩,
    ⟨S131072, shapeCast S131072 X5 shapeCasts_S2x64x64x16_S131072⟩,
    ⟨S131072, shapeCast S131072 X6 shapeCasts_S2x64x16x64_S131072⟩,
    ⟨S131072, shapeCast S131072 X7 shapeCasts_S2x64x16x64_S131072⟩,
    ⟨S2048, shapeCast S2048 X8 shapeCasts_S2x64x16_S2048⟩,
    ⟨S2048, shapeCast S2048 X9 shapeCasts_S2x1024_S2048⟩,
    ⟨S2048, shapeCast S2048 X10 shapeCasts_S2x1024_S2048⟩,
    ⟨S256, shapeCast S256 X11 shapeCasts_S2x128_S256⟩,
    ⟨S512, shapeCast S512 X12 shapeCasts_S2x256_S512⟩,
    ⟨S128, shapeCast S128 X13 shapeCasts_S2x64_S128⟩,
    ⟨S128, shapeCast S128 X14 shapeCasts_S2x64_S128⟩,
    ⟨S128, pad S128 ![0] ![64] ![0] (shapeCast S64 X15 shapeCasts_S2x32_S64 : FVec Ideal S64 .f32) (constant S_ .f32 0x00000000#32 : FVec Ideal S_ .f32) pads_S64_S128_0640 h_S_⟩]

/-- The rows of the first sixteen arrays one behind the other. -/
abbrev CAT16 : FVec Ideal S552192 .f32 :=
  concatenate S552192 0 (PARTS X0 X1 X2 X3 X4 X5 X6 X7 X8 X9 X10 X11 X12 X13 X14 X15) concatenates_S4096_S8192_S8192_S128_S131072_S131072_S131072_S131072_S2048_S2048_S2048_S256_S512_S128_S128_S128_S552192_d0

/-- The row of the first sixteen arrays together and that of the last. -/
abbrev PARTS2 : List ((s : Shape) × (s.Idx → EReal)) :=
  [⟨S552192, CAT16 X0 X1 X2 X3 X4 X5 X6 X7 X8 X9 X10 X11 X12 X13 X14 X15⟩, ⟨S8192, shapeCast S8192 X16 shapeCasts_S4x2048_S8192⟩]

/-- The rows of all the arrays one behind the other. -/
abbrev CAT17 : FVec Ideal S560384 .f32 :=
  concatenate S560384 0 (PARTS2 X0 X1 X2 X3 X4 X5 X6 X7 X8 X9 X10 X11 X12 X13 X14 X15 X16) concatenates_S552192_S8192_S560384_d0

/-- An operand of the call: the row filled up with zeros and cut into rows of 128. -/
abbrev PACK : FVec Ideal S4608x128 .f32 :=
  shapeCast S4608x128 (pad S589824 ![0] ![29440] ![0] (CAT17 X0 X1 X2 X3 X4 X5 X6 X7 X8 X9 X10 X11 X12 X13 X14 X15 X16) (constant S_ .f32 0x00000000#32 : FVec Ideal S_ .f32) pads_S560384_S589824_0294400 h_S_ : FVec Ideal S589824 .f32) shapeCasts_S589824_S4608x128

end Pack

/-- Operand 0 of the call, of the arguments. -/
abbrev PK0 (c : Dev nD) : FVec Ideal S4608x128 .f32 :=
  PACK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))

/-- The host's first steps for operand 0, run on any contents. -/
theorem head_0 (W : Valuation τ sig (Elt Ideal)) : StableHlo.after hostOps0 W (Proc.devRef .tc main_v21)
    = PACK (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) := by
  simp only [hostOps0, StableHlo.after_cons, StableHlo.after_nil]
  after_results_simp
  rfl

/-- Operand 0 when the call begins. -/
theorem entry_0 (c : Dev nD) : V m c (Pipeline.arrRef spec0 0) = PK0 m c :=
  (congrArg (fun l => StableHlo.after l (fun b => m (c, b)) (Proc.devRef .tc main_v21)) (List.append_nil hostOps0)).trans (head_0 _)

/-- Operand 1 of the call, of the arguments. -/
abbrev PK1 (c : Dev nD) : FVec Ideal S4608x128 .f32 :=
  PACK (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33))

/-- The host's first steps for operand 1, run on any contents. -/
theorem head_1 (W : Valuation τ sig (Elt Ideal)) : StableHlo.after hostOps0 W (Proc.devRef .tc main_v43)
    = PACK (W (Proc.devRef .tc main_arg17)) (W (Proc.devRef .tc main_arg18)) (W (Proc.devRef .tc main_arg19)) (W (Proc.devRef .tc main_arg20)) (W (Proc.devRef .tc main_arg21)) (W (Proc.devRef .tc main_arg22)) (W (Proc.devRef .tc main_arg23)) (W (Proc.devRef .tc main_arg24)) (W (Proc.devRef .tc main_arg25)) (W (Proc.devRef .tc main_arg26)) (W (Proc.devRef .tc main_arg27)) (W (Proc.devRef .tc main_arg28)) (W (Proc.devRef .tc main_arg29)) (W (Proc.devRef .tc main_arg30)) (W (Proc.devRef .tc main_arg31)) (W (Proc.devRef .tc main_arg32)) (W (Proc.devRef .tc main_arg33)) := by
  simp only [hostOps0, StableHlo.after_cons, StableHlo.after_nil]
  after_results_simp
  rfl

/-- Operand 1 when the call begins. -/
theorem entry_1 (c : Dev nD) : V m c (Pipeline.arrRef spec0 1) = PK1 m c :=
  (congrArg (fun l => StableHlo.after l (fun b => m (c, b)) (Proc.devRef .tc main_v43)) (List.append_nil hostOps0)).trans (head_1 _)

/-- Operand 2 of the call, of the arguments. -/
abbrev PK2 (c : Dev nD) : FVec Ideal S4608x128 .f32 :=
  PACK (m ((c : Thread nD τ).loc main_arg34)) (m ((c : Thread nD τ).loc main_arg35)) (m ((c : Thread nD τ).loc main_arg36)) (m ((c : Thread nD τ).loc main_arg37)) (m ((c : Thread nD τ).loc main_arg38)) (m ((c : Thread nD τ).loc main_arg39)) (m ((c : Thread nD τ).loc main_arg40)) (m ((c : Thread nD τ).loc main_arg41)) (m ((c : Thread nD τ).loc main_arg42)) (m ((c : Thread nD τ).loc main_arg43)) (m ((c : Thread nD τ).loc main_arg44)) (m ((c : Thread nD τ).loc main_arg45)) (m ((c : Thread nD τ).loc main_arg46)) (m ((c : Thread nD τ).loc main_arg47)) (m ((c : Thread nD τ).loc main_arg48)) (m ((c : Thread nD τ).loc main_arg49)) (m ((c : Thread nD τ).loc main_arg50))

/-- The host's first steps for operand 2, run on any contents. -/
theorem head_2 (W : Valuation τ sig (Elt Ideal)) : StableHlo.after hostOps0 W (Proc.devRef .tc main_v65)
    = PACK (W (Proc.devRef .tc main_arg34)) (W (Proc.devRef .tc main_arg35)) (W (Proc.devRef .tc main_arg36)) (W (Proc.devRef .tc main_arg37)) (W (Proc.devRef .tc main_arg38)) (W (Proc.devRef .tc main_arg39)) (W (Proc.devRef .tc main_arg40)) (W (Proc.devRef .tc main_arg41)) (W (Proc.devRef .tc main_arg42)) (W (Proc.devRef .tc main_arg43)) (W (Proc.devRef .tc main_arg44)) (W (Proc.devRef .tc main_arg45)) (W (Proc.devRef .tc main_arg46)) (W (Proc.devRef .tc main_arg47)) (W (Proc.devRef .tc main_arg48)) (W (Proc.devRef .tc main_arg49)) (W (Proc.devRef .tc main_arg50)) := by
  simp only [hostOps0, StableHlo.after_cons, StableHlo.after_nil]
  after_results_simp
  rfl

/-- Operand 2 when the call begins. -/
theorem entry_2 (c : Dev nD) : V m c (Pipeline.arrRef spec0 2) = PK2 m c :=
  (congrArg (fun l => StableHlo.after l (fun b => m (c, b)) (Proc.devRef .tc main_v65)) (List.append_nil hostOps0)).trans (head_2 _)

/-- Operand 3 of the call, of the arguments. -/
abbrev PK3 (c : Dev nD) : FVec Ideal S4608x128 .f32 :=
  PACK (m ((c : Thread nD τ).loc main_arg51)) (m ((c : Thread nD τ).loc main_arg52)) (m ((c : Thread nD τ).loc main_arg53)) (m ((c : Thread nD τ).loc main_arg54)) (m ((c : Thread nD τ).loc main_arg55)) (m ((c : Thread nD τ).loc main_arg56)) (m ((c : Thread nD τ).loc main_arg57)) (m ((c : Thread nD τ).loc main_arg58)) (m ((c : Thread nD τ).loc main_arg59)) (m ((c : Thread nD τ).loc main_arg60)) (m ((c : Thread nD τ).loc main_arg61)) (m ((c : Thread nD τ).loc main_arg62)) (m ((c : Thread nD τ).loc main_arg63)) (m ((c : Thread nD τ).loc main_arg64)) (m ((c : Thread nD τ).loc main_arg65)) (m ((c : Thread nD τ).loc main_arg66)) (m ((c : Thread nD τ).loc main_arg67))

/-- The host's first steps for operand 3, run on any contents. -/
theorem head_3 (W : Valuation τ sig (Elt Ideal)) : StableHlo.after hostOps0 W (Proc.devRef .tc main_v87)
    = PACK (W (Proc.devRef .tc main_arg51)) (W (Proc.devRef .tc main_arg52)) (W (Proc.devRef .tc main_arg53)) (W (Proc.devRef .tc main_arg54)) (W (Proc.devRef .tc main_arg55)) (W (Proc.devRef .tc main_arg56)) (W (Proc.devRef .tc main_arg57)) (W (Proc.devRef .tc main_arg58)) (W (Proc.devRef .tc main_arg59)) (W (Proc.devRef .tc main_arg60)) (W (Proc.devRef .tc main_arg61)) (W (Proc.devRef .tc main_arg62)) (W (Proc.devRef .tc main_arg63)) (W (Proc.devRef .tc main_arg64)) (W (Proc.devRef .tc main_arg65)) (W (Proc.devRef .tc main_arg66)) (W (Proc.devRef .tc main_arg67)) := by
  simp only [hostOps0, StableHlo.after_cons, StableHlo.after_nil]
  after_results_simp
  rfl

/-- Operand 3 when the call begins. -/
theorem entry_3 (c : Dev nD) : V m c (Pipeline.arrRef spec0 3) = PK3 m c :=
  (congrArg (fun l => StableHlo.after l (fun b => m (c, b)) (Proc.devRef .tc main_v87)) (List.append_nil hostOps0)).trans (head_3 _)

/-- The index of a result that block index `y` of grid point `t` stands for. -/
abbrev place (t : Fin cfg0.N) (y : S256x128.Idx) : S4608x128.Idx := ((cfg0.win 4).blk t).view.emb y

/-- A staged block of operand 0, as a read of the operand. -/
theorem blk_0 (c : Dev nD) (t : Fin cfg0.N) (y : S256x128.Idx) : iblk m c 0 t y = PK0 m c (place t y) := by
  have e : ((cfg0.win 0).blk t).view.emb y = place t y := by blk_ext [idx t, place]
  unfold iblk
  rw [View.read_apply, entry_0, cast_eq, e]

/-- A staged block of operand 1, as a read of the operand. -/
theorem blk_1 (c : Dev nD) (t : Fin cfg0.N) (y : S256x128.Idx) : iblk m c 1 t y = PK1 m c (place t y) := by
  have e : ((cfg0.win 1).blk t).view.emb y = place t y := by blk_ext [idx t, place]
  unfold iblk
  rw [View.read_apply, entry_1, cast_eq, e]

/-- A staged block of operand 2, as a read of the operand. -/
theorem blk_2 (c : Dev nD) (t : Fin cfg0.N) (y : S256x128.Idx) : iblk m c 2 t y = PK2 m c (place t y) := by
  have e : ((cfg0.win 2).blk t).view.emb y = place t y := by blk_ext [idx t, place]
  unfold iblk
  rw [View.read_apply, entry_2, cast_eq, e]

/-- A staged block of operand 3, as a read of the operand. -/
theorem blk_3 (c : Dev nD) (t : Fin cfg0.N) (y : S256x128.Idx) : iblk m c 3 t y = PK3 m c (place t y) := by
  have e : ((cfg0.win 3).blk t).view.emb y = place t y := by blk_ext [idx t, place]
  unfold iblk
  rw [View.read_apply, entry_3, cast_eq, e]

/-- The result array of the change of the weights is the step of the operands, entry by entry. -/
theorem run_delta (c : Dev nD) : (dats m 0 c).arrAt 4 (cfgs 0).N = DELTAP (PK0 m c) (PK1 m c) (PK2 m c) (PK3 m c) := by
  refine (dats m 0 c).arrAt_eq_of_covers 4 _ (by decide +kernel) fun t _ y => ?_
  have e : ((cfg0.win 4).blk t).view.emb y = place t y := by blk_ext [idx t, place]
  blk_simp
  rw [after0_4]; frame_out
  rw [e]
  exact at_delta _ _ _ _ y _ _ _ _ (blk_0 m c t y) (blk_1 m c t y) (blk_2 m c t y) (blk_3 m c t y)

/-- The result array of the change of the weights, in the contents the host's last steps begin with. -/
theorem after_delta (c : Dev nD) (W : Valuation τ sig (Elt Ideal)) :
    Pipeline.withArrays (cfgs 0).spec c W (fun w => (dats m 0 c).arrAt w (cfgs 0).N) (Proc.devRef .tc main_v88_0)
    = DELTAP (PK0 m c) (PK1 m c) (PK2 m c) (PK3 m c) :=
  (Pipeline.withArrays_arr (cfgs 0).spec (by decide) c W (fun w => (dats m 0 c).arrAt w (cfgs 0).N) 4).trans (run_delta m c)

/-- The result array of the new first moments is the step of the operands, entry by entry. -/
theorem run_m (c : Dev nD) : (dats m 0 c).arrAt 5 (cfgs 0).N = MOMP (PK1 m c) (PK2 m c) := by
  refine (dats m 0 c).arrAt_eq_of_covers 5 _ (by decide +kernel) fun t _ y => ?_
  have e : ((cfg0.win 5).blk t).view.emb y = place t y := by blk_ext [idx t, place]
  blk_simp
  rw [after0_5]; frame_out
  rw [e]
  exact at_m _ _ y _ _ (blk_1 m c t y) (blk_2 m c t y)

/-- The result array of the new first moments, in the contents the host's last steps begin with. -/
theorem after_m (c : Dev nD) (W : Valuation τ sig (Elt Ideal)) :
    Pipeline.withArrays (cfgs 0).spec c W (fun w => (dats m 0 c).arrAt w (cfgs 0).N) (Proc.devRef .tc main_v88_1)
    = MOMP (PK1 m c) (PK2 m c) :=
  (Pipeline.withArrays_arr (cfgs 0).spec (by decide) c W (fun w => (dats m 0 c).arrAt w (cfgs 0).N) 5).trans (run_m m c)

/-- The result array of the new second moments is the step of the operands, entry by entry. -/
theorem run_v (c : Dev nD) : (dats m 0 c).arrAt 6 (cfgs 0).N = VELP (PK1 m c) (PK3 m c) := by
  refine (dats m 0 c).arrAt_eq_of_covers 6 _ (by decide +kernel) fun t _ y => ?_
  have e : ((cfg0.win 6).blk t).view.emb y = place t y := by blk_ext [idx t, place]
  blk_simp
  rw [after0_6]; frame_out
  rw [e]
  exact at_v _ _ y _ _ (blk_1 m c t y) (blk_3 m c t y)

/-- The result array of the new second moments, in the contents the host's last steps begin with. -/
theorem after_v (c : Dev nD) (W : Valuation τ sig (Elt Ideal)) :
    Pipeline.withArrays (cfgs 0).spec c W (fun w => (dats m 0 c).arrAt w (cfgs 0).N) (Proc.devRef .tc main_v88_2)
    = VELP (PK1 m c) (PK3 m c) :=
  (Pipeline.withArrays_arr (cfgs 0).spec (by decide) c W (fun w => (dats m 0 c).arrAt w (cfgs 0).N) 6).trans (run_v m c)

/-- How far an array reaches along the row. -/
abbrev ext (s : Shape) : Nat := if h : s.rank = 1 then s.size ((0 : Fin 1).cast h.symm) else 0

section Place

variable (X0 : FVec Ideal S2x2048 .f32)
  (X1 : FVec Ideal S2x64x64 .f32)
  (X2 : FVec Ideal S2x64x64 .f32)
  (X3 : FVec Ideal S2x64 .f32)
  (X4 : FVec Ideal S2x64x64x16 .f32)
  (X5 : FVec Ideal S2x64x64x16 .f32)
  (X6 : FVec Ideal S2x64x16x64 .f32)
  (X7 : FVec Ideal S2x64x16x64 .f32)
  (X8 : FVec Ideal S2x64x16 .f32)
  (X9 : FVec Ideal S2x1024 .f32)
  (X10 : FVec Ideal S2x1024 .f32)
  (X11 : FVec Ideal S2x128 .f32)
  (X12 : FVec Ideal S2x256 .f32)
  (X13 : FVec Ideal S2x64 .f32)
  (X14 : FVec Ideal S2x64 .f32)
  (X15 : FVec Ideal S2x32 .f32)
  (X16 : FVec Ideal S4x2048 .f32)

/-- An operand at an index: the row at the same position. -/
theorem pack_flat (i : S4608x128.Idx) (p : Nat) (hp : p < 560384) (he : (i 0).val * 128 + (i 1).val = p) :
    PACK X0 X1 X2 X3 X4 X5 X6 X7 X8 X9 X10 X11 X12 X13 X14 X15 X16 i = CAT17 X0 X1 X2 X3 X4 X5 X6 X7 X8 X9 X10 X11 X12 X13 X14 X15 X16 (ix1 (⟨p, hp⟩ : Fin 560384)) := by
  refine (congrArg _ (Shape.reshapeEquiv_eq_of_rowMajor _ (y := (ix1 (⟨p, by omega⟩ : Fin 589824) : S589824.Idx)) ?_)).trans
    (pad_apply_of_inside _ _ _ _ _ _ _ _ _ fun a => ?_)
  · rw [Shape.rowMajor_val_one, Shape.rowMajor_val_two]
    exact he.symm
  · match a with
    | ⟨0, _⟩ => show p = 0 + p * (0 + 1); omega

/-- The row of all the arrays, before the seventeenth. -/
theorem cat_left (p : Nat) (hp : p < 552192) :
    CAT17 X0 X1 X2 X3 X4 X5 X6 X7 X8 X9 X10 X11 X12 X13 X14 X15 X16 (ix1 (⟨p, by omega⟩ : Fin 560384)) = CAT16 X0 X1 X2 X3 X4 X5 X6 X7 X8 X9 X10 X11 X12 X13 X14 X15 (ix1 (⟨p, hp⟩ : Fin 552192)) := by
  refine concatenate_apply_piece (t := S560384) (0 : Fin 1) (PARTS2 X0 X1 X2 X3 X4 X5 X6 X7 X8 X9 X10 X11 X12 X13 X14 X15 X16) concatenates_S552192_S8192_S560384_d0 _ 0 (show 0 < 2 by omega) S552192 _ rfl rfl 0 rfl
    (ix1 (⟨p, hp⟩ : Fin 552192)) (fun b hb => ?_) ?_
  · match b with
    | ⟨0, _⟩ => exact absurd rfl hb
  · show 0 + p = p
    omega

/-- The reach of what lies before array 0. -/
theorem pre_0 : (List.map ext []).sum = 0 := by decide +kernel

/-- Array 0: its place in an operand. -/
theorem pack_0 (i : S4608x128.Idx) (j : S2x2048.Idx)
    (he : (i 0).val * 128 + (i 1).val = 0 + ((j 0).val * 2048 + (j 1).val)) :
    PACK X0 X1 X2 X3 X4 X5 X6 X7 X8 X9 X10 X11 X12 X13 X14 X15 X16 i = X0 j := by
  have b0 : (j 0).val < 2 := (j 0).isLt
  have b1 : (j 1).val < 2048 := (j 1).isLt
  refine (pack_flat X0 X1 X2 X3 X4 X5 X6 X7 X8 X9 X10 X11 X12 X13 X14 X15 X16 i _ (by omega) he).trans ?_
  refine (cat_left X0 X1 X2 X3 X4 X5 X6 X7 X8 X9 X10 X11 X12 X13 X14 X15 X16 _ (by omega)).trans ?_
  refine (concatenate_apply_piece (t := S552192) (0 : Fin 1) (PARTS X0 X1 X2 X3 X4 X5 X6 X7 X8 X9 X10 X11 X12 X13 X14 X15) concatenates_S4096_S8192_S8192_S128_S131072_S131072_S131072_S131072_S2048_S2048_S2048_S256_S512_S128_S128_S128_S552192_d0 _ 0 (show 0 < 16 by omega) S4096 _ rfl rfl 0 pre_0
    (ix1 (⟨((j 0).val * 2048 + (j 1).val), by omega⟩ : Fin 4096)) (fun b hb => ?_) ?_).trans ?_
  · match b with
    | ⟨0, _⟩ => exact absurd rfl hb
  · rfl
  · refine congrArg X0 (Shape.reshapeEquiv_eq_of_rowMajor _ ?_)
    rw [Shape.rowMajor_val_two, Shape.rowMajor_val_one]
    rfl

/-- The reach of what lies before array 1. -/
theorem pre_1 : (List.map ext [S4096]).sum = 4096 := by decide +kernel

/-- Array 1: its place in an operand. -/
theorem pack_1 (i : S4608x128.Idx) (j : S2x64x64.Idx)
    (he : (i 0).val * 128 + (i 1).val = 4096 + (((j 0).val * 64 + (j 1).val) * 64 + (j 2).val)) :
    PACK X0 X1 X2 X3 X4 X5 X6 X7 X8 X9 X10 X11 X12 X13 X14 X15 X16 i = X1 j := by
  have b0 : (j 0).val < 2 := (j 0).isLt
  have b1 : (j 1).val < 64 := (j 1).isLt
  have b2 : (j 2).val < 64 := (j 2).isLt
  refine (pack_flat X0 X1 X2 X3 X4 X5 X6 X7 X8 X9 X10 X11 X12 X13 X14 X15 X16 i _ (by omega) he).trans ?_
  refine (cat_left X0 X1 X2 X3 X4 X5 X6 X7 X8 X9 X10 X11 X12 X13 X14 X15 X16 _ (by omega)).trans ?_
  refine (concatenate_apply_piece (t := S552192) (0 : Fin 1) (PARTS X0 X1 X2 X3 X4 X5 X6 X7 X8 X9 X10 X11 X12 X13 X14 X15) concatenates_S4096_S8192_S8192_S128_S131072_S131072_S131072_S131072_S2048_S2048_S2048_S256_S512_S128_S128_S128_S552192_d0 _ 1 (show 1 < 16 by omega) S8192 _ rfl rfl 4096 pre_1
    (ix1 (⟨(((j 0).val * 64 + (j 1).val) * 64 + (j 2).val), by omega⟩ : Fin 8192)) (fun b hb => ?_) ?_).trans ?_
  · match b with
    | ⟨0, _⟩ => exact absurd rfl hb
  · rfl
  · refine congrArg X1 (Shape.reshapeEquiv_eq_of_rowMajor _ ?_)
    rw [Shape.rowMajor_val_three, Shape.rowMajor_val_one]
    rfl

/-- The reach of what lies before array 2. -/
theorem pre_2 : (List.map ext [S4096, S8192]).sum = 12288 := by decide +kernel

/-- Array 2: its place in an operand. -/
theorem pack_2 (i : S4608x128.Idx) (j : S2x64x64.Idx)
    (he : (i 0).val * 128 + (i 1).val = 12288 + (((j 0).val * 64 + (j 1).val) * 64 + (j 2).val)) :
    PACK X0 X1 X2 X3 X4 X5 X6 X7 X8 X9 X10 X11 X12 X13 X14 X15 X16 i = X2 j := by
  have b0 : (j 0).val < 2 := (j 0).isLt
  have b1 : (j 1).val < 64 := (j 1).isLt
  have b2 : (j 2).val < 64 := (j 2).isLt
  refine (pack_flat X0 X1 X2 X3 X4 X5 X6 X7 X8 X9 X10 X11 X12 X13 X14 X15 X16 i _ (by omega) he).trans ?_
  refine (cat_left X0 X1 X2 X3 X4 X5 X6 X7 X8 X9 X10 X11 X12 X13 X14 X15 X16 _ (by omega)).trans ?_
  refine (concatenate_apply_piece (t := S552192) (0 : Fin 1) (PARTS X0 X1 X2 X3 X4 X5 X6 X7 X8 X9 X10 X11 X12 X13 X14 X15) concatenates_S4096_S8192_S8192_S128_S131072_S131072_S131072_S131072_S2048_S2048_S2048_S256_S512_S128_S128_S128_S552192_d0 _ 2 (show 2 < 16 by omega) S8192 _ rfl rfl 12288 pre_2
    (ix1 (⟨(((j 0).val * 64 + (j 1).val) * 64 + (j 2).val), by omega⟩ : Fin 8192)) (fun b hb => ?_) ?_).trans ?_
  · match b with
    | ⟨0, _⟩ => exact absurd rfl hb
  · rfl
  · refine congrArg X2 (Shape.reshapeEquiv_eq_of_rowMajor _ ?_)
    rw [Shape.rowMajor_val_three, Shape.rowMajor_val_one]
    rfl

/-- The reach of what lies before array 3. -/
theorem pre_3 : (List.map ext [S4096, S8192, S8192]).sum = 20480 := by decide +kernel

/-- Array 3: its place in an operand. -/
theorem pack_3 (i : S4608x128.Idx) (j : S2x64.Idx)
    (he : (i 0).val * 128 + (i 1).val = 20480 + ((j 0).val * 64 + (j 1).val)) :
    PACK X0 X1 X2 X3 X4 X5 X6 X7 X8 X9 X10 X11 X12 X13 X14 X15 X16 i = X3 j := by
  have b0 : (j 0).val < 2 := (j 0).isLt
  have b1 : (j 1).val < 64 := (j 1).isLt
  refine (pack_flat X0 X1 X2 X3 X4 X5 X6 X7 X8 X9 X10 X11 X12 X13 X14 X15 X16 i _ (by omega) he).trans ?_
  refine (cat_left X0 X1 X2 X3 X4 X5 X6 X7 X8 X9 X10 X11 X12 X13 X14 X15 X16 _ (by omega)).trans ?_
  refine (concatenate_apply_piece (t := S552192) (0 : Fin 1) (PARTS X0 X1 X2 X3 X4 X5 X6 X7 X8 X9 X10 X11 X12 X13 X14 X15) concatenates_S4096_S8192_S8192_S128_S131072_S131072_S131072_S131072_S2048_S2048_S2048_S256_S512_S128_S128_S128_S552192_d0 _ 3 (show 3 < 16 by omega) S128 _ rfl rfl 20480 pre_3
    (ix1 (⟨((j 0).val * 64 + (j 1).val), by omega⟩ : Fin 128)) (fun b hb => ?_) ?_).trans ?_
  · match b with
    | ⟨0, _⟩ => exact absurd rfl hb
  · rfl
  · refine congrArg X3 (Shape.reshapeEquiv_eq_of_rowMajor _ ?_)
    rw [Shape.rowMajor_val_two, Shape.rowMajor_val_one]
    rfl

/-- The reach of what lies before array 4. -/
theorem pre_4 : (List.map ext [S4096, S8192, S8192, S128]).sum = 20608 := by decide +kernel

/-- Array 4: its place in an operand. -/
theorem pack_4 (i : S4608x128.Idx) (j : S2x64x64x16.Idx)
    (he : (i 0).val * 128 + (i 1).val = 20608 + ((((j 0).val * 64 + (j 1).val) * 64 + (j 2).val) * 16 + (j 3).val)) :
    PACK X0 X1 X2 X3 X4 X5 X6 X7 X8 X9 X10 X11 X12 X13 X14 X15 X16 i = X4 j := by
  have b0 : (j 0).val < 2 := (j 0).isLt
  have b1 : (j 1).val < 64 := (j 1).isLt
  have b2 : (j 2).val < 64 := (j 2).isLt
  have b3 : (j 3).val < 16 := (j 3).isLt
  refine (pack_flat X0 X1 X2 X3 X4 X5 X6 X7 X8 X9 X10 X11 X12 X13 X14 X15 X16 i _ (by omega) he).trans ?_
  refine (cat_left X0 X1 X2 X3 X4 X5 X6 X7 X8 X9 X10 X11 X12 X13 X14 X15 X16 _ (by omega)).trans ?_
  refine (concatenate_apply_piece (t := S552192) (0 : Fin 1) (PARTS X0 X1 X2 X3 X4 X5 X6 X7 X8 X9 X10 X11 X12 X13 X14 X15) concatenates_S4096_S8192_S8192_S128_S131072_S131072_S131072_S131072_S2048_S2048_S2048_S256_S512_S128_S128_S128_S552192_d0 _ 4 (show 4 < 16 by omega) S131072 _ rfl rfl 20608 pre_4
    (ix1 (⟨((((j 0).val * 64 + (j 1).val) * 64 + (j 2).val) * 16 + (j 3).val), by omega⟩ : Fin 131072)) (fun b hb => ?_) ?_).trans ?_
  · match b with
    | ⟨0, _⟩ => exact absurd rfl hb
  · rfl
  · refine congrArg X4 (Shape.reshapeEquiv_eq_of_rowMajor _ ?_)
    rw [Shape.rowMajor_val_four, Shape.rowMajor_val_one]
    rfl

/-- The reach of what lies before array 5. -/
theorem pre_5 : (List.map ext [S4096, S8192, S8192, S128, S131072]).sum = 151680 := by decide +kernel

/-- Array 5: its place in an operand. -/
theorem pack_5 (i : S4608x128.Idx) (j : S2x64x64x16.Idx)
    (he : (i 0).val * 128 + (i 1).val = 151680 + ((((j 0).val * 64 + (j 1).val) * 64 + (j 2).val) * 16 + (j 3).val)) :
    PACK X0 X1 X2 X3 X4 X5 X6 X7 X8 X9 X10 X11 X12 X13 X14 X15 X16 i = X5 j := by
  have b0 : (j 0).val < 2 := (j 0).isLt
  have b1 : (j 1).val < 64 := (j 1).isLt
  have b2 : (j 2).val < 64 := (j 2).isLt
  have b3 : (j 3).val < 16 := (j 3).isLt
  refine (pack_flat X0 X1 X2 X3 X4 X5 X6 X7 X8 X9 X10 X11 X12 X13 X14 X15 X16 i _ (by omega) he).trans ?_
  refine (cat_left X0 X1 X2 X3 X4 X5 X6 X7 X8 X9 X10 X11 X12 X13 X14 X15 X16 _ (by omega)).trans ?_
  refine (concatenate_apply_piece (t := S552192) (0 : Fin 1) (PARTS X0 X1 X2 X3 X4 X5 X6 X7 X8 X9 X10 X11 X12 X13 X14 X15) concatenates_S4096_S8192_S8192_S128_S131072_S131072_S131072_S131072_S2048_S2048_S2048_S256_S512_S128_S128_S128_S552192_d0 _ 5 (show 5 < 16 by omega) S131072 _ rfl rfl 151680 pre_5
    (ix1 (⟨((((j 0).val * 64 + (j 1).val) * 64 + (j 2).val) * 16 + (j 3).val), by omega⟩ : Fin 131072)) (fun b hb => ?_) ?_).trans ?_
  · match b with
    | ⟨0, _⟩ => exact absurd rfl hb
  · rfl
  · refine congrArg X5 (Shape.reshapeEquiv_eq_of_rowMajor _ ?_)
    rw [Shape.rowMajor_val_four, Shape.rowMajor_val_one]
    rfl

/-- The reach of what lies before array 6. -/
theorem pre_6 : (List.map ext [S4096, S8192, S8192, S128, S131072, S131072]).sum = 282752 := by decide +kernel

/-- Array 6: its place in an operand. -/
theorem pack_6 (i : S4608x128.Idx) (j : S2x64x16x64.Idx)
    (he : (i 0).val * 128 + (i 1).val = 282752 + ((((j 0).val * 64 + (j 1).val) * 16 + (j 2).val) * 64 + (j 3).val)) :
    PACK X0 X1 X2 X3 X4 X5 X6 X7 X8 X9 X10 X11 X12 X13 X14 X15 X16 i = X6 j := by
  have b0 : (j 0).val < 2 := (j 0).isLt
  have b1 : (j 1).val < 64 := (j 1).isLt
  have b2 : (j 2).val < 16 := (j 2).isLt
  have b3 : (j 3).val < 64 := (j 3).isLt
  refine (pack_flat X0 X1 X2 X3 X4 X5 X6 X7 X8 X9 X10 X11 X12 X13 X14 X15 X16 i _ (by omega) he).trans ?_
  refine (cat_left X0 X1 X2 X3 X4 X5 X6 X7 X8 X9 X10 X11 X12 X13 X14 X15 X16 _ (by omega)).trans ?_
  refine (concatenate_apply_piece (t := S552192) (0 : Fin 1) (PARTS X0 X1 X2 X3 X4 X5 X6 X7 X8 X9 X10 X11 X12 X13 X14 X15) concatenates_S4096_S8192_S8192_S128_S131072_S131072_S131072_S131072_S2048_S2048_S2048_S256_S512_S128_S128_S128_S552192_d0 _ 6 (show 6 < 16 by omega) S131072 _ rfl rfl 282752 pre_6
    (ix1 (⟨((((j 0).val * 64 + (j 1).val) * 16 + (j 2).val) * 64 + (j 3).val), by omega⟩ : Fin 131072)) (fun b hb => ?_) ?_).trans ?_
  · match b with
    | ⟨0, _⟩ => exact absurd rfl hb
  · rfl
  · refine congrArg X6 (Shape.reshapeEquiv_eq_of_rowMajor _ ?_)
    rw [Shape.rowMajor_val_four, Shape.rowMajor_val_one]
    rfl

/-- The reach of what lies before array 7. -/
theorem pre_7 : (List.map ext [S4096, S8192, S8192, S128, S131072, S131072, S131072]).sum = 413824 := by decide +kernel

/-- Array 7: its place in an operand. -/
theorem pack_7 (i : S4608x128.Idx) (j : S2x64x16x64.Idx)
    (he : (i 0).val * 128 + (i 1).val = 413824 + ((((j 0).val * 64 + (j 1).val) * 16 + (j 2).val) * 64 + (j 3).val)) :
    PACK X0 X1 X2 X3 X4 X5 X6 X7 X8 X9 X10 X11 X12 X13 X14 X15 X16 i = X7 j := by
  have b0 : (j 0).val < 2 := (j 0).isLt
  have b1 : (j 1).val < 64 := (j 1).isLt
  have b2 : (j 2).val < 16 := (j 2).isLt
  have b3 : (j 3).val < 64 := (j 3).isLt
  refine (pack_flat X0 X1 X2 X3 X4 X5 X6 X7 X8 X9 X10 X11 X12 X13 X14 X15 X16 i _ (by omega) he).trans ?_
  refine (cat_left X0 X1 X2 X3 X4 X5 X6 X7 X8 X9 X10 X11 X12 X13 X14 X15 X16 _ (by omega)).trans ?_
  refine (concatenate_apply_piece (t := S552192) (0 : Fin 1) (PARTS X0 X1 X2 X3 X4 X5 X6 X7 X8 X9 X10 X11 X12 X13 X14 X15) concatenates_S4096_S8192_S8192_S128_S131072_S131072_S131072_S131072_S2048_S2048_S2048_S256_S512_S128_S128_S128_S552192_d0 _ 7 (show 7 < 16 by omega) S131072 _ rfl rfl 413824 pre_7
    (ix1 (⟨((((j 0).val * 64 + (j 1).val) * 16 + (j 2).val) * 64 + (j 3).val), by omega⟩ : Fin 131072)) (fun b hb => ?_) ?_).trans ?_
  · match b with
    | ⟨0, _⟩ => exact absurd rfl hb
  · rfl
  · refine congrArg X7 (Shape.reshapeEquiv_eq_of_rowMajor _ ?_)
    rw [Shape.rowMajor_val_four, Shape.rowMajor_val_one]
    rfl

/-- The reach of what lies before array 8. -/
theorem pre_8 : (List.map ext [S4096, S8192, S8192, S128, S131072, S131072, S131072, S131072]).sum = 544896 := by decide +kernel

/-- Array 8: its place in an operand. -/
theorem pack_8 (i : S4608x128.Idx) (j : S2x64x16.Idx)
    (he : (i 0).val * 128 + (i 1).val = 544896 + (((j 0).val * 64 + (j 1).val) * 16 + (j 2).val)) :
    PACK X0 X1 X2 X3 X4 X5 X6 X7 X8 X9 X10 X11 X12 X13 X14 X15 X16 i = X8 j := by
  have b0 : (j 0).val < 2 := (j 0).isLt
  have b1 : (j 1).val < 64 := (j 1).isLt
  have b2 : (j 2).val < 16 := (j 2).isLt
  refine (pack_flat X0 X1 X2 X3 X4 X5 X6 X7 X8 X9 X10 X11 X12 X13 X14 X15 X16 i _ (by omega) he).trans ?_
  refine (cat_left X0 X1 X2 X3 X4 X5 X6 X7 X8 X9 X10 X11 X12 X13 X14 X15 X16 _ (by omega)).trans ?_
  refine (concatenate_apply_piece (t := S552192) (0 : Fin 1) (PARTS X0 X1 X2 X3 X4 X5 X6 X7 X8 X9 X10 X11 X12 X13 X14 X15) concatenates_S4096_S8192_S8192_S128_S131072_S131072_S131072_S131072_S2048_S2048_S2048_S256_S512_S128_S128_S128_S552192_d0 _ 8 (show 8 < 16 by omega) S2048 _ rfl rfl 544896 pre_8
    (ix1 (⟨(((j 0).val * 64 + (j 1).val) * 16 + (j 2).val), by omega⟩ : Fin 2048)) (fun b hb => ?_) ?_).trans ?_
  · match b with
    | ⟨0, _⟩ => exact absurd rfl hb
  · rfl
  · refine congrArg X8 (Shape.reshapeEquiv_eq_of_rowMajor _ ?_)
    rw [Shape.rowMajor_val_three, Shape.rowMajor_val_one]
    rfl

/-- The reach of what lies before array 9. -/
theorem pre_9 : (List.map ext [S4096, S8192, S8192, S128, S131072, S131072, S131072, S131072, S2048]).sum = 546944 := by decide +kernel

/-- Array 9: its place in an operand. -/
theorem pack_9 (i : S4608x128.Idx) (j : S2x1024.Idx)
    (he : (i 0).val * 128 + (i 1).val = 546944 + ((j 0).val * 1024 + (j 1).val)) :
    PACK X0 X1 X2 X3 X4 X5 X6 X7 X8 X9 X10 X11 X12 X13 X14 X15 X16 i = X9 j := by
  have b0 : (j 0).val < 2 := (j 0).isLt
  have b1 : (j 1).val < 1024 := (j 1).isLt
  refine (pack_flat X0 X1 X2 X3 X4 X5 X6 X7 X8 X9 X10 X11 X12 X13 X14 X15 X16 i _ (by omega) he).trans ?_
  refine (cat_left X0 X1 X2 X3 X4 X5 X6 X7 X8 X9 X10 X11 X12 X13 X14 X15 X16 _ (by omega)).trans ?_
  refine (concatenate_apply_piece (t := S552192) (0 : Fin 1) (PARTS X0 X1 X2 X3 X4 X5 X6 X7 X8 X9 X10 X11 X12 X13 X14 X15) concatenates_S4096_S8192_S8192_S128_S131072_S131072_S131072_S131072_S2048_S2048_S2048_S256_S512_S128_S128_S128_S552192_d0 _ 9 (show 9 < 16 by omega) S2048 _ rfl rfl 546944 pre_9
    (ix1 (⟨((j 0).val * 1024 + (j 1).val), by omega⟩ : Fin 2048)) (fun b hb => ?_) ?_).trans ?_
  · match b with
    | ⟨0, _⟩ => exact absurd rfl hb
  · rfl
  · refine congrArg X9 (Shape.reshapeEquiv_eq_of_rowMajor _ ?_)
    rw [Shape.rowMajor_val_two, Shape.rowMajor_val_one]
    rfl

/-- The reach of what lies before array 10. -/
theorem pre_10 : (List.map ext [S4096, S8192, S8192, S128, S131072, S131072, S131072, S131072, S2048, S2048]).sum = 548992 := by decide +kernel

/-- Array 10: its place in an operand. -/
theorem pack_10 (i : S4608x128.Idx) (j : S2x1024.Idx)
    (he : (i 0).val * 128 + (i 1).val = 548992 + ((j 0).val * 1024 + (j 1).val)) :
    PACK X0 X1 X2 X3 X4 X5 X6 X7 X8 X9 X10 X11 X12 X13 X14 X15 X16 i = X10 j := by
  have b0 : (j 0).val < 2 := (j 0).isLt
  have b1 : (j 1).val < 1024 := (j 1).isLt
  refine (pack_flat X0 X1 X2 X3 X4 X5 X6 X7 X8 X9 X10 X11 X12 X13 X14 X15 X16 i _ (by omega) he).trans ?_
  refine (cat_left X0 X1 X2 X3 X4 X5 X6 X7 X8 X9 X10 X11 X12 X13 X14 X15 X16 _ (by omega)).trans ?_
  refine (concatenate_apply_piece (t := S552192) (0 : Fin 1) (PARTS X0 X1 X2 X3 X4 X5 X6 X7 X8 X9 X10 X11 X12 X13 X14 X15) concatenates_S4096_S8192_S8192_S128_S131072_S131072_S131072_S131072_S2048_S2048_S2048_S256_S512_S128_S128_S128_S552192_d0 _ 10 (show 10 < 16 by omega) S2048 _ rfl rfl 548992 pre_10
    (ix1 (⟨((j 0).val * 1024 + (j 1).val), by omega⟩ : Fin 2048)) (fun b hb => ?_) ?_).trans ?_
  · match b with
    | ⟨0, _⟩ => exact absurd rfl hb
  · rfl
  · refine congrArg X10 (Shape.reshapeEquiv_eq_of_rowMajor _ ?_)
    rw [Shape.rowMajor_val_two, Shape.rowMajor_val_one]
    rfl

/-- The reach of what lies before array 11. -/
theorem pre_11 : (List.map ext [S4096, S8192, S8192, S128, S131072, S131072, S131072, S131072, S2048, S2048, S2048]).sum = 551040 := by decide +kernel

/-- Array 11: its place in an operand. -/
theorem pack_11 (i : S4608x128.Idx) (j : S2x128.Idx)
    (he : (i 0).val * 128 + (i 1).val = 551040 + ((j 0).val * 128 + (j 1).val)) :
    PACK X0 X1 X2 X3 X4 X5 X6 X7 X8 X9 X10 X11 X12 X13 X14 X15 X16 i = X11 j := by
  have b0 : (j 0).val < 2 := (j 0).isLt
  have b1 : (j 1).val < 128 := (j 1).isLt
  refine (pack_flat X0 X1 X2 X3 X4 X5 X6 X7 X8 X9 X10 X11 X12 X13 X14 X15 X16 i _ (by omega) he).trans ?_
  refine (cat_left X0 X1 X2 X3 X4 X5 X6 X7 X8 X9 X10 X11 X12 X13 X14 X15 X16 _ (by omega)).trans ?_
  refine (concatenate_apply_piece (t := S552192) (0 : Fin 1) (PARTS X0 X1 X2 X3 X4 X5 X6 X7 X8 X9 X10 X11 X12 X13 X14 X15) concatenates_S4096_S8192_S8192_S128_S131072_S131072_S131072_S131072_S2048_S2048_S2048_S256_S512_S128_S128_S128_S552192_d0 _ 11 (show 11 < 16 by omega) S256 _ rfl rfl 551040 pre_11
    (ix1 (⟨((j 0).val * 128 + (j 1).val), by omega⟩ : Fin 256)) (fun b hb => ?_) ?_).trans ?_
  · match b with
    | ⟨0, _⟩ => exact absurd rfl hb
  · rfl
  · refine congrArg X11 (Shape.reshapeEquiv_eq_of_rowMajor _ ?_)
    rw [Shape.rowMajor_val_two, Shape.rowMajor_val_one]
    rfl

/-- The reach of what lies before array 12. -/
theorem pre_12 : (List.map ext [S4096, S8192, S8192, S128, S131072, S131072, S131072, S131072, S2048, S2048, S2048, S256]).sum = 551296 := by decide +kernel

/-- Array 12: its place in an operand. -/
theorem pack_12 (i : S4608x128.Idx) (j : S2x256.Idx)
    (he : (i 0).val * 128 + (i 1).val = 551296 + ((j 0).val * 256 + (j 1).val)) :
    PACK X0 X1 X2 X3 X4 X5 X6 X7 X8 X9 X10 X11 X12 X13 X14 X15 X16 i = X12 j := by
  have b0 : (j 0).val < 2 := (j 0).isLt
  have b1 : (j 1).val < 256 := (j 1).isLt
  refine (pack_flat X0 X1 X2 X3 X4 X5 X6 X7 X8 X9 X10 X11 X12 X13 X14 X15 X16 i _ (by omega) he).trans ?_
  refine (cat_left X0 X1 X2 X3 X4 X5 X6 X7 X8 X9 X10 X11 X12 X13 X14 X15 X16 _ (by omega)).trans ?_
  refine (concatenate_apply_piece (t := S552192) (0 : Fin 1) (PARTS X0 X1 X2 X3 X4 X5 X6 X7 X8 X9 X10 X11 X12 X13 X14 X15) concatenates_S4096_S8192_S8192_S128_S131072_S131072_S131072_S131072_S2048_S2048_S2048_S256_S512_S128_S128_S128_S552192_d0 _ 12 (show 12 < 16 by omega) S512 _ rfl rfl 551296 pre_12
    (ix1 (⟨((j 0).val * 256 + (j 1).val), by omega⟩ : Fin 512)) (fun b hb => ?_) ?_).trans ?_
  · match b with
    | ⟨0, _⟩ => exact absurd rfl hb
  · rfl
  · refine congrArg X12 (Shape.reshapeEquiv_eq_of_rowMajor _ ?_)
    rw [Shape.rowMajor_val_two, Shape.rowMajor_val_one]
    rfl

/-- The reach of what lies before array 13. -/
theorem pre_13 : (List.map ext [S4096, S8192, S8192, S128, S131072, S131072, S131072, S131072, S2048, S2048, S2048, S256, S512]).sum = 551808 := by decide +kernel

/-- Array 13: its place in an operand. -/
theorem pack_13 (i : S4608x128.Idx) (j : S2x64.Idx)
    (he : (i 0).val * 128 + (i 1).val = 551808 + ((j 0).val * 64 + (j 1).val)) :
    PACK X0 X1 X2 X3 X4 X5 X6 X7 X8 X9 X10 X11 X12 X13 X14 X15 X16 i = X13 j := by
  have b0 : (j 0).val < 2 := (j 0).isLt
  have b1 : (j 1).val < 64 := (j 1).isLt
  refine (pack_flat X0 X1 X2 X3 X4 X5 X6 X7 X8 X9 X10 X11 X12 X13 X14 X15 X16 i _ (by omega) he).trans ?_
  refine (cat_left X0 X1 X2 X3 X4 X5 X6 X7 X8 X9 X10 X11 X12 X13 X14 X15 X16 _ (by omega)).trans ?_
  refine (concatenate_apply_piece (t := S552192) (0 : Fin 1) (PARTS X0 X1 X2 X3 X4 X5 X6 X7 X8 X9 X10 X11 X12 X13 X14 X15) concatenates_S4096_S8192_S8192_S128_S131072_S131072_S131072_S131072_S2048_S2048_S2048_S256_S512_S128_S128_S128_S552192_d0 _ 13 (show 13 < 16 by omega) S128 _ rfl rfl 551808 pre_13
    (ix1 (⟨((j 0).val * 64 + (j 1).val), by omega⟩ : Fin 128)) (fun b hb => ?_) ?_).trans ?_
  · match b with
    | ⟨0, _⟩ => exact absurd rfl hb
  · rfl
  · refine congrArg X13 (Shape.reshapeEquiv_eq_of_rowMajor _ ?_)
    rw [Shape.rowMajor_val_two, Shape.rowMajor_val_one]
    rfl

/-- The reach of what lies before array 14. -/
theorem pre_14 : (List.map ext [S4096, S8192, S8192, S128, S131072, S131072, S131072, S131072, S2048, S2048, S2048, S256, S512, S128]).sum = 551936 := by decide +kernel

/-- Array 14: its place in an operand. -/
theorem pack_14 (i : S4608x128.Idx) (j : S2x64.Idx)
    (he : (i 0).val * 128 + (i 1).val = 551936 + ((j 0).val * 64 + (j 1).val)) :
    PACK X0 X1 X2 X3 X4 X5 X6 X7 X8 X9 X10 X11 X12 X13 X14 X15 X16 i = X14 j := by
  have b0 : (j 0).val < 2 := (j 0).isLt
  have b1 : (j 1).val < 64 := (j 1).isLt
  refine (pack_flat X0 X1 X2 X3 X4 X5 X6 X7 X8 X9 X10 X11 X12 X13 X14 X15 X16 i _ (by omega) he).trans ?_
  refine (cat_left X0 X1 X2 X3 X4 X5 X6 X7 X8 X9 X10 X11 X12 X13 X14 X15 X16 _ (by omega)).trans ?_
  refine (concatenate_apply_piece (t := S552192) (0 : Fin 1) (PARTS X0 X1 X2 X3 X4 X5 X6 X7 X8 X9 X10 X11 X12 X13 X14 X15) concatenates_S4096_S8192_S8192_S128_S131072_S131072_S131072_S131072_S2048_S2048_S2048_S256_S512_S128_S128_S128_S552192_d0 _ 14 (show 14 < 16 by omega) S128 _ rfl rfl 551936 pre_14
    (ix1 (⟨((j 0).val * 64 + (j 1).val), by omega⟩ : Fin 128)) (fun b hb => ?_) ?_).trans ?_
  · match b with
    | ⟨0, _⟩ => exact absurd rfl hb
  · rfl
  · refine congrArg X14 (Shape.reshapeEquiv_eq_of_rowMajor _ ?_)
    rw [Shape.rowMajor_val_two, Shape.rowMajor_val_one]
    rfl

/-- The reach of what lies before array 15. -/
theorem pre_15 : (List.map ext [S4096, S8192, S8192, S128, S131072, S131072, S131072, S131072, S2048, S2048, S2048, S256, S512, S128, S128]).sum = 552064 := by decide +kernel

/-- Array 15: its place in an operand. -/
theorem pack_15 (i : S4608x128.Idx) (j : S2x32.Idx)
    (he : (i 0).val * 128 + (i 1).val = 552064 + ((j 0).val * 32 + (j 1).val)) :
    PACK X0 X1 X2 X3 X4 X5 X6 X7 X8 X9 X10 X11 X12 X13 X14 X15 X16 i = X15 j := by
  have b0 : (j 0).val < 2 := (j 0).isLt
  have b1 : (j 1).val < 32 := (j 1).isLt
  refine (pack_flat X0 X1 X2 X3 X4 X5 X6 X7 X8 X9 X10 X11 X12 X13 X14 X15 X16 i _ (by omega) he).trans ?_
  refine (cat_left X0 X1 X2 X3 X4 X5 X6 X7 X8 X9 X10 X11 X12 X13 X14 X15 X16 _ (by omega)).trans ?_
  refine (concatenate_apply_piece (t := S552192) (0 : Fin 1) (PARTS X0 X1 X2 X3 X4 X5 X6 X7 X8 X9 X10 X11 X12 X13 X14 X15) concatenates_S4096_S8192_S8192_S128_S131072_S131072_S131072_S131072_S2048_S2048_S2048_S256_S512_S128_S128_S128_S552192_d0 _ 15 (show 15 < 16 by omega) S128 _ rfl rfl 552064 pre_15
    (ix1 (⟨((j 0).val * 32 + (j 1).val), by omega⟩ : Fin 128)) (fun b hb => ?_) ?_).trans ?_
  · match b with
    | ⟨0, _⟩ => exact absurd rfl hb
  · rfl
  · refine (pad_apply_of_inside _ _ _ _ _ _ _ _ (ix1 (⟨((j 0).val * 32 + (j 1).val), by omega⟩ : Fin 64) : S64.Idx) fun a => ?_).trans
      (congrArg X15 (Shape.reshapeEquiv_eq_of_rowMajor _ ?_))
    · match a with
      | ⟨0, _⟩ => show ((j 0).val * 32 + (j 1).val) = 0 + ((j 0).val * 32 + (j 1).val) * (0 + 1); omega
    · rw [Shape.rowMajor_val_two, Shape.rowMajor_val_one]
      rfl

/-- The reach of what lies before array 16. -/
theorem pre_16 : (List.map ext [S552192]).sum = 552192 := by decide +kernel

/-- Array 16: its place in an operand. -/
theorem pack_16 (i : S4608x128.Idx) (j : S4x2048.Idx)
    (he : (i 0).val * 128 + (i 1).val = 552192 + ((j 0).val * 2048 + (j 1).val)) :
    PACK X0 X1 X2 X3 X4 X5 X6 X7 X8 X9 X10 X11 X12 X13 X14 X15 X16 i = X16 j := by
  have b0 : (j 0).val < 4 := (j 0).isLt
  have b1 : (j 1).val < 2048 := (j 1).isLt
  refine (pack_flat X0 X1 X2 X3 X4 X5 X6 X7 X8 X9 X10 X11 X12 X13 X14 X15 X16 i _ (by omega) he).trans ?_
  refine (concatenate_apply_piece (t := S560384) (0 : Fin 1) (PARTS2 X0 X1 X2 X3 X4 X5 X6 X7 X8 X9 X10 X11 X12 X13 X14 X15 X16) concatenates_S552192_S8192_S560384_d0 _ 1 (show 1 < 2 by omega) S8192 _ rfl rfl 552192 pre_16
    (ix1 (⟨((j 0).val * 2048 + (j 1).val), by omega⟩ : Fin 8192)) (fun b hb => ?_) ?_).trans ?_
  · match b with
    | ⟨0, _⟩ => exact absurd rfl hb
  · rfl
  · refine congrArg X16 (Shape.reshapeEquiv_eq_of_rowMajor _ ?_)
    rw [Shape.rowMajor_val_two, Shape.rowMajor_val_one]
    rfl

end Place

/-- The host's last steps for array 0 of a result. -/
abbrev TAIL_0 (X : FVec Ideal S4608x128 .f32) : FVec Ideal S2x2048 .f32 :=
  shapeCast S2x2048 (extractStridedSlice S4096 ![0] (shapeCast S589824 X shapeCasts_S4608x128_S589824 : FVec Ideal S589824 .f32) slices_S589824_S4096_0 : FVec Ideal S4096 .f32) shapeCasts_S4096_S2x2048

/-- The index of a result that the host's last steps read for array 0. -/
theorem read_0 (X : FVec Ideal S4608x128 .f32) (j : S2x2048.Idx) :
    ∃ i : S4608x128.Idx, (i 0).val * 128 + (i 1).val = 0 + ((j 0).val * 2048 + (j 1).val) ∧ TAIL_0 X j = X i := by
  have b0 : (j 0).val < 2 := (j 0).isLt
  have b1 : (j 1).val < 2048 := (j 1).isLt
  have h2 := Shape.rowMajor_reshapeEquiv shapeCasts_S4096_S2x2048 j
  rw [Shape.rowMajor_val_one, Shape.rowMajor_val_two] at h2
  have h1 := Shape.rowMajor_reshapeEquiv shapeCasts_S4608x128_S589824 (ix1 (⟨0 + ((j 0).val * 2048 + (j 1).val), by omega⟩ : Fin 589824) : S589824.Idx)
  rw [Shape.rowMajor_val_one, Shape.rowMajor_val_two] at h1
  refine ⟨_, h1, extractStridedSlice_apply _ _ _ _ _ fun a => ?_⟩
  match a with
  | ⟨0, _⟩ => exact congrArg (fun z : Nat => 0 + z) h2.symm

/-- The host's last steps for array 1 of a result. -/
abbrev TAIL_1 (X : FVec Ideal S4608x128 .f32) : FVec Ideal S2x64x64 .f32 :=
  shapeCast S2x64x64 (extractStridedSlice S8192 ![4096] (shapeCast S589824 X shapeCasts_S4608x128_S589824 : FVec Ideal S589824 .f32) slices_S589824_S8192_4096 : FVec Ideal S8192 .f32) shapeCasts_S8192_S2x64x64

/-- The index of a result that the host's last steps read for array 1. -/
theorem read_1 (X : FVec Ideal S4608x128 .f32) (j : S2x64x64.Idx) :
    ∃ i : S4608x128.Idx, (i 0).val * 128 + (i 1).val = 4096 + (((j 0).val * 64 + (j 1).val) * 64 + (j 2).val) ∧ TAIL_1 X j = X i := by
  have b0 : (j 0).val < 2 := (j 0).isLt
  have b1 : (j 1).val < 64 := (j 1).isLt
  have b2 : (j 2).val < 64 := (j 2).isLt
  have h2 := Shape.rowMajor_reshapeEquiv shapeCasts_S8192_S2x64x64 j
  rw [Shape.rowMajor_val_one, Shape.rowMajor_val_three] at h2
  have h1 := Shape.rowMajor_reshapeEquiv shapeCasts_S4608x128_S589824 (ix1 (⟨4096 + (((j 0).val * 64 + (j 1).val) * 64 + (j 2).val), by omega⟩ : Fin 589824) : S589824.Idx)
  rw [Shape.rowMajor_val_one, Shape.rowMajor_val_two] at h1
  refine ⟨_, h1, extractStridedSlice_apply _ _ _ _ _ fun a => ?_⟩
  match a with
  | ⟨0, _⟩ => exact congrArg (fun z : Nat => 4096 + z) h2.symm

/-- The host's last steps for array 2 of a result. -/
abbrev TAIL_2 (X : FVec Ideal S4608x128 .f32) : FVec Ideal S2x64x64 .f32 :=
  shapeCast S2x64x64 (extractStridedSlice S8192 ![12288] (shapeCast S589824 X shapeCasts_S4608x128_S589824 : FVec Ideal S589824 .f32) slices_S589824_S8192_12288 : FVec Ideal S8192 .f32) shapeCasts_S8192_S2x64x64

/-- The index of a result that the host's last steps read for array 2. -/
theorem read_2 (X : FVec Ideal S4608x128 .f32) (j : S2x64x64.Idx) :
    ∃ i : S4608x128.Idx, (i 0).val * 128 + (i 1).val = 12288 + (((j 0).val * 64 + (j 1).val) * 64 + (j 2).val) ∧ TAIL_2 X j = X i := by
  have b0 : (j 0).val < 2 := (j 0).isLt
  have b1 : (j 1).val < 64 := (j 1).isLt
  have b2 : (j 2).val < 64 := (j 2).isLt
  have h2 := Shape.rowMajor_reshapeEquiv shapeCasts_S8192_S2x64x64 j
  rw [Shape.rowMajor_val_one, Shape.rowMajor_val_three] at h2
  have h1 := Shape.rowMajor_reshapeEquiv shapeCasts_S4608x128_S589824 (ix1 (⟨12288 + (((j 0).val * 64 + (j 1).val) * 64 + (j 2).val), by omega⟩ : Fin 589824) : S589824.Idx)
  rw [Shape.rowMajor_val_one, Shape.rowMajor_val_two] at h1
  refine ⟨_, h1, extractStridedSlice_apply _ _ _ _ _ fun a => ?_⟩
  match a with
  | ⟨0, _⟩ => exact congrArg (fun z : Nat => 12288 + z) h2.symm

/-- The host's last steps for array 3 of a result. -/
abbrev TAIL_3 (X : FVec Ideal S4608x128 .f32) : FVec Ideal S2x64 .f32 :=
  shapeCast S2x64 (extractStridedSlice S128 ![20480] (shapeCast S589824 X shapeCasts_S4608x128_S589824 : FVec Ideal S589824 .f32) slices_S589824_S128_20480 : FVec Ideal S128 .f32) shapeCasts_S128_S2x64

/-- The index of a result that the host's last steps read for array 3. -/
theorem read_3 (X : FVec Ideal S4608x128 .f32) (j : S2x64.Idx) :
    ∃ i : S4608x128.Idx, (i 0).val * 128 + (i 1).val = 20480 + ((j 0).val * 64 + (j 1).val) ∧ TAIL_3 X j = X i := by
  have b0 : (j 0).val < 2 := (j 0).isLt
  have b1 : (j 1).val < 64 := (j 1).isLt
  have h2 := Shape.rowMajor_reshapeEquiv shapeCasts_S128_S2x64 j
  rw [Shape.rowMajor_val_one, Shape.rowMajor_val_two] at h2
  have h1 := Shape.rowMajor_reshapeEquiv shapeCasts_S4608x128_S589824 (ix1 (⟨20480 + ((j 0).val * 64 + (j 1).val), by omega⟩ : Fin 589824) : S589824.Idx)
  rw [Shape.rowMajor_val_one, Shape.rowMajor_val_two] at h1
  refine ⟨_, h1, extractStridedSlice_apply _ _ _ _ _ fun a => ?_⟩
  match a with
  | ⟨0, _⟩ => exact congrArg (fun z : Nat => 20480 + z) h2.symm

/-- The host's last steps for array 4 of a result. -/
abbrev TAIL_4 (X : FVec Ideal S4608x128 .f32) : FVec Ideal S2x64x64x16 .f32 :=
  shapeCast S2x64x64x16 (extractStridedSlice S131072 ![20608] (shapeCast S589824 X shapeCasts_S4608x128_S589824 : FVec Ideal S589824 .f32) slices_S589824_S131072_20608 : FVec Ideal S131072 .f32) shapeCasts_S131072_S2x64x64x16

/-- The index of a result that the host's last steps read for array 4. -/
theorem read_4 (X : FVec Ideal S4608x128 .f32) (j : S2x64x64x16.Idx) :
    ∃ i : S4608x128.Idx, (i 0).val * 128 + (i 1).val = 20608 + ((((j 0).val * 64 + (j 1).val) * 64 + (j 2).val) * 16 + (j 3).val) ∧ TAIL_4 X j = X i := by
  have b0 : (j 0).val < 2 := (j 0).isLt
  have b1 : (j 1).val < 64 := (j 1).isLt
  have b2 : (j 2).val < 64 := (j 2).isLt
  have b3 : (j 3).val < 16 := (j 3).isLt
  have h2 := Shape.rowMajor_reshapeEquiv shapeCasts_S131072_S2x64x64x16 j
  rw [Shape.rowMajor_val_one, Shape.rowMajor_val_four] at h2
  have h1 := Shape.rowMajor_reshapeEquiv shapeCasts_S4608x128_S589824 (ix1 (⟨20608 + ((((j 0).val * 64 + (j 1).val) * 64 + (j 2).val) * 16 + (j 3).val), by omega⟩ : Fin 589824) : S589824.Idx)
  rw [Shape.rowMajor_val_one, Shape.rowMajor_val_two] at h1
  refine ⟨_, h1, extractStridedSlice_apply _ _ _ _ _ fun a => ?_⟩
  match a with
  | ⟨0, _⟩ => exact congrArg (fun z : Nat => 20608 + z) h2.symm

/-- The host's last steps for array 5 of a result. -/
abbrev TAIL_5 (X : FVec Ideal S4608x128 .f32) : FVec Ideal S2x64x64x16 .f32 :=
  shapeCast S2x64x64x16 (extractStridedSlice S131072 ![151680] (shapeCast S589824 X shapeCasts_S4608x128_S589824 : FVec Ideal S589824 .f32) slices_S589824_S131072_151680 : FVec Ideal S131072 .f32) shapeCasts_S131072_S2x64x64x16

/-- The index of a result that the host's last steps read for array 5. -/
theorem read_5 (X : FVec Ideal S4608x128 .f32) (j : S2x64x64x16.Idx) :
    ∃ i : S4608x128.Idx, (i 0).val * 128 + (i 1).val = 151680 + ((((j 0).val * 64 + (j 1).val) * 64 + (j 2).val) * 16 + (j 3).val) ∧ TAIL_5 X j = X i := by
  have b0 : (j 0).val < 2 := (j 0).isLt
  have b1 : (j 1).val < 64 := (j 1).isLt
  have b2 : (j 2).val < 64 := (j 2).isLt
  have b3 : (j 3).val < 16 := (j 3).isLt
  have h2 := Shape.rowMajor_reshapeEquiv shapeCasts_S131072_S2x64x64x16 j
  rw [Shape.rowMajor_val_one, Shape.rowMajor_val_four] at h2
  have h1 := Shape.rowMajor_reshapeEquiv shapeCasts_S4608x128_S589824 (ix1 (⟨151680 + ((((j 0).val * 64 + (j 1).val) * 64 + (j 2).val) * 16 + (j 3).val), by omega⟩ : Fin 589824) : S589824.Idx)
  rw [Shape.rowMajor_val_one, Shape.rowMajor_val_two] at h1
  refine ⟨_, h1, extractStridedSlice_apply _ _ _ _ _ fun a => ?_⟩
  match a with
  | ⟨0, _⟩ => exact congrArg (fun z : Nat => 151680 + z) h2.symm

/-- The host's last steps for array 6 of a result. -/
abbrev TAIL_6 (X : FVec Ideal S4608x128 .f32) : FVec Ideal S2x64x16x64 .f32 :=
  shapeCast S2x64x16x64 (extractStridedSlice S131072 ![282752] (shapeCast S589824 X shapeCasts_S4608x128_S589824 : FVec Ideal S589824 .f32) slices_S589824_S131072_282752 : FVec Ideal S131072 .f32) shapeCasts_S131072_S2x64x16x64

/-- The index of a result that the host's last steps read for array 6. -/
theorem read_6 (X : FVec Ideal S4608x128 .f32) (j : S2x64x16x64.Idx) :
    ∃ i : S4608x128.Idx, (i 0).val * 128 + (i 1).val = 282752 + ((((j 0).val * 64 + (j 1).val) * 16 + (j 2).val) * 64 + (j 3).val) ∧ TAIL_6 X j = X i := by
  have b0 : (j 0).val < 2 := (j 0).isLt
  have b1 : (j 1).val < 64 := (j 1).isLt
  have b2 : (j 2).val < 16 := (j 2).isLt
  have b3 : (j 3).val < 64 := (j 3).isLt
  have h2 := Shape.rowMajor_reshapeEquiv shapeCasts_S131072_S2x64x16x64 j
  rw [Shape.rowMajor_val_one, Shape.rowMajor_val_four] at h2
  have h1 := Shape.rowMajor_reshapeEquiv shapeCasts_S4608x128_S589824 (ix1 (⟨282752 + ((((j 0).val * 64 + (j 1).val) * 16 + (j 2).val) * 64 + (j 3).val), by omega⟩ : Fin 589824) : S589824.Idx)
  rw [Shape.rowMajor_val_one, Shape.rowMajor_val_two] at h1
  refine ⟨_, h1, extractStridedSlice_apply _ _ _ _ _ fun a => ?_⟩
  match a with
  | ⟨0, _⟩ => exact congrArg (fun z : Nat => 282752 + z) h2.symm

/-- The host's last steps for array 7 of a result. -/
abbrev TAIL_7 (X : FVec Ideal S4608x128 .f32) : FVec Ideal S2x64x16x64 .f32 :=
  shapeCast S2x64x16x64 (extractStridedSlice S131072 ![413824] (shapeCast S589824 X shapeCasts_S4608x128_S589824 : FVec Ideal S589824 .f32) slices_S589824_S131072_413824 : FVec Ideal S131072 .f32) shapeCasts_S131072_S2x64x16x64

/-- The index of a result that the host's last steps read for array 7. -/
theorem read_7 (X : FVec Ideal S4608x128 .f32) (j : S2x64x16x64.Idx) :
    ∃ i : S4608x128.Idx, (i 0).val * 128 + (i 1).val = 413824 + ((((j 0).val * 64 + (j 1).val) * 16 + (j 2).val) * 64 + (j 3).val) ∧ TAIL_7 X j = X i := by
  have b0 : (j 0).val < 2 := (j 0).isLt
  have b1 : (j 1).val < 64 := (j 1).isLt
  have b2 : (j 2).val < 16 := (j 2).isLt
  have b3 : (j 3).val < 64 := (j 3).isLt
  have h2 := Shape.rowMajor_reshapeEquiv shapeCasts_S131072_S2x64x16x64 j
  rw [Shape.rowMajor_val_one, Shape.rowMajor_val_four] at h2
  have h1 := Shape.rowMajor_reshapeEquiv shapeCasts_S4608x128_S589824 (ix1 (⟨413824 + ((((j 0).val * 64 + (j 1).val) * 16 + (j 2).val) * 64 + (j 3).val), by omega⟩ : Fin 589824) : S589824.Idx)
  rw [Shape.rowMajor_val_one, Shape.rowMajor_val_two] at h1
  refine ⟨_, h1, extractStridedSlice_apply _ _ _ _ _ fun a => ?_⟩
  match a with
  | ⟨0, _⟩ => exact congrArg (fun z : Nat => 413824 + z) h2.symm

/-- The host's last steps for array 8 of a result. -/
abbrev TAIL_8 (X : FVec Ideal S4608x128 .f32) : FVec Ideal S2x64x16 .f32 :=
  shapeCast S2x64x16 (extractStridedSlice S2048 ![544896] (shapeCast S589824 X shapeCasts_S4608x128_S589824 : FVec Ideal S589824 .f32) slices_S589824_S2048_544896 : FVec Ideal S2048 .f32) shapeCasts_S2048_S2x64x16

/-- The index of a result that the host's last steps read for array 8. -/
theorem read_8 (X : FVec Ideal S4608x128 .f32) (j : S2x64x16.Idx) :
    ∃ i : S4608x128.Idx, (i 0).val * 128 + (i 1).val = 544896 + (((j 0).val * 64 + (j 1).val) * 16 + (j 2).val) ∧ TAIL_8 X j = X i := by
  have b0 : (j 0).val < 2 := (j 0).isLt
  have b1 : (j 1).val < 64 := (j 1).isLt
  have b2 : (j 2).val < 16 := (j 2).isLt
  have h2 := Shape.rowMajor_reshapeEquiv shapeCasts_S2048_S2x64x16 j
  rw [Shape.rowMajor_val_one, Shape.rowMajor_val_three] at h2
  have h1 := Shape.rowMajor_reshapeEquiv shapeCasts_S4608x128_S589824 (ix1 (⟨544896 + (((j 0).val * 64 + (j 1).val) * 16 + (j 2).val), by omega⟩ : Fin 589824) : S589824.Idx)
  rw [Shape.rowMajor_val_one, Shape.rowMajor_val_two] at h1
  refine ⟨_, h1, extractStridedSlice_apply _ _ _ _ _ fun a => ?_⟩
  match a with
  | ⟨0, _⟩ => exact congrArg (fun z : Nat => 544896 + z) h2.symm

/-- The host's last steps for array 9 of a result. -/
abbrev TAIL_9 (X : FVec Ideal S4608x128 .f32) : FVec Ideal S2x1024 .f32 :=
  shapeCast S2x1024 (extractStridedSlice S2048 ![546944] (shapeCast S589824 X shapeCasts_S4608x128_S589824 : FVec Ideal S589824 .f32) slices_S589824_S2048_546944 : FVec Ideal S2048 .f32) shapeCasts_S2048_S2x1024

/-- The index of a result that the host's last steps read for array 9. -/
theorem read_9 (X : FVec Ideal S4608x128 .f32) (j : S2x1024.Idx) :
    ∃ i : S4608x128.Idx, (i 0).val * 128 + (i 1).val = 546944 + ((j 0).val * 1024 + (j 1).val) ∧ TAIL_9 X j = X i := by
  have b0 : (j 0).val < 2 := (j 0).isLt
  have b1 : (j 1).val < 1024 := (j 1).isLt
  have h2 := Shape.rowMajor_reshapeEquiv shapeCasts_S2048_S2x1024 j
  rw [Shape.rowMajor_val_one, Shape.rowMajor_val_two] at h2
  have h1 := Shape.rowMajor_reshapeEquiv shapeCasts_S4608x128_S589824 (ix1 (⟨546944 + ((j 0).val * 1024 + (j 1).val), by omega⟩ : Fin 589824) : S589824.Idx)
  rw [Shape.rowMajor_val_one, Shape.rowMajor_val_two] at h1
  refine ⟨_, h1, extractStridedSlice_apply _ _ _ _ _ fun a => ?_⟩
  match a with
  | ⟨0, _⟩ => exact congrArg (fun z : Nat => 546944 + z) h2.symm

/-- The host's last steps for array 10 of a result. -/
abbrev TAIL_10 (X : FVec Ideal S4608x128 .f32) : FVec Ideal S2x1024 .f32 :=
  shapeCast S2x1024 (extractStridedSlice S2048 ![548992] (shapeCast S589824 X shapeCasts_S4608x128_S589824 : FVec Ideal S589824 .f32) slices_S589824_S2048_548992 : FVec Ideal S2048 .f32) shapeCasts_S2048_S2x1024

/-- The index of a result that the host's last steps read for array 10. -/
theorem read_10 (X : FVec Ideal S4608x128 .f32) (j : S2x1024.Idx) :
    ∃ i : S4608x128.Idx, (i 0).val * 128 + (i 1).val = 548992 + ((j 0).val * 1024 + (j 1).val) ∧ TAIL_10 X j = X i := by
  have b0 : (j 0).val < 2 := (j 0).isLt
  have b1 : (j 1).val < 1024 := (j 1).isLt
  have h2 := Shape.rowMajor_reshapeEquiv shapeCasts_S2048_S2x1024 j
  rw [Shape.rowMajor_val_one, Shape.rowMajor_val_two] at h2
  have h1 := Shape.rowMajor_reshapeEquiv shapeCasts_S4608x128_S589824 (ix1 (⟨548992 + ((j 0).val * 1024 + (j 1).val), by omega⟩ : Fin 589824) : S589824.Idx)
  rw [Shape.rowMajor_val_one, Shape.rowMajor_val_two] at h1
  refine ⟨_, h1, extractStridedSlice_apply _ _ _ _ _ fun a => ?_⟩
  match a with
  | ⟨0, _⟩ => exact congrArg (fun z : Nat => 548992 + z) h2.symm

/-- The host's last steps for array 11 of a result. -/
abbrev TAIL_11 (X : FVec Ideal S4608x128 .f32) : FVec Ideal S2x128 .f32 :=
  shapeCast S2x128 (extractStridedSlice S256 ![551040] (shapeCast S589824 X shapeCasts_S4608x128_S589824 : FVec Ideal S589824 .f32) slices_S589824_S256_551040 : FVec Ideal S256 .f32) shapeCasts_S256_S2x128

/-- The index of a result that the host's last steps read for array 11. -/
theorem read_11 (X : FVec Ideal S4608x128 .f32) (j : S2x128.Idx) :
    ∃ i : S4608x128.Idx, (i 0).val * 128 + (i 1).val = 551040 + ((j 0).val * 128 + (j 1).val) ∧ TAIL_11 X j = X i := by
  have b0 : (j 0).val < 2 := (j 0).isLt
  have b1 : (j 1).val < 128 := (j 1).isLt
  have h2 := Shape.rowMajor_reshapeEquiv shapeCasts_S256_S2x128 j
  rw [Shape.rowMajor_val_one, Shape.rowMajor_val_two] at h2
  have h1 := Shape.rowMajor_reshapeEquiv shapeCasts_S4608x128_S589824 (ix1 (⟨551040 + ((j 0).val * 128 + (j 1).val), by omega⟩ : Fin 589824) : S589824.Idx)
  rw [Shape.rowMajor_val_one, Shape.rowMajor_val_two] at h1
  refine ⟨_, h1, extractStridedSlice_apply _ _ _ _ _ fun a => ?_⟩
  match a with
  | ⟨0, _⟩ => exact congrArg (fun z : Nat => 551040 + z) h2.symm

/-- The host's last steps for array 12 of a result. -/
abbrev TAIL_12 (X : FVec Ideal S4608x128 .f32) : FVec Ideal S2x256 .f32 :=
  shapeCast S2x256 (extractStridedSlice S512 ![551296] (shapeCast S589824 X shapeCasts_S4608x128_S589824 : FVec Ideal S589824 .f32) slices_S589824_S512_551296 : FVec Ideal S512 .f32) shapeCasts_S512_S2x256

/-- The index of a result that the host's last steps read for array 12. -/
theorem read_12 (X : FVec Ideal S4608x128 .f32) (j : S2x256.Idx) :
    ∃ i : S4608x128.Idx, (i 0).val * 128 + (i 1).val = 551296 + ((j 0).val * 256 + (j 1).val) ∧ TAIL_12 X j = X i := by
  have b0 : (j 0).val < 2 := (j 0).isLt
  have b1 : (j 1).val < 256 := (j 1).isLt
  have h2 := Shape.rowMajor_reshapeEquiv shapeCasts_S512_S2x256 j
  rw [Shape.rowMajor_val_one, Shape.rowMajor_val_two] at h2
  have h1 := Shape.rowMajor_reshapeEquiv shapeCasts_S4608x128_S589824 (ix1 (⟨551296 + ((j 0).val * 256 + (j 1).val), by omega⟩ : Fin 589824) : S589824.Idx)
  rw [Shape.rowMajor_val_one, Shape.rowMajor_val_two] at h1
  refine ⟨_, h1, extractStridedSlice_apply _ _ _ _ _ fun a => ?_⟩
  match a with
  | ⟨0, _⟩ => exact congrArg (fun z : Nat => 551296 + z) h2.symm

/-- The host's last steps for array 13 of a result. -/
abbrev TAIL_13 (X : FVec Ideal S4608x128 .f32) : FVec Ideal S2x64 .f32 :=
  shapeCast S2x64 (extractStridedSlice S128 ![551808] (shapeCast S589824 X shapeCasts_S4608x128_S589824 : FVec Ideal S589824 .f32) slices_S589824_S128_551808 : FVec Ideal S128 .f32) shapeCasts_S128_S2x64

/-- The index of a result that the host's last steps read for array 13. -/
theorem read_13 (X : FVec Ideal S4608x128 .f32) (j : S2x64.Idx) :
    ∃ i : S4608x128.Idx, (i 0).val * 128 + (i 1).val = 551808 + ((j 0).val * 64 + (j 1).val) ∧ TAIL_13 X j = X i := by
  have b0 : (j 0).val < 2 := (j 0).isLt
  have b1 : (j 1).val < 64 := (j 1).isLt
  have h2 := Shape.rowMajor_reshapeEquiv shapeCasts_S128_S2x64 j
  rw [Shape.rowMajor_val_one, Shape.rowMajor_val_two] at h2
  have h1 := Shape.rowMajor_reshapeEquiv shapeCasts_S4608x128_S589824 (ix1 (⟨551808 + ((j 0).val * 64 + (j 1).val), by omega⟩ : Fin 589824) : S589824.Idx)
  rw [Shape.rowMajor_val_one, Shape.rowMajor_val_two] at h1
  refine ⟨_, h1, extractStridedSlice_apply _ _ _ _ _ fun a => ?_⟩
  match a with
  | ⟨0, _⟩ => exact congrArg (fun z : Nat => 551808 + z) h2.symm

/-- The host's last steps for array 14 of a result. -/
abbrev TAIL_14 (X : FVec Ideal S4608x128 .f32) : FVec Ideal S2x64 .f32 :=
  shapeCast S2x64 (extractStridedSlice S128 ![551936] (shapeCast S589824 X shapeCasts_S4608x128_S589824 : FVec Ideal S589824 .f32) slices_S589824_S128_551936 : FVec Ideal S128 .f32) shapeCasts_S128_S2x64

/-- The index of a result that the host's last steps read for array 14. -/
theorem read_14 (X : FVec Ideal S4608x128 .f32) (j : S2x64.Idx) :
    ∃ i : S4608x128.Idx, (i 0).val * 128 + (i 1).val = 551936 + ((j 0).val * 64 + (j 1).val) ∧ TAIL_14 X j = X i := by
  have b0 : (j 0).val < 2 := (j 0).isLt
  have b1 : (j 1).val < 64 := (j 1).isLt
  have h2 := Shape.rowMajor_reshapeEquiv shapeCasts_S128_S2x64 j
  rw [Shape.rowMajor_val_one, Shape.rowMajor_val_two] at h2
  have h1 := Shape.rowMajor_reshapeEquiv shapeCasts_S4608x128_S589824 (ix1 (⟨551936 + ((j 0).val * 64 + (j 1).val), by omega⟩ : Fin 589824) : S589824.Idx)
  rw [Shape.rowMajor_val_one, Shape.rowMajor_val_two] at h1
  refine ⟨_, h1, extractStridedSlice_apply _ _ _ _ _ fun a => ?_⟩
  match a with
  | ⟨0, _⟩ => exact congrArg (fun z : Nat => 551936 + z) h2.symm

/-- The host's last steps for array 15 of a result. -/
abbrev TAIL_15 (X : FVec Ideal S4608x128 .f32) : FVec Ideal S2x32 .f32 :=
  shapeCast S2x32 (extractStridedSlice S64 ![552064] (shapeCast S589824 X shapeCasts_S4608x128_S589824 : FVec Ideal S589824 .f32) slices_S589824_S64_552064 : FVec Ideal S64 .f32) shapeCasts_S64_S2x32

/-- The index of a result that the host's last steps read for array 15. -/
theorem read_15 (X : FVec Ideal S4608x128 .f32) (j : S2x32.Idx) :
    ∃ i : S4608x128.Idx, (i 0).val * 128 + (i 1).val = 552064 + ((j 0).val * 32 + (j 1).val) ∧ TAIL_15 X j = X i := by
  have b0 : (j 0).val < 2 := (j 0).isLt
  have b1 : (j 1).val < 32 := (j 1).isLt
  have h2 := Shape.rowMajor_reshapeEquiv shapeCasts_S64_S2x32 j
  rw [Shape.rowMajor_val_one, Shape.rowMajor_val_two] at h2
  have h1 := Shape.rowMajor_reshapeEquiv shapeCasts_S4608x128_S589824 (ix1 (⟨552064 + ((j 0).val * 32 + (j 1).val), by omega⟩ : Fin 589824) : S589824.Idx)
  rw [Shape.rowMajor_val_one, Shape.rowMajor_val_two] at h1
  refine ⟨_, h1, extractStridedSlice_apply _ _ _ _ _ fun a => ?_⟩
  match a with
  | ⟨0, _⟩ => exact congrArg (fun z : Nat => 552064 + z) h2.symm

/-- The host's last steps for array 16 of a result. -/
abbrev TAIL_16 (X : FVec Ideal S4608x128 .f32) : FVec Ideal S4x2048 .f32 :=
  shapeCast S4x2048 (extractStridedSlice S8192 ![552192] (shapeCast S589824 X shapeCasts_S4608x128_S589824 : FVec Ideal S589824 .f32) slices_S589824_S8192_552192 : FVec Ideal S8192 .f32) shapeCasts_S8192_S4x2048

/-- The index of a result that the host's last steps read for array 16. -/
theorem read_16 (X : FVec Ideal S4608x128 .f32) (j : S4x2048.Idx) :
    ∃ i : S4608x128.Idx, (i 0).val * 128 + (i 1).val = 552192 + ((j 0).val * 2048 + (j 1).val) ∧ TAIL_16 X j = X i := by
  have b0 : (j 0).val < 4 := (j 0).isLt
  have b1 : (j 1).val < 2048 := (j 1).isLt
  have h2 := Shape.rowMajor_reshapeEquiv shapeCasts_S8192_S4x2048 j
  rw [Shape.rowMajor_val_one, Shape.rowMajor_val_two] at h2
  have h1 := Shape.rowMajor_reshapeEquiv shapeCasts_S4608x128_S589824 (ix1 (⟨552192 + ((j 0).val * 2048 + (j 1).val), by omega⟩ : Fin 589824) : S589824.Idx)
  rw [Shape.rowMajor_val_one, Shape.rowMajor_val_two] at h1
  refine ⟨_, h1, extractStridedSlice_apply _ _ _ _ _ fun a => ?_⟩
  match a with
  | ⟨0, _⟩ => exact congrArg (fun z : Nat => 552192 + z) h2.symm

end Cert.Kernel26Ideal.Value

end
-- ==== Proof.AdamSmallDelta.lean ====
/- The optimiser's step of the small weights (`Kernel26`): the change of the weights, array by array, are the reference's. -/
module

public import proofs.«01_k».proof.Proof.AdamSmall

@[expose] public section

set_option maxRecDepth 16384

noncomputable section

open Idealize.ShloMosaic Idealize.ShloMosaic.TcCoe Idealize.SL.Sem
open Idealize.ShloMosaic.Pipeline (Dat)

namespace Cert.Kernel26Ideal.Value

open Cert.Kernel26Ideal Cert.Kernel26Ideal.Gen

variable (m : (ℓ : Loc nD τ sig) → Buf (Elt Ideal) ℓ)

/-- One array of the change of the weights, of operands that hold the arrays at the positions `f`: what the host's last steps `T` read. -/
theorem unpack_delta {s : Shape} (b : Cert.Reference26Ideal.S_.BroadcastsInDim s (![] : Fin 0 → Fin s.rank)) {f : s.Idx → Nat}
    {T : FVec Ideal S4608x128 .f32 → FVec Ideal s .f32}
    (hT : ∀ X j, ∃ i : S4608x128.Idx, (i 0).val * 128 + (i 1).val = f j ∧ T X j = X i)
    {PW PG PM PV : FVec Ideal S4608x128 .f32} {W G M V : FVec Ideal s .f32}
    (hW : ∀ (i : S4608x128.Idx) (j : s.Idx), (i 0).val * 128 + (i 1).val = f j → PW i = W j)
    (hG : ∀ (i : S4608x128.Idx) (j : s.Idx), (i 0).val * 128 + (i 1).val = f j → PG i = G j)
    (hM : ∀ (i : S4608x128.Idx) (j : s.Idx), (i 0).val * 128 + (i 1).val = f j → PM i = M j)
    (hV : ∀ (i : S4608x128.Idx) (j : s.Idx), (i 0).val * 128 + (i 1).val = f j → PV i = V j) :
    T (DELTAP PW PG PM PV) = DELTA b W G M V := by
  funext j
  obtain ⟨i, hi, e⟩ := hT (DELTAP PW PG PM PV) j
  exact e.trans (pay_delta _ _ _ _ _ W G M V _ j (hW i j hi) (hG i j hi) (hM i j hi) (hV i j hi))

/-- The host's last steps for array 0, run on any contents. -/
theorem tail_delta_0 (W : Valuation τ sig (Elt Ideal)) : StableHlo.after hostOps1 W (Proc.devRef .tc main_v91)
    = TAIL_0 (W (Proc.devRef .tc main_v88_0)) := by
  simp only [hostOps1, StableHlo.after_cons, StableHlo.after_nil]
  after_results_simp
  rfl

/-- Array 0 of the change of the weights after the call is the reference's. -/
theorem final_delta_0 (c : Dev nD) : Pipeline.afterTail₀ cfgs (dats m) 0 (V0 m) [hostOps1] c main_v91
    = DELTA Cert.Reference26Ideal.Gen.bcast_S_S2x2048 (m ((c : Thread nD τ).loc main_arg0)) (m ((c : Thread nD τ).loc main_arg17)) (m ((c : Thread nD τ).loc main_arg34)) (m ((c : Thread nD τ).loc main_arg51)) := by
  refine (tail_delta_0 _).trans ?_
  rw [after_delta]
  exact unpack_delta _ (T := TAIL_0) read_0 (pack_0 _ _ _ _ _ _ _ _ _ _ _ _ _ _ _ _ _) (pack_0 _ _ _ _ _ _ _ _ _ _ _ _ _ _ _ _ _) (pack_0 _ _ _ _ _ _ _ _ _ _ _ _ _ _ _ _ _) (pack_0 _ _ _ _ _ _ _ _ _ _ _ _ _ _ _ _ _)

/-- The host's last steps for array 1, run on any contents. -/
theorem tail_delta_1 (W : Valuation τ sig (Elt Ideal)) : StableHlo.after hostOps1 W (Proc.devRef .tc main_v93)
    = TAIL_1 (W (Proc.devRef .tc main_v88_0)) := by
  simp only [hostOps1, StableHlo.after_cons, StableHlo.after_nil]
  after_results_simp
  rfl

/-- Array 1 of the change of the weights after the call is the reference's. -/
theorem final_delta_1 (c : Dev nD) : Pipeline.afterTail₀ cfgs (dats m) 0 (V0 m) [hostOps1] c main_v93
    = DELTA Cert.Reference26Ideal.Gen.bcast_S_S2x64x64 (m ((c : Thread nD τ).loc main_arg1)) (m ((c : Thread nD τ).loc main_arg18)) (m ((c : Thread nD τ).loc main_arg35)) (m ((c : Thread nD τ).loc main_arg52)) := by
  refine (tail_delta_1 _).trans ?_
  rw [after_delta]
  exact unpack_delta _ (T := TAIL_1) read_1 (pack_1 _ _ _ _ _ _ _ _ _ _ _ _ _ _ _ _ _) (pack_1 _ _ _ _ _ _ _ _ _ _ _ _ _ _ _ _ _) (pack_1 _ _ _ _ _ _ _ _ _ _ _ _ _ _ _ _ _) (pack_1 _ _ _ _ _ _ _ _ _ _ _ _ _ _ _ _ _)

/-- The host's last steps for array 2, run on any contents. -/
theorem tail_delta_2 (W : Valuation τ sig (Elt Ideal)) : StableHlo.after hostOps1 W (Proc.devRef .tc main_v95)
    = TAIL_2 (W (Proc.devRef .tc main_v88_0)) := by
  simp only [hostOps1, StableHlo.after_cons, StableHlo.after_nil]
  after_results_simp
  rfl

/-- Array 2 of the change of the weights after the call is the reference's. -/
theorem final_delta_2 (c : Dev nD) : Pipeline.afterTail₀ cfgs (dats m) 0 (V0 m) [hostOps1] c main_v95
    = DELTA Cert.Reference26Ideal.Gen.bcast_S_S2x64x64 (m ((c : Thread nD τ).loc main_arg2)) (m ((c : Thread nD τ).loc main_arg19)) (m ((c : Thread nD τ).loc main_arg36)) (m ((c : Thread nD τ).loc main_arg53)) := by
  refine (tail_delta_2 _).trans ?_
  rw [after_delta]
  exact unpack_delta _ (T := TAIL_2) read_2 (pack_2 _ _ _ _ _ _ _ _ _ _ _ _ _ _ _ _ _) (pack_2 _ _ _ _ _ _ _ _ _ _ _ _ _ _ _ _ _) (pack_2 _ _ _ _ _ _ _ _ _ _ _ _ _ _ _ _ _) (pack_2 _ _ _ _ _ _ _ _ _ _ _ _ _ _ _ _ _)

/-- The host's last steps for array 3, run on any contents. -/
theorem tail_delta_3 (W : Valuation τ sig (Elt Ideal)) : StableHlo.after hostOps1 W (Proc.devRef .tc main_v97)
    = TAIL_3 (W (Proc.devRef .tc main_v88_0)) := by
  simp only [hostOps1, StableHlo.after_cons, StableHlo.after_nil]
  after_results_simp
  rfl

/-- Array 3 of the change of the weights after the call is the reference's. -/
theorem final_delta_3 (c : Dev nD) : Pipeline.afterTail₀ cfgs (dats m) 0 (V0 m) [hostOps1] c main_v97
    = DELTA Cert.Reference26Ideal.Gen.bcast_S_S2x64 (m ((c : Thread nD τ).loc main_arg3)) (m ((c : Thread nD τ).loc main_arg20)) (m ((c : Thread nD τ).loc main_arg37)) (m ((c : Thread nD τ).loc main_arg54)) := by
  refine (tail_delta_3 _).trans ?_
  rw [after_delta]
  exact unpack_delta _ (T := TAIL_3) read_3 (pack_3 _ _ _ _ _ _ _ _ _ _ _ _ _ _ _ _ _) (pack_3 _ _ _ _ _ _ _ _ _ _ _ _ _ _ _ _ _) (pack_3 _ _ _ _ _ _ _ _ _ _ _ _ _ _ _ _ _) (pack_3 _ _ _ _ _ _ _ _ _ _ _ _ _ _ _ _ _)

/-- The host's last steps for array 4, run on any contents. -/
theorem tail_delta_4 (W : Valuation τ sig (Elt Ideal)) : StableHlo.after hostOps1 W (Proc.devRef .tc main_v99)
    = TAIL_4 (W (Proc.devRef .tc main_v88_0)) := by
  simp only [hostOps1, StableHlo.after_cons, StableHlo.after_nil]
  after_results_simp
  rfl

/-- Array 4 of the change of the weights after the call is the reference's. -/
theorem final_delta_4 (c : Dev nD) : Pipeline.afterTail₀ cfgs (dats m) 0 (V0 m) [hostOps1] c main_v99
    = DELTA Cert.Reference26Ideal.Gen.bcast_S_S2x64x64x16 (m ((c : Thread nD τ).loc main_arg4)) (m ((c : Thread nD τ).loc main_arg21)) (m ((c : Thread nD τ).loc main_arg38)) (m ((c : Thread nD τ).loc main_arg55)) := by
  refine (tail_delta_4 _).trans ?_
  rw [after_delta]
  exact unpack_delta _ (T := TAIL_4) read_4 (pack_4 _ _ _ _ _ _ _ _ _ _ _ _ _ _ _ _ _) (pack_4 _ _ _ _ _ _ _ _ _ _ _ _ _ _ _ _ _) (pack_4 _ _ _ _ _ _ _ _ _ _ _ _ _ _ _ _ _) (pack_4 _ _ _ _ _ _ _ _ _ _ _ _ _ _ _ _ _)

/-- The host's last steps for array 5, run on any contents. -/
theorem tail_delta_5 (W : Valuation τ sig (Elt Ideal)) : StableHlo.after hostOps1 W (Proc.devRef .tc main_v101)
    = TAIL_5 (W (Proc.devRef .tc main_v88_0)) := by
  simp only [hostOps1, StableHlo.after_cons, StableHlo.after_nil]
  after_results_simp
  rfl

/-- Array 5 of the change of the weights after the call is the reference's. -/
theorem final_delta_5 (c : Dev nD) : Pipeline.afterTail₀ cfgs (dats m) 0 (V0 m) [hostOps1] c main_v101
    = DELTA Cert.Reference26Ideal.Gen.bcast_S_S2x64x64x16 (m ((c : Thread nD τ).loc main_arg5)) (m ((c : Thread nD τ).loc main_arg22)) (m ((c : Thread nD τ).loc main_arg39)) (m ((c : Thread nD τ).loc main_arg56)) := by
  refine (tail_delta_5 _).trans ?_
  rw [after_delta]
  exact unpack_delta _ (T := TAIL_5) read_5 (pack_5 _ _ _ _ _ _ _ _ _ _ _ _ _ _ _ _ _) (pack_5 _ _ _ _ _ _ _ _ _ _ _ _ _ _ _ _ _) (pack_5 _ _ _ _ _ _ _ _ _ _ _ _ _ _ _ _ _) (pack_5 _ _ _ _ _ _ _ _ _ _ _ _ _ _ _ _ _)

/-- The host's last steps for array 6, run on any contents. -/
theorem tail_delta_6 (W : Valuation τ sig (Elt Ideal)) : StableHlo.after hostOps1 W (Proc.devRef .tc main_v103)
    = TAIL_6 (W (Proc.devRef .tc main_v88_0)) := by
  simp only [hostOps1, StableHlo.after_cons, StableHlo.after_nil]
  after_results_simp
  rfl

/-- Array 6 of the change of the weights after the call is the reference's. -/
theorem final_delta_6 (c : Dev nD) : Pipeline.afterTail₀ cfgs (dats m) 0 (V0 m) [hostOps1] c main_v103
    = DELTA Cert.Reference26Ideal.Gen.bcast_S_S2x64x16x64 (m ((c : Thread nD τ).loc main_arg6)) (m ((c : Thread nD τ).loc main_arg23)) (m ((c : Thread nD τ).loc main_arg40)) (m ((c : Thread nD τ).loc main_arg57)) := by
  refine (tail_delta_6 _).trans ?_
  rw [after_delta]
  exact unpack_delta _ (T := TAIL_6) read_6 (pack_6 _ _ _ _ _ _ _ _ _ _ _ _ _ _ _ _ _) (pack_6 _ _ _ _ _ _ _ _ _ _ _ _ _ _ _ _ _) (pack_6 _ _ _ _ _ _ _ _ _ _ _ _ _ _ _ _ _) (pack_6 _ _ _ _ _ _ _ _ _ _ _ _ _ _ _ _ _)

/-- The host's last steps for array 7, run on any contents. -/
theorem tail_delta_7 (W : Valuation τ sig (Elt Ideal)) : StableHlo.after hostOps1 W (Proc.devRef .tc main_v105)
    = TAIL_7 (W (Proc.devRef .tc main_v88_0)) := by
  simp only [hostOps1, StableHlo.after_cons, StableHlo.after_nil]
  after_results_simp
  rfl

/-- Array 7 of the change of the weights after the call is the reference's. -/
theorem final_delta_7 (c : Dev nD) : Pipeline.afterTail₀ cfgs (dats m) 0 (V0 m) [hostOps1] c main_v105
    = DELTA Cert.Reference26Ideal.Gen.bcast_S_S2x64x16x64 (m ((c : Thread nD τ).loc main_arg7)) (m ((c : Thread nD τ).loc main_arg24)) (m ((c : Thread nD τ).loc main_arg41)) (m ((c : Thread nD τ).loc main_arg58)) := by
  refine (tail_delta_7 _).trans ?_
  rw [after_delta]
  exact unpack_delta _ (T := TAIL_7) read_7 (pack_7 _ _ _ _ _ _ _ _ _ _ _ _ _ _ _ _ _) (pack_7 _ _ _ _ _ _ _ _ _ _ _ _ _ _ _ _ _) (pack_7 _ _ _ _ _ _ _ _ _ _ _ _ _ _ _ _ _) (pack_7 _ _ _ _ _ _ _ _ _ _ _ _ _ _ _ _ _)

/-- The host's last steps for array 8, run on any contents. -/
theorem tail_delta_8 (W : Valuation τ sig (Elt Ideal)) : StableHlo.after hostOps1 W (Proc.devRef .tc main_v107)
    = TAIL_8 (W (Proc.devRef .tc main_v88_0)) := by
  simp only [hostOps1, StableHlo.after_cons, StableHlo.after_nil]
  after_results_simp
  rfl

/-- Array 8 of the change of the weights after the call is the reference's. -/
theorem final_delta_8 (c : Dev nD) : Pipeline.afterTail₀ cfgs (dats m) 0 (V0 m) [hostOps1] c main_v107
    = DELTA Cert.Reference26Ideal.Gen.bcast_S_S2x64x16 (m ((c : Thread nD τ).loc main_arg8)) (m ((c : Thread nD τ).loc main_arg25)) (m ((c : Thread nD τ).loc main_arg42)) (m ((c : Thread nD τ).loc main_arg59)) := by
  refine (tail_delta_8 _).trans ?_
  rw [after_delta]
  exact unpack_delta _ (T := TAIL_8) read_8 (pack_8 _ _ _ _ _ _ _ _ _ _ _ _ _ _ _ _ _) (pack_8 _ _ _ _ _ _ _ _ _ _ _ _ _ _ _ _ _) (pack_8 _ _ _ _ _ _ _ _ _ _ _ _ _ _ _ _ _) (pack_8 _ _ _ _ _ _ _ _ _ _ _ _ _ _ _ _ _)

/-- The host's last steps for array 9, run on any contents. -/
theorem tail_delta_9 (W : Valuation τ sig (Elt Ideal)) : StableHlo.after hostOps1 W (Proc.devRef .tc main_v109)
    = TAIL_9 (W (Proc.devRef .tc main_v88_0)) := by
  simp only [hostOps1, StableHlo.after_cons, StableHlo.after_nil]
  after_results_simp
  rfl

/-- Array 9 of the change of the weights after the call is the reference's. -/
theorem final_delta_9 (c : Dev nD) : Pipeline.afterTail₀ cfgs (dats m) 0 (V0 m) [hostOps1] c main_v109
    = DELTA Cert.Reference26Ideal.Gen.bcast_S_S2x1024 (m ((c : Thread nD τ).loc main_arg9)) (m ((c : Thread nD τ).loc main_arg26)) (m ((c : Thread nD τ).loc main_arg43)) (m ((c : Thread nD τ).loc main_arg60)) := by
  refine (tail_delta_9 _).trans ?_
  rw [after_delta]
  exact unpack_delta _ (T := TAIL_9) read_9 (pack_9 _ _ _ _ _ _ _ _ _ _ _ _ _ _ _ _ _) (pack_9 _ _ _ _ _ _ _ _ _ _ _ _ _ _ _ _ _) (pack_9 _ _ _ _ _ _ _ _ _ _ _ _ _ _ _ _ _) (pack_9 _ _ _ _ _ _ _ _ _ _ _ _ _ _ _ _ _)

/-- The host's last steps for array 10, run on any contents. -/
theorem tail_delta_10 (W : Valuation τ sig (Elt Ideal)) : StableHlo.after hostOps1 W (Proc.devRef .tc main_v111)
    = TAIL_10 (W (Proc.devRef .tc main_v88_0)) := by
  simp only [hostOps1, StableHlo.after_cons, StableHlo.after_nil]
  after_results_simp
  rfl

/-- Array 10 of the change of the weights after the call is the reference's. -/
theorem final_delta_10 (c : Dev nD) : Pipeline.afterTail₀ cfgs (dats m) 0 (V0 m) [hostOps1] c main_v111
    = DELTA Cert.Reference26Ideal.Gen.bcast_S_S2x1024 (m ((c : Thread nD τ).loc main_arg10)) (m ((c : Thread nD τ).loc main_arg27)) (m ((c : Thread nD τ).loc main_arg44)) (m ((c : Thread nD τ).loc main_arg61)) := by
  refine (tail_delta_10 _).trans ?_
  rw [after_delta]
  exact unpack_delta _ (T := TAIL_10) read_10 (pack_10 _ _ _ _ _ _ _ _ _ _ _ _ _ _ _ _ _) (pack_10 _ _ _ _ _ _ _ _ _ _ _ _ _ _ _ _ _) (pack_10 _ _ _ _ _ _ _ _ _ _ _ _ _ _ _ _ _) (pack_10 _ _ _ _ _ _ _ _ _ _ _ _ _ _ _ _ _)

/-- The host's last steps for array 11, run on any contents. -/
theorem tail_delta_11 (W : Valuation τ sig (Elt Ideal)) : StableHlo.after hostOps1 W (Proc.devRef .tc main_v113)
    = TAIL_11 (W (Proc.devRef .tc main_v88_0)) := by
  simp only [hostOps1, StableHlo.after_cons, StableHlo.after_nil]
  after_results_simp
  rfl

/-- Array 11 of the change of the weights after the call is the reference's. -/
theorem final_delta_11 (c : Dev nD) : Pipeline.afterTail₀ cfgs (dats m) 0 (V0 m) [hostOps1] c main_v113
    = DELTA Cert.Reference26Ideal.Gen.bcast_S_S2x128 (m ((c : Thread nD τ).loc main_arg11)) (m ((c : Thread nD τ).loc main_arg28)) (m ((c : Thread nD τ).loc main_arg45)) (m ((c : Thread nD τ).loc main_arg62)) := by
  refine (tail_delta_11 _).trans ?_
  rw [after_delta]
  exact unpack_delta _ (T := TAIL_11) read_11 (pack_11 _ _ _ _ _ _ _ _ _ _ _ _ _ _ _ _ _) (pack_11 _ _ _ _ _ _ _ _ _ _ _ _ _ _ _ _ _) (pack_11 _ _ _ _ _ _ _ _ _ _ _ _ _ _ _ _ _) (pack_11 _ _ _ _ _ _ _ _ _ _ _ _ _ _ _ _ _)

/-- The host's last steps for array 12, run on any contents. -/
theorem tail_delta_12 (W : Valuation τ sig (Elt Ideal)) : StableHlo.after hostOps1 W (Proc.devRef .tc main_v115)
    = TAIL_12 (W (Proc.devRef .tc main_v88_0)) := by
  simp only [hostOps1, StableHlo.after_cons, StableHlo.after_nil]
  after_results_simp
  rfl

/-- Array 12 of the change of the weights after the call is the reference's. -/
theorem final_delta_12 (c : Dev nD) : Pipeline.afterTail₀ cfgs (dats m) 0 (V0 m) [hostOps1] c main_v115
    = DELTA Cert.Reference26Ideal.Gen.bcast_S_S2x256 (m ((c : Thread nD τ).loc main_arg12)) (m ((c : Thread nD τ).loc main_arg29)) (m ((c : Thread nD τ).loc main_arg46)) (m ((c : Thread nD τ).loc main_arg63)) := by
  refine (tail_delta_12 _).trans ?_
  rw [after_delta]
  exact unpack_delta _ (T := TAIL_12) read_12 (pack_12 _ _ _ _ _ _ _ _ _ _ _ _ _ _ _ _ _) (pack_12 _ _ _ _ _ _ _ _ _ _ _ _ _ _ _ _ _) (pack_12 _ _ _ _ _ _ _ _ _ _ _ _ _ _ _ _ _) (pack_12 _ _ _ _ _ _ _ _ _ _ _ _ _ _ _ _ _)

/-- The host's last steps for array 13, run on any contents. -/
theorem tail_delta_13 (W : Valuation τ sig (Elt Ideal)) : StableHlo.after hostOps1 W (Proc.devRef .tc main_v117)
    = TAIL_13 (W (Proc.devRef .tc main_v88_0)) := by
  simp only [hostOps1, StableHlo.after_cons, StableHlo.after_nil]
  after_results_simp
  rfl

/-- Array 13 of the change of the weights after the call is the reference's. -/
theorem final_delta_13 (c : Dev nD) : Pipeline.afterTail₀ cfgs (dats m) 0 (V0 m) [hostOps1] c main_v117
    = DELTA Cert.Reference26Ideal.Gen.bcast_S_S2x64 (m ((c : Thread nD τ).loc main_arg13)) (m ((c : Thread nD τ).loc main_arg30)) (m ((c : Thread nD τ).loc main_arg47)) (m ((c : Thread nD τ).loc main_arg64)) := by
  refine (tail_delta_13 _).trans ?_
  rw [after_delta]
  exact unpack_delta _ (T := TAIL_13) read_13 (pack_13 _ _ _ _ _ _ _ _ _ _ _ _ _ _ _ _ _) (pack_13 _ _ _ _ _ _ _ _ _ _ _ _ _ _ _ _ _) (pack_13 _ _ _ _ _ _ _ _ _ _ _ _ _ _ _ _ _) (pack_13 _ _ _ _ _ _ _ _ _ _ _ _ _ _ _ _ _)

/-- The host's last steps for array 14, run on any contents. -/
theorem tail_delta_14 (W : Valuation τ sig (Elt Ideal)) : StableHlo.after hostOps1 W (Proc.devRef .tc main_v119)
    = TAIL_14 (W (Proc.devRef .tc main_v88_0)) := by
  simp only [hostOps1, StableHlo.after_cons, StableHlo.after_nil]
  after_results_simp
  rfl

/-- Array 14 of the change of the weights after the call is the reference's. -/
theorem final_delta_14 (c : Dev nD) : Pipeline.afterTail₀ cfgs (dats m) 0 (V0 m) [hostOps1] c main_v119
    = DELTA Cert.Reference26Ideal.Gen.bcast_S_S2x64 (m ((c : Thread nD τ).loc main_arg14)) (m ((c : Thread nD τ).loc main_arg31)) (m ((c : Thread nD τ).loc main_arg48)) (m ((c : Thread nD τ).loc main_arg65)) := by
  refine (tail_delta_14 _).trans ?_
  rw [after_delta]
  exact unpack_delta _ (T := TAIL_14) read_14 (pack_14 _ _ _ _ _ _ _ _ _ _ _ _ _ _ _ _ _) (pack_14 _ _ _ _ _ _ _ _ _ _ _ _ _ _ _ _ _) (pack_14 _ _ _ _ _ _ _ _ _ _ _ _ _ _ _ _ _) (pack_14 _ _ _ _ _ _ _ _ _ _ _ _ _ _ _ _ _)

/-- The host's last steps for array 15, run on any contents. -/
theorem tail_delta_15 (W : Valuation τ sig (Elt Ideal)) : StableHlo.after hostOps1 W (Proc.devRef .tc main_v121)
    = TAIL_15 (W (Proc.devRef .tc main_v88_0)) := by
  simp only [hostOps1, StableHlo.after_cons, StableHlo.after_nil]
  after_results_simp
  rfl

/-- Array 15 of the change of the weights after the call is the reference's. -/
theorem final_delta_15 (c : Dev nD) : Pipeline.afterTail₀ cfgs (dats m) 0 (V0 m) [hostOps1] c main_v121
    = DELTA Cert.Reference26Ideal.Gen.bcast_S_S2x32 (m ((c : Thread nD τ).loc main_arg15)) (m ((c : Thread nD τ).loc main_arg32)) (m ((c : Thread nD τ).loc main_arg49)) (m ((c : Thread nD τ).loc main_arg66)) := by
  refine (tail_delta_15 _).trans ?_
  rw [after_delta]
  exact unpack_delta _ (T := TAIL_15) read_15 (pack_15 _ _ _ _ _ _ _ _ _ _ _ _ _ _ _ _ _) (pack_15 _ _ _ _ _ _ _ _ _ _ _ _ _ _ _ _ _) (pack_15 _ _ _ _ _ _ _ _ _ _ _ _ _ _ _ _ _) (pack_15 _ _ _ _ _ _ _ _ _ _ _ _ _ _ _ _ _)

/-- The host's last steps for array 16, run on any contents. -/
theorem tail_delta_16 (W : Valuation τ sig (Elt Ideal)) : StableHlo.after hostOps1 W (Proc.devRef .tc main_v123)
    = TAIL_16 (W (Proc.devRef .tc main_v88_0)) := by
  simp only [hostOps1, StableHlo.after_cons, StableHlo.after_nil]
  after_results_simp
  rfl

/-- Array 16 of the change of the weights after the call is the reference's. -/
theorem final_delta_16 (c : Dev nD) : Pipeline.afterTail₀ cfgs (dats m) 0 (V0 m) [hostOps1] c main_v123
    = DELTA Cert.Reference26Ideal.Gen.bcast_S_S4x2048 (m ((c : Thread nD τ).loc main_arg16)) (m ((c : Thread nD τ).loc main_arg33)) (m ((c : Thread nD τ).loc main_arg50)) (m ((c : Thread nD τ).loc main_arg67)) := by
  refine (tail_delta_16 _).trans ?_
  rw [after_delta]
  exact unpack_delta _ (T := TAIL_16) read_16 (pack_16 _ _ _ _ _ _ _ _ _ _ _ _ _ _ _ _ _) (pack_16 _ _ _ _ _ _ _ _ _ _ _ _ _ _ _ _ _) (pack_16 _ _ _ _ _ _ _ _ _ _ _ _ _ _ _ _ _) (pack_16 _ _ _ _ _ _ _ _ _ _ _ _ _ _ _ _ _)

end Cert.Kernel26Ideal.Value

end
-- ==== Proof.AdamSmallFirst.lean ====
/- The optimiser's step of the small weights (`Kernel26`): the new first moments, array by array, are the reference's. -/
module

public import proofs.«01_k».proof.Proof.AdamSmall

@[expose] public section

set_option maxRecDepth 16384

noncomputable section

open Idealize.ShloMosaic Idealize.ShloMosaic.TcCoe Idealize.SL.Sem
open Idealize.ShloMosaic.Pipeline (Dat)

namespace Cert.Kernel26Ideal.Value

open Cert.Kernel26Ideal Cert.Kernel26Ideal.Gen

variable (m : (ℓ : Loc nD τ sig) → Buf (Elt Ideal) ℓ)

/-- One array of the new first moments, of operands that hold the arrays at the positions `f`: what the host's last steps `T` read. -/
theorem unpack_m {s : Shape} (b : Cert.Reference26Ideal.S_.BroadcastsInDim s (![] : Fin 0 → Fin s.rank)) {f : s.Idx → Nat}
    {T : FVec Ideal S4608x128 .f32 → FVec Ideal s .f32}
    (hT : ∀ X j, ∃ i : S4608x128.Idx, (i 0).val * 128 + (i 1).val = f j ∧ T X j = X i)
    {PG PM : FVec Ideal S4608x128 .f32} {G M : FVec Ideal s .f32}
    (hG : ∀ (i : S4608x128.Idx) (j : s.Idx), (i 0).val * 128 + (i 1).val = f j → PG i = G j)
    (hM : ∀ (i : S4608x128.Idx) (j : s.Idx), (i 0).val * 128 + (i 1).val = f j → PM i = M j) :
    T (MOMP PG PM) = MOM b G M := by
  funext j
  obtain ⟨i, hi, e⟩ := hT (MOMP PG PM) j
  exact e.trans (pay_m _ _ _ G M _ j (hG i j hi) (hM i j hi))

/-- The host's last steps for array 0, run on any contents. -/
theorem tail_m_0 (W : Valuation τ sig (Elt Ideal)) : StableHlo.after hostOps1 W (Proc.devRef .tc main_v126)
    = TAIL_0 (W (Proc.devRef .tc main_v88_1)) := by
  simp only [hostOps1, StableHlo.after_cons, StableHlo.after_nil]
  after_results_simp
  rfl

/-- Array 0 of the new first moments after the call is the reference's. -/
theorem final_m_0 (c : Dev nD) : Pipeline.afterTail₀ cfgs (dats m) 0 (V0 m) [hostOps1] c main_v126
    = MOM Cert.Reference26Ideal.Gen.bcast_S_S2x2048 (m ((c : Thread nD τ).loc main_arg17)) (m ((c : Thread nD τ).loc main_arg34)) := by
  refine (tail_m_0 _).trans ?_
  rw [after_m]
  exact unpack_m _ (T := TAIL_0) read_0 (pack_0 _ _ _ _ _ _ _ _ _ _ _ _ _ _ _ _ _) (pack_0 _ _ _ _ _ _ _ _ _ _ _ _ _ _ _ _ _)

/-- The host's last steps for array 1, run on any contents. -/
theorem tail_m_1 (W : Valuation τ sig (Elt Ideal)) : StableHlo.after hostOps1 W (Proc.devRef .tc main_v128)
    = TAIL_1 (W (Proc.devRef .tc main_v88_1)) := by
  simp only [hostOps1, StableHlo.after_cons, StableHlo.after_nil]
  after_results_simp
  rfl

/-- Array 1 of the new first moments after the call is the reference's. -/
theorem final_m_1 (c : Dev nD) : Pipeline.afterTail₀ cfgs (dats m) 0 (V0 m) [hostOps1] c main_v128
    = MOM Cert.Reference26Ideal.Gen.bcast_S_S2x64x64 (m ((c : Thread nD τ).loc main_arg18)) (m ((c : Thread nD τ).loc main_arg35)) := by
  refine (tail_m_1 _).trans ?_
  rw [after_m]
  exact unpack_m _ (T := TAIL_1) read_1 (pack_1 _ _ _ _ _ _ _ _ _ _ _ _ _ _ _ _ _) (pack_1 _ _ _ _ _ _ _ _ _ _ _ _ _ _ _ _ _)

/-- The host's last steps for array 2, run on any contents. -/
theorem tail_m_2 (W : Valuation τ sig (Elt Ideal)) : StableHlo.after hostOps1 W (Proc.devRef .tc main_v130)
    = TAIL_2 (W (Proc.devRef .tc main_v88_1)) := by
  simp only [hostOps1, StableHlo.after_cons, StableHlo.after_nil]
  after_results_simp
  rfl

/-- Array 2 of the new first moments after the call is the reference's. -/
theorem final_m_2 (c : Dev nD) : Pipeline.afterTail₀ cfgs (dats m) 0 (V0 m) [hostOps1] c main_v130
    = MOM Cert.Reference26Ideal.Gen.bcast_S_S2x64x64 (m ((c : Thread nD τ).loc main_arg19)) (m ((c : Thread nD τ).loc main_arg36)) := by
  refine (tail_m_2 _).trans ?_
  rw [after_m]
  exact unpack_m _ (T := TAIL_2) read_2 (pack_2 _ _ _ _ _ _ _ _ _ _ _ _ _ _ _ _ _) (pack_2 _ _ _ _ _ _ _ _ _ _ _ _ _ _ _ _ _)

/-- The host's last steps for array 3, run on any contents. -/
theorem tail_m_3 (W : Valuation τ sig (Elt Ideal)) : StableHlo.after hostOps1 W (Proc.devRef .tc main_v132)
    = TAIL_3 (W (Proc.devRef .tc main_v88_1)) := by
  simp only [hostOps1, StableHlo.after_cons, StableHlo.after_nil]
  after_results_simp
  rfl

/-- Array 3 of the new first moments after the call is the reference's. -/
theorem final_m_3 (c : Dev nD) : Pipeline.afterTail₀ cfgs (dats m) 0 (V0 m) [hostOps1] c main_v132
    = MOM Cert.Reference26Ideal.Gen.bcast_S_S2x64 (m ((c : Thread nD τ).loc main_arg20)) (m ((c : Thread nD τ).loc main_arg37)) := by
  refine (tail_m_3 _).trans ?_
  rw [after_m]
  exact unpack_m _ (T := TAIL_3) read_3 (pack_3 _ _ _ _ _ _ _ _ _ _ _ _ _ _ _ _ _) (pack_3 _ _ _ _ _ _ _ _ _ _ _ _ _ _ _ _ _)

/-- The host's last steps for array 4, run on any contents. -/
theorem tail_m_4 (W : Valuation τ sig (Elt Ideal)) : StableHlo.after hostOps1 W (Proc.devRef .tc main_v134)
    = TAIL_4 (W (Proc.devRef .tc main_v88_1)) := by
  simp only [hostOps1, StableHlo.after_cons, StableHlo.after_nil]
  after_results_simp
  rfl

/-- Array 4 of the new first moments after the call is the reference's. -/
theorem final_m_4 (c : Dev nD) : Pipeline.afterTail₀ cfgs (dats m) 0 (V0 m) [hostOps1] c main_v134
    = MOM Cert.Reference26Ideal.Gen.bcast_S_S2x64x64x16 (m ((c : Thread nD τ).loc main_arg21)) (m ((c : Thread nD τ).loc main_arg38)) := by
  refine (tail_m_4 _).trans ?_
  rw [after_m]
  exact unpack_m _ (T := TAIL_4) read_4 (pack_4 _ _ _ _ _ _ _ _ _ _ _ _ _ _ _ _ _) (pack_4 _ _ _ _ _ _ _ _ _ _ _ _ _ _ _ _ _)

/-- The host's last steps for array 5, run on any contents. -/
theorem tail_m_5 (W : Valuation τ sig (Elt Ideal)) : StableHlo.after hostOps1 W (Proc.devRef .tc main_v136)
    = TAIL_5 (W (Proc.devRef .tc main_v88_1)) := by
  simp only [hostOps1, StableHlo.after_cons, StableHlo.after_nil]
  after_results_simp
  rfl

/-- Array 5 of the new first moments after the call is the reference's. -/
theorem final_m_5 (c : Dev nD) : Pipeline.afterTail₀ cfgs (dats m) 0 (V0 m) [hostOps1] c main_v136
    = MOM Cert.Reference26Ideal.Gen.bcast_S_S2x64x64x16 (m ((c : Thread nD τ).loc main_arg22)) (m ((c : Thread nD τ).loc main_arg39)) := by
  refine (tail_m_5 _).trans ?_
  rw [after_m]
  exact unpack_m _ (T := TAIL_5) read_5 (pack_5 _ _ _ _ _ _ _ _ _ _ _ _ _ _ _ _ _) (pack_5 _ _ _ _ _ _ _ _ _ _ _ _ _ _ _ _ _)

/-- The host's last steps for array 6, run on any contents. -/
theorem tail_m_6 (W : Valuation τ sig (Elt Ideal)) : StableHlo.after hostOps1 W (Proc.devRef .tc main_v138)
    = TAIL_6 (W (Proc.devRef .tc main_v88_1)) := by
  simp only [hostOps1, StableHlo.after_cons, StableHlo.after_nil]
  after_results_simp
  rfl

/-- Array 6 of the new first moments after the call is the reference's. -/
theorem final_m_6 (c : Dev nD) : Pipeline.afterTail₀ cfgs (dats m) 0 (V0 m) [hostOps1] c main_v138
    = MOM Cert.Reference26Ideal.Gen.bcast_S_S2x64x16x64 (m ((c : Thread nD τ).loc main_arg23)) (m ((c : Thread nD τ).loc main_arg40)) := by
  refine (tail_m_6 _).trans ?_
  rw [after_m]
  exact unpack_m _ (T := TAIL_6) read_6 (pack_6 _ _ _ _ _ _ _ _ _ _ _ _ _ _ _ _ _) (pack_6 _ _ _ _ _ _ _ _ _ _ _ _ _ _ _ _ _)

/-- The host's last steps for array 7, run on any contents. -/
theorem tail_m_7 (W : Valuation τ sig (Elt Ideal)) : StableHlo.after hostOps1 W (Proc.devRef .tc main_v140)
    = TAIL_7 (W (Proc.devRef .tc main_v88_1)) := by
  simp only [hostOps1, StableHlo.after_cons, StableHlo.after_nil]
  after_results_simp
  rfl

/-- Array 7 of the new first moments after the call is the reference's. -/
theorem final_m_7 (c : Dev nD) : Pipeline.afterTail₀ cfgs (dats m) 0 (V0 m) [hostOps1] c main_v140
    = MOM Cert.Reference26Ideal.Gen.bcast_S_S2x64x16x64 (m ((c : Thread nD τ).loc main_arg24)) (m ((c : Thread nD τ).loc main_arg41)) := by
  refine (tail_m_7 _).trans ?_
  rw [after_m]
  exact unpack_m _ (T := TAIL_7) read_7 (pack_7 _ _ _ _ _ _ _ _ _ _ _ _ _ _ _ _ _) (pack_7 _ _ _ _ _ _ _ _ _ _ _ _ _ _ _ _ _)

/-- The host's last steps for array 8, run on any contents. -/
theorem tail_m_8 (W : Valuation τ sig (Elt Ideal)) : StableHlo.after hostOps1 W (Proc.devRef .tc main_v142)
    = TAIL_8 (W (Proc.devRef .tc main_v88_1)) := by
  simp only [hostOps1, StableHlo.after_cons, StableHlo.after_nil]
  after_results_simp
  rfl

/-- Array 8 of the new first moments after the call is the reference's. -/
theorem final_m_8 (c : Dev nD) : Pipeline.afterTail₀ cfgs (dats m) 0 (V0 m) [hostOps1] c main_v142
    = MOM Cert.Reference26Ideal.Gen.bcast_S_S2x64x16 (m ((c : Thread nD τ).loc main_arg25)) (m ((c : Thread nD τ).loc main_arg42)) := by
  refine (tail_m_8 _).trans ?_
  rw [after_m]
  exact unpack_m _ (T := TAIL_8) read_8 (pack_8 _ _ _ _ _ _ _ _ _ _ _ _ _ _ _ _ _) (pack_8 _ _ _ _ _ _ _ _ _ _ _ _ _ _ _ _ _)

/-- The host's last steps for array 9, run on any contents. -/
theorem tail_m_9 (W : Valuation τ sig (Elt Ideal)) : StableHlo.after hostOps1 W (Proc.devRef .tc main_v144)
    = TAIL_9 (W (Proc.devRef .tc main_v88_1)) := by
  simp only [hostOps1, StableHlo.after_cons, StableHlo.after_nil]
  after_results_simp
  rfl

/-- Array 9 of the new first moments after the call is the reference's. -/
theorem final_m_9 (c : Dev nD) : Pipeline.afterTail₀ cfgs (dats m) 0 (V0 m) [hostOps1] c main_v144
    = MOM Cert.Reference26Ideal.Gen.bcast_S_S2x1024 (m ((c : Thread nD τ).loc main_arg26)) (m ((c : Thread nD τ).loc main_arg43)) := by
  refine (tail_m_9 _).trans ?_
  rw [after_m]
  exact unpack_m _ (T := TAIL_9) read_9 (pack_9 _ _ _ _ _ _ _ _ _ _ _ _ _ _ _ _ _) (pack_9 _ _ _ _ _ _ _ _ _ _ _ _ _ _ _ _ _)

/-- The host's last steps for array 10, run on any contents. -/
theorem tail_m_10 (W : Valuation τ sig (Elt Ideal)) : StableHlo.after hostOps1 W (Proc.devRef .tc main_v146)
    = TAIL_10 (W (Proc.devRef .tc main_v88_1)) := by
  simp only [hostOps1, StableHlo.after_cons, StableHlo.after_nil]
  after_results_simp
  rfl

/-- Array 10 of the new first moments after the call is the reference's. -/
theorem final_m_10 (c : Dev nD) : Pipeline.afterTail₀ cfgs (dats m) 0 (V0 m) [hostOps1] c main_v146
    = MOM Cert.Reference26Ideal.Gen.bcast_S_S2x1024 (m ((c : Thread nD τ).loc main_arg27)) (m ((c : Thread nD τ).loc main_arg44)) := by
  refine (tail_m_10 _).trans ?_
  rw [after_m]
  exact unpack_m _ (T := TAIL_10) read_10 (pack_10 _ _ _ _ _ _ _ _ _ _ _ _ _ _ _ _ _) (pack_10 _ _ _ _ _ _ _ _ _ _ _ _ _ _ _ _ _)

/-- The host's last steps for array 11, run on any contents. -/
theorem tail_m_11 (W : Valuation τ sig (Elt Ideal)) : StableHlo.after hostOps1 W (Proc.devRef .tc main_v148)
    = TAIL_11 (W (Proc.devRef .tc main_v88_1)) := by
  simp only [hostOps1, StableHlo.after_cons, StableHlo.after_nil]
  after_results_simp
  rfl

/-- Array 11 of the new first moments after the call is the reference's. -/
theorem final_m_11 (c : Dev nD) : Pipeline.afterTail₀ cfgs (dats m) 0 (V0 m) [hostOps1] c main_v148
    = MOM Cert.Reference26Ideal.Gen.bcast_S_S2x128 (m ((c : Thread nD τ).loc main_arg28)) (m ((c : Thread nD τ).loc main_arg45)) := by
  refine (tail_m_11 _).trans ?_
  rw [after_m]
  exact unpack_m _ (T := TAIL_11) read_11 (pack_11 _ _ _ _ _ _ _ _ _ _ _ _ _ _ _ _ _) (pack_11 _ _ _ _ _ _ _ _ _ _ _ _ _ _ _ _ _)

/-- The host's last steps for array 12, run on any contents. -/
theorem tail_m_12 (W : Valuation τ sig (Elt Ideal)) : StableHlo.after hostOps1 W (Proc.devRef .tc main_v150)
    = TAIL_12 (W (Proc.devRef .tc main_v88_1)) := by
  simp only [hostOps1, StableHlo.after_cons, StableHlo.after_nil]
  after_results_simp
  rfl

/-- Array 12 of the new first moments after the call is the reference's. -/
theorem final_m_12 (c : Dev nD) : Pipeline.afterTail₀ cfgs (dats m) 0 (V0 m) [hostOps1] c main_v150
    = MOM Cert.Reference26Ideal.Gen.bcast_S_S2x256 (m ((c : Thread nD τ).loc main_arg29)) (m ((c : Thread nD τ).loc main_arg46)) := by
  refine (tail_m_12 _).trans ?_
  rw [after_m]
  exact unpack_m _ (T := TAIL_12) read_12 (pack_12 _ _ _ _ _ _ _ _ _ _ _ _ _ _ _ _ _) (pack_12 _ _ _ _ _ _ _ _ _ _ _ _ _ _ _ _ _)

/-- The host's last steps for array 13, run on any contents. -/
theorem tail_m_13 (W : Valuation τ sig (Elt Ideal)) : StableHlo.after hostOps1 W (Proc.devRef .tc main_v152)
    = TAIL_13 (W (Proc.devRef .tc main_v88_1)) := by
  simp only [hostOps1, StableHlo.after_cons, StableHlo.after_nil]
  after_results_simp
  rfl

/-- Array 13 of the new first moments after the call is the reference's. -/
theorem final_m_13 (c : Dev nD) : Pipeline.afterTail₀ cfgs (dats m) 0 (V0 m) [hostOps1] c main_v152
    = MOM Cert.Reference26Ideal.Gen.bcast_S_S2x64 (m ((c : Thread nD τ).loc main_arg30)) (m ((c : Thread nD τ).loc main_arg47)) := by
  refine (tail_m_13 _).trans ?_
  rw [after_m]
  exact unpack_m _ (T := TAIL_13) read_13 (pack_13 _ _ _ _ _ _ _ _ _ _ _ _ _ _ _ _ _) (pack_13 _ _ _ _ _ _ _ _ _ _ _ _ _ _ _ _ _)

/-- The host's last steps for array 14, run on any contents. -/
theorem tail_m_14 (W : Valuation τ sig (Elt Ideal)) : StableHlo.after hostOps1 W (Proc.devRef .tc main_v154)
    = TAIL_14 (W (Proc.devRef .tc main_v88_1)) := by
  simp only [hostOps1, StableHlo.after_cons, StableHlo.after_nil]
  after_results_simp
  rfl

/-- Array 14 of the new first moments after the call is the reference's. -/
theorem final_m_14 (c : Dev nD) : Pipeline.afterTail₀ cfgs (dats m) 0 (V0 m) [hostOps1] c main_v154
    = MOM Cert.Reference26Ideal.Gen.bcast_S_S2x64 (m ((c : Thread nD τ).loc main_arg31)) (m ((c : Thread nD τ).loc main_arg48)) := by
  refine (tail_m_14 _).trans ?_
  rw [after_m]
  exact unpack_m _ (T := TAIL_14) read_14 (pack_14 _ _ _ _ _ _ _ _ _ _ _ _ _ _ _ _ _) (pack_14 _ _ _ _ _ _ _ _ _ _ _ _ _ _ _ _ _)

/-- The host's last steps for array 15, run on any contents. -/
theorem tail_m_15 (W : Valuation τ sig (Elt Ideal)) : StableHlo.after hostOps1 W (Proc.devRef .tc main_v156)
    = TAIL_15 (W (Proc.devRef .tc main_v88_1)) := by
  simp only [hostOps1, StableHlo.after_cons, StableHlo.after_nil]
  after_results_simp
  rfl

/-- Array 15 of the new first moments after the call is the reference's. -/
theorem final_m_15 (c : Dev nD) : Pipeline.afterTail₀ cfgs (dats m) 0 (V0 m) [hostOps1] c main_v156
    = MOM Cert.Reference26Ideal.Gen.bcast_S_S2x32 (m ((c : Thread nD τ).loc main_arg32)) (m ((c : Thread nD τ).loc main_arg49)) := by
  refine (tail_m_15 _).trans ?_
  rw [after_m]
  exact unpack_m _ (T := TAIL_15) read_15 (pack_15 _ _ _ _ _ _ _ _ _ _ _ _ _ _ _ _ _) (pack_15 _ _ _ _ _ _ _ _ _ _ _ _ _ _ _ _ _)

/-- The host's last steps for array 16, run on any contents. -/
theorem tail_m_16 (W : Valuation τ sig (Elt Ideal)) : StableHlo.after hostOps1 W (Proc.devRef .tc main_v158)
    = TAIL_16 (W (Proc.devRef .tc main_v88_1)) := by
  simp only [hostOps1, StableHlo.after_cons, StableHlo.after_nil]
  after_results_simp
  rfl

/-- Array 16 of the new first moments after the call is the reference's. -/
theorem final_m_16 (c : Dev nD) : Pipeline.afterTail₀ cfgs (dats m) 0 (V0 m) [hostOps1] c main_v158
    = MOM Cert.Reference26Ideal.Gen.bcast_S_S4x2048 (m ((c : Thread nD τ).loc main_arg33)) (m ((c : Thread nD τ).loc main_arg50)) := by
  refine (tail_m_16 _).trans ?_
  rw [after_m]
  exact unpack_m _ (T := TAIL_16) read_16 (pack_16 _ _ _ _ _ _ _ _ _ _ _ _ _ _ _ _ _) (pack_16 _ _ _ _ _ _ _ _ _ _ _ _ _ _ _ _ _)

end Cert.Kernel26Ideal.Value

end
-- ==== Proof.AdamSmallSecond.lean ====
/- The optimiser's step of the small weights (`Kernel26`): the new second moments, array by array, are the reference's. -/
module

public import proofs.«01_k».proof.Proof.AdamSmall

@[expose] public section

set_option maxRecDepth 16384

noncomputable section

open Idealize.ShloMosaic Idealize.ShloMosaic.TcCoe Idealize.SL.Sem
open Idealize.ShloMosaic.Pipeline (Dat)

namespace Cert.Kernel26Ideal.Value

open Cert.Kernel26Ideal Cert.Kernel26Ideal.Gen

variable (m : (ℓ : Loc nD τ sig) → Buf (Elt Ideal) ℓ)

/-- One array of the new second moments, of operands that hold the arrays at the positions `f`: what the host's last steps `T` read. -/
theorem unpack_v {s : Shape} (b : Cert.Reference26Ideal.S_.BroadcastsInDim s (![] : Fin 0 → Fin s.rank)) {f : s.Idx → Nat}
    {T : FVec Ideal S4608x128 .f32 → FVec Ideal s .f32}
    (hT : ∀ X j, ∃ i : S4608x128.Idx, (i 0).val * 128 + (i 1).val = f j ∧ T X j = X i)
    {PG PV : FVec Ideal S4608x128 .f32} {G V : FVec Ideal s .f32}
    (hG : ∀ (i : S4608x128.Idx) (j : s.Idx), (i 0).val * 128 + (i 1).val = f j → PG i = G j)
    (hV : ∀ (i : S4608x128.Idx) (j : s.Idx), (i 0).val * 128 + (i 1).val = f j → PV i = V j) :
    T (VELP PG PV) = VEL b G V := by
  funext j
  obtain ⟨i, hi, e⟩ := hT (VELP PG PV) j
  exact e.trans (pay_v _ _ _ G V _ j (hG i j hi) (hV i j hi))

/-- The host's last steps for array 0, run on any contents. -/
theorem tail_v_0 (W : Valuation τ sig (Elt Ideal)) : StableHlo.after hostOps1 W (Proc.devRef .tc main_v161)
    = TAIL_0 (W (Proc.devRef .tc main_v88_2)) := by
  simp only [hostOps1, StableHlo.after_cons, StableHlo.after_nil]
  after_results_simp
  rfl

/-- Array 0 of the new second moments after the call is the reference's. -/
theorem final_v_0 (c : Dev nD) : Pipeline.afterTail₀ cfgs (dats m) 0 (V0 m) [hostOps1] c main_v161
    = VEL Cert.Reference26Ideal.Gen.bcast_S_S2x2048 (m ((c : Thread nD τ).loc main_arg17)) (m ((c : Thread nD τ).loc main_arg51)) := by
  refine (tail_v_0 _).trans ?_
  rw [after_v]
  exact unpack_v _ (T := TAIL_0) read_0 (pack_0 _ _ _ _ _ _ _ _ _ _ _ _ _ _ _ _ _) (pack_0 _ _ _ _ _ _ _ _ _ _ _ _ _ _ _ _ _)

/-- The host's last steps for array 1, run on any contents. -/
theorem tail_v_1 (W : Valuation τ sig (Elt Ideal)) : StableHlo.after hostOps1 W (Proc.devRef .tc main_v163)
    = TAIL_1 (W (Proc.devRef .tc main_v88_2)) := by
  simp only [hostOps1, StableHlo.after_cons, StableHlo.after_nil]
  after_results_simp
  rfl

/-- Array 1 of the new second moments after the call is the reference's. -/
theorem final_v_1 (c : Dev nD) : Pipeline.afterTail₀ cfgs (dats m) 0 (V0 m) [hostOps1] c main_v163
    = VEL Cert.Reference26Ideal.Gen.bcast_S_S2x64x64 (m ((c : Thread nD τ).loc main_arg18)) (m ((c : Thread nD τ).loc main_arg52)) := by
  refine (tail_v_1 _).trans ?_
  rw [after_v]
  exact unpack_v _ (T := TAIL_1) read_1 (pack_1 _ _ _ _ _ _ _ _ _ _ _ _ _ _ _ _ _) (pack_1 _ _ _ _ _ _ _ _ _ _ _ _ _ _ _ _ _)

/-- The host's last steps for array 2, run on any contents. -/
theorem tail_v_2 (W : Valuation τ sig (Elt Ideal)) : StableHlo.after hostOps1 W (Proc.devRef .tc main_v165)
    = TAIL_2 (W (Proc.devRef .tc main_v88_2)) := by
  simp only [hostOps1, StableHlo.after_cons, StableHlo.after_nil]
  after_results_simp
  rfl

/-- Array 2 of the new second moments after the call is the reference's. -/
theorem final_v_2 (c : Dev nD) : Pipeline.afterTail₀ cfgs (dats m) 0 (V0 m) [hostOps1] c main_v165
    = VEL Cert.Reference26Ideal.Gen.bcast_S_S2x64x64 (m ((c : Thread nD τ).loc main_arg19)) (m ((c : Thread nD τ).loc main_arg53)) := by
  refine (tail_v_2 _).trans ?_
  rw [after_v]
  exact unpack_v _ (T := TAIL_2) read_2 (pack_2 _ _ _ _ _ _ _ _ _ _ _ _ _ _ _ _ _) (pack_2 _ _ _ _ _ _ _ _ _ _ _ _ _ _ _ _ _)

/-- The host's last steps for array 3, run on any contents. -/
theorem tail_v_3 (W : Valuation τ sig (Elt Ideal)) : StableHlo.after hostOps1 W (Proc.devRef .tc main_v167)
    = TAIL_3 (W (Proc.devRef .tc main_v88_2)) := by
  simp only [hostOps1, StableHlo.after_cons, StableHlo.after_nil]
  after_results_simp
  rfl

/-- Array 3 of the new second moments after the call is the reference's. -/
theorem final_v_3 (c : Dev nD) : Pipeline.afterTail₀ cfgs (dats m) 0 (V0 m) [hostOps1] c main_v167
    = VEL Cert.Reference26Ideal.Gen.bcast_S_S2x64 (m ((c : Thread nD τ).loc main_arg20)) (m ((c : Thread nD τ).loc main_arg54)) := by
  refine (tail_v_3 _).trans ?_
  rw [after_v]
  exact unpack_v _ (T := TAIL_3) read_3 (pack_3 _ _ _ _ _ _ _ _ _ _ _ _ _ _ _ _ _) (pack_3 _ _ _ _ _ _ _ _ _ _ _ _ _ _ _ _ _)

/-- The host's last steps for array 4, run on any contents. -/
theorem tail_v_4 (W : Valuation τ sig (Elt Ideal)) : StableHlo.after hostOps1 W (Proc.devRef .tc main_v169)
    = TAIL_4 (W (Proc.devRef .tc main_v88_2)) := by
  simp only [hostOps1, StableHlo.after_cons, StableHlo.after_nil]
  after_results_simp
  rfl

/-- Array 4 of the new second moments after the call is the reference's. -/
theorem final_v_4 (c : Dev nD) : Pipeline.afterTail₀ cfgs (dats m) 0 (V0 m) [hostOps1] c main_v169
    = VEL Cert.Reference26Ideal.Gen.bcast_S_S2x64x64x16 (m ((c : Thread nD τ).loc main_arg21)) (m ((c : Thread nD τ).loc main_arg55)) := by
  refine (tail_v_4 _).trans ?_
  rw [after_v]
  exact unpack_v _ (T := TAIL_4) read_4 (pack_4 _ _ _ _ _ _ _ _ _ _ _ _ _ _ _ _ _) (pack_4 _ _ _ _ _ _ _ _ _ _ _ _ _ _ _ _ _)

/-- The host's last steps for array 5, run on any contents. -/
theorem tail_v_5 (W : Valuation τ sig (Elt Ideal)) : StableHlo.after hostOps1 W (Proc.devRef .tc main_v171)
    = TAIL_5 (W (Proc.devRef .tc main_v88_2)) := by
  simp only [hostOps1, StableHlo.after_cons, StableHlo.after_nil]
  after_results_simp
  rfl

/-- Array 5 of the new second moments after the call is the reference's. -/
theorem final_v_5 (c : Dev nD) : Pipeline.afterTail₀ cfgs (dats m) 0 (V0 m) [hostOps1] c main_v171
    = VEL Cert.Reference26Ideal.Gen.bcast_S_S2x64x64x16 (m ((c : Thread nD τ).loc main_arg22)) (m ((c : Thread nD τ).loc main_arg56)) := by
  refine (tail_v_5 _).trans ?_
  rw [after_v]
  exact unpack_v _ (T := TAIL_5) read_5 (pack_5 _ _ _ _ _ _ _ _ _ _ _ _ _ _ _ _ _) (pack_5 _ _ _ _ _ _ _ _ _ _ _ _ _ _ _ _ _)

/-- The host's last steps for array 6, run on any contents. -/
theorem tail_v_6 (W : Valuation τ sig (Elt Ideal)) : StableHlo.after hostOps1 W (Proc.devRef .tc main_v173)
    = TAIL_6 (W (Proc.devRef .tc main_v88_2)) := by
  simp only [hostOps1, StableHlo.after_cons, StableHlo.after_nil]
  after_results_simp
  rfl

/-- Array 6 of the new second moments after the call is the reference's. -/
theorem final_v_6 (c : Dev nD) : Pipeline.afterTail₀ cfgs (dats m) 0 (V0 m) [hostOps1] c main_v173
    = VEL Cert.Reference26Ideal.Gen.bcast_S_S2x64x16x64 (m ((c : Thread nD τ).loc main_arg23)) (m ((c : Thread nD τ).loc main_arg57)) := by
  refine (tail_v_6 _).trans ?_
  rw [after_v]
  exact unpack_v _ (T := TAIL_6) read_6 (pack_6 _ _ _ _ _ _ _ _ _ _ _ _ _ _ _ _ _) (pack_6 _ _ _ _ _ _ _ _ _ _ _ _ _ _ _ _ _)

/-- The host's last steps for array 7, run on any contents. -/
theorem tail_v_7 (W : Valuation τ sig (Elt Ideal)) : StableHlo.after hostOps1 W (Proc.devRef .tc main_v175)
    = TAIL_7 (W (Proc.devRef .tc main_v88_2)) := by
  simp only [hostOps1, StableHlo.after_cons, StableHlo.after_nil]
  after_results_simp
  rfl

/-- Array 7 of the new second moments after the call is the reference's. -/
theorem final_v_7 (c : Dev nD) : Pipeline.afterTail₀ cfgs (dats m) 0 (V0 m) [hostOps1] c main_v175
    = VEL Cert.Reference26Ideal.Gen.bcast_S_S2x64x16x64 (m ((c : Thread nD τ).loc main_arg24)) (m ((c : Thread nD τ).loc main_arg58)) := by
  refine (tail_v_7 _).trans ?_
  rw [after_v]
  exact unpack_v _ (T := TAIL_7) read_7 (pack_7 _ _ _ _ _ _ _ _ _ _ _ _ _ _ _ _ _) (pack_7 _ _ _ _ _ _ _ _ _ _ _ _ _ _ _ _ _)

/-- The host's last steps for array 8, run on any contents. -/
theorem tail_v_8 (W : Valuation τ sig (Elt Ideal)) : StableHlo.after hostOps1 W (Proc.devRef .tc main_v177)
    = TAIL_8 (W (Proc.devRef .tc main_v88_2)) := by
  simp only [hostOps1, StableHlo.after_cons, StableHlo.after_nil]
  after_results_simp
  rfl

/-- Array 8 of the new second moments after the call is the reference's. -/
theorem final_v_8 (c : Dev nD) : Pipeline.afterTail₀ cfgs (dats m) 0 (V0 m) [hostOps1] c main_v177
    = VEL Cert.Reference26Ideal.Gen.bcast_S_S2x64x16 (m ((c : Thread nD τ).loc main_arg25)) (m ((c : Thread nD τ).loc main_arg59)) := by
  refine (tail_v_8 _).trans ?_
  rw [after_v]
  exact unpack_v _ (T := TAIL_8) read_8 (pack_8 _ _ _ _ _ _ _ _ _ _ _ _ _ _ _ _ _) (pack_8 _ _ _ _ _ _ _ _ _ _ _ _ _ _ _ _ _)

/-- The host's last steps for array 9, run on any contents. -/
theorem tail_v_9 (W : Valuation τ sig (Elt Ideal)) : StableHlo.after hostOps1 W (Proc.devRef .tc main_v179)
    = TAIL_9 (W (Proc.devRef .tc main_v88_2)) := by
  simp only [hostOps1, StableHlo.after_cons, StableHlo.after_nil]
  after_results_simp
  rfl

/-- Array 9 of the new second moments after the call is the reference's. -/
theorem final_v_9 (c : Dev nD) : Pipeline.afterTail₀ cfgs (dats m) 0 (V0 m) [hostOps1] c main_v179
    = VEL Cert.Reference26Ideal.Gen.bcast_S_S2x1024 (m ((c : Thread nD τ).loc main_arg26)) (m ((c : Thread nD τ).loc main_arg60)) := by
  refine (tail_v_9 _).trans ?_
  rw [after_v]
  exact unpack_v _ (T := TAIL_9) read_9 (pack_9 _ _ _ _ _ _ _ _ _ _ _ _ _ _ _ _ _) (pack_9 _ _ _ _ _ _ _ _ _ _ _ _ _ _ _ _ _)

/-- The host's last steps for array 10, run on any contents. -/
theorem tail_v_10 (W : Valuation τ sig (Elt Ideal)) : StableHlo.after hostOps1 W (Proc.devRef .tc main_v181)
    = TAIL_10 (W (Proc.devRef .tc main_v88_2)) := by
  simp only [hostOps1, StableHlo.after_cons, StableHlo.after_nil]
  after_results_simp
  rfl

/-- Array 10 of the new second moments after the call is the reference's. -/
theorem final_v_10 (c : Dev nD) : Pipeline.afterTail₀ cfgs (dats m) 0 (V0 m) [hostOps1] c main_v181
    = VEL Cert.Reference26Ideal.Gen.bcast_S_S2x1024 (m ((c : Thread nD τ).loc main_arg27)) (m ((c : Thread nD τ).loc main_arg61)) := by
  refine (tail_v_10 _).trans ?_
  rw [after_v]
  exact unpack_v _ (T := TAIL_10) read_10 (pack_10 _ _ _ _ _ _ _ _ _ _ _ _ _ _ _ _ _) (pack_10 _ _ _ _ _ _ _ _ _ _ _ _ _ _ _ _ _)

/-- The host's last steps for array 11, run on any contents. -/
theorem tail_v_11 (W : Valuation τ sig (Elt Ideal)) : StableHlo.after hostOps1 W (Proc.devRef .tc main_v183)
    = TAIL_11 (W (Proc.devRef .tc main_v88_2)) := by
  simp only [hostOps1, StableHlo.after_cons, StableHlo.after_nil]
  after_results_simp
  rfl

/-- Array 11 of the new second moments after the call is the reference's. -/
theorem final_v_11 (c : Dev nD) : Pipeline.afterTail₀ cfgs (dats m) 0 (V0 m) [hostOps1] c main_v183
    = VEL Cert.Reference26Ideal.Gen.bcast_S_S2x128 (m ((c : Thread nD τ).loc main_arg28)) (m ((c : Thread nD τ).loc main_arg62)) := by
  refine (tail_v_11 _).trans ?_
  rw [after_v]
  exact unpack_v _ (T := TAIL_11) read_11 (pack_11 _ _ _ _ _ _ _ _ _ _ _ _ _ _ _ _ _) (pack_11 _ _ _ _ _ _ _ _ _ _ _ _ _ _ _ _ _)

/-- The host's last steps for array 12, run on any contents. -/
theorem tail_v_12 (W : Valuation τ sig (Elt Ideal)) : StableHlo.after hostOps1 W (Proc.devRef .tc main_v185)
    = TAIL_12 (W (Proc.devRef .tc main_v88_2)) := by
  simp only [hostOps1, StableHlo.after_cons, StableHlo.after_nil]
  after_results_simp
  rfl

/-- Array 12 of the new second moments after the call is the reference's. -/
theorem final_v_12 (c : Dev nD) : Pipeline.afterTail₀ cfgs (dats m) 0 (V0 m) [hostOps1] c main_v185
    = VEL Cert.Reference26Ideal.Gen.bcast_S_S2x256 (m ((c : Thread nD τ).loc main_arg29)) (m ((c : Thread nD τ).loc main_arg63)) := by
  refine (tail_v_12 _).trans ?_
  rw [after_v]
  exact unpack_v _ (T := TAIL_12) read_12 (pack_12 _ _ _ _ _ _ _ _ _ _ _ _ _ _ _ _ _) (pack_12 _ _ _ _ _ _ _ _ _ _ _ _ _ _ _ _ _)

/-- The host's last steps for array 13, run on any contents. -/
theorem tail_v_13 (W : Valuation τ sig (Elt Ideal)) : StableHlo.after hostOps1 W (Proc.devRef .tc main_v187)
    = TAIL_13 (W (Proc.devRef .tc main_v88_2)) := by
  simp only [hostOps1, StableHlo.after_cons, StableHlo.after_nil]
  after_results_simp
  rfl

/-- Array 13 of the new second moments after the call is the reference's. -/
theorem final_v_13 (c : Dev nD) : Pipeline.afterTail₀ cfgs (dats m) 0 (V0 m) [hostOps1] c main_v187
    = VEL Cert.Reference26Ideal.Gen.bcast_S_S2x64 (m ((c : Thread nD τ).loc main_arg30)) (m ((c : Thread nD τ).loc main_arg64)) := by
  refine (tail_v_13 _).trans ?_
  rw [after_v]
  exact unpack_v _ (T := TAIL_13) read_13 (pack_13 _ _ _ _ _ _ _ _ _ _ _ _ _ _ _ _ _) (pack_13 _ _ _ _ _ _ _ _ _ _ _ _ _ _ _ _ _)

/-- The host's last steps for array 14, run on any contents. -/
theorem tail_v_14 (W : Valuation τ sig (Elt Ideal)) : StableHlo.after hostOps1 W (Proc.devRef .tc main_v189)
    = TAIL_14 (W (Proc.devRef .tc main_v88_2)) := by
  simp only [hostOps1, StableHlo.after_cons, StableHlo.after_nil]
  after_results_simp
  rfl

/-- Array 14 of the new second moments after the call is the reference's. -/
theorem final_v_14 (c : Dev nD) : Pipeline.afterTail₀ cfgs (dats m) 0 (V0 m) [hostOps1] c main_v189
    = VEL Cert.Reference26Ideal.Gen.bcast_S_S2x64 (m ((c : Thread nD τ).loc main_arg31)) (m ((c : Thread nD τ).loc main_arg65)) := by
  refine (tail_v_14 _).trans ?_
  rw [after_v]
  exact unpack_v _ (T := TAIL_14) read_14 (pack_14 _ _ _ _ _ _ _ _ _ _ _ _ _ _ _ _ _) (pack_14 _ _ _ _ _ _ _ _ _ _ _ _ _ _ _ _ _)

/-- The host's last steps for array 15, run on any contents. -/
theorem tail_v_15 (W : Valuation τ sig (Elt Ideal)) : StableHlo.after hostOps1 W (Proc.devRef .tc main_v191)
    = TAIL_15 (W (Proc.devRef .tc main_v88_2)) := by
  simp only [hostOps1, StableHlo.after_cons, StableHlo.after_nil]
  after_results_simp
  rfl

/-- Array 15 of the new second moments after the call is the reference's. -/
theorem final_v_15 (c : Dev nD) : Pipeline.afterTail₀ cfgs (dats m) 0 (V0 m) [hostOps1] c main_v191
    = VEL Cert.Reference26Ideal.Gen.bcast_S_S2x32 (m ((c : Thread nD τ).loc main_arg32)) (m ((c : Thread nD τ).loc main_arg66)) := by
  refine (tail_v_15 _).trans ?_
  rw [after_v]
  exact unpack_v _ (T := TAIL_15) read_15 (pack_15 _ _ _ _ _ _ _ _ _ _ _ _ _ _ _ _ _) (pack_15 _ _ _ _ _ _ _ _ _ _ _ _ _ _ _ _ _)

/-- The host's last steps for array 16, run on any contents. -/
theorem tail_v_16 (W : Valuation τ sig (Elt Ideal)) : StableHlo.after hostOps1 W (Proc.devRef .tc main_v193)
    = TAIL_16 (W (Proc.devRef .tc main_v88_2)) := by
  simp only [hostOps1, StableHlo.after_cons, StableHlo.after_nil]
  after_results_simp
  rfl

/-- Array 16 of the new second moments after the call is the reference's. -/
theorem final_v_16 (c : Dev nD) : Pipeline.afterTail₀ cfgs (dats m) 0 (V0 m) [hostOps1] c main_v193
    = VEL Cert.Reference26Ideal.Gen.bcast_S_S4x2048 (m ((c : Thread nD τ).loc main_arg33)) (m ((c : Thread nD τ).loc main_arg67)) := by
  refine (tail_v_16 _).trans ?_
  rw [after_v]
  exact unpack_v _ (T := TAIL_16) read_16 (pack_16 _ _ _ _ _ _ _ _ _ _ _ _ _ _ _ _ _) (pack_16 _ _ _ _ _ _ _ _ _ _ _ _ _ _ _ _ _)

end Cert.Kernel26Ideal.Value

end
-- ==== Proof.AdamSmallRun.lean ====
/- The optimiser's step of the small weights (`Kernel26`): the call runs, ends with the reference's terms of its arguments and leaves the arguments unchanged. -/
module

public import proofs.«01_k».proof.Proof.AdamSmallDelta
public import proofs.«01_k».proof.Proof.AdamSmallFirst
public import proofs.«01_k».proof.Proof.AdamSmallSecond
public import Idealize.ShloMosaic.Lib.Claim

@[expose] public section

set_option maxRecDepth 65536

noncomputable section

open Idealize.ShloMosaic Idealize.SL.Sem

namespace Cert.Kernel26Ideal.Value

open Cert.Kernel26Ideal.Gen

/-- The call ends with the reference's change of every weight, new first moment and new second moment. -/
theorem run_values (m : (ℓ : Loc nD τ sig) → Buf (Elt Ideal) ℓ) (g : Dev nD → PrngReg) :
      θ_run (defs (F := Ideal)) (onTc (τ := τ) (main (F := Ideal))) ⟨m, fun _ => 0, g⟩ (fun r => ∀ c : Dev nD,
          r.2.mem ((c.tc : Thread nD τ).loc main_v91) = DELTA Cert.Reference26Ideal.Gen.bcast_S_S2x2048 (m ((c.tc : Thread nD τ).loc main_arg0)) (m ((c.tc : Thread nD τ).loc main_arg17)) (m ((c.tc : Thread nD τ).loc main_arg34)) (m ((c.tc : Thread nD τ).loc main_arg51))
          ∧ r.2.mem ((c.tc : Thread nD τ).loc main_v93) = DELTA Cert.Reference26Ideal.Gen.bcast_S_S2x64x64 (m ((c.tc : Thread nD τ).loc main_arg1)) (m ((c.tc : Thread nD τ).loc main_arg18)) (m ((c.tc : Thread nD τ).loc main_arg35)) (m ((c.tc : Thread nD τ).loc main_arg52))
          ∧ r.2.mem ((c.tc : Thread nD τ).loc main_v95) = DELTA Cert.Reference26Ideal.Gen.bcast_S_S2x64x64 (m ((c.tc : Thread nD τ).loc main_arg2)) (m ((c.tc : Thread nD τ).loc main_arg19)) (m ((c.tc : Thread nD τ).loc main_arg36)) (m ((c.tc : Thread nD τ).loc main_arg53))
          ∧ r.2.mem ((c.tc : Thread nD τ).loc main_v97) = DELTA Cert.Reference26Ideal.Gen.bcast_S_S2x64 (m ((c.tc : Thread nD τ).loc main_arg3)) (m ((c.tc : Thread nD τ).loc main_arg20)) (m ((c.tc : Thread nD τ).loc main_arg37)) (m ((c.tc : Thread nD τ).loc main_arg54))
          ∧ r.2.mem ((c.tc : Thread nD τ).loc main_v99) = DELTA Cert.Reference26Ideal.Gen.bcast_S_S2x64x64x16 (m ((c.tc : Thread nD τ).loc main_arg4)) (m ((c.tc : Thread nD τ).loc main_arg21)) (m ((c.tc : Thread nD τ).loc main_arg38)) (m ((c.tc : Thread nD τ).loc main_arg55))
          ∧ r.2.mem ((c.tc : Thread nD τ).loc main_v101) = DELTA Cert.Reference26Ideal.Gen.bcast_S_S2x64x64x16 (m ((c.tc : Thread nD τ).loc main_arg5)) (m ((c.tc : Thread nD τ).loc main_arg22)) (m ((c.tc : Thread nD τ).loc main_arg39)) (m ((c.tc : Thread nD τ).loc main_arg56))
          ∧ r.2.mem ((c.tc : Thread nD τ).loc main_v103) = DELTA Cert.Reference26Ideal.Gen.bcast_S_S2x64x16x64 (m ((c.tc : Thread nD τ).loc main_arg6)) (m ((c.tc : Thread nD τ).loc main_arg23)) (m ((c.tc : Thread nD τ).loc main_arg40)) (m ((c.tc : Thread nD τ).loc main_arg57))
          ∧ r.2.mem ((c.tc : Thread nD τ).loc main_v105) = DELTA Cert.Reference26Ideal.Gen.bcast_S_S2x64x16x64 (m ((c.tc : Thread nD τ).loc main_arg7)) (m ((c.tc : Thread nD τ).loc main_arg24)) (m ((c.tc : Thread nD τ).loc main_arg41)) (m ((c.tc : Thread nD τ).loc main_arg58))
          ∧ r.2.mem ((c.tc : Thread nD τ).loc main_v107) = DELTA Cert.Reference26Ideal.Gen.bcast_S_S2x64x16 (m ((c.tc : Thread nD τ).loc main_arg8)) (m ((c.tc : Thread nD τ).loc main_arg25)) (m ((c.tc : Thread nD τ).loc main_arg42)) (m ((c.tc : Thread nD τ).loc main_arg59))
          ∧ r.2.mem ((c.tc : Thread nD τ).loc main_v109) = DELTA Cert.Reference26Ideal.Gen.bcast_S_S2x1024 (m ((c.tc : Thread nD τ).loc main_arg9)) (m ((c.tc : Thread nD τ).loc main_arg26)) (m ((c.tc : Thread nD τ).loc main_arg43)) (m ((c.tc : Thread nD τ).loc main_arg60))
          ∧ r.2.mem ((c.tc : Thread nD τ).loc main_v111) = DELTA Cert.Reference26Ideal.Gen.bcast_S_S2x1024 (m ((c.tc : Thread nD τ).loc main_arg10)) (m ((c.tc : Thread nD τ).loc main_arg27)) (m ((c.tc : Thread nD τ).loc main_arg44)) (m ((c.tc : Thread nD τ).loc main_arg61))
          ∧ r.2.mem ((c.tc : Thread nD τ).loc main_v113) = DELTA Cert.Reference26Ideal.Gen.bcast_S_S2x128 (m ((c.tc : Thread nD τ).loc main_arg11)) (m ((c.tc : Thread nD τ).loc main_arg28)) (m ((c.tc : Thread nD τ).loc main_arg45)) (m ((c.tc : Thread nD τ).loc main_arg62))
          ∧ r.2.mem ((c.tc : Thread nD τ).loc main_v115) = DELTA Cert.Reference26Ideal.Gen.bcast_S_S2x256 (m ((c.tc : Thread nD τ).loc main_arg12)) (m ((c.tc : Thread nD τ).loc main_arg29)) (m ((c.tc : Thread nD τ).loc main_arg46)) (m ((c.tc : Thread nD τ).loc main_arg63))
          ∧ r.2.mem ((c.tc : Thread nD τ).loc main_v117) = DELTA Cert.Reference26Ideal.Gen.bcast_S_S2x64 (m ((c.tc : Thread nD τ).loc main_arg13)) (m ((c.tc : Thread nD τ).loc main_arg30)) (m ((c.tc : Thread nD τ).loc main_arg47)) (m ((c.tc : Thread nD τ).loc main_arg64))
          ∧ r.2.mem ((c.tc : Thread nD τ).loc main_v119) = DELTA Cert.Reference26Ideal.Gen.bcast_S_S2x64 (m ((c.tc : Thread nD τ).loc main_arg14)) (m ((c.tc : Thread nD τ).loc main_arg31)) (m ((c.tc : Thread nD τ).loc main_arg48)) (m ((c.tc : Thread nD τ).loc main_arg65))
          ∧ r.2.mem ((c.tc : Thread nD τ).loc main_v121) = DELTA Cert.Reference26Ideal.Gen.bcast_S_S2x32 (m ((c.tc : Thread nD τ).loc main_arg15)) (m ((c.tc : Thread nD τ).loc main_arg32)) (m ((c.tc : Thread nD τ).loc main_arg49)) (m ((c.tc : Thread nD τ).loc main_arg66))
          ∧ r.2.mem ((c.tc : Thread nD τ).loc main_v123) = DELTA Cert.Reference26Ideal.Gen.bcast_S_S4x2048 (m ((c.tc : Thread nD τ).loc main_arg16)) (m ((c.tc : Thread nD τ).loc main_arg33)) (m ((c.tc : Thread nD τ).loc main_arg50)) (m ((c.tc : Thread nD τ).loc main_arg67))
          ∧ r.2.mem ((c.tc : Thread nD τ).loc main_v126) = MOM Cert.Reference26Ideal.Gen.bcast_S_S2x2048 (m ((c.tc : Thread nD τ).loc main_arg17)) (m ((c.tc : Thread nD τ).loc main_arg34))
          ∧ r.2.mem ((c.tc : Thread nD τ).loc main_v128) = MOM Cert.Reference26Ideal.Gen.bcast_S_S2x64x64 (m ((c.tc : Thread nD τ).loc main_arg18)) (m ((c.tc : Thread nD τ).loc main_arg35))
          ∧ r.2.mem ((c.tc : Thread nD τ).loc main_v130) = MOM Cert.Reference26Ideal.Gen.bcast_S_S2x64x64 (m ((c.tc : Thread nD τ).loc main_arg19)) (m ((c.tc : Thread nD τ).loc main_arg36))
          ∧ r.2.mem ((c.tc : Thread nD τ).loc main_v132) = MOM Cert.Reference26Ideal.Gen.bcast_S_S2x64 (m ((c.tc : Thread nD τ).loc main_arg20)) (m ((c.tc : Thread nD τ).loc main_arg37))
          ∧ r.2.mem ((c.tc : Thread nD τ).loc main_v134) = MOM Cert.Reference26Ideal.Gen.bcast_S_S2x64x64x16 (m ((c.tc : Thread nD τ).loc main_arg21)) (m ((c.tc : Thread nD τ).loc main_arg38))
          ∧ r.2.mem ((c.tc : Thread nD τ).loc main_v136) = MOM Cert.Reference26Ideal.Gen.bcast_S_S2x64x64x16 (m ((c.tc : Thread nD τ).loc main_arg22)) (m ((c.tc : Thread nD τ).loc main_arg39))
          ∧ r.2.mem ((c.tc : Thread nD τ).loc main_v138) = MOM Cert.Reference26Ideal.Gen.bcast_S_S2x64x16x64 (m ((c.tc : Thread nD τ).loc main_arg23)) (m ((c.tc : Thread nD τ).loc main_arg40))
          ∧ r.2.mem ((c.tc : Thread nD τ).loc main_v140) = MOM Cert.Reference26Ideal.Gen.bcast_S_S2x64x16x64 (m ((c.tc : Thread nD τ).loc main_arg24)) (m ((c.tc : Thread nD τ).loc main_arg41))
          ∧ r.2.mem ((c.tc : Thread nD τ).loc main_v142) = MOM Cert.Reference26Ideal.Gen.bcast_S_S2x64x16 (m ((c.tc : Thread nD τ).loc main_arg25)) (m ((c.tc : Thread nD τ).loc main_arg42))
          ∧ r.2.mem ((c.tc : Thread nD τ).loc main_v144) = MOM Cert.Reference26Ideal.Gen.bcast_S_S2x1024 (m ((c.tc : Thread nD τ).loc main_arg26)) (m ((c.tc : Thread nD τ).loc main_arg43))
          ∧ r.2.mem ((c.tc : Thread nD τ).loc main_v146) = MOM Cert.Reference26Ideal.Gen.bcast_S_S2x1024 (m ((c.tc : Thread nD τ).loc main_arg27)) (m ((c.tc : Thread nD τ).loc main_arg44))
          ∧ r.2.mem ((c.tc : Thread nD τ).loc main_v148) = MOM Cert.Reference26Ideal.Gen.bcast_S_S2x128 (m ((c.tc : Thread nD τ).loc main_arg28)) (m ((c.tc : Thread nD τ).loc main_arg45))
          ∧ r.2.mem ((c.tc : Thread nD τ).loc main_v150) = MOM Cert.Reference26Ideal.Gen.bcast_S_S2x256 (m ((c.tc : Thread nD τ).loc main_arg29)) (m ((c.tc : Thread nD τ).loc main_arg46))
          ∧ r.2.mem ((c.tc : Thread nD τ).loc main_v152) = MOM Cert.Reference26Ideal.Gen.bcast_S_S2x64 (m ((c.tc : Thread nD τ).loc main_arg30)) (m ((c.tc : Thread nD τ).loc main_arg47))
          ∧ r.2.mem ((c.tc : Thread nD τ).loc main_v154) = MOM Cert.Reference26Ideal.Gen.bcast_S_S2x64 (m ((c.tc : Thread nD τ).loc main_arg31)) (m ((c.tc : Thread nD τ).loc main_arg48))
          ∧ r.2.mem ((c.tc : Thread nD τ).loc main_v156) = MOM Cert.Reference26Ideal.Gen.bcast_S_S2x32 (m ((c.tc : Thread nD τ).loc main_arg32)) (m ((c.tc : Thread nD τ).loc main_arg49))
          ∧ r.2.mem ((c.tc : Thread nD τ).loc main_v158) = MOM Cert.Reference26Ideal.Gen.bcast_S_S4x2048 (m ((c.tc : Thread nD τ).loc main_arg33)) (m ((c.tc : Thread nD τ).loc main_arg50))
          ∧ r.2.mem ((c.tc : Thread nD τ).loc main_v161) = VEL Cert.Reference26Ideal.Gen.bcast_S_S2x2048 (m ((c.tc : Thread nD τ).loc main_arg17)) (m ((c.tc : Thread nD τ).loc main_arg51))
          ∧ r.2.mem ((c.tc : Thread nD τ).loc main_v163) = VEL Cert.Reference26Ideal.Gen.bcast_S_S2x64x64 (m ((c.tc : Thread nD τ).loc main_arg18)) (m ((c.tc : Thread nD τ).loc main_arg52))
          ∧ r.2.mem ((c.tc : Thread nD τ).loc main_v165) = VEL Cert.Reference26Ideal.Gen.bcast_S_S2x64x64 (m ((c.tc : Thread nD τ).loc main_arg19)) (m ((c.tc : Thread nD τ).loc main_arg53))
          ∧ r.2.mem ((c.tc : Thread nD τ).loc main_v167) = VEL Cert.Reference26Ideal.Gen.bcast_S_S2x64 (m ((c.tc : Thread nD τ).loc main_arg20)) (m ((c.tc : Thread nD τ).loc main_arg54))
          ∧ r.2.mem ((c.tc : Thread nD τ).loc main_v169) = VEL Cert.Reference26Ideal.Gen.bcast_S_S2x64x64x16 (m ((c.tc : Thread nD τ).loc main_arg21)) (m ((c.tc : Thread nD τ).loc main_arg55))
          ∧ r.2.mem ((c.tc : Thread nD τ).loc main_v171) = VEL Cert.Reference26Ideal.Gen.bcast_S_S2x64x64x16 (m ((c.tc : Thread nD τ).loc main_arg22)) (m ((c.tc : Thread nD τ).loc main_arg56))
          ∧ r.2.mem ((c.tc : Thread nD τ).loc main_v173) = VEL Cert.Reference26Ideal.Gen.bcast_S_S2x64x16x64 (m ((c.tc : Thread nD τ).loc main_arg23)) (m ((c.tc : Thread nD τ).loc main_arg57))
          ∧ r.2.mem ((c.tc : Thread nD τ).loc main_v175) = VEL Cert.Reference26Ideal.Gen.bcast_S_S2x64x16x64 (m ((c.tc : Thread nD τ).loc main_arg24)) (m ((c.tc : Thread nD τ).loc main_arg58))
          ∧ r.2.mem ((c.tc : Thread nD τ).loc main_v177) = VEL Cert.Reference26Ideal.Gen.bcast_S_S2x64x16 (m ((c.tc : Thread nD τ).loc main_arg25)) (m ((c.tc : Thread nD τ).loc main_arg59))
          ∧ r.2.mem ((c.tc : Thread nD τ).loc main_v179) = VEL Cert.Reference26Ideal.Gen.bcast_S_S2x1024 (m ((c.tc : Thread nD τ).loc main_arg26)) (m ((c.tc : Thread nD τ).loc main_arg60))
          ∧ r.2.mem ((c.tc : Thread nD τ).loc main_v181) = VEL Cert.Reference26Ideal.Gen.bcast_S_S2x1024 (m ((c.tc : Thread nD τ).loc main_arg27)) (m ((c.tc : Thread nD τ).loc main_arg61))
          ∧ r.2.mem ((c.tc : Thread nD τ).loc main_v183) = VEL Cert.Reference26Ideal.Gen.bcast_S_S2x128 (m ((c.tc : Thread nD τ).loc main_arg28)) (m ((c.tc : Thread nD τ).loc main_arg62))
          ∧ r.2.mem ((c.tc : Thread nD τ).loc main_v185) = VEL Cert.Reference26Ideal.Gen.bcast_S_S2x256 (m ((c.tc : Thread nD τ).loc main_arg29)) (m ((c.tc : Thread nD τ).loc main_arg63))
          ∧ r.2.mem ((c.tc : Thread nD τ).loc main_v187) = VEL Cert.Reference26Ideal.Gen.bcast_S_S2x64 (m ((c.tc : Thread nD τ).loc main_arg30)) (m ((c.tc : Thread nD τ).loc main_arg64))
          ∧ r.2.mem ((c.tc : Thread nD τ).loc main_v189) = VEL Cert.Reference26Ideal.Gen.bcast_S_S2x64 (m ((c.tc : Thread nD τ).loc main_arg31)) (m ((c.tc : Thread nD τ).loc main_arg65))
          ∧ r.2.mem ((c.tc : Thread nD τ).loc main_v191) = VEL Cert.Reference26Ideal.Gen.bcast_S_S2x32 (m ((c.tc : Thread nD τ).loc main_arg32)) (m ((c.tc : Thread nD τ).loc main_arg66))
          ∧ r.2.mem ((c.tc : Thread nD τ).loc main_v193) = VEL Cert.Reference26Ideal.Gen.bcast_S_S4x2048 (m ((c.tc : Thread nD τ).loc main_arg33)) (m ((c.tc : Thread nD τ).loc main_arg67))
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6)
          ∧ r.2.mem ((c.tc : Thread nD τ).loc main_arg7) = m ((c.tc : Thread nD τ).loc main_arg7)
          ∧ r.2.mem ((c.tc : Thread nD τ).loc main_arg8) = m ((c.tc : Thread nD τ).loc main_arg8)
          ∧ r.2.mem ((c.tc : Thread nD τ).loc main_arg9) = m ((c.tc : Thread nD τ).loc main_arg9)
          ∧ r.2.mem ((c.tc : Thread nD τ).loc main_arg10) = m ((c.tc : Thread nD τ).loc main_arg10)
          ∧ r.2.mem ((c.tc : Thread nD τ).loc main_arg11) = m ((c.tc : Thread nD τ).loc main_arg11)
          ∧ r.2.mem ((c.tc : Thread nD τ).loc main_arg12) = m ((c.tc : Thread nD τ).loc main_arg12)
          ∧ r.2.mem ((c.tc : Thread nD τ).loc main_arg13) = m ((c.tc : Thread nD τ).loc main_arg13)
          ∧ r.2.mem ((c.tc : Thread nD τ).loc main_arg14) = m ((c.tc : Thread nD τ).loc main_arg14)
          ∧ r.2.mem ((c.tc : Thread nD τ).loc main_arg15) = m ((c.tc : Thread nD τ).loc main_arg15)
          ∧ r.2.mem ((c.tc : Thread nD τ).loc main_arg16) = m ((c.tc : Thread nD τ).loc main_arg16)
          ∧ r.2.mem ((c.tc : Thread nD τ).loc main_arg17) = m ((c.tc : Thread nD τ).loc main_arg17)
          ∧ r.2.mem ((c.tc : Thread nD τ).loc main_arg18) = m ((c.tc : Thread nD τ).loc main_arg18)
          ∧ r.2.mem ((c.tc : Thread nD τ).loc main_arg19) = m ((c.tc : Thread nD τ).loc main_arg19)
          ∧ r.2.mem ((c.tc : Thread nD τ).loc main_arg20) = m ((c.tc : Thread nD τ).loc main_arg20)
          ∧ r.2.mem ((c.tc : Thread nD τ).loc main_arg21) = m ((c.tc : Thread nD τ).loc main_arg21)
          ∧ r.2.mem ((c.tc : Thread nD τ).loc main_arg22) = m ((c.tc : Thread nD τ).loc main_arg22)
          ∧ r.2.mem ((c.tc : Thread nD τ).loc main_arg23) = m ((c.tc : Thread nD τ).loc main_arg23)
          ∧ r.2.mem ((c.tc : Thread nD τ).loc main_arg24) = m ((c.tc : Thread nD τ).loc main_arg24)
          ∧ r.2.mem ((c.tc : Thread nD τ).loc main_arg25) = m ((c.tc : Thread nD τ).loc main_arg25)
          ∧ r.2.mem ((c.tc : Thread nD τ).loc main_arg26) = m ((c.tc : Thread nD τ).loc main_arg26)
          ∧ r.2.mem ((c.tc : Thread nD τ).loc main_arg27) = m ((c.tc : Thread nD τ).loc main_arg27)
          ∧ r.2.mem ((c.tc : Thread nD τ).loc main_arg28) = m ((c.tc : Thread nD τ).loc main_arg28)
          ∧ r.2.mem ((c.tc : Thread nD τ).loc main_arg29) = m ((c.tc : Thread nD τ).loc main_arg29)
          ∧ r.2.mem ((c.tc : Thread nD τ).loc main_arg30) = m ((c.tc : Thread nD τ).loc main_arg30)
          ∧ r.2.mem ((c.tc : Thread nD τ).loc main_arg31) = m ((c.tc : Thread nD τ).loc main_arg31)
          ∧ r.2.mem ((c.tc : Thread nD τ).loc main_arg32) = m ((c.tc : Thread nD τ).loc main_arg32)
          ∧ r.2.mem ((c.tc : Thread nD τ).loc main_arg33) = m ((c.tc : Thread nD τ).loc main_arg33)
          ∧ r.2.mem ((c.tc : Thread nD τ).loc main_arg34) = m ((c.tc : Thread nD τ).loc main_arg34)
          ∧ r.2.mem ((c.tc : Thread nD τ).loc main_arg35) = m ((c.tc : Thread nD τ).loc main_arg35)
          ∧ r.2.mem ((c.tc : Thread nD τ).loc main_arg36) = m ((c.tc : Thread nD τ).loc main_arg36)
          ∧ r.2.mem ((c.tc : Thread nD τ).loc main_arg37) = m ((c.tc : Thread nD τ).loc main_arg37)
          ∧ r.2.mem ((c.tc : Thread nD τ).loc main_arg38) = m ((c.tc : Thread nD τ).loc main_arg38)
          ∧ r.2.mem ((c.tc : Thread nD τ).loc main_arg39) = m ((c.tc : Thread nD τ).loc main_arg39)
          ∧ r.2.mem ((c.tc : Thread nD τ).loc main_arg40) = m ((c.tc : Thread nD τ).loc main_arg40)
          ∧ r.2.mem ((c.tc : Thread nD τ).loc main_arg41) = m ((c.tc : Thread nD τ).loc main_arg41)
          ∧ r.2.mem ((c.tc : Thread nD τ).loc main_arg42) = m ((c.tc : Thread nD τ).loc main_arg42)
          ∧ r.2.mem ((c.tc : Thread nD τ).loc main_arg43) = m ((c.tc : Thread nD τ).loc main_arg43)
          ∧ r.2.mem ((c.tc : Thread nD τ).loc main_arg44) = m ((c.tc : Thread nD τ).loc main_arg44)
          ∧ r.2.mem ((c.tc : Thread nD τ).loc main_arg45) = m ((c.tc : Thread nD τ).loc main_arg45)
          ∧ r.2.mem ((c.tc : Thread nD τ).loc main_arg46) = m ((c.tc : Thread nD τ).loc main_arg46)
          ∧ r.2.mem ((c.tc : Thread nD τ).loc main_arg47) = m ((c.tc : Thread nD τ).loc main_arg47)
          ∧ r.2.mem ((c.tc : Thread nD τ).loc main_arg48) = m ((c.tc : Thread nD τ).loc main_arg48)
          ∧ r.2.mem ((c.tc : Thread nD τ).loc main_arg49) = m ((c.tc : Thread nD τ).loc main_arg49)
          ∧ r.2.mem ((c.tc : Thread nD τ).loc main_arg50) = m ((c.tc : Thread nD τ).loc main_arg50)
          ∧ r.2.mem ((c.tc : Thread nD τ).loc main_arg51) = m ((c.tc : Thread nD τ).loc main_arg51)
          ∧ r.2.mem ((c.tc : Thread nD τ).loc main_arg52) = m ((c.tc : Thread nD τ).loc main_arg52)
          ∧ r.2.mem ((c.tc : Thread nD τ).loc main_arg53) = m ((c.tc : Thread nD τ).loc main_arg53)
          ∧ r.2.mem ((c.tc : Thread nD τ).loc main_arg54) = m ((c.tc : Thread nD τ).loc main_arg54)
          ∧ r.2.mem ((c.tc : Thread nD τ).loc main_arg55) = m ((c.tc : Thread nD τ).loc main_arg55)
          ∧ r.2.mem ((c.tc : Thread nD τ).loc main_arg56) = m ((c.tc : Thread nD τ).loc main_arg56)
          ∧ r.2.mem ((c.tc : Thread nD τ).loc main_arg57) = m ((c.tc : Thread nD τ).loc main_arg57)
          ∧ r.2.mem ((c.tc : Thread nD τ).loc main_arg58) = m ((c.tc : Thread nD τ).loc main_arg58)
          ∧ r.2.mem ((c.tc : Thread nD τ).loc main_arg59) = m ((c.tc : Thread nD τ).loc main_arg59)
          ∧ r.2.mem ((c.tc : Thread nD τ).loc main_arg60) = m ((c.tc : Thread nD τ).loc main_arg60)
          ∧ r.2.mem ((c.tc : Thread nD τ).loc main_arg61) = m ((c.tc : Thread nD τ).loc main_arg61)
          ∧ r.2.mem ((c.tc : Thread nD τ).loc main_arg62) = m ((c.tc : Thread nD τ).loc main_arg62)
          ∧ r.2.mem ((c.tc : Thread nD τ).loc main_arg63) = m ((c.tc : Thread nD τ).loc main_arg63)
          ∧ r.2.mem ((c.tc : Thread nD τ).loc main_arg64) = m ((c.tc : Thread nD τ).loc main_arg64)
          ∧ r.2.mem ((c.tc : Thread nD τ).loc main_arg65) = m ((c.tc : Thread nD τ).loc main_arg65)
          ∧ r.2.mem ((c.tc : Thread nD τ).loc main_arg66) = m ((c.tc : Thread nD τ).loc main_arg66)
          ∧ r.2.mem ((c.tc : Thread nD τ).loc main_arg67) = m ((c.tc : Thread nD τ).loc main_arg67)) := by
  refine Idealize.ShloMosaic.θ_run_mono (run_main m g) ?_
  intro r hr c
  have e := fun b hb hb' => (hr c).2 b (Pipeline.mem_restRefs_of b hb hb')
  exact ⟨(e main_v91 (by decide) (by decide)).trans (final_delta_0 m c),
    (e main_v93 (by decide) (by decide)).trans (final_delta_1 m c),
    (e main_v95 (by decide) (by decide)).trans (final_delta_2 m c),
    (e main_v97 (by decide) (by decide)).trans (final_delta_3 m c),
    (e main_v99 (by decide) (by decide)).trans (final_delta_4 m c),
    (e main_v101 (by decide) (by decide)).trans (final_delta_5 m c),
    (e main_v103 (by decide) (by decide)).trans (final_delta_6 m c),
    (e main_v105 (by decide) (by decide)).trans (final_delta_7 m c),
    (e main_v107 (by decide) (by decide)).trans (final_delta_8 m c),
    (e main_v109 (by decide) (by decide)).trans (final_delta_9 m c),
    (e main_v111 (by decide) (by decide)).trans (final_delta_10 m c),
    (e main_v113 (by decide) (by decide)).trans (final_delta_11 m c),
    (e main_v115 (by decide) (by decide)).trans (final_delta_12 m c),
    (e main_v117 (by decide) (by decide)).trans (final_delta_13 m c),
    (e main_v119 (by decide) (by decide)).trans (final_delta_14 m c),
    (e main_v121 (by decide) (by decide)).trans (final_delta_15 m c),
    (e main_v123 (by decide) (by decide)).trans (final_delta_16 m c),
    (e main_v126 (by decide) (by decide)).trans (final_m_0 m c),
    (e main_v128 (by decide) (by decide)).trans (final_m_1 m c),
    (e main_v130 (by decide) (by decide)).trans (final_m_2 m c),
    (e main_v132 (by decide) (by decide)).trans (final_m_3 m c),
    (e main_v134 (by decide) (by decide)).trans (final_m_4 m c),
    (e main_v136 (by decide) (by decide)).trans (final_m_5 m c),
    (e main_v138 (by decide) (by decide)).trans (final_m_6 m c),
    (e main_v140 (by decide) (by decide)).trans (final_m_7 m c),
    (e main_v142 (by decide) (by decide)).trans (final_m_8 m c),
    (e main_v144 (by decide) (by decide)).trans (final_m_9 m c),
    (e main_v146 (by decide) (by decide)).trans (final_m_10 m c),
    (e main_v148 (by decide) (by decide)).trans (final_m_11 m c),
    (e main_v150 (by decide) (by decide)).trans (final_m_12 m c),
    (e main_v152 (by decide) (by decide)).trans (final_m_13 m c),
    (e main_v154 (by decide) (by decide)).trans (final_m_14 m c),
    (e main_v156 (by decide) (by decide)).trans (final_m_15 m c),
    (e main_v158 (by decide) (by decide)).trans (final_m_16 m c),
    (e main_v161 (by decide) (by decide)).trans (final_v_0 m c),
    (e main_v163 (by decide) (by decide)).trans (final_v_1 m c),
    (e main_v165 (by decide) (by decide)).trans (final_v_2 m c),
    (e main_v167 (by decide) (by decide)).trans (final_v_3 m c),
    (e main_v169 (by decide) (by decide)).trans (final_v_4 m c),
    (e main_v171 (by decide) (by decide)).trans (final_v_5 m c),
    (e main_v173 (by decide) (by decide)).trans (final_v_6 m c),
    (e main_v175 (by decide) (by decide)).trans (final_v_7 m c),
    (e main_v177 (by decide) (by decide)).trans (final_v_8 m c),
    (e main_v179 (by decide) (by decide)).trans (final_v_9 m c),
    (e main_v181 (by decide) (by decide)).trans (final_v_10 m c),
    (e main_v183 (by decide) (by decide)).trans (final_v_11 m c),
    (e main_v185 (by decide) (by decide)).trans (final_v_12 m c),
    (e main_v187 (by decide) (by decide)).trans (final_v_13 m c),
    (e main_v189 (by decide) (by decide)).trans (final_v_14 m c),
    (e main_v191 (by decide) (by decide)).trans (final_v_15 m c),
    (e main_v193 (by decide) (by decide)).trans (final_v_16 m c),
    (e main_arg0 (by decide) (by decide)).trans (W_main_arg0 m _ c),
    (e main_arg1 (by decide) (by decide)).trans (W_main_arg1 m _ c),
    (e main_arg2 (by decide) (by decide)).trans (W_main_arg2 m _ c),
    (e main_arg3 (by decide) (by decide)).trans (W_main_arg3 m _ c),
    (e main_arg4 (by decide) (by decide)).trans (W_main_arg4 m _ c),
    (e main_arg5 (by decide) (by decide)).trans (W_main_arg5 m _ c),
    (e main_arg6 (by decide) (by decide)).trans (W_main_arg6 m _ c),
    (e main_arg7 (by decide) (by decide)).trans (W_main_arg7 m _ c),
    (e main_arg8 (by decide) (by decide)).trans (W_main_arg8 m _ c),
    (e main_arg9 (by decide) (by decide)).trans (W_main_arg9 m _ c),
    (e main_arg10 (by decide) (by decide)).trans (W_main_arg10 m _ c),
    (e main_arg11 (by decide) (by decide)).trans (W_main_arg11 m _ c),
    (e main_arg12 (by decide) (by decide)).trans (W_main_arg12 m _ c),
    (e main_arg13 (by decide) (by decide)).trans (W_main_arg13 m _ c),
    (e main_arg14 (by decide) (by decide)).trans (W_main_arg14 m _ c),
    (e main_arg15 (by decide) (by decide)).trans (W_main_arg15 m _ c),
    (e main_arg16 (by decide) (by decide)).trans (W_main_arg16 m _ c),
    (e main_arg17 (by decide) (by decide)).trans (W_main_arg17 m _ c),
    (e main_arg18 (by decide) (by decide)).trans (W_main_arg18 m _ c),
    (e main_arg19 (by decide) (by decide)).trans (W_main_arg19 m _ c),
    (e main_arg20 (by decide) (by decide)).trans (W_main_arg20 m _ c),
    (e main_arg21 (by decide) (by decide)).trans (W_main_arg21 m _ c),
    (e main_arg22 (by decide) (by decide)).trans (W_main_arg22 m _ c),
    (e main_arg23 (by decide) (by decide)).trans (W_main_arg23 m _ c),
    (e main_arg24 (by decide) (by decide)).trans (W_main_arg24 m _ c),
    (e main_arg25 (by decide) (by decide)).trans (W_main_arg25 m _ c),
    (e main_arg26 (by decide) (by decide)).trans (W_main_arg26 m _ c),
    (e main_arg27 (by decide) (by decide)).trans (W_main_arg27 m _ c),
    (e main_arg28 (by decide) (by decide)).trans (W_main_arg28 m _ c),
    (e main_arg29 (by decide) (by decide)).trans (W_main_arg29 m _ c),
    (e main_arg30 (by decide) (by decide)).trans (W_main_arg30 m _ c),
    (e main_arg31 (by decide) (by decide)).trans (W_main_arg31 m _ c),
    (e main_arg32 (by decide) (by decide)).trans (W_main_arg32 m _ c),
    (e main_arg33 (by decide) (by decide)).trans (W_main_arg33 m _ c),
    (e main_arg34 (by decide) (by decide)).trans (W_main_arg34 m _ c),
    (e main_arg35 (by decide) (by decide)).trans (W_main_arg35 m _ c),
    (e main_arg36 (by decide) (by decide)).trans (W_main_arg36 m _ c),
    (e main_arg37 (by decide) (by decide)).trans (W_main_arg37 m _ c),
    (e main_arg38 (by decide) (by decide)).trans (W_main_arg38 m _ c),
    (e main_arg39 (by decide) (by decide)).trans (W_main_arg39 m _ c),
    (e main_arg40 (by decide) (by decide)).trans (W_main_arg40 m _ c),
    (e main_arg41 (by decide) (by decide)).trans (W_main_arg41 m _ c),
    (e main_arg42 (by decide) (by decide)).trans (W_main_arg42 m _ c),
    (e main_arg43 (by decide) (by decide)).trans (W_main_arg43 m _ c),
    (e main_arg44 (by decide) (by decide)).trans (W_main_arg44 m _ c),
    (e main_arg45 (by decide) (by decide)).trans (W_main_arg45 m _ c),
    (e main_arg46 (by decide) (by decide)).trans (W_main_arg46 m _ c),
    (e main_arg47 (by decide) (by decide)).trans (W_main_arg47 m _ c),
    (e main_arg48 (by decide) (by decide)).trans (W_main_arg48 m _ c),
    (e main_arg49 (by decide) (by decide)).trans (W_main_arg49 m _ c),
    (e main_arg50 (by decide) (by decide)).trans (W_main_arg50 m _ c),
    (e main_arg51 (by decide) (by decide)).trans (W_main_arg51 m _ c),
    (e main_arg52 (by decide) (by decide)).trans (W_main_arg52 m _ c),
    (e main_arg53 (by decide) (by decide)).trans (W_main_arg53 m _ c),
    (e main_arg54 (by decide) (by decide)).trans (W_main_arg54 m _ c),
    (e main_arg55 (by decide) (by decide)).trans (W_main_arg55 m _ c),
    (e main_arg56 (by decide) (by decide)).trans (W_main_arg56 m _ c),
    (e main_arg57 (by decide) (by decide)).trans (W_main_arg57 m _ c),
    (e main_arg58 (by decide) (by decide)).trans (W_main_arg58 m _ c),
    (e main_arg59 (by decide) (by decide)).trans (W_main_arg59 m _ c),
    (e main_arg60 (by decide) (by decide)).trans (W_main_arg60 m _ c),
    (e main_arg61 (by decide) (by decide)).trans (W_main_arg61 m _ c),
    (e main_arg62 (by decide) (by decide)).trans (W_main_arg62 m _ c),
    (e main_arg63 (by decide) (by decide)).trans (W_main_arg63 m _ c),
    (e main_arg64 (by decide) (by decide)).trans (W_main_arg64 m _ c),
    (e main_arg65 (by decide) (by decide)).trans (W_main_arg65 m _ c),
    (e main_arg66 (by decide) (by decide)).trans (W_main_arg66 m _ c),
    (e main_arg67 (by decide) (by decide)).trans (W_main_arg67 m _ c)⟩

end Cert.Kernel26Ideal.Value

end
-- ==== Proof.AdamSmallRef.lean ====
/- The reference of the optimiser's step of the small weights: it runs, ends with the terms below of its arguments and leaves the arguments unchanged. -/
module

public import proofs.«01_k».proof.Proof.AdamSmall
public import Idealize.ShloMosaic.Lib.Claim

@[expose] public section

set_option maxRecDepth 65536

noncomputable section

open Idealize.ShloMosaic Idealize.SL.Sem

namespace Cert.Reference26Ideal.Value

open Cert.Reference26Ideal.Gen
open Cert.Kernel26Ideal.Value (DELTA MOM VEL)

set_option maxHeartbeats 2000000 in
/-- The reference ends with the change of every weight, the new first moment and the new second moment. -/
theorem ref_values (m' : (ℓ : Loc nD τ sig) → Buf (Elt Ideal) ℓ) (g' : Dev nD → PrngReg) :
      θ_run (defs (F := Ideal)) (onTc (τ := τ) (main (F := Ideal))) ⟨m', fun _ => 0, g'⟩ (fun r => ∀ c : Dev nD,
          r.2.mem ((c.tc : Thread nD τ).loc main_v23) = DELTA bcast_S_S2x2048 (m' ((c.tc : Thread nD τ).loc main_arg0)) (m' ((c.tc : Thread nD τ).loc main_arg17)) (m' ((c.tc : Thread nD τ).loc main_arg34)) (m' ((c.tc : Thread nD τ).loc main_arg51))
          ∧ r.2.mem ((c.tc : Thread nD τ).loc main_v47) = DELTA bcast_S_S2x64x64 (m' ((c.tc : Thread nD τ).loc main_arg1)) (m' ((c.tc : Thread nD τ).loc main_arg18)) (m' ((c.tc : Thread nD τ).loc main_arg35)) (m' ((c.tc : Thread nD τ).loc main_arg52))
          ∧ r.2.mem ((c.tc : Thread nD τ).loc main_v71) = DELTA bcast_S_S2x64x64 (m' ((c.tc : Thread nD τ).loc main_arg2)) (m' ((c.tc : Thread nD τ).loc main_arg19)) (m' ((c.tc : Thread nD τ).loc main_arg36)) (m' ((c.tc : Thread nD τ).loc main_arg53))
          ∧ r.2.mem ((c.tc : Thread nD τ).loc main_v95) = DELTA bcast_S_S2x64 (m' ((c.tc : Thread nD τ).loc main_arg3)) (m' ((c.tc : Thread nD τ).loc main_arg20)) (m' ((c.tc : Thread nD τ).loc main_arg37)) (m' ((c.tc : Thread nD τ).loc main_arg54))
          ∧ r.2.mem ((c.tc : Thread nD τ).loc main_v119) = DELTA bcast_S_S2x64x64x16 (m' ((c.tc : Thread nD τ).loc main_arg4)) (m' ((c.tc : Thread nD τ).loc main_arg21)) (m' ((c.tc : Thread nD τ).loc main_arg38)) (m' ((c.tc : Thread nD τ).loc main_arg55))
          ∧ r.2.mem ((c.tc : Thread nD τ).loc main_v143) = DELTA bcast_S_S2x64x64x16 (m' ((c.tc : Thread nD τ).loc main_arg5)) (m' ((c.tc : Thread nD τ).loc main_arg22)) (m' ((c.tc : Thread nD τ).loc main_arg39)) (m' ((c.tc : Thread nD τ).loc main_arg56))
          ∧ r.2.mem ((c.tc : Thread nD τ).loc main_v167) = DELTA bcast_S_S2x64x16x64 (m' ((c.tc : Thread nD τ).loc main_arg6)) (m' ((c.tc : Thread nD τ).loc main_arg23)) (m' ((c.tc : Thread nD τ).loc main_arg40)) (m' ((c.tc : Thread nD τ).loc main_arg57))
          ∧ r.2.mem ((c.tc : Thread nD τ).loc main_v191) = DELTA bcast_S_S2x64x16x64 (m' ((c.tc : Thread nD τ).loc main_arg7)) (m' ((c.tc : Thread nD τ).loc main_arg24)) (m' ((c.tc : Thread nD τ).loc main_arg41)) (m' ((c.tc : Thread nD τ).loc main_arg58))
          ∧ r.2.mem ((c.tc : Thread nD τ).loc main_v215) = DELTA bcast_S_S2x64x16 (m' ((c.tc : Thread nD τ).loc main_arg8)) (m' ((c.tc : Thread nD τ).loc main_arg25)) (m' ((c.tc : Thread nD τ).loc main_arg42)) (m' ((c.tc : Thread nD τ).loc main_arg59))
          ∧ r.2.mem ((c.tc : Thread nD τ).loc main_v239) = DELTA bcast_S_S2x1024 (m' ((c.tc : Thread nD τ).loc main_arg9)) (m' ((c.tc : Thread nD τ).loc main_arg26)) (m' ((c.tc : Thread nD τ).loc main_arg43)) (m' ((c.tc : Thread nD τ).loc main_arg60))
          ∧ r.2.mem ((c.tc : Thread nD τ).loc main_v263) = DELTA bcast_S_S2x1024 (m' ((c.tc : Thread nD τ).loc main_arg10)) (m' ((c.tc : Thread nD τ).loc main_arg27)) (m' ((c.tc : Thread nD τ).loc main_arg44)) (m' ((c.tc : Thread nD τ).loc main_arg61))
          ∧ r.2.mem ((c.tc : Thread nD τ).loc main_v287) = DELTA bcast_S_S2x128 (m' ((c.tc : Thread nD τ).loc main_arg11)) (m' ((c.tc : Thread nD τ).loc main_arg28)) (m' ((c.tc : Thread nD τ).loc main_arg45)) (m' ((c.tc : Thread nD τ).loc main_arg62))
          ∧ r.2.mem ((c.tc : Thread nD τ).loc main_v311) = DELTA bcast_S_S2x256 (m' ((c.tc : Thread nD τ).loc main_arg12)) (m' ((c.tc : Thread nD τ).loc main_arg29)) (m' ((c.tc : Thread nD τ).loc main_arg46)) (m' ((c.tc : Thread nD τ).loc main_arg63))
          ∧ r.2.mem ((c.tc : Thread nD τ).loc main_v335) = DELTA bcast_S_S2x64 (m' ((c.tc : Thread nD τ).loc main_arg13)) (m' ((c.tc : Thread nD τ).loc main_arg30)) (m' ((c.tc : Thread nD τ).loc main_arg47)) (m' ((c.tc : Thread nD τ).loc main_arg64))
          ∧ r.2.mem ((c.tc : Thread nD τ).loc main_v359) = DELTA bcast_S_S2x64 (m' ((c.tc : Thread nD τ).loc main_arg14)) (m' ((c.tc : Thread nD τ).loc main_arg31)) (m' ((c.tc : Thread nD τ).loc main_arg48)) (m' ((c.tc : Thread nD τ).loc main_arg65))
          ∧ r.2.mem ((c.tc : Thread nD τ).loc main_v383) = DELTA bcast_S_S2x32 (m' ((c.tc : Thread nD τ).loc main_arg15)) (m' ((c.tc : Thread nD τ).loc main_arg32)) (m' ((c.tc : Thread nD τ).loc main_arg49)) (m' ((c.tc : Thread nD τ).loc main_arg66))
          ∧ r.2.mem ((c.tc : Thread nD τ).loc main_v407) = DELTA bcast_S_S4x2048 (m' ((c.tc : Thread nD τ).loc main_arg16)) (m' ((c.tc : Thread nD τ).loc main_arg33)) (m' ((c.tc : Thread nD τ).loc main_arg50)) (m' ((c.tc : Thread nD τ).loc main_arg67))
          ∧ r.2.mem ((c.tc : Thread nD τ).loc main_v4) = MOM bcast_S_S2x2048 (m' ((c.tc : Thread nD τ).loc main_arg17)) (m' ((c.tc : Thread nD τ).loc main_arg34))
          ∧ r.2.mem ((c.tc : Thread nD τ).loc main_v28) = MOM bcast_S_S2x64x64 (m' ((c.tc : Thread nD τ).loc main_arg18)) (m' ((c.tc : Thread nD τ).loc main_arg35))
          ∧ r.2.mem ((c.tc : Thread nD τ).loc main_v52) = MOM bcast_S_S2x64x64 (m' ((c.tc : Thread nD τ).loc main_arg19)) (m' ((c.tc : Thread nD τ).loc main_arg36))
          ∧ r.2.mem ((c.tc : Thread nD τ).loc main_v76) = MOM bcast_S_S2x64 (m' ((c.tc : Thread nD τ).loc main_arg20)) (m' ((c.tc : Thread nD τ).loc main_arg37))
          ∧ r.2.mem ((c.tc : Thread nD τ).loc main_v100) = MOM bcast_S_S2x64x64x16 (m' ((c.tc : Thread nD τ).loc main_arg21)) (m' ((c.tc : Thread nD τ).loc main_arg38))
          ∧ r.2.mem ((c.tc : Thread nD τ).loc main_v124) = MOM bcast_S_S2x64x64x16 (m' ((c.tc : Thread nD τ).loc main_arg22)) (m' ((c.tc : Thread nD τ).loc main_arg39))
          ∧ r.2.mem ((c.tc : Thread nD τ).loc main_v148) = MOM bcast_S_S2x64x16x64 (m' ((c.tc : Thread nD τ).loc main_arg23)) (m' ((c.tc : Thread nD τ).loc main_arg40))
          ∧ r.2.mem ((c.tc : Thread nD τ).loc main_v172) = MOM bcast_S_S2x64x16x64 (m' ((c.tc : Thread nD τ).loc main_arg24)) (m' ((c.tc : Thread nD τ).loc main_arg41))
          ∧ r.2.mem ((c.tc : Thread nD τ).loc main_v196) = MOM bcast_S_S2x64x16 (m' ((c.tc : Thread nD τ).loc main_arg25)) (m' ((c.tc : Thread nD τ).loc main_arg42))
          ∧ r.2.mem ((c.tc : Thread nD τ).loc main_v220) = MOM bcast_S_S2x1024 (m' ((c.tc : Thread nD τ).loc main_arg26)) (m' ((c.tc : Thread nD τ).loc main_arg43))
          ∧ r.2.mem ((c.tc : Thread nD τ).loc main_v244) = MOM bcast_S_S2x1024 (m' ((c.tc : Thread nD τ).loc main_arg27)) (m' ((c.tc : Thread nD τ).loc main_arg44))
          ∧ r.2.mem ((c.tc : Thread nD τ).loc main_v268) = MOM bcast_S_S2x128 (m' ((c.tc : Thread nD τ).loc main_arg28)) (m' ((c.tc : Thread nD τ).loc main_arg45))
          ∧ r.2.mem ((c.tc : Thread nD τ).loc main_v292) = MOM bcast_S_S2x256 (m' ((c.tc : Thread nD τ).loc main_arg29)) (m' ((c.tc : Thread nD τ).loc main_arg46))
          ∧ r.2.mem ((c.tc : Thread nD τ).loc main_v316) = MOM bcast_S_S2x64 (m' ((c.tc : Thread nD τ).loc main_arg30)) (m' ((c.tc : Thread nD τ).loc main_arg47))
          ∧ r.2.mem ((c.tc : Thread nD τ).loc main_v340) = MOM bcast_S_S2x64 (m' ((c.tc : Thread nD τ).loc main_arg31)) (m' ((c.tc : Thread nD τ).loc main_arg48))
          ∧ r.2.mem ((c.tc : Thread nD τ).loc main_v364) = MOM bcast_S_S2x32 (m' ((c.tc : Thread nD τ).loc main_arg32)) (m' ((c.tc : Thread nD τ).loc main_arg49))
          ∧ r.2.mem ((c.tc : Thread nD τ).loc main_v388) = MOM bcast_S_S4x2048 (m' ((c.tc : Thread nD τ).loc main_arg33)) (m' ((c.tc : Thread nD τ).loc main_arg50))
          ∧ r.2.mem ((c.tc : Thread nD τ).loc main_v10) = VEL bcast_S_S2x2048 (m' ((c.tc : Thread nD τ).loc main_arg17)) (m' ((c.tc : Thread nD τ).loc main_arg51))
          ∧ r.2.mem ((c.tc : Thread nD τ).loc main_v34) = VEL bcast_S_S2x64x64 (m' ((c.tc : Thread nD τ).loc main_arg18)) (m' ((c.tc : Thread nD τ).loc main_arg52))
          ∧ r.2.mem ((c.tc : Thread nD τ).loc main_v58) = VEL bcast_S_S2x64x64 (m' ((c.tc : Thread nD τ).loc main_arg19)) (m' ((c.tc : Thread nD τ).loc main_arg53))
          ∧ r.2.mem ((c.tc : Thread nD τ).loc main_v82) = VEL bcast_S_S2x64 (m' ((c.tc : Thread nD τ).loc main_arg20)) (m' ((c.tc : Thread nD τ).loc main_arg54))
          ∧ r.2.mem ((c.tc : Thread nD τ).loc main_v106) = VEL bcast_S_S2x64x64x16 (m' ((c.tc : Thread nD τ).loc main_arg21)) (m' ((c.tc : Thread nD τ).loc main_arg55))
          ∧ r.2.mem ((c.tc : Thread nD τ).loc main_v130) = VEL bcast_S_S2x64x64x16 (m' ((c.tc : Thread nD τ).loc main_arg22)) (m' ((c.tc : Thread nD τ).loc main_arg56))
          ∧ r.2.mem ((c.tc : Thread nD τ).loc main_v154) = VEL bcast_S_S2x64x16x64 (m' ((c.tc : Thread nD τ).loc main_arg23)) (m' ((c.tc : Thread nD τ).loc main_arg57))
          ∧ r.2.mem ((c.tc : Thread nD τ).loc main_v178) = VEL bcast_S_S2x64x16x64 (m' ((c.tc : Thread nD τ).loc main_arg24)) (m' ((c.tc : Thread nD τ).loc main_arg58))
          ∧ r.2.mem ((c.tc : Thread nD τ).loc main_v202) = VEL bcast_S_S2x64x16 (m' ((c.tc : Thread nD τ).loc main_arg25)) (m' ((c.tc : Thread nD τ).loc main_arg59))
          ∧ r.2.mem ((c.tc : Thread nD τ).loc main_v226) = VEL bcast_S_S2x1024 (m' ((c.tc : Thread nD τ).loc main_arg26)) (m' ((c.tc : Thread nD τ).loc main_arg60))
          ∧ r.2.mem ((c.tc : Thread nD τ).loc main_v250) = VEL bcast_S_S2x1024 (m' ((c.tc : Thread nD τ).loc main_arg27)) (m' ((c.tc : Thread nD τ).loc main_arg61))
          ∧ r.2.mem ((c.tc : Thread nD τ).loc main_v274) = VEL bcast_S_S2x128 (m' ((c.tc : Thread nD τ).loc main_arg28)) (m' ((c.tc : Thread nD τ).loc main_arg62))
          ∧ r.2.mem ((c.tc : Thread nD τ).loc main_v298) = VEL bcast_S_S2x256 (m' ((c.tc : Thread nD τ).loc main_arg29)) (m' ((c.tc : Thread nD τ).loc main_arg63))
          ∧ r.2.mem ((c.tc : Thread nD τ).loc main_v322) = VEL bcast_S_S2x64 (m' ((c.tc : Thread nD τ).loc main_arg30)) (m' ((c.tc : Thread nD τ).loc main_arg64))
          ∧ r.2.mem ((c.tc : Thread nD τ).loc main_v346) = VEL bcast_S_S2x64 (m' ((c.tc : Thread nD τ).loc main_arg31)) (m' ((c.tc : Thread nD τ).loc main_arg65))
          ∧ r.2.mem ((c.tc : Thread nD τ).loc main_v370) = VEL bcast_S_S2x32 (m' ((c.tc : Thread nD τ).loc main_arg32)) (m' ((c.tc : Thread nD τ).loc main_arg66))
          ∧ r.2.mem ((c.tc : Thread nD τ).loc main_v394) = VEL bcast_S_S4x2048 (m' ((c.tc : Thread nD τ).loc main_arg33)) (m' ((c.tc : Thread nD τ).loc main_arg67))
          ∧ r.2.mem ((c.tc : Thread nD τ).loc main_arg0) = m' ((c.tc : Thread nD τ).loc main_arg0)
          ∧ r.2.mem ((c.tc : Thread nD τ).loc main_arg1) = m' ((c.tc : Thread nD τ).loc main_arg1)
          ∧ r.2.mem ((c.tc : Thread nD τ).loc main_arg2) = m' ((c.tc : Thread nD τ).loc main_arg2)
          ∧ r.2.mem ((c.tc : Thread nD τ).loc main_arg3) = m' ((c.tc : Thread nD τ).loc main_arg3)
          ∧ r.2.mem ((c.tc : Thread nD τ).loc main_arg4) = m' ((c.tc : Thread nD τ).loc main_arg4)
          ∧ r.2.mem ((c.tc : Thread nD τ).loc main_arg5) = m' ((c.tc : Thread nD τ).loc main_arg5)
          ∧ r.2.mem ((c.tc : Thread nD τ).loc main_arg6) = m' ((c.tc : Thread nD τ).loc main_arg6)
          ∧ r.2.mem ((c.tc : Thread nD τ).loc main_arg7) = m' ((c.tc : Thread nD τ).loc main_arg7)
          ∧ r.2.mem ((c.tc : Thread nD τ).loc main_arg8) = m' ((c.tc : Thread nD τ).loc main_arg8)
          ∧ r.2.mem ((c.tc : Thread nD τ).loc main_arg9) = m' ((c.tc : Thread nD τ).loc main_arg9)
          ∧ r.2.mem ((c.tc : Thread nD τ).loc main_arg10) = m' ((c.tc : Thread nD τ).loc main_arg10)
          ∧ r.2.mem ((c.tc : Thread nD τ).loc main_arg11) = m' ((c.tc : Thread nD τ).loc main_arg11)
          ∧ r.2.mem ((c.tc : Thread nD τ).loc main_arg12) = m' ((c.tc : Thread nD τ).loc main_arg12)
          ∧ r.2.mem ((c.tc : Thread nD τ).loc main_arg13) = m' ((c.tc : Thread nD τ).loc main_arg13)
          ∧ r.2.mem ((c.tc : Thread nD τ).loc main_arg14) = m' ((c.tc : Thread nD τ).loc main_arg14)
          ∧ r.2.mem ((c.tc : Thread nD τ).loc main_arg15) = m' ((c.tc : Thread nD τ).loc main_arg15)
          ∧ r.2.mem ((c.tc : Thread nD τ).loc main_arg16) = m' ((c.tc : Thread nD τ).loc main_arg16)
          ∧ r.2.mem ((c.tc : Thread nD τ).loc main_arg17) = m' ((c.tc : Thread nD τ).loc main_arg17)
          ∧ r.2.mem ((c.tc : Thread nD τ).loc main_arg18) = m' ((c.tc : Thread nD τ).loc main_arg18)
          ∧ r.2.mem ((c.tc : Thread nD τ).loc main_arg19) = m' ((c.tc : Thread nD τ).loc main_arg19)
          ∧ r.2.mem ((c.tc : Thread nD τ).loc main_arg20) = m' ((c.tc : Thread nD τ).loc main_arg20)
          ∧ r.2.mem ((c.tc : Thread nD τ).loc main_arg21) = m' ((c.tc : Thread nD τ).loc main_arg21)
          ∧ r.2.mem ((c.tc : Thread nD τ).loc main_arg22) = m' ((c.tc : Thread nD τ).loc main_arg22)
          ∧ r.2.mem ((c.tc : Thread nD τ).loc main_arg23) = m' ((c.tc : Thread nD τ).loc main_arg23)
          ∧ r.2.mem ((c.tc : Thread nD τ).loc main_arg24) = m' ((c.tc : Thread nD τ).loc main_arg24)
          ∧ r.2.mem ((c.tc : Thread nD τ).loc main_arg25) = m' ((c.tc : Thread nD τ).loc main_arg25)
          ∧ r.2.mem ((c.tc : Thread nD τ).loc main_arg26) = m' ((c.tc : Thread nD τ).loc main_arg26)
          ∧ r.2.mem ((c.tc : Thread nD τ).loc main_arg27) = m' ((c.tc : Thread nD τ).loc main_arg27)
          ∧ r.2.mem ((c.tc : Thread nD τ).loc main_arg28) = m' ((c.tc : Thread nD τ).loc main_arg28)
          ∧ r.2.mem ((c.tc : Thread nD τ).loc main_arg29) = m' ((c.tc : Thread nD τ).loc main_arg29)
          ∧ r.2.mem ((c.tc : Thread nD τ).loc main_arg30) = m' ((c.tc : Thread nD τ).loc main_arg30)
          ∧ r.2.mem ((c.tc : Thread nD τ).loc main_arg31) = m' ((c.tc : Thread nD τ).loc main_arg31)
          ∧ r.2.mem ((c.tc : Thread nD τ).loc main_arg32) = m' ((c.tc : Thread nD τ).loc main_arg32)
          ∧ r.2.mem ((c.tc : Thread nD τ).loc main_arg33) = m' ((c.tc : Thread nD τ).loc main_arg33)
          ∧ r.2.mem ((c.tc : Thread nD τ).loc main_arg34) = m' ((c.tc : Thread nD τ).loc main_arg34)
          ∧ r.2.mem ((c.tc : Thread nD τ).loc main_arg35) = m' ((c.tc : Thread nD τ).loc main_arg35)
          ∧ r.2.mem ((c.tc : Thread nD τ).loc main_arg36) = m' ((c.tc : Thread nD τ).loc main_arg36)
          ∧ r.2.mem ((c.tc : Thread nD τ).loc main_arg37) = m' ((c.tc : Thread nD τ).loc main_arg37)
          ∧ r.2.mem ((c.tc : Thread nD τ).loc main_arg38) = m' ((c.tc : Thread nD τ).loc main_arg38)
          ∧ r.2.mem ((c.tc : Thread nD τ).loc main_arg39) = m' ((c.tc : Thread nD τ).loc main_arg39)
          ∧ r.2.mem ((c.tc : Thread nD τ).loc main_arg40) = m' ((c.tc : Thread nD τ).loc main_arg40)
          ∧ r.2.mem ((c.tc : Thread nD τ).loc main_arg41) = m' ((c.tc : Thread nD τ).loc main_arg41)
          ∧ r.2.mem ((c.tc : Thread nD τ).loc main_arg42) = m' ((c.tc : Thread nD τ).loc main_arg42)
          ∧ r.2.mem ((c.tc : Thread nD τ).loc main_arg43) = m' ((c.tc : Thread nD τ).loc main_arg43)
          ∧ r.2.mem ((c.tc : Thread nD τ).loc main_arg44) = m' ((c.tc : Thread nD τ).loc main_arg44)
          ∧ r.2.mem ((c.tc : Thread nD τ).loc main_arg45) = m' ((c.tc : Thread nD τ).loc main_arg45)
          ∧ r.2.mem ((c.tc : Thread nD τ).loc main_arg46) = m' ((c.tc : Thread nD τ).loc main_arg46)
          ∧ r.2.mem ((c.tc : Thread nD τ).loc main_arg47) = m' ((c.tc : Thread nD τ).loc main_arg47)
          ∧ r.2.mem ((c.tc : Thread nD τ).loc main_arg48) = m' ((c.tc : Thread nD τ).loc main_arg48)
          ∧ r.2.mem ((c.tc : Thread nD τ).loc main_arg49) = m' ((c.tc : Thread nD τ).loc main_arg49)
          ∧ r.2.mem ((c.tc : Thread nD τ).loc main_arg50) = m' ((c.tc : Thread nD τ).loc main_arg50)
          ∧ r.2.mem ((c.tc : Thread nD τ).loc main_arg51) = m' ((c.tc : Thread nD τ).loc main_arg51)
          ∧ r.2.mem ((c.tc : Thread nD τ).loc main_arg52) = m' ((c.tc : Thread nD τ).loc main_arg52)
          ∧ r.2.mem ((c.tc : Thread nD τ).loc main_arg53) = m' ((c.tc : Thread nD τ).loc main_arg53)
          ∧ r.2.mem ((c.tc : Thread nD τ).loc main_arg54) = m' ((c.tc : Thread nD τ).loc main_arg54)
          ∧ r.2.mem ((c.tc : Thread nD τ).loc main_arg55) = m' ((c.tc : Thread nD τ).loc main_arg55)
          ∧ r.2.mem ((c.tc : Thread nD τ).loc main_arg56) = m' ((c.tc : Thread nD τ).loc main_arg56)
          ∧ r.2.mem ((c.tc : Thread nD τ).loc main_arg57) = m' ((c.tc : Thread nD τ).loc main_arg57)
          ∧ r.2.mem ((c.tc : Thread nD τ).loc main_arg58) = m' ((c.tc : Thread nD τ).loc main_arg58)
          ∧ r.2.mem ((c.tc : Thread nD τ).loc main_arg59) = m' ((c.tc : Thread nD τ).loc main_arg59)
          ∧ r.2.mem ((c.tc : Thread nD τ).loc main_arg60) = m' ((c.tc : Thread nD τ).loc main_arg60)
          ∧ r.2.mem ((c.tc : Thread nD τ).loc main_arg61) = m' ((c.tc : Thread nD τ).loc main_arg61)
          ∧ r.2.mem ((c.tc : Thread nD τ).loc main_arg62) = m' ((c.tc : Thread nD τ).loc main_arg62)
          ∧ r.2.mem ((c.tc : Thread nD τ).loc main_arg63) = m' ((c.tc : Thread nD τ).loc main_arg63)
          ∧ r.2.mem ((c.tc : Thread nD τ).loc main_arg64) = m' ((c.tc : Thread nD τ).loc main_arg64)
          ∧ r.2.mem ((c.tc : Thread nD τ).loc main_arg65) = m' ((c.tc : Thread nD τ).loc main_arg65)
          ∧ r.2.mem ((c.tc : Thread nD τ).loc main_arg66) = m' ((c.tc : Thread nD τ).loc main_arg66)
          ∧ r.2.mem ((c.tc : Thread nD τ).loc main_arg67) = m' ((c.tc : Thread nD τ).loc main_arg67)) := by
  hlo_run
  all_goals rfl

end Cert.Reference26Ideal.Value

end
-- ==== Proof.ClaimAdamSmall.lean ====
/- The value claim of the optimiser's step of the small weights: its kernel and its reference end with equal results. -/
module

public import proofs.«01_k».proof.Defs
public import proofs.«01_k».proof.Proof.AdamSmallRun
public import proofs.«01_k».proof.Proof.AdamSmallRef
public import Idealize.ShloMosaic.Lib.Claim

@[expose] public section

set_option maxRecDepth 65536

noncomputable section

namespace Cert.Proof

open Idealize.ShloMosaic Idealize.SL.Sem Cert.Kernel26Ideal.Value

section Congr

variable {s : Shape} (b : Cert.Reference26Ideal.S_.BroadcastsInDim s (![] : Fin 0 → Fin s.rank)) {W W' G G' M M' V V' : FVec Ideal s .f32}

/-- The change of a weight, of equal arrays. -/
theorem delta_congr (hW : W = W') (hG : G = G') (hM : M = M') (hV : V = V') : DELTA b W G M V = DELTA b W' G' M' V' := by
  subst hW hG hM hV
  rfl

/-- The new first moment, of equal arrays. -/
theorem m_congr (hG : G = G') (hM : M = M') : MOM b G M = MOM b G' M' := by
  subst hG hM
  rfl

/-- The new second moment, of equal arrays. -/
theorem v_congr (hG : G = G') (hV : V = V') : VEL b G V = VEL b G' V' := by
  subst hG hV
  rfl

end Congr

set_option maxHeartbeats 2000000 in
/-- The optimiser's step of the small weights: over the extended reals the kernel computes what its reference computes. -/
theorem algebraic26 : Cert.algebraic_Kernel26Ideal_Reference26Ideal (hKernel26Ideal := Cert.Kernel26Ideal.Gen.facts)
    (hReference26Ideal := Cert.Reference26Ideal.Gen.facts) := by
  pair_intro
  · exact run_values m g
  · refine θ_run_mono (Cert.Reference26Ideal.Value.ref_values m' g') ?_
    intro r hr c
    obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55, h56, h57, h58, h59, h60, h61, h62, h63, h64, h65, h66, h67⟩ := hagree c
    obtain ⟨q0, q1, q2, q3, q4, q5, q6, q7, q8, q9, q10, q11, q12, q13, q14, q15, q16, q17, q18, q19, q20, q21, q22, q23, q24, q25, q26, q27, q28, q29, q30, q31, q32, q33, q34, q35, q36, q37, q38, q39, q40, q41, q42, q43, q44, q45, q46, q47, q48, q49, q50, a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43, a44, a45, a46, a47, a48, a49, a50, a51, a52, a53, a54, a55, a56, a57, a58, a59, a60, a61, a62, a63, a64, a65, a66, a67⟩ := hr c
    exact ⟨q0.trans (delta_congr _ h0 h17 h34 h51),
      q1.trans (delta_congr _ h1 h18 h35 h52),
      q2.trans (delta_congr _ h2 h19 h36 h53),
      q3.trans (delta_congr _ h3 h20 h37 h54),
      q4.trans (delta_congr _ h4 h21 h38 h55),
      q5.trans (delta_congr _ h5 h22 h39 h56),
      q6.trans (delta_congr _ h6 h23 h40 h57),
      q7.trans (delta_congr _ h7 h24 h41 h58),
      q8.trans (delta_congr _ h8 h25 h42 h59),
      q9.trans (delta_congr _ h9 h26 h43 h60),
      q10.trans (delta_congr _ h10 h27 h44 h61),
      q11.trans (delta_congr _ h11 h28 h45 h62),
      q12.trans (delta_congr _ h12 h29 h46 h63),
      q13.trans (delta_congr _ h13 h30 h47 h64),
      q14.trans (delta_congr _ h14 h31 h48 h65),
      q15.trans (delta_congr _ h15 h32 h49 h66),
      q16.trans (delta_congr _ h16 h33 h50 h67),
      q17.trans (m_congr _ h17 h34),
      q18.trans (m_congr _ h18 h35),
      q19.trans (m_congr _ h19 h36),
      q20.trans (m_congr _ h20 h37),
      q21.trans (m_congr _ h21 h38),
      q22.trans (m_congr _ h22 h39),
      q23.trans (m_congr _ h23 h40),
      q24.trans (m_congr _ h24 h41),
      q25.trans (m_congr _ h25 h42),
      q26.trans (m_congr _ h26 h43),
      q27.trans (m_congr _ h27 h44),
      q28.trans (m_congr _ h28 h45),
      q29.trans (m_congr _ h29 h46),
      q30.trans (m_congr _ h30 h47),
      q31.trans (m_congr _ h31 h48),
      q32.trans (m_congr _ h32 h49),
      q33.trans (m_congr _ h33 h50),
      q34.trans (v_congr _ h17 h51),
      q35.trans (v_congr _ h18 h52),
      q36.trans (v_congr _ h19 h53),
      q37.trans (v_congr _ h20 h54),
      q38.trans (v_congr _ h21 h55),
      q39.trans (v_congr _ h22 h56),
      q40.trans (v_congr _ h23 h57),
      q41.trans (v_congr _ h24 h58),
      q42.trans (v_congr _ h25 h59),
      q43.trans (v_congr _ h26 h60),
      q44.trans (v_congr _ h27 h61),
      q45.trans (v_congr _ h28 h62),
      q46.trans (v_congr _ h29 h63),
      q47.trans (v_congr _ h30 h64),
      q48.trans (v_congr _ h31 h65),
      q49.trans (v_congr _ h32 h66),
      q50.trans (v_congr _ h33 h67),
      a0,
      a1,
      a2,
      a3,
      a4,
      a5,
      a6,
      a7,
      a8,
      a9,
      a10,
      a11,
      a12,
      a13,
      a14,
      a15,
      a16,
      a17,
      a18,
      a19,
      a20,
      a21,
      a22,
      a23,
      a24,
      a25,
      a26,
      a27,
      a28,
      a29,
      a30,
      a31,
      a32,
      a33,
      a34,
      a35,
      a36,
      a37,
      a38,
      a39,
      a40,
      a41,
      a42,
      a43,
      a44,
      a45,
      a46,
      a47,
      a48,
      a49,
      a50,
      a51,
      a52,
      a53,
      a54,
      a55,
      a56,
      a57,
      a58,
      a59,
      a60,
      a61,
      a62,
      a63,
      a64,
      a65,
      a66,
      a67⟩

end Cert.Proof

end
-- ==== Proof.GluFwd.lean ====
/- The gate's forward product (`Kernel27`): the two result arrays of the call are the reference's product and its gated
   value. -/
module

public import proofs.«01_k».proof.Proof.Gen.Kernel27Ideal.Frame
public import proofs.«01_k».proof.Proof.Gen.Reference27Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel27Ideal.Value

open Cert.Kernel27Ideal Cert.Kernel27Ideal.Gen

variable (m : (ℓ : Loc nD τ sig) → Buf (Elt Ideal) ℓ)

/-- The block every window stages at grid point `t`: rows `t`. -/
theorem idx : ∀ t : Fin cfg0.N, win0_0.index t = ![t.val, 0] ∧ win0_1.index t = ![0, 0]
    ∧ win0_2.index t = ![t.val, 0] ∧ win0_3.index t = ![0, 0]
    ∧ win0_4.index t = ![t.val, 0] ∧ win0_5.index t = ![t.val, 0] :=
  (by decide +kernel : ∀ t : Fin grid0.N, _)

/-- The product. -/
abbrev GATE (Z : FVec Ideal S4096x1024 .f32) (W : FVec Ideal S1024x1024 .f32) : FVec Ideal S4096x1024 .f32 :=
  Host.dotGeneral (F := Ideal) Cert.Reference27Ideal.dot_S4096x1024_S1024x1024_S4096x1024_1_0_0_1_n_n none Z W

/-- A number at every index. -/
abbrev SPLAT (b : BitVec 32) : FVec Ideal S4096x1024 .f32 :=
  broadcastInDim Cert.Reference27Ideal.S4096x1024 ![] Cert.Reference27Ideal.Gen.bcast_S_S4096x1024 (constant Cert.Reference27Ideal.S_ .f32 b)

/-- The reference's smooth positive part. -/
abbrev GELU (Y : FVec Ideal S4096x1024 .f32) : FVec Ideal S4096x1024 .f32 :=
  mulf Y (mulf (SPLAT 0x3F000000#32) (addf (SPLAT 0x3F800000#32) (Host.tanh (mulf (SPLAT 0x3F4C422A#32)
    (addf Y (mulf (SPLAT 0x3D372713#32) (mulf (mulf Y Y) Y)))))))

/-- The gated value. -/
abbrev OUT (A Y : FVec Ideal S4096x1024 .f32) (B : FVec Ideal S1024 .f32) : FVec Ideal S4096x1024 .bf16 :=
  truncf .bf16 (mulf (GELU Y) (Host.divf (SPLAT 0x3F800000#32) (addf (SPLAT 0x3F800000#32) (Host.exp (Host.negf (addf A
    (broadcastInDim Cert.Reference27Ideal.S4096x1024 ![0, 1] Cert.Reference27Ideal.Gen.bcast_S1x1024_S4096x1024_0_1
      (broadcastInDim Cert.Reference27Ideal.S1x1024 ![1] Cert.Reference27Ideal.Gen.bcast_S1024_S1x1024_1 B)))))))) Cert.Reference27Ideal.Gen.bitsLt_bf16_f32

/-- What grid point `t` stores for the product. -/
theorem point_gate (c : Dev nD) (t : Fin cfg0.N) (y : S512x1024.Idx) : k0_pay1 (iblk m c 0 t) (iblk m c 1 t) y
    = GATE (m ((c : Thread nD τ).loc main_arg0)) (m ((c : Thread nD τ).loc main_arg1)) (((cfg0.win 4).blk t).view.emb y) := by
  pointwise [k0_pay1, GATE]
  blk_point [iblk, V, idx t]

/-- The gated value the kernel computes, at an index where its blocks hold the arrays' entries. -/
theorem pay_y (X : FVec Ideal S512x1024 .bf16) (W : FVec Ideal S1024x1024 .bf16) (Y1 : FVec Ideal S512x1024 .f32)
    (B1 : FVec Ideal S1x1024 .f32) (A Y : FVec Ideal S4096x1024 .f32) (B : FVec Ideal S1024 .f32) (a : Fin 512) (b : Fin 1024)
    (r : Fin 4096) (hA : k0_pay1 X W (ix2 a b) = A (ix2 r b)) (hY : Y1 (ix2 a b) = Y (ix2 r b)) (hB : B1 (ix2 0 b) = B (ix1 b)) :
    k0_pay2 X W Y1 B1 (ix2 a b) = OUT A Y B (ix2 r b) := by
  pointwise [k0_pay2, OUT, GELU, SPLAT]
  simp only [hA, hY, hB, zero_sub]
  ac_rfl

/-- The array's row that row `r` of grid point `t`'s block is. -/
abbrev row (t : Fin cfg0.N) (r : Fin 512) : Fin 4096 :=
  ⟨t.val * 512 + r.val, by have : t.val < 8 := lt_of_lt_of_eq t.isLt N_0; omega⟩

/-- What grid point `t` stores for the gated value. -/
theorem point_y (c : Dev nD) (t : Fin cfg0.N) (y : S512x1024.Idx) :
    k0_pay2 (iblk m c 0 t) (iblk m c 1 t) (iblk m c 2 t) (iblk m c 3 t) y
      = OUT (GATE (m ((c : Thread nD τ).loc main_arg0)) (m ((c : Thread nD τ).loc main_arg1))) (m ((c : Thread nD τ).loc main_arg2)) (m ((c : Thread nD τ).loc main_arg3)) (((cfg0.win 5).blk t).view.emb y) := by
  have e : y = ix2 (y 0) (y 1) := by funext a; fin_cases a <;> rfl
  have e4 : ((cfg0.win 4).blk t).view.emb y = ix2 (row t (y 0)) (y 1) := by blk_ext [idx t]
  have e5 : ((cfg0.win 5).blk t).view.emb y = ix2 (row t (y 0)) (y 1) := by blk_ext [idx t]
  rw [e5]
  conv_lhs => rw [e]
  refine pay_y _ _ _ _ _ _ _ _ _ _ ?_ ?_ ?_
  · exact (congrArg (k0_pay1 _ _) e.symm).trans ((point_gate m c t y).trans (congrArg _ e4))
  · blk_point [iblk, V, idx t]
  · blk_point [iblk, V, idx t]

/-- The first result array after the call is the product. -/
theorem final_gate (c : Dev nD) : (dats m 0 c).arrAt 4 (cfgs 0).N = GATE (m ((c : Thread nD τ).loc main_arg0)) (m ((c : Thread nD τ).loc main_arg1)) := by
  refine (dats m 0 c).arrAt_eq_of_covers 4 _ (by decide +kernel) fun t _ y => ?_
  blk_simp
  rw [after0_4]; frame_out
  exact point_gate m c t y

/-- The second result array after the call is the gated value. -/
theorem final_y (c : Dev nD) : (dats m 0 c).arrAt 5 (cfgs 0).N = OUT (GATE (m ((c : Thread nD τ).loc main_arg0)) (m ((c : Thread nD τ).loc main_arg1))) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point_y m c t y

end Cert.Kernel27Ideal.Value

end
-- ==== Proof.ClaimGluFwd.lean ====
/- The value claim of the gate's product: its kernel and its reference end with equal results. -/
module

public import proofs.«01_k».proof.Defs
public import proofs.«01_k».proof.Proof.GluFwd
public import Idealize.ShloMosaic.Lib.Claim

@[expose] public section

set_option maxRecDepth 16384

noncomputable section

namespace Cert.Proof

open Idealize.ShloMosaic Idealize.SL.Sem

/-- The gate's product: over the extended reals the kernel computes what its reference computes. -/
theorem algebraic27 : Cert.algebraic_Kernel27Ideal_Reference27Ideal (hKernel27Ideal := Cert.Kernel27Ideal.Gen.facts)
    (hReference27Ideal := Cert.Reference27Ideal.Gen.facts) := by
  pair_intro
  · run_from Cert.Kernel27Ideal.Gen.run_main m g
  · hlo_run
    · exact (Cert.Kernel27Ideal.Value.final_gate m c).symm
    · exact (Cert.Kernel27Ideal.Value.final_y m c).symm

end Cert.Proof

end
-- ==== Proof.RmsFwd.lean ====
/- The norm before the first layer (`Kernel28`): the result array of the call is the reference's normalised rows. -/
module

public import proofs.«01_k».proof.Proof.Gen.Kernel28Ideal.Frame
public import proofs.«01_k».proof.Proof.Gen.Reference28Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel28Ideal.Value

open Cert.Kernel28Ideal Cert.Kernel28Ideal.Gen

variable (m : (ℓ : Loc nD τ sig) → Buf (Elt Ideal) ℓ)

/-- The block every window stages at grid point `t`: rows `t`. -/
theorem idx : ∀ t : Fin cfg0.N, win0_0.index t = ![t.val, 0] ∧ win0_1.index t = ![0, 0]
    ∧ win0_2.index t = ![t.val, 0] :=
  (by decide +kernel : ∀ t : Fin grid0.N, _)

/-- The normalised rows of an array, times a gain. -/
abbrev NORM (Y : FVec Ideal S4096x2048 .f32) (G : FVec Ideal S2048 .f32) : FVec Ideal S4096x2048 .bf16 :=
  truncf .bf16 (mulf (mulf Y (broadcastInDim Cert.Reference28Ideal.S4096x2048 ![0, 1]
      Cert.Reference28Ideal.Gen.bcast_S4096x1_S4096x2048_0_1 (Host.rsqrt (addf (Host.divf
    (broadcastInDim Cert.Reference28Ideal.S4096x1 ![0] Cert.Reference28Ideal.Gen.bcast_S4096_S4096x1_0
      (Host.reduceAdd (mulf Y Y) (constant Cert.Reference28Ideal.S_ .f32 0x00000000#32)
        Cert.Reference28Ideal.Gen.reducesTo_S4096x2048_S4096_d1 Cert.Reference28Ideal.Gen.h_S_))
    (broadcastInDim Cert.Reference28Ideal.S4096x1 ![] Cert.Reference28Ideal.Gen.bcast_S_S4096x1
      (constant Cert.Reference28Ideal.S_ .f32 0x45000000#32)))
    (broadcastInDim Cert.Reference28Ideal.S4096x1 ![] Cert.Reference28Ideal.Gen.bcast_S_S4096x1
      (constant Cert.Reference28Ideal.S_ .f32 0x358637BD#32))))))
    (broadcastInDim Cert.Reference28Ideal.S4096x2048 ![0, 1] Cert.Reference28Ideal.Gen.bcast_S1x2048_S4096x2048_0_1
      (broadcastInDim Cert.Reference28Ideal.S1x2048 ![1] Cert.Reference28Ideal.Gen.bcast_S2048_S1x2048_1 G)))
    Cert.Reference28Ideal.Gen.bitsLt_bf16_f32

/-- The array's row that row `r` of grid point `t`'s block is. -/
abbrev row (t : Fin cfg0.N) (r : Fin 256) : Fin 4096 :=
  ⟨t.val * 256 + r.val, by have : t.val < 16 := lt_of_lt_of_eq t.isLt N_0; omega⟩

/-- The normalised row the kernel computes is the reference's, when the rows normalised are one. -/
theorem norm_row (X : FVec Ideal S256x2048 .f32) (G1 : FVec Ideal S1x2048 .f32) (Y : FVec Ideal S4096x2048 .f32)
    (G : FVec Ideal S2048 .f32) (a : Fin 256) (b : Fin 2048) (r : Fin 4096)
    (hY : ∀ k : Fin 2048, X (ix2 a k) = Y (ix2 r k)) (hG : G1 (ix2 0 b) = G (ix1 b)) :
    k0_pay1 X G1 (ix2 a b) = NORM Y G (ix2 r b) := by
  pointwise [k0_pay1, NORM]
  simp only [hY, hG]

/-- What grid point `t` stores. -/
theorem point (c : Dev nD) (t : Fin cfg0.N) (y : S256x2048.Idx) :
    k0_pay1 (iblk m c 0 t) (iblk m c 1 t) y = NORM (m ((c : Thread nD τ).loc main_arg0)) (m ((c : Thread nD τ).loc main_arg1)) (ix2 (row t (y 0)) (y 1)) := by
  have e : y = ix2 (y 0) (y 1) := by funext a; fin_cases a <;> rfl
  conv_lhs => rw [e]
  refine norm_row _ _ _ _ _ _ _ (fun k => ?_) ?_
  · blk_point [iblk, V, idx t]
  · blk_point [iblk, V, idx t]

/-- The result array after the call is the normalised rows. -/
theorem final (c : Dev nD) : (dats m 0 c).arrAt 2 (cfgs 0).N = NORM (m ((c : Thread nD τ).loc main_arg0)) (m ((c : Thread nD τ).loc main_arg1)) := by
  refine (dats m 0 c).arrAt_eq_of_covers 2 _ (by decide +kernel) fun t _ y => ?_
  blk_simp
  rw [after0_2]; frame_out
  rw [point m c t y]
  blk_ext [idx t]

end Cert.Kernel28Ideal.Value

end
-- ==== Proof.ClaimRmsFwd.lean ====
/- The value claim of the first layer's norm: its kernel and its reference end with equal results. -/
module

public import proofs.«01_k».proof.Defs
public import proofs.«01_k».proof.Proof.RmsFwd
public import Idealize.ShloMosaic.Lib.Claim

@[expose] public section

set_option maxRecDepth 16384

noncomputable section

namespace Cert.Proof

open Idealize.ShloMosaic Idealize.SL.Sem

/-- The first layer's norm: over the extended reals the kernel computes what its reference computes. -/
theorem algebraic28 : Cert.algebraic_Kernel28Ideal_Reference28Ideal (hKernel28Ideal := Cert.Kernel28Ideal.Gen.facts)
    (hReference28Ideal := Cert.Reference28Ideal.Gen.facts) := by
  pair_intro
  · run_from Cert.Kernel28Ideal.Gen.run_main m g
  · hlo_run
    exact (Cert.Kernel28Ideal.Value.final m c).symm

end Cert.Proof

end
-- ==== Proof.GluBwd.lean ====
/- The backward of the gate (`Kernel29`): the three result arrays of the call are the reference's gradients of the gate's
   product, of the value gated and of the gate's bias. Each grid point adds its rows into the bias's block. -/
module

public import proofs.«01_k».proof.Proof.Gen.Kernel29Ideal.Frame
public import proofs.«01_k».proof.Proof.Gen.Reference29Ideal
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel29Ideal.Value

open Cert.Kernel29Ideal Cert.Kernel29Ideal.Gen

variable (m : (ℓ : Loc nD τ sig) → Buf (Elt Ideal) ℓ)

/-- The block every window stages at grid point `t`: rows `t`. -/
theorem idx : ∀ t : Fin cfg0.N, win0_0.index t = ![t.val, 0] ∧ win0_1.index t = ![t.val, 0]
    ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, _)

/-- A number at every index. -/
abbrev SPLAT (b : BitVec 32) : FVec Ideal S4096x1024 .f32 :=
  broadcastInDim Cert.Reference29Ideal.S4096x1024 ![] Cert.Reference29Ideal.Gen.bcast_S_S4096x1024 (constant Cert.Reference29Ideal.S_ .f32 b)

/-- The reference's smooth positive part. -/
abbrev GELU (Y : FVec Ideal S4096x1024 .f32) : FVec Ideal S4096x1024 .f32 :=
  mulf Y (mulf (SPLAT 0x3F000000#32) (addf (SPLAT 0x3F800000#32) (Host.tanh (mulf (SPLAT 0x3F4C422A#32)
    (addf Y (mulf (SPLAT 0x3D372713#32) (mulf (mulf Y Y) Y)))))))

/-- The gate's value. -/
abbrev SIG (A : FVec Ideal S4096x1024 .f32) (B : FVec Ideal S1024 .f32) : FVec Ideal S4096x1024 .f32 :=
  Host.divf (SPLAT 0x3F800000#32) (addf (SPLAT 0x3F800000#32) (Host.exp (Host.negf (addf A
    (broadcastInDim Cert.Reference29Ideal.S4096x1024 ![0, 1] Cert.Reference29Ideal.Gen.bcast_S1x1024_S4096x1024_0_1
      (broadcastInDim Cert.Reference29Ideal.S1x1024 ![1] Cert.Reference29Ideal.Gen.bcast_S1024_S1x1024_1 B))))))

/-- The part of the incoming gradient that belongs to the gated value: its left half. -/
abbrev DYA (D : FVec Ideal S4096x2048 .f32) : FVec Ideal S4096x1024 .f32 :=
  extractStridedSlice Cert.Reference29Ideal.S4096x1024 ![0, 0] D Cert.Reference29Ideal.Gen.slices_S4096x2048_S4096x1024_0_0

/-- The gradient of the gate's product. -/
abbrev DA (D : FVec Ideal S4096x2048 .f32) (Y A : FVec Ideal S4096x1024 .f32) (B : FVec Ideal S1024 .f32) : FVec Ideal S4096x1024 .f32 :=
  mulf (mulf (GELU Y) (DYA D)) (mulf (SIG A B) (subf (SPLAT 0x3F800000#32) (SIG A B)))

/-- The same, in the narrow format. -/
abbrev DAB (D : FVec Ideal S4096x2048 .f32) (Y A : FVec Ideal S4096x1024 .f32) (B : FVec Ideal S1024 .f32) : FVec Ideal S4096x1024 .bf16 :=
  truncf .bf16 (DA D Y A B) Cert.Reference29Ideal.Gen.bitsLt_bf16_f32

/-- The gradient of the value gated. -/
abbrev DY (D : FVec Ideal S4096x2048 .f32) (A : FVec Ideal S4096x1024 .f32) (B : FVec Ideal S1024 .f32) : FVec Ideal S4096x1024 .f32 :=
  mulf (DYA D) (SIG A B)

/-- The gradient of the bias, from the gradient of the gate's product. -/
abbrev DB (P : FVec Ideal S4096x1024 .f32) : FVec Ideal S1x1024 .f32 :=
  shapeCast Cert.Reference29Ideal.S1x1024 (Host.reduceAdd
    (shapeCast Cert.Reference29Ideal.S1x1024 (Host.reduceAdd P (constant Cert.Reference29Ideal.S_ .f32 0x00000000#32)
      Cert.Reference29Ideal.Gen.reducesTo_S4096x1024_S1024_d0 Cert.Reference29Ideal.Gen.h_S_) Cert.Reference29Ideal.Gen.shapeCasts_S1024_S1x1024)
    (constant Cert.Reference29Ideal.S_ .f32 0x00000000#32) Cert.Reference29Ideal.Gen.reducesTo_S1x1024_S1024_d0 Cert.Reference29Ideal.Gen.h_S_)
    Cert.Reference29Ideal.Gen.shapeCasts_S1024_S1x1024

/-- The gradient of the gate's product the kernel computes, at an index where its blocks hold the arrays' entries. -/
theorem pay_a (D1 : FVec Ideal S256x2048 .f32) (Y1 A1 : FVec Ideal S256x1024 .f32) (B1 : FVec Ideal S1x1024 .f32)
    (D : FVec Ideal S4096x2048 .f32) (Y A : FVec Ideal S4096x1024 .f32) (B : FVec Ideal S1024 .f32) (a : Fin 256) (b : Fin 1024)
    (r : Fin 4096) (hD : ∀ k : Fin 2048, D1 (ix2 a k) = D (ix2 r k)) (hY : Y1 (ix2 a b) = Y (ix2 r b))
    (hA : A1 (ix2 a b) = A (ix2 r b)) (hB : B1 (ix2 0 b) = B (ix1 b)) :
    k0_pay4 D1 Y1 A1 B1 (ix2 a b) = DA D Y A B (ix2 r b) := by
  pointwise [k0_pay4, k0_pay3, k0_pay2, DA, DYA, SIG, GELU, SPLAT]
  simp only [hD, hY, hA, hB, zero_sub]
  ac_rfl

/-- The gradient of the value gated the kernel computes, at such an index. -/
theorem pay_y (D1 : FVec Ideal S256x2048 .f32) (A1 : FVec Ideal S256x1024 .f32) (B1 : FVec Ideal S1x1024 .f32)
    (D : FVec Ideal S4096x2048 .f32) (A : FVec Ideal S4096x1024 .f32) (B : FVec Ideal S1024 .f32) (a : Fin 256) (b : Fin 1024)
    (r : Fin 4096) (hD : ∀ k : Fin 2048, D1 (ix2 a k) = D (ix2 r k))
    (hA : A1 (ix2 a b) = A (ix2 r b)) (hB : B1 (ix2 0 b) = B (ix1 b)) :
    k0_pay5 D1 A1 B1 (ix2 a b) = DY D A B (ix2 r b) := by
  pointwise [k0_pay5, k0_pay3, k0_pay2, DY, DYA, SIG, SPLAT]
  simp only [hD, hA, hB, zero_sub]

/-- The column sums of a block. -/
theorem pay_col (D1 : FVec Ideal S256x2048 .f32) (Y1 A1 : FVec Ideal S256x1024 .f32) (B1 : FVec Ideal S1x1024 .f32) (j) :
    k0_pay6 (F := Ideal) D1 Y1 A1 B1 j = ∑ a : Fin 256, k0_pay4 (F := Ideal) D1 Y1 A1 B1 (ix2 a (j 1)) := by
  unfold k0_pay6
  generalize k0_pay4 (F := Ideal) D1 Y1 A1 B1 = P
  pointwise []

/-- The gradient of the bias, as one sum over the rows. -/
theorem db_sum (P : FVec Ideal S4096x1024 .f32) (j) : DB P j = ∑ r : Fin 4096, P (ix2 r (j 1)) := by
  pointwise [DB]
  rw [Fin.sum_univ_one]

/-- A later point's store in the bias's block is the sum of what is there and its part. -/
theorem pay_acc (x acc : FVec Ideal S1x1024 .f32) (j) : k0_pay1 (F := Ideal) x acc j = acc j + x j := by
  pointwise [k0_pay1]

/-- What a point stores in the first result's block. -/
theorem out4 (c : Dev nD) (t : Fin cfg0.N) :
    (outsAt0 m c t.val t.isLt).1 = k0_pay7 (iblk m c 0 t) (iblk m c 1 t) (iblk m c 2 t) (iblk m c 3 t) := by
  by_cases h : t.val % 16 = 0
  · have : t.val < 16 := lt_of_lt_of_eq t.isLt N_0
    rw [outsAt0_A m c t h (by omega)]; frame_out
  · rw [outsAt0_B m c t h (by omega)]; frame_out

/-- What it stores in the second result's block. -/
theorem out5 (c : Dev nD) (t : Fin cfg0.N) :
    (outsAt0 m c t.val t.isLt).2.1 = k0_pay5 (iblk m c 0 t) (iblk m c 2 t) (iblk m c 3 t) := by
  by_cases h : t.val % 16 = 0
  · have : t.val < 16 := lt_of_lt_of_eq t.isLt N_0
    rw [outsAt0_A m c t h (by omega)]; frame_out
  · rw [outsAt0_B m c t h (by omega)]; frame_out

/-- What the first point stores in the bias's block. -/
theorem out6_first (c : Dev nD) (t : Fin cfg0.N) (h : t.val % 16 = 0) :
    (outsAt0 m c t.val t.isLt).2.2 = k0_pay6 (iblk m c 0 t) (iblk m c 1 t) (iblk m c 2 t) (iblk m c 3 t) := by
  have : t.val < 16 := lt_of_lt_of_eq t.isLt N_0
  rw [outsAt0_A m c t h (by omega)]; frame_out

/-- What a later point stores there. -/
theorem out6_step (c : Dev nD) (t : Fin cfg0.N) (h : ¬t.val % 16 = 0) :
    (outsAt0 m c t.val t.isLt).2.2 = k0_pay1 (k0_pay6 (iblk m c 0 t) (iblk m c 1 t) (iblk m c 2 t) (iblk m c 3 t))
      (outsAt0 m c (t.val - 1) (Nat.lt_of_le_of_lt (Nat.sub_le _ _) t.isLt)).2.2 := by
  rw [outsAt0_B m c t h (by omega)]; frame_out

/-- The array's row that row `r` of grid point `t`'s block is. -/
abbrev row (t : Fin cfg0.N) (r : Fin 256) : Fin 4096 :=
  ⟨t.val * 256 + r.val, by have : t.val < 16 := lt_of_lt_of_eq t.isLt N_0; omega⟩

/-- A staged block of the incoming gradient, at an index. -/
theorem blk_d (c : Dev nD) (t : Fin cfg0.N) (a : Fin 256) (k : Fin 2048) : iblk m c 0 t (ix2 a k)
    = ((m ((c : Thread nD τ).loc main_arg0)) : FVec Ideal S4096x2048 .f32) (ix2 (row t a) k) := by
  blk_point [iblk, V, idx t]

/-- A staged block of the values, at an index. -/
theorem blk_y (c : Dev nD) (t : Fin cfg0.N) (a : Fin 256) (k : Fin 1024) : iblk m c 1 t (ix2 a k)
    = ((m ((c : Thread nD τ).loc main_arg1)) : FVec Ideal S4096x1024 .f32) (ix2 (row t a) k) := by
  blk_point [iblk, V, idx t]

/-- A staged block of the gate's product, at an index. -/
theorem blk_a (c : Dev nD) (t : Fin cfg0.N) (a : Fin 256) (k : Fin 1024) : iblk m c 2 t (ix2 a k)
    = ((m ((c : Thread nD τ).loc main_arg2)) : FVec Ideal S4096x1024 .f32) (ix2 (row t a) k) := by
  blk_point [iblk, V, idx t]

/-- The staged bias, at an index. -/
theorem blk_b (c : Dev nD) (t : Fin cfg0.N) (k : Fin 1024) : iblk m c 3 t (ix2 0 k)
    = ((m ((c : Thread nD τ).loc main_arg3)) : FVec Ideal S1024 .f32) (ix1 k) := by
  blk_point [iblk, V, idx t]

/-- The gradient of the gate's product at a place of a block. -/
theorem point_a (c : Dev nD) (t : Fin cfg0.N) (a : Fin 256) (b : Fin 1024) :
    k0_pay4 (F := Ideal) (iblk m c 0 t) (iblk m c 1 t) (iblk m c 2 t) (iblk m c 3 t) (ix2 a b)
      = DA (m ((c : Thread nD τ).loc main_arg0)) (m ((c : Thread nD τ).loc main_arg1)) (m ((c : Thread nD τ).loc main_arg2)) (m ((c : Thread nD τ).loc main_arg3)) (ix2 (row t a) b) :=
  pay_a _ _ _ _ _ _ _ _ _ _ _ (fun k => blk_d m c t a k) (blk_y m c t a b) (blk_a m c t a b) (blk_b m c t b)

/-- The first result's block. -/
theorem point_ab (c : Dev nD) (t : Fin cfg0.N) (y : S256x1024.Idx) : (outsAt0 m c t.val t.isLt).1 y
    = DAB (m ((c : Thread nD τ).loc main_arg0)) (m ((c : Thread nD τ).loc main_arg1)) (m ((c : Thread nD τ).loc main_arg2)) (m ((c : Thread nD τ).loc main_arg3)) (ix2 (row t (y 0)) (y 1)) := by
  have e : y = ix2 (y 0) (y 1) := by funext a; fin_cases a <;> rfl
  have h := point_a m c t (y 0) (y 1)
  rw [out4 m c t]
  conv_lhs => rw [e]
  exact h

/-- The second result's block. -/
theorem point_y (c : Dev nD) (t : Fin cfg0.N) (y : S256x1024.Idx) : (outsAt0 m c t.val t.isLt).2.1 y
    = DY (m ((c : Thread nD τ).loc main_arg0)) (m ((c : Thread nD τ).loc main_arg2)) (m ((c : Thread nD τ).loc main_arg3)) (ix2 (row t (y 0)) (y 1)) := by
  have e : y = ix2 (y 0) (y 1) := by funext a; fin_cases a <;> rfl
  rw [out5 m c t]
  conv_lhs => rw [e]
  exact pay_y _ _ _ _ _ _ _ _ _ (fun k => blk_d m c t (y 0) k) (blk_a m c t (y 0) (y 1)) (blk_b m c t (y 1))

/-- The part of the bias's gradient point `p` adds. -/
abbrev part (c : Dev nD) (p : Fin 16) (j : S1x1024.Idx) : EReal :=
  ∑ a : Fin 256, DA (m ((c : Thread nD τ).loc main_arg0)) (m ((c : Thread nD τ).loc main_arg1)) (m ((c : Thread nD τ).loc main_arg2)) (m ((c : Thread nD τ).loc main_arg3)) (ix2 ⟨p.val * 256 + a.val, by omega⟩ (j 1))

/-- Point `p` is a grid point. -/
theorem point_lt (p : Nat) (h : p < 16) : p < cfg0.N := by
  have : cfg0.N = 16 := N_0
  omega

/-- What point `p` computes for the bias. -/
theorem col (c : Dev nD) (p : Fin 16) (j : S1x1024.Idx) :
    k0_pay6 (F := Ideal) (iblk m c 0 ⟨p.val, point_lt p.val p.isLt⟩) (iblk m c 1 ⟨p.val, point_lt p.val p.isLt⟩)
      (iblk m c 2 ⟨p.val, point_lt p.val p.isLt⟩) (iblk m c 3 ⟨p.val, point_lt p.val p.isLt⟩) j = part m c p j :=
  (pay_col _ _ _ _ j).trans (Finset.sum_congr rfl fun a _ => point_a m c ⟨p.val, point_lt p.val p.isLt⟩ a (j 1))

/-- The bias's block after point `n`. -/
def gacc (c : Dev nD) (n : Nat) (h : n < 16) : FVec Ideal S1x1024 .f32 := (outsAt0 m c n (point_lt n h)).2.2

/-- After the first point it is that point's part. -/
theorem gacc_first (c : Dev nD) (p : Fin 16) (h : p.val = 0) (j : S1x1024.Idx) :
    gacc m c p.val p.isLt j = 0 + part m c p j :=
  (congrFun (out6_first m c ⟨p.val, point_lt p.val p.isLt⟩ (by show p.val % 16 = 0; omega)) j).trans
    ((col m c p j).trans (zero_add _).symm)

/-- After a later point it is the sum of what the point before left and that point's part. -/
theorem gacc_step (c : Dev nD) (p : Fin 16) (h : ¬p.val = 0) (j : S1x1024.Idx) :
    gacc m c p.val p.isLt j
      = gacc m c (p.val - 1) (Nat.lt_of_le_of_lt (Nat.sub_le _ _) p.isLt) j + part m c p j :=
  (congrFun (out6_step m c ⟨p.val, point_lt p.val p.isLt⟩ (by show ¬p.val % 16 = 0; omega)) j).trans
    ((pay_acc _ _ j).trans (congrArg₂ (· + ·) rfl (col m c p j)))

/-- After the last point it is the sum of every point's part. -/
theorem gacc_sum (c : Dev nD) (p : Fin 16) (hp : p.val + 1 = 16) (j : S1x1024.Idx) :
    gacc m c p.val p.isLt j = 0 + ∑ p : Fin 16, part m c p j :=
  Pipeline.eq_sum_fin_of_reset_step_apply_last (gacc m c) 16 (fun _ => 0) (part m c)
    (fun t h i => gacc_first m c t (by omega) i) (fun t h i => gacc_step m c t (fun e => h (by rw [e])) i) (le_refl 16) p hp j

/-- The bias's block at the last point of the grid. -/
theorem point_b (c : Dev nD) (t : Fin cfg0.N) (h : t.val % 16 = 15) (y : S1x1024.Idx) : (outsAt0 m c t.val t.isLt).2.2 y
    = DB (DA (m ((c : Thread nD τ).loc main_arg0)) (m ((c : Thread nD τ).loc main_arg1)) (m ((c : Thread nD τ).loc main_arg2)) (m ((c : Thread nD τ).loc main_arg3))) y := by
  have hN : t.val < 16 := lt_of_lt_of_eq t.isLt N_0
  refine (gacc_sum m c ⟨t.val, hN⟩ (by show t.val + 1 = 16; omega) y).trans ?_
  rw [zero_add, db_sum]
  exact Fin.sum_mul_add_congr fun s k hl => rfl

/-- The first result array after the call is the gradient of the gate's product. -/
theorem final_gate (c : Dev nD) : (dats m 0 c).arrAt 4 (cfgs 0).N = DAB (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, point_ab m c t]
  blk_ext [idx t]

/-- The second result array after the call is the gradient of the value gated. -/
theorem final_y (c : Dev nD) : (dats m 0 c).arrAt 5 (cfgs 0).N = DY (m ((c : Thread nD τ).loc main_arg0)) (m ((c : Thread nD τ).loc main_arg2)) (m ((c : Thread nD τ).loc main_arg3)) := by
  refine (dats m 0 c).arrAt_eq_of_covers 5 _ (by decide +kernel) fun t hf y => ?_
  blk_simp
  rw [after0_5, point_y m c t]
  blk_ext [idx t]

/-- The third result array after the call is the gradient of the bias. -/
theorem final_b (c : Dev nD) : (dats m 0 c).arrAt 6 (cfgs 0).N = DB (DA (m ((c : Thread nD τ).loc main_arg0)) (m ((c : Thread nD τ).loc main_arg1)) (m ((c : Thread nD τ).loc main_arg2)) (m ((c : Thread nD τ).loc main_arg3))) := by
  refine (dats m 0 c).arrAt_eq_of_covers 6 _ (by decide +kernel) fun t hf y => ?_
  blk_simp
  rw [after0_6, point_b m c t ((flush0_6 t).mp hf)]
  blk_ext [idx t]

end Cert.Kernel29Ideal.Value

end
-- ==== Proof.ClaimGluBwd.lean ====
/- The value claim of the gradient at the gate: its kernel and its reference end with equal results. -/
module

public import proofs.«01_k».proof.Defs
public import proofs.«01_k».proof.Proof.GluBwd
public import Idealize.ShloMosaic.Lib.Claim

@[expose] public section

set_option maxRecDepth 16384

noncomputable section

namespace Cert.Proof

open Idealize.ShloMosaic Idealize.SL.Sem

/-- The gradient at the gate: over the extended reals the kernel computes what its reference computes. -/
theorem algebraic29 : Cert.algebraic_Kernel29Ideal_Reference29Ideal (hKernel29Ideal := Cert.Kernel29Ideal.Gen.facts)
    (hReference29Ideal := Cert.Reference29Ideal.Gen.facts) := by
  pair_intro
  · run_from Cert.Kernel29Ideal.Gen.run_main m g
  · hlo_run
    · exact (Cert.Kernel29Ideal.Value.final_gate m c).symm
    · exact (Cert.Kernel29Ideal.Value.final_y m c).symm
    · exact (Cert.Kernel29Ideal.Value.final_b m c).symm

end Cert.Proof

end
-- ==== Proof.LossHead.lean ====
/- The loss and its gradient (`Kernel30`): the result arrays of the call are the reference's gradient of the last hidden
   state, in both formats, and the number the host's last steps read the loss off. Each grid point adds the sum of its
   block's squares into one block. -/
module

public import proofs.«01_k».proof.Proof.Gen.Kernel30Ideal.Frame
public import proofs.«01_k».proof.Proof.Gen.Reference30Ideal
public import proofs.«01_k».proof.Proof.RmsGrad
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel30Ideal.Value

open Cert.Kernel30Ideal Cert.Kernel30Ideal.Gen

variable (m : (ℓ : Loc nD τ sig) → Buf (Elt Ideal) ℓ)

/-- The block every window stages at grid point `t`: rows `t`. -/
theorem idx : ∀ t : Fin cfg0.N, win0_0.index t = ![t.val, 0] ∧ win0_1.index t = ![t.val, 0]
    ∧ win0_2.index t = ![t.val, 0] ∧ win0_3.index t = ![t.val, 0] ∧ win0_4.index t = ![0, 0] :=
  (by decide +kernel : ∀ t : Fin grid0.N, _)

/-- The reference's gradient of the last hidden state. -/
abbrev DH (H T : FVec Ideal S4096x2048 .f32) : FVec Ideal S4096x2048 .f32 :=
  mulf (broadcastInDim Cert.Reference30Ideal.S4096x2048 ![0] Cert.Reference30Ideal.Gen.bcast_S4096_S4096x2048_0
      (Host.divf (broadcastInDim Cert.Reference30Ideal.S4096 ![] Cert.Reference30Ideal.Gen.bcast_S_S4096
          (mulf (constant Cert.Reference30Ideal.S_ .f32 0x3F000000#32) (constant Cert.Reference30Ideal.S_ .f32 0x3F800000#32)))
        (broadcastInDim Cert.Reference30Ideal.S4096 ![] Cert.Reference30Ideal.Gen.bcast_S_S4096 (constant Cert.Reference30Ideal.S_ .f32 0x45000000#32))))
    (mulf (broadcastInDim Cert.Reference30Ideal.S4096x2048 ![] Cert.Reference30Ideal.Gen.bcast_S_S4096x2048 (constant Cert.Reference30Ideal.S_ .f32 0x40000000#32)) (subf H T))

/-- The same, in the narrow format. -/
abbrev DHB (H T : FVec Ideal S4096x2048 .f32) : FVec Ideal S4096x2048 .bf16 :=
  truncf .bf16 (DH H T) Cert.Reference30Ideal.Gen.bitsLt_bf16_f32

/-- The reference's loss: half the sum over the rows of the mean of the squares. -/
abbrev LOSS (H T : FVec Ideal S4096x2048 .f32) : FVec Ideal S_ .f32 :=
  mulf (constant Cert.Reference30Ideal.S_ .f32 0x3F000000#32)
    (Host.reduceAdd (Host.divf
        (Host.reduceAdd (mulf (subf H T) (subf H T)) (constant Cert.Reference30Ideal.S_ .f32 0x00000000#32)
          Cert.Reference30Ideal.Gen.reducesTo_S4096x2048_S4096_d1 Cert.Reference30Ideal.Gen.h_S_)
        (broadcastInDim Cert.Reference30Ideal.S4096 ![] Cert.Reference30Ideal.Gen.bcast_S_S4096 (constant Cert.Reference30Ideal.S_ .f32 0x45000000#32)))
      (constant Cert.Reference30Ideal.S_ .f32 0x00000000#32) Cert.Reference30Ideal.Gen.reducesTo_S4096_S_d0 Cert.Reference30Ideal.Gen.h_S_)

/-- One square. -/
abbrev SQ (H T : FVec Ideal S4096x2048 .f32) (r : Fin 4096) (k : Fin 2048) : EReal :=
  (H (ix2 r k) - T (ix2 r k)) * (H (ix2 r k) - T (ix2 r k))

/-- The factor the kernel multiplies by is one part in 2048. -/
theorem lit_inv : Ideal.ofBits .f32 0x3A000000#32 = ((1 / 2048 : ℝ) : EReal) := by
  simp [Ideal.ofBits, Ideal.ieee, -EReal.coe_mul]; norm_num

/-- One half. -/
theorem lit_half : Ideal.ofBits .f32 0x3F000000#32 = ((1 / 2 : ℝ) : EReal) := by
  simp [Ideal.ofBits, Ideal.ieee, -EReal.coe_mul]; norm_num

/-- Two. -/
theorem lit_two : Ideal.ofBits .f32 0x40000000#32 = ((2 : ℝ) : EReal) := by
  simp [Ideal.ofBits, Ideal.ieee, -EReal.coe_mul]; norm_num

/-- The two scalings of an entry of the gradient are one. -/
theorem scale (e : EReal) : e * ((1 / 2048 : ℝ) : EReal)
    = Ideal.div ((1 / 2 : ℝ) : EReal) ((2048 : ℝ) : EReal) * (((2 : ℝ) : EReal) * e) := by
  rw [Ideal.div_coe (by norm_num), ← EReal.coe_mul, ← mul_assoc, ← EReal.coe_mul, mul_comm]
  norm_num

/-- An entry of the gradient the kernel computes, where its blocks hold the arrays' entries. -/
theorem pay_dh (H1 T1 : FVec Ideal S256x2048 .f32) (H T : FVec Ideal S4096x2048 .f32) (a : Fin 256) (b : Fin 2048) (r : Fin 4096)
    (hH : H1 (ix2 a b) = H (ix2 r b)) (hT : T1 (ix2 a b) = T (ix2 r b)) :
    k0_pay2 H1 T1 (ix2 a b) = DH H T (ix2 r b) := by
  pointwise [k0_pay2, k0_pay1, DH]
  simp only [hH, hT, lit_inv, lit_half, lit_two, RmsGrad.lit_2048, mul_one]
  exact scale _

/-- The same entry in the narrow format. -/
theorem pay_dhb (H1 T1 : FVec Ideal S256x2048 .f32) (H T : FVec Ideal S4096x2048 .f32) (a : Fin 256) (b : Fin 2048) (r : Fin 4096)
    (hH : H1 (ix2 a b) = H (ix2 r b)) (hT : T1 (ix2 a b) = T (ix2 r b)) :
    k0_pay4 H1 T1 (ix2 a b) = DHB H T (ix2 r b) := by
  pointwise [k0_pay4, k0_pay1, DHB, DH]
  simp only [hH, hT, lit_inv, lit_half, lit_two, RmsGrad.lit_2048, mul_one]
  exact scale _

/-- The sum of a block's squares. -/
theorem pay_sq (H1 T1 : FVec Ideal S256x2048 .f32) (j) : k0_pay3 (F := Ideal) H1 T1 j
    = ∑ a : Fin 256, ∑ k : Fin 2048, (H1 (ix2 a k) - T1 (ix2 a k)) * (H1 (ix2 a k) - T1 (ix2 a k)) := by
  pointwise [k0_pay3, k0_pay1]

/-- A later point's store is the sum of what is there and its block's squares. -/
theorem pay_acc (H1 T1 : FVec Ideal S256x2048 .f32) (acc : FVec Ideal S1x128 .f32) (j) :
    k0_pay5 (F := Ideal) H1 T1 acc j = acc j + k0_pay3 (F := Ideal) H1 T1 j := by
  unfold k0_pay5
  generalize k0_pay3 (F := Ideal) H1 T1 = P
  pointwise []

/-- The loss, off the sum of all the squares. -/
theorem loss_sum (H T : FVec Ideal S4096x2048 .f32) (j) : LOSS H T j
    = Ideal.div (((1 / 2 : ℝ) : EReal) * ∑ r : Fin 4096, ∑ k : Fin 2048, SQ H T r k) ((2048 : ℝ) : EReal) := by
  pointwise [LOSS]
  simp only [lit_half, RmsGrad.lit_2048, Ideal.div_coe (by norm_num : (2048 : ℝ) ≠ 0)]
  rw [mul_assoc, mul_comm _ ((1 / 2048 : ℝ) : EReal),
    RmsGrad.mul_sum Finset.univ (1 / 2048) (by norm_num) fun r : Fin 4096 => ∑ k : Fin 2048, SQ H T r k]
  exact congrArg (fun z : EReal => ((1 / 2 : ℝ) : EReal) * z) (Finset.sum_congr rfl fun r _ => mul_comm _ _)

/-- What a point stores in the first result's block. -/
theorem out2 (c : Dev nD) (t : Fin cfg0.N) :
    (outsAt0 m c t.val t.isLt).1 = k0_pay2 (iblk m c 0 t) (iblk m c 1 t) := by
  by_cases h : t.val % 16 = 0
  · have : t.val < 16 := lt_of_lt_of_eq t.isLt N_0
    rw [outsAt0_A m c t h (by omega)]; frame_out
  · rw [outsAt0_B m c t h (by omega)]; frame_out

/-- What it stores in the second result's block. -/
theorem out3 (c : Dev nD) (t : Fin cfg0.N) :
    (outsAt0 m c t.val t.isLt).2.1 = k0_pay4 (iblk m c 0 t) (iblk m c 1 t) := by
  by_cases h : t.val % 16 = 0
  · have : t.val < 16 := lt_of_lt_of_eq t.isLt N_0
    rw [outsAt0_A m c t h (by omega)]; frame_out
  · rw [outsAt0_B m c t h (by omega)]; frame_out

/-- What the first point stores in the block of the squares' sum. -/
theorem out4_first (c : Dev nD) (t : Fin cfg0.N) (h : t.val % 16 = 0) :
    (outsAt0 m c t.val t.isLt).2.2 = k0_pay3 (iblk m c 0 t) (iblk m c 1 t) := by
  have : t.val < 16 := lt_of_lt_of_eq t.isLt N_0
  rw [outsAt0_A m c t h (by omega)]; frame_out

/-- What a later point stores there. -/
theorem out4_step (c : Dev nD) (t : Fin cfg0.N) (h : ¬t.val % 16 = 0) :
    (outsAt0 m c t.val t.isLt).2.2 = k0_pay5 (iblk m c 0 t) (iblk m c 1 t)
      (outsAt0 m c (t.val - 1) (Nat.lt_of_le_of_lt (Nat.sub_le _ _) t.isLt)).2.2 := by
  rw [outsAt0_B m c t h (by omega)]; frame_out

/-- The array's row that row `r` of grid point `t`'s block is. -/
abbrev row (t : Fin cfg0.N) (r : Fin 256) : Fin 4096 :=
  ⟨t.val * 256 + r.val, by have : t.val < 16 := lt_of_lt_of_eq t.isLt N_0; omega⟩

/-- A staged block of the hidden state, at an index. -/
theorem blk_h (c : Dev nD) (t : Fin cfg0.N) (a : Fin 256) (k : Fin 2048) : iblk m c 0 t (ix2 a k)
    = ((m ((c : Thread nD τ).loc main_arg0)) : FVec Ideal S4096x2048 .f32) (ix2 (row t a) k) := by
  blk_point [iblk, V, idx t]

/-- A staged block of the target, at an index. -/
theorem blk_t (c : Dev nD) (t : Fin cfg0.N) (a : Fin 256) (k : Fin 2048) : iblk m c 1 t (ix2 a k)
    = ((m ((c : Thread nD τ).loc main_arg1)) : FVec Ideal S4096x2048 .f32) (ix2 (row t a) k) := by
  blk_point [iblk, V, idx t]

/-- The first result's block. -/
theorem point_dh (c : Dev nD) (t : Fin cfg0.N) (y : S256x2048.Idx) : (outsAt0 m c t.val t.isLt).1 y
    = DH (m ((c : Thread nD τ).loc main_arg0)) (m ((c : Thread nD τ).loc main_arg1)) (ix2 (row t (y 0)) (y 1)) := by
  have e : y = ix2 (y 0) (y 1) := by funext a; fin_cases a <;> rfl
  rw [out2 m c t]
  conv_lhs => rw [e]
  exact pay_dh _ _ _ _ _ _ _ (blk_h m c t (y 0) (y 1)) (blk_t m c t (y 0) (y 1))

/-- The second result's block. -/
theorem point_dhb (c : Dev nD) (t : Fin cfg0.N) (y : S256x2048.Idx) : (outsAt0 m c t.val t.isLt).2.1 y
    = DHB (m ((c : Thread nD τ).loc main_arg0)) (m ((c : Thread nD τ).loc main_arg1)) (ix2 (row t (y 0)) (y 1)) := by
  have e : y = ix2 (y 0) (y 1) := by funext a; fin_cases a <;> rfl
  rw [out3 m c t]
  conv_lhs => rw [e]
  exact pay_dhb _ _ _ _ _ _ _ (blk_h m c t (y 0) (y 1)) (blk_t m c t (y 0) (y 1))

/-- The sum of the squares point `p` adds. -/
abbrev part (c : Dev nD) (p : Fin 16) (j : S1x128.Idx) : EReal :=
  ∑ a : Fin 256, ∑ k : Fin 2048, SQ (m ((c : Thread nD τ).loc main_arg0)) (m ((c : Thread nD τ).loc main_arg1)) ⟨p.val * 256 + a.val, by omega⟩ k

/-- Point `p` is a grid point. -/
theorem point_lt (p : Nat) (h : p < 16) : p < cfg0.N := by
  have : cfg0.N = 16 := N_0
  omega

/-- What point `p` computes for the squares' sum. -/
theorem sq_blk (c : Dev nD) (p : Fin 16) (j : S1x128.Idx) :
    k0_pay3 (F := Ideal) (iblk m c 0 ⟨p.val, point_lt p.val p.isLt⟩) (iblk m c 1 ⟨p.val, point_lt p.val p.isLt⟩) j = part m c p j :=
  (pay_sq _ _ j).trans (Finset.sum_congr rfl fun a _ => Finset.sum_congr rfl fun k _ =>
    congrArg₂ (fun x y : EReal => (x - y) * (x - y)) (blk_h m c ⟨p.val, point_lt p.val p.isLt⟩ a k)
      (blk_t m c ⟨p.val, point_lt p.val p.isLt⟩ a k))

/-- The squares' block after point `n`. -/
def gacc (c : Dev nD) (n : Nat) (h : n < 16) : FVec Ideal S1x128 .f32 := (outsAt0 m c n (point_lt n h)).2.2

/-- After the first point it is that point's part. -/
theorem gacc_first (c : Dev nD) (p : Fin 16) (h : p.val = 0) (j : S1x128.Idx) :
    gacc m c p.val p.isLt j = 0 + part m c p j :=
  (congrFun (out4_first m c ⟨p.val, point_lt p.val p.isLt⟩ (by show p.val % 16 = 0; omega)) j).trans
    ((sq_blk m c p j).trans (zero_add _).symm)

/-- After a later point it is the sum of what the point before left and that point's part. -/
theorem gacc_step (c : Dev nD) (p : Fin 16) (h : ¬p.val = 0) (j : S1x128.Idx) :
    gacc m c p.val p.isLt j
      = gacc m c (p.val - 1) (Nat.lt_of_le_of_lt (Nat.sub_le _ _) p.isLt) j + part m c p j :=
  (congrFun (out4_step m c ⟨p.val, point_lt p.val p.isLt⟩ (by show ¬p.val % 16 = 0; omega)) j).trans
    ((pay_acc _ _ _ j).trans (congrArg₂ (· + ·) rfl (sq_blk m c p j)))

/-- After the last point it is the sum of every point's part. -/
theorem gacc_sum (c : Dev nD) (p : Fin 16) (hp : p.val + 1 = 16) (j : S1x128.Idx) :
    gacc m c p.val p.isLt j = 0 + ∑ p : Fin 16, part m c p j :=
  Pipeline.eq_sum_fin_of_reset_step_apply_last (gacc m c) 16 (fun _ => 0) (part m c)
    (fun t h i => gacc_first m c t (by omega) i) (fun t h i => gacc_step m c t (fun e => h (by rw [e])) i) (le_refl 16) p hp j

/-- The sum of all the squares, at every place of a block. -/
abbrev TOTAL (H T : FVec Ideal S4096x2048 .f32) : FVec Ideal S1x128 .f32 := fun _ => ∑ r : Fin 4096, ∑ k : Fin 2048, SQ H T r k

/-- The squares' block at the last point of the grid. -/
theorem point_sq (c : Dev nD) (t : Fin cfg0.N) (h : t.val % 16 = 15) (y : S1x128.Idx) : (outsAt0 m c t.val t.isLt).2.2 y
    = TOTAL (m ((c : Thread nD τ).loc main_arg0)) (m ((c : Thread nD τ).loc main_arg1)) y := by
  have hN : t.val < 16 := lt_of_lt_of_eq t.isLt N_0
  refine (gacc_sum m c ⟨t.val, hN⟩ (by show t.val + 1 = 16; omega) y).trans ?_
  rw [zero_add]
  exact Fin.sum_mul_add_congr fun s k hl => rfl

/-- The first result array after the call is the gradient. -/
theorem final_dh (c : Dev nD) : (dats m 0 c).arrAt 2 (cfgs 0).N = DH (m ((c : Thread nD τ).loc main_arg0)) (m ((c : Thread nD τ).loc main_arg1)) := by
  refine (dats m 0 c).arrAt_eq_of_covers 2 _ (by decide +kernel) fun t hf y => ?_
  blk_simp
  rw [after0_2, point_dh m c t]
  blk_ext [idx t]

/-- The second result array after the call is the gradient in the narrow format. -/
theorem final_dhb (c : Dev nD) : (dats m 0 c).arrAt 3 (cfgs 0).N = DHB (m ((c : Thread nD τ).loc main_arg0)) (m ((c : Thread nD τ).loc main_arg1)) := by
  refine (dats m 0 c).arrAt_eq_of_covers 3 _ (by decide +kernel) fun t hf y => ?_
  blk_simp
  rw [after0_3, point_dhb m c t]
  blk_ext [idx t]

/-- The third result array after the call is the sum of all the squares. -/
theorem final_sq (c : Dev nD) : (dats m 0 c).arrAt 4 (cfgs 0).N = TOTAL (m ((c : Thread nD τ).loc main_arg0)) (m ((c : Thread nD τ).loc main_arg1)) := by
  refine (dats m 0 c).arrAt_eq_of_covers 4 _ (by decide +kernel) fun t hf y => ?_
  blk_simp
  rw [after0_4, point_sq m c t ((flush0_4 t).mp hf)]

/-- What the host's last steps do to the squares' block: one entry of it, halved and divided. -/
abbrev TAIL (Q : FVec Ideal S1x128 .f32) : FVec Ideal S_ .f32 :=
  Host.divf (mulf (constant S_ .f32 0x3F000000#32) (shapeCast S_ (extractStridedSlice S1x1 ![0, 0]
    Q slices_S1x128_S1x1_0_0) shapeCasts_S1x1_S_)) (constant S_ .f32 0x45000000#32)

/-- The host's last steps, from any contents. -/
theorem tail (W : Valuation τ sig (Elt Ideal)) : StableHlo.after hostOps1 W (Proc.devRef .tc main_v4)
    = TAIL (W (Proc.devRef .tc main_v0_2)) := by
  simp only [hostOps1, StableHlo.after_cons, StableHlo.after_nil]
  after_results_simp
  rfl

/-- The loss the program ends with is the reference's. -/
theorem final_loss (c : Dev nD) : Pipeline.afterTail₀ cfgs (dats m) 0 (V0 m) [hostOps1] c main_v4 = LOSS (m ((c : Thread nD τ).loc main_arg0)) (m ((c : Thread nD τ).loc main_arg1)) := by
  have h := Pipeline.withArrays_arr (cfgs 0).spec (by decide) c (V0 m c) (fun w => (dats m 0 c).arrAt w (cfgs 0).N) 4
  rw [final_sq] at h
  refine (tail _).trans ?_
  rw [show Pipeline.withArrays (cfgs 0).spec c (V0 m c) (fun w => (dats m 0 c).arrAt w (cfgs 0).N) (Proc.devRef .tc main_v0_2) = _ from h]
  funext j
  rw [loss_sum]
  pointwise [TAIL, TOTAL]
  rw [lit_half, RmsGrad.lit_2048]

end Cert.Kernel30Ideal.Value

end
-- ==== Proof.ClaimLossHead.lean ====
/- The value claim of the loss and its gradient: its kernel and its reference end with equal results. -/
module

public import proofs.«01_k».proof.Defs
public import proofs.«01_k».proof.Proof.LossHead
public import Idealize.ShloMosaic.Lib.Claim

@[expose] public section

set_option maxRecDepth 16384

noncomputable section

namespace Cert.Proof

open Idealize.ShloMosaic Idealize.SL.Sem

/-- The loss and its gradient: over the extended reals the kernel computes what its reference computes. -/
theorem algebraic30 : Cert.algebraic_Kernel30Ideal_Reference30Ideal (hKernel30Ideal := Cert.Kernel30Ideal.Gen.facts)
    (hReference30Ideal := Cert.Reference30Ideal.Gen.facts) := by
  pair_intro
  · run_from Cert.Kernel30Ideal.Gen.run_main m g
  · hlo_run
    · exact (Cert.Kernel30Ideal.Value.final_dh m c).symm
    · exact (Cert.Kernel30Ideal.Value.final_dhb m c).symm
    · exact (Cert.Kernel30Ideal.Value.final_loss m c).symm

end Cert.Proof

end
-- ==== Proof.SumSmall.lean ====
/- The sum over the devices of the small weights' gradients (`Kernel31`): the result arrays of the call are the reference's
   sums. The call lays the seventeen arrays one behind the other, as rows of 128, adds them over the devices and takes them
   apart again. -/
module

public import proofs.«01_k».proof.Proof.Gen.Kernel31Ideal.Frame
public import proofs.«01_k».proof.Proof.Gen.Reference31Ideal
public import Idealize.ShloMosaic.Lib.Claim
public import Idealize.ShloMosaic.Lib.KernelVsHost
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel31Ideal.Value

open Cert.Kernel31Ideal Cert.Kernel31Ideal.Gen

variable (m : (ℓ : Loc nD τ sig) → Buf (Elt Ideal) ℓ)

/-- The block every window stages at grid point `t`: rows `t`. -/
theorem idx : ∀ t : Fin cfg0.N, win0_0.index t = ![0, t.val, 0] ∧ win0_1.index t = ![t.val, 0] :=
  (by decide +kernel : ∀ t : Fin grid0.N, _)

section Pack

variable (X0 : FVec Ideal S8x2x2048 .f32) (X1 : FVec Ideal S8x2x64x64 .f32) (X2 : FVec Ideal S8x2x64x64 .f32) (X3 : FVec Ideal S8x2x64 .f32)
  (X4 : FVec Ideal S8x2x64x64x16 .f32) (X5 : FVec Ideal S8x2x64x64x16 .f32) (X6 : FVec Ideal S8x2x64x16x64 .f32) (X7 : FVec Ideal S8x2x64x16x64 .f32)
  (X8 : FVec Ideal S8x2x64x16 .f32) (X9 : FVec Ideal S8x2x1024 .f32) (X10 : FVec Ideal S8x2x1024 .f32) (X11 : FVec Ideal S8x2x128 .f32)
  (X12 : FVec Ideal S8x2x2048 .f32) (X13 : FVec Ideal S8x2x64 .f32) (X14 : FVec Ideal S8x2x64 .f32) (X15 : FVec Ideal S8x2x32 .f32)
  (X16 : FVec Ideal S8x4x2048 .f32)

/-- The first sixteen arrays, each as one row per device. -/
abbrev PARTS : List ((s : Shape) × (s.Idx → EReal)) :=
  [⟨S8x4096, shapeCast S8x4096 X0 shapeCasts_S8x2x2048_S8x4096⟩,
    ⟨S8x8192, shapeCast S8x8192 X1 shapeCasts_S8x2x64x64_S8x8192⟩,
    ⟨S8x8192, shapeCast S8x8192 X2 shapeCasts_S8x2x64x64_S8x8192⟩,
    ⟨S8x128, shapeCast S8x128 X3 shapeCasts_S8x2x64_S8x128⟩,
    ⟨S8x131072, shapeCast S8x131072 X4 shapeCasts_S8x2x64x64x16_S8x131072⟩,
    ⟨S8x131072, shapeCast S8x131072 X5 shapeCasts_S8x2x64x64x16_S8x131072⟩,
    ⟨S8x131072, shapeCast S8x131072 X6 shapeCasts_S8x2x64x16x64_S8x131072⟩,
    ⟨S8x131072, shapeCast S8x131072 X7 shapeCasts_S8x2x64x16x64_S8x131072⟩,
    ⟨S8x2048, shapeCast S8x2048 X8 shapeCasts_S8x2x64x16_S8x2048⟩,
    ⟨S8x2048, shapeCast S8x2048 X9 shapeCasts_S8x2x1024_S8x2048⟩,
    ⟨S8x2048, shapeCast S8x2048 X10 shapeCasts_S8x2x1024_S8x2048⟩,
    ⟨S8x256, shapeCast S8x256 X11 shapeCasts_S8x2x128_S8x256⟩,
    ⟨S8x4096, shapeCast S8x4096 X12 shapeCasts_S8x2x2048_S8x4096⟩,
    ⟨S8x128, shapeCast S8x128 X13 shapeCasts_S8x2x64_S8x128⟩,
    ⟨S8x128, shapeCast S8x128 X14 shapeCasts_S8x2x64_S8x128⟩,
    ⟨S8x128, pad S8x128 ![0, 0] ![0, 64] ![0, 0] (shapeCast S8x64 X15 shapeCasts_S8x2x32_S8x64 : FVec Ideal S8x64 .f32) (constant S_ .f32 0x00000000#32 : FVec Ideal S_ .f32) pads_S8x64_S8x128_000_0640 h_S_⟩]

/-- The rows of the first sixteen arrays one behind the other. -/
abbrev CAT16 : FVec Ideal S8x555776 .f32 :=
  concatenate S8x555776 1 (PARTS X0 X1 X2 X3 X4 X5 X6 X7 X8 X9 X10 X11 X12 X13 X14 X15) concatenates_S8x4096_S8x8192_S8x8192_S8x128_S8x131072_S8x131072_S8x131072_S8x131072_S8x2048_S8x2048_S8x2048_S8x256_S8x4096_S8x128_S8x128_S8x128_S8x555776_d1

/-- The rows of the first sixteen arrays together and those of the last. -/
abbrev PARTS2 : List ((s : Shape) × (s.Idx → EReal)) :=
  [⟨S8x555776, CAT16 X0 X1 X2 X3 X4 X5 X6 X7 X8 X9 X10 X11 X12 X13 X14 X15⟩, ⟨S8x8192, shapeCast S8x8192 X16 shapeCasts_S8x4x2048_S8x8192⟩]

/-- The rows of all the arrays one behind the other. -/
abbrev CAT17 : FVec Ideal S8x563968 .f32 :=
  concatenate S8x563968 1 (PARTS2 X0 X1 X2 X3 X4 X5 X6 X7 X8 X9 X10 X11 X12 X13 X14 X15 X16) concatenates_S8x555776_S8x8192_S8x563968_d1

/-- The operand of the call: the rows filled up with zeros and cut into rows of 128. -/
abbrev PACK : FVec Ideal S8x4608x128 .f32 :=
  shapeCast S8x4608x128 (pad S8x589824 ![0, 0] ![0, 25856] ![0, 0] (CAT17 X0 X1 X2 X3 X4 X5 X6 X7 X8 X9 X10 X11 X12 X13 X14 X15 X16) (constant S_ .f32 0x00000000#32 : FVec Ideal S_ .f32) pads_S8x563968_S8x589824_000_0258560 h_S_ : FVec Ideal S8x589824 .f32) shapeCasts_S8x589824_S8x4608x128

end Pack

/-- The operand of the call, of the arguments. -/
abbrev PK (c : Dev nD) : FVec Ideal S8x4608x128 .f32 :=
  PACK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))

/-- The host's first steps, run on any contents. -/
theorem head_0 (W : Valuation τ sig (Elt Ideal)) : StableHlo.after hostOps0 W (Proc.devRef .tc main_v21)
    = PACK (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) := by
  simp only [hostOps0, StableHlo.after_cons, StableHlo.after_nil]
  after_results_simp
  rfl

/-- The operand when the call begins. -/
theorem entry_0 (c : Dev nD) : V m c (Pipeline.arrRef spec0 0) = PK m c :=
  (congrArg (fun l => StableHlo.after l (fun b => m (c, b)) (Proc.devRef .tc main_v21)) (List.append_nil hostOps0)).trans (head_0 _)

/-- The sum of the operand over the devices. -/
abbrev SUMP (X : FVec Ideal S8x4608x128 .f32) : FVec Ideal S4608x128 .f32 := fun j =>
  ((X (ix3 0 (j 0) (j 1)) : EReal) + X (ix3 1 (j 0) (j 1)) + X (ix3 2 (j 0) (j 1)) + X (ix3 3 (j 0) (j 1))
    + X (ix3 4 (j 0) (j 1)) + X (ix3 5 (j 0) (j 1)) + X (ix3 6 (j 0) (j 1)) + X (ix3 7 (j 0) (j 1)) : EReal)

/-- The index of the sum that block index `y` of grid point `t` stands for. -/
abbrev place (t : Fin cfg0.N) (y : S512x128.Idx) : S4608x128.Idx := ((cfg0.win 1).blk t).view.emb y

/-- A staged block of the operand, as a read of the operand. -/
theorem blk_0 (c : Dev nD) (t : Fin cfg0.N) (k : Fin 8) (y : S512x128.Idx) : iblk m c 0 t (ix3 k (y 0) (y 1) : S8x512x128.Idx)
    = PK m c (ix3 k (place t y 0) (place t y 1)) := by
  have e : ((cfg0.win 0).blk t).view.emb (ix3 k (y 0) (y 1) : S8x512x128.Idx)
      = (ix3 k (place t y 0) (place t y 1) : S8x4608x128.Idx) := by blk_ext [idx t, place]
  unfold iblk
  rw [View.read_apply, entry_0, cast_eq, e]

/-- Eight terms added from the left, term by term. -/
theorem add8 {a0 a1 a2 a3 a4 a5 a6 a7 b0 b1 b2 b3 b4 b5 b6 b7 : EReal} (h0 : a0 = b0) (h1 : a1 = b1) (h2 : a2 = b2)
    (h3 : a3 = b3) (h4 : a4 = b4) (h5 : a5 = b5) (h6 : a6 = b6) (h7 : a7 = b7) :
    a0 + a1 + a2 + a3 + a4 + a5 + a6 + a7 = b0 + b1 + b2 + b3 + b4 + b5 + b6 + b7 := by
  rw [h0, h1, h2, h3, h4, h5, h6, h7]

/-- The result array of the call is the sum of the operand over the devices. -/
theorem final_sum (c : Dev nD) : (dats m 0 c).arrAt 1 (cfgs 0).N = SUMP (PK m c) := by
  refine (dats m 0 c).arrAt_eq_of_covers 1 _ (by decide +kernel) fun t _ y => ?_
  blk_simp
  rw [after0_1]; frame_out
  pointwise [k0_pay1]
  exact add8 (blk_0 m c t 0 y) (blk_0 m c t 1 y) (blk_0 m c t 2 y) (blk_0 m c t 3 y) (blk_0 m c t 4 y) (blk_0 m c t 5 y)
    (blk_0 m c t 6 y) (blk_0 m c t 7 y)

/-- The call's result array, in the contents the host's last steps begin with. -/
theorem after_sum (c : Dev nD) : Pipeline.withArrays (cfgs 0).spec c (V0 m c) (fun w => (dats m 0 c).arrAt w (cfgs 0).N) (Proc.devRef .tc main_v22)
    = SUMP (PK m c) := by
  have h := Pipeline.withArrays_arr (cfgs 0).spec (by decide) c (V0 m c) (fun w => (dats m 0 c).arrAt w (cfgs 0).N) 1
  rw [final_sum] at h
  exact h

section Pack

variable (X0 : FVec Ideal S8x2x2048 .f32) (X1 : FVec Ideal S8x2x64x64 .f32) (X2 : FVec Ideal S8x2x64x64 .f32) (X3 : FVec Ideal S8x2x64 .f32)
  (X4 : FVec Ideal S8x2x64x64x16 .f32) (X5 : FVec Ideal S8x2x64x64x16 .f32) (X6 : FVec Ideal S8x2x64x16x64 .f32) (X7 : FVec Ideal S8x2x64x16x64 .f32)
  (X8 : FVec Ideal S8x2x64x16 .f32) (X9 : FVec Ideal S8x2x1024 .f32) (X10 : FVec Ideal S8x2x1024 .f32) (X11 : FVec Ideal S8x2x128 .f32)
  (X12 : FVec Ideal S8x2x2048 .f32) (X13 : FVec Ideal S8x2x64 .f32) (X14 : FVec Ideal S8x2x64 .f32) (X15 : FVec Ideal S8x2x32 .f32)
  (X16 : FVec Ideal S8x4x2048 .f32)

/-- The operand at an index: the rows at the same position. -/
theorem pack_flat (i : S8x4608x128.Idx) (p : Nat) (hp : p < 563968)
    (he : (i 1).val * 128 + (i 2).val = p) :
    PACK X0 X1 X2 X3 X4 X5 X6 X7 X8 X9 X10 X11 X12 X13 X14 X15 X16 i = CAT17 X0 X1 X2 X3 X4 X5 X6 X7 X8 X9 X10 X11 X12 X13 X14 X15 X16 (ix2 (⟨(i 0).val, (i 0).isLt⟩ : Fin 8) (⟨p, hp⟩ : Fin 563968)) := by
  refine (congrArg _ (Shape.reshapeEquiv_eq_of_rowMajor _ (y := (ix2 (⟨(i 0).val, (i 0).isLt⟩ : Fin 8) (⟨p, by omega⟩ : Fin 589824) : S8x589824.Idx)) ?_)).trans
    (pad_apply_of_inside _ _ _ _ _ _ _ _ _ fun a => ?_)
  · rw [Shape.rowMajor_val_two, Shape.rowMajor_val_three]
    show (i 0).val * 589824 + p = ((i 0).val * 4608 + (i 1).val) * 128 + (i 2).val
    omega
  · match a with
    | ⟨0, _⟩ => show (i 0).val = 0 + (i 0).val * (0 + 1); omega
    | ⟨1, _⟩ => show p = 0 + p * (0 + 1); omega

/-- How far an array reaches along a device's row. -/
abbrev ext (s : Shape) : Nat := if h : s.rank = 2 then s.size ((1 : Fin 2).cast h.symm) else 0

/-- The rows of all the arrays, before the seventeenth. -/
theorem cat_left (q : Fin 8) (p : Nat) (hp : p < 555776) :
    CAT17 X0 X1 X2 X3 X4 X5 X6 X7 X8 X9 X10 X11 X12 X13 X14 X15 X16 (ix2 q (⟨p, by omega⟩ : Fin 563968)) = CAT16 X0 X1 X2 X3 X4 X5 X6 X7 X8 X9 X10 X11 X12 X13 X14 X15 (ix2 q (⟨p, hp⟩ : Fin 555776)) := by
  refine concatenate_apply_piece (t := S8x563968) (1 : Fin 2) (PARTS2 X0 X1 X2 X3 X4 X5 X6 X7 X8 X9 X10 X11 X12 X13 X14 X15 X16) concatenates_S8x555776_S8x8192_S8x563968_d1 _ 0 (show 0 < 2 by omega) S8x555776 _ rfl rfl 0 rfl
    (ix2 q (⟨p, hp⟩ : Fin 555776)) (fun b hb => ?_) ?_
  · match b with
    | ⟨0, _⟩ => rfl
    | ⟨1, _⟩ => exact absurd rfl hb
  · show 0 + p = p
    omega

/-- The reach of what lies before array 0. -/
theorem pre_0 : (List.map ext []).sum = 0 := by decide +kernel

/-- Array 0: its place in the operand. -/
theorem pack_0 (i : S8x4608x128.Idx) (j : S8x2x2048.Idx)
    (h0 : (i 0).val = (j 0).val) (he : (i 1).val * 128 + (i 2).val = 0 + ((j 1).val * 2048 + (j 2).val)) :
    PACK X0 X1 X2 X3 X4 X5 X6 X7 X8 X9 X10 X11 X12 X13 X14 X15 X16 i = X0 j := by
  have b0 : (j 0).val < 8 := (j 0).isLt
  have b1 : (j 1).val < 2 := (j 1).isLt
  have b2 : (j 2).val < 2048 := (j 2).isLt
  refine (pack_flat X0 X1 X2 X3 X4 X5 X6 X7 X8 X9 X10 X11 X12 X13 X14 X15 X16 i _ (by omega) he).trans ?_
  refine (cat_left X0 X1 X2 X3 X4 X5 X6 X7 X8 X9 X10 X11 X12 X13 X14 X15 X16 _ _ (by omega)).trans ?_
  refine (concatenate_apply_piece (t := S8x555776) (1 : Fin 2) (PARTS X0 X1 X2 X3 X4 X5 X6 X7 X8 X9 X10 X11 X12 X13 X14 X15) concatenates_S8x4096_S8x8192_S8x8192_S8x128_S8x131072_S8x131072_S8x131072_S8x131072_S8x2048_S8x2048_S8x2048_S8x256_S8x4096_S8x128_S8x128_S8x128_S8x555776_d1 _ 0 (show 0 < 16 by omega) S8x4096 _ rfl rfl 0 pre_0
    (ix2 (⟨(j 0).val, (j 0).isLt⟩ : Fin 8) (⟨((j 1).val * 2048 + (j 2).val), by omega⟩ : Fin 4096)) (fun b hb => ?_) ?_).trans ?_
  · match b with
    | ⟨0, _⟩ => exact h0.symm
    | ⟨1, _⟩ => exact absurd rfl hb
  · rfl
  · refine congrArg X0 (Shape.reshapeEquiv_eq_of_rowMajor _ ?_)
    rw [Shape.rowMajor_val_three, Shape.rowMajor_val_two]
    show (((j 0).val * 2 + (j 1).val) * 2048 + (j 2).val) = (j 0).val * 4096 + ((j 1).val * 2048 + (j 2).val)
    omega

/-- The reach of what lies before array 1. -/
theorem pre_1 : (List.map ext [S8x4096]).sum = 4096 := by decide +kernel

/-- Array 1: its place in the operand. -/
theorem pack_1 (i : S8x4608x128.Idx) (j : S8x2x64x64.Idx)
    (h0 : (i 0).val = (j 0).val) (he : (i 1).val * 128 + (i 2).val = 4096 + (((j 1).val * 64 + (j 2).val) * 64 + (j 3).val)) :
    PACK X0 X1 X2 X3 X4 X5 X6 X7 X8 X9 X10 X11 X12 X13 X14 X15 X16 i = X1 j := by
  have b0 : (j 0).val < 8 := (j 0).isLt
  have b1 : (j 1).val < 2 := (j 1).isLt
  have b2 : (j 2).val < 64 := (j 2).isLt
  have b3 : (j 3).val < 64 := (j 3).isLt
  refine (pack_flat X0 X1 X2 X3 X4 X5 X6 X7 X8 X9 X10 X11 X12 X13 X14 X15 X16 i _ (by omega) he).trans ?_
  refine (cat_left X0 X1 X2 X3 X4 X5 X6 X7 X8 X9 X10 X11 X12 X13 X14 X15 X16 _ _ (by omega)).trans ?_
  refine (concatenate_apply_piece (t := S8x555776) (1 : Fin 2) (PARTS X0 X1 X2 X3 X4 X5 X6 X7 X8 X9 X10 X11 X12 X13 X14 X15) concatenates_S8x4096_S8x8192_S8x8192_S8x128_S8x131072_S8x131072_S8x131072_S8x131072_S8x2048_S8x2048_S8x2048_S8x256_S8x4096_S8x128_S8x128_S8x128_S8x555776_d1 _ 1 (show 1 < 16 by omega) S8x8192 _ rfl rfl 4096 pre_1
    (ix2 (⟨(j 0).val, (j 0).isLt⟩ : Fin 8) (⟨(((j 1).val * 64 + (j 2).val) * 64 + (j 3).val), by omega⟩ : Fin 8192)) (fun b hb => ?_) ?_).trans ?_
  · match b with
    | ⟨0, _⟩ => exact h0.symm
    | ⟨1, _⟩ => exact absurd rfl hb
  · rfl
  · refine congrArg X1 (Shape.reshapeEquiv_eq_of_rowMajor _ ?_)
    rw [Shape.rowMajor_val_four, Shape.rowMajor_val_two]
    show ((((j 0).val * 2 + (j 1).val) * 64 + (j 2).val) * 64 + (j 3).val) = (j 0).val * 8192 + (((j 1).val * 64 + (j 2).val) * 64 + (j 3).val)
    omega

/-- The reach of what lies before array 2. -/
theorem pre_2 : (List.map ext [S8x4096, S8x8192]).sum = 12288 := by decide +kernel

/-- Array 2: its place in the operand. -/
theorem pack_2 (i : S8x4608x128.Idx) (j : S8x2x64x64.Idx)
    (h0 : (i 0).val = (j 0).val) (he : (i 1).val * 128 + (i 2).val = 12288 + (((j 1).val * 64 + (j 2).val) * 64 + (j 3).val)) :
    PACK X0 X1 X2 X3 X4 X5 X6 X7 X8 X9 X10 X11 X12 X13 X14 X15 X16 i = X2 j := by
  have b0 : (j 0).val < 8 := (j 0).isLt
  have b1 : (j 1).val < 2 := (j 1).isLt
  have b2 : (j 2).val < 64 := (j 2).isLt
  have b3 : (j 3).val < 64 := (j 3).isLt
  refine (pack_flat X0 X1 X2 X3 X4 X5 X6 X7 X8 X9 X10 X11 X12 X13 X14 X15 X16 i _ (by omega) he).trans ?_
  refine (cat_left X0 X1 X2 X3 X4 X5 X6 X7 X8 X9 X10 X11 X12 X13 X14 X15 X16 _ _ (by omega)).trans ?_
  refine (concatenate_apply_piece (t := S8x555776) (1 : Fin 2) (PARTS X0 X1 X2 X3 X4 X5 X6 X7 X8 X9 X10 X11 X12 X13 X14 X15) concatenates_S8x4096_S8x8192_S8x8192_S8x128_S8x131072_S8x131072_S8x131072_S8x131072_S8x2048_S8x2048_S8x2048_S8x256_S8x4096_S8x128_S8x128_S8x128_S8x555776_d1 _ 2 (show 2 < 16 by omega) S8x8192 _ rfl rfl 12288 pre_2
    (ix2 (⟨(j 0).val, (j 0).isLt⟩ : Fin 8) (⟨(((j 1).val * 64 + (j 2).val) * 64 + (j 3).val), by omega⟩ : Fin 8192)) (fun b hb => ?_) ?_).trans ?_
  · match b with
    | ⟨0, _⟩ => exact h0.symm
    | ⟨1, _⟩ => exact absurd rfl hb
  · rfl
  · refine congrArg X2 (Shape.reshapeEquiv_eq_of_rowMajor _ ?_)
    rw [Shape.rowMajor_val_four, Shape.rowMajor_val_two]
    show ((((j 0).val * 2 + (j 1).val) * 64 + (j 2).val) * 64 + (j 3).val) = (j 0).val * 8192 + (((j 1).val * 64 + (j 2).val) * 64 + (j 3).val)
    omega

/-- The reach of what lies before array 3. -/
theorem pre_3 : (List.map ext [S8x4096, S8x8192, S8x8192]).sum = 20480 := by decide +kernel

/-- Array 3: its place in the operand. -/
theorem pack_3 (i : S8x4608x128.Idx) (j : S8x2x64.Idx)
    (h0 : (i 0).val = (j 0).val) (he : (i 1).val * 128 + (i 2).val = 20480 + ((j 1).val * 64 + (j 2).val)) :
    PACK X0 X1 X2 X3 X4 X5 X6 X7 X8 X9 X10 X11 X12 X13 X14 X15 X16 i = X3 j := by
  have b0 : (j 0).val < 8 := (j 0).isLt
  have b1 : (j 1).val < 2 := (j 1).isLt
  have b2 : (j 2).val < 64 := (j 2).isLt
  refine (pack_flat X0 X1 X2 X3 X4 X5 X6 X7 X8 X9 X10 X11 X12 X13 X14 X15 X16 i _ (by omega) he).trans ?_
  refine (cat_left X0 X1 X2 X3 X4 X5 X6 X7 X8 X9 X10 X11 X12 X13 X14 X15 X16 _ _ (by omega)).trans ?_
  refine (concatenate_apply_piece (t := S8x555776) (1 : Fin 2) (PARTS X0 X1 X2 X3 X4 X5 X6 X7 X8 X9 X10 X11 X12 X13 X14 X15) concatenates_S8x4096_S8x8192_S8x8192_S8x128_S8x131072_S8x131072_S8x131072_S8x131072_S8x2048_S8x2048_S8x2048_S8x256_S8x4096_S8x128_S8x128_S8x128_S8x555776_d1 _ 3 (show 3 < 16 by omega) S8x128 _ rfl rfl 20480 pre_3
    (ix2 (⟨(j 0).val, (j 0).isLt⟩ : Fin 8) (⟨((j 1).val * 64 + (j 2).val), by omega⟩ : Fin 128)) (fun b hb => ?_) ?_).trans ?_
  · match b with
    | ⟨0, _⟩ => exact h0.symm
    | ⟨1, _⟩ => exact absurd rfl hb
  · rfl
  · refine congrArg X3 (Shape.reshapeEquiv_eq_of_rowMajor _ ?_)
    rw [Shape.rowMajor_val_three, Shape.rowMajor_val_two]
    show (((j 0).val * 2 + (j 1).val) * 64 + (j 2).val) = (j 0).val * 128 + ((j 1).val * 64 + (j 2).val)
    omega

/-- The reach of what lies before array 4. -/
theorem pre_4 : (List.map ext [S8x4096, S8x8192, S8x8192, S8x128]).sum = 20608 := by decide +kernel

/-- Array 4: its place in the operand. -/
theorem pack_4 (i : S8x4608x128.Idx) (j : S8x2x64x64x16.Idx)
    (h0 : (i 0).val = (j 0).val) (he : (i 1).val * 128 + (i 2).val = 20608 + ((((j 1).val * 64 + (j 2).val) * 64 + (j 3).val) * 16 + (j 4).val)) :
    PACK X0 X1 X2 X3 X4 X5 X6 X7 X8 X9 X10 X11 X12 X13 X14 X15 X16 i = X4 j := by
  have b0 : (j 0).val < 8 := (j 0).isLt
  have b1 : (j 1).val < 2 := (j 1).isLt
  have b2 : (j 2).val < 64 := (j 2).isLt
  have b3 : (j 3).val < 64 := (j 3).isLt
  have b4 : (j 4).val < 16 := (j 4).isLt
  refine (pack_flat X0 X1 X2 X3 X4 X5 X6 X7 X8 X9 X10 X11 X12 X13 X14 X15 X16 i _ (by omega) he).trans ?_
  refine (cat_left X0 X1 X2 X3 X4 X5 X6 X7 X8 X9 X10 X11 X12 X13 X14 X15 X16 _ _ (by omega)).trans ?_
  refine (concatenate_apply_piece (t := S8x555776) (1 : Fin 2) (PARTS X0 X1 X2 X3 X4 X5 X6 X7 X8 X9 X10 X11 X12 X13 X14 X15) concatenates_S8x4096_S8x8192_S8x8192_S8x128_S8x131072_S8x131072_S8x131072_S8x131072_S8x2048_S8x2048_S8x2048_S8x256_S8x4096_S8x128_S8x128_S8x128_S8x555776_d1 _ 4 (show 4 < 16 by omega) S8x131072 _ rfl rfl 20608 pre_4
    (ix2 (⟨(j 0).val, (j 0).isLt⟩ : Fin 8) (⟨((((j 1).val * 64 + (j 2).val) * 64 + (j 3).val) * 16 + (j 4).val), by omega⟩ : Fin 131072)) (fun b hb => ?_) ?_).trans ?_
  · match b with
    | ⟨0, _⟩ => exact h0.symm
    | ⟨1, _⟩ => exact absurd rfl hb
  · rfl
  · refine congrArg X4 (Shape.reshapeEquiv_eq_of_rowMajor _ ?_)
    rw [Shape.rowMajor_val_five, Shape.rowMajor_val_two]
    show (((((j 0).val * 2 + (j 1).val) * 64 + (j 2).val) * 64 + (j 3).val) * 16 + (j 4).val) = (j 0).val * 131072 + ((((j 1).val * 64 + (j 2).val) * 64 + (j 3).val) * 16 + (j 4).val)
    omega

/-- The reach of what lies before array 5. -/
theorem pre_5 : (List.map ext [S8x4096, S8x8192, S8x8192, S8x128, S8x131072]).sum = 151680 := by decide +kernel

/-- Array 5: its place in the operand. -/
theorem pack_5 (i : S8x4608x128.Idx) (j : S8x2x64x64x16.Idx)
    (h0 : (i 0).val = (j 0).val) (he : (i 1).val * 128 + (i 2).val = 151680 + ((((j 1).val * 64 + (j 2).val) * 64 + (j 3).val) * 16 + (j 4).val)) :
    PACK X0 X1 X2 X3 X4 X5 X6 X7 X8 X9 X10 X11 X12 X13 X14 X15 X16 i = X5 j := by
  have b0 : (j 0).val < 8 := (j 0).isLt
  have b1 : (j 1).val < 2 := (j 1).isLt
  have b2 : (j 2).val < 64 := (j 2).isLt
  have b3 : (j 3).val < 64 := (j 3).isLt
  have b4 : (j 4).val < 16 := (j 4).isLt
  refine (pack_flat X0 X1 X2 X3 X4 X5 X6 X7 X8 X9 X10 X11 X12 X13 X14 X15 X16 i _ (by omega) he).trans ?_
  refine (cat_left X0 X1 X2 X3 X4 X5 X6 X7 X8 X9 X10 X11 X12 X13 X14 X15 X16 _ _ (by omega)).trans ?_
  refine (concatenate_apply_piece (t := S8x555776) (1 : Fin 2) (PARTS X0 X1 X2 X3 X4 X5 X6 X7 X8 X9 X10 X11 X12 X13 X14 X15) concatenates_S8x4096_S8x8192_S8x8192_S8x128_S8x131072_S8x131072_S8x131072_S8x131072_S8x2048_S8x2048_S8x2048_S8x256_S8x4096_S8x128_S8x128_S8x128_S8x555776_d1 _ 5 (show 5 < 16 by omega) S8x131072 _ rfl rfl 151680 pre_5
    (ix2 (⟨(j 0).val, (j 0).isLt⟩ : Fin 8) (⟨((((j 1).val * 64 + (j 2).val) * 64 + (j 3).val) * 16 + (j 4).val), by omega⟩ : Fin 131072)) (fun b hb => ?_) ?_).trans ?_
  · match b with
    | ⟨0, _⟩ => exact h0.symm
    | ⟨1, _⟩ => exact absurd rfl hb
  · rfl
  · refine congrArg X5 (Shape.reshapeEquiv_eq_of_rowMajor _ ?_)
    rw [Shape.rowMajor_val_five, Shape.rowMajor_val_two]
    show (((((j 0).val * 2 + (j 1).val) * 64 + (j 2).val) * 64 + (j 3).val) * 16 + (j 4).val) = (j 0).val * 131072 + ((((j 1).val * 64 + (j 2).val) * 64 + (j 3).val) * 16 + (j 4).val)
    omega

/-- The reach of what lies before array 6. -/
theorem pre_6 : (List.map ext [S8x4096, S8x8192, S8x8192, S8x128, S8x131072, S8x131072]).sum = 282752 := by decide +kernel

/-- Array 6: its place in the operand. -/
theorem pack_6 (i : S8x4608x128.Idx) (j : S8x2x64x16x64.Idx)
    (h0 : (i 0).val = (j 0).val) (he : (i 1).val * 128 + (i 2).val = 282752 + ((((j 1).val * 64 + (j 2).val) * 16 + (j 3).val) * 64 + (j 4).val)) :
    PACK X0 X1 X2 X3 X4 X5 X6 X7 X8 X9 X10 X11 X12 X13 X14 X15 X16 i = X6 j := by
  have b0 : (j 0).val < 8 := (j 0).isLt
  have b1 : (j 1).val < 2 := (j 1).isLt
  have b2 : (j 2).val < 64 := (j 2).isLt
  have b3 : (j 3).val < 16 := (j 3).isLt
  have b4 : (j 4).val < 64 := (j 4).isLt
  refine (pack_flat X0 X1 X2 X3 X4 X5 X6 X7 X8 X9 X10 X11 X12 X13 X14 X15 X16 i _ (by omega) he).trans ?_
  refine (cat_left X0 X1 X2 X3 X4 X5 X6 X7 X8 X9 X10 X11 X12 X13 X14 X15 X16 _ _ (by omega)).trans ?_
  refine (concatenate_apply_piece (t := S8x555776) (1 : Fin 2) (PARTS X0 X1 X2 X3 X4 X5 X6 X7 X8 X9 X10 X11 X12 X13 X14 X15) concatenates_S8x4096_S8x8192_S8x8192_S8x128_S8x131072_S8x131072_S8x131072_S8x131072_S8x2048_S8x2048_S8x2048_S8x256_S8x4096_S8x128_S8x128_S8x128_S8x555776_d1 _ 6 (show 6 < 16 by omega) S8x131072 _ rfl rfl 282752 pre_6
    (ix2 (⟨(j 0).val, (j 0).isLt⟩ : Fin 8) (⟨((((j 1).val * 64 + (j 2).val) * 16 + (j 3).val) * 64 + (j 4).val), by omega⟩ : Fin 131072)) (fun b hb => ?_) ?_).trans ?_
  · match b with
    | ⟨0, _⟩ => exact h0.symm
    | ⟨1, _⟩ => exact absurd rfl hb
  · rfl
  · refine congrArg X6 (Shape.reshapeEquiv_eq_of_rowMajor _ ?_)
    rw [Shape.rowMajor_val_five, Shape.rowMajor_val_two]
    show (((((j 0).val * 2 + (j 1).val) * 64 + (j 2).val) * 16 + (j 3).val) * 64 + (j 4).val) = (j 0).val * 131072 + ((((j 1).val * 64 + (j 2).val) * 16 + (j 3).val) * 64 + (j 4).val)
    omega

/-- The reach of what lies before array 7. -/
theorem pre_7 : (List.map ext [S8x4096, S8x8192, S8x8192, S8x128, S8x131072, S8x131072, S8x131072]).sum = 413824 := by decide +kernel

/-- Array 7: its place in the operand. -/
theorem pack_7 (i : S8x4608x128.Idx) (j : S8x2x64x16x64.Idx)
    (h0 : (i 0).val = (j 0).val) (he : (i 1).val * 128 + (i 2).val = 413824 + ((((j 1).val * 64 + (j 2).val) * 16 + (j 3).val) * 64 + (j 4).val)) :
    PACK X0 X1 X2 X3 X4 X5 X6 X7 X8 X9 X10 X11 X12 X13 X14 X15 X16 i = X7 j := by
  have b0 : (j 0).val < 8 := (j 0).isLt
  have b1 : (j 1).val < 2 := (j 1).isLt
  have b2 : (j 2).val < 64 := (j 2).isLt
  have b3 : (j 3).val < 16 := (j 3).isLt
  have b4 : (j 4).val < 64 := (j 4).isLt
  refine (pack_flat X0 X1 X2 X3 X4 X5 X6 X7 X8 X9 X10 X11 X12 X13 X14 X15 X16 i _ (by omega) he).trans ?_
  refine (cat_left X0 X1 X2 X3 X4 X5 X6 X7 X8 X9 X10 X11 X12 X13 X14 X15 X16 _ _ (by omega)).trans ?_
  refine (concatenate_apply_piece (t := S8x555776) (1 : Fin 2) (PARTS X0 X1 X2 X3 X4 X5 X6 X7 X8 X9 X10 X11 X12 X13 X14 X15) concatenates_S8x4096_S8x8192_S8x8192_S8x128_S8x131072_S8x131072_S8x131072_S8x131072_S8x2048_S8x2048_S8x2048_S8x256_S8x4096_S8x128_S8x128_S8x128_S8x555776_d1 _ 7 (show 7 < 16 by omega) S8x131072 _ rfl rfl 413824 pre_7
    (ix2 (⟨(j 0).val, (j 0).isLt⟩ : Fin 8) (⟨((((j 1).val * 64 + (j 2).val) * 16 + (j 3).val) * 64 + (j 4).val), by omega⟩ : Fin 131072)) (fun b hb => ?_) ?_).trans ?_
  · match b with
    | ⟨0, _⟩ => exact h0.symm
    | ⟨1, _⟩ => exact absurd rfl hb
  · rfl
  · refine congrArg X7 (Shape.reshapeEquiv_eq_of_rowMajor _ ?_)
    rw [Shape.rowMajor_val_five, Shape.rowMajor_val_two]
    show (((((j 0).val * 2 + (j 1).val) * 64 + (j 2).val) * 16 + (j 3).val) * 64 + (j 4).val) = (j 0).val * 131072 + ((((j 1).val * 64 + (j 2).val) * 16 + (j 3).val) * 64 + (j 4).val)
    omega

/-- The reach of what lies before array 8. -/
theorem pre_8 : (List.map ext [S8x4096, S8x8192, S8x8192, S8x128, S8x131072, S8x131072, S8x131072, S8x131072]).sum = 544896 := by decide +kernel

/-- Array 8: its place in the operand. -/
theorem pack_8 (i : S8x4608x128.Idx) (j : S8x2x64x16.Idx)
    (h0 : (i 0).val = (j 0).val) (he : (i 1).val * 128 + (i 2).val = 544896 + (((j 1).val * 64 + (j 2).val) * 16 + (j 3).val)) :
    PACK X0 X1 X2 X3 X4 X5 X6 X7 X8 X9 X10 X11 X12 X13 X14 X15 X16 i = X8 j := by
  have b0 : (j 0).val < 8 := (j 0).isLt
  have b1 : (j 1).val < 2 := (j 1).isLt
  have b2 : (j 2).val < 64 := (j 2).isLt
  have b3 : (j 3).val < 16 := (j 3).isLt
  refine (pack_flat X0 X1 X2 X3 X4 X5 X6 X7 X8 X9 X10 X11 X12 X13 X14 X15 X16 i _ (by omega) he).trans ?_
  refine (cat_left X0 X1 X2 X3 X4 X5 X6 X7 X8 X9 X10 X11 X12 X13 X14 X15 X16 _ _ (by omega)).trans ?_
  refine (concatenate_apply_piece (t := S8x555776) (1 : Fin 2) (PARTS X0 X1 X2 X3 X4 X5 X6 X7 X8 X9 X10 X11 X12 X13 X14 X15) concatenates_S8x4096_S8x8192_S8x8192_S8x128_S8x131072_S8x131072_S8x131072_S8x131072_S8x2048_S8x2048_S8x2048_S8x256_S8x4096_S8x128_S8x128_S8x128_S8x555776_d1 _ 8 (show 8 < 16 by omega) S8x2048 _ rfl rfl 544896 pre_8
    (ix2 (⟨(j 0).val, (j 0).isLt⟩ : Fin 8) (⟨(((j 1).val * 64 + (j 2).val) * 16 + (j 3).val), by omega⟩ : Fin 2048)) (fun b hb => ?_) ?_).trans ?_
  · match b with
    | ⟨0, _⟩ => exact h0.symm
    | ⟨1, _⟩ => exact absurd rfl hb
  · rfl
  · refine congrArg X8 (Shape.reshapeEquiv_eq_of_rowMajor _ ?_)
    rw [Shape.rowMajor_val_four, Shape.rowMajor_val_two]
    show ((((j 0).val * 2 + (j 1).val) * 64 + (j 2).val) * 16 + (j 3).val) = (j 0).val * 2048 + (((j 1).val * 64 + (j 2).val) * 16 + (j 3).val)
    omega

/-- The reach of what lies before array 9. -/
theorem pre_9 : (List.map ext [S8x4096, S8x8192, S8x8192, S8x128, S8x131072, S8x131072, S8x131072, S8x131072, S8x2048]).sum = 546944 := by decide +kernel

/-- Array 9: its place in the operand. -/
theorem pack_9 (i : S8x4608x128.Idx) (j : S8x2x1024.Idx)
    (h0 : (i 0).val = (j 0).val) (he : (i 1).val * 128 + (i 2).val = 546944 + ((j 1).val * 1024 + (j 2).val)) :
    PACK X0 X1 X2 X3 X4 X5 X6 X7 X8 X9 X10 X11 X12 X13 X14 X15 X16 i = X9 j := by
  have b0 : (j 0).val < 8 := (j 0).isLt
  have b1 : (j 1).val < 2 := (j 1).isLt
  have b2 : (j 2).val < 1024 := (j 2).isLt
  refine (pack_flat X0 X1 X2 X3 X4 X5 X6 X7 X8 X9 X10 X11 X12 X13 X14 X15 X16 i _ (by omega) he).trans ?_
  refine (cat_left X0 X1 X2 X3 X4 X5 X6 X7 X8 X9 X10 X11 X12 X13 X14 X15 X16 _ _ (by omega)).trans ?_
  refine (concatenate_apply_piece (t := S8x555776) (1 : Fin 2) (PARTS X0 X1 X2 X3 X4 X5 X6 X7 X8 X9 X10 X11 X12 X13 X14 X15) concatenates_S8x4096_S8x8192_S8x8192_S8x128_S8x131072_S8x131072_S8x131072_S8x131072_S8x2048_S8x2048_S8x2048_S8x256_S8x4096_S8x128_S8x128_S8x128_S8x555776_d1 _ 9 (show 9 < 16 by omega) S8x2048 _ rfl rfl 546944 pre_9
    (ix2 (⟨(j 0).val, (j 0).isLt⟩ : Fin 8) (⟨((j 1).val * 1024 + (j 2).val), by omega⟩ : Fin 2048)) (fun b hb => ?_) ?_).trans ?_
  · match b with
    | ⟨0, _⟩ => exact h0.symm
    | ⟨1, _⟩ => exact absurd rfl hb
  · rfl
  · refine congrArg X9 (Shape.reshapeEquiv_eq_of_rowMajor _ ?_)
    rw [Shape.rowMajor_val_three, Shape.rowMajor_val_two]
    show (((j 0).val * 2 + (j 1).val) * 1024 + (j 2).val) = (j 0).val * 2048 + ((j 1).val * 1024 + (j 2).val)
    omega

/-- The reach of what lies before array 10. -/
theorem pre_10 : (List.map ext [S8x4096, S8x8192, S8x8192, S8x128, S8x131072, S8x131072, S8x131072, S8x131072, S8x2048, S8x2048]).sum = 548992 := by decide +kernel

/-- Array 10: its place in the operand. -/
theorem pack_10 (i : S8x4608x128.Idx) (j : S8x2x1024.Idx)
    (h0 : (i 0).val = (j 0).val) (he : (i 1).val * 128 + (i 2).val = 548992 + ((j 1).val * 1024 + (j 2).val)) :
    PACK X0 X1 X2 X3 X4 X5 X6 X7 X8 X9 X10 X11 X12 X13 X14 X15 X16 i = X10 j := by
  have b0 : (j 0).val < 8 := (j 0).isLt
  have b1 : (j 1).val < 2 := (j 1).isLt
  have b2 : (j 2).val < 1024 := (j 2).isLt
  refine (pack_flat X0 X1 X2 X3 X4 X5 X6 X7 X8 X9 X10 X11 X12 X13 X14 X15 X16 i _ (by omega) he).trans ?_
  refine (cat_left X0 X1 X2 X3 X4 X5 X6 X7 X8 X9 X10 X11 X12 X13 X14 X15 X16 _ _ (by omega)).trans ?_
  refine (concatenate_apply_piece (t := S8x555776) (1 : Fin 2) (PARTS X0 X1 X2 X3 X4 X5 X6 X7 X8 X9 X10 X11 X12 X13 X14 X15) concatenates_S8x4096_S8x8192_S8x8192_S8x128_S8x131072_S8x131072_S8x131072_S8x131072_S8x2048_S8x2048_S8x2048_S8x256_S8x4096_S8x128_S8x128_S8x128_S8x555776_d1 _ 10 (show 10 < 16 by omega) S8x2048 _ rfl rfl 548992 pre_10
    (ix2 (⟨(j 0).val, (j 0).isLt⟩ : Fin 8) (⟨((j 1).val * 1024 + (j 2).val), by omega⟩ : Fin 2048)) (fun b hb => ?_) ?_).trans ?_
  · match b with
    | ⟨0, _⟩ => exact h0.symm
    | ⟨1, _⟩ => exact absurd rfl hb
  · rfl
  · refine congrArg X10 (Shape.reshapeEquiv_eq_of_rowMajor _ ?_)
    rw [Shape.rowMajor_val_three, Shape.rowMajor_val_two]
    show (((j 0).val * 2 + (j 1).val) * 1024 + (j 2).val) = (j 0).val * 2048 + ((j 1).val * 1024 + (j 2).val)
    omega

/-- The reach of what lies before array 11. -/
theorem pre_11 : (List.map ext [S8x4096, S8x8192, S8x8192, S8x128, S8x131072, S8x131072, S8x131072, S8x131072, S8x2048, S8x2048, S8x2048]).sum = 551040 := by decide +kernel

/-- Array 11: its place in the operand. -/
theorem pack_11 (i : S8x4608x128.Idx) (j : S8x2x128.Idx)
    (h0 : (i 0).val = (j 0).val) (he : (i 1).val * 128 + (i 2).val = 551040 + ((j 1).val * 128 + (j 2).val)) :
    PACK X0 X1 X2 X3 X4 X5 X6 X7 X8 X9 X10 X11 X12 X13 X14 X15 X16 i = X11 j := by
  have b0 : (j 0).val < 8 := (j 0).isLt
  have b1 : (j 1).val < 2 := (j 1).isLt
  have b2 : (j 2).val < 128 := (j 2).isLt
  refine (pack_flat X0 X1 X2 X3 X4 X5 X6 X7 X8 X9 X10 X11 X12 X13 X14 X15 X16 i _ (by omega) he).trans ?_
  refine (cat_left X0 X1 X2 X3 X4 X5 X6 X7 X8 X9 X10 X11 X12 X13 X14 X15 X16 _ _ (by omega)).trans ?_
  refine (concatenate_apply_piece (t := S8x555776) (1 : Fin 2) (PARTS X0 X1 X2 X3 X4 X5 X6 X7 X8 X9 X10 X11 X12 X13 X14 X15) concatenates_S8x4096_S8x8192_S8x8192_S8x128_S8x131072_S8x131072_S8x131072_S8x131072_S8x2048_S8x2048_S8x2048_S8x256_S8x4096_S8x128_S8x128_S8x128_S8x555776_d1 _ 11 (show 11 < 16 by omega) S8x256 _ rfl rfl 551040 pre_11
    (ix2 (⟨(j 0).val, (j 0).isLt⟩ : Fin 8) (⟨((j 1).val * 128 + (j 2).val), by omega⟩ : Fin 256)) (fun b hb => ?_) ?_).trans ?_
  · match b with
    | ⟨0, _⟩ => exact h0.symm
    | ⟨1, _⟩ => exact absurd rfl hb
  · rfl
  · refine congrArg X11 (Shape.reshapeEquiv_eq_of_rowMajor _ ?_)
    rw [Shape.rowMajor_val_three, Shape.rowMajor_val_two]
    show (((j 0).val * 2 + (j 1).val) * 128 + (j 2).val) = (j 0).val * 256 + ((j 1).val * 128 + (j 2).val)
    omega

/-- The reach of what lies before array 12. -/
theorem pre_12 : (List.map ext [S8x4096, S8x8192, S8x8192, S8x128, S8x131072, S8x131072, S8x131072, S8x131072, S8x2048, S8x2048, S8x2048, S8x256]).sum = 551296 := by decide +kernel

/-- Array 12: its place in the operand. -/
theorem pack_12 (i : S8x4608x128.Idx) (j : S8x2x2048.Idx)
    (h0 : (i 0).val = (j 0).val) (he : (i 1).val * 128 + (i 2).val = 551296 + ((j 1).val * 2048 + (j 2).val)) :
    PACK X0 X1 X2 X3 X4 X5 X6 X7 X8 X9 X10 X11 X12 X13 X14 X15 X16 i = X12 j := by
  have b0 : (j 0).val < 8 := (j 0).isLt
  have b1 : (j 1).val < 2 := (j 1).isLt
  have b2 : (j 2).val < 2048 := (j 2).isLt
  refine (pack_flat X0 X1 X2 X3 X4 X5 X6 X7 X8 X9 X10 X11 X12 X13 X14 X15 X16 i _ (by omega) he).trans ?_
  refine (cat_left X0 X1 X2 X3 X4 X5 X6 X7 X8 X9 X10 X11 X12 X13 X14 X15 X16 _ _ (by omega)).trans ?_
  refine (concatenate_apply_piece (t := S8x555776) (1 : Fin 2) (PARTS X0 X1 X2 X3 X4 X5 X6 X7 X8 X9 X10 X11 X12 X13 X14 X15) concatenates_S8x4096_S8x8192_S8x8192_S8x128_S8x131072_S8x131072_S8x131072_S8x131072_S8x2048_S8x2048_S8x2048_S8x256_S8x4096_S8x128_S8x128_S8x128_S8x555776_d1 _ 12 (show 12 < 16 by omega) S8x4096 _ rfl rfl 551296 pre_12
    (ix2 (⟨(j 0).val, (j 0).isLt⟩ : Fin 8) (⟨((j 1).val * 2048 + (j 2).val), by omega⟩ : Fin 4096)) (fun b hb => ?_) ?_).trans ?_
  · match b with
    | ⟨0, _⟩ => exact h0.symm
    | ⟨1, _⟩ => exact absurd rfl hb
  · rfl
  · refine congrArg X12 (Shape.reshapeEquiv_eq_of_rowMajor _ ?_)
    rw [Shape.rowMajor_val_three, Shape.rowMajor_val_two]
    show (((j 0).val * 2 + (j 1).val) * 2048 + (j 2).val) = (j 0).val * 4096 + ((j 1).val * 2048 + (j 2).val)
    omega

/-- The reach of what lies before array 13. -/
theorem pre_13 : (List.map ext [S8x4096, S8x8192, S8x8192, S8x128, S8x131072, S8x131072, S8x131072, S8x131072, S8x2048, S8x2048, S8x2048, S8x256, S8x4096]).sum = 555392 := by decide +kernel

/-- Array 13: its place in the operand. -/
theorem pack_13 (i : S8x4608x128.Idx) (j : S8x2x64.Idx)
    (h0 : (i 0).val = (j 0).val) (he : (i 1).val * 128 + (i 2).val = 555392 + ((j 1).val * 64 + (j 2).val)) :
    PACK X0 X1 X2 X3 X4 X5 X6 X7 X8 X9 X10 X11 X12 X13 X14 X15 X16 i = X13 j := by
  have b0 : (j 0).val < 8 := (j 0).isLt
  have b1 : (j 1).val < 2 := (j 1).isLt
  have b2 : (j 2).val < 64 := (j 2).isLt
  refine (pack_flat X0 X1 X2 X3 X4 X5 X6 X7 X8 X9 X10 X11 X12 X13 X14 X15 X16 i _ (by omega) he).trans ?_
  refine (cat_left X0 X1 X2 X3 X4 X5 X6 X7 X8 X9 X10 X11 X12 X13 X14 X15 X16 _ _ (by omega)).trans ?_
  refine (concatenate_apply_piece (t := S8x555776) (1 : Fin 2) (PARTS X0 X1 X2 X3 X4 X5 X6 X7 X8 X9 X10 X11 X12 X13 X14 X15) concatenates_S8x4096_S8x8192_S8x8192_S8x128_S8x131072_S8x131072_S8x131072_S8x131072_S8x2048_S8x2048_S8x2048_S8x256_S8x4096_S8x128_S8x128_S8x128_S8x555776_d1 _ 13 (show 13 < 16 by omega) S8x128 _ rfl rfl 555392 pre_13
    (ix2 (⟨(j 0).val, (j 0).isLt⟩ : Fin 8) (⟨((j 1).val * 64 + (j 2).val), by omega⟩ : Fin 128)) (fun b hb => ?_) ?_).trans ?_
  · match b with
    | ⟨0, _⟩ => exact h0.symm
    | ⟨1, _⟩ => exact absurd rfl hb
  · rfl
  · refine congrArg X13 (Shape.reshapeEquiv_eq_of_rowMajor _ ?_)
    rw [Shape.rowMajor_val_three, Shape.rowMajor_val_two]
    show (((j 0).val * 2 + (j 1).val) * 64 + (j 2).val) = (j 0).val * 128 + ((j 1).val * 64 + (j 2).val)
    omega

/-- The reach of what lies before array 14. -/
theorem pre_14 : (List.map ext [S8x4096, S8x8192, S8x8192, S8x128, S8x131072, S8x131072, S8x131072, S8x131072, S8x2048, S8x2048, S8x2048, S8x256, S8x4096, S8x128]).sum = 555520 := by decide +kernel

/-- Array 14: its place in the operand. -/
theorem pack_14 (i : S8x4608x128.Idx) (j : S8x2x64.Idx)
    (h0 : (i 0).val = (j 0).val) (he : (i 1).val * 128 + (i 2).val = 555520 + ((j 1).val * 64 + (j 2).val)) :
    PACK X0 X1 X2 X3 X4 X5 X6 X7 X8 X9 X10 X11 X12 X13 X14 X15 X16 i = X14 j := by
  have b0 : (j 0).val < 8 := (j 0).isLt
  have b1 : (j 1).val < 2 := (j 1).isLt
  have b2 : (j 2).val < 64 := (j 2).isLt
  refine (pack_flat X0 X1 X2 X3 X4 X5 X6 X7 X8 X9 X10 X11 X12 X13 X14 X15 X16 i _ (by omega) he).trans ?_
  refine (cat_left X0 X1 X2 X3 X4 X5 X6 X7 X8 X9 X10 X11 X12 X13 X14 X15 X16 _ _ (by omega)).trans ?_
  refine (concatenate_apply_piece (t := S8x555776) (1 : Fin 2) (PARTS X0 X1 X2 X3 X4 X5 X6 X7 X8 X9 X10 X11 X12 X13 X14 X15) concatenates_S8x4096_S8x8192_S8x8192_S8x128_S8x131072_S8x131072_S8x131072_S8x131072_S8x2048_S8x2048_S8x2048_S8x256_S8x4096_S8x128_S8x128_S8x128_S8x555776_d1 _ 14 (show 14 < 16 by omega) S8x128 _ rfl rfl 555520 pre_14
    (ix2 (⟨(j 0).val, (j 0).isLt⟩ : Fin 8) (⟨((j 1).val * 64 + (j 2).val), by omega⟩ : Fin 128)) (fun b hb => ?_) ?_).trans ?_
  · match b with
    | ⟨0, _⟩ => exact h0.symm
    | ⟨1, _⟩ => exact absurd rfl hb
  · rfl
  · refine congrArg X14 (Shape.reshapeEquiv_eq_of_rowMajor _ ?_)
    rw [Shape.rowMajor_val_three, Shape.rowMajor_val_two]
    show (((j 0).val * 2 + (j 1).val) * 64 + (j 2).val) = (j 0).val * 128 + ((j 1).val * 64 + (j 2).val)
    omega

/-- The reach of what lies before array 15. -/
theorem pre_15 : (List.map ext [S8x4096, S8x8192, S8x8192, S8x128, S8x131072, S8x131072, S8x131072, S8x131072, S8x2048, S8x2048, S8x2048, S8x256, S8x4096, S8x128, S8x128]).sum = 555648 := by decide +kernel

/-- Array 15: its place in the operand. -/
theorem pack_15 (i : S8x4608x128.Idx) (j : S8x2x32.Idx)
    (h0 : (i 0).val = (j 0).val) (he : (i 1).val * 128 + (i 2).val = 555648 + ((j 1).val * 32 + (j 2).val)) :
    PACK X0 X1 X2 X3 X4 X5 X6 X7 X8 X9 X10 X11 X12 X13 X14 X15 X16 i = X15 j := by
  have b0 : (j 0).val < 8 := (j 0).isLt
  have b1 : (j 1).val < 2 := (j 1).isLt
  have b2 : (j 2).val < 32 := (j 2).isLt
  refine (pack_flat X0 X1 X2 X3 X4 X5 X6 X7 X8 X9 X10 X11 X12 X13 X14 X15 X16 i _ (by omega) he).trans ?_
  refine (cat_left X0 X1 X2 X3 X4 X5 X6 X7 X8 X9 X10 X11 X12 X13 X14 X15 X16 _ _ (by omega)).trans ?_
  refine (concatenate_apply_piece (t := S8x555776) (1 : Fin 2) (PARTS X0 X1 X2 X3 X4 X5 X6 X7 X8 X9 X10 X11 X12 X13 X14 X15) concatenates_S8x4096_S8x8192_S8x8192_S8x128_S8x131072_S8x131072_S8x131072_S8x131072_S8x2048_S8x2048_S8x2048_S8x256_S8x4096_S8x128_S8x128_S8x128_S8x555776_d1 _ 15 (show 15 < 16 by omega) S8x128 _ rfl rfl 555648 pre_15
    (ix2 (⟨(j 0).val, (j 0).isLt⟩ : Fin 8) (⟨((j 1).val * 32 + (j 2).val), by omega⟩ : Fin 128)) (fun b hb => ?_) ?_).trans ?_
  · match b with
    | ⟨0, _⟩ => exact h0.symm
    | ⟨1, _⟩ => exact absurd rfl hb
  · rfl
  · refine (pad_apply_of_inside _ _ _ _ _ _ _ _ (ix2 (⟨(j 0).val, (j 0).isLt⟩ : Fin 8) (⟨((j 1).val * 32 + (j 2).val), by omega⟩ : Fin 64) : S8x64.Idx) fun a => ?_).trans
      (congrArg X15 (Shape.reshapeEquiv_eq_of_rowMajor _ ?_))
    · match a with
      | ⟨0, _⟩ => show (j 0).val = 0 + (j 0).val * (0 + 1); omega
      | ⟨1, _⟩ => show ((j 1).val * 32 + (j 2).val) = 0 + ((j 1).val * 32 + (j 2).val) * (0 + 1); omega
    · rw [Shape.rowMajor_val_three, Shape.rowMajor_val_two]
      show (((j 0).val * 2 + (j 1).val) * 32 + (j 2).val) = (j 0).val * 64 + ((j 1).val * 32 + (j 2).val)
      omega

/-- The reach of what lies before array 16. -/
theorem pre_16 : (List.map ext [S8x555776]).sum = 555776 := by decide +kernel

/-- Array 16: its place in the operand. -/
theorem pack_16 (i : S8x4608x128.Idx) (j : S8x4x2048.Idx)
    (h0 : (i 0).val = (j 0).val) (he : (i 1).val * 128 + (i 2).val = 555776 + ((j 1).val * 2048 + (j 2).val)) :
    PACK X0 X1 X2 X3 X4 X5 X6 X7 X8 X9 X10 X11 X12 X13 X14 X15 X16 i = X16 j := by
  have b0 : (j 0).val < 8 := (j 0).isLt
  have b1 : (j 1).val < 4 := (j 1).isLt
  have b2 : (j 2).val < 2048 := (j 2).isLt
  refine (pack_flat X0 X1 X2 X3 X4 X5 X6 X7 X8 X9 X10 X11 X12 X13 X14 X15 X16 i _ (by omega) he).trans ?_
  refine (concatenate_apply_piece (t := S8x563968) (1 : Fin 2) (PARTS2 X0 X1 X2 X3 X4 X5 X6 X7 X8 X9 X10 X11 X12 X13 X14 X15 X16) concatenates_S8x555776_S8x8192_S8x563968_d1 _ 1 (show 1 < 2 by omega) S8x8192 _ rfl rfl 555776 pre_16
    (ix2 (⟨(j 0).val, (j 0).isLt⟩ : Fin 8) (⟨((j 1).val * 2048 + (j 2).val), by omega⟩ : Fin 8192)) (fun b hb => ?_) ?_).trans ?_
  · match b with
    | ⟨0, _⟩ => exact h0.symm
    | ⟨1, _⟩ => exact absurd rfl hb
  · rfl
  · refine congrArg X16 (Shape.reshapeEquiv_eq_of_rowMajor _ ?_)
    rw [Shape.rowMajor_val_three, Shape.rowMajor_val_two]
    show (((j 0).val * 4 + (j 1).val) * 2048 + (j 2).val) = (j 0).val * 8192 + ((j 1).val * 2048 + (j 2).val)
    omega

end Pack

/-- The host's last steps for one array: the sums from an offset on, in the array's shape. -/
abbrev TAIL {n : Nat} {s : Shape} (o : Nat) (hs : S589824.Slices ![o] (⟨1, ![n]⟩ : Shape)) (hc : (⟨1, ![n]⟩ : Shape).ShapeCasts s)
    (X : FVec Ideal S4608x128 .f32) : FVec Ideal s .f32 :=
  shapeCast s (extractStridedSlice (⟨1, ![n]⟩ : Shape) ![o] (shapeCast S589824 X shapeCasts_S4608x128_S589824 : FVec Ideal S589824 .f32) hs : FVec Ideal (⟨1, ![n]⟩ : Shape) .f32) hc

/-- The index of the sums that the host's last steps read: the offset and the array's own row-major position. -/
theorem read {n : Nat} {s : Shape} (o : Nat) (hs : S589824.Slices ![o] (⟨1, ![n]⟩ : Shape)) (hc : (⟨1, ![n]⟩ : Shape).ShapeCasts s)
    (X : FVec Ideal S4608x128 .f32) (j : s.Idx) (p : Nat) (hp : (s.rowMajor j).val = p) :
    ∃ i : S4608x128.Idx, (i 0).val * 128 + (i 1).val = o + p ∧ TAIL o hs hc X j = X i := by
  have h2 := Shape.rowMajor_reshapeEquiv hc j
  rw [Shape.rowMajor_val_one, hp] at h2
  have hb : o + n ≤ 589824 := hs.2 0
  have hl : _ < n := (Shape.reshapeEquiv hc j 0).isLt
  have h1 := Shape.rowMajor_reshapeEquiv shapeCasts_S4608x128_S589824 (ix1 (⟨o + p, by omega⟩ : Fin 589824) : S589824.Idx)
  rw [Shape.rowMajor_val_one, Shape.rowMajor_val_two] at h1
  refine ⟨_, h1, extractStridedSlice_apply _ _ _ _ _ fun a => ?_⟩
  match a with
  | ⟨0, _⟩ => exact congrArg (fun z : Nat => o + z) h2.symm

/-- The reference's sum of array 0. -/
abbrev SUM_0 (X : FVec Ideal S8x2x2048 .f32) : FVec Ideal S2x2048 .f32 :=
  Host.reduceAdd X (constant Cert.Reference31Ideal.S_ .f32 0x00000000#32) Cert.Reference31Ideal.Gen.reducesTo_S8x2x2048_S2x2048_d0 Cert.Reference31Ideal.Gen.h_S_

/-- Array 0: the host's last steps read the reference's sum. -/
theorem unpack_0 (P : FVec Ideal S8x4608x128 .f32) (X : FVec Ideal S8x2x2048 .f32)
    (h : ∀ (i : S8x4608x128.Idx) (j : S8x2x2048.Idx), (i 0).val = (j 0).val → (i 1).val * 128 + (i 2).val = 0 + ((j 1).val * 2048 + (j 2).val) → P i = X j) :
    TAIL 0 slices_S589824_S4096_0 shapeCasts_S4096_S2x2048 (SUMP P) = SUM_0 X := by
  funext j
  obtain ⟨i, hi, e⟩ := read 0 slices_S589824_S4096_0 shapeCasts_S4096_S2x2048 (SUMP P) j _ (Shape.rowMajor_val_two j)
  refine e.trans ?_
  pointwise [SUM_0]
  simp only [Fin.sum_univ_eight]
  exact add8 (h _ _ rfl hi) (h _ _ rfl hi) (h _ _ rfl hi) (h _ _ rfl hi) (h _ _ rfl hi) (h _ _ rfl hi) (h _ _ rfl hi) (h _ _ rfl hi)

/-- The host's last steps for array 0, run on any contents. -/
theorem tail_0 (W : Valuation τ sig (Elt Ideal)) : StableHlo.after hostOps1 W (Proc.devRef .tc main_v25)
    = TAIL 0 slices_S589824_S4096_0 shapeCasts_S4096_S2x2048 (W (Proc.devRef .tc main_v22)) := by
  simp only [hostOps1, StableHlo.after_cons, StableHlo.after_nil]
  after_results_simp
  rfl

/-- Array 0: the result array after the call is the reference's. -/
theorem final_0 (c : Dev nD) : Pipeline.afterTail₀ cfgs (dats m) 0 (V0 m) [hostOps1] c main_v25 = SUM_0 (m ((c : Thread nD τ).loc main_arg0)) := by
  refine (tail_0 _).trans ?_
  rw [after_sum]
  exact unpack_0 _ _ (pack_0 _ _ _ _ _ _ _ _ _ _ _ _ _ _ _ _ _)

/-- The reference's sum of array 1. -/
abbrev SUM_1 (X : FVec Ideal S8x2x64x64 .f32) : FVec Ideal S2x64x64 .f32 :=
  Host.reduceAdd X (constant Cert.Reference31Ideal.S_ .f32 0x00000000#32) Cert.Reference31Ideal.Gen.reducesTo_S8x2x64x64_S2x64x64_d0 Cert.Reference31Ideal.Gen.h_S_

/-- Array 1: the host's last steps read the reference's sum. -/
theorem unpack_1 (P : FVec Ideal S8x4608x128 .f32) (X : FVec Ideal S8x2x64x64 .f32)
    (h : ∀ (i : S8x4608x128.Idx) (j : S8x2x64x64.Idx), (i 0).val = (j 0).val → (i 1).val * 128 + (i 2).val = 4096 + (((j 1).val * 64 + (j 2).val) * 64 + (j 3).val) → P i = X j) :
    TAIL 4096 slices_S589824_S8192_4096 shapeCasts_S8192_S2x64x64 (SUMP P) = SUM_1 X := by
  funext j
  obtain ⟨i, hi, e⟩ := read 4096 slices_S589824_S8192_4096 shapeCasts_S8192_S2x64x64 (SUMP P) j _ (Shape.rowMajor_val_three j)
  refine e.trans ?_
  pointwise [SUM_1]
  simp only [Fin.sum_univ_eight]
  exact add8 (h _ _ rfl hi) (h _ _ rfl hi) (h _ _ rfl hi) (h _ _ rfl hi) (h _ _ rfl hi) (h _ _ rfl hi) (h _ _ rfl hi) (h _ _ rfl hi)

/-- The host's last steps for array 1, run on any contents. -/
theorem tail_1 (W : Valuation τ sig (Elt Ideal)) : StableHlo.after hostOps1 W (Proc.devRef .tc main_v27)
    = TAIL 4096 slices_S589824_S8192_4096 shapeCasts_S8192_S2x64x64 (W (Proc.devRef .tc main_v22)) := by
  simp only [hostOps1, StableHlo.after_cons, StableHlo.after_nil]
  after_results_simp
  rfl

/-- Array 1: the result array after the call is the reference's. -/
theorem final_1 (c : Dev nD) : Pipeline.afterTail₀ cfgs (dats m) 0 (V0 m) [hostOps1] c main_v27 = SUM_1 (m ((c : Thread nD τ).loc main_arg1)) := by
  refine (tail_1 _).trans ?_
  rw [after_sum]
  exact unpack_1 _ _ (pack_1 _ _ _ _ _ _ _ _ _ _ _ _ _ _ _ _ _)

/-- The reference's sum of array 2. -/
abbrev SUM_2 (X : FVec Ideal S8x2x64x64 .f32) : FVec Ideal S2x64x64 .f32 :=
  Host.reduceAdd X (constant Cert.Reference31Ideal.S_ .f32 0x00000000#32) Cert.Reference31Ideal.Gen.reducesTo_S8x2x64x64_S2x64x64_d0 Cert.Reference31Ideal.Gen.h_S_

/-- Array 2: the host's last steps read the reference's sum. -/
theorem unpack_2 (P : FVec Ideal S8x4608x128 .f32) (X : FVec Ideal S8x2x64x64 .f32)
    (h : ∀ (i : S8x4608x128.Idx) (j : S8x2x64x64.Idx), (i 0).val = (j 0).val → (i 1).val * 128 + (i 2).val = 12288 + (((j 1).val * 64 + (j 2).val) * 64 + (j 3).val) → P i = X j) :
    TAIL 12288 slices_S589824_S8192_12288 shapeCasts_S8192_S2x64x64 (SUMP P) = SUM_2 X := by
  funext j
  obtain ⟨i, hi, e⟩ := read 12288 slices_S589824_S8192_12288 shapeCasts_S8192_S2x64x64 (SUMP P) j _ (Shape.rowMajor_val_three j)
  refine e.trans ?_
  pointwise [SUM_2]
  simp only [Fin.sum_univ_eight]
  exact add8 (h _ _ rfl hi) (h _ _ rfl hi) (h _ _ rfl hi) (h _ _ rfl hi) (h _ _ rfl hi) (h _ _ rfl hi) (h _ _ rfl hi) (h _ _ rfl hi)

/-- The host's last steps for array 2, run on any contents. -/
theorem tail_2 (W : Valuation τ sig (Elt Ideal)) : StableHlo.after hostOps1 W (Proc.devRef .tc main_v29)
    = TAIL 12288 slices_S589824_S8192_12288 shapeCasts_S8192_S2x64x64 (W (Proc.devRef .tc main_v22)) := by
  simp only [hostOps1, StableHlo.after_cons, StableHlo.after_nil]
  after_results_simp
  rfl

/-- Array 2: the result array after the call is the reference's. -/
theorem final_2 (c : Dev nD) : Pipeline.afterTail₀ cfgs (dats m) 0 (V0 m) [hostOps1] c main_v29 = SUM_2 (m ((c : Thread nD τ).loc main_arg2)) := by
  refine (tail_2 _).trans ?_
  rw [after_sum]
  exact unpack_2 _ _ (pack_2 _ _ _ _ _ _ _ _ _ _ _ _ _ _ _ _ _)

/-- The reference's sum of array 3. -/
abbrev SUM_3 (X : FVec Ideal S8x2x64 .f32) : FVec Ideal S2x64 .f32 :=
  Host.reduceAdd X (constant Cert.Reference31Ideal.S_ .f32 0x00000000#32) Cert.Reference31Ideal.Gen.reducesTo_S8x2x64_S2x64_d0 Cert.Reference31Ideal.Gen.h_S_

/-- Array 3: the host's last steps read the reference's sum. -/
theorem unpack_3 (P : FVec Ideal S8x4608x128 .f32) (X : FVec Ideal S8x2x64 .f32)
    (h : ∀ (i : S8x4608x128.Idx) (j : S8x2x64.Idx), (i 0).val = (j 0).val → (i 1).val * 128 + (i 2).val = 20480 + ((j 1).val * 64 + (j 2).val) → P i = X j) :
    TAIL 20480 slices_S589824_S128_20480 shapeCasts_S128_S2x64 (SUMP P) = SUM_3 X := by
  funext j
  obtain ⟨i, hi, e⟩ := read 20480 slices_S589824_S128_20480 shapeCasts_S128_S2x64 (SUMP P) j _ (Shape.rowMajor_val_two j)
  refine e.trans ?_
  pointwise [SUM_3]
  simp only [Fin.sum_univ_eight]
  exact add8 (h _ _ rfl hi) (h _ _ rfl hi) (h _ _ rfl hi) (h _ _ rfl hi) (h _ _ rfl hi) (h _ _ rfl hi) (h _ _ rfl hi) (h _ _ rfl hi)

/-- The host's last steps for array 3, run on any contents. -/
theorem tail_3 (W : Valuation τ sig (Elt Ideal)) : StableHlo.after hostOps1 W (Proc.devRef .tc main_v31)
    = TAIL 20480 slices_S589824_S128_20480 shapeCasts_S128_S2x64 (W (Proc.devRef .tc main_v22)) := by
  simp only [hostOps1, StableHlo.after_cons, StableHlo.after_nil]
  after_results_simp
  rfl

/-- Array 3: the result array after the call is the reference's. -/
theorem final_3 (c : Dev nD) : Pipeline.afterTail₀ cfgs (dats m) 0 (V0 m) [hostOps1] c main_v31 = SUM_3 (m ((c : Thread nD τ).loc main_arg3)) := by
  refine (tail_3 _).trans ?_
  rw [after_sum]
  exact unpack_3 _ _ (pack_3 _ _ _ _ _ _ _ _ _ _ _ _ _ _ _ _ _)

/-- The reference's sum of array 4. -/
abbrev SUM_4 (X : FVec Ideal S8x2x64x64x16 .f32) : FVec Ideal S2x64x64x16 .f32 :=
  Host.reduceAdd X (constant Cert.Reference31Ideal.S_ .f32 0x00000000#32) Cert.Reference31Ideal.Gen.reducesTo_S8x2x64x64x16_S2x64x64x16_d0 Cert.Reference31Ideal.Gen.h_S_

/-- Array 4: the host's last steps read the reference's sum. -/
theorem unpack_4 (P : FVec Ideal S8x4608x128 .f32) (X : FVec Ideal S8x2x64x64x16 .f32)
    (h : ∀ (i : S8x4608x128.Idx) (j : S8x2x64x64x16.Idx), (i 0).val = (j 0).val → (i 1).val * 128 + (i 2).val = 20608 + ((((j 1).val * 64 + (j 2).val) * 64 + (j 3).val) * 16 + (j 4).val) → P i = X j) :
    TAIL 20608 slices_S589824_S131072_20608 shapeCasts_S131072_S2x64x64x16 (SUMP P) = SUM_4 X := by
  funext j
  obtain ⟨i, hi, e⟩ := read 20608 slices_S589824_S131072_20608 shapeCasts_S131072_S2x64x64x16 (SUMP P) j _ (Shape.rowMajor_val_four j)
  refine e.trans ?_
  pointwise [SUM_4]
  simp only [Fin.sum_univ_eight]
  exact add8 (h _ _ rfl hi) (h _ _ rfl hi) (h _ _ rfl hi) (h _ _ rfl hi) (h _ _ rfl hi) (h _ _ rfl hi) (h _ _ rfl hi) (h _ _ rfl hi)

/-- The host's last steps for array 4, run on any contents. -/
theorem tail_4 (W : Valuation τ sig (Elt Ideal)) : StableHlo.after hostOps1 W (Proc.devRef .tc main_v33)
    = TAIL 20608 slices_S589824_S131072_20608 shapeCasts_S131072_S2x64x64x16 (W (Proc.devRef .tc main_v22)) := by
  simp only [hostOps1, StableHlo.after_cons, StableHlo.after_nil]
  after_results_simp
  rfl

/-- Array 4: the result array after the call is the reference's. -/
theorem final_4 (c : Dev nD) : Pipeline.afterTail₀ cfgs (dats m) 0 (V0 m) [hostOps1] c main_v33 = SUM_4 (m ((c : Thread nD τ).loc main_arg4)) := by
  refine (tail_4 _).trans ?_
  rw [after_sum]
  exact unpack_4 _ _ (pack_4 _ _ _ _ _ _ _ _ _ _ _ _ _ _ _ _ _)

/-- The reference's sum of array 5. -/
abbrev SUM_5 (X : FVec Ideal S8x2x64x64x16 .f32) : FVec Ideal S2x64x64x16 .f32 :=
  Host.reduceAdd X (constant Cert.Reference31Ideal.S_ .f32 0x00000000#32) Cert.Reference31Ideal.Gen.reducesTo_S8x2x64x64x16_S2x64x64x16_d0 Cert.Reference31Ideal.Gen.h_S_

/-- Array 5: the host's last steps read the reference's sum. -/
theorem unpack_5 (P : FVec Ideal S8x4608x128 .f32) (X : FVec Ideal S8x2x64x64x16 .f32)
    (h : ∀ (i : S8x4608x128.Idx) (j : S8x2x64x64x16.Idx), (i 0).val = (j 0).val → (i 1).val * 128 + (i 2).val = 151680 + ((((j 1).val * 64 + (j 2).val) * 64 + (j 3).val) * 16 + (j 4).val) → P i = X j) :
    TAIL 151680 slices_S589824_S131072_151680 shapeCasts_S131072_S2x64x64x16 (SUMP P) = SUM_5 X := by
  funext j
  obtain ⟨i, hi, e⟩ := read 151680 slices_S589824_S131072_151680 shapeCasts_S131072_S2x64x64x16 (SUMP P) j _ (Shape.rowMajor_val_four j)
  refine e.trans ?_
  pointwise [SUM_5]
  simp only [Fin.sum_univ_eight]
  exact add8 (h _ _ rfl hi) (h _ _ rfl hi) (h _ _ rfl hi) (h _ _ rfl hi) (h _ _ rfl hi) (h _ _ rfl hi) (h _ _ rfl hi) (h _ _ rfl hi)

/-- The host's last steps for array 5, run on any contents. -/
theorem tail_5 (W : Valuation τ sig (Elt Ideal)) : StableHlo.after hostOps1 W (Proc.devRef .tc main_v35)
    = TAIL 151680 slices_S589824_S131072_151680 shapeCasts_S131072_S2x64x64x16 (W (Proc.devRef .tc main_v22)) := by
  simp only [hostOps1, StableHlo.after_cons, StableHlo.after_nil]
  after_results_simp
  rfl

/-- Array 5: the result array after the call is the reference's. -/
theorem final_5 (c : Dev nD) : Pipeline.afterTail₀ cfgs (dats m) 0 (V0 m) [hostOps1] c main_v35 = SUM_5 (m ((c : Thread nD τ).loc main_arg5)) := by
  refine (tail_5 _).trans ?_
  rw [after_sum]
  exact unpack_5 _ _ (pack_5 _ _ _ _ _ _ _ _ _ _ _ _ _ _ _ _ _)

/-- The reference's sum of array 6. -/
abbrev SUM_6 (X : FVec Ideal S8x2x64x16x64 .f32) : FVec Ideal S2x64x16x64 .f32 :=
  Host.reduceAdd X (constant Cert.Reference31Ideal.S_ .f32 0x00000000#32) Cert.Reference31Ideal.Gen.reducesTo_S8x2x64x16x64_S2x64x16x64_d0 Cert.Reference31Ideal.Gen.h_S_

/-- Array 6: the host's last steps read the reference's sum. -/
theorem unpack_6 (P : FVec Ideal S8x4608x128 .f32) (X : FVec Ideal S8x2x64x16x64 .f32)
    (h : ∀ (i : S8x4608x128.Idx) (j : S8x2x64x16x64.Idx), (i 0).val = (j 0).val → (i 1).val * 128 + (i 2).val = 282752 + ((((j 1).val * 64 + (j 2).val) * 16 + (j 3).val) * 64 + (j 4).val) → P i = X j) :
    TAIL 282752 slices_S589824_S131072_282752 shapeCasts_S131072_S2x64x16x64 (SUMP P) = SUM_6 X := by
  funext j
  obtain ⟨i, hi, e⟩ := read 282752 slices_S589824_S131072_282752 shapeCasts_S131072_S2x64x16x64 (SUMP P) j _ (Shape.rowMajor_val_four j)
  refine e.trans ?_
  pointwise [SUM_6]
  simp only [Fin.sum_univ_eight]
  exact add8 (h _ _ rfl hi) (h _ _ rfl hi) (h _ _ rfl hi) (h _ _ rfl hi) (h _ _ rfl hi) (h _ _ rfl hi) (h _ _ rfl hi) (h _ _ rfl hi)

/-- The host's last steps for array 6, run on any contents. -/
theorem tail_6 (W : Valuation τ sig (Elt Ideal)) : StableHlo.after hostOps1 W (Proc.devRef .tc main_v37)
    = TAIL 282752 slices_S589824_S131072_282752 shapeCasts_S131072_S2x64x16x64 (W (Proc.devRef .tc main_v22)) := by
  simp only [hostOps1, StableHlo.after_cons, StableHlo.after_nil]
  after_results_simp
  rfl

/-- Array 6: the result array after the call is the reference's. -/
theorem final_6 (c : Dev nD) : Pipeline.afterTail₀ cfgs (dats m) 0 (V0 m) [hostOps1] c main_v37 = SUM_6 (m ((c : Thread nD τ).loc main_arg6)) := by
  refine (tail_6 _).trans ?_
  rw [after_sum]
  exact unpack_6 _ _ (pack_6 _ _ _ _ _ _ _ _ _ _ _ _ _ _ _ _ _)

/-- The reference's sum of array 7. -/
abbrev SUM_7 (X : FVec Ideal S8x2x64x16x64 .f32) : FVec Ideal S2x64x16x64 .f32 :=
  Host.reduceAdd X (constant Cert.Reference31Ideal.S_ .f32 0x00000000#32) Cert.Reference31Ideal.Gen.reducesTo_S8x2x64x16x64_S2x64x16x64_d0 Cert.Reference31Ideal.Gen.h_S_

/-- Array 7: the host's last steps read the reference's sum. -/
theorem unpack_7 (P : FVec Ideal S8x4608x128 .f32) (X : FVec Ideal S8x2x64x16x64 .f32)
    (h : ∀ (i : S8x4608x128.Idx) (j : S8x2x64x16x64.Idx), (i 0).val = (j 0).val → (i 1).val * 128 + (i 2).val = 413824 + ((((j 1).val * 64 + (j 2).val) * 16 + (j 3).val) * 64 + (j 4).val) → P i = X j) :
    TAIL 413824 slices_S589824_S131072_413824 shapeCasts_S131072_S2x64x16x64 (SUMP P) = SUM_7 X := by
  funext j
  obtain ⟨i, hi, e⟩ := read 413824 slices_S589824_S131072_413824 shapeCasts_S131072_S2x64x16x64 (SUMP P) j _ (Shape.rowMajor_val_four j)
  refine e.trans ?_
  pointwise [SUM_7]
  simp only [Fin.sum_univ_eight]
  exact add8 (h _ _ rfl hi) (h _ _ rfl hi) (h _ _ rfl hi) (h _ _ rfl hi) (h _ _ rfl hi) (h _ _ rfl hi) (h _ _ rfl hi) (h _ _ rfl hi)

/-- The host's last steps for array 7, run on any contents. -/
theorem tail_7 (W : Valuation τ sig (Elt Ideal)) : StableHlo.after hostOps1 W (Proc.devRef .tc main_v39)
    = TAIL 413824 slices_S589824_S131072_413824 shapeCasts_S131072_S2x64x16x64 (W (Proc.devRef .tc main_v22)) := by
  simp only [hostOps1, StableHlo.after_cons, StableHlo.after_nil]
  after_results_simp
  rfl

/-- Array 7: the result array after the call is the reference's. -/
theorem final_7 (c : Dev nD) : Pipeline.afterTail₀ cfgs (dats m) 0 (V0 m) [hostOps1] c main_v39 = SUM_7 (m ((c : Thread nD τ).loc main_arg7)) := by
  refine (tail_7 _).trans ?_
  rw [after_sum]
  exact unpack_7 _ _ (pack_7 _ _ _ _ _ _ _ _ _ _ _ _ _ _ _ _ _)

/-- The reference's sum of array 8. -/
abbrev SUM_8 (X : FVec Ideal S8x2x64x16 .f32) : FVec Ideal S2x64x16 .f32 :=
  Host.reduceAdd X (constant Cert.Reference31Ideal.S_ .f32 0x00000000#32) Cert.Reference31Ideal.Gen.reducesTo_S8x2x64x16_S2x64x16_d0 Cert.Reference31Ideal.Gen.h_S_

/-- Array 8: the host's last steps read the reference's sum. -/
theorem unpack_8 (P : FVec Ideal S8x4608x128 .f32) (X : FVec Ideal S8x2x64x16 .f32)
    (h : ∀ (i : S8x4608x128.Idx) (j : S8x2x64x16.Idx), (i 0).val = (j 0).val → (i 1).val * 128 + (i 2).val = 544896 + (((j 1).val * 64 + (j 2).val) * 16 + (j 3).val) → P i = X j) :
    TAIL 544896 slices_S589824_S2048_544896 shapeCasts_S2048_S2x64x16 (SUMP P) = SUM_8 X := by
  funext j
  obtain ⟨i, hi, e⟩ := read 544896 slices_S589824_S2048_544896 shapeCasts_S2048_S2x64x16 (SUMP P) j _ (Shape.rowMajor_val_three j)
  refine e.trans ?_
  pointwise [SUM_8]
  simp only [Fin.sum_univ_eight]
  exact add8 (h _ _ rfl hi) (h _ _ rfl hi) (h _ _ rfl hi) (h _ _ rfl hi) (h _ _ rfl hi) (h _ _ rfl hi) (h _ _ rfl hi) (h _ _ rfl hi)

/-- The host's last steps for array 8, run on any contents. -/
theorem tail_8 (W : Valuation τ sig (Elt Ideal)) : StableHlo.after hostOps1 W (Proc.devRef .tc main_v41)
    = TAIL 544896 slices_S589824_S2048_544896 shapeCasts_S2048_S2x64x16 (W (Proc.devRef .tc main_v22)) := by
  simp only [hostOps1, StableHlo.after_cons, StableHlo.after_nil]
  after_results_simp
  rfl

/-- Array 8: the result array after the call is the reference's. -/
theorem final_8 (c : Dev nD) : Pipeline.afterTail₀ cfgs (dats m) 0 (V0 m) [hostOps1] c main_v41 = SUM_8 (m ((c : Thread nD τ).loc main_arg8)) := by
  refine (tail_8 _).trans ?_
  rw [after_sum]
  exact unpack_8 _ _ (pack_8 _ _ _ _ _ _ _ _ _ _ _ _ _ _ _ _ _)

/-- The reference's sum of array 9. -/
abbrev SUM_9 (X : FVec Ideal S8x2x1024 .f32) : FVec Ideal S2x1024 .f32 :=
  Host.reduceAdd X (constant Cert.Reference31Ideal.S_ .f32 0x00000000#32) Cert.Reference31Ideal.Gen.reducesTo_S8x2x1024_S2x1024_d0 Cert.Reference31Ideal.Gen.h_S_

/-- Array 9: the host's last steps read the reference's sum. -/
theorem unpack_9 (P : FVec Ideal S8x4608x128 .f32) (X : FVec Ideal S8x2x1024 .f32)
    (h : ∀ (i : S8x4608x128.Idx) (j : S8x2x1024.Idx), (i 0).val = (j 0).val → (i 1).val * 128 + (i 2).val = 546944 + ((j 1).val * 1024 + (j 2).val) → P i = X j) :
    TAIL 546944 slices_S589824_S2048_546944 shapeCasts_S2048_S2x1024 (SUMP P) = SUM_9 X := by
  funext j
  obtain ⟨i, hi, e⟩ := read 546944 slices_S589824_S2048_546944 shapeCasts_S2048_S2x1024 (SUMP P) j _ (Shape.rowMajor_val_two j)
  refine e.trans ?_
  pointwise [SUM_9]
  simp only [Fin.sum_univ_eight]
  exact add8 (h _ _ rfl hi) (h _ _ rfl hi) (h _ _ rfl hi) (h _ _ rfl hi) (h _ _ rfl hi) (h _ _ rfl hi) (h _ _ rfl hi) (h _ _ rfl hi)

/-- The host's last steps for array 9, run on any contents. -/
theorem tail_9 (W : Valuation τ sig (Elt Ideal)) : StableHlo.after hostOps1 W (Proc.devRef .tc main_v43)
    = TAIL 546944 slices_S589824_S2048_546944 shapeCasts_S2048_S2x1024 (W (Proc.devRef .tc main_v22)) := by
  simp only [hostOps1, StableHlo.after_cons, StableHlo.after_nil]
  after_results_simp
  rfl

/-- Array 9: the result array after the call is the reference's. -/
theorem final_9 (c : Dev nD) : Pipeline.afterTail₀ cfgs (dats m) 0 (V0 m) [hostOps1] c main_v43 = SUM_9 (m ((c : Thread nD τ).loc main_arg9)) := by
  refine (tail_9 _).trans ?_
  rw [after_sum]
  exact unpack_9 _ _ (pack_9 _ _ _ _ _ _ _ _ _ _ _ _ _ _ _ _ _)

/-- The reference's sum of array 10. -/
abbrev SUM_10 (X : FVec Ideal S8x2x1024 .f32) : FVec Ideal S2x1024 .f32 :=
  Host.reduceAdd X (constant Cert.Reference31Ideal.S_ .f32 0x00000000#32) Cert.Reference31Ideal.Gen.reducesTo_S8x2x1024_S2x1024_d0 Cert.Reference31Ideal.Gen.h_S_

/-- Array 10: the host's last steps read the reference's sum. -/
theorem unpack_10 (P : FVec Ideal S8x4608x128 .f32) (X : FVec Ideal S8x2x1024 .f32)
    (h : ∀ (i : S8x4608x128.Idx) (j : S8x2x1024.Idx), (i 0).val = (j 0).val → (i 1).val * 128 + (i 2).val = 548992 + ((j 1).val * 1024 + (j 2).val) → P i = X j) :
    TAIL 548992 slices_S589824_S2048_548992 shapeCasts_S2048_S2x1024 (SUMP P) = SUM_10 X := by
  funext j
  obtain ⟨i, hi, e⟩ := read 548992 slices_S589824_S2048_548992 shapeCasts_S2048_S2x1024 (SUMP P) j _ (Shape.rowMajor_val_two j)
  refine e.trans ?_
  pointwise [SUM_10]
  simp only [Fin.sum_univ_eight]
  exact add8 (h _ _ rfl hi) (h _ _ rfl hi) (h _ _ rfl hi) (h _ _ rfl hi) (h _ _ rfl hi) (h _ _ rfl hi) (h _ _ rfl hi) (h _ _ rfl hi)

/-- The host's last steps for array 10, run on any contents. -/
theorem tail_10 (W : Valuation τ sig (Elt Ideal)) : StableHlo.after hostOps1 W (Proc.devRef .tc main_v45)
    = TAIL 548992 slices_S589824_S2048_548992 shapeCasts_S2048_S2x1024 (W (Proc.devRef .tc main_v22)) := by
  simp only [hostOps1, StableHlo.after_cons, StableHlo.after_nil]
  after_results_simp
  rfl

/-- Array 10: the result array after the call is the reference's. -/
theorem final_10 (c : Dev nD) : Pipeline.afterTail₀ cfgs (dats m) 0 (V0 m) [hostOps1] c main_v45 = SUM_10 (m ((c : Thread nD τ).loc main_arg10)) := by
  refine (tail_10 _).trans ?_
  rw [after_sum]
  exact unpack_10 _ _ (pack_10 _ _ _ _ _ _ _ _ _ _ _ _ _ _ _ _ _)

/-- The reference's sum of array 11. -/
abbrev SUM_11 (X : FVec Ideal S8x2x128 .f32) : FVec Ideal S2x128 .f32 :=
  Host.reduceAdd X (constant Cert.Reference31Ideal.S_ .f32 0x00000000#32) Cert.Reference31Ideal.Gen.reducesTo_S8x2x128_S2x128_d0 Cert.Reference31Ideal.Gen.h_S_

/-- Array 11: the host's last steps read the reference's sum. -/
theorem unpack_11 (P : FVec Ideal S8x4608x128 .f32) (X : FVec Ideal S8x2x128 .f32)
    (h : ∀ (i : S8x4608x128.Idx) (j : S8x2x128.Idx), (i 0).val = (j 0).val → (i 1).val * 128 + (i 2).val = 551040 + ((j 1).val * 128 + (j 2).val) → P i = X j) :
    TAIL 551040 slices_S589824_S256_551040 shapeCasts_S256_S2x128 (SUMP P) = SUM_11 X := by
  funext j
  obtain ⟨i, hi, e⟩ := read 551040 slices_S589824_S256_551040 shapeCasts_S256_S2x128 (SUMP P) j _ (Shape.rowMajor_val_two j)
  refine e.trans ?_
  pointwise [SUM_11]
  simp only [Fin.sum_univ_eight]
  exact add8 (h _ _ rfl hi) (h _ _ rfl hi) (h _ _ rfl hi) (h _ _ rfl hi) (h _ _ rfl hi) (h _ _ rfl hi) (h _ _ rfl hi) (h _ _ rfl hi)

/-- The host's last steps for array 11, run on any contents. -/
theorem tail_11 (W : Valuation τ sig (Elt Ideal)) : StableHlo.after hostOps1 W (Proc.devRef .tc main_v47)
    = TAIL 551040 slices_S589824_S256_551040 shapeCasts_S256_S2x128 (W (Proc.devRef .tc main_v22)) := by
  simp only [hostOps1, StableHlo.after_cons, StableHlo.after_nil]
  after_results_simp
  rfl

/-- Array 11: the result array after the call is the reference's. -/
theorem final_11 (c : Dev nD) : Pipeline.afterTail₀ cfgs (dats m) 0 (V0 m) [hostOps1] c main_v47 = SUM_11 (m ((c : Thread nD τ).loc main_arg11)) := by
  refine (tail_11 _).trans ?_
  rw [after_sum]
  exact unpack_11 _ _ (pack_11 _ _ _ _ _ _ _ _ _ _ _ _ _ _ _ _ _)

/-- The reference's sum of array 12. -/
abbrev SUM_12 (X : FVec Ideal S8x2x2048 .f32) : FVec Ideal S2x2048 .f32 :=
  Host.reduceAdd X (constant Cert.Reference31Ideal.S_ .f32 0x00000000#32) Cert.Reference31Ideal.Gen.reducesTo_S8x2x2048_S2x2048_d0 Cert.Reference31Ideal.Gen.h_S_

/-- Array 12: the host's last steps read the reference's sum. -/
theorem unpack_12 (P : FVec Ideal S8x4608x128 .f32) (X : FVec Ideal S8x2x2048 .f32)
    (h : ∀ (i : S8x4608x128.Idx) (j : S8x2x2048.Idx), (i 0).val = (j 0).val → (i 1).val * 128 + (i 2).val = 551296 + ((j 1).val * 2048 + (j 2).val) → P i = X j) :
    TAIL 551296 slices_S589824_S4096_551296 shapeCasts_S4096_S2x2048 (SUMP P) = SUM_12 X := by
  funext j
  obtain ⟨i, hi, e⟩ := read 551296 slices_S589824_S4096_551296 shapeCasts_S4096_S2x2048 (SUMP P) j _ (Shape.rowMajor_val_two j)
  refine e.trans ?_
  pointwise [SUM_12]
  simp only [Fin.sum_univ_eight]
  exact add8 (h _ _ rfl hi) (h _ _ rfl hi) (h _ _ rfl hi) (h _ _ rfl hi) (h _ _ rfl hi) (h _ _ rfl hi) (h _ _ rfl hi) (h _ _ rfl hi)

/-- The host's last steps for array 12, run on any contents. -/
theorem tail_12 (W : Valuation τ sig (Elt Ideal)) : StableHlo.after hostOps1 W (Proc.devRef .tc main_v49)
    = TAIL 551296 slices_S589824_S4096_551296 shapeCasts_S4096_S2x2048 (W (Proc.devRef .tc main_v22)) := by
  simp only [hostOps1, StableHlo.after_cons, StableHlo.after_nil]
  after_results_simp
  rfl

/-- Array 12: the result array after the call is the reference's. -/
theorem final_12 (c : Dev nD) : Pipeline.afterTail₀ cfgs (dats m) 0 (V0 m) [hostOps1] c main_v49 = SUM_12 (m ((c : Thread nD τ).loc main_arg12)) := by
  refine (tail_12 _).trans ?_
  rw [after_sum]
  exact unpack_12 _ _ (pack_12 _ _ _ _ _ _ _ _ _ _ _ _ _ _ _ _ _)

/-- The reference's sum of array 13. -/
abbrev SUM_13 (X : FVec Ideal S8x2x64 .f32) : FVec Ideal S2x64 .f32 :=
  Host.reduceAdd X (constant Cert.Reference31Ideal.S_ .f32 0x00000000#32) Cert.Reference31Ideal.Gen.reducesTo_S8x2x64_S2x64_d0 Cert.Reference31Ideal.Gen.h_S_

/-- Array 13: the host's last steps read the reference's sum. -/
theorem unpack_13 (P : FVec Ideal S8x4608x128 .f32) (X : FVec Ideal S8x2x64 .f32)
    (h : ∀ (i : S8x4608x128.Idx) (j : S8x2x64.Idx), (i 0).val = (j 0).val → (i 1).val * 128 + (i 2).val = 555392 + ((j 1).val * 64 + (j 2).val) → P i = X j) :
    TAIL 555392 slices_S589824_S128_555392 shapeCasts_S128_S2x64 (SUMP P) = SUM_13 X := by
  funext j
  obtain ⟨i, hi, e⟩ := read 555392 slices_S589824_S128_555392 shapeCasts_S128_S2x64 (SUMP P) j _ (Shape.rowMajor_val_two j)
  refine e.trans ?_
  pointwise [SUM_13]
  simp only [Fin.sum_univ_eight]
  exact add8 (h _ _ rfl hi) (h _ _ rfl hi) (h _ _ rfl hi) (h _ _ rfl hi) (h _ _ rfl hi) (h _ _ rfl hi) (h _ _ rfl hi) (h _ _ rfl hi)

/-- The host's last steps for array 13, run on any contents. -/
theorem tail_13 (W : Valuation τ sig (Elt Ideal)) : StableHlo.after hostOps1 W (Proc.devRef .tc main_v51)
    = TAIL 555392 slices_S589824_S128_555392 shapeCasts_S128_S2x64 (W (Proc.devRef .tc main_v22)) := by
  simp only [hostOps1, StableHlo.after_cons, StableHlo.after_nil]
  after_results_simp
  rfl

/-- Array 13: the result array after the call is the reference's. -/
theorem final_13 (c : Dev nD) : Pipeline.afterTail₀ cfgs (dats m) 0 (V0 m) [hostOps1] c main_v51 = SUM_13 (m ((c : Thread nD τ).loc main_arg13)) := by
  refine (tail_13 _).trans ?_
  rw [after_sum]
  exact unpack_13 _ _ (pack_13 _ _ _ _ _ _ _ _ _ _ _ _ _ _ _ _ _)

/-- The reference's sum of array 14. -/
abbrev SUM_14 (X : FVec Ideal S8x2x64 .f32) : FVec Ideal S2x64 .f32 :=
  Host.reduceAdd X (constant Cert.Reference31Ideal.S_ .f32 0x00000000#32) Cert.Reference31Ideal.Gen.reducesTo_S8x2x64_S2x64_d0 Cert.Reference31Ideal.Gen.h_S_

/-- Array 14: the host's last steps read the reference's sum. -/
theorem unpack_14 (P : FVec Ideal S8x4608x128 .f32) (X : FVec Ideal S8x2x64 .f32)
    (h : ∀ (i : S8x4608x128.Idx) (j : S8x2x64.Idx), (i 0).val = (j 0).val → (i 1).val * 128 + (i 2).val = 555520 + ((j 1).val * 64 + (j 2).val) → P i = X j) :
    TAIL 555520 slices_S589824_S128_555520 shapeCasts_S128_S2x64 (SUMP P) = SUM_14 X := by
  funext j
  obtain ⟨i, hi, e⟩ := read 555520 slices_S589824_S128_555520 shapeCasts_S128_S2x64 (SUMP P) j _ (Shape.rowMajor_val_two j)
  refine e.trans ?_
  pointwise [SUM_14]
  simp only [Fin.sum_univ_eight]
  exact add8 (h _ _ rfl hi) (h _ _ rfl hi) (h _ _ rfl hi) (h _ _ rfl hi) (h _ _ rfl hi) (h _ _ rfl hi) (h _ _ rfl hi) (h _ _ rfl hi)

/-- The host's last steps for array 14, run on any contents. -/
theorem tail_14 (W : Valuation τ sig (Elt Ideal)) : StableHlo.after hostOps1 W (Proc.devRef .tc main_v53)
    = TAIL 555520 slices_S589824_S128_555520 shapeCasts_S128_S2x64 (W (Proc.devRef .tc main_v22)) := by
  simp only [hostOps1, StableHlo.after_cons, StableHlo.after_nil]
  after_results_simp
  rfl

/-- Array 14: the result array after the call is the reference's. -/
theorem final_14 (c : Dev nD) : Pipeline.afterTail₀ cfgs (dats m) 0 (V0 m) [hostOps1] c main_v53 = SUM_14 (m ((c : Thread nD τ).loc main_arg14)) := by
  refine (tail_14 _).trans ?_
  rw [after_sum]
  exact unpack_14 _ _ (pack_14 _ _ _ _ _ _ _ _ _ _ _ _ _ _ _ _ _)

/-- The reference's sum of array 15. -/
abbrev SUM_15 (X : FVec Ideal S8x2x32 .f32) : FVec Ideal S2x32 .f32 :=
  Host.reduceAdd X (constant Cert.Reference31Ideal.S_ .f32 0x00000000#32) Cert.Reference31Ideal.Gen.reducesTo_S8x2x32_S2x32_d0 Cert.Reference31Ideal.Gen.h_S_

/-- Array 15: the host's last steps read the reference's sum. -/
theorem unpack_15 (P : FVec Ideal S8x4608x128 .f32) (X : FVec Ideal S8x2x32 .f32)
    (h : ∀ (i : S8x4608x128.Idx) (j : S8x2x32.Idx), (i 0).val = (j 0).val → (i 1).val * 128 + (i 2).val = 555648 + ((j 1).val * 32 + (j 2).val) → P i = X j) :
    TAIL 555648 slices_S589824_S64_555648 shapeCasts_S64_S2x32 (SUMP P) = SUM_15 X := by
  funext j
  obtain ⟨i, hi, e⟩ := read 555648 slices_S589824_S64_555648 shapeCasts_S64_S2x32 (SUMP P) j _ (Shape.rowMajor_val_two j)
  refine e.trans ?_
  pointwise [SUM_15]
  simp only [Fin.sum_univ_eight]
  exact add8 (h _ _ rfl hi) (h _ _ rfl hi) (h _ _ rfl hi) (h _ _ rfl hi) (h _ _ rfl hi) (h _ _ rfl hi) (h _ _ rfl hi) (h _ _ rfl hi)

/-- The host's last steps for array 15, run on any contents. -/
theorem tail_15 (W : Valuation τ sig (Elt Ideal)) : StableHlo.after hostOps1 W (Proc.devRef .tc main_v55)
    = TAIL 555648 slices_S589824_S64_555648 shapeCasts_S64_S2x32 (W (Proc.devRef .tc main_v22)) := by
  simp only [hostOps1, StableHlo.after_cons, StableHlo.after_nil]
  after_results_simp
  rfl

/-- Array 15: the result array after the call is the reference's. -/
theorem final_15 (c : Dev nD) : Pipeline.afterTail₀ cfgs (dats m) 0 (V0 m) [hostOps1] c main_v55 = SUM_15 (m ((c : Thread nD τ).loc main_arg15)) := by
  refine (tail_15 _).trans ?_
  rw [after_sum]
  exact unpack_15 _ _ (pack_15 _ _ _ _ _ _ _ _ _ _ _ _ _ _ _ _ _)

/-- The reference's sum of array 16. -/
abbrev SUM_16 (X : FVec Ideal S8x4x2048 .f32) : FVec Ideal S4x2048 .f32 :=
  Host.reduceAdd X (constant Cert.Reference31Ideal.S_ .f32 0x00000000#32) Cert.Reference31Ideal.Gen.reducesTo_S8x4x2048_S4x2048_d0 Cert.Reference31Ideal.Gen.h_S_

/-- Array 16: the host's last steps read the reference's sum. -/
theorem unpack_16 (P : FVec Ideal S8x4608x128 .f32) (X : FVec Ideal S8x4x2048 .f32)
    (h : ∀ (i : S8x4608x128.Idx) (j : S8x4x2048.Idx), (i 0).val = (j 0).val → (i 1).val * 128 + (i 2).val = 555776 + ((j 1).val * 2048 + (j 2).val) → P i = X j) :
    TAIL 555776 slices_S589824_S8192_555776 shapeCasts_S8192_S4x2048 (SUMP P) = SUM_16 X := by
  funext j
  obtain ⟨i, hi, e⟩ := read 555776 slices_S589824_S8192_555776 shapeCasts_S8192_S4x2048 (SUMP P) j _ (Shape.rowMajor_val_two j)
  refine e.trans ?_
  pointwise [SUM_16]
  simp only [Fin.sum_univ_eight]
  exact add8 (h _ _ rfl hi) (h _ _ rfl hi) (h _ _ rfl hi) (h _ _ rfl hi) (h _ _ rfl hi) (h _ _ rfl hi) (h _ _ rfl hi) (h _ _ rfl hi)

/-- The host's last steps for array 16, run on any contents. -/
theorem tail_16 (W : Valuation τ sig (Elt Ideal)) : StableHlo.after hostOps1 W (Proc.devRef .tc main_v57)
    = TAIL 555776 slices_S589824_S8192_555776 shapeCasts_S8192_S4x2048 (W (Proc.devRef .tc main_v22)) := by
  simp only [hostOps1, StableHlo.after_cons, StableHlo.after_nil]
  after_results_simp
  rfl

/-- Array 16: the result array after the call is the reference's. -/
theorem final_16 (c : Dev nD) : Pipeline.afterTail₀ cfgs (dats m) 0 (V0 m) [hostOps1] c main_v57 = SUM_16 (m ((c : Thread nD τ).loc main_arg16)) := by
  refine (tail_16 _).trans ?_
  rw [after_sum]
  exact unpack_16 _ _ (pack_16 _ _ _ _ _ _ _ _ _ _ _ _ _ _ _ _ _)

end Cert.Kernel31Ideal.Value

end
-- ==== Proof.ClaimSumSmall.lean ====
/- The value claim of the sum of the small weights' gradients over the devices: its kernel and its reference end with equal results. -/
module

public import proofs.«01_k».proof.Defs
public import proofs.«01_k».proof.Proof.SumSmall
public import Idealize.ShloMosaic.Lib.Claim

@[expose] public section

set_option maxRecDepth 16384

noncomputable section

namespace Cert.Proof

open Idealize.ShloMosaic Idealize.SL.Sem

/-- The sum of the small weights' gradients over the devices: over the extended reals the kernel computes what its reference computes. -/
theorem algebraic31 : Cert.algebraic_Kernel31Ideal_Reference31Ideal (hKernel31Ideal := Cert.Kernel31Ideal.Gen.facts)
    (hReference31Ideal := Cert.Reference31Ideal.Gen.facts) := by
  pair_intro
  · run_from Cert.Kernel31Ideal.Gen.run_main m g
    · exact Cert.Kernel31Ideal.Gen.W_main_arg0 m _ c
    · exact Cert.Kernel31Ideal.Gen.W_main_arg1 m _ c
    · exact Cert.Kernel31Ideal.Gen.W_main_arg2 m _ c
    · exact Cert.Kernel31Ideal.Gen.W_main_arg3 m _ c
    · exact Cert.Kernel31Ideal.Gen.W_main_arg4 m _ c
    · exact Cert.Kernel31Ideal.Gen.W_main_arg5 m _ c
    · exact Cert.Kernel31Ideal.Gen.W_main_arg6 m _ c
    · exact Cert.Kernel31Ideal.Gen.W_main_arg7 m _ c
    · exact Cert.Kernel31Ideal.Gen.W_main_arg8 m _ c
    · exact Cert.Kernel31Ideal.Gen.W_main_arg9 m _ c
    · exact Cert.Kernel31Ideal.Gen.W_main_arg10 m _ c
    · exact Cert.Kernel31Ideal.Gen.W_main_arg11 m _ c
    · exact Cert.Kernel31Ideal.Gen.W_main_arg12 m _ c
    · exact Cert.Kernel31Ideal.Gen.W_main_arg13 m _ c
    · exact Cert.Kernel31Ideal.Gen.W_main_arg14 m _ c
    · exact Cert.Kernel31Ideal.Gen.W_main_arg15 m _ c
    · exact Cert.Kernel31Ideal.Gen.W_main_arg16 m _ c
  · hlo_run
    · exact (Cert.Kernel31Ideal.Value.final_0 m c).symm
    · exact (Cert.Kernel31Ideal.Value.final_1 m c).symm
    · exact (Cert.Kernel31Ideal.Value.final_2 m c).symm
    · exact (Cert.Kernel31Ideal.Value.final_3 m c).symm
    · exact (Cert.Kernel31Ideal.Value.final_4 m c).symm
    · exact (Cert.Kernel31Ideal.Value.final_5 m c).symm
    · exact (Cert.Kernel31Ideal.Value.final_6 m c).symm
    · exact (Cert.Kernel31Ideal.Value.final_7 m c).symm
    · exact (Cert.Kernel31Ideal.Value.final_8 m c).symm
    · exact (Cert.Kernel31Ideal.Value.final_9 m c).symm
    · exact (Cert.Kernel31Ideal.Value.final_10 m c).symm
    · exact (Cert.Kernel31Ideal.Value.final_11 m c).symm
    · exact (Cert.Kernel31Ideal.Value.final_12 m c).symm
    · exact (Cert.Kernel31Ideal.Value.final_13 m c).symm
    · exact (Cert.Kernel31Ideal.Value.final_14 m c).symm
    · exact (Cert.Kernel31Ideal.Value.final_15 m c).symm
    · exact (Cert.Kernel31Ideal.Value.final_16 m c).symm

end Cert.Proof

end
-- ==== Proof.SumMlp.lean ====
/- The sum over the chips of a gradient of the multilayer perceptron (`Kernel32`): the result array of the call is the
   reference's sum. -/
module

public import proofs.«01_k».proof.Proof.Gen.Kernel32Ideal.Frame
public import proofs.«01_k».proof.Proof.Gen.Reference32Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel32Ideal.Value

open Cert.Kernel32Ideal Cert.Kernel32Ideal.Gen

variable (m : (ℓ : Loc nD τ sig) → Buf (Elt Ideal) ℓ)

/-- The block every window stages at grid point `t`: rows `t`. -/
theorem idx : ∀ t : Fin cfg0.N, win0_0.index t = ![0, t.val, 0] ∧ win0_1.index t = ![t.val, 0] :=
  (by decide +kernel : ∀ t : Fin grid0.N, _)

/-- The sum over the chips. -/
abbrev SUM (X : FVec Ideal S4x2048x1024 .f32) : FVec Ideal S2048x1024 .f32 :=
  Host.reduceAdd X (constant Cert.Reference32Ideal.S_ .f32 0x00000000#32) Cert.Reference32Ideal.Gen.reducesTo_S4x2048x1024_S2048x1024_d0 Cert.Reference32Ideal.Gen.h_S_

/-- The result array after the call is the sum. -/
theorem final (c : Dev nD) : (dats m 0 c).arrAt 1 (cfgs 0).N = SUM (m ((c : Thread nD τ).loc main_arg0)) := by
  refine (dats m 0 c).arrAt_eq_of_covers 1 _ (by decide +kernel) fun t _ y => ?_
  blk_simp
  rw [after0_1]; frame_out
  pointwise [k0_pay1, SUM]
  simp only [Fin.sum_univ_four]
  blk_point [iblk, V, idx t]

end Cert.Kernel32Ideal.Value

end
-- ==== Proof.ClaimSumMlp.lean ====
/- The value claim of the sum of the multilayer perceptron's gradients over the chips: its kernel and its reference end with equal results. -/
module

public import proofs.«01_k».proof.Defs
public import proofs.«01_k».proof.Proof.SumMlp
public import Idealize.ShloMosaic.Lib.Claim

@[expose] public section

set_option maxRecDepth 16384

noncomputable section

namespace Cert.Proof

open Idealize.ShloMosaic Idealize.SL.Sem

/-- The sum of the multilayer perceptron's gradients over the chips: over the extended reals the kernel computes what its reference computes. -/
theorem algebraic32 : Cert.algebraic_Kernel32Ideal_Reference32Ideal (hKernel32Ideal := Cert.Kernel32Ideal.Gen.facts)
    (hReference32Ideal := Cert.Reference32Ideal.Gen.facts) := by
  pair_intro
  · run_from Cert.Kernel32Ideal.Gen.run_main m g
  · hlo_run
    exact (Cert.Kernel32Ideal.Value.final m c).symm

end Cert.Proof

end
-- ==== Proof.SumEven.lean ====
/- The sum over the chips of the even layers' gradients (`Kernel33`): the result arrays of the call are the reference's sums.
   The call lays the parts side by side as rows of 1024, adds them over the chips and takes the parts apart again. -/
module

public import proofs.«01_k».proof.Proof.Gen.Kernel33Ideal.Frame
public import proofs.«01_k».proof.Proof.Gen.Reference33Ideal
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel33Ideal.Value

open Cert.Kernel33Ideal Cert.Kernel33Ideal.Gen

variable (m : (ℓ : Loc nD τ sig) → Buf (Elt Ideal) ℓ)

/-- The block every window stages at grid point `t`: rows `t`. -/
theorem idx : ∀ t : Fin cfg0.N, win0_0.index t = ![0, t.val, 0] ∧ win0_1.index t = ![t.val, 0] :=
  (by decide +kernel : ∀ t : Fin grid0.N, _)

/-- The operand of the call: the parts as rows of 1024, side by side. -/
abbrev PACK (A : FVec Ideal S4x2048x640 .f32) (B : FVec Ideal S4x128x1024 .f32) (C : FVec Ideal S4x256x2048 .f32) : FVec Ideal S4x1920x1024 .bf16 :=
  truncf .bf16 (concatenate S4x1920x1024 1 [⟨S4x1280x1024, shapeCast S4x1280x1024 A shapeCasts_S4x2048x640_S4x1280x1024⟩, ⟨S4x128x1024, B⟩, ⟨S4x512x1024, shapeCast S4x512x1024 C shapeCasts_S4x256x2048_S4x512x1024⟩] concatenates_S4x1280x1024_S4x128x1024_S4x512x1024_S4x1920x1024_d1 : FVec Ideal S4x1920x1024 .f32) bitsLt_bf16_f32

/-- The operand when the call begins. -/
theorem entry_0 (c : Dev nD) : V m c (Pipeline.arrRef spec0 0) = PACK (m ((c : Thread nD τ).loc main_arg0)) (m ((c : Thread nD τ).loc main_arg1)) (m ((c : Thread nD τ).loc main_arg2)) := by
  entry_read
  rfl

/-- The sum of the operand over the chips. -/
abbrev SUMP (X : FVec Ideal S4x1920x1024 .bf16) : FVec Ideal S1920x1024 .f32 := fun j =>
  ((X (ix3 0 (j 0) (j 1)) : EReal) + X (ix3 1 (j 0) (j 1)) + X (ix3 2 (j 0) (j 1))
    + X (ix3 3 (j 0) (j 1)) : EReal)

/-- The index of the sum that block index `y` of grid point `t` stands for. -/
abbrev place (t : Fin cfg0.N) (y : S480x1024.Idx) : S1920x1024.Idx := ((cfg0.win 1).blk t).view.emb y

/-- A staged block of the operand, as a read of the operand. -/
theorem blk_0 (c : Dev nD) (t : Fin cfg0.N) (k : Fin 4) (y : S480x1024.Idx) : iblk m c 0 t (ix3 k (y 0) (y 1) : S4x480x1024.Idx)
    = PACK (m ((c : Thread nD τ).loc main_arg0)) (m ((c : Thread nD τ).loc main_arg1)) (m ((c : Thread nD τ).loc main_arg2)) (ix3 k (place t y 0) (place t y 1)) := by
  have e : ((cfg0.win 0).blk t).view.emb (ix3 k (y 0) (y 1) : S4x480x1024.Idx)
      = (ix3 k (place t y 0) (place t y 1) : S4x1920x1024.Idx) := by blk_ext [idx t, place]
  unfold iblk
  rw [View.read_apply, entry_0, cast_eq, e]

/-- The result array of the call is the sum of the operand over the chips. -/
theorem final_sum (c : Dev nD) : (dats m 0 c).arrAt 1 (cfgs 0).N = SUMP (PACK (m ((c : Thread nD τ).loc main_arg0)) (m ((c : Thread nD τ).loc main_arg1)) (m ((c : Thread nD τ).loc main_arg2))) := by
  refine (dats m 0 c).arrAt_eq_of_covers 1 _ (by decide +kernel) fun t _ y => ?_
  blk_simp
  rw [after0_1]; frame_out
  pointwise [k0_pay1]
  exact congrArg₂ (fun a b : EReal => a + b) (congrArg₂ (fun a b : EReal => a + b) (congrArg₂ (fun a b : EReal => a + b)
    (blk_0 m c t 0 y) (blk_0 m c t 1 y)) (blk_0 m c t 2 y)) (blk_0 m c t 3 y)

/-- The call's result array, in the contents the host's last steps begin with. -/
theorem after_sum (c : Dev nD) : Pipeline.withArrays (cfgs 0).spec c (V0 m c) (fun w => (dats m 0 c).arrAt w (cfgs 0).N) (Proc.devRef .tc main_v4)
    = SUMP (PACK (m ((c : Thread nD τ).loc main_arg0)) (m ((c : Thread nD τ).loc main_arg1)) (m ((c : Thread nD τ).loc main_arg2))) := by
  have h := Pipeline.withArrays_arr (cfgs 0).spec (by decide) c (V0 m c) (fun w => (dats m 0 c).arrAt w (cfgs 0).N) 1
  rw [final_sum] at h
  exact h

/-- The input weight's part: its place in the operand. -/
theorem pack_in (A : FVec Ideal S4x2048x640 .f32) (B : FVec Ideal S4x128x1024 .f32) (C : FVec Ideal S4x256x2048 .f32) (i : S4x1920x1024.Idx) (j : S4x2048x640.Idx)
    (hl : 0 ≤ (i 1).val) (hu : (i 1).val < 1280)
    (he : ((i 0).val * 1280 + ((i 1).val - 0)) * 1024 + (i 2).val = ((j 0).val * 2048 + (j 1).val) * 640 + (j 2).val) :
    PACK A B C i = A j := by
  show (concatenate S4x1920x1024 1 [⟨S4x1280x1024, shapeCast S4x1280x1024 A shapeCasts_S4x2048x640_S4x1280x1024⟩, ⟨S4x128x1024, B⟩, ⟨S4x512x1024, shapeCast S4x512x1024 C shapeCasts_S4x256x2048_S4x512x1024⟩] concatenates_S4x1280x1024_S4x128x1024_S4x512x1024_S4x1920x1024_d1 : FVec Ideal S4x1920x1024 .f32) i = A j
  refine (concatenate_apply_piece (t := S4x1920x1024) (1 : Fin 3) [⟨S4x1280x1024, shapeCast S4x1280x1024 A shapeCasts_S4x2048x640_S4x1280x1024⟩, ⟨S4x128x1024, B⟩, ⟨S4x512x1024, shapeCast S4x512x1024 C shapeCasts_S4x256x2048_S4x512x1024⟩] concatenates_S4x1280x1024_S4x128x1024_S4x512x1024_S4x1920x1024_d1 i 0 (show 0 < 3 by omega) S4x1280x1024 _ rfl rfl 0 rfl
    (ix3 (⟨(i 0).val, (i 0).isLt⟩ : Fin 4) (⟨(i 1).val - 0, by omega⟩ : Fin 1280) (⟨(i 2).val, (i 2).isLt⟩ : Fin 1024))
    (fun b hb => ?_) ?_).trans ?_
  · match b with
    | ⟨0, _⟩ => rfl
    | ⟨1, _⟩ => exact absurd rfl hb
    | ⟨2, _⟩ => rfl
  · show 0 + ((i 1).val - 0) = (i 1).val
    omega
  · refine congrArg A (Shape.reshapeEquiv_eq_of_rowMajor _ ?_)
    rw [Shape.rowMajor_val_three, Shape.rowMajor_val_three]
    exact he.symm

/-- The host's last steps for the input weight's part. -/
abbrev TAIL_in (X : FVec Ideal S1920x1024 .f32) : FVec Ideal S2048x640 .f32 :=
  shapeCast S2048x640 (extractStridedSlice S1280x1024 ![0, 0] X slices_S1920x1024_S1280x1024_0_0 : FVec Ideal S1280x1024 .f32) shapeCasts_S1280x1024_S2048x640

/-- The host's last steps, run on any contents. -/
theorem tail_in (W : Valuation τ sig (Elt Ideal)) : StableHlo.after hostOps1 W (Proc.devRef .tc main_v6)
    = TAIL_in (W (Proc.devRef .tc main_v4)) := by
  simp only [hostOps1, StableHlo.after_cons, StableHlo.after_nil]
  after_results_simp
  rfl

/-- The reference's sum of the input weight's part. -/
abbrev SUM_in (X : FVec Ideal S4x2048x640 .f32) : FVec Ideal S2048x640 .f32 :=
  Host.reduceAdd X (constant Cert.Reference33Ideal.S_ .f32 0x00000000#32) Cert.Reference33Ideal.Gen.reducesTo_S4x2048x640_S2048x640_d0 Cert.Reference33Ideal.Gen.h_S_

/-- The input weight's part: the host's last steps read the reference's sum. -/
theorem unpack_in (A : FVec Ideal S4x2048x640 .f32) (B : FVec Ideal S4x128x1024 .f32) (C : FVec Ideal S4x256x2048 .f32) : TAIL_in (SUMP (PACK A B C)) = SUM_in A := by
  funext j
  obtain ⟨k, hk⟩ : ∃ k : S1280x1024.Idx, k = Shape.reshapeEquiv shapeCasts_S1280x1024_S2048x640 j := ⟨_, rfl⟩
  have hr := Shape.rowMajor_reshapeEquiv shapeCasts_S1280x1024_S2048x640 j
  rw [← hk, Shape.rowMajor_val_two, Shape.rowMajor_val_two] at hr
  replace hr : (k 0).val * 1024 + (k 1).val = (j 0).val * 640 + (j 1).val := hr
  have h0 : (k 0).val < 1280 := (k 0).isLt
  show (extractStridedSlice S1280x1024 ![0, 0] (SUMP (PACK A B C)) slices_S1920x1024_S1280x1024_0_0 : FVec Ideal S1280x1024 .f32) (Shape.reshapeEquiv shapeCasts_S1280x1024_S2048x640 j) = _
  rw [← hk]
  pointwise [SUM_in]
  simp only [Fin.sum_univ_four]
  exact congrArg₂ (fun a b : EReal => a + b) (congrArg₂ (fun a b : EReal => a + b) (congrArg₂ (fun a b : EReal => a + b)

    (pack_in A B C _ _ (by show 0 ≤ (k 0).val; omega) (by show (k 0).val < 1280; omega)
      (by show (0 * 1280 + ((k 0).val - 0)) * 1024 + (k 1).val = (0 * 2048 + (j 0).val) * 640 + (j 1).val; omega))
    (pack_in A B C _ _ (by show 0 ≤ (k 0).val; omega) (by show (k 0).val < 1280; omega)
      (by show (1 * 1280 + ((k 0).val - 0)) * 1024 + (k 1).val = (1 * 2048 + (j 0).val) * 640 + (j 1).val; omega)))
    (pack_in A B C _ _ (by show 0 ≤ (k 0).val; omega) (by show (k 0).val < 1280; omega)
      (by show (2 * 1280 + ((k 0).val - 0)) * 1024 + (k 1).val = (2 * 2048 + (j 0).val) * 640 + (j 1).val; omega)))
    (pack_in A B C _ _ (by show 0 ≤ (k 0).val; omega) (by show (k 0).val < 1280; omega)
      (by show (3 * 1280 + ((k 0).val - 0)) * 1024 + (k 1).val = (3 * 2048 + (j 0).val) * 640 + (j 1).val; omega))

/-- The input weight's part: the result array after the call is the reference's. -/
theorem final_in (c : Dev nD) : Pipeline.afterTail₀ cfgs (dats m) 0 (V0 m) [hostOps1] c main_v6 = SUM_in (m ((c : Thread nD τ).loc main_arg0)) := by
  refine (tail_in _).trans ?_
  rw [after_sum]
  exact unpack_in _ _ _

/-- The gate's part: its place in the operand. -/
theorem pack_glu (A : FVec Ideal S4x2048x640 .f32) (B : FVec Ideal S4x128x1024 .f32) (C : FVec Ideal S4x256x2048 .f32) (i : S4x1920x1024.Idx) (j : S4x128x1024.Idx)
    (hl : 1280 ≤ (i 1).val) (hu : (i 1).val < 1408)
    (he : ((i 0).val * 128 + ((i 1).val - 1280)) * 1024 + (i 2).val = ((j 0).val * 128 + (j 1).val) * 1024 + (j 2).val) :
    PACK A B C i = B j := by
  show (concatenate S4x1920x1024 1 [⟨S4x1280x1024, shapeCast S4x1280x1024 A shapeCasts_S4x2048x640_S4x1280x1024⟩, ⟨S4x128x1024, B⟩, ⟨S4x512x1024, shapeCast S4x512x1024 C shapeCasts_S4x256x2048_S4x512x1024⟩] concatenates_S4x1280x1024_S4x128x1024_S4x512x1024_S4x1920x1024_d1 : FVec Ideal S4x1920x1024 .f32) i = B j
  refine (concatenate_apply_piece (t := S4x1920x1024) (1 : Fin 3) [⟨S4x1280x1024, shapeCast S4x1280x1024 A shapeCasts_S4x2048x640_S4x1280x1024⟩, ⟨S4x128x1024, B⟩, ⟨S4x512x1024, shapeCast S4x512x1024 C shapeCasts_S4x256x2048_S4x512x1024⟩] concatenates_S4x1280x1024_S4x128x1024_S4x512x1024_S4x1920x1024_d1 i 1 (show 1 < 3 by omega) S4x128x1024 _ rfl rfl 1280 rfl
    (ix3 (⟨(i 0).val, (i 0).isLt⟩ : Fin 4) (⟨(i 1).val - 1280, by omega⟩ : Fin 128) (⟨(i 2).val, (i 2).isLt⟩ : Fin 1024))
    (fun b hb => ?_) ?_).trans ?_
  · match b with
    | ⟨0, _⟩ => rfl
    | ⟨1, _⟩ => exact absurd rfl hb
    | ⟨2, _⟩ => rfl
  · show 1280 + ((i 1).val - 1280) = (i 1).val
    omega
  · refine congrArg B ((Shape.rowMajor _).injective (Fin.ext ?_))
    rw [Shape.rowMajor_val_three, Shape.rowMajor_val_three]
    exact he

/-- The host's last steps for the gate's part. -/
abbrev TAIL_glu (X : FVec Ideal S1920x1024 .f32) : FVec Ideal S128x1024 .f32 :=
  (extractStridedSlice S128x1024 ![1280, 0] X slices_S1920x1024_S128x1024_1280_0 : FVec Ideal S128x1024 .f32)

/-- The host's last steps, run on any contents. -/
theorem tail_glu (W : Valuation τ sig (Elt Ideal)) : StableHlo.after hostOps1 W (Proc.devRef .tc main_v7)
    = TAIL_glu (W (Proc.devRef .tc main_v4)) := by
  simp only [hostOps1, StableHlo.after_cons, StableHlo.after_nil]
  after_results_simp

/-- The reference's sum of the gate's part. -/
abbrev SUM_glu (X : FVec Ideal S4x128x1024 .f32) : FVec Ideal S128x1024 .f32 :=
  Host.reduceAdd X (constant Cert.Reference33Ideal.S_ .f32 0x00000000#32) Cert.Reference33Ideal.Gen.reducesTo_S4x128x1024_S128x1024_d0 Cert.Reference33Ideal.Gen.h_S_

/-- The gate's part: the host's last steps read the reference's sum. -/
theorem unpack_glu (A : FVec Ideal S4x2048x640 .f32) (B : FVec Ideal S4x128x1024 .f32) (C : FVec Ideal S4x256x2048 .f32) : TAIL_glu (SUMP (PACK A B C)) = SUM_glu B := by
  funext j
  have h0 : (j 0).val < 128 := (j 0).isLt
  pointwise [SUM_glu]
  simp only [Fin.sum_univ_four]
  exact congrArg₂ (fun a b : EReal => a + b) (congrArg₂ (fun a b : EReal => a + b) (congrArg₂ (fun a b : EReal => a + b)

    (pack_glu A B C _ _ (by show 1280 ≤ 1280 + (j 0).val; omega) (by show 1280 + (j 0).val < 1408; omega)
      (by show (0 * 128 + (1280 + (j 0).val - 1280)) * 1024 + (j 1).val = (0 * 128 + (j 0).val) * 1024 + (j 1).val; omega))
    (pack_glu A B C _ _ (by show 1280 ≤ 1280 + (j 0).val; omega) (by show 1280 + (j 0).val < 1408; omega)
      (by show (1 * 128 + (1280 + (j 0).val - 1280)) * 1024 + (j 1).val = (1 * 128 + (j 0).val) * 1024 + (j 1).val; omega)))
    (pack_glu A B C _ _ (by show 1280 ≤ 1280 + (j 0).val; omega) (by show 1280 + (j 0).val < 1408; omega)
      (by show (2 * 128 + (1280 + (j 0).val - 1280)) * 1024 + (j 1).val = (2 * 128 + (j 0).val) * 1024 + (j 1).val; omega)))
    (pack_glu A B C _ _ (by show 1280 ≤ 1280 + (j 0).val; omega) (by show 1280 + (j 0).val < 1408; omega)
      (by show (3 * 128 + (1280 + (j 0).val - 1280)) * 1024 + (j 1).val = (3 * 128 + (j 0).val) * 1024 + (j 1).val; omega))

/-- The gate's part: the result array after the call is the reference's. -/
theorem final_glu (c : Dev nD) : Pipeline.afterTail₀ cfgs (dats m) 0 (V0 m) [hostOps1] c main_v7 = SUM_glu (m ((c : Thread nD τ).loc main_arg1)) := by
  refine (tail_glu _).trans ?_
  rw [after_sum]
  exact unpack_glu _ _ _

/-- The output weight's part: its place in the operand. -/
theorem pack_out (A : FVec Ideal S4x2048x640 .f32) (B : FVec Ideal S4x128x1024 .f32) (C : FVec Ideal S4x256x2048 .f32) (i : S4x1920x1024.Idx) (j : S4x256x2048.Idx)
    (hl : 1408 ≤ (i 1).val) (hu : (i 1).val < 1920)
    (he : ((i 0).val * 512 + ((i 1).val - 1408)) * 1024 + (i 2).val = ((j 0).val * 256 + (j 1).val) * 2048 + (j 2).val) :
    PACK A B C i = C j := by
  show (concatenate S4x1920x1024 1 [⟨S4x1280x1024, shapeCast S4x1280x1024 A shapeCasts_S4x2048x640_S4x1280x1024⟩, ⟨S4x128x1024, B⟩, ⟨S4x512x1024, shapeCast S4x512x1024 C shapeCasts_S4x256x2048_S4x512x1024⟩] concatenates_S4x1280x1024_S4x128x1024_S4x512x1024_S4x1920x1024_d1 : FVec Ideal S4x1920x1024 .f32) i = C j
  refine (concatenate_apply_piece (t := S4x1920x1024) (1 : Fin 3) [⟨S4x1280x1024, shapeCast S4x1280x1024 A shapeCasts_S4x2048x640_S4x1280x1024⟩, ⟨S4x128x1024, B⟩, ⟨S4x512x1024, shapeCast S4x512x1024 C shapeCasts_S4x256x2048_S4x512x1024⟩] concatenates_S4x1280x1024_S4x128x1024_S4x512x1024_S4x1920x1024_d1 i 2 (show 2 < 3 by omega) S4x512x1024 _ rfl rfl 1408 rfl
    (ix3 (⟨(i 0).val, (i 0).isLt⟩ : Fin 4) (⟨(i 1).val - 1408, by omega⟩ : Fin 512) (⟨(i 2).val, (i 2).isLt⟩ : Fin 1024))
    (fun b hb => ?_) ?_).trans ?_
  · match b with
    | ⟨0, _⟩ => rfl
    | ⟨1, _⟩ => exact absurd rfl hb
    | ⟨2, _⟩ => rfl
  · show 1408 + ((i 1).val - 1408) = (i 1).val
    omega
  · refine congrArg C (Shape.reshapeEquiv_eq_of_rowMajor _ ?_)
    rw [Shape.rowMajor_val_three, Shape.rowMajor_val_three]
    exact he.symm

/-- The host's last steps for the output weight's part. -/
abbrev TAIL_out (X : FVec Ideal S1920x1024 .f32) : FVec Ideal S256x2048 .f32 :=
  shapeCast S256x2048 (extractStridedSlice S512x1024 ![1408, 0] X slices_S1920x1024_S512x1024_1408_0 : FVec Ideal S512x1024 .f32) shapeCasts_S512x1024_S256x2048

/-- The host's last steps, run on any contents. -/
theorem tail_out (W : Valuation τ sig (Elt Ideal)) : StableHlo.after hostOps1 W (Proc.devRef .tc main_v9)
    = TAIL_out (W (Proc.devRef .tc main_v4)) := by
  simp only [hostOps1, StableHlo.after_cons, StableHlo.after_nil]
  after_results_simp
  rfl

/-- The reference's sum of the output weight's part. -/
abbrev SUM_out (X : FVec Ideal S4x256x2048 .f32) : FVec Ideal S256x2048 .f32 :=
  Host.reduceAdd X (constant Cert.Reference33Ideal.S_ .f32 0x00000000#32) Cert.Reference33Ideal.Gen.reducesTo_S4x256x2048_S256x2048_d0 Cert.Reference33Ideal.Gen.h_S_

/-- The output weight's part: the host's last steps read the reference's sum. -/
theorem unpack_out (A : FVec Ideal S4x2048x640 .f32) (B : FVec Ideal S4x128x1024 .f32) (C : FVec Ideal S4x256x2048 .f32) : TAIL_out (SUMP (PACK A B C)) = SUM_out C := by
  funext j
  obtain ⟨k, hk⟩ : ∃ k : S512x1024.Idx, k = Shape.reshapeEquiv shapeCasts_S512x1024_S256x2048 j := ⟨_, rfl⟩
  have hr := Shape.rowMajor_reshapeEquiv shapeCasts_S512x1024_S256x2048 j
  rw [← hk, Shape.rowMajor_val_two, Shape.rowMajor_val_two] at hr
  replace hr : (k 0).val * 1024 + (k 1).val = (j 0).val * 2048 + (j 1).val := hr
  have h0 : (k 0).val < 512 := (k 0).isLt
  show (extractStridedSlice S512x1024 ![1408, 0] (SUMP (PACK A B C)) slices_S1920x1024_S512x1024_1408_0 : FVec Ideal S512x1024 .f32) (Shape.reshapeEquiv shapeCasts_S512x1024_S256x2048 j) = _
  rw [← hk]
  pointwise [SUM_out]
  simp only [Fin.sum_univ_four]
  exact congrArg₂ (fun a b : EReal => a + b) (congrArg₂ (fun a b : EReal => a + b) (congrArg₂ (fun a b : EReal => a + b)

    (pack_out A B C _ _ (by show 1408 ≤ 1408 + (k 0).val; omega) (by show 1408 + (k 0).val < 1920; omega)
      (by show (0 * 512 + (1408 + (k 0).val - 1408)) * 1024 + (k 1).val = (0 * 256 + (j 0).val) * 2048 + (j 1).val; omega))
    (pack_out A B C _ _ (by show 1408 ≤ 1408 + (k 0).val; omega) (by show 1408 + (k 0).val < 1920; omega)
      (by show (1 * 512 + (1408 + (k 0).val - 1408)) * 1024 + (k 1).val = (1 * 256 + (j 0).val) * 2048 + (j 1).val; omega)))
    (pack_out A B C _ _ (by show 1408 ≤ 1408 + (k 0).val; omega) (by show 1408 + (k 0).val < 1920; omega)
      (by show (2 * 512 + (1408 + (k 0).val - 1408)) * 1024 + (k 1).val = (2 * 256 + (j 0).val) * 2048 + (j 1).val; omega)))
    (pack_out A B C _ _ (by show 1408 ≤ 1408 + (k 0).val; omega) (by show 1408 + (k 0).val < 1920; omega)
      (by show (3 * 512 + (1408 + (k 0).val - 1408)) * 1024 + (k 1).val = (3 * 256 + (j 0).val) * 2048 + (j 1).val; omega))

/-- The output weight's part: the result array after the call is the reference's. -/
theorem final_out (c : Dev nD) : Pipeline.afterTail₀ cfgs (dats m) 0 (V0 m) [hostOps1] c main_v9 = SUM_out (m ((c : Thread nD τ).loc main_arg2)) := by
  refine (tail_out _).trans ?_
  rw [after_sum]
  exact unpack_out _ _ _

end Cert.Kernel33Ideal.Value

end
-- ==== Proof.ClaimSumEven.lean ====
/- The value claim of the sum of the even layers' gradients over the chips: its kernel and its reference end with equal results. -/
module

public import proofs.«01_k».proof.Defs
public import proofs.«01_k».proof.Proof.SumEven
public import Idealize.ShloMosaic.Lib.Claim

@[expose] public section

set_option maxRecDepth 16384

noncomputable section

namespace Cert.Proof

open Idealize.ShloMosaic Idealize.SL.Sem

/-- The sum of the even layers' gradients over the chips: over the extended reals the kernel computes what its reference computes. -/
theorem algebraic33 : Cert.algebraic_Kernel33Ideal_Reference33Ideal (hKernel33Ideal := Cert.Kernel33Ideal.Gen.facts)
    (hReference33Ideal := Cert.Reference33Ideal.Gen.facts) := by
  pair_intro
  · run_from Cert.Kernel33Ideal.Gen.run_main m g
    · exact Cert.Kernel33Ideal.Gen.W_main_arg0 m _ c
    · exact Cert.Kernel33Ideal.Gen.W_main_arg1 m _ c
    · exact Cert.Kernel33Ideal.Gen.W_main_arg2 m _ c
  · hlo_run
    · exact (Cert.Kernel33Ideal.Value.final_in m c).symm
    · exact (Cert.Kernel33Ideal.Value.final_glu m c).symm
    · exact (Cert.Kernel33Ideal.Value.final_out m c).symm

end Cert.Proof

end
-- ==== Proof.SumOdd.lean ====
/- The sum over the chips of the odd layers' gradients (`Kernel34`): the result arrays of the call are the reference's sums.
   The call lays the parts side by side as rows of 1024, adds them over the chips and takes the parts apart again. -/
module

public import proofs.«01_k».proof.Proof.Gen.Kernel34Ideal.Frame
public import proofs.«01_k».proof.Proof.Gen.Reference34Ideal
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel34Ideal.Value

open Cert.Kernel34Ideal Cert.Kernel34Ideal.Gen

variable (m : (ℓ : Loc nD τ sig) → Buf (Elt Ideal) ℓ)

/-- The block every window stages at grid point `t`: rows `t`. -/
theorem idx : ∀ t : Fin cfg0.N, win0_0.index t = ![0, t.val, 0] ∧ win0_1.index t = ![t.val, 0] :=
  (by decide +kernel : ∀ t : Fin grid0.N, _)

/-- The operand of the call: the parts as rows of 1024, side by side. -/
abbrev PACK (A : FVec Ideal S4x2048x320 .f32) (B : FVec Ideal S4x256x2048 .f32) : FVec Ideal S4x1152x1024 .bf16 :=
  truncf .bf16 (concatenate S4x1152x1024 1 [⟨S4x640x1024, shapeCast S4x640x1024 A shapeCasts_S4x2048x320_S4x640x1024⟩, ⟨S4x512x1024, shapeCast S4x512x1024 B shapeCasts_S4x256x2048_S4x512x1024⟩] concatenates_S4x640x1024_S4x512x1024_S4x1152x1024_d1 : FVec Ideal S4x1152x1024 .f32) bitsLt_bf16_f32

/-- The operand when the call begins. -/
theorem entry_0 (c : Dev nD) : V m c (Pipeline.arrRef spec0 0) = PACK (m ((c : Thread nD τ).loc main_arg0)) (m ((c : Thread nD τ).loc main_arg1)) := by
  entry_read
  rfl

/-- The sum of the operand over the chips. -/
abbrev SUMP (X : FVec Ideal S4x1152x1024 .bf16) : FVec Ideal S1152x1024 .f32 := fun j =>
  ((X (ix3 0 (j 0) (j 1)) : EReal) + X (ix3 1 (j 0) (j 1)) + X (ix3 2 (j 0) (j 1))
    + X (ix3 3 (j 0) (j 1)) : EReal)

/-- The index of the sum that block index `y` of grid point `t` stands for. -/
abbrev place (t : Fin cfg0.N) (y : S384x1024.Idx) : S1152x1024.Idx := ((cfg0.win 1).blk t).view.emb y

/-- A staged block of the operand, as a read of the operand. -/
theorem blk_0 (c : Dev nD) (t : Fin cfg0.N) (k : Fin 4) (y : S384x1024.Idx) : iblk m c 0 t (ix3 k (y 0) (y 1) : S4x384x1024.Idx)
    = PACK (m ((c : Thread nD τ).loc main_arg0)) (m ((c : Thread nD τ).loc main_arg1)) (ix3 k (place t y 0) (place t y 1)) := by
  have e : ((cfg0.win 0).blk t).view.emb (ix3 k (y 0) (y 1) : S4x384x1024.Idx)
      = (ix3 k (place t y 0) (place t y 1) : S4x1152x1024.Idx) := by blk_ext [idx t, place]
  unfold iblk
  rw [View.read_apply, entry_0, cast_eq, e]

/-- The result array of the call is the sum of the operand over the chips. -/
theorem final_sum (c : Dev nD) : (dats m 0 c).arrAt 1 (cfgs 0).N = SUMP (PACK (m ((c : Thread nD τ).loc main_arg0)) (m ((c : Thread nD τ).loc main_arg1))) := by
  refine (dats m 0 c).arrAt_eq_of_covers 1 _ (by decide +kernel) fun t _ y => ?_
  blk_simp
  rw [after0_1]; frame_out
  pointwise [k0_pay1]
  exact congrArg₂ (fun a b : EReal => a + b) (congrArg₂ (fun a b : EReal => a + b) (congrArg₂ (fun a b : EReal => a + b)
    (blk_0 m c t 0 y) (blk_0 m c t 1 y)) (blk_0 m c t 2 y)) (blk_0 m c t 3 y)

/-- The call's result array, in the contents the host's last steps begin with. -/
theorem after_sum (c : Dev nD) : Pipeline.withArrays (cfgs 0).spec c (V0 m c) (fun w => (dats m 0 c).arrAt w (cfgs 0).N) (Proc.devRef .tc main_v4)
    = SUMP (PACK (m ((c : Thread nD τ).loc main_arg0)) (m ((c : Thread nD τ).loc main_arg1))) := by
  have h := Pipeline.withArrays_arr (cfgs 0).spec (by decide) c (V0 m c) (fun w => (dats m 0 c).arrAt w (cfgs 0).N) 1
  rw [final_sum] at h
  exact h

/-- The query, key and value weight's part: its place in the operand. -/
theorem pack_qkv (A : FVec Ideal S4x2048x320 .f32) (B : FVec Ideal S4x256x2048 .f32) (i : S4x1152x1024.Idx) (j : S4x2048x320.Idx)
    (hl : 0 ≤ (i 1).val) (hu : (i 1).val < 640)
    (he : ((i 0).val * 640 + ((i 1).val - 0)) * 1024 + (i 2).val = ((j 0).val * 2048 + (j 1).val) * 320 + (j 2).val) :
    PACK A B i = A j := by
  show (concatenate S4x1152x1024 1 [⟨S4x640x1024, shapeCast S4x640x1024 A shapeCasts_S4x2048x320_S4x640x1024⟩, ⟨S4x512x1024, shapeCast S4x512x1024 B shapeCasts_S4x256x2048_S4x512x1024⟩] concatenates_S4x640x1024_S4x512x1024_S4x1152x1024_d1 : FVec Ideal S4x1152x1024 .f32) i = A j
  refine (concatenate_apply_piece (t := S4x1152x1024) (1 : Fin 3) [⟨S4x640x1024, shapeCast S4x640x1024 A shapeCasts_S4x2048x320_S4x640x1024⟩, ⟨S4x512x1024, shapeCast S4x512x1024 B shapeCasts_S4x256x2048_S4x512x1024⟩] concatenates_S4x640x1024_S4x512x1024_S4x1152x1024_d1 i 0 (show 0 < 2 by omega) S4x640x1024 _ rfl rfl 0 rfl
    (ix3 (⟨(i 0).val, (i 0).isLt⟩ : Fin 4) (⟨(i 1).val - 0, by omega⟩ : Fin 640) (⟨(i 2).val, (i 2).isLt⟩ : Fin 1024))
    (fun b hb => ?_) ?_).trans ?_
  · match b with
    | ⟨0, _⟩ => rfl
    | ⟨1, _⟩ => exact absurd rfl hb
    | ⟨2, _⟩ => rfl
  · show 0 + ((i 1).val - 0) = (i 1).val
    omega
  · refine congrArg A (Shape.reshapeEquiv_eq_of_rowMajor _ ?_)
    rw [Shape.rowMajor_val_three, Shape.rowMajor_val_three]
    exact he.symm

/-- The host's last steps for the query, key and value weight's part. -/
abbrev TAIL_qkv (X : FVec Ideal S1152x1024 .f32) : FVec Ideal S2048x320 .f32 :=
  shapeCast S2048x320 (extractStridedSlice S640x1024 ![0, 0] X slices_S1152x1024_S640x1024_0_0 : FVec Ideal S640x1024 .f32) shapeCasts_S640x1024_S2048x320

/-- The host's last steps, run on any contents. -/
theorem tail_qkv (W : Valuation τ sig (Elt Ideal)) : StableHlo.after hostOps1 W (Proc.devRef .tc main_v6)
    = TAIL_qkv (W (Proc.devRef .tc main_v4)) := by
  simp only [hostOps1, StableHlo.after_cons, StableHlo.after_nil]
  after_results_simp
  rfl

/-- The reference's sum of the query, key and value weight's part. -/
abbrev SUM_qkv (X : FVec Ideal S4x2048x320 .f32) : FVec Ideal S2048x320 .f32 :=
  Host.reduceAdd X (constant Cert.Reference34Ideal.S_ .f32 0x00000000#32) Cert.Reference34Ideal.Gen.reducesTo_S4x2048x320_S2048x320_d0 Cert.Reference34Ideal.Gen.h_S_

/-- The query, key and value weight's part: the host's last steps read the reference's sum. -/
theorem unpack_qkv (A : FVec Ideal S4x2048x320 .f32) (B : FVec Ideal S4x256x2048 .f32) : TAIL_qkv (SUMP (PACK A B)) = SUM_qkv A := by
  funext j
  obtain ⟨k, hk⟩ : ∃ k : S640x1024.Idx, k = Shape.reshapeEquiv shapeCasts_S640x1024_S2048x320 j := ⟨_, rfl⟩
  have hr := Shape.rowMajor_reshapeEquiv shapeCasts_S640x1024_S2048x320 j
  rw [← hk, Shape.rowMajor_val_two, Shape.rowMajor_val_two] at hr
  replace hr : (k 0).val * 1024 + (k 1).val = (j 0).val * 320 + (j 1).val := hr
  have h0 : (k 0).val < 640 := (k 0).isLt
  show (extractStridedSlice S640x1024 ![0, 0] (SUMP (PACK A B)) slices_S1152x1024_S640x1024_0_0 : FVec Ideal S640x1024 .f32) (Shape.reshapeEquiv shapeCasts_S640x1024_S2048x320 j) = _
  rw [← hk]
  pointwise [SUM_qkv]
  simp only [Fin.sum_univ_four]
  exact congrArg₂ (fun a b : EReal => a + b) (congrArg₂ (fun a b : EReal => a + b) (congrArg₂ (fun a b : EReal => a + b)

    (pack_qkv A B _ _ (by show 0 ≤ (k 0).val; omega) (by show (k 0).val < 640; omega)
      (by show (0 * 640 + ((k 0).val - 0)) * 1024 + (k 1).val = (0 * 2048 + (j 0).val) * 320 + (j 1).val; omega))
    (pack_qkv A B _ _ (by show 0 ≤ (k 0).val; omega) (by show (k 0).val < 640; omega)
      (by show (1 * 640 + ((k 0).val - 0)) * 1024 + (k 1).val = (1 * 2048 + (j 0).val) * 320 + (j 1).val; omega)))
    (pack_qkv A B _ _ (by show 0 ≤ (k 0).val; omega) (by show (k 0).val < 640; omega)
      (by show (2 * 640 + ((k 0).val - 0)) * 1024 + (k 1).val = (2 * 2048 + (j 0).val) * 320 + (j 1).val; omega)))
    (pack_qkv A B _ _ (by show 0 ≤ (k 0).val; omega) (by show (k 0).val < 640; omega)
      (by show (3 * 640 + ((k 0).val - 0)) * 1024 + (k 1).val = (3 * 2048 + (j 0).val) * 320 + (j 1).val; omega))

/-- The query, key and value weight's part: the result array after the call is the reference's. -/
theorem final_qkv (c : Dev nD) : Pipeline.afterTail₀ cfgs (dats m) 0 (V0 m) [hostOps1] c main_v6 = SUM_qkv (m ((c : Thread nD τ).loc main_arg0)) := by
  refine (tail_qkv _).trans ?_
  rw [after_sum]
  exact unpack_qkv _ _

/-- The output weight's part: its place in the operand. -/
theorem pack_out (A : FVec Ideal S4x2048x320 .f32) (B : FVec Ideal S4x256x2048 .f32) (i : S4x1152x1024.Idx) (j : S4x256x2048.Idx)
    (hl : 640 ≤ (i 1).val) (hu : (i 1).val < 1152)
    (he : ((i 0).val * 512 + ((i 1).val - 640)) * 1024 + (i 2).val = ((j 0).val * 256 + (j 1).val) * 2048 + (j 2).val) :
    PACK A B i = B j := by
  show (concatenate S4x1152x1024 1 [⟨S4x640x1024, shapeCast S4x640x1024 A shapeCasts_S4x2048x320_S4x640x1024⟩, ⟨S4x512x1024, shapeCast S4x512x1024 B shapeCasts_S4x256x2048_S4x512x1024⟩] concatenates_S4x640x1024_S4x512x1024_S4x1152x1024_d1 : FVec Ideal S4x1152x1024 .f32) i = B j
  refine (concatenate_apply_piece (t := S4x1152x1024) (1 : Fin 3) [⟨S4x640x1024, shapeCast S4x640x1024 A shapeCasts_S4x2048x320_S4x640x1024⟩, ⟨S4x512x1024, shapeCast S4x512x1024 B shapeCasts_S4x256x2048_S4x512x1024⟩] concatenates_S4x640x1024_S4x512x1024_S4x1152x1024_d1 i 1 (show 1 < 2 by omega) S4x512x1024 _ rfl rfl 640 rfl
    (ix3 (⟨(i 0).val, (i 0).isLt⟩ : Fin 4) (⟨(i 1).val - 640, by omega⟩ : Fin 512) (⟨(i 2).val, (i 2).isLt⟩ : Fin 1024))
    (fun b hb => ?_) ?_).trans ?_
  · match b with
    | ⟨0, _⟩ => rfl
    | ⟨1, _⟩ => exact absurd rfl hb
    | ⟨2, _⟩ => rfl
  · show 640 + ((i 1).val - 640) = (i 1).val
    omega
  · refine congrArg B (Shape.reshapeEquiv_eq_of_rowMajor _ ?_)
    rw [Shape.rowMajor_val_three, Shape.rowMajor_val_three]
    exact he.symm

/-- The host's last steps for the output weight's part. -/
abbrev TAIL_out (X : FVec Ideal S1152x1024 .f32) : FVec Ideal S256x2048 .f32 :=
  shapeCast S256x2048 (extractStridedSlice S512x1024 ![640, 0] X slices_S1152x1024_S512x1024_640_0 : FVec Ideal S512x1024 .f32) shapeCasts_S512x1024_S256x2048

/-- The host's last steps, run on any contents. -/
theorem tail_out (W : Valuation τ sig (Elt Ideal)) : StableHlo.after hostOps1 W (Proc.devRef .tc main_v8)
    = TAIL_out (W (Proc.devRef .tc main_v4)) := by
  simp only [hostOps1, StableHlo.after_cons, StableHlo.after_nil]
  after_results_simp
  rfl

/-- The reference's sum of the output weight's part. -/
abbrev SUM_out (X : FVec Ideal S4x256x2048 .f32) : FVec Ideal S256x2048 .f32 :=
  Host.reduceAdd X (constant Cert.Reference34Ideal.S_ .f32 0x00000000#32) Cert.Reference34Ideal.Gen.reducesTo_S4x256x2048_S256x2048_d0 Cert.Reference34Ideal.Gen.h_S_

/-- The output weight's part: the host's last steps read the reference's sum. -/
theorem unpack_out (A : FVec Ideal S4x2048x320 .f32) (B : FVec Ideal S4x256x2048 .f32) : TAIL_out (SUMP (PACK A B)) = SUM_out B := by
  funext j
  obtain ⟨k, hk⟩ : ∃ k : S512x1024.Idx, k = Shape.reshapeEquiv shapeCasts_S512x1024_S256x2048 j := ⟨_, rfl⟩
  have hr := Shape.rowMajor_reshapeEquiv shapeCasts_S512x1024_S256x2048 j
  rw [← hk, Shape.rowMajor_val_two, Shape.rowMajor_val_two] at hr
  replace hr : (k 0).val * 1024 + (k 1).val = (j 0).val * 2048 + (j 1).val := hr
  have h0 : (k 0).val < 512 := (k 0).isLt
  show (extractStridedSlice S512x1024 ![640, 0] (SUMP (PACK A B)) slices_S1152x1024_S512x1024_640_0 : FVec Ideal S512x1024 .f32) (Shape.reshapeEquiv shapeCasts_S512x1024_S256x2048 j) = _
  rw [← hk]
  pointwise [SUM_out]
  simp only [Fin.sum_univ_four]
  exact congrArg₂ (fun a b : EReal => a + b) (congrArg₂ (fun a b : EReal => a + b) (congrArg₂ (fun a b : EReal => a + b)

    (pack_out A B _ _ (by show 640 ≤ 640 + (k 0).val; omega) (by show 640 + (k 0).val < 1152; omega)
      (by show (0 * 512 + (640 + (k 0).val - 640)) * 1024 + (k 1).val = (0 * 256 + (j 0).val) * 2048 + (j 1).val; omega))
    (pack_out A B _ _ (by show 640 ≤ 640 + (k 0).val; omega) (by show 640 + (k 0).val < 1152; omega)
      (by show (1 * 512 + (640 + (k 0).val - 640)) * 1024 + (k 1).val = (1 * 256 + (j 0).val) * 2048 + (j 1).val; omega)))
    (pack_out A B _ _ (by show 640 ≤ 640 + (k 0).val; omega) (by show 640 + (k 0).val < 1152; omega)
      (by show (2 * 512 + (640 + (k 0).val - 640)) * 1024 + (k 1).val = (2 * 256 + (j 0).val) * 2048 + (j 1).val; omega)))
    (pack_out A B _ _ (by show 640 ≤ 640 + (k 0).val; omega) (by show 640 + (k 0).val < 1152; omega)
      (by show (3 * 512 + (640 + (k 0).val - 640)) * 1024 + (k 1).val = (3 * 256 + (j 0).val) * 2048 + (j 1).val; omega))

/-- The output weight's part: the result array after the call is the reference's. -/
theorem final_out (c : Dev nD) : Pipeline.afterTail₀ cfgs (dats m) 0 (V0 m) [hostOps1] c main_v8 = SUM_out (m ((c : Thread nD τ).loc main_arg1)) := by
  refine (tail_out _).trans ?_
  rw [after_sum]
  exact unpack_out _ _

end Cert.Kernel34Ideal.Value

end
-- ==== Proof.ClaimSumOdd.lean ====
/- The value claim of the sum of the odd layers' gradients over the chips: its kernel and its reference end with equal results. -/
module

public import proofs.«01_k».proof.Defs
public import proofs.«01_k».proof.Proof.SumOdd
public import Idealize.ShloMosaic.Lib.Claim

@[expose] public section

set_option maxRecDepth 16384

noncomputable section

namespace Cert.Proof

open Idealize.ShloMosaic Idealize.SL.Sem

/-- The sum of the odd layers' gradients over the chips: over the extended reals the kernel computes what its reference computes. -/
theorem algebraic34 : Cert.algebraic_Kernel34Ideal_Reference34Ideal (hKernel34Ideal := Cert.Kernel34Ideal.Gen.facts)
    (hReference34Ideal := Cert.Reference34Ideal.Gen.facts) := by
  pair_intro
  · run_from Cert.Kernel34Ideal.Gen.run_main m g
    · exact Cert.Kernel34Ideal.Gen.W_main_arg0 m _ c
    · exact Cert.Kernel34Ideal.Gen.W_main_arg1 m _ c
  · hlo_run
    · exact (Cert.Kernel34Ideal.Value.final_qkv m c).symm
    · exact (Cert.Kernel34Ideal.Value.final_out m c).symm

end Cert.Proof

end
-- ==== Proof.lean ====
/- The certificate's claim, put together from the frames of the programs and the value claims of the calls. -/
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame
public import proofs.«01_k».proof.Proof.Gen.Kernel7.Frame
public import proofs.«01_k».proof.Proof.Gen.Kernel7Ideal.Frame
public import proofs.«01_k».proof.Proof.Gen.Kernel8.Frame
public import proofs.«01_k».proof.Proof.Gen.Kernel8Ideal.Frame
public import proofs.«01_k».proof.Proof.Gen.Kernel9.Frame
public import proofs.«01_k».proof.Proof.Gen.Kernel9Ideal.Frame
public import proofs.«01_k».proof.Proof.Gen.Kernel10.Frame
public import proofs.«01_k».proof.Proof.Gen.Kernel10Ideal.Frame
public import proofs.«01_k».proof.Proof.Gen.Kernel11.Frame
public import proofs.«01_k».proof.Proof.Gen.Kernel11Ideal.Frame
public import proofs.«01_k».proof.Proof.Gen.Kernel12.Frame
public import proofs.«01_k».proof.Proof.Gen.Kernel12Ideal.Frame
public import proofs.«01_k».proof.Proof.Gen.Kernel13.Frame
public import proofs.«01_k».proof.Proof.Gen.Kernel13Ideal.Frame
public import proofs.«01_k».proof.Proof.Gen.Kernel14.Frame
public import proofs.«01_k».proof.Proof.Gen.Kernel14Ideal.Frame
public import proofs.«01_k».proof.Proof.Gen.Kernel15.Frame
public import proofs.«01_k».proof.Proof.Gen.Kernel15Ideal.Frame
public import proofs.«01_k».proof.Proof.Gen.Kernel16.Frame
public import proofs.«01_k».proof.Proof.Gen.Kernel16Ideal.Frame
public import proofs.«01_k».proof.Proof.Gen.Kernel17.Frame
public import proofs.«01_k».proof.Proof.Gen.Kernel17Ideal.Frame
public import proofs.«01_k».proof.Proof.Gen.Kernel18.Frame
public import proofs.«01_k».proof.Proof.Gen.Kernel18Ideal.Frame
public import proofs.«01_k».proof.Proof.Gen.Kernel19.Frame
public import proofs.«01_k».proof.Proof.Gen.Kernel19Ideal.Frame
public import proofs.«01_k».proof.Proof.Gen.Kernel20.Frame
public import proofs.«01_k».proof.Proof.Gen.Kernel20Ideal.Frame
public import proofs.«01_k».proof.Proof.Gen.Kernel21.Frame
public import proofs.«01_k».proof.Proof.Gen.Kernel21Ideal.Frame
public import proofs.«01_k».proof.Proof.Gen.Kernel22.Frame
public import proofs.«01_k».proof.Proof.Gen.Kernel22Ideal.Frame
public import proofs.«01_k».proof.Proof.Gen.Kernel23.Frame
public import proofs.«01_k».proof.Proof.Gen.Kernel23Ideal.Frame
public import proofs.«01_k».proof.Proof.Gen.Kernel24.Frame
public import proofs.«01_k».proof.Proof.Gen.Kernel24Ideal.Frame
public import proofs.«01_k».proof.Proof.Gen.Kernel25.Frame
public import proofs.«01_k».proof.Proof.Gen.Kernel25Ideal.Frame
public import proofs.«01_k».proof.Proof.Gen.Kernel26.Frame
public import proofs.«01_k».proof.Proof.Gen.Kernel26Ideal.Frame
public import proofs.«01_k».proof.Proof.Gen.Kernel27.Frame
public import proofs.«01_k».proof.Proof.Gen.Kernel27Ideal.Frame
public import proofs.«01_k».proof.Proof.Gen.Kernel28.Frame
public import proofs.«01_k».proof.Proof.Gen.Kernel28Ideal.Frame
public import proofs.«01_k».proof.Proof.Gen.Kernel29.Frame
public import proofs.«01_k».proof.Proof.Gen.Kernel29Ideal.Frame
public import proofs.«01_k».proof.Proof.Gen.Kernel30.Frame
public import proofs.«01_k».proof.Proof.Gen.Kernel30Ideal.Frame
public import proofs.«01_k».proof.Proof.Gen.Kernel31.Frame
public import proofs.«01_k».proof.Proof.Gen.Kernel31Ideal.Frame
public import proofs.«01_k».proof.Proof.Gen.Kernel32.Frame
public import proofs.«01_k».proof.Proof.Gen.Kernel32Ideal.Frame
public import proofs.«01_k».proof.Proof.Gen.Kernel33.Frame
public import proofs.«01_k».proof.Proof.Gen.Kernel33Ideal.Frame
public import proofs.«01_k».proof.Proof.Gen.Kernel34.Frame
public import proofs.«01_k».proof.Proof.Gen.Kernel34Ideal.Frame
public import proofs.«01_k».proof.Proof.RefFrames
public import proofs.«01_k».proof.Proof.RefFrame26
public import proofs.«01_k».proof.Proof.ClaimUp
public import proofs.«01_k».proof.Proof.ClaimDact
public import proofs.«01_k».proof.Proof.ClaimDwDown
public import proofs.«01_k».proof.Proof.ClaimDwUp
public import proofs.«01_k».proof.Proof.ClaimDown
public import proofs.«01_k».proof.Proof.ClaimDxnUp
public import proofs.«01_k».proof.Proof.ClaimDwIn
public import proofs.«01_k».proof.Proof.ClaimDwOut
public import proofs.«01_k».proof.Proof.ClaimDwQkv
public import proofs.«01_k».proof.Proof.ClaimDyOut
public import proofs.«01_k».proof.Proof.ClaimWIn
public import proofs.«01_k».proof.Proof.ClaimWQkv
public import proofs.«01_k».proof.Proof.ClaimWOut
public import proofs.«01_k».proof.Proof.ClaimAdamMlpUp
public import proofs.«01_k».proof.Proof.ClaimAdamMlpDown
public import proofs.«01_k».proof.Proof.ClaimAdamWIn
public import proofs.«01_k».proof.Proof.ClaimAdamEvenOut
public import proofs.«01_k».proof.Proof.ClaimAdamWQkv
public import proofs.«01_k».proof.Proof.ClaimAdamOddOut
public import proofs.«01_k».proof.Proof.ClaimAdamGlu
public import proofs.«01_k».proof.Proof.ClaimDownLast
public import proofs.«01_k».proof.Proof.ClaimDwGlu
public import proofs.«01_k».proof.Proof.ClaimDxnIn
public import proofs.«01_k».proof.Proof.ClaimDxnQkv
public import proofs.«01_k».proof.Proof.ClaimAdamSmall
public import proofs.«01_k».proof.Proof.ClaimGluFwd
public import proofs.«01_k».proof.Proof.ClaimRmsFwd
public import proofs.«01_k».proof.Proof.ClaimGluBwd
public import proofs.«01_k».proof.Proof.ClaimLossHead
public import proofs.«01_k».proof.Proof.ClaimSumSmall
public import proofs.«01_k».proof.Proof.ClaimSumMlp
public import proofs.«01_k».proof.Proof.ClaimSumEven
public import proofs.«01_k».proof.Proof.ClaimSumOdd
public import Idealize.ShloMosaic.Adequacy
public import Idealize.ShloMosaic.Init

@[expose] public section

noncomputable section

namespace Cert.Proof

open Idealize.ShloMosaic Idealize.SL.Sem

/-- The mask constant of the attention's gradient is the bit pattern the rule names, at the value minus infinity. -/
theorem preserves : Cert.preserves_Kernel_KernelIdeal :=
  IdealRules.named_const.statement Cert.KernelIdeal.κ "mask" .f32 0xF149F2CA#32 ⊥ rfl

/-- Every claim of the certificate. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Kernel31.Gen.facts, Cert.Kernel31Ideal.Gen.facts, Cert.Reference31Ideal.Gen.facts, Cert.Kernel32.Gen.facts, Cert.Kernel32Ideal.Gen.facts, Cert.Reference32Ideal.Gen.facts, Cert.Kernel33.Gen.facts, Cert.Kernel33Ideal.Gen.facts, Cert.Reference33Ideal.Gen.facts, Cert.Kernel34.Gen.facts, Cert.Kernel34Ideal.Gen.facts, Cert.Reference34Ideal.Gen.facts,
  fun m g _ => Cert.Kernel.Gen.frame m g,
  fun m g _ => Cert.KernelIdeal.Gen.frame m g,
  frame_ReferenceIdeal,
  fun m g _ => Cert.Kernel2.Gen.frame m g,
  fun m g _ => Cert.Kernel2Ideal.Gen.frame m g,
  frame_Reference2Ideal,
  fun m g _ => Cert.Kernel3.Gen.frame m g,
  fun m g _ => Cert.Kernel3Ideal.Gen.frame m g,
  frame_Reference3Ideal,
  fun m g _ => Cert.Kernel4.Gen.frame m g,
  fun m g _ => Cert.Kernel4Ideal.Gen.frame m g,
  frame_Reference4Ideal,
  fun m g _ => Cert.Kernel5.Gen.frame m g,
  fun m g _ => Cert.Kernel5Ideal.Gen.frame m g,
  frame_Reference5Ideal,
  fun m g _ => Cert.Kernel6.Gen.frame m g,
  fun m g _ => Cert.Kernel6Ideal.Gen.frame m g,
  frame_Reference6Ideal,
  fun m g _ => Cert.Kernel7.Gen.frame m g,
  fun m g _ => Cert.Kernel7Ideal.Gen.frame m g,
  frame_Reference7Ideal,
  fun m g _ => Cert.Kernel8.Gen.frame m g,
  fun m g _ => Cert.Kernel8Ideal.Gen.frame m g,
  frame_Reference8Ideal,
  fun m g _ => Cert.Kernel9.Gen.frame m g,
  fun m g _ => Cert.Kernel9Ideal.Gen.frame m g,
  frame_Reference9Ideal,
  fun m g _ => Cert.Kernel10.Gen.frame m g,
  fun m g _ => Cert.Kernel10Ideal.Gen.frame m g,
  frame_Reference10Ideal,
  fun m g _ => Cert.Kernel11.Gen.frame m g,
  fun m g _ => Cert.Kernel11Ideal.Gen.frame m g,
  frame_Reference11Ideal,
  fun m g _ => Cert.Kernel12.Gen.frame m g,
  fun m g _ => Cert.Kernel12Ideal.Gen.frame m g,
  frame_Reference12Ideal,
  fun m g _ => Cert.Kernel13.Gen.frame m g,
  fun m g _ => Cert.Kernel13Ideal.Gen.frame m g,
  frame_Reference13Ideal,
  fun m g _ => Cert.Kernel14.Gen.frame m g,
  fun m g _ => Cert.Kernel14Ideal.Gen.frame m g,
  frame_Reference14Ideal,
  fun m g _ => Cert.Kernel15.Gen.frame m g,
  fun m g _ => Cert.Kernel15Ideal.Gen.frame m g,
  frame_Reference15Ideal,
  fun m g _ => Cert.Kernel16.Gen.frame m g,
  fun m g _ => Cert.Kernel16Ideal.Gen.frame m g,
  frame_Reference16Ideal,
  fun m g _ => Cert.Kernel17.Gen.frame m g,
  fun m g _ => Cert.Kernel17Ideal.Gen.frame m g,
  frame_Reference17Ideal,
  fun m g _ => Cert.Kernel18.Gen.frame m g,
  fun m g _ => Cert.Kernel18Ideal.Gen.frame m g,
  frame_Reference18Ideal,
  fun m g _ => Cert.Kernel19.Gen.frame m g,
  fun m g _ => Cert.Kernel19Ideal.Gen.frame m g,
  frame_Reference19Ideal,
  fun m g _ => Cert.Kernel20.Gen.frame m g,
  fun m g _ => Cert.Kernel20Ideal.Gen.frame m g,
  frame_Reference20Ideal,
  fun m g _ => Cert.Kernel21.Gen.frame m g,
  fun m g _ => Cert.Kernel21Ideal.Gen.frame m g,
  frame_Reference21Ideal,
  fun m g _ => Cert.Kernel22.Gen.frame m g,
  fun m g _ => Cert.Kernel22Ideal.Gen.frame m g,
  frame_Reference22Ideal,
  fun m g _ => Cert.Kernel23.Gen.frame m g,
  fun m g _ => Cert.Kernel23Ideal.Gen.frame m g,
  frame_Reference23Ideal,
  fun m g _ => Cert.Kernel24.Gen.frame m g,
  fun m g _ => Cert.Kernel24Ideal.Gen.frame m g,
  frame_Reference24Ideal,
  fun m g _ => Cert.Kernel25.Gen.frame m g,
  fun m g _ => Cert.Kernel25Ideal.Gen.frame m g,
  frame_Reference25Ideal,
  fun m g _ => Cert.Kernel26.Gen.frame m g,
  fun m g _ => Cert.Kernel26Ideal.Gen.frame m g,
  frame_Reference26Ideal,
  fun m g _ => Cert.Kernel27.Gen.frame m g,
  fun m g _ => Cert.Kernel27Ideal.Gen.frame m g,
  frame_Reference27Ideal,
  fun m g _ => Cert.Kernel28.Gen.frame m g,
  fun m g _ => Cert.Kernel28Ideal.Gen.frame m g,
  frame_Reference28Ideal,
  fun m g _ => Cert.Kernel29.Gen.frame m g,
  fun m g _ => Cert.Kernel29Ideal.Gen.frame m g,
  frame_Reference29Ideal,
  fun m g _ => Cert.Kernel30.Gen.frame m g,
  fun m g _ => Cert.Kernel30Ideal.Gen.frame m g,
  frame_Reference30Ideal,
  fun m g _ => Cert.Kernel31.Gen.frame m g,
  fun m g _ => Cert.Kernel31Ideal.Gen.frame m g,
  frame_Reference31Ideal,
  fun m g _ => Cert.Kernel32.Gen.frame m g,
  fun m g _ => Cert.Kernel32Ideal.Gen.frame m g,
  frame_Reference32Ideal,
  fun m g _ => Cert.Kernel33.Gen.frame m g,
  fun m g _ => Cert.Kernel33Ideal.Gen.frame m g,
  frame_Reference33Ideal,
  fun m g _ => Cert.Kernel34.Gen.frame m g,
  fun m g _ => Cert.Kernel34Ideal.Gen.frame m g,
  frame_Reference34Ideal,
  preserves,
  trivial,
  algebraic2,
  trivial,
  algebraic3,
  trivial,
  algebraic4,
  trivial,
  algebraic5,
  trivial,
  algebraic6,
  trivial,
  algebraic7,
  trivial,
  algebraic8,
  trivial,
  algebraic9,
  trivial,
  algebraic10,
  trivial,
  algebraic11,
  trivial,
  algebraic12,
  trivial,
  algebraic13,
  trivial,
  algebraic14,
  trivial,
  algebraic15,
  trivial,
  algebraic16,
  trivial,
  algebraic17,
  trivial,
  algebraic18,
  trivial,
  algebraic19,
  trivial,
  algebraic20,
  trivial,
  algebraic21,
  trivial,
  algebraic22,
  trivial,
  algebraic23,
  trivial,
  algebraic24,
  trivial,
  algebraic25,
  trivial,
  algebraic26,
  trivial,
  algebraic27,
  trivial,
  algebraic28,
  trivial,
  algebraic29,
  trivial,
  algebraic30,
  trivial,
  algebraic31,
  trivial,
  algebraic32,
  trivial,
  algebraic33,
  trivial,
  algebraic34⟩

end Cert.Proof

end
